-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_2)) (v2 : (c : Dev Cert.Kernel2Ideal.nD) → Buf (Elt Ideal) ((c.tc : Thread Cert.Kernel2Ideal.nD Cert.Kernel2Ideal.τ).loc Cert.Kernel2Ideal.main_v19)) (v3 : (c : Dev Cert.Kernel2Ideal.nD) → Buf (Elt Ideal) ((c.tc : Thread Cert.Kernel2Ideal.nD Cert.Kernel2Ideal.τ).loc Cert.Kernel2Ideal.main_v20)) (v4 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_2) = v1 c
          ∧ r.2.mem ((c.tc : Thread Cert.Kernel2Ideal.nD Cert.Kernel2Ideal.τ).loc Cert.Kernel2Ideal.main_v19) = v2 c
          ∧ r.2.mem ((c.tc : Thread Cert.Kernel2Ideal.nD Cert.Kernel2Ideal.τ).loc Cert.Kernel2Ideal.main_v20) = v3 c
          ∧ r.2.mem ((c.tc : Thread Cert.Kernel2Ideal.nD Cert.Kernel2Ideal.τ).loc Cert.Kernel2Ideal.main_v12) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v7_0)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v7_0) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)) (v5 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_v5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_v24) = v3 c
          ∧ r.2.mem ((c.tc : Thread Cert.Reference5Ideal.nD Cert.Reference5Ideal.τ).loc Cert.Reference5Ideal.main_v30) = v4 c
          ∧ r.2.mem ((c.tc : Thread Cert.Reference5Ideal.nD Cert.Reference5Ideal.τ).loc Cert.Reference5Ideal.main_v36) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)) (v1 : (c : Dev Cert.Kernel9Ideal.nD) → Buf (Elt Ideal) ((c.tc : Thread Cert.Kernel9Ideal.nD Cert.Kernel9Ideal.τ).loc Cert.Kernel9Ideal.main_v1)) (v2 : (c : Dev Cert.Kernel9Ideal.nD) → Buf (Elt Ideal) ((c.tc : Thread Cert.Kernel9Ideal.nD Cert.Kernel9Ideal.τ).loc Cert.Kernel9Ideal.main_v2)) (v3 : (c : Dev Cert.Kernel9Ideal.nD) → Buf (Elt Ideal) ((c.tc : Thread Cert.Kernel9Ideal.nD Cert.Kernel9Ideal.τ).loc Cert.Kernel9Ideal.main_v3)) (v4 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_v1) = v1 c
          ∧ r.2.mem ((c.tc : Thread Cert.Kernel9Ideal.nD Cert.Kernel9Ideal.τ).loc Cert.Kernel9Ideal.main_v2) = v2 c
          ∧ r.2.mem ((c.tc : Thread Cert.Kernel9Ideal.nD Cert.Kernel9Ideal.τ).loc Cert.Kernel9Ideal.main_v3) = v3 c
          ∧ r.2.mem ((c.tc : Thread Cert.Kernel9Ideal.nD Cert.Kernel9Ideal.τ).loc Cert.Kernel9Ideal.main_v4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_v9) = v2 c
          ∧ r.2.mem ((c.tc : Thread Cert.Reference9Ideal.nD Cert.Reference9Ideal.τ).loc Cert.Reference9Ideal.main_v14) = v3 c
          ∧ r.2.mem ((c.tc : Thread Cert.Reference9Ideal.nD Cert.Reference9Ideal.τ).loc Cert.Reference9Ideal.main_v19) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S1 : Shape := ⟨1, ![1]⟩
abbrev S6 : Shape := ⟨1, ![6]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S2816x1024 .f32) (main_arg5 : FVec F S4096x1024 .f32) (main_v3 : IVec S_ 1) (main_v7 : IVec S_ 1) (main_v11 : IVec S_ 1) (main_v15 : IVec S_ 1) : IVec S6 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S1 1 := broadcastInDim S1 ![] bcast_S_S1 main_v3
  let main_v25 : IVec S1 1 := broadcastInDim S1 ![] bcast_S_S1 main_v7
  let main_v26 : IVec S1 1 := broadcastInDim S1 ![] bcast_S_S1 main_v11
  let main_v27 : IVec S1 1 := broadcastInDim S1 ![] bcast_S_S1 main_v15
  let main_v28 : IVec S1 1 := broadcastInDim S1 ![] bcast_S_S1 main_v19
  let main_v29 : IVec S1 1 := broadcastInDim S1 ![] bcast_S_S1 main_v23
  let main_v30 : IVec S6 1 := concatenate S6 0 [⟨S1, main_v24⟩, ⟨S1, main_v25⟩, ⟨S1, main_v26⟩, ⟨S1, main_v27⟩, ⟨S1, main_v28⟩, ⟨S1, main_v29⟩] concatenates_S1_S1_S1_S1_S1_S1_S6_d0
  main_v30

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S6 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S1 : Shape := ⟨1, ![1]⟩
abbrev S7 : Shape := ⟨1, ![7]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1 : S_.BroadcastsInDim S1 (![] : Fin 0 → Fin S1.rank)
  concatenates_S1_S1_S1_S1_S1_S1_S1_S7_d0 : Shape.Concatenates [S1, S1, S1, S1, S1, S1, S1] S7 0

variable [Facts]

def fn_part2 {F : FTy → Type} [FloatOps F] (main_v27 : IVec S_ 1) (main_v28 : IVec S1 1) (main_v29 : IVec S1 1) (main_v30 : IVec S1 1) (main_v31 : IVec S1 1) (main_v32 : IVec S1 1) (main_v33 : IVec S1 1) : IVec S7 1 :=
  let main_v34 : IVec S1 1 := broadcastInDim S1 ![] bcast_S_S1 main_v27
  let main_v35 : IVec S7 1 := concatenate S7 0 [⟨S1, main_v28⟩, ⟨S1, main_v29⟩, ⟨S1, main_v30⟩, ⟨S1, main_v31⟩, ⟨S1, main_v32⟩, ⟨S1, main_v33⟩, ⟨S1, main_v34⟩] concatenates_S1_S1_S1_S1_S1_S1_S1_S7_d0
  main_v35

def fn_part1 {F : FTy → Type} [FloatOps F] (main_arg4 : FVec F S2816x1024 .f32) (main_arg5 : FVec F S1x1024 .f32) (main_arg6 : FVec F S4096x1024 .f32) (main_v3 : IVec S_ 1) (main_v7 : IVec S_ 1) (main_v11 : IVec S_ 1) (main_v15 : IVec S_ 1) : IVec S7 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : IVec S1 1 := broadcastInDim S1 ![] bcast_S_S1 main_v3
  let main_v29 : IVec S1 1 := broadcastInDim S1 ![] bcast_S_S1 main_v7
  let main_v30 : IVec S1 1 := broadcastInDim S1 ![] bcast_S_S1 main_v11
  let main_v31 : IVec S1 1 := broadcastInDim S1 ![] bcast_S_S1 main_v15
  let main_v32 : IVec S1 1 := broadcastInDim S1 ![] bcast_S_S1 main_v19
  let main_v33 : IVec S1 1 := broadcastInDim S1 ![] bcast_S_S1 main_v23
  fn_part2 (F := F) main_v27 main_v28 main_v29 main_v30 main_v31 main_v32 main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S4096x1024 .f32) : IVec S7 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Kernel.lean ====
abbrev S4096x512 : Shape := ⟨2, ![4096, 512]⟩
abbrev S64x4x128x128 : Shape := ⟨4, ![64, 4, 128, 128]⟩
abbrev S256x512 : Shape := ⟨2, ![256, 512]⟩
abbrev S4x4x128x128 : Shape := ⟨4, ![4, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S128 : Shape := ⟨1, ![128]⟩
abbrev S1x128 : Shape := ⟨2, ![1, 128]⟩

abbrev nBuf : Space → Nat
  | .hbm => 15
  | .vmem => 46
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S64x4x128x128, .f32⟩
  | .hbm, ⟨9, _⟩ => ⟨S4096x512, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S4x4x128x128, .f32⟩
  | .local _ .vmem, ⟨15, _⟩ => ⟨S4x4x128x128, .f32⟩
  | .local _ .vmem, ⟨16, _⟩ => ⟨S4x128x128, .f32⟩
  | .local _ .vmem, ⟨17, _⟩ => ⟨S256x512, .f32⟩
  | .local _ .vmem, ⟨18, _⟩ => ⟨S256x512, .f32⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .f32⟩
  | .local _ .vmem, ⟨28, _⟩ => ⟨S256x512, .f32⟩
  | .local _ .vmem, ⟨29, _⟩ => ⟨S4x4x128x128, .f32⟩
  | .local _ .vmem, ⟨30, _⟩ => ⟨S4x4x128x128, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | .local _ .vmem, ⟨40, _⟩ => ⟨S256x512, .bf16⟩
  | .local _ .vmem, ⟨41, _⟩ => ⟨S256x512, .bf16⟩
  | .local _ .vmem, ⟨42, _⟩ => ⟨S256x512, .bf16⟩
  | .local _ .vmem, ⟨43, _⟩ => ⟨S256x512, .f32⟩
  | .local _ .vmem, ⟨44, _⟩ => ⟨S256x512, .f32⟩
  | .local _ .vmem, ⟨45, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_6 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x4x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4096x512 : Shape := ⟨2, ![4096, 512]⟩
abbrev S32x2x64x4x2x64 : Shape := ⟨6, ![32, 2, 64, 4, 2, 64]⟩
abbrev S32x1x64x4x1x64 : Shape := ⟨6, ![32, 1, 64, 4, 1, 64]⟩
abbrev S32x64x4x64 : Shape := ⟨4, ![32, 64, 4, 64]⟩
abbrev S32x1x64x4x64 : Shape := ⟨5, ![32, 1, 64, 4, 64]⟩
abbrev S32x2x64x4x64 : Shape := ⟨5, ![32, 2, 64, 4, 64]⟩
abbrev S64x64x4x64 : Shape := ⟨4, ![64, 64, 4, 64]⟩
abbrev S64x4x64x64 : Shape := ⟨4, ![64, 4, 64, 64]⟩
abbrev S64x64x4x128 : Shape := ⟨4, ![64, 64, 4, 128]⟩
abbrev S64x4x64x128 : Shape := ⟨4, ![64, 4, 64, 128]⟩
abbrev S_ : Shape := ⟨0, ![]⟩
abbrev S4x128x128 : Shape := ⟨3, ![4, 128, 128]⟩
abbrev S64x4x128x128 : Shape := ⟨4, ![64, 4, 128, 128]⟩
abbrev S64x4x1x128 : Shape := ⟨4, ![64, 4, 1, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S4x128 : Shape := ⟨2, ![4, 128]⟩
abbrev S4x1x128 : Shape := ⟨3, ![4, 1, 128]⟩
abbrev S1x4x128x128 : Shape := ⟨4, ![1, 4, 128, 128]⟩
abbrev S1x4x1x128 : Shape := ⟨4, ![1, 4, 1, 128]⟩
abbrev S4x128x64 : Shape := ⟨3, ![4, 128, 64]⟩

abbrev nBuf : Space → Nat
  | .hbm => 295
  | .vmem => 0
  | .smem => 0
  | _ => 0

abbrev hbmTy0_0 (i : Nat) : BufTy := match i % 128 with
  | 0 => ⟨S4096x512, .f32⟩
  | 1 => ⟨S4096x512, .bf16⟩
  | 2 => ⟨S4096x512, .bf16⟩
  | 3 => ⟨S4096x512, .bf16⟩
  | 4 => ⟨S4096x512, .bf16⟩
  | 5 => ⟨S4096x512, .f32⟩
  | 6 => ⟨S4096x512, .f32⟩
  | 7 => ⟨S4096x512, .f32⟩
  | 8 => ⟨S32x2x64x4x2x64, .f32⟩
  | 9 => ⟨S32x1x64x4x1x64, .f32⟩
  | 10 => ⟨S32x64x4x64, .f32⟩
  | 11 => ⟨S32x1x64x4x1x64, .f32⟩
  | 12 => ⟨S32x64x4x64, .f32⟩
  | 13 => ⟨S32x1x64x4x64, .f32⟩
  | 14 => ⟨S32x1x64x4x64, .f32⟩
  | 15 => ⟨S32x2x64x4x64, .f32⟩
  | 16 => ⟨S64x64x4x64, .f32⟩
  | 17 => ⟨S64x4x64x64, .f32⟩
  | 18 => ⟨S4096x512, .f32⟩
  | 19 => ⟨S64x64x4x128, .f32⟩
  | 20 => ⟨S64x4x64x128, .f32⟩
  | 21 => ⟨S4096x512, .f32⟩
  | 22 => ⟨S64x64x4x128, .f32⟩
  | 23 => ⟨S64x4x64x128, .f32⟩
  | 24 => ⟨S64x64x4x128, .f32⟩
  | 25 => ⟨S64x4x64x128, .f32⟩
  | 26 => ⟨S4096x512, .f32⟩
  | 27 => ⟨S64x64x4x128, .f32⟩
  | 28 => ⟨S64x4x64x128, .f32⟩
  | 29 => ⟨S64x64x4x128, .f32⟩
  | 30 => ⟨S64x4x64x128, .f32⟩
  | 31 => ⟨S_, .f32⟩
  | 32 => ⟨S4x128x128, .f32⟩
  | 33 => ⟨S_, .f32⟩
  | 34 => ⟨S64x4x64x128, .f32⟩
  | 35 => ⟨S_, .f32⟩
  | 36 => ⟨S64x4x128x128, .f32⟩
  | 37 => ⟨S_, .f32⟩
  | 38 => ⟨S64x4x64x128, .f32⟩
  | 39 => ⟨S_, .f32⟩
  | 40 => ⟨S64x4x1x128, .f32⟩
  | 41 => ⟨S_, .i32⟩
  | 42 => ⟨S64x4x64x128, .f32⟩
  | 43 => ⟨S64x4x64x128, .f32⟩
  | 44 => ⟨S64x4x64x128, .f32⟩
  | 45 => ⟨S64x4x64x128, .f32⟩
  | 46 => ⟨S64x4x64x128, .f32⟩
  | 47 => ⟨S64x4x64x64, .f32⟩
  | 48 => ⟨S_, .i32⟩
  | 49 => ⟨S4x128x128, .f32⟩
  | 50 => ⟨S64x4x64x128, .f32⟩
  | 51 => ⟨S64x4x128x128, .f32⟩
  | 52 => ⟨S64x4x64x128, .f32⟩
  | 53 => ⟨S64x4x1x128, .f32⟩
  | 54 => ⟨S_, .i32⟩
  | 55 => ⟨S_, .i1⟩
  | 56 => ⟨S_, .i32⟩
  | 57 => ⟨S_, .i32⟩
  | 58 => ⟨S_, .i32⟩
  | 59 => ⟨S1x4x64x128, .f32⟩
  | 60 => ⟨S4x64x128, .f32⟩
  | 61 => ⟨S_, .i32⟩
  | 62 => ⟨S_, .i32⟩
  | 63 => ⟨S_, .i32⟩
  | 64 => ⟨S1x4x64x128, .f32⟩
  | 65 => ⟨S4x64x128, .f32⟩
  | 66 => ⟨S_, .i32⟩
  | 67 => ⟨S_, .i32⟩
  | 68 => ⟨S_, .i32⟩
  | 69 => ⟨S1x4x64x128, .f32⟩
  | 70 => ⟨S4x64x128, .f32⟩
  | 71 => ⟨S_, .i32⟩
  | 72 => ⟨S_, .i32⟩
  | 73 => ⟨S_, .i32⟩
  | 74 => ⟨S1x4x64x128, .f32⟩
  | 75 => ⟨S4x64x128, .f32⟩
  | 76 => ⟨S_, .i32⟩
  | 77 => ⟨S_, .i32⟩
  | 78 => ⟨S_, .i32⟩
  | 79 => ⟨S1x4x64x128, .f32⟩
  | 80 => ⟨S4x64x128, .f32⟩
  | 81 => ⟨S_, .i32⟩
  | 82 => ⟨S_, .i32⟩
  | 83 => ⟨S_, .i32⟩
  | 84 => ⟨S1x4x64x64, .f32⟩
  | 85 => ⟨S4x64x64, .f32⟩
  | 86 => ⟨S4x64x128, .f32⟩
  | 87 => ⟨S4x64x128, .f32⟩
  | 88 => ⟨S4x64x128, .f32⟩
  | 89 => ⟨S4x64x128, .f32⟩
  | 90 => ⟨S4x64x128, .f32⟩
  | 91 => ⟨S_, .f32⟩
  | 92 => ⟨S4x128, .f32⟩
  | 93 => ⟨S4x1x128, .f32⟩
  | 94 => ⟨S_, .f32⟩
  | 95 => ⟨S4x1x128, .f32⟩
  | 96 => ⟨S4x1x128, .f32⟩
  | 97 => ⟨S4x128x128, .f32⟩
  | 98 => ⟨S4x128x128, .f32⟩
  | 99 => ⟨S4x128x128, .f32⟩
  | 100 => ⟨S4x128x128, .f32⟩
  | 101 => ⟨S1x4x64x128, .f32⟩
  | 102 => ⟨S_, .i32⟩
  | 103 => ⟨S_, .i32⟩
  | 104 => ⟨S_, .i32⟩
  | 105 => ⟨S64x4x64x128, .f32⟩
  | 106 => ⟨S1x4x128x128, .f32⟩
  | 107 => ⟨S_, .i32⟩
  | 108 => ⟨S_, .i32⟩
  | 109 => ⟨S_, .i32⟩
  | 110 => ⟨S64x4x128x128, .f32⟩
  | 111 => ⟨S1x4x64x128, .f32⟩
  | 112 => ⟨S_, .i32⟩
  | 113 => ⟨S_, .i32⟩
  | 114 => ⟨S_, .i32⟩
  | 115 => ⟨S64x4x64x128, .f32⟩
  | 116 => ⟨S1x4x1x128, .f32⟩
  | 117 => ⟨S_, .i32⟩
  | 118 => ⟨S_, .i32⟩
  | 119 => ⟨S_, .i32⟩
  | 120 => ⟨S64x4x1x128, .f32⟩
  | 121 => ⟨S_, .i32⟩
  | 122 => ⟨S_, .i32⟩
  | 123 => ⟨S64x64x4x128, .f32⟩
  | 124 => ⟨S4096x512, .f32⟩
  | 125 => ⟨S_, .f32⟩
  | 126 => ⟨S4x128x128, .f32⟩
  | 127 => ⟨S64x64x4x128, .f32⟩
  | _ => ⟨S4096x512, .f32⟩

abbrev hbmTy0_1 (i : Nat) : BufTy := match i % 128 with
  | 0 => ⟨S64x4x64x128, .f32⟩
  | 1 => ⟨S_, .f32⟩
  | 2 => ⟨S4x128x128, .f32⟩
  | 3 => ⟨S_, .f32⟩
  | 4 => ⟨S64x4x64x128, .f32⟩
  | 5 => ⟨S_, .f32⟩
  | 6 => ⟨S64x4x64x128, .f32⟩
  | 7 => ⟨S_, .f32⟩
  | 8 => ⟨S64x4x64x128, .f32⟩
  | 9 => ⟨S_, .f32⟩
  | 10 => ⟨S64x4x64x128, .f32⟩
  | 11 => ⟨S_, .f32⟩
  | 12 => ⟨S64x4x64x128, .f32⟩
  | 13 => ⟨S_, .f32⟩
  | 14 => ⟨S64x4x64x64, .f32⟩
  | 15 => ⟨S_, .i32⟩
  | 16 => ⟨S64x4x64x128, .f32⟩
  | 17 => ⟨S64x4x128x128, .f32⟩
  | 18 => ⟨S64x4x64x128, .f32⟩
  | 19 => ⟨S64x4x64x128, .f32⟩
  | 20 => ⟨S64x4x64x128, .f32⟩
  | 21 => ⟨S64x4x64x64, .f32⟩
  | 22 => ⟨S64x4x1x128, .f32⟩
  | 23 => ⟨S64x4x64x128, .f32⟩
  | 24 => ⟨S_, .i32⟩
  | 25 => ⟨S4x128x128, .f32⟩
  | 26 => ⟨S64x4x64x128, .f32⟩
  | 27 => ⟨S64x4x64x128, .f32⟩
  | 28 => ⟨S64x4x64x128, .f32⟩
  | 29 => ⟨S64x4x64x128, .f32⟩
  | 30 => ⟨S64x4x64x128, .f32⟩
  | 31 => ⟨S64x4x64x64, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S1x4x64x128, .f32⟩
  | 42 => ⟨S4x64x128, .f32⟩
  | 43 => ⟨S_, .i32⟩
  | 44 => ⟨S_, .i32⟩
  | 45 => ⟨S_, .i32⟩
  | 46 => ⟨S1x4x128x128, .f32⟩
  | 47 => ⟨S4x128x128, .f32⟩
  | 48 => ⟨S_, .i32⟩
  | 49 => ⟨S_, .i32⟩
  | 50 => ⟨S_, .i32⟩
  | 51 => ⟨S1x4x64x128, .f32⟩
  | 52 => ⟨S4x64x128, .f32⟩
  | 53 => ⟨S_, .i32⟩
  | 54 => ⟨S_, .i32⟩
  | 55 => ⟨S_, .i32⟩
  | 56 => ⟨S1x4x64x128, .f32⟩
  | 57 => ⟨S4x64x128, .f32⟩
  | 58 => ⟨S_, .i32⟩
  | 59 => ⟨S_, .i32⟩
  | 60 => ⟨S_, .i32⟩
  | 61 => ⟨S1x4x64x128, .f32⟩
  | 62 => ⟨S4x64x128, .f32⟩
  | 63 => ⟨S_, .i32⟩
  | 64 => ⟨S_, .i32⟩
  | 65 => ⟨S_, .i32⟩
  | 66 => ⟨S1x4x64x64, .f32⟩
  | 67 => ⟨S4x64x64, .f32⟩
  | 68 => ⟨S_, .i32⟩
  | 69 => ⟨S_, .i32⟩
  | 70 => ⟨S_, .i32⟩
  | 71 => ⟨S1x4x1x128, .f32⟩
  | 72 => ⟨S4x1x128, .f32⟩
  | 73 => ⟨S_, .i32⟩
  | 74 => ⟨S_, .i32⟩
  | 75 => ⟨S_, .i32⟩
  | 76 => ⟨S1x4x64x128, .f32⟩
  | 77 => ⟨S4x64x128, .f32⟩
  | 78 => ⟨S4x128x64, .f32⟩
  | 79 => ⟨S4x64x128, .f32⟩
  | 80 => ⟨S4x128x64, .f32⟩
  | 81 => ⟨S4x64x128, .f32⟩
  | 82 => ⟨S4x128x128, .f32⟩
  | 83 => ⟨S_, .f32⟩
  | 84 => ⟨S4x128, .f32⟩
  | 85 => ⟨S4x1x128, .f32⟩
  | 86 => ⟨S4x128x128, .f32⟩
  | 87 => ⟨S4x128x128, .f32⟩
  | 88 => ⟨S_, .f32⟩
  | 89 => ⟨S4x1x128, .f32⟩
  | 90 => ⟨S4x1x128, .f32⟩
  | 91 => ⟨S_, .f32⟩
  | 92 => ⟨S4x128, .f32⟩
  | 93 => ⟨S4x64x128, .f32⟩
  | 94 => ⟨S4x128x64, .f32⟩
  | 95 => ⟨S4x64x128, .f32⟩
  | 96 => ⟨S4x64x128, .f32⟩
  | 97 => ⟨S4x64x64, .f32⟩
  | 98 => ⟨S4x128x128, .f32⟩
  | 99 => ⟨S4x128x128, .f32⟩
  | 100 => ⟨S4x128x128, .f32⟩
  | 101 => ⟨S4x64x128, .f32⟩
  | 102 => ⟨S4x64x128, .f32⟩
  | 103 => ⟨S4x128x128, .f32⟩
  | 104 => ⟨S4x128x128, .f32⟩
  | 105 => ⟨S4x128x128, .f32⟩
  | 106 => ⟨S4x64x128, .f32⟩
  | 107 => ⟨S1x4x64x128, .f32⟩
  | 108 => ⟨S_, .i32⟩
  | 109 => ⟨S_, .i32⟩
  | 110 => ⟨S_, .i32⟩
  | 111 => ⟨S64x4x64x128, .f32⟩
  | 112 => ⟨S1x4x64x128, .f32⟩
  | 113 => ⟨S_, .i32⟩
  | 114 => ⟨S_, .i32⟩
  | 115 => ⟨S_, .i32⟩
  | 116 => ⟨S64x4x64x128, .f32⟩
  | 117 => ⟨S1x4x64x128, .f32⟩
  | 118 => ⟨S_, .i32⟩
  | 119 => ⟨S_, .i32⟩
  | 120 => ⟨S_, .i32⟩
  | 121 => ⟨S64x4x64x128, .f32⟩
  | 122 => ⟨S1x4x64x128, .f32⟩
  | 123 => ⟨S_, .i32⟩
  | 124 => ⟨S_, .i32⟩
  | 125 => ⟨S_, .i32⟩
  | 126 => ⟨S64x4x64x128, .f32⟩
  | 127 => ⟨S1x4x64x128, .f32⟩
  | _ => ⟨S4096x512, .f32⟩

abbrev hbmTy0_2 (i : Nat) : BufTy := match i % 128 with
  | 0 => ⟨S_, .i32⟩
  | 1 => ⟨S_, .i32⟩
  | 2 => ⟨S_, .i32⟩
  | 3 => ⟨S64x4x64x128, .f32⟩
  | 4 => ⟨S1x4x64x64, .f32⟩
  | 5 => ⟨S_, .i32⟩
  | 6 => ⟨S_, .i32⟩
  | 7 => ⟨S_, .i32⟩
  | 8 => ⟨S64x4x64x64, .f32⟩
  | 9 => ⟨S_, .i32⟩
  | 10 => ⟨S_, .i32⟩
  | 11 => ⟨S64x64x4x128, .f32⟩
  | 12 => ⟨S4096x512, .f32⟩
  | 13 => ⟨S64x64x4x128, .f32⟩
  | 14 => ⟨S4096x512, .f32⟩
  | 15 => ⟨S4096x512, .bf16⟩
  | 16 => ⟨S64x64x4x128, .f32⟩
  | 17 => ⟨S4096x512, .f32⟩
  | 18 => ⟨S64x64x4x128, .f32⟩
  | 19 => ⟨S4096x512, .f32⟩
  | 20 => ⟨S4096x512, .bf16⟩
  | 21 => ⟨S64x64x4x128, .f32⟩
  | 22 => ⟨S4096x512, .f32⟩
  | 23 => ⟨S4096x512, .bf16⟩
  | 24 => ⟨S64x64x4x64, .f32⟩
  | 25 => ⟨S32x2x64x4x64, .f32⟩
  | 26 => ⟨S32x1x64x4x64, .f32⟩
  | 27 => ⟨S32x64x4x64, .f32⟩
  | 28 => ⟨S32x1x64x4x64, .f32⟩
  | 29 => ⟨S32x64x4x64, .f32⟩
  | 30 => ⟨S32x1x64x4x1x64, .f32⟩
  | 31 => ⟨S_, .f32⟩
  | 32 => ⟨S32x2x64x4x2x64, .f32⟩
  | 33 => ⟨S32x1x64x4x1x64, .f32⟩
  | 34 => ⟨S_, .f32⟩
  | 35 => ⟨S32x2x64x4x2x64, .f32⟩
  | 36 => ⟨S32x2x64x4x2x64, .f32⟩
  | 37 => ⟨S4096x512, .f32⟩
  | 38 => ⟨S4096x512, .bf16⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_c : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev main_v29_7 : Ref sig .tc := ⟨.hbm, 49, rfl⟩
abbrev main_v29_8 : Ref sig .tc := ⟨.hbm, 50, rfl⟩
abbrev main_v29_9 : Ref sig .tc := ⟨.hbm, 51, rfl⟩
abbrev main_v29_10 : Ref sig .tc := ⟨.hbm, 52, rfl⟩
abbrev main_v29_11 : Ref sig .tc := ⟨.hbm, 53, rfl⟩
abbrev main_while0c_c_26 : Ref sig .tc := ⟨.hbm, 54, rfl⟩
abbrev main_while0c_v69 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_v0 : Ref sig .tc := ⟨.hbm, 59, rfl⟩
abbrev main_while0b_v69 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_v0 : Ref sig .tc := ⟨.hbm, 64, rfl⟩
abbrev main_while0b_v70 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v71 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_v0 : Ref sig .tc := ⟨.hbm, 74, rfl⟩
abbrev main_while0b_v72 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v73 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_v79 : Ref sig .tc := ⟨.hbm, 90, rfl⟩
abbrev main_while0b_cst_26 : Ref sig .tc := ⟨.hbm, 91, rfl⟩
abbrev main_while0b_v80 : Ref sig .tc := ⟨.hbm, 92, rfl⟩
abbrev main_while0b_v81 : Ref sig .tc := ⟨.hbm, 93, rfl⟩
abbrev main_while0b_cst_27 : Ref sig .tc := ⟨.hbm, 94, rfl⟩
abbrev main_while0b_v82 : Ref sig .tc := ⟨.hbm, 95, rfl⟩
abbrev main_while0b_v83 : Ref sig .tc := ⟨.hbm, 96, rfl⟩
abbrev main_while0b_v84 : Ref sig .tc := ⟨.hbm, 97, rfl⟩
abbrev main_while0b_v85 : Ref sig .tc := ⟨.hbm, 98, rfl⟩
abbrev main_while0b_v86 : Ref sig .tc := ⟨.hbm, 99, rfl⟩
abbrev main_while0b_v87 : Ref sig .tc := ⟨.hbm, 100, rfl⟩
abbrev main_while0b_call6_v0 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_v88 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_v89 : Ref sig .tc := ⟨.hbm, 110, rfl⟩
abbrev main_while0b_call8_v0 : Ref sig .tc := ⟨.hbm, 111, rfl⟩
abbrev main_while0b_call8_c : Ref sig .tc := ⟨.hbm, 112, rfl⟩
abbrev main_while0b_call8_c_0 : Ref sig .tc := ⟨.hbm, 113, rfl⟩
abbrev main_while0b_call8_c_1 : Ref sig .tc := ⟨.hbm, 114, rfl⟩
abbrev main_while0b_v90 : Ref sig .tc := ⟨.hbm, 115, rfl⟩
abbrev main_while0b_call9_v0 : Ref sig .tc := ⟨.hbm, 116, rfl⟩
abbrev main_while0b_call9_c : Ref sig .tc := ⟨.hbm, 117, rfl⟩
abbrev main_while0b_call9_c_0 : Ref sig .tc := ⟨.hbm, 118, rfl⟩
abbrev main_while0b_call9_c_1 : Ref sig .tc := ⟨.hbm, 119, rfl⟩
abbrev main_while0b_v91 : Ref sig .tc := ⟨.hbm, 120, rfl⟩
abbrev main_while0b_c_28 : Ref sig .tc := ⟨.hbm, 121, rfl⟩
abbrev main_while0b_v92 : Ref sig .tc := ⟨.hbm, 122, rfl⟩
abbrev main_v30 : Ref sig .tc := ⟨.hbm, 123, rfl⟩
abbrev main_v31 : Ref sig .tc := ⟨.hbm, 124, rfl⟩
abbrev main_cst_4 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_cst_5 : Ref sig .tc := ⟨.hbm, 129, rfl⟩
abbrev main_v35 : Ref sig .tc := ⟨.hbm, 130, rfl⟩
abbrev main_cst_6 : Ref sig .tc := ⟨.hbm, 131, rfl⟩
abbrev main_v36 : Ref sig .tc := ⟨.hbm, 132, rfl⟩
abbrev main_cst_7 : Ref sig .tc := ⟨.hbm, 133, rfl⟩
abbrev main_v37 : Ref sig .tc := ⟨.hbm, 134, rfl⟩
abbrev main_cst_8 : Ref sig .tc := ⟨.hbm, 135, rfl⟩
abbrev main_v38 : Ref sig .tc := ⟨.hbm, 136, rfl⟩
abbrev main_cst_9 : Ref sig .tc := ⟨.hbm, 137, rfl⟩
abbrev main_v39 : Ref sig .tc := ⟨.hbm, 138, rfl⟩
abbrev main_cst_10 : Ref sig .tc := ⟨.hbm, 139, rfl⟩
abbrev main_v40 : Ref sig .tc := ⟨.hbm, 140, rfl⟩
abbrev main_cst_11 : Ref sig .tc := ⟨.hbm, 141, rfl⟩
abbrev main_v41 : Ref sig .tc := ⟨.hbm, 142, rfl⟩
abbrev main_c_12 : Ref sig .tc := ⟨.hbm, 143, rfl⟩
abbrev main_v42_0 : Ref sig .tc := ⟨.hbm, 144, rfl⟩
abbrev main_v42_1 : Ref sig .tc := ⟨.hbm, 145, rfl⟩
abbrev main_v42_2 : Ref sig .tc := ⟨.hbm, 146, rfl⟩
abbrev main_v42_3 : Ref sig .tc := ⟨.hbm, 147, rfl⟩
abbrev main_v42_4 : Ref sig .tc := ⟨.hbm, 148, rfl⟩
abbrev main_v42_5 : Ref sig .tc := ⟨.hbm, 149, rfl⟩
abbrev main_v42_6 : Ref sig .tc := ⟨.hbm, 150, rfl⟩
abbrev main_v42_7 : Ref sig .tc := ⟨.hbm, 151, rfl⟩
abbrev main_v42_8 : Ref sig .tc := ⟨.hbm, 152, rfl⟩
abbrev main_v42_9 : Ref sig .tc := ⟨.hbm, 153, rfl⟩
abbrev main_v42_10 : Ref sig .tc := ⟨.hbm, 154, rfl⟩
abbrev main_v42_11 : Ref sig .tc := ⟨.hbm, 155, rfl⟩
abbrev main_v42_12 : Ref sig .tc := ⟨.hbm, 156, rfl⟩
abbrev main_v42_13 : Ref sig .tc := ⟨.hbm, 157, rfl⟩
abbrev main_v42_14 : Ref sig .tc := ⟨.hbm, 158, rfl⟩
abbrev main_v42_15 : Ref sig .tc := ⟨.hbm, 159, rfl⟩
abbrev main_while1c_c_30 : Ref sig .tc := ⟨.hbm, 160, rfl⟩
abbrev main_while1c_v69 : Ref sig .tc := ⟨.hbm, 161, rfl⟩
abbrev main_while1b_c_30 : Ref sig .tc := ⟨.hbm, 162, rfl⟩
abbrev main_while1b_v69 : Ref sig .tc := ⟨.hbm, 163, rfl⟩
abbrev main_while1b_c_31 : Ref sig .tc := ⟨.hbm, 164, rfl⟩
abbrev main_while1b_v70 : Ref sig .tc := ⟨.hbm, 165, rfl⟩
abbrev main_while1b_call10_c : Ref sig .tc := ⟨.hbm, 166, rfl⟩
abbrev main_while1b_call10_c_0 : Ref sig .tc := ⟨.hbm, 167, rfl⟩
abbrev main_while1b_call10_c_1 : Ref sig .tc := ⟨.hbm, 168, rfl⟩
abbrev main_while1b_call10_v0 : Ref sig .tc := ⟨.hbm, 169, rfl⟩
abbrev main_while1b_v71 : Ref sig .tc := ⟨.hbm, 170, rfl⟩
abbrev main_while1b_call11_c : Ref sig .tc := ⟨.hbm, 171, rfl⟩
abbrev main_while1b_call11_c_0 : Ref sig .tc := ⟨.hbm, 172, rfl⟩
abbrev main_while1b_call11_c_1 : Ref sig .tc := ⟨.hbm, 173, rfl⟩
abbrev main_while1b_call11_v0 : Ref sig .tc := ⟨.hbm, 174, rfl⟩
abbrev main_while1b_v72 : Ref sig .tc := ⟨.hbm, 175, rfl⟩
abbrev main_while1b_call12_c : Ref sig .tc := ⟨.hbm, 176, rfl⟩
abbrev main_while1b_call12_c_0 : Ref sig .tc := ⟨.hbm, 177, rfl⟩
abbrev main_while1b_call12_c_1 : Ref sig .tc := ⟨.hbm, 178, rfl⟩
abbrev main_while1b_call12_v0 : Ref sig .tc := ⟨.hbm, 179, rfl⟩
abbrev main_while1b_v73 : Ref sig .tc := ⟨.hbm, 180, rfl⟩
abbrev main_while1b_call13_c : Ref sig .tc := ⟨.hbm, 181, rfl⟩
abbrev main_while1b_call13_c_0 : Ref sig .tc := ⟨.hbm, 182, rfl⟩
abbrev main_while1b_call13_c_1 : Ref sig .tc := ⟨.hbm, 183, rfl⟩
abbrev main_while1b_call13_v0 : Ref sig .tc := ⟨.hbm, 184, rfl⟩
abbrev main_while1b_v74 : Ref sig .tc := ⟨.hbm, 185, rfl⟩
abbrev main_while1b_call14_c : Ref sig .tc := ⟨.hbm, 186, rfl⟩
abbrev main_while1b_call14_c_0 : Ref sig .tc := ⟨.hbm, 187, rfl⟩
abbrev main_while1b_call14_c_1 : Ref sig .tc := ⟨.hbm, 188, rfl⟩
abbrev main_while1b_call14_v0 : Ref sig .tc := ⟨.hbm, 189, rfl⟩
abbrev main_while1b_v75 : Ref sig .tc := ⟨.hbm, 190, rfl⟩
abbrev main_while1b_call15_c : Ref sig .tc := ⟨.hbm, 191, rfl⟩
abbrev main_while1b_call15_c_0 : Ref sig .tc := ⟨.hbm, 192, rfl⟩
abbrev main_while1b_call15_c_1 : Ref sig .tc := ⟨.hbm, 193, rfl⟩
abbrev main_while1b_call15_v0 : Ref sig .tc := ⟨.hbm, 194, rfl⟩
abbrev main_while1b_v76 : Ref sig .tc := ⟨.hbm, 195, rfl⟩
abbrev main_while1b_call16_c : Ref sig .tc := ⟨.hbm, 196, rfl⟩
abbrev main_while1b_call16_c_0 : Ref sig .tc := ⟨.hbm, 197, rfl⟩
abbrev main_while1b_call16_c_1 : Ref sig .tc := ⟨.hbm, 198, rfl⟩
abbrev main_while1b_call16_v0 : Ref sig .tc := ⟨.hbm, 199, rfl⟩
abbrev main_while1b_v77 : Ref sig .tc := ⟨.hbm, 200, rfl⟩
abbrev main_while1b_call17_c : Ref sig .tc := ⟨.hbm, 201, rfl⟩
abbrev main_while1b_call17_c_0 : Ref sig .tc := ⟨.hbm, 202, rfl⟩
abbrev main_while1b_call17_c_1 : Ref sig .tc := ⟨.hbm, 203, rfl⟩
abbrev main_while1b_call17_v0 : Ref sig .tc := ⟨.hbm, 204, rfl⟩
abbrev main_while1b_v78 : Ref sig .tc := ⟨.hbm, 205, rfl⟩
abbrev main_while1b_v79 : Ref sig .tc := ⟨.hbm, 206, rfl⟩
abbrev main_while1b_v80 : Ref sig .tc := ⟨.hbm, 207, rfl⟩
abbrev main_while1b_v81 : Ref sig .tc := ⟨.hbm, 208, rfl⟩
abbrev main_while1b_v82 : Ref sig .tc := ⟨.hbm, 209, rfl⟩
abbrev main_while1b_v83 : Ref sig .tc := ⟨.hbm, 210, rfl⟩
abbrev main_while1b_cst_32 : Ref sig .tc := ⟨.hbm, 211, rfl⟩
abbrev main_while1b_v84 : Ref sig .tc := ⟨.hbm, 212, rfl⟩
abbrev main_while1b_v85 : Ref sig .tc := ⟨.hbm, 213, rfl⟩
abbrev main_while1b_v86 : Ref sig .tc := ⟨.hbm, 214, rfl⟩
abbrev main_while1b_v87 : Ref sig .tc := ⟨.hbm, 215, rfl⟩
abbrev main_while1b_cst_33 : Ref sig .tc := ⟨.hbm, 216, rfl⟩
abbrev main_while1b_v88 : Ref sig .tc := ⟨.hbm, 217, rfl⟩
abbrev main_while1b_v89 : Ref sig .tc := ⟨.hbm, 218, rfl⟩
abbrev main_while1b_cst_34 : Ref sig .tc := ⟨.hbm, 219, rfl⟩
abbrev main_while1b_v90 : Ref sig .tc := ⟨.hbm, 220, rfl⟩
abbrev main_while1b_v91 : Ref sig .tc := ⟨.hbm, 221, rfl⟩
abbrev main_while1b_v92 : Ref sig .tc := ⟨.hbm, 222, rfl⟩
abbrev main_while1b_v93 : Ref sig .tc := ⟨.hbm, 223, rfl⟩
abbrev main_while1b_v94 : Ref sig .tc := ⟨.hbm, 224, rfl⟩
abbrev main_while1b_v95 : Ref sig .tc := ⟨.hbm, 225, rfl⟩
abbrev main_while1b_v96 : Ref sig .tc := ⟨.hbm, 226, rfl⟩
abbrev main_while1b_v97 : Ref sig .tc := ⟨.hbm, 227, rfl⟩
abbrev main_while1b_v98 : Ref sig .tc := ⟨.hbm, 228, rfl⟩
abbrev main_while1b_v99 : Ref sig .tc := ⟨.hbm, 229, rfl⟩
abbrev main_while1b_v100 : Ref sig .tc := ⟨.hbm, 230, rfl⟩
abbrev main_while1b_v101 : Ref sig .tc := ⟨.hbm, 231, rfl⟩
abbrev main_while1b_v102 : Ref sig .tc := ⟨.hbm, 232, rfl⟩
abbrev main_while1b_v103 : Ref sig .tc := ⟨.hbm, 233, rfl⟩
abbrev main_while1b_v104 : Ref sig .tc := ⟨.hbm, 234, rfl⟩
abbrev main_while1b_call18_v0 : Ref sig .tc := ⟨.hbm, 235, rfl⟩
abbrev main_while1b_call18_c : Ref sig .tc := ⟨.hbm, 236, rfl⟩
abbrev main_while1b_call18_c_0 : Ref sig .tc := ⟨.hbm, 237, rfl⟩
abbrev main_while1b_call18_c_1 : Ref sig .tc := ⟨.hbm, 238, rfl⟩
abbrev main_while1b_v105 : Ref sig .tc := ⟨.hbm, 239, rfl⟩
abbrev main_while1b_call19_v0 : Ref sig .tc := ⟨.hbm, 240, rfl⟩
abbrev main_while1b_call19_c : Ref sig .tc := ⟨.hbm, 241, rfl⟩
abbrev main_while1b_call19_c_0 : Ref sig .tc := ⟨.hbm, 242, rfl⟩
abbrev main_while1b_call19_c_1 : Ref sig .tc := ⟨.hbm, 243, rfl⟩
abbrev main_while1b_v106 : Ref sig .tc := ⟨.hbm, 244, rfl⟩
abbrev main_while1b_call20_v0 : Ref sig .tc := ⟨.hbm, 245, rfl⟩
abbrev main_while1b_call20_c : Ref sig .tc := ⟨.hbm, 246, rfl⟩
abbrev main_while1b_call20_c_0 : Ref sig .tc := ⟨.hbm, 247, rfl⟩
abbrev main_while1b_call20_c_1 : Ref sig .tc := ⟨.hbm, 248, rfl⟩
abbrev main_while1b_v107 : Ref sig .tc := ⟨.hbm, 249, rfl⟩
abbrev main_while1b_call21_v0 : Ref sig .tc := ⟨.hbm, 250, rfl⟩
abbrev main_while1b_call21_c : Ref sig .tc := ⟨.hbm, 251, rfl⟩
abbrev main_while1b_call21_c_0 : Ref sig .tc := ⟨.hbm, 252, rfl⟩
abbrev main_while1b_call21_c_1 : Ref sig .tc := ⟨.hbm, 253, rfl⟩
abbrev main_while1b_v108 : Ref sig .tc := ⟨.hbm, 254, rfl⟩
abbrev main_while1b_call22_v0 : Ref sig .tc := ⟨.hbm, 255, rfl⟩
abbrev main_while1b_call22_c : Ref sig .tc := ⟨.hbm, 256, rfl⟩
abbrev main_while1b_call22_c_0 : Ref sig .tc := ⟨.hbm, 257, rfl⟩
abbrev main_while1b_call22_c_1 : Ref sig .tc := ⟨.hbm, 258, rfl⟩
abbrev main_while1b_v109 : Ref sig .tc := ⟨.hbm, 259, rfl⟩
abbrev main_while1b_call23_v0 : Ref sig .tc := ⟨.hbm, 260, rfl⟩
abbrev main_while1b_call23_c : Ref sig .tc := ⟨.hbm, 261, rfl⟩
abbrev main_while1b_call23_c_0 : Ref sig .tc := ⟨.hbm, 262, rfl⟩
abbrev main_while1b_call23_c_1 : Ref sig .tc := ⟨.hbm, 263, rfl⟩
abbrev main_while1b_v110 : Ref sig .tc := ⟨.hbm, 264, rfl⟩
abbrev main_while1b_c_35 : Ref sig .tc := ⟨.hbm, 265, rfl⟩
abbrev main_while1b_v111 : Ref sig .tc := ⟨.hbm, 266, rfl⟩
abbrev main_v43 : Ref sig .tc := ⟨.hbm, 267, rfl⟩
abbrev main_v44 : Ref sig .tc := ⟨.hbm, 268, rfl⟩
abbrev main_v45 : Ref sig .tc := ⟨.hbm, 269, rfl⟩
abbrev main_v46 : Ref sig .tc := ⟨.hbm, 270, rfl⟩
abbrev main_v47 : Ref sig .tc := ⟨.hbm, 271, rfl⟩
abbrev main_v48 : Ref sig .tc := ⟨.hbm, 272, rfl⟩
abbrev main_v49 : Ref sig .tc := ⟨.hbm, 273, rfl⟩
abbrev main_v50 : Ref sig .tc := ⟨.hbm, 274, rfl⟩
abbrev main_v51 : Ref sig .tc := ⟨.hbm, 275, rfl⟩
abbrev main_v52 : Ref sig .tc := ⟨.hbm, 276, rfl⟩
abbrev main_v53 : Ref sig .tc := ⟨.hbm, 277, rfl⟩
abbrev main_v54 : Ref sig .tc := ⟨.hbm, 278, rfl⟩
abbrev main_v55 : Ref sig .tc := ⟨.hbm, 279, rfl⟩
abbrev main_v56 : Ref sig .tc := ⟨.hbm, 280, rfl⟩
abbrev main_v57 : Ref sig .tc := ⟨.hbm, 281, rfl⟩
abbrev main_v58 : Ref sig .tc := ⟨.hbm, 282, rfl⟩
abbrev main_v59 : Ref sig .tc := ⟨.hbm, 283, rfl⟩
abbrev main_v60 : Ref sig .tc := ⟨.hbm, 284, rfl⟩
abbrev main_v61 : Ref sig .tc := ⟨.hbm, 285, rfl⟩
abbrev main_v62 : Ref sig .tc := ⟨.hbm, 286, rfl⟩
abbrev main_cst_13 : Ref sig .tc := ⟨.hbm, 287, rfl⟩
abbrev main_v63 : Ref sig .tc := ⟨.hbm, 288, rfl⟩
abbrev main_v64 : Ref sig .tc := ⟨.hbm, 289, rfl⟩
abbrev main_cst_14 : Ref sig .tc := ⟨.hbm, 290, rfl⟩
abbrev main_v65 : Ref sig .tc := ⟨.hbm, 291, rfl⟩
abbrev main_v66 : Ref sig .tc := ⟨.hbm, 292, rfl⟩
abbrev main_v67 : Ref sig .tc := ⟨.hbm, 293, rfl⟩
abbrev main_v68 : Ref sig .tc := ⟨.hbm, 294, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S_ : Shape := ⟨0, ![]⟩
abbrev S4096x256 : Shape := ⟨2, ![4096, 256]⟩
abbrev S256x1024 : Shape := ⟨2, ![256, 1024]⟩
abbrev S512x2816 : Shape := ⟨2, ![512, 2816]⟩
abbrev S1024 : Shape := ⟨1, ![1024]⟩

abbrev nBuf : Space → Nat
  | .hbm => 32
  | .vmem => 64
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4096x1024, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S2816x1024, .bf16⟩
  | .hbm, ⟨20, _⟩ => ⟨S2816x1024, .f32⟩
  | .hbm, ⟨21, _⟩ => ⟨S4096x2816, .bf16⟩
  | .hbm, ⟨22, _⟩ => ⟨S4096x2816, .bf16⟩
  | .hbm, ⟨23, _⟩ => ⟨S2816x1024, .bf16⟩
  | .hbm, ⟨24, _⟩ => ⟨S2816x1024, .f32⟩
  | .hbm, ⟨25, _⟩ => ⟨S2816x1024, .bf16⟩
  | .hbm, ⟨26, _⟩ => ⟨S2816x1024, .f32⟩
  | .hbm, ⟨27, _⟩ => ⟨S4096x1024, .f32⟩
  | .hbm, ⟨28, _⟩ => ⟨S4096x1024, .bf16⟩
  | .hbm, ⟨29, _⟩ => ⟨S1x1024, .f32⟩
  | .hbm, ⟨30, _⟩ => ⟨S1024x2816, .f32⟩
  | .hbm, ⟨31, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1024, .bf16⟩
  | .local _ .vmem, ⟨12, _⟩ => ⟨S1024x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1024x1408, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S4096x256, .bf16⟩
  | .local _ .vmem, ⟨22, _⟩ => ⟨S4096x256, .bf16⟩
  | .local _ .vmem, ⟨23, _⟩ => ⟨S4096x1024, .bf16⟩
  | .local _ .vmem, ⟨24, _⟩ => ⟨S256x1024, .bf16⟩
  | .local _ .vmem, ⟨25, _⟩ => ⟨S256x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1408x1024, .bf16⟩
  | .local _ .vmem, ⟨29, _⟩ => ⟨S1408x1024, .bf16⟩
  | .local _ .vmem, ⟨30, _⟩ => ⟨S1024x1408, .bf16⟩
  | .local _ .vmem, ⟨31, _⟩ => ⟨S1024x1408, .bf16⟩
  | .local _ .vmem, ⟨32, _⟩ => ⟨S1024x1408, .bf16⟩
  | .local _ .vmem, ⟨33, _⟩ => ⟨S1024x1408, .bf16⟩
  | .local _ .vmem, ⟨34, _⟩ => ⟨S1024x1408, .bf16⟩
  | .local _ .vmem, ⟨35, _⟩ => ⟨S1024x1408, .bf16⟩
  | .local _ .vmem, ⟨36, _⟩ => ⟨S1024x1408, .bf16⟩
  | .local _ .vmem, ⟨37, _⟩ => ⟨S1024x1408, .bf16⟩
  | .local _ .vmem, ⟨38, _⟩ => ⟨S4096x256, .bf16⟩
  | .local _ .vmem, ⟨39, _⟩ => ⟨S4096x256, .bf16⟩
  | .local _ .vmem, ⟨40, _⟩ => ⟨S4096x1024, .bf16⟩
  | .local _ .vmem, ⟨41, _⟩ => ⟨S256x1024, .bf16⟩
  | .local _ .vmem, ⟨42, _⟩ => ⟨S256x1024, .bf16⟩
  | .local _ .vmem, ⟨43, _⟩ => ⟨S4096x256, .bf16⟩
  | .local _ .vmem, ⟨44, _⟩ => ⟨S4096x256, .bf16⟩
  | .local _ .vmem, ⟨45, _⟩ => ⟨S4096x1024, .bf16⟩
  | .local _ .vmem, ⟨46, _⟩ => ⟨S256x1024, .bf16⟩
  | .local _ .vmem, ⟨47, _⟩ => ⟨S256x1024, .bf16⟩
  | .local _ .vmem, ⟨48, _⟩ => ⟨S512x2816, .bf16⟩
  | .local _ .vmem, ⟨49, _⟩ => ⟨S512x2816, .bf16⟩
  | .local _ .vmem, ⟨50, _⟩ => ⟨S512x2816, .bf16⟩
  | .local _ .vmem, ⟨51, _⟩ => ⟨S512x2816, .bf16⟩
  | .local _ .vmem, ⟨52, _⟩ => ⟨S2816x1024, .bf16⟩
  | .local _ .vmem, ⟨53, _⟩ => ⟨S2816x1024, .bf16⟩
  | .local _ .vmem, ⟨54, _⟩ => ⟨S512x1024, .f32⟩
  | .local _ .vmem, ⟨55, _⟩ => ⟨S512x1024, .f32⟩
  | .local _ .vmem, ⟨56, _⟩ => ⟨S1x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .bf16⟩
  | .local _ .vmem, ⟨62, _⟩ => ⟨S512x1024, .bf16⟩
  | .local _ .vmem, ⟨63, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc7_stg5_0 : Ref sig .tc := ⟨.vmem, 56, rfl⟩
abbrev cc7_stg6_0 : Ref sig .tc := ⟨.vmem, 57, rfl⟩
abbrev cc7_stg6_1 : Ref sig .tc := ⟨.vmem, 58, rfl⟩
abbrev cc7_stg7_0 : Ref sig .tc := ⟨.vmem, 59, rfl⟩
abbrev cc7_stg7_1 : Ref sig .tc := ⟨.vmem, 60, rfl⟩
abbrev cc7_stg8_0 : Ref sig .tc := ⟨.vmem, 61, rfl⟩
abbrev cc7_stg8_1 : Ref sig .tc := ⟨.vmem, 62, rfl⟩
abbrev cc7_stg9_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55
abbrev cc7_sem5_0 : DmaSem sig := 56
abbrev cc7_sem6_0 : DmaSem sig := 57
abbrev cc7_sem6_1 : DmaSem sig := 58
abbrev cc7_sem7_0 : DmaSem sig := 59
abbrev cc7_sem7_1 : DmaSem sig := 60
abbrev cc7_sem8_0 : DmaSem sig := 61
abbrev cc7_sem8_1 : DmaSem sig := 62
abbrev cc7_sem9_0 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![11, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1408x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x1408 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1024x1408 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1024x1408 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![11, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S4096x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![11, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S4096x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S256x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![8], ![false]⟩

def k7_cond1 (i : grid7.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_14 : BitVec 32 := 0#32
  let v27 : BitVec 1 := Scalar.cmpi .ne v26 c0_i32_14
  v27

def k7_cond2 (i : grid7.Coords) : BitVec 1 :=
  let arg0 : BitVec 32 := BitVec.ofNat 32 (i 0).val
  let c0_i32_15 : BitVec 32 := 0#32
  let v28 : BitVec 1 := Scalar.cmpi .sgt arg0 c0_i32_15
  let v29 : BitVec 32 := Scalar.extui v28
  let c0_i32_16 : BitVec 32 := 0#32
  let v30 : BitVec 1 := Scalar.cmpi .ne v29 c0_i32_16
  v30

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S512x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S2816x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2816x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S512x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S512x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S512x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S512x1024 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 1 → Memref sig .tc .vmem S1x1024 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]
-- ==== Reference2Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S1024x2816, .f32⟩
  | .hbm, ⟨51, _⟩ => ⟨S2816x1024, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S2816x1024, .f32⟩
  | .hbm, ⟨56, _⟩ => ⟨S1024x2816, .f32⟩
  | .hbm, ⟨57, _⟩ => ⟨S4096x1024, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S2816x1024, .f32⟩
  | .hbm, ⟨63, _⟩ => ⟨S1024x2816, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩
abbrev S512x2816 : Shape := ⟨2, ![512, 2816]⟩
abbrev S1 : Shape := ⟨1, ![1]⟩
abbrev S1x1 : Shape := ⟨2, ![1, 1]⟩
abbrev S1024 : Shape := ⟨1, ![1024]⟩
abbrev S_ : Shape := ⟨0, ![]⟩

abbrev nBuf : Space → Nat
  | .hbm => 22
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .hbm, ⟨15, _⟩ => ⟨S2816x1024, .bf16⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S8x128, .f32⟩
  | .hbm, ⟨20, _⟩ => ⟨S1x1, .f32⟩
  | .hbm, ⟨21, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1024x1408, .bf16⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | .local _ .vmem, ⟨20, _⟩ => ⟨S512x2816, .bf16⟩
  | .local _ .vmem, ⟨21, _⟩ => ⟨S2816x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg8_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem8_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_19 : BitVec 32 := 0#32
  let v40 : BitVec 1 := Scalar.cmpi .ne v39 c0_i32_19
  v40

def k2_cond2 (i : grid2.Coords) : BitVec 1 :=
  let arg0 : BitVec 32 := BitVec.ofNat 32 (i 0).val
  let c0_i32_20 : BitVec 32 := 0#32
  let v41 : BitVec 1 := Scalar.cmpi .sgt arg0 c0_i32_20
  let v42 : BitVec 32 := Scalar.extui v41
  let c0_i32_21 : BitVec 32 := 0#32
  let v43 : BitVec 1 := Scalar.cmpi .ne v42 c0_i32_21
  v43

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2816x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_cst_12 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x1024, .bf16⟩
  | .hbm, ⟨3, _⟩ => ⟨S4096x2816, .bf16⟩
  | .hbm, ⟨4, _⟩ => ⟨S4096x2816, .bf16⟩
  | .hbm, ⟨5, _⟩ => ⟨S2816x1024, .bf16⟩
  | .hbm, ⟨6, _⟩ => ⟨S2816x1024, .bf16⟩
  | .hbm, ⟨7, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x1024, .bf16⟩
  | .local _ .vmem, ⟨8, _⟩ => ⟨S256x1024, .bf16⟩
  | .local _ .vmem, ⟨9, _⟩ => ⟨S256x1024, .bf16⟩
  | .local _ .vmem, ⟨10, _⟩ => ⟨S4096x256, .bf16⟩
  | .local _ .vmem, ⟨11, _⟩ => ⟨S4096x256, .bf16⟩
  | .local _ .vmem, ⟨12, _⟩ => ⟨S4096x1024, .bf16⟩
  | .local _ .vmem, ⟨13, _⟩ => ⟨S256x1024, .bf16⟩
  | .local _ .vmem, ⟨14, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![11, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![11, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x1024, .bf16⟩
  | .hbm, ⟨3, _⟩ => ⟨S4096x2816, .bf16⟩
  | .hbm, ⟨4, _⟩ => ⟨S4096x2816, .bf16⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S2816x1024, .f32⟩
  | .hbm, ⟨12, _⟩ => ⟨S4096x1024, .f32⟩
  | .hbm, ⟨13, _⟩ => ⟨S1024x2816, .f32⟩
  | .hbm, ⟨14, _⟩ => ⟨S2816x1024, .f32⟩
  | .hbm, ⟨15, _⟩ => ⟨S1024x2816, .f32⟩
  | .hbm, ⟨16, _⟩ => ⟨S4096x2816, .f32⟩
  | .hbm, ⟨17, _⟩ => ⟨S2816x1024, .f32⟩
  | .hbm, ⟨18, _⟩ => ⟨S1024x2816, .f32⟩
  | .hbm, ⟨19, _⟩ => ⟨S2816x1024, .f32⟩
  | .hbm, ⟨20, _⟩ => ⟨S1024x2816, .f32⟩
  | .hbm, ⟨21, _⟩ => ⟨S4096x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | .hbm, ⟨26, _⟩ => ⟨S2816x1024, .bf16⟩
  | .hbm, ⟨27, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel5.lean ====
abbrev S4096x1024 : Shape := ⟨2, ![4096, 1024]⟩
abbrev S4096x512 : Shape := ⟨2, ![4096, 512]⟩
abbrev S4096x1536 : Shape := ⟨2, ![4096, 1536]⟩
abbrev S4096x128 : Shape := ⟨2, ![4096, 128]⟩
abbrev S1024x512 : Shape := ⟨2, ![1024, 512]⟩
abbrev S512x512 : Shape := ⟨2, ![512, 512]⟩
abbrev S1024x1536 : Shape := ⟨2, ![1024, 1536]⟩
abbrev S4096x768 : Shape := ⟨2, ![4096, 768]⟩
abbrev S512x768 : Shape := ⟨2, ![512, 768]⟩
abbrev S1024x128 : Shape := ⟨2, ![1024, 128]⟩
abbrev S512x128 : Shape := ⟨2, ![512, 128]⟩

abbrev nBuf : Space → Nat
  | .hbm => 13
  | .vmem => 31
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1536, .bf16⟩
  | .hbm, ⟨5, _⟩ => ⟨S4096x512, .bf16⟩
  | .hbm, ⟨6, _⟩ => ⟨S4096x128, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x1536, .bf16⟩
  | .hbm, ⟨11, _⟩ => ⟨S1024x512, .bf16⟩
  | .hbm, ⟨12, _⟩ => ⟨S1024x128, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S512x512, .bf16⟩
  | .local _ .vmem, ⟨14, _⟩ => ⟨S512x512, .bf16⟩
  | .local _ .vmem, ⟨15, _⟩ => ⟨S4096x512, .bf16⟩
  | .local _ .vmem, ⟨16, _⟩ => ⟨S4096x512, .bf16⟩
  | .local _ .vmem, ⟨17, _⟩ => ⟨S4096x768, .bf16⟩
  | .local _ .vmem, ⟨18, _⟩ => ⟨S4096x768, .bf16⟩
  | .local _ .vmem, ⟨19, _⟩ => ⟨S512x768, .bf16⟩
  | .local _ .vmem, ⟨20, _⟩ => ⟨S512x768, .bf16⟩
  | .local _ .vmem, ⟨21, _⟩ => ⟨S4096x512, .bf16⟩
  | .local _ .vmem, ⟨22, _⟩ => ⟨S4096x512, .bf16⟩
  | .local _ .vmem, ⟨23, _⟩ => ⟨S4096x512, .bf16⟩
  | .local _ .vmem, ⟨24, _⟩ => ⟨S512x512, .bf16⟩
  | .local _ .vmem, ⟨25, _⟩ => ⟨S512x512, .bf16⟩
  | .local _ .vmem, ⟨26, _⟩ => ⟨S4096x512, .bf16⟩
  | .local _ .vmem, ⟨27, _⟩ => ⟨S4096x512, .bf16⟩
  | .local _ .vmem, ⟨28, _⟩ => ⟨S4096x128, .bf16⟩
  | .local _ .vmem, ⟨29, _⟩ => ⟨S512x128, .bf16⟩
  | .local _ .vmem, ⟨30, _⟩ => ⟨S512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S4096x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference5Ideal.lean ====
abbrev S4096x1024 : Shape := ⟨2, ![4096, 1024]⟩
abbrev S4096x512 : Shape := ⟨2, ![4096, 512]⟩
abbrev S4096x1536 : Shape := ⟨2, ![4096, 1536]⟩
abbrev S4096x128 : Shape := ⟨2, ![4096, 128]⟩
abbrev S_ : Shape := ⟨0, ![]⟩
abbrev S1024x512 : Shape := ⟨2, ![1024, 512]⟩
abbrev S512x1024 : Shape := ⟨2, ![512, 1024]⟩
abbrev S1024x1536 : Shape := ⟨2, ![1024, 1536]⟩
abbrev S1536x1024 : Shape := ⟨2, ![1536, 1024]⟩
abbrev S1024x128 : Shape := ⟨2, ![1024, 128]⟩
abbrev S128x1024 : Shape := ⟨2, ![128, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1536, .bf16⟩
  | .hbm, ⟨5, _⟩ => ⟨S4096x512, .bf16⟩
  | .hbm, ⟨6, _⟩ => ⟨S4096x128, .bf16⟩
  | .hbm, ⟨7, _⟩ => ⟨S4096x1024, .f32⟩
  | .hbm, ⟨8, _⟩ => ⟨S_, .f32⟩
  | .hbm, ⟨9, _⟩ => ⟨S1024x512, .f32⟩
  | .hbm, ⟨10, _⟩ => ⟨S4096x512, .f32⟩
  | .hbm, ⟨11, _⟩ => ⟨S4096x512, .f32⟩
  | .hbm, ⟨12, _⟩ => ⟨S512x1024, .f32⟩
  | .hbm, ⟨13, _⟩ => ⟨S1024x512, .f32⟩
  | .hbm, ⟨14, _⟩ => ⟨S1024x512, .bf16⟩
  | .hbm, ⟨15, _⟩ => ⟨S_, .f32⟩
  | .hbm, ⟨16, _⟩ => ⟨S1024x512, .f32⟩
  | .hbm, ⟨17, _⟩ => ⟨S4096x512, .f32⟩
  | .hbm, ⟨18, _⟩ => ⟨S4096x512, .f32⟩
  | .hbm, ⟨19, _⟩ => ⟨S512x1024, .f32⟩
  | .hbm, ⟨20, _⟩ => ⟨S1024x512, .f32⟩
  | .hbm, ⟨21, _⟩ => ⟨S1024x512, .bf16⟩
  | .hbm, ⟨22, _⟩ => ⟨S_, .f32⟩
  | .hbm, ⟨23, _⟩ => ⟨S1024x512, .f32⟩
  | .hbm, ⟨24, _⟩ => ⟨S4096x512, .f32⟩
  | .hbm, ⟨25, _⟩ => ⟨S4096x512, .f32⟩
  | .hbm, ⟨26, _⟩ => ⟨S512x1024, .f32⟩
  | .hbm, ⟨27, _⟩ => ⟨S1024x512, .f32⟩
  | .hbm, ⟨28, _⟩ => ⟨S1024x512, .bf16⟩
  | .hbm, ⟨29, _⟩ => ⟨S_, .f32⟩
  | .hbm, ⟨30, _⟩ => ⟨S1024x1536, .f32⟩
  | .hbm, ⟨31, _⟩ => ⟨S4096x1536, .f32⟩
  | .hbm, ⟨32, _⟩ => ⟨S4096x1536, .f32⟩
  | .hbm, ⟨33, _⟩ => ⟨S1536x1024, .f32⟩
  | .hbm, ⟨34, _⟩ => ⟨S1024x1536, .f32⟩
  | .hbm, ⟨35, _⟩ => ⟨S1024x1536, .bf16⟩
  | .hbm, ⟨36, _⟩ => ⟨S_, .f32⟩
  | .hbm, ⟨37, _⟩ => ⟨S1024x512, .f32⟩
  | .hbm, ⟨38, _⟩ => ⟨S4096x512, .f32⟩
  | .hbm, ⟨39, _⟩ => ⟨S4096x512, .f32⟩
  | .hbm, ⟨40, _⟩ => ⟨S512x1024, .f32⟩
  | .hbm, ⟨41, _⟩ => ⟨S1024x512, .f32⟩
  | .hbm, ⟨42, _⟩ => ⟨S1024x512, .bf16⟩
  | .hbm, ⟨43, _⟩ => ⟨S_, .f32⟩
  | .hbm, ⟨44, _⟩ => ⟨S1024x128, .f32⟩
  | .hbm, ⟨45, _⟩ => ⟨S4096x128, .f32⟩
  | .hbm, ⟨46, _⟩ => ⟨S4096x128, .f32⟩
  | .hbm, ⟨47, _⟩ => ⟨S128x1024, .f32⟩
  | .hbm, ⟨48, _⟩ => ⟨S1024x128, .f32⟩
  | .hbm, ⟨49, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel8.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x1024, .f32⟩
  | .hbm, ⟨5, _⟩ => ⟨S1x1024, .f32⟩
  | .hbm, ⟨6, _⟩ => ⟨S4096x512, .f32⟩
  | .hbm, ⟨7, _⟩ => ⟨S512x1024, .f32⟩
  | .hbm, ⟨8, _⟩ => ⟨S4096x1024, .f32⟩
  | .hbm, ⟨9, _⟩ => ⟨S4096x512, .f32⟩
  | .hbm, ⟨10, _⟩ => ⟨S512x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel9.lean ====
abbrev S4096x1024 : Shape := ⟨2, ![4096, 1024]⟩
abbrev S1024x1536 : Shape := ⟨2, ![1024, 1536]⟩
abbrev S1024x2304 : Shape := ⟨2, ![1024, 2304]⟩
abbrev S1024x1024 : Shape := ⟨2, ![1024, 1024]⟩
abbrev S4096x512 : Shape := ⟨2, ![4096, 512]⟩
abbrev S4096x1536 : Shape := ⟨2, ![4096, 1536]⟩
abbrev S1024x768 : Shape := ⟨2, ![1024, 768]⟩
abbrev S4096x2304 : Shape := ⟨2, ![4096, 2304]⟩
abbrev S512x1024 : Shape := ⟨2, ![512, 1024]⟩

abbrev nBuf : Space → Nat
  | .hbm => 12
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1024x2304, .bf16⟩
  | .hbm, ⟨3, _⟩ => ⟨S4096x1024, .bf16⟩
  | .hbm, ⟨4, _⟩ => ⟨S1024x1024, .bf16⟩
  | .hbm, ⟨5, _⟩ => ⟨S4096x512, .bf16⟩
  | .hbm, ⟨6, _⟩ => ⟨S4096x512, .bf16⟩
  | .hbm, ⟨7, _⟩ => ⟨S4096x1536, .f32⟩
  | .hbm, ⟨8, _⟩ => ⟨S4096x2304, .f32⟩
  | .hbm, ⟨9, _⟩ => ⟨S4096x1024, .f32⟩
  | .hbm, ⟨10, _⟩ => ⟨S512x1024, .bf16⟩
  | .hbm, ⟨11, _⟩ => ⟨S512x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x1024, .bf16⟩
  | .local _ .vmem, ⟨7, _⟩ => ⟨S1024x1024, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .f32⟩
  | .local _ .vmem, ⟨11, _⟩ => ⟨S1024x768, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S4096x512, .bf16⟩
  | .local _ .vmem, ⟨18, _⟩ => ⟨S4096x1024, .bf16⟩
  | .local _ .vmem, ⟨19, _⟩ => ⟨S512x1024, .bf16⟩
  | .local _ .vmem, ⟨20, _⟩ => ⟨S4096x512, .bf16⟩
  | .local _ .vmem, ⟨21, _⟩ => ⟨S4096x1024, .bf16⟩
  | .local _ .vmem, ⟨22, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc4_sem0_0 : DmaSem sig := 20
abbrev cc4_sem1_0 : DmaSem sig := 21
abbrev cc4_sem2_0 : DmaSem sig := 22

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4096x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S512x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4096x512 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S512x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]
-- ==== Reference9Ideal.lean ====
abbrev S4096x1024 : Shape := ⟨2, ![4096, 1024]⟩
abbrev S1024x1536 : Shape := ⟨2, ![1024, 1536]⟩
abbrev S1024x2304 : Shape := ⟨2, ![1024, 2304]⟩
abbrev S1024x1024 : Shape := ⟨2, ![1024, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩
abbrev S4096x1536 : Shape := ⟨2, ![4096, 1536]⟩
abbrev S4096x2304 : Shape := ⟨2, ![4096, 2304]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1024x2304, .bf16⟩
  | .hbm, ⟨3, _⟩ => ⟨S4096x1024, .bf16⟩
  | .hbm, ⟨4, _⟩ => ⟨S1024x1024, .bf16⟩
  | .hbm, ⟨5, _⟩ => ⟨S4096x512, .bf16⟩
  | .hbm, ⟨6, _⟩ => ⟨S4096x512, .bf16⟩
  | .hbm, ⟨7, _⟩ => ⟨S4096x1024, .f32⟩
  | .hbm, ⟨8, _⟩ => ⟨S1024x1536, .f32⟩
  | .hbm, ⟨9, _⟩ => ⟨S1024x2304, .f32⟩
  | .hbm, ⟨10, _⟩ => ⟨S4096x1024, .f32⟩
  | .hbm, ⟨11, _⟩ => ⟨S1024x1024, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S512x1024, .f32⟩
  | .hbm, ⟨20, _⟩ => ⟨S4096x1024, .f32⟩
  | .hbm, ⟨21, _⟩ => ⟨S1024x512, .f32⟩
  | .hbm, ⟨22, _⟩ => ⟨S512x1024, .f32⟩
  | .hbm, ⟨23, _⟩ => ⟨S512x1024, .bf16⟩
  | .hbm, ⟨24, _⟩ => ⟨S_, .f32⟩
  | .hbm, ⟨25, _⟩ => ⟨S512x1024, .f32⟩
  | .hbm, ⟨26, _⟩ => ⟨S4096x1024, .f32⟩
  | .hbm, ⟨27, _⟩ => ⟨S1024x512, .f32⟩
  | .hbm, ⟨28, _⟩ => ⟨S512x1024, .f32⟩
  | .hbm, ⟨29, _⟩ => ⟨S512x1024, .bf16⟩
  | .hbm, ⟨30, _⟩ => ⟨S4096x1536, .f32⟩
  | .hbm, ⟨31, _⟩ => ⟨S4096x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal
public import Idealize.ShloMosaic.Adequacy
public import Idealize.ShloMosaic.Init

/-!
# The two printed kernels are one program

Nothing was rewritten between the kernel as printed and the kernel over the extended reals, so over the machine's own
numbers the two have the same bodies, the same body tables and the same runs.
-/

@[expose] public section

set_option maxRecDepth 16384
set_option maxHeartbeats 4000000

namespace Cert.Proof

open Idealize.ShloMosaic Idealize.ShloMosaic.TcCoe Idealize.SL.Sem

/-- The bodies of the forward call agree. -/
theorem same_fwd : Cert.Kernel.cc0_dn_scan (F := Bits) = Cert.KernelIdeal.cc0_dn_scan (F := Bits) := by
  with_unfolding_all rfl

/-- The bodies of the backward call agree. -/
theorem same_bwd : Cert.Kernel.cc1_dn_scan_b (F := Bits) = Cert.KernelIdeal.cc1_dn_scan_b (F := Bits) := by
  with_unfolding_all rfl

/-- So do the tables of bodies. -/
theorem same_bodies : Cert.Kernel.defs₀ (F := Bits) = Cert.KernelIdeal.defs₀ (F := Bits) := by
  refine congrArg Defs.onTc ?_
  funext l a
  match l, a with
  | 0, (t, s) =>
    show Cert.Kernel.cc0_dn_scan (F := Bits) _ _ _ _ _ _ _ _ _ _ _ _ _ _ _ _ _ _ _ = _
    rw [same_fwd]; rfl
  | 1, (t, s) =>
    show Cert.Kernel.cc1_dn_scan_b (F := Bits) _ _ _ _ _ _ _ _ _ _ _ _ _ _ _ _ _ _ _ _ _ _ _ _ _ _ _ _ _ _ _ = _
    rw [same_bwd]; rfl

/-- With the pipelines around them. -/
theorem same_defs : Cert.Kernel.defs (F := Bits) = Cert.KernelIdeal.defs (F := Bits) :=
  congrArg (fun d => Pipeline.defs (Cert.KernelIdeal.pcfgs (F := Bits)) d) same_bodies

/-- What holds after every run of the one holds after every run of the other. -/
theorem same_run (m : (ℓ : Loc Cert.KernelIdeal.nD Cert.KernelIdeal.τ Cert.KernelIdeal.sig) → Buf (Elt Bits) ℓ)
    (ρ : Dev Cert.KernelIdeal.nD → PrngReg) (Q)
    (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [same_defs]
  exact h

end Cert.Proof
-- ==== Proof.Fwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# The forward call of the scan over the grid

What one run of the body stores, what its blocks and the carried state hold after every point, and the rule the
pipeline needs of the body.  The set-up is the usual one for one pallas_call with a carried scratch, stated at the
contents `V` the call is entered with.
-/

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every scoped buffer of the call that is neither staging nor the carried state. -/
abbrev restBut (c : Dev nD) : sProp 𝕄 :=
  Pipeline.scopedRestBut (Ix := Unit) (Name := ℕ) (U := UR sig nD τ) (Lvl := ℕ) (Val := Elt F) spec0 c [cc0_scratch0]

section Regions
variable (V : (c : Dev nD) → (b : Ref sig .tc) → Buf (Elt F) ((c : Thread nD τ).loc b))

/-- The block a window shows at a point of the grid, read from the array as the call finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A window the body leaves in place shows at every point the block of the array there. -/
theorem before0_of {c : Dev nD} (w : Fin cfg0.W) (h1 : (cfg0.win w).isOut = false) (h2 : ∀ i, cfg0.idle w i = false)
    (h3 : ∀ t t' : Fin cfg0.N, (cfg0.win w).index t = (cfg0.win w).index t' →
      (cfg0.win w).clip (cfg0.grid.coords t) = (cfg0.win w).clip (cfg0.grid.coords t'))
    (dat : Dat τ (Elt F) Unit ℕ (UR sig nD τ) ℕ cfg0 c) (hA : dat.A w = V c (Pipeline.arrRef spec0 w))
    (h4 : ∀ t, (cfg0.win w).cut (cfg0.grid.coords t) (dat.after w t) = iblk0 V c w t) (t : Fin cfg0.N) (d) {X}
    (h5 : dat.fetched w t d = X) : dat.before w t d = X :=
  (dat.before_in_eq_fetched w h1 h2 h3 (fun t => by rw [h4]; unfold Dat.blockOf iblk0; rw [hA]) t d).trans h5

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- How a result's block and the carried state are read back. -/
abbrev VO0_6 : View sig .tc .vmem S256x512 .f32 := (Memref.whole cc0_stg6_0 : Memref sig .tc .vmem S256x512 .f32).view
/-- How a result's block and the carried state are read back. -/
abbrev VO0_7 : View sig .tc .vmem S4x4x128x128 .f32 := (Memref.whole cc0_stg7_0 : Memref sig .tc .vmem S4x4x128x128 .f32).view
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x4x128x128 .f32 := win0_7.stage (cfg0.slots t 7)
abbrev hs0_7 (t : Fin cfg0.N) : (ms0_7 t).IsWhole := hstage0_7 ((cfg0.slots t 7).cast nbuf0_7)
abbrev scM0_0 : Memref sig .tc .vmem S4x128x128 .f32 := Memref.whole cc0_scratch0
abbrev VS0_0 : View sig .tc .vmem S4x128x128 .f32 := scM0_0.view

/-- What the call owns besides its blocks: the carried state's buffer, the other scoped buffers, the generator register. -/
theorem PhiA0_eq (c : Dev nD) :
    (Pipeline.ΦA spec0 c : sProp 𝕄)
      = iprop(iprop((∃ d, owns (c : Thread nD τ) scM0_0 fullShare d) ∗ restBut c) ∗ (∃ r, prngReg c r)) := by
  unfold Pipeline.ΦA; rw [scopedRest0_split]; simp only [scM0_0, owns_whole]; try rfl
set_option maxHeartbeats 1000000 in
/-- The body at the first point, where the carried state is cleared: what it stores, with the run that stores it. -/
noncomputable def kernelRun0_A (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S4x4x128x128 .f32) (harg8 : arg8.IsWhole) (arg9 : Memref sig .tc .vmem S4x128x128 .f32) (harg9 : arg9.IsWhole) (hc0 : cond0_0 i)
    (x0 : Vec F S256x512 .f32) (x1 : Vec F S256x512 .bf16) (x2 : Vec F S256x512 .bf16) (x3 : Vec F S256x512 .bf16) (x4 : Vec F S256x512 .bf16) (x5 : Vec F S256x512 .f32) :
    Σ' (L6 : List (View.Piece (Elt F) S256x512 .f32)), Σ' (L7 : List (View.Piece (Elt F) S4x4x128x128 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_dn_scan i arg1 harg1 arg2 harg2 arg3 harg3 arg4 harg4 arg5 harg5 arg6 harg6 arg7 harg7 arg8 harg8 arg9 harg9) K } := by
  refine ⟨?_, ?_, ?_, fun E K => ?run⟩
  case run =>
    simp only [cc0_dn_scan_eq_skeleton]; unfold cc0_dn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

section
variable (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S4x4x128x128 .f32) (harg8 : arg8.IsWhole) (arg9 : Memref sig .tc .vmem S4x128x128 .f32) (harg9 : arg9.IsWhole) (hc0 : cond0_0 i)
  (x0 : Vec F S256x512 .f32) (x1 : Vec F S256x512 .bf16) (x2 : Vec F S256x512 .bf16) (x3 : Vec F S256x512 .bf16) (x4 : Vec F S256x512 .bf16) (x5 : Vec F S256x512 .f32)

/-- The stores tile the block. -/
theorem cover0_A_6 (y : S256x512.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (s := S256x512) _ S64x128.size (by sl_kernel_rfl) y

/-- What the body leaves in this result's block. -/
def out0_A_6 : Vec F S256x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- The stores tile the block. -/
theorem cover0_A_7 (y : S4x4x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (s := S4x4x128x128) _ S1x1x128x128.size (by sl_kernel_rfl) y

/-- What the body leaves in this result's block. -/
def out0_A_7 : Vec F S4x4x128x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- The stores cover the carried state. -/
theorem scover0_A_0 (y : S4x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_wholeMem _ (by sl_whole_mem) y

/-- What the body leaves in the carried state. -/
def sout0_A_0 : Vec F S4x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)
end

set_option maxHeartbeats 1000000 in
/-- The body at a later point, over the carried state it finds. -/
noncomputable def kernelRun0_B (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S4x4x128x128 .f32) (harg8 : arg8.IsWhole) (arg9 : Memref sig .tc .vmem S4x128x128 .f32) (harg9 : arg9.IsWhole) (hc0 : ¬cond0_0 i)
    (x0 : Vec F S256x512 .f32) (x1 : Vec F S256x512 .bf16) (x2 : Vec F S256x512 .bf16) (x3 : Vec F S256x512 .bf16) (x4 : Vec F S256x512 .bf16) (x5 : Vec F S256x512 .f32) (xs0 : Vec F S4x128x128 .f32) :
    Σ' (L6 : List (View.Piece (Elt F) S256x512 .f32)), Σ' (L7 : List (View.Piece (Elt F) S4x4x128x128 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_dn_scan i arg1 harg1 arg2 harg2 arg3 harg3 arg4 harg4 arg5 harg5 arg6 harg6 arg7 harg7 arg8 harg8 arg9 harg9) K } := by
  refine ⟨?_, ?_, ?_, fun E K => ?run⟩
  case run =>
    simp only [cc0_dn_scan_eq_skeleton]; unfold cc0_dn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

section
variable (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S4x4x128x128 .f32) (harg8 : arg8.IsWhole) (arg9 : Memref sig .tc .vmem S4x128x128 .f32) (harg9 : arg9.IsWhole) (hc0 : ¬cond0_0 i)
  (x0 : Vec F S256x512 .f32) (x1 : Vec F S256x512 .bf16) (x2 : Vec F S256x512 .bf16) (x3 : Vec F S256x512 .bf16) (x4 : Vec F S256x512 .bf16) (x5 : Vec F S256x512 .f32) (xs0 : Vec F S4x128x128 .f32)

/-- The stores tile the block. -/
theorem cover0_B_6 (y : S256x512.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (s := S256x512) _ S64x128.size (by sl_kernel_rfl) y

/-- What the body leaves in this result's block. -/
def out0_B_6 : Vec F S256x512 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

/-- The stores tile the block. -/
theorem cover0_B_7 (y : S4x4x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (s := S4x4x128x128) _ S1x1x128x128.size (by sl_kernel_rfl) y

/-- What the body leaves in this result's block. -/
def out0_B_7 : Vec F S4x4x128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

/-- The stores cover the carried state. -/
theorem scover0_B_0 (y : S4x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (s := S4x128x128) _ S1x128x128.size (by sl_kernel_rfl) y

/-- What the body leaves in the carried state. -/
def sout0_B_0 : Vec F S4x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

end

/-- What one run of the body leaves at the first point, and at a later one that finds the state `p`. -/
def atA (c : Dev nD) (t : Fin cfg0.N) (h0 : t.val % 16 = 0) : Vec F S256x512 .f32 × Vec F S4x4x128x128 .f32 × Vec F S4x128x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t))
def atB (c : Dev nD) (t : Fin cfg0.N) (h0 : ¬t.val % 16 = 0) (p : Vec F S4x128x128 .f32) : Vec F S256x512 .f32 × Vec F S4x4x128x128 .f32 × Vec F S4x128x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) p, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) p, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) p)

/-- What the result blocks and the carried state hold after the body at point `n`, by recursion on the point. -/
def outsAt0 (c : Dev nD) : (n : ℕ) → n < cfg0.N → Vec F S256x512 .f32 × Vec F S4x4x128x128 .f32 × Vec F S4x128x128 .f32
  | 0, hn => atA V c ⟨0, hn⟩ (Nat.zero_mod _)
  | n + 1, hn =>
    if h0 : (n + 1) % 16 = 0 then atA V c ⟨n + 1, hn⟩ h0
    else atB V c ⟨n + 1, hn⟩ h0 (outsAt0 c n (Nat.lt_of_succ_lt hn)).2.2

theorem outsAt0_A (c : Dev nD) (t : Fin cfg0.N) (h0 : t.val % 16 = 0) : outsAt0 V c t.val t.isLt = atA V c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = atB V c t h0 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The call's own resources before point `n`: the carried state at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restBut c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restBut c) ∗ (∃ r, prngReg c r)) := by
  cases n with
  | zero => exact absurd rfl hz
  | succ n => rfl

/-- The forward call as data for the pipeline's rules. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_of V 0 rfl (fun _ => rfl) (fun _ _ _ => rfl) (dat0 V c) rfl (fun _ => rfl) t d rfl
theorem before0_1 (c : Dev nD) (t : Fin cfg0.N) (d) : (dat0 V c).before 1 t d = iblk0 V c 1 t :=
  before0_of V 1 rfl (fun _ => rfl) (fun _ _ _ => rfl) (dat0 V c) rfl (fun _ => rfl) t d rfl
theorem before0_2 (c : Dev nD) (t : Fin cfg0.N) (d) : (dat0 V c).before 2 t d = iblk0 V c 2 t :=
  before0_of V 2 rfl (fun _ => rfl) (fun _ _ _ => rfl) (dat0 V c) rfl (fun _ => rfl) t d rfl
theorem before0_3 (c : Dev nD) (t : Fin cfg0.N) (d) : (dat0 V c).before 3 t d = iblk0 V c 3 t :=
  before0_of V 3 rfl (fun _ => rfl) (fun _ _ _ => rfl) (dat0 V c) rfl (fun _ => rfl) t d rfl
theorem before0_4 (c : Dev nD) (t : Fin cfg0.N) (d) : (dat0 V c).before 4 t d = iblk0 V c 4 t :=
  before0_of V 4 rfl (fun _ => rfl) (fun _ _ _ => rfl) (dat0 V c) rfl (fun _ => rfl) t d rfl
theorem before0_5 (c : Dev nD) (t : Fin cfg0.N) (d) : (dat0 V c).before 5 t d = iblk0 V c 5 t :=
  before0_of V 5 rfl (fun _ => rfl) (fun _ _ _ => rfl) (dat0 V c) rfl (fun _ => rfl) t d rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
/-- One run of the body, from the blocks as fetched to the blocks as left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = PhiS V c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc V c t, PhiS_zero V c _ _ hz, PhiA0_eq]
      rw [outsAt0_A V c t h0]
      unfold atA out0_A_6 out0_A_7 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc V c t, PhiS_pos V c _ _ hz]
      rw [outsAt0_B V c t h0]
      unfold atB out0_B_6 out0_B_7 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

/-- The same as the pipeline's rule asks for it. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The resources at entry are those before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- After the last point they are given back. -/
theorem hout (c : Dev nD) : (dat0 V c).Φ (Fin.last cfg0.N) ⊢ Pipeline.ΦA spec0 c :=
  Phi_out V c _ (by rw [Fin.val_last]; have : cfg0.N = 16 := N_0; omega)

end Regions

end Cert.KernelIdeal.Fwd

end
-- ==== Proof.Bwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# The backward call of the scan over the grid

What one run of the body stores, what its blocks and the carried state hold after every point, and the rule the
pipeline needs of the body.  The set-up is the usual one for one pallas_call with a carried scratch, stated at the
contents `V` the call is entered with.
-/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every scoped buffer of the call that is neither staging nor the carried state. -/
abbrev restBut (c : Dev nD) : sProp 𝕄 :=
  Pipeline.scopedRestBut (Ix := Unit) (Name := ℕ) (U := UR sig nD τ) (Lvl := ℕ) (Val := Elt F) spec1 c [cc1_scratch0]

theorem rest_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ restBut c) :=
  Pipeline.scopedRest_split_of_list spec1 c [cc1_scratch0] (by decide) (by decide)

section Regions
variable (V : (c : Dev nD) → (b : Ref sig .tc) → Buf (Elt F) ((c : Thread nD τ).loc b))

/-- The block a window shows at a point of the grid, read from the array as the call finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A window the body leaves in place shows at every point the block of the array there. -/
theorem before1_of {c : Dev nD} (w : Fin cfg1.W) (h1 : (cfg1.win w).isOut = false) (h2 : ∀ i, cfg1.idle w i = false)
    (h3 : ∀ t t' : Fin cfg1.N, (cfg1.win w).index t = (cfg1.win w).index t' →
      (cfg1.win w).clip (cfg1.grid.coords t) = (cfg1.win w).clip (cfg1.grid.coords t'))
    (dat : Dat τ (Elt F) Unit ℕ (UR sig nD τ) ℕ cfg1 c) (hA : dat.A w = V c (Pipeline.arrRef spec1 w))
    (h4 : ∀ t, (cfg1.win w).cut (cfg1.grid.coords t) (dat.after w t) = iblk1 V c w t) (t : Fin cfg1.N) (d) {X}
    (h5 : dat.fetched w t d = X) : dat.before w t d = X :=
  (dat.before_in_eq_fetched w h1 h2 h3 (fun t => by rw [h4]; unfold Dat.blockOf iblk1; rw [hA]) t d).trans h5

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-- How a result's block and the carried state are read back. -/
abbrev VO1_8 : View sig .tc .vmem S256x512 .f32 := (Memref.whole cc1_stg8_0 : Memref sig .tc .vmem S256x512 .f32).view
/-- How a result's block and the carried state are read back. -/
abbrev VO1_9 : View sig .tc .vmem S256x512 .bf16 := (Memref.whole cc1_stg9_0 : Memref sig .tc .vmem S256x512 .bf16).view
/-- How a result's block and the carried state are read back. -/
abbrev VO1_10 : View sig .tc .vmem S256x512 .bf16 := (Memref.whole cc1_stg10_0 : Memref sig .tc .vmem S256x512 .bf16).view
/-- How a result's block and the carried state are read back. -/
abbrev VO1_11 : View sig .tc .vmem S256x512 .bf16 := (Memref.whole cc1_stg11_0 : Memref sig .tc .vmem S256x512 .bf16).view
/-- How a result's block and the carried state are read back. -/
abbrev VO1_12 : View sig .tc .vmem S256x512 .bf16 := (Memref.whole cc1_stg12_0 : Memref sig .tc .vmem S256x512 .bf16).view
/-- How a result's block and the carried state are read back. -/
abbrev VO1_13 : View sig .tc .vmem S256x512 .f32 := (Memref.whole cc1_stg13_0 : Memref sig .tc .vmem S256x512 .f32).view
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4x4x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x512 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x512 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S256x512 .f32 := win1_13.stage (cfg1.slots t 13)
abbrev hs1_13 (t : Fin cfg1.N) : (ms1_13 t).IsWhole := hstage1_13 ((cfg1.slots t 13).cast nbuf1_13)
abbrev scM1_0 : Memref sig .tc .vmem S4x128x128 .f32 := Memref.whole cc1_scratch0
abbrev VS1_0 : View sig .tc .vmem S4x128x128 .f32 := scM1_0.view

/-- What the call owns besides its blocks: the carried state's buffer, the other scoped buffers, the generator register. -/
theorem PhiA1_eq (c : Dev nD) :
    (Pipeline.ΦA spec1 c : sProp 𝕄)
      = iprop(iprop((∃ d, owns (c : Thread nD τ) scM1_0 fullShare d) ∗ restBut c) ∗ (∃ r, prngReg c r)) := by
  unfold Pipeline.ΦA; rw [rest_split]; simp only [scM1_0, owns_whole]; try rfl
set_option maxHeartbeats 1988000 in
/-- The body at the first point, where the carried state is cleared: what it stores, with the run that stores it. -/
noncomputable def kernelRun1_A (c : Dev nD) (i : grid1.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .f32) (harg14 : arg14.IsWhole) (arg15 : Memref sig .tc .vmem S4x128x128 .f32) (harg15 : arg15.IsWhole) (hc0 : cond1_0 i)
    (x0 : Vec F S256x512 .f32) (x1 : Vec F S256x512 .bf16) (x2 : Vec F S256x512 .bf16) (x3 : Vec F S256x512 .bf16) (x4 : Vec F S256x512 .bf16) (x5 : Vec F S256x512 .f32) (x6 : Vec F S4x4x128x128 .f32) (x7 : Vec F S256x512 .f32) :
    Σ' (L8 : List (View.Piece (Elt F) S256x512 .f32)), Σ' (L9 : List (View.Piece (Elt F) S256x512 .bf16)), Σ' (L10 : List (View.Piece (Elt F) S256x512 .bf16)), Σ' (L11 : List (View.Piece (Elt F) S256x512 .bf16)), Σ' (L12 : List (View.Piece (Elt F) S256x512 .bf16)), Σ' (L13 : List (View.Piece (Elt F) S256x512 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_dn_scan_b i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_dn_scan_b_eq_skeleton]; unfold cc1_dn_scan_b_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

section
variable (c : Dev nD) (i : grid1.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .f32) (harg14 : arg14.IsWhole) (arg15 : Memref sig .tc .vmem S4x128x128 .f32) (harg15 : arg15.IsWhole) (hc0 : cond1_0 i)
  (x0 : Vec F S256x512 .f32) (x1 : Vec F S256x512 .bf16) (x2 : Vec F S256x512 .bf16) (x3 : Vec F S256x512 .bf16) (x4 : Vec F S256x512 .bf16) (x5 : Vec F S256x512 .f32) (x6 : Vec F S4x4x128x128 .f32) (x7 : Vec F S256x512 .f32)

/-- The stores tile the block. -/
theorem cover1_A_8 (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (s := S256x512) _ S64x128.size (by sl_kernel_rfl) y

/-- What the body leaves in this result's block. -/
def out1_A_8 : Vec F S256x512 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- The stores tile the block. -/
theorem cover1_A_9 (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (s := S256x512) _ S64x128.size (by sl_kernel_rfl) y

/-- What the body leaves in this result's block. -/
def out1_A_9 : Vec F S256x512 .bf16 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

/-- The stores tile the block. -/
theorem cover1_A_10 (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (s := S256x512) _ S64x128.size (by sl_kernel_rfl) y

/-- What the body leaves in this result's block. -/
def out1_A_10 : Vec F S256x512 .bf16 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

/-- The stores tile the block. -/
theorem cover1_A_11 (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (s := S256x512) _ S64x128.size (by sl_kernel_rfl) y

/-- What the body leaves in this result's block. -/
def out1_A_11 : Vec F S256x512 .bf16 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

/-- The stores tile the block. -/
theorem cover1_A_12 (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set :=
  View.cover_of_tiledL (s := S256x512) _ S64x128.size (by sl_kernel_rfl) y

/-- What the body leaves in this result's block. -/
def out1_A_12 : Vec F S256x512 .bf16 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

/-- The stores tile the block. -/
theorem cover1_A_13 (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set :=
  View.cover_of_tiledL (s := S256x512) _ S64x128.size (by sl_kernel_rfl) y

/-- What the body leaves in this result's block. -/
def out1_A_13 : Vec F S256x512 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

/-- The stores cover the carried state. -/
theorem scover1_A_0 (y : S4x128x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1, y ∈ pc.1.set :=
  View.cover_of_wholeMem _ (by sl_whole_mem) y

/-- What the body leaves in the carried state. -/
def sout1_A_0 : Vec F S4x128x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1)
end

set_option maxHeartbeats 1976000 in
/-- The body at a later point, over the carried state it finds. -/
noncomputable def kernelRun1_B (c : Dev nD) (i : grid1.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .f32) (harg14 : arg14.IsWhole) (arg15 : Memref sig .tc .vmem S4x128x128 .f32) (harg15 : arg15.IsWhole) (hc0 : ¬cond1_0 i)
    (x0 : Vec F S256x512 .f32) (x1 : Vec F S256x512 .bf16) (x2 : Vec F S256x512 .bf16) (x3 : Vec F S256x512 .bf16) (x4 : Vec F S256x512 .bf16) (x5 : Vec F S256x512 .f32) (x6 : Vec F S4x4x128x128 .f32) (x7 : Vec F S256x512 .f32) (xs0 : Vec F S4x128x128 .f32) :
    Σ' (L8 : List (View.Piece (Elt F) S256x512 .f32)), Σ' (L9 : List (View.Piece (Elt F) S256x512 .bf16)), Σ' (L10 : List (View.Piece (Elt F) S256x512 .bf16)), Σ' (L11 : List (View.Piece (Elt F) S256x512 .bf16)), Σ' (L12 : List (View.Piece (Elt F) S256x512 .bf16)), Σ' (L13 : List (View.Piece (Elt F) S256x512 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_dn_scan_b i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_dn_scan_b_eq_skeleton]; unfold cc1_dn_scan_b_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

section
variable (c : Dev nD) (i : grid1.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S4x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .f32) (harg14 : arg14.IsWhole) (arg15 : Memref sig .tc .vmem S4x128x128 .f32) (harg15 : arg15.IsWhole) (hc0 : ¬cond1_0 i)
  (x0 : Vec F S256x512 .f32) (x1 : Vec F S256x512 .bf16) (x2 : Vec F S256x512 .bf16) (x3 : Vec F S256x512 .bf16) (x4 : Vec F S256x512 .bf16) (x5 : Vec F S256x512 .f32) (x6 : Vec F S4x4x128x128 .f32) (x7 : Vec F S256x512 .f32) (xs0 : Vec F S4x128x128 .f32)

/-- The stores tile the block. -/
theorem cover1_B_8 (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1, y ∈ pc.1.set :=
  View.cover_of_tiledL (s := S256x512) _ S64x128.size (by sl_kernel_rfl) y

/-- What the body leaves in this result's block. -/
def out1_B_8 : Vec F S256x512 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1)

/-- The stores tile the block. -/
theorem cover1_B_9 (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1, y ∈ pc.1.set :=
  View.cover_of_tiledL (s := S256x512) _ S64x128.size (by sl_kernel_rfl) y

/-- What the body leaves in this result's block. -/
def out1_B_9 : Vec F S256x512 .bf16 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1)

/-- The stores tile the block. -/
theorem cover1_B_10 (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1, y ∈ pc.1.set :=
  View.cover_of_tiledL (s := S256x512) _ S64x128.size (by sl_kernel_rfl) y

/-- What the body leaves in this result's block. -/
def out1_B_10 : Vec F S256x512 .bf16 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1)

/-- The stores tile the block. -/
theorem cover1_B_11 (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1, y ∈ pc.1.set :=
  View.cover_of_tiledL (s := S256x512) _ S64x128.size (by sl_kernel_rfl) y

/-- What the body leaves in this result's block. -/
def out1_B_11 : Vec F S256x512 .bf16 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1)

/-- The stores tile the block. -/
theorem cover1_B_12 (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1, y ∈ pc.1.set :=
  View.cover_of_tiledL (s := S256x512) _ S64x128.size (by sl_kernel_rfl) y

/-- What the body leaves in this result's block. -/
def out1_B_12 : Vec F S256x512 .bf16 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1)

/-- The stores tile the block. -/
theorem cover1_B_13 (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1, y ∈ pc.1.set :=
  View.cover_of_tiledL (s := S256x512) _ S64x128.size (by sl_kernel_rfl) y

/-- What the body leaves in this result's block. -/
def out1_B_13 : Vec F S256x512 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1)

/-- The stores cover the carried state. -/
theorem scover1_B_0 (y : S4x128x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1, y ∈ pc.1.set :=
  View.cover_of_tiledL (s := S4x128x128) _ S1x128x128.size (by sl_kernel_rfl) y

/-- What the body leaves in the carried state. -/
def sout1_B_0 : Vec F S4x128x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1)

end

/-- What one run of the body leaves at the first point, and at a later one that finds the state `p`. -/
def atA (c : Dev nD) (t : Fin cfg1.N) (h0 : t.val % 16 = 0) : Vec F S256x512 .f32 × Vec F S256x512 .bf16 × Vec F S256x512 .bf16 × Vec F S256x512 .bf16 × Vec F S256x512 .bf16 × Vec F S256x512 .f32 × Vec F S4x128x128 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t))
def atB (c : Dev nD) (t : Fin cfg1.N) (h0 : ¬t.val % 16 = 0) (p : Vec F S4x128x128 .f32) : Vec F S256x512 .f32 × Vec F S256x512 .bf16 × Vec F S256x512 .bf16 × Vec F S256x512 .bf16 × Vec F S256x512 .bf16 × Vec F S256x512 .f32 × Vec F S4x128x128 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) p, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) p, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) p, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) p, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) p, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) p, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) p)

/-- What the result blocks and the carried state hold after the body at point `n`, by recursion on the point. -/
def outsAt1 (c : Dev nD) : (n : ℕ) → n < cfg1.N → Vec F S256x512 .f32 × Vec F S256x512 .bf16 × Vec F S256x512 .bf16 × Vec F S256x512 .bf16 × Vec F S256x512 .bf16 × Vec F S256x512 .f32 × Vec F S4x128x128 .f32
  | 0, hn => atA V c ⟨0, hn⟩ (Nat.zero_mod _)
  | n + 1, hn =>
    if h0 : (n + 1) % 16 = 0 then atA V c ⟨n + 1, hn⟩ h0
    else atB V c ⟨n + 1, hn⟩ h0 (outsAt1 c n (Nat.lt_of_succ_lt hn)).2.2.2.2.2.2

theorem outsAt1_A (c : Dev nD) (t : Fin cfg1.N) (h0 : t.val % 16 = 0) : outsAt1 V c t.val t.isLt = atA V c t h0 := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = atB V c t h0 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans rfl

/-- The call's own resources before point `n`: the carried state at what the point before left. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2.2.2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2.2.2.2.2) ∗ restBut c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2.2.2) ∗ restBut c) ∗ (∃ r, prngReg c r)) := by
  cases n with
  | zero => exact absurd rfl hz
  | succ n => rfl

/-- The backward call as data for the pipeline's rules. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
    | ⟨10, _⟩ => (outsAt1 V c t.val t.isLt).2.2.1
    | ⟨11, _⟩ => (outsAt1 V c t.val t.isLt).2.2.2.1
    | ⟨12, _⟩ => (outsAt1 V c t.val t.isLt).2.2.2.2.1
    | ⟨13, _⟩ => (outsAt1 V c t.val t.isLt).2.2.2.2.2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]
theorem after1_10 (c : Dev nD) (t : Fin cfg1.N) : (dat1 V c).after 10 t = (outsAt1 V c t.val t.isLt).2.2.1 := by dsimp only [dat1]
theorem after1_11 (c : Dev nD) (t : Fin cfg1.N) : (dat1 V c).after 11 t = (outsAt1 V c t.val t.isLt).2.2.2.1 := by dsimp only [dat1]
theorem after1_12 (c : Dev nD) (t : Fin cfg1.N) : (dat1 V c).after 12 t = (outsAt1 V c t.val t.isLt).2.2.2.2.1 := by dsimp only [dat1]
theorem after1_13 (c : Dev nD) (t : Fin cfg1.N) : (dat1 V c).after 13 t = (outsAt1 V c t.val t.isLt).2.2.2.2.2.1 := by dsimp only [dat1]

theorem before1_0 (c : Dev nD) (t : Fin cfg1.N) (d) : (dat1 V c).before 0 t d = iblk1 V c 0 t :=
  before1_of V 0 rfl (fun _ => rfl) (fun _ _ _ => rfl) (dat1 V c) rfl (fun _ => rfl) t d rfl
theorem before1_1 (c : Dev nD) (t : Fin cfg1.N) (d) : (dat1 V c).before 1 t d = iblk1 V c 1 t :=
  before1_of V 1 rfl (fun _ => rfl) (fun _ _ _ => rfl) (dat1 V c) rfl (fun _ => rfl) t d rfl
theorem before1_2 (c : Dev nD) (t : Fin cfg1.N) (d) : (dat1 V c).before 2 t d = iblk1 V c 2 t :=
  before1_of V 2 rfl (fun _ => rfl) (fun _ _ _ => rfl) (dat1 V c) rfl (fun _ => rfl) t d rfl
theorem before1_3 (c : Dev nD) (t : Fin cfg1.N) (d) : (dat1 V c).before 3 t d = iblk1 V c 3 t :=
  before1_of V 3 rfl (fun _ => rfl) (fun _ _ _ => rfl) (dat1 V c) rfl (fun _ => rfl) t d rfl
theorem before1_4 (c : Dev nD) (t : Fin cfg1.N) (d) : (dat1 V c).before 4 t d = iblk1 V c 4 t :=
  before1_of V 4 rfl (fun _ => rfl) (fun _ _ _ => rfl) (dat1 V c) rfl (fun _ => rfl) t d rfl
theorem before1_5 (c : Dev nD) (t : Fin cfg1.N) (d) : (dat1 V c).before 5 t d = iblk1 V c 5 t :=
  before1_of V 5 rfl (fun _ => rfl) (fun _ _ _ => rfl) (dat1 V c) rfl (fun _ => rfl) t d rfl
theorem before1_6 (c : Dev nD) (t : Fin cfg1.N) (d) : (dat1 V c).before 6 t d = iblk1 V c 6 t :=
  before1_of V 6 rfl (fun _ => rfl) (fun _ _ _ => rfl) (dat1 V c) rfl (fun _ => rfl) t d rfl
theorem before1_7 (c : Dev nD) (t : Fin cfg1.N) (d) : (dat1 V c).before 7 t d = iblk1 V c 7 t :=
  before1_of V 7 rfl (fun _ => rfl) (fun _ _ _ => rfl) (dat1 V c) rfl (fun _ => rfl) t d rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

set_option maxHeartbeats 9600000 in
/-- One run of the body, from the blocks as fetched to the blocks as left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = PhiS V c (t.val + 1) t.isLt from rfl, PhiS_succ]
  have hN : t.val < 16 := lt_of_lt_of_eq t.isLt (show cfg1.N = 16 from N_1)
  by_cases h0 : t.val % 16 = 0
  · by_cases hz : t.val = 0
    · rw [PhiS_castSucc V c t, PhiS_zero V c _ _ hz, PhiA1_eq]
      rw [outsAt1_A V c t h0]
      unfold atA out1_A_8 out1_A_9 out1_A_10 out1_A_11 out1_A_12 out1_A_13 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_A c (grid1.coords t) _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS_castSucc V c t, PhiS_pos V c _ _ hz]
      rw [outsAt1_B V c t h0]
      unfold atB out1_B_8 out1_B_9 out1_B_10 out1_B_11 out1_B_12 out1_B_13 sout1_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_B c (grid1.coords t) _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

/-- The same as the pipeline's rule asks for it. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The resources at entry are those before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- After the last point they are given back. -/
theorem hout (c : Dev nD) : (dat1 V c).Φ (Fin.last cfg1.N) ⊢ Pipeline.ΦA spec1 c :=
  Phi_out V c _ (by rw [Fin.val_last]; have : cfg1.N = 16 := N_1; omega)

end Regions

end Cert.KernelIdeal.Bwd

end
-- ==== Proof.Run.lean ====
module

public import proofs.«01_k».proof.Proof.Fwd
public import proofs.«01_k».proof.Proof.Bwd

/-!
# The run of the two calls

The contents of the buffers before, between and after the two calls, the calls as segments between those contents, and
the run of the whole program.  It holds over any float type.
-/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6]

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- The buffers after the forward call: its result arrays written, the rest as before. -/
def W1 (c : Dev nD) : Valuation τ sig (Elt F) :=
  Pipeline.withArrays spec0 c (W0 m ρ c) fun w => (Fwd.dat0 (V0 m ρ) c).arrAt w cfg0.N
theorem W1_arr (c : Dev nD) (w : Fin cfg0.W) :
    W1 m ρ c (Proc.devRef .tc (Pipeline.arrRef spec0 w)) = (Fwd.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What is no result array of the forward call is unchanged by it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Fwd.dat0 (V0 m ρ) c).arrAt_in w (h w rfl) _).trans (Fwd.A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (Fwd.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after the backward call. -/
def W2 (c : Dev nD) : Valuation τ sig (Elt F) :=
  Pipeline.withArrays spec1 c (W1 m ρ c) fun w => (Bwd.dat1 (V1 m ρ) c).arrAt w cfg1.N
theorem W2_arr (c : Dev nD) (w : Fin cfg1.W) :
    W2 m ρ c (Proc.devRef .tc (Pipeline.arrRef spec1 w)) = (Bwd.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- What is no result array of the backward call is unchanged by it. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((Bwd.dat1 (V1 m ρ) c).arrAt_in w (h w rfl) _).trans (Bwd.A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (Bwd.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)
theorem W2_main_arg4 (c : Dev nD) : W2 m ρ c (Proc.devRef .tc main_arg4) = m ((c : Thread nD τ).loc main_arg4) :=
  W2_args m ρ c main_arg4 (by decide)
theorem W2_main_arg5 (c : Dev nD) : W2 m ρ c (Proc.devRef .tc main_arg5) = m ((c : Thread nD τ).loc main_arg5) :=
  W2_args m ρ c main_arg5 (by decide)
theorem W2_main_arg6 (c : Dev nD) : W2 m ρ c (Proc.devRef .tc main_arg6) = m ((c : Thread nD τ).loc main_arg6) :=
  W2_args m ρ c main_arg6 (by decide)

abbrev adm : (p : Fin 2) → (pcfgs (F := F) p).Adm := fun p => (cfgs p).toPCfg_adm
/-- The two calls' data, each at the contents it is entered with. -/
def pdats : (p : Fin 2) → (c : Dev nD) → Dat τ (Elt F) Unit ℕ (UR sig nD τ) ℕ (Pipeline.pin (pcfgs (F := F)) adm p) c
  | ⟨0, _⟩ => fun c => Fwd.dat0 (V0 m ρ) c
  | ⟨1, _⟩ => fun c => Bwd.dat1 (V1 m ρ) c
abbrev 𝒱₀ : Variants := Variants.none
abbrev L : GSem nD τ sig → Finset Unit := fun _ => ∅
abbrev lv : GSem nD τ sig → Unit → ℕ := fun _ _ => 0
/-- What rides along: the generator register and nothing owed. -/
abbrev R (c : Dev nD) : sProp 𝕄 := iprop((∃ r, prngReg c r) ∗ ∃ W, owes (c : Thread nD τ) (0 : CellTallies nD τ sig Unit) W)

/-- An unscoped buffer is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What holds at the end. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The forward call between the contents before and after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Fwd.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (Fwd.A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : Pipeline.ΦA spec0 c ⊢ (pdats m ρ 0 c).Φ 0 := Fwd.hin (V0 m ρ) c
    iintro ⟨Hp, -, Hr⟩
    iapply h0
    unfold Pipeline.ΦA
    isplitl [Hr]; · iexact Hr
    iexact Hp
  hout c := by
    have h1 : (pdats m ρ 0 c).Φ (Fin.last _) ⊢ Pipeline.ΦA spec0 c := Fwd.hout (V0 m ρ) c
    rw [Pipeline.ownSems0_none]
    iintro H
    ihave H' := h1 $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call between the contents before and after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Bwd.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (Bwd.A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : Pipeline.ΦA spec1 c ⊢ (pdats m ρ 1 c).Φ 0 := Bwd.hin (V1 m ρ) c
    iintro ⟨Hp, -, Hr⟩
    iapply h0
    unfold Pipeline.ΦA
    isplitl [Hr]; · iexact Hr
    iexact Hp
  hout c := by
    have h1 : (pdats m ρ 1 c).Φ (Fin.last _) ⊢ Pipeline.ΦA spec1 c := Bwd.hout (V1 m ρ) c
    rw [Pipeline.ownSems0_none]
    iintro H
    ihave H' := h1 $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program is the two calls, one after the other. -/
abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- The run: it ends, every buffer at the last contents and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W2 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

end Cert.KernelIdeal.Run

end
-- ==== Proof.Units.lean ====
module

public import proofs.«01_k».proof.Proof.Gen.KernelIdeal.Launch
public import Idealize.ShloMosaic.Lib.Pipeline.ValueKit
public import Idealize.ShloMosaic.Lib.Pipeline.ReadBack
public import Idealize.ShloMosaic.Lib.Pointwise

/-!
# One chunk of one head, as vector operations

The state's step and the gradients of one chunk of one head, written once with the vector operations the two calls use.
Every piece a call stores is one of these at its own chunk and head.
-/

@[expose] public section

set_option maxRecDepth 16384

noncomputable section

namespace Cert.KernelIdeal.Units

open Cert.KernelIdeal.Gen
open Idealize.ShloMosaic Idealize.ShloMosaic.TcCoe Idealize.ShloMosaic.Tactic
open Idealize.SL

variable {F : FTy → Type} [FloatOps F]

theorem inb_blk (ch h : Fin 4) : ∀ a, (![64 * ch.val, 128 * h.val] : Fin 2 → ℕ) a + (![64, 128] : Fin 2 → ℕ) a ≤ S256x512.size a := by
  intro a
  have h1 := ch.isLt
  have h2 := h.isLt
  match a with
  | ⟨0, _⟩ => show 64 * ch.val + 64 ≤ 256; omega
  | ⟨1, _⟩ => show 128 * h.val + 128 ≤ 512; omega

theorem inb_st (h : Fin 4) : ∀ a, (![h.val, 0, 0] : Fin 3 → ℕ) a + (![1, 128, 128] : Fin 3 → ℕ) a ≤ S4x128x128.size a := by
  intro a
  have h2 := h.isLt
  match a with
  | ⟨0, _⟩ => show h.val + 1 ≤ 4; omega
  | ⟨1, _⟩ => show 0 + 128 ≤ 128; omega
  | ⟨2, _⟩ => show 0 + 128 ≤ 128; omega

theorem inb_sts (ch h : Fin 4) : ∀ a, (![ch.val, h.val, 0, 0] : Fin 4 → ℕ) a + (![1, 1, 128, 128] : Fin 4 → ℕ) a ≤ S4x4x128x128.size a := by
  intro a
  have h1 := ch.isLt
  have h2 := h.isLt
  match a with
  | ⟨0, _⟩ => show ch.val + 1 ≤ 4; omega
  | ⟨1, _⟩ => show h.val + 1 ≤ 4; omega
  | ⟨2, _⟩ => show 0 + 128 ≤ 128; omega
  | ⟨3, _⟩ => show 0 + 128 ≤ 128; omega

/-- The part of a block that belongs to one chunk and one head. -/
def blk {φ : EltTy} (x : Vec F S256x512 φ) (ch h : Fin 4) : Vec F S64x128 φ :=
  View.ld x (Rect.unit ![64 * ch.val, 128 * h.val] ![64, 128] (inb_blk ch h))

/-- One head's state out of the carried four. -/
def st (x : Vec F S4x128x128 .f32) (h : Fin 4) : FVec F S128x128 .f32 :=
  shapeCast S128x128 (View.ld x (Rect.unit ![h.val, 0, 0] ![1, 128, 128] (inb_st h))) shapeCasts_S1x128x128_S128x128

/-- One chunk's and head's state out of the stored ones. -/
def sts (x : Vec F S4x4x128x128 .f32) (ch h : Fin 4) : FVec F S128x128 .f32 :=
  shapeCast S128x128 (View.ld x (Rect.unit ![ch.val, h.val, 0, 0] ![1, 1, 128, 128] (inb_sts ch h))) shapeCasts_S1x1x128x128_S128x128

/-- The new values of a chunk: what the state does not predict already. -/
def uV (s : FVec F S128x128 .f32) (u : Vec F S64x128 .f32) (w : Vec F S64x128 .bf16) : FVec F S64x128 .f32 :=
  subf u (matmul dot_S64x128_S128x128_S64x128_1_0_0_1_n_n none w (truncf .bf16 s bitsLt_bf16_f32) (constant S64x128 .f32 0x00000000#32))

/-- The decay of a chunk, one number a column. -/
def uDec (d : Vec F S64x128 .f32) : FVec F S1x128 .f32 :=
  mulf (shapeCast S1x128 (multiReduction .add [0] S128 d 0x00000000#32 reduces_S64x128_S128 (.inl rfl) rfl) shapeCasts_S128_S1x128)
    (broadcast S1x128 (Scalar.ofBits .f32 0x3C800000#32 : F .f32))

/-- The state after a chunk. -/
def uS (s : FVec F S128x128 .f32) (u : Vec F S64x128 .f32) (w kd : Vec F S64x128 .bf16) (d : Vec F S64x128 .f32) : FVec F S128x128 .f32 :=
  addf (mulf s (broadcastTo S128x128 (uDec d) broadcasts_S1x128_S128x128))
    (matmul dot_S64x128_S64x128_S128x128_0_0_1_1_n_n none kd (truncf .bf16 (uV s u w) bitsLt_bf16_f32) (constant S128x128 .f32 0x00000000#32))

/-- The states inside a block of four chunks, from the one it begins with. -/
def chain (s : FVec F S128x128 .f32) (xu : Vec F S256x512 .f32) (xw xk : Vec F S256x512 .bf16) (xd : Vec F S256x512 .f32) (h : Fin 4) :
    (n : ℕ) → n ≤ 4 → FVec F S128x128 .f32
  | 0, _ => s
  | n + 1, hn => uS (chain s xu xw xk xd h n (Nat.le_of_succ_le hn)) (blk xu ⟨n, hn⟩ h) (blk xw ⟨n, hn⟩ h) (blk xk ⟨n, hn⟩ h) (blk xd ⟨n, hn⟩ h)

/-! ### Backwards -/

/-- One head's state gradient out of the carried four. -/
def dst (x : Vec F S4x128x128 .f32) (h : Fin 4) : FVec F S128x128 .f32 :=
  shapeCast S128x128 (st x h) shapeCasts_S128x128_S128x128

/-- The output's gradient, as the products take it. -/
def uG (g : Vec F S64x128 .f32) : FVec F S64x128 .bf16 :=
  truncf .bf16 (shapeCast S64x128 g shapeCasts_S64x128_S64x128) bitsLt_bf16_f32

/-- The half of the 128 pair rows that is the chunk's own. -/
theorem slices_half (p : Fin 2) : S128x128.Slices ![64 * p.val, 0] S64x128 :=
  match p with
  | 0 => slices_S128x128_o0_0_S64x128
  | 1 => slices_S128x128_o64_0_S64x128

/-- The gradient of the new values, which is that of `u`. -/
def uDv (p : Fin 2) (ds : FVec F S128x128 .f32) (kd a : Vec F S64x128 .bf16) (g : Vec F S64x128 .f32) : FVec F S64x128 .f32 :=
  addf (matmul dot_S64x128_S128x128_S64x128_1_0_0_1_n_n none kd (truncf .bf16 ds bitsLt_bf16_f32) (constant S64x128 .f32 0x00000000#32))
    (extractStridedSlice S64x128 ![64 * p.val, 0]
      (matmul dot_S64x128_S64x128_S128x128_0_0_1_1_n_n none a (uG g) (constant S128x128 .f32 0x00000000#32)) (slices_half p))

/-- Minus a chunk, as the products take it. -/
def uNeg (v : FVec F S64x128 .f32) : FVec F S64x128 .bf16 :=
  truncf .bf16 (subf (broadcast S64x128 (Scalar.ofBits .f32 0x00000000#32 : F .f32)) v) bitsLt_bf16_f32

/-- The gradient of the state before a chunk. -/
def uDs (p : Fin 2) (ds : FVec F S128x128 .f32) (w q kd a : Vec F S64x128 .bf16) (d g : Vec F S64x128 .f32) : FVec F S128x128 .f32 :=
  addf (addf (mulf ds (broadcastTo S128x128 (uDec d) broadcasts_S1x128_S128x128))
    (matmul dot_S64x128_S64x128_S128x128_0_0_1_1_n_n none q (uG g) (constant S128x128 .f32 0x00000000#32)))
    (matmul dot_S64x128_S64x128_S128x128_0_0_1_1_n_n none w (uNeg (uDv p ds kd a g)) (constant S128x128 .f32 0x00000000#32))

/-- The gradient of `w`. -/
def uDw (p : Fin 2) (s ds : FVec F S128x128 .f32) (kd a : Vec F S64x128 .bf16) (g : Vec F S64x128 .f32) : FVec F S64x128 .bf16 :=
  truncf .bf16 (matmul dot_S64x128_S128x128_S64x128_1_1_0_0_n_n none (uNeg (uDv p ds kd a g)) (truncf .bf16 s bitsLt_bf16_f32)
    (constant S64x128 .f32 0x00000000#32)) bitsLt_bf16_f32

/-- The gradient of the queries. -/
def uDq (s : FVec F S128x128 .f32) (g : Vec F S64x128 .f32) : FVec F S64x128 .bf16 :=
  truncf .bf16 (matmul dot_S64x128_S128x128_S64x128_1_1_0_0_n_n none (uG g) (truncf .bf16 s bitsLt_bf16_f32)
    (constant S64x128 .f32 0x00000000#32)) bitsLt_bf16_f32

/-- The gradient of the keys. -/
def uDk (s ds : FVec F S128x128 .f32) (u : Vec F S64x128 .f32) (w : Vec F S64x128 .bf16) : FVec F S64x128 .bf16 :=
  truncf .bf16 (matmul dot_S64x128_S128x128_S64x128_1_1_0_0_n_n none (truncf .bf16 (uV s u w) bitsLt_bf16_f32)
    (truncf .bf16 ds bitsLt_bf16_f32) (constant S64x128 .f32 0x00000000#32)) bitsLt_bf16_f32

/-- A chunk's new values in the chunk's half of a pair, zeros in the other half. -/
def uPair (p : Fin 2) (v : FVec F S64x128 .f32) : FVec F S128x128 .f32 :=
  match p with
  | 0 => concatenate S128x128 0 [⟨S64x128, v⟩, ⟨S64x128, broadcast S64x128 (Scalar.ofBits .f32 0x00000000#32 : F .f32)⟩] concatenates_S64x128_S64x128_S128x128_d0
  | 1 => concatenate S128x128 0 [⟨S64x128, broadcast S64x128 (Scalar.ofBits .f32 0x00000000#32 : F .f32)⟩, ⟨S64x128, v⟩] concatenates_S64x128_S64x128_S128x128_d0

/-- The gradient of the products inside a chunk, a pair's 128 columns. -/
def uDa (p : Fin 2) (s : FVec F S128x128 .f32) (u : Vec F S64x128 .f32) (w : Vec F S64x128 .bf16) (g : Vec F S64x128 .f32) : FVec F S64x128 .bf16 :=
  truncf .bf16 (matmul dot_S64x128_S128x128_S64x128_1_1_0_0_n_n none (uG g)
    (truncf .bf16 (uPair p (uV s u w)) bitsLt_bf16_f32) (constant S64x128 .f32 0x00000000#32)) bitsLt_bf16_f32

/-- The gradient of the decay. -/
def uDd (s ds : FVec F S128x128 .f32) : FVec F S64x128 .f32 :=
  broadcastTo S64x128 (shapeCast S1x128 (multiReduction .add [0] S128
    (mulf (shapeCast S1x128 (multiReduction .add [0] S128 (mulf s ds) 0x00000000#32 reduces_S128x128_S128 (.inl rfl) rfl) shapeCasts_S128_S1x128)
      (broadcast S1x128 (Scalar.ofBits .f32 0x3C800000#32 : F .f32)))
    0x00000000#32 reduces_S1x128_S128 (.inl rfl) rfl) shapeCasts_S128_S1x128) broadcasts_S1x128_S64x128

/-- Which half of its pair a chunk is. -/
def par (n : ℕ) : Fin 2 := ⟨n % 2, Nat.mod_lt _ (by decide)⟩

/-- The state gradients inside a block of four chunks, from the last chunk down. -/
def dchain (ds : FVec F S128x128 .f32) (xw xq xk xa : Vec F S256x512 .bf16) (xd xg : Vec F S256x512 .f32) (h : Fin 4) :
    (n : ℕ) → n ≤ 4 → FVec F S128x128 .f32
  | 0, _ => ds
  | n + 1, hn => uDs (par (3 - n)) (dchain ds xw xq xk xa xd xg h n (Nat.le_of_succ_le hn))
      (blk xw ⟨3 - n, by omega⟩ h) (blk xq ⟨3 - n, by omega⟩ h) (blk xk ⟨3 - n, by omega⟩ h) (blk xa ⟨3 - n, by omega⟩ h)
      (blk xd ⟨3 - n, by omega⟩ h) (blk xg ⟨3 - n, by omega⟩ h)

theorem canon_drop {Val : EltTy → Type} {S : Shape} {e : EltTy} [∀ e, Nonempty (Val e)] (L' : List (View.Piece Val S e)) :
    ∀ (L : List (View.Piece Val S e)) (y : S.Idx), (∃ p ∈ L, y ∈ p.1.set) → View.canon (L ++ L') y = View.canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_drop L' L y ?_
      obtain ⟨q, hq, hyq⟩ := hc
      rcases List.mem_cons.mp hq with rfl | hq
      · exact absurd hyq hm
      · exact ⟨q, hq, hyq⟩

end Cert.KernelIdeal.Units
-- ==== Proof.FwdVal.lean ====
module

public import proofs.«01_k».proof.Proof.Fwd
public import proofs.«01_k».proof.Proof.Units

/-!
# What the forward call stores at a point, as the chunk operations
-/

@[expose] public section

set_option maxRecDepth 16384

noncomputable section

namespace Cert.KernelIdeal.Fwd

open Cert.KernelIdeal.Gen Cert.KernelIdeal.Units
open Idealize.ShloMosaic Idealize.ShloMosaic.TcCoe Idealize.ShloMosaic.Tactic
open Idealize.SL Idealize.SL.RA Idealize.SL.BI

variable {F : FTy → Type} [FloatOps F]
variable (V : (c : Dev nD) → (b : Ref sig .tc) → Buf (Elt F) ((c : Thread nD τ).loc b))

/-- The states of one head while a point works through its four chunks. -/
def pst (c : Dev nD) (t : Fin cfg0.N) (s : FVec F S128x128 .f32) (h : Fin 4) (n : ℕ) (hn : n ≤ 4) : FVec F S128x128 .f32 :=
  chain s (iblk0 V c 0 t) (iblk0 V c 1 t) (iblk0 V c 3 t) (iblk0 V c 5 t) h n hn

set_option maxHeartbeats 4000000 in
theorem states_B (c : Dev nD) (t : Fin cfg0.N) (h0 : ¬t.val % 16 = 0) (ch h : Fin 4) (i j : Fin 128) :
    (outsAt0 V c t.val t.isLt).2.1 (ix4 ch h i j)
      = shapeCast S1x1x128x128 (pst V c t (st (outsAt0 V c (t.val - 1) (Nat.lt_of_le_of_lt (Nat.sub_le _ _) t.isLt)).2.2 h) h ch.val (Nat.le_of_lt ch.isLt))
          shapeCasts_S128x128_S1x1x128x128 (ix4 0 0 i j) := by
  rw [outsAt0_B V c t h0]; unfold atB
  frame_out
  simp only [read_unread_whole]
  generalize (outsAt0 V c (t.val - 1) (Nat.lt_of_le_of_lt (Nat.sub_le _ _) t.isLt)).2.2 = X
  obtain ⟨ch, hch⟩ := ch
  obtain ⟨h, hh⟩ := h
  canon_tiles x hx
  all_goals
    (idx_vars x
     have e0 : x0 = 0 := Subsingleton.elim _ _
     have e1 : x1 = 0 := Subsingleton.elim _ _
     subst e0 e1
     have e2 := Fin.ext hx2
     have e3 := Fin.ext hx3
     change i = x2 at e2
     change j = x3 at e3
     subst e2 e3
     change ch = _ at hx0
     change h = _ at hx1
     subst hx0 hx1
     rfl)

set_option maxHeartbeats 4000000 in
theorem states_A (c : Dev nD) (t : Fin cfg0.N) (h0 : t.val % 16 = 0) (ch h : Fin 4) (i j : Fin 128) :
    (outsAt0 V c t.val t.isLt).2.1 (ix4 ch h i j)
      = shapeCast S1x1x128x128 (pst V c t (st k0_pay5 h) h ch.val (Nat.le_of_lt ch.isLt))
          shapeCasts_S128x128_S1x1x128x128 (ix4 0 0 i j) := by
  rw [outsAt0_A V c t h0]; unfold atA
  frame_out
  simp (disch := decide) only [View.readCov_fill]
  obtain ⟨ch, hch⟩ := ch
  obtain ⟨h, hh⟩ := h
  canon_tiles x hx
  all_goals
    (idx_vars x
     have e0 : x0 = 0 := Subsingleton.elim _ _
     have e1 : x1 = 0 := Subsingleton.elim _ _
     subst e0 e1
     have e2 := Fin.ext hx2
     have e3 := Fin.ext hx3
     change i = x2 at e2
     change j = x3 at e3
     subst e2 e3
     change ch = _ at hx0
     change h = _ at hx1
     subst hx0 hx1
     rfl)

set_option maxHeartbeats 4000000 in
theorem carry_B (c : Dev nD) (t : Fin cfg0.N) (h0 : ¬t.val % 16 = 0) (h : Fin 4) (i j : Fin 128) :
    (outsAt0 V c t.val t.isLt).2.2 (ix3 h i j)
      = shapeCast S1x128x128 (pst V c t (st (outsAt0 V c (t.val - 1) (Nat.lt_of_le_of_lt (Nat.sub_le _ _) t.isLt)).2.2 h) h 4 (Nat.le_refl 4))
          shapeCasts_S128x128_S1x128x128 (ix3 0 i j) := by
  rw [outsAt0_B V c t h0]; unfold atB
  frame_out
  simp only [read_unread_whole]
  generalize (outsAt0 V c (t.val - 1) (Nat.lt_of_le_of_lt (Nat.sub_le _ _) t.isLt)).2.2 = X
  obtain ⟨h, hh⟩ := h
  canon_tiles x hx
  all_goals
    (idx_vars x
     have e0 : x0 = 0 := Subsingleton.elim _ _
     subst e0
     have e1 := Fin.ext hx1
     have e2 := Fin.ext hx2
     change i = x1 at e1
     change j = x2 at e2
     subst e1 e2
     change h = _ at hx0
     subst hx0
     rfl)

set_option maxHeartbeats 4000000 in
theorem carry_A (c : Dev nD) (t : Fin cfg0.N) (h0 : t.val % 16 = 0) (h : Fin 4) (i j : Fin 128) :
    (outsAt0 V c t.val t.isLt).2.2 (ix3 h i j)
      = shapeCast S1x128x128 (pst V c t (st k0_pay5 h) h 4 (Nat.le_refl 4))
          shapeCasts_S128x128_S1x128x128 (ix3 0 i j) := by
  rw [outsAt0_A V c t h0]; unfold atA
  frame_out
  simp (disch := decide) only [View.readCov_fill]
  refine (canon_drop [_] [_, _, _, _] _ (View.cover_of_tiled_head _ _ _ (by sl_kernel_rfl) _)).trans ?_
  obtain ⟨h, hh⟩ := h
  canon_tiles x hx
  all_goals
    (idx_vars x
     have e0 : x0 = 0 := Subsingleton.elim _ _
     subst e0
     have e1 := Fin.ext hx1
     have e2 := Fin.ext hx2
     change i = x1 at e1
     change j = x2 at e2
     subst e1 e2
     change h = _ at hx0
     subst hx0
     rfl)

end Cert.KernelIdeal.Fwd
-- ==== Proof.Math.lean ====
module

public import Idealize.ShloMosaic.Lib.Pointwise

/-!
# The scan over chunks and its gradients, as plain functions

One head of the scan over 64 chunks of 64 rows.  `St` is the state before each chunk, `Ds` the gradient of the state
after each chunk, counted from the last chunk down; the gradients of the six arguments follow from the two.
-/

@[expose] public section

noncomputable section

namespace Scan

open Idealize.ShloMosaic

/-- A chunk's matrix of 64 rows. -/
abbrev Mat := Fin 64 → Fin 128 → EReal
/-- A head's state. -/
abbrev Sta := Fin 128 → Fin 128 → EReal
/-- An argument array. -/
abbrev Arr := (⟨2, ![4096, 512]⟩ : Shape).Idx → EReal

/-- One over the rows of a chunk. -/
def kap : EReal := Ideal.ofBits .f32 0x3C800000#32

/-- The mean of a chunk's rows. -/
def mean (d : Mat) (v : Fin 128) : EReal := (∑ c, d c v) * kap

/-- The new values of a chunk. -/
def vnew (s : Sta) (u w : Mat) : Mat := fun c v => u c v - ∑ k, w c k * s k v

/-- The state after a chunk. -/
def snext (s : Sta) (u w kd d : Mat) : Sta := fun k v => s k v * mean d v + ∑ c, kd c k * vnew s u w c v

/-- The gradient of the new values. -/
def dv (ds : Sta) (kd : Mat) (a : Fin 64 → Fin 64 → EReal) (g : Mat) : Mat :=
  fun c v => (∑ k, kd c k * ds k v) + ∑ c', a c' c * g c' v

/-- The gradient of the state before a chunk. -/
def dsnext (ds : Sta) (w q kd : Mat) (a : Fin 64 → Fin 64 → EReal) (d g : Mat) : Sta :=
  fun k v => ds k v * mean d v + (∑ c, q c k * g c v) + ∑ c, w c k * -(dv ds kd a g c v)

def dw (s ds : Sta) (kd : Mat) (a : Fin 64 → Fin 64 → EReal) (g : Mat) : Mat :=
  fun c k => ∑ v, -(dv ds kd a g c v) * s k v

def dq (s : Sta) (g : Mat) : Mat := fun c k => ∑ v, g c v * s k v

def dk (s ds : Sta) (u w : Mat) : Mat := fun c k => ∑ v, vnew s u w c v * ds k v

def da (s : Sta) (u w g : Mat) : Fin 64 → Fin 64 → EReal := fun c j => ∑ v, g c v * vnew s u w j v

def dd (s ds : Sta) : Fin 128 → EReal := fun v => (∑ k, s k v * ds k v) * kap

/-- A chunk and head of an array. -/
def chk (x : Arr) (n : ℕ) (h : Fin 4) : Mat :=
  fun c v => x (ix2 ⟨(64 * n + c.val) % 4096, Nat.mod_lt _ (by decide)⟩ ⟨128 * h.val + v.val, by omega⟩)

/-- The half of a pair of chunks' columns that is the chunk's own. -/
def half (n : ℕ) (a : Mat) : Fin 64 → Fin 64 → EReal := fun c j => a c ⟨64 * (n % 2) + j.val, by omega⟩

/-- The state before chunk `n`. -/
def St (u w kd d : Arr) (h : Fin 4) : ℕ → Sta
  | 0 => fun _ _ => 0
  | n + 1 => snext (St u w kd d h n) (chk u n h) (chk w n h) (chk kd n h) (chk d n h)

/-- The gradient of the state after chunk `63 - n`. -/
def Ds (w q kd a d g : Arr) (h : Fin 4) : ℕ → Sta
  | 0 => fun _ _ => 0
  | n + 1 => dsnext (Ds w q kd a d g h n) (chk w (63 - n) h) (chk q (63 - n) h) (chk kd (63 - n) h)
      (half (63 - n) (chk a (63 - n) h)) (chk d (63 - n) h) (chk g (63 - n) h)

section Grads
variable (u w q kd a d g : Arr)

def gU (n : ℕ) (h : Fin 4) : Mat := dv (Ds w q kd a d g h (63 - n)) (chk kd n h) (half n (chk a n h)) (chk g n h)
def gW (n : ℕ) (h : Fin 4) : Mat :=
  dw (St u w kd d h n) (Ds w q kd a d g h (63 - n)) (chk kd n h) (half n (chk a n h)) (chk g n h)
def gQ (n : ℕ) (h : Fin 4) : Mat := dq (St u w kd d h n) (chk g n h)
def gK (n : ℕ) (h : Fin 4) : Mat := dk (St u w kd d h n) (Ds w q kd a d g h (63 - n)) (chk u n h) (chk w n h)
def gD (n : ℕ) (h : Fin 4) : Mat := fun _ => dd (St u w kd d h n) (Ds w q kd a d g h (63 - n))
def gA (n : ℕ) (h : Fin 4) : Fin 64 → Fin 64 → EReal := da (St u w kd d h n) (chk u n h) (chk w n h) (chk g n h)

end Grads

/-- The array whose chunks and heads are given. -/
def glue (f : ℕ → Fin 4 → Mat) : Arr := fun i =>
  f ((i 0).val / 64) ⟨(i 1).val / 128, Nat.div_lt_of_lt_mul (i 1).isLt⟩ ⟨(i 0).val % 64, Nat.mod_lt _ (by decide)⟩ ⟨(i 1).val % 128, Nat.mod_lt _ (by decide)⟩

/-- A chunk's square in its half of the pair's columns, zeros in the other. -/
def wide (n : ℕ) (f : Fin 64 → Fin 64 → EReal) : Mat := fun c l =>
  if l.val / 64 = n % 2 then f c ⟨l.val % 64, Nat.mod_lt _ (by decide)⟩ else 0

theorem half_congr {n m : ℕ} (e : n % 2 = m % 2) (a : Mat) : half n a = half m a := by
  funext c j
  simp only [half, e]

theorem wide_congr {n m : ℕ} (e : n % 2 = m % 2) (f : Fin 64 → Fin 64 → EReal) : wide n f = wide m f := by
  funext c j
  simp only [wide, e]

theorem glue_apply (f : ℕ → Fin 4 → Mat) (n : ℕ) (h : Fin 4) (i : Fin 64) (j : Fin 128) (h0 : 64 * n + i.val < 4096)
    (h1 : 128 * h.val + j.val < 512) : glue f (ix2 ⟨64 * n + i.val, h0⟩ ⟨128 * h.val + j.val, h1⟩) = f n h i j := by
  have hi := i.isLt
  have hj := j.isLt
  have e0 : (64 * n + i.val) / 64 = n := by omega
  have e1 : (⟨(128 * h.val + j.val) / 128, by omega⟩ : Fin 4) = h := Fin.ext (by show (128 * h.val + j.val) / 128 = h.val; omega)
  have e2 : (⟨(64 * n + i.val) % 64, by omega⟩ : Fin 64) = i := Fin.ext (by show (64 * n + i.val) % 64 = i.val; omega)
  have e3 : (⟨(128 * h.val + j.val) % 128, by omega⟩ : Fin 128) = j := Fin.ext (by show (128 * h.val + j.val) % 128 = j.val; omega)
  show f ((64 * n + i.val) / 64) ⟨(128 * h.val + j.val) / 128, _⟩ ⟨(64 * n + i.val) % 64, _⟩ ⟨(128 * h.val + j.val) % 128, _⟩ = _
  rw [e0, e1, e2, e3]

/-- An index of an array by its chunk, head, row of the chunk and column of the head. -/
theorem idx_split (i : (⟨2, ![4096, 512]⟩ : Shape).Idx) : ∃ (n : Fin 64) (h : Fin 4) (c : Fin 64) (v : Fin 128),
    i = ix2 ⟨64 * n.val + c.val, by omega⟩ ⟨128 * h.val + v.val, by omega⟩ := by
  obtain ⟨r, l, rfl⟩ : ∃ (a : Fin 4096) (b : Fin 512), i = ix2 a b := ⟨i 0, i 1, eq_ix2 i⟩
  refine ⟨⟨r.val / 64, by omega⟩, ⟨l.val / 128, by omega⟩, ⟨r.val % 64, by omega⟩, ⟨l.val % 128, by omega⟩, ?_⟩
  congr 1
  · exact Fin.ext (by show r.val = 64 * (r.val / 64) + r.val % 64; omega)
  · exact Fin.ext (by show l.val = 128 * (l.val / 128) + l.val % 128; omega)

end Scan
-- ==== Proof.UnitsIdeal.lean ====
module

public import proofs.«01_k».proof.Proof.Units
public import proofs.«01_k».proof.Proof.Math

/-!
# The chunk operations at exact numbers
-/

@[expose] public section

set_option maxRecDepth 16384

noncomputable section

namespace Cert.KernelIdeal.Units

open Cert.KernelIdeal.Gen Scan
open Idealize.ShloMosaic Idealize.ShloMosaic.TcCoe Idealize.ShloMosaic.Tactic
open Idealize.SL

/-- A chunk's vector as a matrix. -/
def cm {φ : FTy} (x : FVec Ideal S64x128 φ) : Mat := fun c v => x (ix2 c v)
/-- A state's vector as a matrix. -/
def sm (x : FVec Ideal S128x128 .f32) : Sta := fun k v => x (ix2 k v)

theorem blk_apply {φ : EltTy} (x : Vec Ideal S256x512 φ) (ch h : Fin 4) (i : Fin 64) (j : Fin 128) :
    blk x ch h (ix2 i j) = x (ix2 ⟨64 * ch.val + i.val, by omega⟩ ⟨128 * h.val + j.val, by omega⟩) := by
  refine View.ld_unit_apply_of _ _ _ _ _ _ (fun a => ?_)
  match a with
  | ⟨0, _⟩ => rfl
  | ⟨1, _⟩ => rfl

theorem cast3 (y : Vec Ideal S1x128x128 .f32) (i j : Fin 128) :
    shapeCast S128x128 y shapeCasts_S1x128x128_S128x128 (ix2 i j) = y (ix3 0 i j) := by
  pointwise

theorem cast4 (y : Vec Ideal S1x1x128x128 .f32) (i j : Fin 128) :
    shapeCast S128x128 y shapeCasts_S1x1x128x128_S128x128 (ix2 i j) = y (ix4 0 0 i j) := by
  pointwise

theorem up3 (y : FVec Ideal S128x128 .f32) (i j : Fin 128) :
    shapeCast S1x128x128 y shapeCasts_S128x128_S1x128x128 (ix3 0 i j) = sm y i j := by
  pointwise [sm]

theorem up4 (y : FVec Ideal S128x128 .f32) (i j : Fin 128) :
    shapeCast S1x1x128x128 y shapeCasts_S128x128_S1x1x128x128 (ix4 0 0 i j) = sm y i j := by
  pointwise [sm]

theorem cast_self (y : FVec Ideal S128x128 .f32) : shapeCast S128x128 y shapeCasts_S128x128_S128x128 = y := by
  funext i
  idx_vars i
  pointwise

theorem st_sm (x : Vec Ideal S4x128x128 .f32) (h : Fin 4) : sm (st x h) = fun i j => x (ix3 h i j) := by
  funext i j
  refine (cast3 _ i j).trans ?_
  refine View.ld_unit_apply_of _ _ _ _ _ _ (fun a => ?_)
  match a with
  | ⟨0, _⟩ => rfl
  | ⟨1, _⟩ => exact (Nat.zero_add _).symm
  | ⟨2, _⟩ => exact (Nat.zero_add _).symm

theorem dst_sm (x : Vec Ideal S4x128x128 .f32) (h : Fin 4) : sm (dst x h) = fun i j => x (ix3 h i j) := by
  rw [← st_sm, dst, cast_self]

theorem sts_sm (x : Vec Ideal S4x4x128x128 .f32) (ch h : Fin 4) : sm (sts x ch h) = fun i j => x (ix4 ch h i j) := by
  funext i j
  refine (cast4 _ i j).trans ?_
  refine View.ld_unit_apply_of _ _ _ _ _ _ (fun a => ?_)
  match a with
  | ⟨0, _⟩ => rfl
  | ⟨1, _⟩ => rfl
  | ⟨2, _⟩ => exact (Nat.zero_add _).symm
  | ⟨3, _⟩ => exact (Nat.zero_add _).symm

theorem uV_mt (s : FVec Ideal S128x128 .f32) (u : Vec Ideal S64x128 .f32) (w : Vec Ideal S64x128 .bf16) :
    cm (uV s u w) = vnew (sm s) (cm (φ := .f32) u) (cm (φ := .bf16) w) := by
  funext c v
  pointwise [cm, uV, vnew, sm]

theorem uS_sm (s : FVec Ideal S128x128 .f32) (u : Vec Ideal S64x128 .f32) (w kd : Vec Ideal S64x128 .bf16) (d : Vec Ideal S64x128 .f32) :
    sm (uS s u w kd d) = snext (sm s) (cm (φ := .f32) u) (cm (φ := .bf16) w) (cm (φ := .bf16) kd) (cm (φ := .f32) d) := by
  funext c v
  pointwise [sm, cm, uS, uV, uDec, snext, vnew, mean, kap]

theorem uDv_mt (n : ℕ) (ds : FVec Ideal S128x128 .f32) (kd a : Vec Ideal S64x128 .bf16) (g : Vec Ideal S64x128 .f32) :
    cm (uDv (par n) ds kd a g) = dv (sm ds) (cm (φ := .bf16) kd) (half n (cm (φ := .bf16) a)) (cm (φ := .f32) g) := by
  funext c v
  pointwise [sm, cm, uDv, uG, par, half, dv]

theorem uNeg_mt (x : FVec Ideal S64x128 .f32) (c : Fin 64) (v : Fin 128) : cm (uNeg x) c v = -(cm x c v) := by
  pointwise [cm, uNeg]
  exact zero_sub _

theorem uDs_sm (n : ℕ) (ds : FVec Ideal S128x128 .f32) (w q kd a : Vec Ideal S64x128 .bf16) (d g : Vec Ideal S64x128 .f32) :
    sm (uDs (par n) ds w q kd a d g) = dsnext (sm ds) (cm (φ := .bf16) w) (cm (φ := .bf16) q) (cm (φ := .bf16) kd) (half n (cm (φ := .bf16) a))
      (cm (φ := .f32) d) (cm (φ := .f32) g) := by
  funext k v
  simp only [dsnext, ← uDv_mt]
  simp only [← uNeg_mt]
  pointwise [sm, cm, uDs, uG, uDec, mean, kap]

theorem uDw_mt (n : ℕ) (s ds : FVec Ideal S128x128 .f32) (kd a : Vec Ideal S64x128 .bf16) (g : Vec Ideal S64x128 .f32) :
    cm (uDw (par n) s ds kd a g) = dw (sm s) (sm ds) (cm (φ := .bf16) kd) (half n (cm (φ := .bf16) a)) (cm (φ := .f32) g) := by
  funext k v
  simp only [dw, ← uDv_mt]
  simp only [← uNeg_mt]
  pointwise [sm, cm, uDw]

theorem uDq_mt (s : FVec Ideal S128x128 .f32) (g : Vec Ideal S64x128 .f32) :
    cm (uDq s g) = dq (sm s) (cm (φ := .f32) g) := by
  funext k v
  pointwise [sm, cm, uDq, uG, dq]

theorem uDk_mt (s ds : FVec Ideal S128x128 .f32) (u : Vec Ideal S64x128 .f32) (w : Vec Ideal S64x128 .bf16) :
    cm (uDk s ds u w) = dk (sm s) (sm ds) (cm (φ := .f32) u) (cm (φ := .bf16) w) := by
  funext k v
  simp only [dk, ← uV_mt]
  pointwise [sm, cm, uDk]

theorem uDd_mt (s ds : FVec Ideal S128x128 .f32) : cm (uDd s ds) = fun _ => dd (sm s) (sm ds) := by
  funext k v
  pointwise [sm, cm, uDd, dd, kap]
  exact Fin.sum_univ_one _

theorem uPair_apply (n : ℕ) (x : FVec Ideal S64x128 .f32) (l v : Fin 128) :
    uPair (par n) x (ix2 l v) = if l.val / 64 = n % 2 then cm x ⟨l.val % 64, Nat.mod_lt _ (by decide)⟩ v else 0 := by
  rcases Nat.mod_two_eq_zero_or_one n with hn | hn
  · have e : par n = 0 := Fin.ext hn
    rw [e, hn]
    pointwise [uPair, cm]
    by_cases hl : l.val < 64
    · have h1 : l.val / 64 = 0 := by omega
      have h2 : l.val % 64 = l.val := by omega
      simp only [hl, h1, h2, dif_pos, if_pos]
    · have h1 : ¬l.val / 64 = 0 := by omega
      simp only [hl, h1, dif_neg, if_neg, not_false_eq_true]
  · have e : par n = 1 := Fin.ext hn
    rw [e, hn]
    pointwise [uPair, cm]
    by_cases hl : l.val < 64
    · have h1 : ¬l.val / 64 = 1 := by omega
      simp only [hl, h1, dif_pos, if_neg, not_false_eq_true]
    · have h1 : l.val / 64 = 1 := by omega
      have h2 : l.val % 64 = l.val - 64 := by omega
      simp only [hl, h1, h2, dif_neg, if_pos, not_false_eq_true]

theorem uDa_mt (n : ℕ) (s : FVec Ideal S128x128 .f32) (u : Vec Ideal S64x128 .f32) (w : Vec Ideal S64x128 .bf16) (g : Vec Ideal S64x128 .f32) :
    cm (uDa (par n) s u w g) = wide n (da (sm s) (cm (φ := .f32) u) (cm (φ := .bf16) w) (cm (φ := .f32) g)) := by
  funext c l
  have e : cm (uDa (par n) s u w g) c l = ∑ v, cm (φ := .f32) g c v * uPair (par n) (uV s u w) (ix2 l v) := by
    pointwise [cm, uDa, uG]
  rw [e]
  simp only [uPair_apply, wide, da, ← uV_mt]
  by_cases h : l.val / 64 = n % 2
  · simp only [h, if_true]
  · simp only [h, if_false, mul_zero, Finset.sum_const_zero]

end Cert.KernelIdeal.Units
-- ==== Proof.FwdIdeal.lean ====
module

public import proofs.«01_k».proof.Proof.FwdVal
public import proofs.«01_k».proof.Proof.UnitsIdeal

/-!
# The states the forward call leaves
-/

@[expose] public section

set_option maxRecDepth 16384

noncomputable section

namespace Cert.KernelIdeal.Fwd

open Cert.KernelIdeal.Gen Cert.KernelIdeal.Units Scan
open Idealize.ShloMosaic Idealize.ShloMosaic.TcCoe Idealize.ShloMosaic.Tactic
open Idealize.SL Idealize.SL.RA Idealize.SL.BI

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_3.index t = ![t.val, 0]
    ∧ win0_5.index t = ![t.val, 0] ∧ win0_7.index t = ![t.val, 0, 0, 0] :=
  (by decide +kernel : ∀ t : Fin grid0.N, _)

theorem u_blk (c : Dev nD) (t : Fin cfg0.N) (ch h : Fin 4) :
    cm (φ := .f32) (blk (iblk0 V c 0 t) ch h) = chk (V c (Pipeline.arrRef spec0 0)) (4 * t.val + ch.val) h := by
  funext i j
  simp only [cm, blk_apply, chk]
  have ht := t.isLt
  blk_simp [iblk0]
  refine congrArg (V c (Pipeline.arrRef spec0 0)) ?_
  blk_ext [idx0 t]

theorem w_blk (c : Dev nD) (t : Fin cfg0.N) (ch h : Fin 4) :
    cm (φ := .bf16) (blk (iblk0 V c 1 t) ch h) = chk (V c (Pipeline.arrRef spec0 1)) (4 * t.val + ch.val) h := by
  funext i j
  simp only [cm, blk_apply, chk]
  have ht := t.isLt
  blk_simp [iblk0]
  refine congrArg (V c (Pipeline.arrRef spec0 1)) ?_
  blk_ext [idx0 t]

theorem k_blk (c : Dev nD) (t : Fin cfg0.N) (ch h : Fin 4) :
    cm (φ := .bf16) (blk (iblk0 V c 3 t) ch h) = chk (V c (Pipeline.arrRef spec0 3)) (4 * t.val + ch.val) h := by
  funext i j
  simp only [cm, blk_apply, chk]
  have ht := t.isLt
  blk_simp [iblk0]
  refine congrArg (V c (Pipeline.arrRef spec0 3)) ?_
  blk_ext [idx0 t]

theorem d_blk (c : Dev nD) (t : Fin cfg0.N) (ch h : Fin 4) :
    cm (φ := .f32) (blk (iblk0 V c 5 t) ch h) = chk (V c (Pipeline.arrRef spec0 5)) (4 * t.val + ch.val) h := by
  funext i j
  simp only [cm, blk_apply, chk]
  have ht := t.isLt
  blk_simp [iblk0]
  refine congrArg (V c (Pipeline.arrRef spec0 5)) ?_
  blk_ext [idx0 t]

/-- The state before a chunk, of the arrays the call is entered with. -/
abbrev stAt (c : Dev nD) (h : Fin 4) (n : ℕ) : Sta :=
  St (V c (Pipeline.arrRef spec0 0)) (V c (Pipeline.arrRef spec0 1)) (V c (Pipeline.arrRef spec0 3)) (V c (Pipeline.arrRef spec0 5)) h n

theorem pst_sm (c : Dev nD) (t : Fin cfg0.N) (s : FVec Ideal S128x128 .f32) (h : Fin 4) (hs : sm s = stAt V c h (4 * t.val)) :
    ∀ (n : ℕ) (hn : n ≤ 4), sm (pst V c t s h n hn) = stAt V c h (4 * t.val + n)
  | 0, _ => hs
  | n + 1, hn => by
    show sm (uS (pst V c t s h n (Nat.le_of_succ_le hn)) _ _ _ _) = snext (stAt V c h (4 * t.val + n)) _ _ _ _
    rw [uS_sm, pst_sm c t s h hs n, u_blk, w_blk, k_blk, d_blk]
    rfl

theorem zero_sm (h : Fin 4) : sm (st (k0_pay5 (F := Ideal)) h) = fun _ _ => 0 := by
  rw [st_sm]
  funext i j
  pointwise [k0_pay5]

theorem st_ext (X : Vec Ideal S4x128x128 .f32) (h : Fin 4) (s : Sta) (e : ∀ i j, X (ix3 h i j) = s i j) : sm (st X h) = s := by
  rw [st_sm]
  funext i j
  exact e i j

theorem carry_val (c : Dev nD) : ∀ (n : ℕ) (hn : n < cfg0.N) (h : Fin 4) (i j : Fin 128),
    (outsAt0 V c n hn).2.2 (ix3 h i j) = stAt V c h (4 * n + 4) i j
  | 0, hn, h, i, j => by
    refine (carry_A V c ⟨0, hn⟩ rfl h i j).trans ?_
    rw [up3, pst_sm V c ⟨0, hn⟩ _ h (zero_sm h) 4]
  | n + 1, hn, h, i, j => by
    have hN : cfg0.N = 16 := rfl
    refine (carry_B V c ⟨n + 1, hn⟩ (by show ¬(n + 1) % 16 = 0; omega) h i j).trans ?_
    exact (up3 _ i j).trans (congrFun (congrFun (pst_sm V c ⟨n + 1, hn⟩ _ h (st_ext _ h _ fun i j => carry_val c n (Nat.lt_of_succ_lt hn) h i j) 4 _) i) j)

theorem states_val (c : Dev nD) (t : Fin cfg0.N) (ch h : Fin 4) (i j : Fin 128) :
    (outsAt0 V c t.val t.isLt).2.1 (ix4 ch h i j) = stAt V c h (4 * t.val + ch.val) i j := by
  obtain ⟨n, hn⟩ := t
  cases n with
  | zero =>
    refine (states_A V c ⟨0, hn⟩ rfl ch h i j).trans ?_
    rw [up4, pst_sm V c ⟨0, hn⟩ _ h (zero_sm h) ch.val]
  | succ n =>
    have hN : cfg0.N = 16 := rfl
    refine (states_B V c ⟨n + 1, hn⟩ (by show ¬(n + 1) % 16 = 0; omega) ch h i j).trans ?_
    exact (up4 _ i j).trans (congrFun (congrFun (pst_sm V c ⟨n + 1, hn⟩ _ h (st_ext _ h _ fun i j => carry_val V c n (Nat.lt_of_succ_lt hn) h i j) ch.val _) i) j)

/-- The array of states the call leaves: each chunk's and head's state before the chunk. -/
theorem states_arr (c : Dev nD) (n : Fin 64) (h : Fin 4) (i j : Fin 128) :
    (dat0 V c).arrAt 7 cfg0.N (ix4 n h i j) = stAt V c h n.val i j := by
  have key := (dat0 V c).arrAt_forall_of_covers 7
    (fun (k : S64x4x128x128.Idx) v => v = stAt V c (k 1) (k 0).val (k 2) (k 3)) (by decide +kernel) (fun t hf y => ?_) (ix4 n h i j)
  · exact key
  · have ht : t.val < 16 := t.isLt
    obtain ⟨y0, y1, y2, y3, rfl⟩ : ∃ (a b : Fin 4) (d e : Fin 128), y = ix4 a b d e := ⟨y 0, y 1, y 2, y 3, eq_ix4 y⟩
    have e : ((cfg0.win 7).blk t).view.emb (ix4 y0 y1 y2 y3) = ix4 ⟨4 * t.val + y0.val, by omega⟩ y1 y2 y3 := by
      blk_ext [idx0 t]
    rw [e]
    blk_simp
    rw [after0_7, states_val]
    rfl

end Cert.KernelIdeal.Fwd
-- ==== Proof.BwdVal.lean ====
module

public import proofs.«01_k».proof.Proof.Bwd
public import proofs.«01_k».proof.Proof.Units

/-!
# What the backward call stores at a point, as the chunk operations
-/

@[expose] public section

set_option maxRecDepth 16384

noncomputable section

namespace Cert.KernelIdeal.Bwd

open Cert.KernelIdeal.Gen Cert.KernelIdeal.Units
open Idealize.ShloMosaic Idealize.ShloMosaic.TcCoe Idealize.ShloMosaic.Tactic
open Idealize.SL Idealize.SL.RA Idealize.SL.BI

variable {F : FTy → Type} [FloatOps F]
variable (V : (c : Dev nD) → (b : Ref sig .tc) → Buf (Elt F) ((c : Thread nD τ).loc b))

/-- The state gradients of one head while a point works back through its four chunks. -/
def pds (c : Dev nD) (t : Fin cfg1.N) (ds : FVec F S128x128 .f32) (h : Fin 4) (n : ℕ) (hn : n ≤ 4) : FVec F S128x128 .f32 :=
  dchain ds (iblk1 V c 1 t) (iblk1 V c 2 t) (iblk1 V c 3 t) (iblk1 V c 4 t) (iblk1 V c 5 t) (iblk1 V c 7 t) h n hn

set_option maxHeartbeats 8000000 in
theorem du_B (c : Dev nD) (t : Fin cfg1.N) (h0 : ¬t.val % 16 = 0) (ch h : Fin 4) (i : Fin 64) (j : Fin 128) :
    (outsAt1 V c t.val t.isLt).1 (ix2 ⟨64 * ch.val + i.val, by omega⟩ ⟨128 * h.val + j.val, by omega⟩)
      = uDv (par ch.val) (pds V c t (dst (outsAt1 V c (t.val - 1) (Nat.lt_of_le_of_lt (Nat.sub_le _ _) t.isLt)).2.2.2.2.2.2 h) h (3 - ch.val) (by omega)) (blk (iblk1 V c 3 t) ch h) (blk (iblk1 V c 4 t) ch h) (blk (iblk1 V c 7 t) ch h) (ix2 i j) := by
  rw [outsAt1_B V c t h0]; unfold atB
  frame_out
  try simp only [read_unread_whole]
  generalize (outsAt1 V c (t.val - 1) (Nat.lt_of_le_of_lt (Nat.sub_le _ _) t.isLt)).2.2.2.2.2.2 = X
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dw_B (c : Dev nD) (t : Fin cfg1.N) (h0 : ¬t.val % 16 = 0) (ch h : Fin 4) (i : Fin 64) (j : Fin 128) :
    (outsAt1 V c t.val t.isLt).2.1 (ix2 ⟨64 * ch.val + i.val, by omega⟩ ⟨128 * h.val + j.val, by omega⟩)
      = uDw (par ch.val) (sts (iblk1 V c 6 t) ch h) (pds V c t (dst (outsAt1 V c (t.val - 1) (Nat.lt_of_le_of_lt (Nat.sub_le _ _) t.isLt)).2.2.2.2.2.2 h) h (3 - ch.val) (by omega)) (blk (iblk1 V c 3 t) ch h) (blk (iblk1 V c 4 t) ch h) (blk (iblk1 V c 7 t) ch h) (ix2 i j) := by
  rw [outsAt1_B V c t h0]; unfold atB
  frame_out
  try simp only [read_unread_whole]
  generalize (outsAt1 V c (t.val - 1) (Nat.lt_of_le_of_lt (Nat.sub_le _ _) t.isLt)).2.2.2.2.2.2 = X
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dq_B (c : Dev nD) (t : Fin cfg1.N) (h0 : ¬t.val % 16 = 0) (ch h : Fin 4) (i : Fin 64) (j : Fin 128) :
    (outsAt1 V c t.val t.isLt).2.2.1 (ix2 ⟨64 * ch.val + i.val, by omega⟩ ⟨128 * h.val + j.val, by omega⟩)
      = uDq (sts (iblk1 V c 6 t) ch h) (blk (iblk1 V c 7 t) ch h) (ix2 i j) := by
  rw [outsAt1_B V c t h0]; unfold atB
  frame_out
  try simp only [read_unread_whole]
  generalize (outsAt1 V c (t.val - 1) (Nat.lt_of_le_of_lt (Nat.sub_le _ _) t.isLt)).2.2.2.2.2.2 = X
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dk_B (c : Dev nD) (t : Fin cfg1.N) (h0 : ¬t.val % 16 = 0) (ch h : Fin 4) (i : Fin 64) (j : Fin 128) :
    (outsAt1 V c t.val t.isLt).2.2.2.1 (ix2 ⟨64 * ch.val + i.val, by omega⟩ ⟨128 * h.val + j.val, by omega⟩)
      = uDk (sts (iblk1 V c 6 t) ch h) (pds V c t (dst (outsAt1 V c (t.val - 1) (Nat.lt_of_le_of_lt (Nat.sub_le _ _) t.isLt)).2.2.2.2.2.2 h) h (3 - ch.val) (by omega)) (blk (iblk1 V c 0 t) ch h) (blk (iblk1 V c 1 t) ch h) (ix2 i j) := by
  rw [outsAt1_B V c t h0]; unfold atB
  frame_out
  try simp only [read_unread_whole]
  generalize (outsAt1 V c (t.val - 1) (Nat.lt_of_le_of_lt (Nat.sub_le _ _) t.isLt)).2.2.2.2.2.2 = X
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem da_B (c : Dev nD) (t : Fin cfg1.N) (h0 : ¬t.val % 16 = 0) (ch h : Fin 4) (i : Fin 64) (j : Fin 128) :
    (outsAt1 V c t.val t.isLt).2.2.2.2.1 (ix2 ⟨64 * ch.val + i.val, by omega⟩ ⟨128 * h.val + j.val, by omega⟩)
      = uDa (par ch.val) (sts (iblk1 V c 6 t) ch h) (blk (iblk1 V c 0 t) ch h) (blk (iblk1 V c 1 t) ch h) (blk (iblk1 V c 7 t) ch h) (ix2 i j) := by
  rw [outsAt1_B V c t h0]; unfold atB
  frame_out
  try simp only [read_unread_whole]
  generalize (outsAt1 V c (t.val - 1) (Nat.lt_of_le_of_lt (Nat.sub_le _ _) t.isLt)).2.2.2.2.2.2 = X
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dd_B (c : Dev nD) (t : Fin cfg1.N) (h0 : ¬t.val % 16 = 0) (ch h : Fin 4) (i : Fin 64) (j : Fin 128) :
    (outsAt1 V c t.val t.isLt).2.2.2.2.2.1 (ix2 ⟨64 * ch.val + i.val, by omega⟩ ⟨128 * h.val + j.val, by omega⟩)
      = uDd (sts (iblk1 V c 6 t) ch h) (pds V c t (dst (outsAt1 V c (t.val - 1) (Nat.lt_of_le_of_lt (Nat.sub_le _ _) t.isLt)).2.2.2.2.2.2 h) h (3 - ch.val) (by omega)) (ix2 i j) := by
  rw [outsAt1_B V c t h0]; unfold atB
  frame_out
  try simp only [read_unread_whole]
  generalize (outsAt1 V c (t.val - 1) (Nat.lt_of_le_of_lt (Nat.sub_le _ _) t.isLt)).2.2.2.2.2.2 = X
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem carry_B (c : Dev nD) (t : Fin cfg1.N) (h0 : ¬t.val % 16 = 0) (h : Fin 4) (i j : Fin 128) :
    (outsAt1 V c t.val t.isLt).2.2.2.2.2.2 (ix3 h i j)
      = shapeCast S1x128x128 (pds V c t (dst (outsAt1 V c (t.val - 1) (Nat.lt_of_le_of_lt (Nat.sub_le _ _) t.isLt)).2.2.2.2.2.2 h) h 4 (Nat.le_refl 4))
          shapeCasts_S128x128_S1x128x128 (ix3 0 i j) := by
  rw [outsAt1_B V c t h0]; unfold atB
  frame_out
  try simp only [read_unread_whole]
  generalize (outsAt1 V c (t.val - 1) (Nat.lt_of_le_of_lt (Nat.sub_le _ _) t.isLt)).2.2.2.2.2.2 = X
  obtain ⟨h, hh⟩ := h
  canon_tiles x hx
  all_goals
    (idx_vars x
     have e0 : x0 = 0 := Subsingleton.elim _ _
     subst e0
     have e1 := Fin.ext hx1
     have e2 := Fin.ext hx2
     change i = x1 at e1
     change j = x2 at e2
     subst e1 e2
     change h = _ at hx0
     subst hx0
     rfl)

set_option maxHeartbeats 8000000 in
theorem du_A (c : Dev nD) (t : Fin cfg1.N) (h0 : t.val % 16 = 0) (ch h : Fin 4) (i : Fin 64) (j : Fin 128) :
    (outsAt1 V c t.val t.isLt).1 (ix2 ⟨64 * ch.val + i.val, by omega⟩ ⟨128 * h.val + j.val, by omega⟩)
      = uDv (par ch.val) (pds V c t (dst k1_pay4 h) h (3 - ch.val) (by omega)) (blk (iblk1 V c 3 t) ch h) (blk (iblk1 V c 4 t) ch h) (blk (iblk1 V c 7 t) ch h) (ix2 i j) := by
  rw [outsAt1_A V c t h0]; unfold atA
  frame_out
  try simp (disch := decide) only [View.readCov_fill]
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dw_A (c : Dev nD) (t : Fin cfg1.N) (h0 : t.val % 16 = 0) (ch h : Fin 4) (i : Fin 64) (j : Fin 128) :
    (outsAt1 V c t.val t.isLt).2.1 (ix2 ⟨64 * ch.val + i.val, by omega⟩ ⟨128 * h.val + j.val, by omega⟩)
      = uDw (par ch.val) (sts (iblk1 V c 6 t) ch h) (pds V c t (dst k1_pay4 h) h (3 - ch.val) (by omega)) (blk (iblk1 V c 3 t) ch h) (blk (iblk1 V c 4 t) ch h) (blk (iblk1 V c 7 t) ch h) (ix2 i j) := by
  rw [outsAt1_A V c t h0]; unfold atA
  frame_out
  try simp (disch := decide) only [View.readCov_fill]
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dq_A (c : Dev nD) (t : Fin cfg1.N) (h0 : t.val % 16 = 0) (ch h : Fin 4) (i : Fin 64) (j : Fin 128) :
    (outsAt1 V c t.val t.isLt).2.2.1 (ix2 ⟨64 * ch.val + i.val, by omega⟩ ⟨128 * h.val + j.val, by omega⟩)
      = uDq (sts (iblk1 V c 6 t) ch h) (blk (iblk1 V c 7 t) ch h) (ix2 i j) := by
  rw [outsAt1_A V c t h0]; unfold atA
  frame_out
  try simp (disch := decide) only [View.readCov_fill]
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dk_A (c : Dev nD) (t : Fin cfg1.N) (h0 : t.val % 16 = 0) (ch h : Fin 4) (i : Fin 64) (j : Fin 128) :
    (outsAt1 V c t.val t.isLt).2.2.2.1 (ix2 ⟨64 * ch.val + i.val, by omega⟩ ⟨128 * h.val + j.val, by omega⟩)
      = uDk (sts (iblk1 V c 6 t) ch h) (pds V c t (dst k1_pay4 h) h (3 - ch.val) (by omega)) (blk (iblk1 V c 0 t) ch h) (blk (iblk1 V c 1 t) ch h) (ix2 i j) := by
  rw [outsAt1_A V c t h0]; unfold atA
  frame_out
  try simp (disch := decide) only [View.readCov_fill]
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem da_A (c : Dev nD) (t : Fin cfg1.N) (h0 : t.val % 16 = 0) (ch h : Fin 4) (i : Fin 64) (j : Fin 128) :
    (outsAt1 V c t.val t.isLt).2.2.2.2.1 (ix2 ⟨64 * ch.val + i.val, by omega⟩ ⟨128 * h.val + j.val, by omega⟩)
      = uDa (par ch.val) (sts (iblk1 V c 6 t) ch h) (blk (iblk1 V c 0 t) ch h) (blk (iblk1 V c 1 t) ch h) (blk (iblk1 V c 7 t) ch h) (ix2 i j) := by
  rw [outsAt1_A V c t h0]; unfold atA
  frame_out
  try simp (disch := decide) only [View.readCov_fill]
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem dd_A (c : Dev nD) (t : Fin cfg1.N) (h0 : t.val % 16 = 0) (ch h : Fin 4) (i : Fin 64) (j : Fin 128) :
    (outsAt1 V c t.val t.isLt).2.2.2.2.2.1 (ix2 ⟨64 * ch.val + i.val, by omega⟩ ⟨128 * h.val + j.val, by omega⟩)
      = uDd (sts (iblk1 V c 6 t) ch h) (pds V c t (dst k1_pay4 h) h (3 - ch.val) (by omega)) (ix2 i j) := by
  rw [outsAt1_A V c t h0]; unfold atA
  frame_out
  try simp (disch := decide) only [View.readCov_fill]
  obtain ⟨ch, hch⟩ := ch
  obtain ⟨h, hh⟩ := h
  canon_tiles x hx
  all_goals
    (idx_vars x
     change 64 * ch + i.val = _ at hx0
     change 128 * h + j.val = _ at hx1
     have ei := i.isLt
     have ej := j.isLt
     have e0 := x0.isLt
     have e1 := x1.isLt
     rcases (show ch = 0 ∨ ch = 1 ∨ ch = 2 ∨ ch = 3 by omega) with rfl | rfl | rfl | rfl <;> try (exfalso; omega)
     all_goals rcases (show h = 0 ∨ h = 1 ∨ h = 2 ∨ h = 3 by omega) with rfl | rfl | rfl | rfl <;> try (exfalso; omega)
     have ei' : i = x0 := Fin.ext (by omega)
     have ej' : j = x1 := Fin.ext (by omega)
     subst ei' ej'
     rfl)

set_option maxHeartbeats 8000000 in
theorem carry_A (c : Dev nD) (t : Fin cfg1.N) (h0 : t.val % 16 = 0) (h : Fin 4) (i j : Fin 128) :
    (outsAt1 V c t.val t.isLt).2.2.2.2.2.2 (ix3 h i j)
      = shapeCast S1x128x128 (pds V c t (dst k1_pay4 h) h 4 (Nat.le_refl 4))
          shapeCasts_S128x128_S1x128x128 (ix3 0 i j) := by
  rw [outsAt1_A V c t h0]; unfold atA
  frame_out
  try simp (disch := decide) only [View.readCov_fill]
  refine (canon_drop [_] [_, _, _, _] _ (View.cover_of_tiled_head _ _ _ (by sl_kernel_rfl) _)).trans ?_
  obtain ⟨h, hh⟩ := h
  canon_tiles x hx
  all_goals
    (idx_vars x
     have e0 : x0 = 0 := Subsingleton.elim _ _
     subst e0
     have e1 := Fin.ext hx1
     have e2 := Fin.ext hx2
     change i = x1 at e1
     change j = x2 at e2
     subst e1 e2
     change h = _ at hx0
     subst hx0
     rfl)

end Cert.KernelIdeal.Bwd
-- ==== Proof.BwdIdeal.lean ====
module

public import proofs.«01_k».proof.Proof.BwdVal
public import proofs.«01_k».proof.Proof.UnitsIdeal

/-!
# The gradients the backward call leaves
-/

@[expose] public section

set_option maxRecDepth 16384

noncomputable section

namespace Cert.KernelIdeal.Bwd

open Cert.KernelIdeal.Gen Cert.KernelIdeal.Units Scan
open Idealize.ShloMosaic Idealize.ShloMosaic.TcCoe Idealize.ShloMosaic.Tactic
open Idealize.SL Idealize.SL.RA Idealize.SL.BI

variable (V : (c : Dev nD) → (b : Ref sig .tc) → Buf (Elt Ideal) ((c : Thread nD τ).loc b))

theorem idx1 : ∀ t : Fin cfg1.N, win1_0.index t = ![15 - t.val, 0] ∧ win1_1.index t = ![15 - t.val, 0] ∧ win1_2.index t = ![15 - t.val, 0]
    ∧ win1_3.index t = ![15 - t.val, 0] ∧ win1_4.index t = ![15 - t.val, 0] ∧ win1_5.index t = ![15 - t.val, 0] ∧ win1_7.index t = ![15 - t.val, 0]
    ∧ win1_6.index t = ![15 - t.val, 0, 0, 0] :=
  (by decide +kernel : ∀ t : Fin grid1.N, _)

theorem idx1o : ∀ t : Fin cfg1.N, win1_8.index t = ![15 - t.val, 0] ∧ win1_9.index t = ![15 - t.val, 0] ∧ win1_10.index t = ![15 - t.val, 0]
    ∧ win1_11.index t = ![15 - t.val, 0] ∧ win1_12.index t = ![15 - t.val, 0] ∧ win1_13.index t = ![15 - t.val, 0] :=
  (by decide +kernel : ∀ t : Fin grid1.N, _)

theorem blk0 (c : Dev nD) (t : Fin cfg1.N) (ch h : Fin 4) :
    cm (φ := .f32) (blk (iblk1 V c 0 t) ch h) = chk (V c (Pipeline.arrRef spec1 0)) (4 * (15 - t.val) + ch.val) h := by
  funext i j
  simp only [cm, blk_apply, chk]
  have ht := t.isLt
  blk_simp [iblk1]
  refine congrArg (V c (Pipeline.arrRef spec1 0)) ?_
  blk_ext [idx1 t]

theorem blk1 (c : Dev nD) (t : Fin cfg1.N) (ch h : Fin 4) :
    cm (φ := .bf16) (blk (iblk1 V c 1 t) ch h) = chk (V c (Pipeline.arrRef spec1 1)) (4 * (15 - t.val) + ch.val) h := by
  funext i j
  simp only [cm, blk_apply, chk]
  have ht := t.isLt
  blk_simp [iblk1]
  refine congrArg (V c (Pipeline.arrRef spec1 1)) ?_
  blk_ext [idx1 t]

theorem blk2 (c : Dev nD) (t : Fin cfg1.N) (ch h : Fin 4) :
    cm (φ := .bf16) (blk (iblk1 V c 2 t) ch h) = chk (V c (Pipeline.arrRef spec1 2)) (4 * (15 - t.val) + ch.val) h := by
  funext i j
  simp only [cm, blk_apply, chk]
  have ht := t.isLt
  blk_simp [iblk1]
  refine congrArg (V c (Pipeline.arrRef spec1 2)) ?_
  blk_ext [idx1 t]

theorem blk3 (c : Dev nD) (t : Fin cfg1.N) (ch h : Fin 4) :
    cm (φ := .bf16) (blk (iblk1 V c 3 t) ch h) = chk (V c (Pipeline.arrRef spec1 3)) (4 * (15 - t.val) + ch.val) h := by
  funext i j
  simp only [cm, blk_apply, chk]
  have ht := t.isLt
  blk_simp [iblk1]
  refine congrArg (V c (Pipeline.arrRef spec1 3)) ?_
  blk_ext [idx1 t]

theorem blk4 (c : Dev nD) (t : Fin cfg1.N) (ch h : Fin 4) :
    cm (φ := .bf16) (blk (iblk1 V c 4 t) ch h) = chk (V c (Pipeline.arrRef spec1 4)) (4 * (15 - t.val) + ch.val) h := by
  funext i j
  simp only [cm, blk_apply, chk]
  have ht := t.isLt
  blk_simp [iblk1]
  refine congrArg (V c (Pipeline.arrRef spec1 4)) ?_
  blk_ext [idx1 t]

theorem blk5 (c : Dev nD) (t : Fin cfg1.N) (ch h : Fin 4) :
    cm (φ := .f32) (blk (iblk1 V c 5 t) ch h) = chk (V c (Pipeline.arrRef spec1 5)) (4 * (15 - t.val) + ch.val) h := by
  funext i j
  simp only [cm, blk_apply, chk]
  have ht := t.isLt
  blk_simp [iblk1]
  refine congrArg (V c (Pipeline.arrRef spec1 5)) ?_
  blk_ext [idx1 t]

theorem blk7 (c : Dev nD) (t : Fin cfg1.N) (ch h : Fin 4) :
    cm (φ := .f32) (blk (iblk1 V c 7 t) ch h) = chk (V c (Pipeline.arrRef spec1 7)) (4 * (15 - t.val) + ch.val) h := by
  funext i j
  simp only [cm, blk_apply, chk]
  have ht := t.isLt
  blk_simp [iblk1]
  refine congrArg (V c (Pipeline.arrRef spec1 7)) ?_
  blk_ext [idx1 t]

/-- The gradient of the state, of the arrays the call is entered with. -/
abbrev dsAt (c : Dev nD) (h : Fin 4) (n : ℕ) : Sta :=
  Ds (V c (Pipeline.arrRef spec1 1)) (V c (Pipeline.arrRef spec1 2)) (V c (Pipeline.arrRef spec1 3)) (V c (Pipeline.arrRef spec1 4)) (V c (Pipeline.arrRef spec1 5)) (V c (Pipeline.arrRef spec1 7)) h n

theorem pds_sm (c : Dev nD) (t : Fin cfg1.N) (s : FVec Ideal S128x128 .f32) (h : Fin 4) (hs : sm s = dsAt V c h (4 * t.val)) :
    ∀ (n : ℕ) (hn : n ≤ 4), sm (pds V c t s h n hn) = dsAt V c h (4 * t.val + n)
  | 0, _ => hs
  | n + 1, hn => by
    have ht : t.val < 16 := t.isLt
    show sm (uDs (par (3 - n)) (pds V c t s h n (Nat.le_of_succ_le hn)) _ _ _ _ _ _) = dsnext (dsAt V c h (4 * t.val + n)) _ _ _ _ _ _
    rw [uDs_sm, pds_sm c t s h hs n, blk1, blk2, blk3, blk4, blk5, blk7]
    have e : 4 * (15 - t.val) + (3 - n) = 63 - (4 * t.val + n) := by omega
    have e2 : (3 - n) % 2 = (63 - (4 * t.val + n)) % 2 := by omega
    rw [half_congr e2]
    simp only [e]
    rfl

theorem zero_sm (h : Fin 4) : sm (dst (k1_pay4 (F := Ideal)) h) = fun _ _ => 0 := by
  rw [dst_sm]
  funext i j
  pointwise [k1_pay4]

theorem dst_ext (X : Vec Ideal S4x128x128 .f32) (h : Fin 4) (s : Sta) (e : ∀ i j, X (ix3 h i j) = s i j) : sm (dst X h) = s := by
  rw [dst_sm]
  funext i j
  exact e i j

theorem carry_val (c : Dev nD) : ∀ (n : ℕ) (hn : n < cfg1.N) (h : Fin 4) (i j : Fin 128),
    (outsAt1 V c n hn).2.2.2.2.2.2 (ix3 h i j) = dsAt V c h (4 * n + 4) i j
  | 0, hn, h, i, j => by
    refine (carry_A V c ⟨0, hn⟩ rfl h i j).trans ?_
    rw [up3, pds_sm V c ⟨0, hn⟩ _ h (zero_sm h) 4]
  | n + 1, hn, h, i, j => by
    have hN : cfg1.N = 16 := rfl
    refine (carry_B V c ⟨n + 1, hn⟩ (by show ¬(n + 1) % 16 = 0; omega) h i j).trans ?_
    exact (up3 _ i j).trans (congrFun (congrFun (pds_sm V c ⟨n + 1, hn⟩ _ h (dst_ext _ h _ fun i j => carry_val c n (Nat.lt_of_succ_lt hn) h i j) 4 _) i) j)

section Out
variable (c : Dev nD) (SS : Fin 4 → ℕ → Sta)

theorem sts_val (hS : ∀ (n : Fin 64) (h : Fin 4) (i j : Fin 128), V c (Pipeline.arrRef spec1 6) (ix4 n h i j) = SS h n.val i j)
    (t : Fin cfg1.N) (ch h : Fin 4) : sm (sts (iblk1 V c 6 t) ch h) = SS h (4 * (15 - t.val) + ch.val) := by
  rw [sts_sm]
  funext i j
  have ht : t.val < 16 := t.isLt
  refine Eq.trans ?_ (hS ⟨4 * (15 - t.val) + ch.val, by omega⟩ h i j)
  blk_simp [iblk1]
  refine congrArg (V c (Pipeline.arrRef spec1 6)) ?_
  blk_ext [idx1 t]

theorem du_step (DS : FVec Ideal S128x128 .f32) (hS : ∀ (n : Fin 64) (h : Fin 4) (i j : Fin 128), V c (Pipeline.arrRef spec1 6) (ix4 n h i j) = SS h n.val i j) (t : Fin cfg1.N) (ch h : Fin 4) (i : Fin 64) (j : Fin 128)
    (hs : sm DS = dsAt V c h (4 * t.val)) :
    cm (φ := .f32) (uDv (par ch.val) (pds V c t DS h (3 - ch.val) (by omega)) (blk (iblk1 V c 3 t) ch h) (blk (iblk1 V c 4 t) ch h) (blk (iblk1 V c 7 t) ch h)) i j = (dv (dsAt V c h (63 - (4 * (15 - t.val) + ch.val))) (chk (V c (Pipeline.arrRef spec1 3)) (4 * (15 - t.val) + ch.val) h) (half (4 * (15 - t.val) + ch.val) (chk (V c (Pipeline.arrRef spec1 4)) (4 * (15 - t.val) + ch.val) h)) (chk (V c (Pipeline.arrRef spec1 7)) (4 * (15 - t.val) + ch.val) h)) i j := by
  have ht : t.val < 16 := t.isLt
  have e : 4 * t.val + (3 - ch.val) = 63 - (4 * (15 - t.val) + ch.val) := by omega
  have e2 : ch.val % 2 = (4 * (15 - t.val) + ch.val) % 2 := by omega
  rw [uDv_mt, pds_sm V c t _ h hs (3 - ch.val), blk3, blk4, blk7, half_congr e2]
  rw [e]

theorem du_val (hS : ∀ (n : Fin 64) (h : Fin 4) (i j : Fin 128), V c (Pipeline.arrRef spec1 6) (ix4 n h i j) = SS h n.val i j) (t : Fin cfg1.N) (ch h : Fin 4) (i : Fin 64) (j : Fin 128) :
    (outsAt1 V c t.val t.isLt).1 (ix2 ⟨64 * ch.val + i.val, by omega⟩ ⟨128 * h.val + j.val, by omega⟩)
      = (dv (dsAt V c h (63 - (4 * (15 - t.val) + ch.val))) (chk (V c (Pipeline.arrRef spec1 3)) (4 * (15 - t.val) + ch.val) h) (half (4 * (15 - t.val) + ch.val) (chk (V c (Pipeline.arrRef spec1 4)) (4 * (15 - t.val) + ch.val) h)) (chk (V c (Pipeline.arrRef spec1 7)) (4 * (15 - t.val) + ch.val) h)) i j := by
  obtain ⟨n, hn⟩ := t
  cases n with
  | zero =>
    exact (du_A V c ⟨0, hn⟩ rfl ch h i j).trans (du_step V c SS _ hS ⟨0, hn⟩ ch h i j (zero_sm h))
  | succ n =>
    have hN : cfg1.N = 16 := rfl
    exact (du_B V c ⟨n + 1, hn⟩ (by show ¬(n + 1) % 16 = 0; omega) ch h i j).trans (du_step V c SS _ hS ⟨n + 1, hn⟩ ch h i j
      (dst_ext _ h _ fun i j => carry_val V c n (Nat.lt_of_succ_lt hn) h i j))

theorem du_arr (hS : ∀ (n : Fin 64) (h : Fin 4) (i j : Fin 128), V c (Pipeline.arrRef spec1 6) (ix4 n h i j) = SS h n.val i j) :
    (dat1 V c).arrAt 8 cfg1.N = glue fun n h => dv (dsAt V c h (63 - n)) (chk (V c (Pipeline.arrRef spec1 3)) n h) (half n (chk (V c (Pipeline.arrRef spec1 4)) n h)) (chk (V c (Pipeline.arrRef spec1 7)) n h) := by
  refine (dat1 V c).arrAt_eq_of_covers 8 _ (by decide +kernel) fun t hf y => ?_
  have ht : t.val < 16 := t.isLt
  obtain ⟨r, l, rfl⟩ : ∃ (a : Fin 256) (b : Fin 512), y = ix2 a b := ⟨y 0, y 1, eq_ix2 y⟩
  obtain ⟨ch, i, hr⟩ : ∃ (ch : Fin 4) (i : Fin 64), r = ⟨64 * ch.val + i.val, by omega⟩ :=
    ⟨⟨r.val / 64, by omega⟩, ⟨r.val % 64, by omega⟩, Fin.ext (by show r.val = 64 * (r.val / 64) + r.val % 64; omega)⟩
  obtain ⟨h, j, hl⟩ : ∃ (h : Fin 4) (j : Fin 128), l = ⟨128 * h.val + j.val, by omega⟩ :=
    ⟨⟨l.val / 128, by omega⟩, ⟨l.val % 128, by omega⟩, Fin.ext (by show l.val = 128 * (l.val / 128) + l.val % 128; omega)⟩
  subst hr hl
  have e : ((cfg1.win 8).blk t).view.emb (ix2 ⟨64 * ch.val + i.val, by omega⟩ ⟨128 * h.val + j.val, by omega⟩)
      = ix2 ⟨64 * (4 * (15 - t.val) + ch.val) + i.val, by omega⟩ ⟨128 * h.val + j.val, by omega⟩ := by
    blk_ext [idx1o t]
  rw [e]
  refine Eq.trans ?_ (glue_apply _ (4 * (15 - t.val) + ch.val) h i j _ _).symm
  blk_simp
  rw [after1_8]
  exact du_val V c SS hS t ch h i j

theorem dw_step (DS : FVec Ideal S128x128 .f32) (hS : ∀ (n : Fin 64) (h : Fin 4) (i j : Fin 128), V c (Pipeline.arrRef spec1 6) (ix4 n h i j) = SS h n.val i j) (t : Fin cfg1.N) (ch h : Fin 4) (i : Fin 64) (j : Fin 128)
    (hs : sm DS = dsAt V c h (4 * t.val)) :
    cm (φ := .bf16) (uDw (par ch.val) (sts (iblk1 V c 6 t) ch h) (pds V c t DS h (3 - ch.val) (by omega)) (blk (iblk1 V c 3 t) ch h) (blk (iblk1 V c 4 t) ch h) (blk (iblk1 V c 7 t) ch h)) i j = (dw (SS h (4 * (15 - t.val) + ch.val)) (dsAt V c h (63 - (4 * (15 - t.val) + ch.val))) (chk (V c (Pipeline.arrRef spec1 3)) (4 * (15 - t.val) + ch.val) h) (half (4 * (15 - t.val) + ch.val) (chk (V c (Pipeline.arrRef spec1 4)) (4 * (15 - t.val) + ch.val) h)) (chk (V c (Pipeline.arrRef spec1 7)) (4 * (15 - t.val) + ch.val) h)) i j := by
  have ht : t.val < 16 := t.isLt
  have e : 4 * t.val + (3 - ch.val) = 63 - (4 * (15 - t.val) + ch.val) := by omega
  have e2 : ch.val % 2 = (4 * (15 - t.val) + ch.val) % 2 := by omega
  rw [uDw_mt, pds_sm V c t _ h hs (3 - ch.val), blk3, blk4, blk7, sts_val V c SS hS, half_congr e2]
  rw [e]

theorem dw_val (hS : ∀ (n : Fin 64) (h : Fin 4) (i j : Fin 128), V c (Pipeline.arrRef spec1 6) (ix4 n h i j) = SS h n.val i j) (t : Fin cfg1.N) (ch h : Fin 4) (i : Fin 64) (j : Fin 128) :
    (outsAt1 V c t.val t.isLt).2.1 (ix2 ⟨64 * ch.val + i.val, by omega⟩ ⟨128 * h.val + j.val, by omega⟩)
      = (dw (SS h (4 * (15 - t.val) + ch.val)) (dsAt V c h (63 - (4 * (15 - t.val) + ch.val))) (chk (V c (Pipeline.arrRef spec1 3)) (4 * (15 - t.val) + ch.val) h) (half (4 * (15 - t.val) + ch.val) (chk (V c (Pipeline.arrRef spec1 4)) (4 * (15 - t.val) + ch.val) h)) (chk (V c (Pipeline.arrRef spec1 7)) (4 * (15 - t.val) + ch.val) h)) i j := by
  obtain ⟨n, hn⟩ := t
  cases n with
  | zero =>
    exact (dw_A V c ⟨0, hn⟩ rfl ch h i j).trans (dw_step V c SS _ hS ⟨0, hn⟩ ch h i j (zero_sm h))
  | succ n =>
    have hN : cfg1.N = 16 := rfl
    exact (dw_B V c ⟨n + 1, hn⟩ (by show ¬(n + 1) % 16 = 0; omega) ch h i j).trans (dw_step V c SS _ hS ⟨n + 1, hn⟩ ch h i j
      (dst_ext _ h _ fun i j => carry_val V c n (Nat.lt_of_succ_lt hn) h i j))

theorem dw_arr (hS : ∀ (n : Fin 64) (h : Fin 4) (i j : Fin 128), V c (Pipeline.arrRef spec1 6) (ix4 n h i j) = SS h n.val i j) :
    (dat1 V c).arrAt 9 cfg1.N = glue fun n h => dw (SS h n) (dsAt V c h (63 - n)) (chk (V c (Pipeline.arrRef spec1 3)) n h) (half n (chk (V c (Pipeline.arrRef spec1 4)) n h)) (chk (V c (Pipeline.arrRef spec1 7)) n h) := by
  refine (dat1 V c).arrAt_eq_of_covers 9 _ (by decide +kernel) fun t hf y => ?_
  have ht : t.val < 16 := t.isLt
  obtain ⟨r, l, rfl⟩ : ∃ (a : Fin 256) (b : Fin 512), y = ix2 a b := ⟨y 0, y 1, eq_ix2 y⟩
  obtain ⟨ch, i, hr⟩ : ∃ (ch : Fin 4) (i : Fin 64), r = ⟨64 * ch.val + i.val, by omega⟩ :=
    ⟨⟨r.val / 64, by omega⟩, ⟨r.val % 64, by omega⟩, Fin.ext (by show r.val = 64 * (r.val / 64) + r.val % 64; omega)⟩
  obtain ⟨h, j, hl⟩ : ∃ (h : Fin 4) (j : Fin 128), l = ⟨128 * h.val + j.val, by omega⟩ :=
    ⟨⟨l.val / 128, by omega⟩, ⟨l.val % 128, by omega⟩, Fin.ext (by show l.val = 128 * (l.val / 128) + l.val % 128; omega)⟩
  subst hr hl
  have e : ((cfg1.win 9).blk t).view.emb (ix2 ⟨64 * ch.val + i.val, by omega⟩ ⟨128 * h.val + j.val, by omega⟩)
      = ix2 ⟨64 * (4 * (15 - t.val) + ch.val) + i.val, by omega⟩ ⟨128 * h.val + j.val, by omega⟩ := by
    blk_ext [idx1o t]
  rw [e]
  refine Eq.trans ?_ (glue_apply _ (4 * (15 - t.val) + ch.val) h i j _ _).symm
  blk_simp
  rw [after1_9]
  exact dw_val V c SS hS t ch h i j

theorem dq_step (DS : FVec Ideal S128x128 .f32) (hS : ∀ (n : Fin 64) (h : Fin 4) (i j : Fin 128), V c (Pipeline.arrRef spec1 6) (ix4 n h i j) = SS h n.val i j) (t : Fin cfg1.N) (ch h : Fin 4) (i : Fin 64) (j : Fin 128)
    (hs : sm DS = dsAt V c h (4 * t.val)) :
    cm (φ := .bf16) (uDq (sts (iblk1 V c 6 t) ch h) (blk (iblk1 V c 7 t) ch h)) i j = (dq (SS h (4 * (15 - t.val) + ch.val)) (chk (V c (Pipeline.arrRef spec1 7)) (4 * (15 - t.val) + ch.val) h)) i j := by
  have ht : t.val < 16 := t.isLt
  have e : 4 * t.val + (3 - ch.val) = 63 - (4 * (15 - t.val) + ch.val) := by omega
  have e2 : ch.val % 2 = (4 * (15 - t.val) + ch.val) % 2 := by omega
  rw [uDq_mt, blk7, sts_val V c SS hS]

theorem dq_val (hS : ∀ (n : Fin 64) (h : Fin 4) (i j : Fin 128), V c (Pipeline.arrRef spec1 6) (ix4 n h i j) = SS h n.val i j) (t : Fin cfg1.N) (ch h : Fin 4) (i : Fin 64) (j : Fin 128) :
    (outsAt1 V c t.val t.isLt).2.2.1 (ix2 ⟨64 * ch.val + i.val, by omega⟩ ⟨128 * h.val + j.val, by omega⟩)
      = (dq (SS h (4 * (15 - t.val) + ch.val)) (chk (V c (Pipeline.arrRef spec1 7)) (4 * (15 - t.val) + ch.val) h)) i j := by
  obtain ⟨n, hn⟩ := t
  cases n with
  | zero =>
    exact (dq_A V c ⟨0, hn⟩ rfl ch h i j).trans (dq_step V c SS _ hS ⟨0, hn⟩ ch h i j (zero_sm h))
  | succ n =>
    have hN : cfg1.N = 16 := rfl
    exact (dq_B V c ⟨n + 1, hn⟩ (by show ¬(n + 1) % 16 = 0; omega) ch h i j).trans (dq_step V c SS _ hS ⟨n + 1, hn⟩ ch h i j
      (dst_ext _ h _ fun i j => carry_val V c n (Nat.lt_of_succ_lt hn) h i j))

theorem dq_arr (hS : ∀ (n : Fin 64) (h : Fin 4) (i j : Fin 128), V c (Pipeline.arrRef spec1 6) (ix4 n h i j) = SS h n.val i j) :
    (dat1 V c).arrAt 10 cfg1.N = glue fun n h => dq (SS h n) (chk (V c (Pipeline.arrRef spec1 7)) n h) := by
  refine (dat1 V c).arrAt_eq_of_covers 10 _ (by decide +kernel) fun t hf y => ?_
  have ht : t.val < 16 := t.isLt
  obtain ⟨r, l, rfl⟩ : ∃ (a : Fin 256) (b : Fin 512), y = ix2 a b := ⟨y 0, y 1, eq_ix2 y⟩
  obtain ⟨ch, i, hr⟩ : ∃ (ch : Fin 4) (i : Fin 64), r = ⟨64 * ch.val + i.val, by omega⟩ :=
    ⟨⟨r.val / 64, by omega⟩, ⟨r.val % 64, by omega⟩, Fin.ext (by show r.val = 64 * (r.val / 64) + r.val % 64; omega)⟩
  obtain ⟨h, j, hl⟩ : ∃ (h : Fin 4) (j : Fin 128), l = ⟨128 * h.val + j.val, by omega⟩ :=
    ⟨⟨l.val / 128, by omega⟩, ⟨l.val % 128, by omega⟩, Fin.ext (by show l.val = 128 * (l.val / 128) + l.val % 128; omega)⟩
  subst hr hl
  have e : ((cfg1.win 10).blk t).view.emb (ix2 ⟨64 * ch.val + i.val, by omega⟩ ⟨128 * h.val + j.val, by omega⟩)
      = ix2 ⟨64 * (4 * (15 - t.val) + ch.val) + i.val, by omega⟩ ⟨128 * h.val + j.val, by omega⟩ := by
    blk_ext [idx1o t]
  rw [e]
  refine Eq.trans ?_ (glue_apply _ (4 * (15 - t.val) + ch.val) h i j _ _).symm
  blk_simp
  rw [after1_10]
  exact dq_val V c SS hS t ch h i j

theorem dk_step (DS : FVec Ideal S128x128 .f32) (hS : ∀ (n : Fin 64) (h : Fin 4) (i j : Fin 128), V c (Pipeline.arrRef spec1 6) (ix4 n h i j) = SS h n.val i j) (t : Fin cfg1.N) (ch h : Fin 4) (i : Fin 64) (j : Fin 128)
    (hs : sm DS = dsAt V c h (4 * t.val)) :
    cm (φ := .bf16) (uDk (sts (iblk1 V c 6 t) ch h) (pds V c t DS h (3 - ch.val) (by omega)) (blk (iblk1 V c 0 t) ch h) (blk (iblk1 V c 1 t) ch h)) i j = (dk (SS h (4 * (15 - t.val) + ch.val)) (dsAt V c h (63 - (4 * (15 - t.val) + ch.val))) (chk (V c (Pipeline.arrRef spec1 0)) (4 * (15 - t.val) + ch.val) h) (chk (V c (Pipeline.arrRef spec1 1)) (4 * (15 - t.val) + ch.val) h)) i j := by
  have ht : t.val < 16 := t.isLt
  have e : 4 * t.val + (3 - ch.val) = 63 - (4 * (15 - t.val) + ch.val) := by omega
  have e2 : ch.val % 2 = (4 * (15 - t.val) + ch.val) % 2 := by omega
  rw [uDk_mt, pds_sm V c t _ h hs (3 - ch.val), blk0, blk1, sts_val V c SS hS]
  rw [e]

theorem dk_val (hS : ∀ (n : Fin 64) (h : Fin 4) (i j : Fin 128), V c (Pipeline.arrRef spec1 6) (ix4 n h i j) = SS h n.val i j) (t : Fin cfg1.N) (ch h : Fin 4) (i : Fin 64) (j : Fin 128) :
    (outsAt1 V c t.val t.isLt).2.2.2.1 (ix2 ⟨64 * ch.val + i.val, by omega⟩ ⟨128 * h.val + j.val, by omega⟩)
      = (dk (SS h (4 * (15 - t.val) + ch.val)) (dsAt V c h (63 - (4 * (15 - t.val) + ch.val))) (chk (V c (Pipeline.arrRef spec1 0)) (4 * (15 - t.val) + ch.val) h) (chk (V c (Pipeline.arrRef spec1 1)) (4 * (15 - t.val) + ch.val) h)) i j := by
  obtain ⟨n, hn⟩ := t
  cases n with
  | zero =>
    exact (dk_A V c ⟨0, hn⟩ rfl ch h i j).trans (dk_step V c SS _ hS ⟨0, hn⟩ ch h i j (zero_sm h))
  | succ n =>
    have hN : cfg1.N = 16 := rfl
    exact (dk_B V c ⟨n + 1, hn⟩ (by show ¬(n + 1) % 16 = 0; omega) ch h i j).trans (dk_step V c SS _ hS ⟨n + 1, hn⟩ ch h i j
      (dst_ext _ h _ fun i j => carry_val V c n (Nat.lt_of_succ_lt hn) h i j))

theorem dk_arr (hS : ∀ (n : Fin 64) (h : Fin 4) (i j : Fin 128), V c (Pipeline.arrRef spec1 6) (ix4 n h i j) = SS h n.val i j) :
    (dat1 V c).arrAt 11 cfg1.N = glue fun n h => dk (SS h n) (dsAt V c h (63 - n)) (chk (V c (Pipeline.arrRef spec1 0)) n h) (chk (V c (Pipeline.arrRef spec1 1)) n h) := by
  refine (dat1 V c).arrAt_eq_of_covers 11 _ (by decide +kernel) fun t hf y => ?_
  have ht : t.val < 16 := t.isLt
  obtain ⟨r, l, rfl⟩ : ∃ (a : Fin 256) (b : Fin 512), y = ix2 a b := ⟨y 0, y 1, eq_ix2 y⟩
  obtain ⟨ch, i, hr⟩ : ∃ (ch : Fin 4) (i : Fin 64), r = ⟨64 * ch.val + i.val, by omega⟩ :=
    ⟨⟨r.val / 64, by omega⟩, ⟨r.val % 64, by omega⟩, Fin.ext (by show r.val = 64 * (r.val / 64) + r.val % 64; omega)⟩
  obtain ⟨h, j, hl⟩ : ∃ (h : Fin 4) (j : Fin 128), l = ⟨128 * h.val + j.val, by omega⟩ :=
    ⟨⟨l.val / 128, by omega⟩, ⟨l.val % 128, by omega⟩, Fin.ext (by show l.val = 128 * (l.val / 128) + l.val % 128; omega)⟩
  subst hr hl
  have e : ((cfg1.win 11).blk t).view.emb (ix2 ⟨64 * ch.val + i.val, by omega⟩ ⟨128 * h.val + j.val, by omega⟩)
      = ix2 ⟨64 * (4 * (15 - t.val) + ch.val) + i.val, by omega⟩ ⟨128 * h.val + j.val, by omega⟩ := by
    blk_ext [idx1o t]
  rw [e]
  refine Eq.trans ?_ (glue_apply _ (4 * (15 - t.val) + ch.val) h i j _ _).symm
  blk_simp
  rw [after1_11]
  exact dk_val V c SS hS t ch h i j

theorem da_step (DS : FVec Ideal S128x128 .f32) (hS : ∀ (n : Fin 64) (h : Fin 4) (i j : Fin 128), V c (Pipeline.arrRef spec1 6) (ix4 n h i j) = SS h n.val i j) (t : Fin cfg1.N) (ch h : Fin 4) (i : Fin 64) (j : Fin 128)
    (hs : sm DS = dsAt V c h (4 * t.val)) :
    cm (φ := .bf16) (uDa (par ch.val) (sts (iblk1 V c 6 t) ch h) (blk (iblk1 V c 0 t) ch h) (blk (iblk1 V c 1 t) ch h) (blk (iblk1 V c 7 t) ch h)) i j = (wide (4 * (15 - t.val) + ch.val) (Scan.da (SS h (4 * (15 - t.val) + ch.val)) (chk (V c (Pipeline.arrRef spec1 0)) (4 * (15 - t.val) + ch.val) h) (chk (V c (Pipeline.arrRef spec1 1)) (4 * (15 - t.val) + ch.val) h) (chk (V c (Pipeline.arrRef spec1 7)) (4 * (15 - t.val) + ch.val) h))) i j := by
  have ht : t.val < 16 := t.isLt
  have e : 4 * t.val + (3 - ch.val) = 63 - (4 * (15 - t.val) + ch.val) := by omega
  have e2 : ch.val % 2 = (4 * (15 - t.val) + ch.val) % 2 := by omega
  rw [uDa_mt, blk0, blk1, blk7, sts_val V c SS hS, wide_congr e2]

theorem da_val (hS : ∀ (n : Fin 64) (h : Fin 4) (i j : Fin 128), V c (Pipeline.arrRef spec1 6) (ix4 n h i j) = SS h n.val i j) (t : Fin cfg1.N) (ch h : Fin 4) (i : Fin 64) (j : Fin 128) :
    (outsAt1 V c t.val t.isLt).2.2.2.2.1 (ix2 ⟨64 * ch.val + i.val, by omega⟩ ⟨128 * h.val + j.val, by omega⟩)
      = (wide (4 * (15 - t.val) + ch.val) (Scan.da (SS h (4 * (15 - t.val) + ch.val)) (chk (V c (Pipeline.arrRef spec1 0)) (4 * (15 - t.val) + ch.val) h) (chk (V c (Pipeline.arrRef spec1 1)) (4 * (15 - t.val) + ch.val) h) (chk (V c (Pipeline.arrRef spec1 7)) (4 * (15 - t.val) + ch.val) h))) i j := by
  obtain ⟨n, hn⟩ := t
  cases n with
  | zero =>
    exact (da_A V c ⟨0, hn⟩ rfl ch h i j).trans (da_step V c SS _ hS ⟨0, hn⟩ ch h i j (zero_sm h))
  | succ n =>
    have hN : cfg1.N = 16 := rfl
    exact (da_B V c ⟨n + 1, hn⟩ (by show ¬(n + 1) % 16 = 0; omega) ch h i j).trans (da_step V c SS _ hS ⟨n + 1, hn⟩ ch h i j
      (dst_ext _ h _ fun i j => carry_val V c n (Nat.lt_of_succ_lt hn) h i j))

theorem da_arr (hS : ∀ (n : Fin 64) (h : Fin 4) (i j : Fin 128), V c (Pipeline.arrRef spec1 6) (ix4 n h i j) = SS h n.val i j) :
    (dat1 V c).arrAt 12 cfg1.N = glue fun n h => wide n (Scan.da (SS h n) (chk (V c (Pipeline.arrRef spec1 0)) n h) (chk (V c (Pipeline.arrRef spec1 1)) n h) (chk (V c (Pipeline.arrRef spec1 7)) n h)) := by
  refine (dat1 V c).arrAt_eq_of_covers 12 _ (by decide +kernel) fun t hf y => ?_
  have ht : t.val < 16 := t.isLt
  obtain ⟨r, l, rfl⟩ : ∃ (a : Fin 256) (b : Fin 512), y = ix2 a b := ⟨y 0, y 1, eq_ix2 y⟩
  obtain ⟨ch, i, hr⟩ : ∃ (ch : Fin 4) (i : Fin 64), r = ⟨64 * ch.val + i.val, by omega⟩ :=
    ⟨⟨r.val / 64, by omega⟩, ⟨r.val % 64, by omega⟩, Fin.ext (by show r.val = 64 * (r.val / 64) + r.val % 64; omega)⟩
  obtain ⟨h, j, hl⟩ : ∃ (h : Fin 4) (j : Fin 128), l = ⟨128 * h.val + j.val, by omega⟩ :=
    ⟨⟨l.val / 128, by omega⟩, ⟨l.val % 128, by omega⟩, Fin.ext (by show l.val = 128 * (l.val / 128) + l.val % 128; omega)⟩
  subst hr hl
  have e : ((cfg1.win 12).blk t).view.emb (ix2 ⟨64 * ch.val + i.val, by omega⟩ ⟨128 * h.val + j.val, by omega⟩)
      = ix2 ⟨64 * (4 * (15 - t.val) + ch.val) + i.val, by omega⟩ ⟨128 * h.val + j.val, by omega⟩ := by
    blk_ext [idx1o t]
  rw [e]
  refine Eq.trans ?_ (glue_apply _ (4 * (15 - t.val) + ch.val) h i j _ _).symm
  blk_simp
  rw [after1_12]
  exact da_val V c SS hS t ch h i j

theorem dd_step (DS : FVec Ideal S128x128 .f32) (hS : ∀ (n : Fin 64) (h : Fin 4) (i j : Fin 128), V c (Pipeline.arrRef spec1 6) (ix4 n h i j) = SS h n.val i j) (t : Fin cfg1.N) (ch h : Fin 4) (i : Fin 64) (j : Fin 128)
    (hs : sm DS = dsAt V c h (4 * t.val)) :
    cm (φ := .f32) (uDd (sts (iblk1 V c 6 t) ch h) (pds V c t DS h (3 - ch.val) (by omega))) i j = (fun _ => dd (SS h (4 * (15 - t.val) + ch.val)) (dsAt V c h (63 - (4 * (15 - t.val) + ch.val)))) i j := by
  have ht : t.val < 16 := t.isLt
  have e : 4 * t.val + (3 - ch.val) = 63 - (4 * (15 - t.val) + ch.val) := by omega
  have e2 : ch.val % 2 = (4 * (15 - t.val) + ch.val) % 2 := by omega
  rw [uDd_mt, pds_sm V c t _ h hs (3 - ch.val), sts_val V c SS hS]
  rw [e]

theorem dd_val (hS : ∀ (n : Fin 64) (h : Fin 4) (i j : Fin 128), V c (Pipeline.arrRef spec1 6) (ix4 n h i j) = SS h n.val i j) (t : Fin cfg1.N) (ch h : Fin 4) (i : Fin 64) (j : Fin 128) :
    (outsAt1 V c t.val t.isLt).2.2.2.2.2.1 (ix2 ⟨64 * ch.val + i.val, by omega⟩ ⟨128 * h.val + j.val, by omega⟩)
      = (fun _ => dd (SS h (4 * (15 - t.val) + ch.val)) (dsAt V c h (63 - (4 * (15 - t.val) + ch.val)))) i j := by
  obtain ⟨n, hn⟩ := t
  cases n with
  | zero =>
    exact (dd_A V c ⟨0, hn⟩ rfl ch h i j).trans (dd_step V c SS _ hS ⟨0, hn⟩ ch h i j (zero_sm h))
  | succ n =>
    have hN : cfg1.N = 16 := rfl
    exact (dd_B V c ⟨n + 1, hn⟩ (by show ¬(n + 1) % 16 = 0; omega) ch h i j).trans (dd_step V c SS _ hS ⟨n + 1, hn⟩ ch h i j
      (dst_ext _ h _ fun i j => carry_val V c n (Nat.lt_of_succ_lt hn) h i j))

theorem dd_arr (hS : ∀ (n : Fin 64) (h : Fin 4) (i j : Fin 128), V c (Pipeline.arrRef spec1 6) (ix4 n h i j) = SS h n.val i j) :
    (dat1 V c).arrAt 13 cfg1.N = glue fun n h => fun _ => dd (SS h n) (dsAt V c h (63 - n)) := by
  refine (dat1 V c).arrAt_eq_of_covers 13 _ (by decide +kernel) fun t hf y => ?_
  have ht : t.val < 16 := t.isLt
  obtain ⟨r, l, rfl⟩ : ∃ (a : Fin 256) (b : Fin 512), y = ix2 a b := ⟨y 0, y 1, eq_ix2 y⟩
  obtain ⟨ch, i, hr⟩ : ∃ (ch : Fin 4) (i : Fin 64), r = ⟨64 * ch.val + i.val, by omega⟩ :=
    ⟨⟨r.val / 64, by omega⟩, ⟨r.val % 64, by omega⟩, Fin.ext (by show r.val = 64 * (r.val / 64) + r.val % 64; omega)⟩
  obtain ⟨h, j, hl⟩ : ∃ (h : Fin 4) (j : Fin 128), l = ⟨128 * h.val + j.val, by omega⟩ :=
    ⟨⟨l.val / 128, by omega⟩, ⟨l.val % 128, by omega⟩, Fin.ext (by show l.val = 128 * (l.val / 128) + l.val % 128; omega)⟩
  subst hr hl
  have e : ((cfg1.win 13).blk t).view.emb (ix2 ⟨64 * ch.val + i.val, by omega⟩ ⟨128 * h.val + j.val, by omega⟩)
      = ix2 ⟨64 * (4 * (15 - t.val) + ch.val) + i.val, by omega⟩ ⟨128 * h.val + j.val, by omega⟩ := by
    blk_ext [idx1o t]
  rw [e]
  refine Eq.trans ?_ (glue_apply _ (4 * (15 - t.val) + ch.val) h i j _ _).symm
  blk_simp
  rw [after1_13]
  exact dd_val V c SS hS t ch h i j

end Out

end Cert.KernelIdeal.Bwd
-- ==== Proof.KerFinal.lean ====
module

public import proofs.«01_k».proof.Proof.Run
public import proofs.«01_k».proof.Proof.FwdIdeal
public import proofs.«01_k».proof.Proof.BwdIdeal

/-!
# The results of the kernel
-/

@[expose] public section

set_option maxRecDepth 16384

noncomputable section

namespace Cert.KernelIdeal.Final

open Cert.KernelIdeal.Gen Cert.KernelIdeal.Units Cert.KernelIdeal.Run Scan
open Idealize.ShloMosaic Idealize.ShloMosaic.TcCoe Idealize.ShloMosaic.Tactic
open Idealize.SL Idealize.SL.RA Idealize.SL.BI

variable (m : (ℓ : Loc nD τ sig) → Buf (Elt Ideal) ℓ) (ρ : Dev nD → PrngReg) (c : Dev nD)

/-- The argument arrays. -/
abbrev Au : Arr := m ((c.tc : Thread nD τ).loc main_arg0)
abbrev Aw : Arr := m ((c.tc : Thread nD τ).loc main_arg1)
abbrev Aq : Arr := m ((c.tc : Thread nD τ).loc main_arg2)
abbrev Ak : Arr := m ((c.tc : Thread nD τ).loc main_arg3)
abbrev Aa : Arr := m ((c.tc : Thread nD τ).loc main_arg4)
abbrev Ad : Arr := m ((c.tc : Thread nD τ).loc main_arg5)
abbrev Ag : Arr := m ((c.tc : Thread nD τ).loc main_arg6)

/-- The states the second call reads are the scan's. -/
theorem states (n : Fin 64) (h : Fin 4) (i j : Fin 128) :
    V1 m ρ c (Pipeline.arrRef spec1 6) (ix4 n h i j) = St (Au m c) (Aw m c) (Ak m c) (Ad m c) h n.val i j :=
  (congrFun (W1_arr m ρ c 7) (ix4 n h i j)).trans (Fwd.states_arr (V0 m ρ) c n h i j)

theorem arru : V1 m ρ c (Pipeline.arrRef spec1 0) = Au m c := W1_args m ρ c main_arg0 (by decide)
theorem arrw : V1 m ρ c (Pipeline.arrRef spec1 1) = Aw m c := W1_args m ρ c main_arg1 (by decide)
theorem arrq : V1 m ρ c (Pipeline.arrRef spec1 2) = Aq m c := W1_args m ρ c main_arg2 (by decide)
theorem arrk : V1 m ρ c (Pipeline.arrRef spec1 3) = Ak m c := W1_args m ρ c main_arg3 (by decide)
theorem arra : V1 m ρ c (Pipeline.arrRef spec1 4) = Aa m c := W1_args m ρ c main_arg4 (by decide)
theorem arrd : V1 m ρ c (Pipeline.arrRef spec1 5) = Ad m c := W1_args m ρ c main_arg5 (by decide)
theorem arrg : V1 m ρ c (Pipeline.arrRef spec1 7) = Ag m c := W1_args m ρ c main_arg6 (by decide)
/-- The same, of the arrays the second call finds. -/
theorem states' (n : Fin 64) (h : Fin 4) (i j : Fin 128) :
    V1 m ρ c (Pipeline.arrRef spec1 6) (ix4 n h i j) = St (V1 m ρ c (Pipeline.arrRef spec1 0)) (V1 m ρ c (Pipeline.arrRef spec1 1)) (V1 m ρ c (Pipeline.arrRef spec1 3)) (V1 m ρ c (Pipeline.arrRef spec1 5)) h n.val i j := by
  rw [arru, arrw, arrk, arrd]
  exact states m ρ c n h i j

theorem res0 : W2 m ρ c (Proc.devRef .tc main_v1_0) = glue fun n h => gU (Aw m c) (Aq m c) (Ak m c) (Aa m c) (Ad m c) (Ag m c) n h := by
  refine ((W2_arr m ρ c 8).trans (Bwd.du_arr (V1 m ρ) c (St (V1 m ρ c (Pipeline.arrRef spec1 0)) (V1 m ρ c (Pipeline.arrRef spec1 1)) (V1 m ρ c (Pipeline.arrRef spec1 3)) (V1 m ρ c (Pipeline.arrRef spec1 5))) (states' m ρ c))).trans ?_
  show (glue fun n h => gU (V1 m ρ c (Pipeline.arrRef spec1 1)) (V1 m ρ c (Pipeline.arrRef spec1 2)) (V1 m ρ c (Pipeline.arrRef spec1 3)) (V1 m ρ c (Pipeline.arrRef spec1 4)) (V1 m ρ c (Pipeline.arrRef spec1 5)) (V1 m ρ c (Pipeline.arrRef spec1 7)) n h) = _
  rw [arrw, arrq, arrk, arra, arrd, arrg]

theorem res1 : W2 m ρ c (Proc.devRef .tc main_v1_1) = glue fun n h => gW (Au m c) (Aw m c) (Aq m c) (Ak m c) (Aa m c) (Ad m c) (Ag m c) n h := by
  refine ((W2_arr m ρ c 9).trans (Bwd.dw_arr (V1 m ρ) c (St (V1 m ρ c (Pipeline.arrRef spec1 0)) (V1 m ρ c (Pipeline.arrRef spec1 1)) (V1 m ρ c (Pipeline.arrRef spec1 3)) (V1 m ρ c (Pipeline.arrRef spec1 5))) (states' m ρ c))).trans ?_
  show (glue fun n h => gW (V1 m ρ c (Pipeline.arrRef spec1 0)) (V1 m ρ c (Pipeline.arrRef spec1 1)) (V1 m ρ c (Pipeline.arrRef spec1 2)) (V1 m ρ c (Pipeline.arrRef spec1 3)) (V1 m ρ c (Pipeline.arrRef spec1 4)) (V1 m ρ c (Pipeline.arrRef spec1 5)) (V1 m ρ c (Pipeline.arrRef spec1 7)) n h) = _
  rw [arru, arrw, arrq, arrk, arra, arrd, arrg]

theorem res2 : W2 m ρ c (Proc.devRef .tc main_v1_2) = glue fun n h => gQ (Au m c) (Aw m c) (Ak m c) (Ad m c) (Ag m c) n h := by
  refine ((W2_arr m ρ c 10).trans (Bwd.dq_arr (V1 m ρ) c (St (V1 m ρ c (Pipeline.arrRef spec1 0)) (V1 m ρ c (Pipeline.arrRef spec1 1)) (V1 m ρ c (Pipeline.arrRef spec1 3)) (V1 m ρ c (Pipeline.arrRef spec1 5))) (states' m ρ c))).trans ?_
  show (glue fun n h => gQ (V1 m ρ c (Pipeline.arrRef spec1 0)) (V1 m ρ c (Pipeline.arrRef spec1 1)) (V1 m ρ c (Pipeline.arrRef spec1 3)) (V1 m ρ c (Pipeline.arrRef spec1 5)) (V1 m ρ c (Pipeline.arrRef spec1 7)) n h) = _
  rw [arru, arrw, arrk, arrd, arrg]

theorem res3 : W2 m ρ c (Proc.devRef .tc main_v1_3) = glue fun n h => gK (Au m c) (Aw m c) (Aq m c) (Ak m c) (Aa m c) (Ad m c) (Ag m c) n h := by
  refine ((W2_arr m ρ c 11).trans (Bwd.dk_arr (V1 m ρ) c (St (V1 m ρ c (Pipeline.arrRef spec1 0)) (V1 m ρ c (Pipeline.arrRef spec1 1)) (V1 m ρ c (Pipeline.arrRef spec1 3)) (V1 m ρ c (Pipeline.arrRef spec1 5))) (states' m ρ c))).trans ?_
  show (glue fun n h => gK (V1 m ρ c (Pipeline.arrRef spec1 0)) (V1 m ρ c (Pipeline.arrRef spec1 1)) (V1 m ρ c (Pipeline.arrRef spec1 2)) (V1 m ρ c (Pipeline.arrRef spec1 3)) (V1 m ρ c (Pipeline.arrRef spec1 4)) (V1 m ρ c (Pipeline.arrRef spec1 5)) (V1 m ρ c (Pipeline.arrRef spec1 7)) n h) = _
  rw [arru, arrw, arrq, arrk, arra, arrd, arrg]

theorem res4 : W2 m ρ c (Proc.devRef .tc main_v1_4) = glue fun n h => wide n (gA (Au m c) (Aw m c) (Ak m c) (Ad m c) (Ag m c) n h) := by
  refine ((W2_arr m ρ c 12).trans (Bwd.da_arr (V1 m ρ) c (St (V1 m ρ c (Pipeline.arrRef spec1 0)) (V1 m ρ c (Pipeline.arrRef spec1 1)) (V1 m ρ c (Pipeline.arrRef spec1 3)) (V1 m ρ c (Pipeline.arrRef spec1 5))) (states' m ρ c))).trans ?_
  show (glue fun n h => wide n (gA (V1 m ρ c (Pipeline.arrRef spec1 0)) (V1 m ρ c (Pipeline.arrRef spec1 1)) (V1 m ρ c (Pipeline.arrRef spec1 3)) (V1 m ρ c (Pipeline.arrRef spec1 5)) (V1 m ρ c (Pipeline.arrRef spec1 7)) n h)) = _
  rw [arru, arrw, arrk, arrd, arrg]

theorem res5 : W2 m ρ c (Proc.devRef .tc main_v1_5) = glue fun n h => gD (Au m c) (Aw m c) (Aq m c) (Ak m c) (Aa m c) (Ad m c) (Ag m c) n h := by
  refine ((W2_arr m ρ c 13).trans (Bwd.dd_arr (V1 m ρ) c (St (V1 m ρ c (Pipeline.arrRef spec1 0)) (V1 m ρ c (Pipeline.arrRef spec1 1)) (V1 m ρ c (Pipeline.arrRef spec1 3)) (V1 m ρ c (Pipeline.arrRef spec1 5))) (states' m ρ c))).trans ?_
  show (glue fun n h => gD (V1 m ρ c (Pipeline.arrRef spec1 0)) (V1 m ρ c (Pipeline.arrRef spec1 1)) (V1 m ρ c (Pipeline.arrRef spec1 2)) (V1 m ρ c (Pipeline.arrRef spec1 3)) (V1 m ρ c (Pipeline.arrRef spec1 4)) (V1 m ρ c (Pipeline.arrRef spec1 5)) (V1 m ρ c (Pipeline.arrRef spec1 7)) n h) = _
  rw [arru, arrw, arrq, arrk, arra, arrd, arrg]

end Cert.KernelIdeal.Final
-- ==== Proof.RefOps.lean ====
module

public import proofs.«01_k».proof.Proof.Gen.ReferenceIdeal
public import Idealize.ShloMosaic.Lib.StableHlo.RunLoop
public import Idealize.ShloMosaic.Lib.StableHlo.RunRead
public import Idealize.ShloMosaic.Lib.Pipeline.RegionsLoop
public import Idealize.ShloMosaic.Lib.Scf.ExitTest
public import Idealize.ShloMosaic.Lib.Scf.Counter
public import Idealize.ShloMosaic.Adequacy
public import Idealize.ShloMosaic.Init

/-!
# The reference's operations, stretch by stretch

The reference is straight lines of host operations around two loops.  Each line is written here as a list of operations,
each loop body as a list of such lines (a call of a small indexing function is a line of its own), and the printed program
is shown to be the chain of these.
-/

@[expose] public section

set_option maxRecDepth 16384

noncomputable section

namespace Cert.ReferenceIdeal.Ops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- A straight line of operations, and an array of a given shape and element type. -/
abbrev Line (F : FTy → Type) [FloatOps F] := List (HloOp τ sig (Elt F))
abbrev Ct (F : FTy → Type) [FloatOps F] (s : Shape) (e : EltTy) := (⟨s, e⟩ : BufTy).Contents (Elt F)

/-- A line touches the host's arrays only, asks for no new one, and writes only to those listed. -/
abbrev Own (l : Line F) : Prop := l.Forall fun op => op.bufs ⊆ tcRefs τ sig
abbrev NoFresh (l : Line F) : Prop := l.Forall fun op => op.fresh = ∅
abbrev WritesIn (l : Line F) (W : List (Ref sig .tc)) : Prop := l.Forall fun op => op.writes ⊆ (W.map (Proc.devRef (τ := τ) .tc)).toFinset

/-- The type of the program's pieces. -/
abbrev Pr (F : FTy → Type) [FloatOps F] := Prog (TpuEff nD τ sig (Elt F) (HostLoop.Sig (Pipeline.Sig Λ₀ (Fin 0) fun p => (pcfgs (F := F) p).Adm) 2) .tc) PUnit

/-! ## The indexing functions -/

/-- The operations of one call of this indexing function. -/
abbrev idxRow (arg0 : TRef sig ⟨S64x4x64x128, .f32⟩) (arg1 : TRef sig ⟨S_, .i32⟩) (φ : fn_dynamic_index_in_dim.Bufs) : Line F :=
  [TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x4x64x128 x (fun k => (i k (Shape.Idx.first h_S_)).toInt) sliceFits_S64x4x64x128_S1x4x64x128),
    TRef.reshape φ.v0 φ.v1 (rfl : (.f32 : EltTy) = .f32) shapeCasts_S1x4x64x128_S4x64x128]
theorem idxRow_sub (arg0 : TRef sig ⟨S64x4x64x128, .f32⟩) (arg1 : TRef sig ⟨S_, .i32⟩) (φ : fn_dynamic_index_in_dim.Bufs) : Own (F := F) (idxRow arg0 arg1 φ) :=
  ⟨nullary_bufs_sub .., nullary_bufs_sub .., nullary_bufs_sub .., unaryIndexed_bufs_sub .., reshape_bufs_sub ..⟩
theorem idxRow_fresh (arg0 : TRef sig ⟨S64x4x64x128, .f32⟩) (arg1 : TRef sig ⟨S_, .i32⟩) (φ : fn_dynamic_index_in_dim.Bufs) : NoFresh (F := F) (idxRow arg0 arg1 φ) :=
  forall_fresh_of_map rfl

/-- The operations of one call of this indexing function. -/
abbrev idxAttn (arg0 : TRef sig ⟨S64x4x64x64, .f32⟩) (arg1 : TRef sig ⟨S_, .i32⟩) (φ : fn_dynamic_index_in_dim_0.Bufs) : Line F :=
  [TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x4x64x64 x (fun k => (i k (Shape.Idx.first h_S_)).toInt) sliceFits_S64x4x64x64_S1x4x64x64),
    TRef.reshape φ.v0 φ.v1 (rfl : (.f32 : EltTy) = .f32) shapeCasts_S1x4x64x64_S4x64x64]
theorem idxAttn_sub (arg0 : TRef sig ⟨S64x4x64x64, .f32⟩) (arg1 : TRef sig ⟨S_, .i32⟩) (φ : fn_dynamic_index_in_dim_0.Bufs) : Own (F := F) (idxAttn arg0 arg1 φ) :=
  ⟨nullary_bufs_sub .., nullary_bufs_sub .., nullary_bufs_sub .., unaryIndexed_bufs_sub .., reshape_bufs_sub ..⟩
theorem idxAttn_fresh (arg0 : TRef sig ⟨S64x4x64x64, .f32⟩) (arg1 : TRef sig ⟨S_, .i32⟩) (φ : fn_dynamic_index_in_dim_0.Bufs) : NoFresh (F := F) (idxAttn arg0 arg1 φ) :=
  forall_fresh_of_map rfl

/-- The operations of one call of this indexing function. -/
abbrev idxState (arg0 : TRef sig ⟨S64x4x128x128, .f32⟩) (arg1 : TRef sig ⟨S_, .i32⟩) (φ : fn_dynamic_index_in_dim_3.Bufs) : Line F :=
  [TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x4x128x128 x (fun k => (i k (Shape.Idx.first h_S_)).toInt) sliceFits_S64x4x128x128_S1x4x128x128),
    TRef.reshape φ.v0 φ.v1 (rfl : (.f32 : EltTy) = .f32) shapeCasts_S1x4x128x128_S4x128x128]
theorem idxState_sub (arg0 : TRef sig ⟨S64x4x128x128, .f32⟩) (arg1 : TRef sig ⟨S_, .i32⟩) (φ : fn_dynamic_index_in_dim_3.Bufs) : Own (F := F) (idxState arg0 arg1 φ) :=
  ⟨nullary_bufs_sub .., nullary_bufs_sub .., nullary_bufs_sub .., unaryIndexed_bufs_sub .., reshape_bufs_sub ..⟩
theorem idxState_fresh (arg0 : TRef sig ⟨S64x4x128x128, .f32⟩) (arg1 : TRef sig ⟨S_, .i32⟩) (φ : fn_dynamic_index_in_dim_3.Bufs) : NoFresh (F := F) (idxState arg0 arg1 φ) :=
  forall_fresh_of_map rfl

/-- The operations of one call of this indexing function. -/
abbrev idxMean (arg0 : TRef sig ⟨S64x4x1x128, .f32⟩) (arg1 : TRef sig ⟨S_, .i32⟩) (φ : fn_dynamic_index_in_dim_4.Bufs) : Line F :=
  [TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x4x1x128 x (fun k => (i k (Shape.Idx.first h_S_)).toInt) sliceFits_S64x4x1x128_S1x4x1x128),
    TRef.reshape φ.v0 φ.v1 (rfl : (.f32 : EltTy) = .f32) shapeCasts_S1x4x1x128_S4x1x128]
theorem idxMean_sub (arg0 : TRef sig ⟨S64x4x1x128, .f32⟩) (arg1 : TRef sig ⟨S_, .i32⟩) (φ : fn_dynamic_index_in_dim_4.Bufs) : Own (F := F) (idxMean arg0 arg1 φ) :=
  ⟨nullary_bufs_sub .., nullary_bufs_sub .., nullary_bufs_sub .., unaryIndexed_bufs_sub .., reshape_bufs_sub ..⟩
theorem idxMean_fresh (arg0 : TRef sig ⟨S64x4x1x128, .f32⟩) (arg1 : TRef sig ⟨S_, .i32⟩) (φ : fn_dynamic_index_in_dim_4.Bufs) : NoFresh (F := F) (idxMean arg0 arg1 φ) :=
  forall_fresh_of_map rfl

/-- The operations of one call of this indexing function. -/
abbrev updRow (arg0 : TRef sig ⟨S64x4x64x128, .f32⟩) (arg1 : TRef sig ⟨S4x64x128, .f32⟩) (arg2 : TRef sig ⟨S_, .i32⟩) (φ : fn_dynamic_update_index_in_dim.Bufs) : Line F :=
  [TRef.unary arg1 φ.v0 (broadcastInDim S1x4x64x128 ![1, 2, 3] bcast_S4x64x128_S1x4x64x128_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S64x4x64x128_S1x4x64x128)]
theorem updRow_sub (arg0 : TRef sig ⟨S64x4x64x128, .f32⟩) (arg1 : TRef sig ⟨S4x64x128, .f32⟩) (arg2 : TRef sig ⟨S_, .i32⟩) (φ : fn_dynamic_update_index_in_dim.Bufs) : Own (F := F) (updRow arg0 arg1 arg2 φ) :=
  ⟨unary_bufs_sub .., nullary_bufs_sub .., nullary_bufs_sub .., nullary_bufs_sub .., binaryIndexed_bufs_sub ..⟩
theorem updRow_fresh (arg0 : TRef sig ⟨S64x4x64x128, .f32⟩) (arg1 : TRef sig ⟨S4x64x128, .f32⟩) (arg2 : TRef sig ⟨S_, .i32⟩) (φ : fn_dynamic_update_index_in_dim.Bufs) : NoFresh (F := F) (updRow arg0 arg1 arg2 φ) :=
  forall_fresh_of_map rfl

/-- The operations of one call of this indexing function. -/
abbrev updState (arg0 : TRef sig ⟨S64x4x128x128, .f32⟩) (arg1 : TRef sig ⟨S4x128x128, .f32⟩) (arg2 : TRef sig ⟨S_, .i32⟩) (φ : fn_dynamic_update_index_in_dim_1.Bufs) : Line F :=
  [TRef.unary arg1 φ.v0 (broadcastInDim S1x4x128x128 ![1, 2, 3] bcast_S4x128x128_S1x4x128x128_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S64x4x128x128_S1x4x128x128)]
theorem updState_sub (arg0 : TRef sig ⟨S64x4x128x128, .f32⟩) (arg1 : TRef sig ⟨S4x128x128, .f32⟩) (arg2 : TRef sig ⟨S_, .i32⟩) (φ : fn_dynamic_update_index_in_dim_1.Bufs) : Own (F := F) (updState arg0 arg1 arg2 φ) :=
  ⟨unary_bufs_sub .., nullary_bufs_sub .., nullary_bufs_sub .., nullary_bufs_sub .., binaryIndexed_bufs_sub ..⟩
theorem updState_fresh (arg0 : TRef sig ⟨S64x4x128x128, .f32⟩) (arg1 : TRef sig ⟨S4x128x128, .f32⟩) (arg2 : TRef sig ⟨S_, .i32⟩) (φ : fn_dynamic_update_index_in_dim_1.Bufs) : NoFresh (F := F) (updState arg0 arg1 arg2 φ) :=
  forall_fresh_of_map rfl

/-- The operations of one call of this indexing function. -/
abbrev updMean (arg0 : TRef sig ⟨S64x4x1x128, .f32⟩) (arg1 : TRef sig ⟨S4x1x128, .f32⟩) (arg2 : TRef sig ⟨S_, .i32⟩) (φ : fn_dynamic_update_index_in_dim_2.Bufs) : Line F :=
  [TRef.unary arg1 φ.v0 (broadcastInDim S1x4x1x128 ![1, 2, 3] bcast_S4x1x128_S1x4x1x128_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S64x4x1x128_S1x4x1x128)]
theorem updMean_sub (arg0 : TRef sig ⟨S64x4x1x128, .f32⟩) (arg1 : TRef sig ⟨S4x1x128, .f32⟩) (arg2 : TRef sig ⟨S_, .i32⟩) (φ : fn_dynamic_update_index_in_dim_2.Bufs) : Own (F := F) (updMean arg0 arg1 arg2 φ) :=
  ⟨unary_bufs_sub .., nullary_bufs_sub .., nullary_bufs_sub .., nullary_bufs_sub .., binaryIndexed_bufs_sub ..⟩
theorem updMean_fresh (arg0 : TRef sig ⟨S64x4x1x128, .f32⟩) (arg1 : TRef sig ⟨S4x1x128, .f32⟩) (arg2 : TRef sig ⟨S_, .i32⟩) (φ : fn_dynamic_update_index_in_dim_2.Bufs) : NoFresh (F := F) (updMean arg0 arg1 arg2 φ) :=
  forall_fresh_of_map rfl

/-- The operations of one call of this indexing function. -/
abbrev updAttn (arg0 : TRef sig ⟨S64x4x64x64, .f32⟩) (arg1 : TRef sig ⟨S4x64x64, .f32⟩) (arg2 : TRef sig ⟨S_, .i32⟩) (φ : fn_dynamic_update_index_in_dim_5.Bufs) : Line F :=
  [TRef.unary arg1 φ.v0 (broadcastInDim S1x4x64x64 ![1, 2, 3] bcast_S4x64x64_S1x4x64x64_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S64x4x64x64_S1x4x64x64)]
theorem updAttn_sub (arg0 : TRef sig ⟨S64x4x64x64, .f32⟩) (arg1 : TRef sig ⟨S4x64x64, .f32⟩) (arg2 : TRef sig ⟨S_, .i32⟩) (φ : fn_dynamic_update_index_in_dim_5.Bufs) : Own (F := F) (updAttn arg0 arg1 arg2 φ) :=
  ⟨unary_bufs_sub .., nullary_bufs_sub .., nullary_bufs_sub .., nullary_bufs_sub .., binaryIndexed_bufs_sub ..⟩
theorem updAttn_fresh (arg0 : TRef sig ⟨S64x4x64x64, .f32⟩) (arg1 : TRef sig ⟨S4x64x64, .f32⟩) (arg2 : TRef sig ⟨S_, .i32⟩) (φ : fn_dynamic_update_index_in_dim_5.Bufs) : NoFresh (F := F) (updAttn arg0 arg1 arg2 φ) :=
  forall_fresh_of_map rfl

/-! ## The lines outside the loops -/

/-- Before the first loop. -/
abbrev preOps : Line F :=
  [unary main_arg4 main_v0 ((extf .f32 · bitsLt_bf16_f32) : Ct F S4096x512 .bf16 → Ct F S4096x512 .f32),
    reshape main_v0 main_v1 (rfl : (.f32 : EltTy) = .f32) shapeCasts_S4096x512_S32x2x64x4x2x64,
    unary main_v1 main_v2 ((extractStridedSlice S32x1x64x4x1x64 ![0, 0, 0, 0, 0, 0] · slices_S32x2x64x4x2x64_S32x1x64x4x1x64_0_0_0_0_0_0) : Ct F S32x2x64x4x2x64 .f32 → Ct F S32x1x64x4x1x64 .f32),
    reshape main_v2 main_v3 (rfl : (.f32 : EltTy) = .f32) shapeCasts_S32x1x64x4x1x64_S32x64x4x64,
    unary main_v1 main_v4 ((extractStridedSlice S32x1x64x4x1x64 ![0, 1, 0, 0, 1, 0] · slices_S32x2x64x4x2x64_S32x1x64x4x1x64_0_1_0_0_1_0) : Ct F S32x2x64x4x2x64 .f32 → Ct F S32x1x64x4x1x64 .f32),
    reshape main_v4 main_v5 (rfl : (.f32 : EltTy) = .f32) shapeCasts_S32x1x64x4x1x64_S32x64x4x64,
    unary main_v3 main_v6 (broadcastInDim S32x1x64x4x64 ![0, 2, 3, 4] bcast_S32x64x4x64_S32x1x64x4x64_0_2_3_4 : Ct F S32x64x4x64 .f32 → Ct F S32x1x64x4x64 .f32),
    unary main_v5 main_v7 (broadcastInDim S32x1x64x4x64 ![0, 2, 3, 4] bcast_S32x64x4x64_S32x1x64x4x64_0_2_3_4 : Ct F S32x64x4x64 .f32 → Ct F S32x1x64x4x64 .f32),
    binary main_v6 main_v7 main_v8 ((fun a b => concatenate S32x2x64x4x64 1 [⟨S32x1x64x4x64, a⟩, ⟨S32x1x64x4x64, b⟩] concatenates_S32x1x64x4x64_S32x1x64x4x64_S32x2x64x4x64_d1) : Ct F S32x1x64x4x64 .f32 → Ct F S32x1x64x4x64 .f32 → Ct F S32x2x64x4x64 .f32),
    reshape main_v8 main_v9 (rfl : (.f32 : EltTy) = .f32) shapeCasts_S32x2x64x4x64_S64x64x4x64,
    unary main_v9 main_v10 ((transpose S64x4x64x64 [0, 2, 1, 3] · transposes_S64x64x4x64_S64x4x64x64_0_2_1_3) : Ct F S64x64x4x64 .f32 → Ct F S64x4x64x64 .f32),
    unary main_arg2 main_v11 ((extf .f32 · bitsLt_bf16_f32) : Ct F S4096x512 .bf16 → Ct F S4096x512 .f32),
    reshape main_v11 main_v12 (rfl : (.f32 : EltTy) = .f32) shapeCasts_S4096x512_S64x64x4x128,
    unary main_v12 main_v13 ((transpose S64x4x64x128 [0, 2, 1, 3] · transposes_S64x64x4x128_S64x4x64x128_0_2_1_3) : Ct F S64x64x4x128 .f32 → Ct F S64x4x64x128 .f32),
    unary main_arg3 main_v14 ((extf .f32 · bitsLt_bf16_f32) : Ct F S4096x512 .bf16 → Ct F S4096x512 .f32),
    reshape main_v14 main_v15 (rfl : (.f32 : EltTy) = .f32) shapeCasts_S4096x512_S64x64x4x128,
    unary main_v15 main_v16 ((transpose S64x4x64x128 [0, 2, 1, 3] · transposes_S64x64x4x128_S64x4x64x128_0_2_1_3) : Ct F S64x64x4x128 .f32 → Ct F S64x4x64x128 .f32),
    reshape main_arg0 main_v17 (rfl : (.f32 : EltTy) = .f32) shapeCasts_S4096x512_S64x64x4x128,
    unary main_v17 main_v18 ((transpose S64x4x64x128 [0, 2, 1, 3] · transposes_S64x64x4x128_S64x4x64x128_0_2_1_3) : Ct F S64x64x4x128 .f32 → Ct F S64x4x64x128 .f32),
    unary main_arg1 main_v19 ((extf .f32 · bitsLt_bf16_f32) : Ct F S4096x512 .bf16 → Ct F S4096x512 .f32),
    reshape main_v19 main_v20 (rfl : (.f32 : EltTy) = .f32) shapeCasts_S4096x512_S64x64x4x128,
    unary main_v20 main_v21 ((transpose S64x4x64x128 [0, 2, 1, 3] · transposes_S64x64x4x128_S64x4x64x128_0_2_1_3) : Ct F S64x64x4x128 .f32 → Ct F S64x4x64x128 .f32),
    reshape main_arg5 main_v22 (rfl : (.f32 : EltTy) = .f32) shapeCasts_S4096x512_S64x64x4x128,
    unary main_v22 main_v23 ((transpose S64x4x64x128 [0, 2, 1, 3] · transposes_S64x64x4x128_S64x4x64x128_0_2_1_3) : Ct F S64x64x4x128 .f32 → Ct F S64x4x64x128 .f32),
    nullary main_cst (constant S_ .f32 0x00000000#32),
    unary main_cst main_v24 (broadcastInDim S4x128x128 ![] bcast_S_S4x128x128 : Ct F S_ .f32 → Ct F S4x128x128 .f32),
    nullary main_cst_0 (constant S_ .f32 0x00000000#32),
    unary main_cst_0 main_v25 (broadcastInDim S64x4x64x128 ![] bcast_S_S64x4x64x128 : Ct F S_ .f32 → Ct F S64x4x64x128 .f32),
    nullary main_cst_1 (constant S_ .f32 0x00000000#32),
    unary main_cst_1 main_v26 (broadcastInDim S64x4x128x128 ![] bcast_S_S64x4x128x128 : Ct F S_ .f32 → Ct F S64x4x128x128 .f32),
    nullary main_cst_2 (constant S_ .f32 0x00000000#32),
    unary main_cst_2 main_v27 (broadcastInDim S64x4x64x128 ![] bcast_S_S64x4x64x128 : Ct F S_ .f32 → Ct F S64x4x64x128 .f32),
    nullary main_cst_3 (constant S_ .f32 0x00000000#32),
    unary main_cst_3 main_v28 (broadcastInDim S64x4x1x128 ![] bcast_S_S64x4x1x128 : Ct F S_ .f32 → Ct F S64x4x1x128 .f32),
    nullary main_c (constantI S_ 32 0#32),
    unary main_v13 main_v29_0 id,
    unary main_v16 main_v29_1 id,
    unary main_v18 main_v29_2 id,
    unary main_v21 main_v29_3 id,
    unary main_v23 main_v29_4 id,
    unary main_v10 main_v29_5 id,
    unary main_c main_v29_6 id,
    unary main_v24 main_v29_7 id,
    unary main_v25 main_v29_8 id,
    unary main_v26 main_v29_9 id,
    unary main_v27 main_v29_10 id,
    unary main_v28 main_v29_11 id]
theorem preOps_sub : Own (F := F) preOps :=
  ⟨unary_bufs_sub .., reshape_bufs_sub .., unary_bufs_sub .., reshape_bufs_sub .., unary_bufs_sub .., reshape_bufs_sub .., unary_bufs_sub .., unary_bufs_sub .., binary_bufs_sub .., reshape_bufs_sub .., unary_bufs_sub .., unary_bufs_sub .., reshape_bufs_sub .., unary_bufs_sub .., unary_bufs_sub .., reshape_bufs_sub .., unary_bufs_sub .., reshape_bufs_sub .., unary_bufs_sub .., unary_bufs_sub .., reshape_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem preOps_fresh : NoFresh (F := F) preOps :=
  forall_fresh_of_map rfl

/-- Between the loops, first part. -/
abbrev midOpsA : Line F :=
  [unary main_v29_8 main_v30 ((transpose S64x64x4x128 [0, 2, 1, 3] · transposes_S64x4x64x128_S64x64x4x128_0_2_1_3) : Ct F S64x4x64x128 .f32 → Ct F S64x64x4x128 .f32),
    reshape main_v30 main_v31 (rfl : (.f32 : EltTy) = .f32) shapeCasts_S64x64x4x128_S4096x512,
    nullary main_cst_4 (constant S_ .f32 0x00000000#32),
    unary main_cst_4 main_v32 (broadcastInDim S4x128x128 ![] bcast_S_S4x128x128 : Ct F S_ .f32 → Ct F S4x128x128 .f32),
    reshape main_arg6 main_v33 (rfl : (.f32 : EltTy) = .f32) shapeCasts_S4096x512_S64x64x4x128,
    unary main_v33 main_v34 ((transpose S64x4x64x128 [0, 2, 1, 3] · transposes_S64x64x4x128_S64x4x64x128_0_2_1_3) : Ct F S64x64x4x128 .f32 → Ct F S64x4x64x128 .f32),
    nullary main_cst_5 (constant S_ .f32 0x00000000#32),
    unary main_cst_5 main_v35 (broadcastInDim S4x128x128 ![] bcast_S_S4x128x128 : Ct F S_ .f32 → Ct F S4x128x128 .f32),
    nullary main_cst_6 (constant S_ .f32 0x00000000#32),
    unary main_cst_6 main_v36 (broadcastInDim S64x4x64x128 ![] bcast_S_S64x4x64x128 : Ct F S_ .f32 → Ct F S64x4x64x128 .f32),
    nullary main_cst_7 (constant S_ .f32 0x00000000#32),
    unary main_cst_7 main_v37 (broadcastInDim S64x4x64x128 ![] bcast_S_S64x4x64x128 : Ct F S_ .f32 → Ct F S64x4x64x128 .f32)]
theorem midOpsA_sub : Own (F := F) midOpsA :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub ..⟩
theorem midOpsA_fresh : NoFresh (F := F) midOpsA :=
  forall_fresh_of_map rfl

/-- Between the loops, second part. -/
abbrev midOpsB : Line F :=
  [nullary main_cst_8 (constant S_ .f32 0x00000000#32),
    unary main_cst_8 main_v38 (broadcastInDim S64x4x64x128 ![] bcast_S_S64x4x64x128 : Ct F S_ .f32 → Ct F S64x4x64x128 .f32),
    nullary main_cst_9 (constant S_ .f32 0x00000000#32),
    unary main_cst_9 main_v39 (broadcastInDim S64x4x64x128 ![] bcast_S_S64x4x64x128 : Ct F S_ .f32 → Ct F S64x4x64x128 .f32),
    nullary main_cst_10 (constant S_ .f32 0x00000000#32),
    unary main_cst_10 main_v40 (broadcastInDim S64x4x64x128 ![] bcast_S_S64x4x64x128 : Ct F S_ .f32 → Ct F S64x4x64x128 .f32),
    nullary main_cst_11 (constant S_ .f32 0x00000000#32),
    unary main_cst_11 main_v41 (broadcastInDim S64x4x64x64 ![] bcast_S_S64x4x64x64 : Ct F S_ .f32 → Ct F S64x4x64x64 .f32),
    nullary main_c_12 (constantI S_ 32 0#32),
    unary main_v34 main_v42_0 id,
    unary main_v29_9 main_v42_1 id,
    unary main_v21 main_v42_2 id,
    unary main_v13 main_v42_3 id,
    unary main_v29_10 main_v42_4 id,
    unary main_v10 main_v42_5 id,
    unary main_v29_11 main_v42_6 id,
    unary main_v16 main_v42_7 id,
    unary main_c_12 main_v42_8 id,
    unary main_v35 main_v42_9 id,
    unary main_v36 main_v42_10 id,
    unary main_v37 main_v42_11 id,
    unary main_v38 main_v42_12 id,
    unary main_v39 main_v42_13 id,
    unary main_v40 main_v42_14 id,
    unary main_v41 main_v42_15 id]
theorem midOpsB_sub : Own (F := F) midOpsB :=
  ⟨nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem midOpsB_fresh : NoFresh (F := F) midOpsB :=
  forall_fresh_of_map rfl

/-- After the second loop. -/
abbrev postOps : Line F :=
  [unary main_v42_14 main_v43 ((transpose S64x64x4x128 [0, 2, 1, 3] · transposes_S64x4x64x128_S64x64x4x128_0_2_1_3) : Ct F S64x4x64x128 .f32 → Ct F S64x64x4x128 .f32),
    reshape main_v43 main_v44 (rfl : (.f32 : EltTy) = .f32) shapeCasts_S64x64x4x128_S4096x512,
    unary main_v42_13 main_v45 ((transpose S64x64x4x128 [0, 2, 1, 3] · transposes_S64x4x64x128_S64x64x4x128_0_2_1_3) : Ct F S64x4x64x128 .f32 → Ct F S64x64x4x128 .f32),
    reshape main_v45 main_v46 (rfl : (.f32 : EltTy) = .f32) shapeCasts_S64x64x4x128_S4096x512,
    unary main_v46 main_v47 ((truncf .bf16 · bitsLt_bf16_f32) : Ct F S4096x512 .f32 → Ct F S4096x512 .bf16),
    unary main_v42_12 main_v48 ((transpose S64x64x4x128 [0, 2, 1, 3] · transposes_S64x4x64x128_S64x64x4x128_0_2_1_3) : Ct F S64x4x64x128 .f32 → Ct F S64x64x4x128 .f32),
    reshape main_v48 main_v49 (rfl : (.f32 : EltTy) = .f32) shapeCasts_S64x64x4x128_S4096x512,
    unary main_v42_11 main_v50 ((transpose S64x64x4x128 [0, 2, 1, 3] · transposes_S64x4x64x128_S64x64x4x128_0_2_1_3) : Ct F S64x4x64x128 .f32 → Ct F S64x64x4x128 .f32),
    reshape main_v50 main_v51 (rfl : (.f32 : EltTy) = .f32) shapeCasts_S64x64x4x128_S4096x512,
    unary main_v51 main_v52 ((truncf .bf16 · bitsLt_bf16_f32) : Ct F S4096x512 .f32 → Ct F S4096x512 .bf16),
    unary main_v42_10 main_v53 ((transpose S64x64x4x128 [0, 2, 1, 3] · transposes_S64x4x64x128_S64x64x4x128_0_2_1_3) : Ct F S64x4x64x128 .f32 → Ct F S64x64x4x128 .f32),
    reshape main_v53 main_v54 (rfl : (.f32 : EltTy) = .f32) shapeCasts_S64x64x4x128_S4096x512,
    unary main_v54 main_v55 ((truncf .bf16 · bitsLt_bf16_f32) : Ct F S4096x512 .f32 → Ct F S4096x512 .bf16),
    unary main_v42_15 main_v56 ((transpose S64x64x4x64 [0, 2, 1, 3] · transposes_S64x4x64x64_S64x64x4x64_0_2_1_3) : Ct F S64x4x64x64 .f32 → Ct F S64x64x4x64 .f32),
    reshape main_v56 main_v57 (rfl : (.f32 : EltTy) = .f32) shapeCasts_S64x64x4x64_S32x2x64x4x64,
    unary main_v57 main_v58 ((extractStridedSlice S32x1x64x4x64 ![0, 0, 0, 0, 0] · slices_S32x2x64x4x64_S32x1x64x4x64_0_0_0_0_0) : Ct F S32x2x64x4x64 .f32 → Ct F S32x1x64x4x64 .f32),
    reshape main_v58 main_v59 (rfl : (.f32 : EltTy) = .f32) shapeCasts_S32x1x64x4x64_S32x64x4x64,
    unary main_v57 main_v60 ((extractStridedSlice S32x1x64x4x64 ![0, 1, 0, 0, 0] · slices_S32x2x64x4x64_S32x1x64x4x64_0_1_0_0_0) : Ct F S32x2x64x4x64 .f32 → Ct F S32x1x64x4x64 .f32),
    reshape main_v60 main_v61 (rfl : (.f32 : EltTy) = .f32) shapeCasts_S32x1x64x4x64_S32x64x4x64,
    unary main_v61 main_v62 (broadcastInDim S32x1x64x4x1x64 ![0, 2, 3, 5] bcast_S32x64x4x64_S32x1x64x4x1x64_0_2_3_5 : Ct F S32x64x4x64 .f32 → Ct F S32x1x64x4x1x64 .f32),
    nullary main_cst_13 (constant S_ .f32 0x00000000#32),
    binary main_v62 main_cst_13 main_v63 ((fun x v => pad S32x2x64x4x2x64 ![0, 1, 0, 0, 1, 0] ![0, 0, 0, 0, 0, 0] ![0, 0, 0, 0, 0, 0] x v pads_S32x1x64x4x1x64_S32x2x64x4x2x64_000_100_000_000_100_000 h_S_) : Ct F S32x1x64x4x1x64 .f32 → Ct F S_ .f32 → Ct F S32x2x64x4x2x64 .f32),
    unary main_v59 main_v64 (broadcastInDim S32x1x64x4x1x64 ![0, 2, 3, 5] bcast_S32x64x4x64_S32x1x64x4x1x64_0_2_3_5 : Ct F S32x64x4x64 .f32 → Ct F S32x1x64x4x1x64 .f32),
    nullary main_cst_14 (constant S_ .f32 0x00000000#32),
    binary main_v64 main_cst_14 main_v65 ((fun x v => pad S32x2x64x4x2x64 ![0, 0, 0, 0, 0, 0] ![0, 1, 0, 0, 1, 0] ![0, 0, 0, 0, 0, 0] x v pads_S32x1x64x4x1x64_S32x2x64x4x2x64_000_010_000_000_010_000 h_S_) : Ct F S32x1x64x4x1x64 .f32 → Ct F S_ .f32 → Ct F S32x2x64x4x2x64 .f32),
    binary main_v63 main_v65 main_v66 (addf : Ct F S32x2x64x4x2x64 .f32 → Ct F S32x2x64x4x2x64 .f32 → Ct F S32x2x64x4x2x64 .f32),
    reshape main_v66 main_v67 (rfl : (.f32 : EltTy) = .f32) shapeCasts_S32x2x64x4x2x64_S4096x512,
    unary main_v67 main_v68 ((truncf .bf16 · bitsLt_bf16_f32) : Ct F S4096x512 .f32 → Ct F S4096x512 .bf16)]
theorem postOps_sub : Own (F := F) postOps :=
  ⟨unary_bufs_sub .., reshape_bufs_sub .., unary_bufs_sub .., reshape_bufs_sub .., unary_bufs_sub .., unary_bufs_sub .., reshape_bufs_sub .., unary_bufs_sub .., reshape_bufs_sub .., unary_bufs_sub .., unary_bufs_sub .., reshape_bufs_sub .., unary_bufs_sub .., unary_bufs_sub .., reshape_bufs_sub .., unary_bufs_sub .., reshape_bufs_sub .., unary_bufs_sub .., reshape_bufs_sub .., unary_bufs_sub .., nullary_bufs_sub .., binary_bufs_sub .., unary_bufs_sub .., nullary_bufs_sub .., binary_bufs_sub .., binary_bufs_sub .., reshape_bufs_sub .., unary_bufs_sub ..⟩
theorem postOps_fresh : NoFresh (F := F) postOps :=
  forall_fresh_of_map rfl

/-! ## The loop bodies -/

/-- A call in body 0. -/
abbrev b0_0 : Line F := idxRow (.of main_v29_0) (.of main_v29_6) main_while0b_call0
theorem b0_0_sub : Own (F := F) b0_0 := idxRow_sub ..
theorem b0_0_fresh : NoFresh (F := F) b0_0 := idxRow_fresh ..
/-- A call in body 0. -/
abbrev b0_1 : Line F := idxRow (.of main_v29_1) (.of main_v29_6) main_while0b_call1
theorem b0_1_sub : Own (F := F) b0_1 := idxRow_sub ..
theorem b0_1_fresh : NoFresh (F := F) b0_1 := idxRow_fresh ..
/-- A call in body 0. -/
abbrev b0_2 : Line F := idxRow (.of main_v29_2) (.of main_v29_6) main_while0b_call2
theorem b0_2_sub : Own (F := F) b0_2 := idxRow_sub ..
theorem b0_2_fresh : NoFresh (F := F) b0_2 := idxRow_fresh ..
/-- A call in body 0. -/
abbrev b0_3 : Line F := idxRow (.of main_v29_3) (.of main_v29_6) main_while0b_call3
theorem b0_3_sub : Own (F := F) b0_3 := idxRow_sub ..
theorem b0_3_fresh : NoFresh (F := F) b0_3 := idxRow_fresh ..
/-- A call in body 0. -/
abbrev b0_4 : Line F := idxRow (.of main_v29_4) (.of main_v29_6) main_while0b_call4
theorem b0_4_sub : Own (F := F) b0_4 := idxRow_sub ..
theorem b0_4_fresh : NoFresh (F := F) b0_4 := idxRow_fresh ..
/-- A call in body 0. -/
abbrev b0_5 : Line F := idxAttn (.of main_v29_5) (.of main_v29_6) main_while0b_call5
theorem b0_5_sub : Own (F := F) b0_5 := idxAttn_sub ..
theorem b0_5_fresh : NoFresh (F := F) b0_5 := idxAttn_fresh ..
/-- Own operations of body 0. -/
abbrev b0_6 : Line F :=
  [binary main_while0b_v72 main_v29_7 main_while0b_v75 ((fun l r => Host.dotGeneral dot_S4x64x128_S4x128x128_S4x64x128_2_1_1_2_0_0 none l r) : Ct F S4x64x128 .f32 → Ct F S4x128x128 .f32 → Ct F S4x64x128 .f32),
    binary main_while0b_v71 main_while0b_v75 main_while0b_v76 (subf : Ct F S4x64x128 .f32 → Ct F S4x64x128 .f32 → Ct F S4x64x128 .f32),
    binary main_while0b_v69 main_v29_7 main_while0b_v77 ((fun l r => Host.dotGeneral dot_S4x64x128_S4x128x128_S4x64x128_2_1_1_2_0_0 none l r) : Ct F S4x64x128 .f32 → Ct F S4x128x128 .f32 → Ct F S4x64x128 .f32),
    binary main_while0b_v74 main_while0b_v76 main_while0b_v78 ((fun l r => Host.dotGeneral dot_S4x64x64_S4x64x128_S4x64x128_2_1_1_2_0_0 none l r) : Ct F S4x64x64 .f32 → Ct F S4x64x128 .f32 → Ct F S4x64x128 .f32),
    binary main_while0b_v77 main_while0b_v78 main_while0b_v79 (addf : Ct F S4x64x128 .f32 → Ct F S4x64x128 .f32 → Ct F S4x64x128 .f32),
    nullary main_while0b_cst_26 (constant S_ .f32 0x00000000#32),
    binary main_while0b_v73 main_while0b_cst_26 main_while0b_v80 ((fun x v => Host.reduceAdd x v reducesTo_S4x64x128_S4x128_d1 h_S_) : Ct F S4x64x128 .f32 → Ct F S_ .f32 → Ct F S4x128 .f32),
    unary main_while0b_v80 main_while0b_v81 (broadcastInDim S4x1x128 ![0, 2] bcast_S4x128_S4x1x128_0_2 : Ct F S4x128 .f32 → Ct F S4x1x128 .f32),
    nullary main_while0b_cst_27 (constant S_ .f32 0x42800000#32),
    unary main_while0b_cst_27 main_while0b_v82 (broadcastInDim S4x1x128 ![] bcast_S_S4x1x128 : Ct F S_ .f32 → Ct F S4x1x128 .f32),
    binary main_while0b_v81 main_while0b_v82 main_while0b_v83 (Host.divf : Ct F S4x1x128 .f32 → Ct F S4x1x128 .f32 → Ct F S4x1x128 .f32),
    unary main_while0b_v83 main_while0b_v84 (broadcastInDim S4x128x128 ![0, 1, 2] bcast_S4x1x128_S4x128x128_0_1_2 : Ct F S4x1x128 .f32 → Ct F S4x128x128 .f32),
    binary main_v29_7 main_while0b_v84 main_while0b_v85 (mulf : Ct F S4x128x128 .f32 → Ct F S4x128x128 .f32 → Ct F S4x128x128 .f32),
    binary main_while0b_v70 main_while0b_v76 main_while0b_v86 ((fun l r => Host.dotGeneral dot_S4x64x128_S4x64x128_S4x128x128_1_1_2_2_0_0 none l r) : Ct F S4x64x128 .f32 → Ct F S4x64x128 .f32 → Ct F S4x128x128 .f32),
    binary main_while0b_v85 main_while0b_v86 main_while0b_v87 (addf : Ct F S4x128x128 .f32 → Ct F S4x128x128 .f32 → Ct F S4x128x128 .f32)]
theorem b0_6_sub : Own (F := F) b0_6 :=
  ⟨binary_bufs_sub .., binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub ..⟩
theorem b0_6_fresh : NoFresh (F := F) b0_6 :=
  forall_fresh_of_map rfl
/-- A call in body 0. -/
abbrev b0_7 : Line F := updRow (.of main_v29_8) (.of main_while0b_v79) (.of main_v29_6) main_while0b_call6
theorem b0_7_sub : Own (F := F) b0_7 := updRow_sub ..
theorem b0_7_fresh : NoFresh (F := F) b0_7 := updRow_fresh ..
/-- A call in body 0. -/
abbrev b0_8 : Line F := updState (.of main_v29_9) (.of main_v29_7) (.of main_v29_6) main_while0b_call7
theorem b0_8_sub : Own (F := F) b0_8 := updState_sub ..
theorem b0_8_fresh : NoFresh (F := F) b0_8 := updState_fresh ..
/-- A call in body 0. -/
abbrev b0_9 : Line F := updRow (.of main_v29_10) (.of main_while0b_v76) (.of main_v29_6) main_while0b_call8
theorem b0_9_sub : Own (F := F) b0_9 := updRow_sub ..
theorem b0_9_fresh : NoFresh (F := F) b0_9 := updRow_fresh ..
/-- A call in body 0. -/
abbrev b0_10 : Line F := updMean (.of main_v29_11) (.of main_while0b_v83) (.of main_v29_6) main_while0b_call9
theorem b0_10_sub : Own (F := F) b0_10 := updMean_sub ..
theorem b0_10_fresh : NoFresh (F := F) b0_10 := updMean_fresh ..
/-- Own operations of body 0. -/
abbrev b0_11 : Line F :=
  [nullary main_while0b_c_28 (constantI S_ 32 1#32),
    binary main_v29_6 main_while0b_c_28 main_while0b_v92 (addi : Ct F S_ .i32 → Ct F S_ .i32 → Ct F S_ .i32),
    unary main_while0b_v92 main_v29_6 id,
    unary main_while0b_v87 main_v29_7 id,
    unary main_while0b_v88 main_v29_8 id,
    unary main_while0b_v89 main_v29_9 id,
    unary main_while0b_v90 main_v29_10 id,
    unary main_while0b_v91 main_v29_11 id]
theorem b0_11_sub : Own (F := F) b0_11 :=
  ⟨nullary_bufs_sub .., binary_bufs_sub .., unary_bufs_sub .., unary_bufs_sub .., unary_bufs_sub .., unary_bufs_sub .., unary_bufs_sub .., unary_bufs_sub ..⟩
theorem b0_11_fresh : NoFresh (F := F) b0_11 :=
  forall_fresh_of_map rfl

/-- Body 0, line by line. -/
abbrev body0I : List (Line F) := [b0_0, b0_1, b0_2, b0_3, b0_4, b0_5, b0_6, b0_7, b0_8, b0_9, b0_10, b0_11]
theorem hbody0I : Plain (body0I (F := F)) :=
  .cons b0_0_sub (hf := List.forall_iff_forall_mem.mp b0_0_fresh) <|
  .cons b0_1_sub (hf := List.forall_iff_forall_mem.mp b0_1_fresh) <|
  .cons b0_2_sub (hf := List.forall_iff_forall_mem.mp b0_2_fresh) <|
  .cons b0_3_sub (hf := List.forall_iff_forall_mem.mp b0_3_fresh) <|
  .cons b0_4_sub (hf := List.forall_iff_forall_mem.mp b0_4_fresh) <|
  .cons b0_5_sub (hf := List.forall_iff_forall_mem.mp b0_5_fresh) <|
  .cons b0_6_sub (hf := List.forall_iff_forall_mem.mp b0_6_fresh) <|
  .cons b0_7_sub (hf := List.forall_iff_forall_mem.mp b0_7_fresh) <|
  .cons b0_8_sub (hf := List.forall_iff_forall_mem.mp b0_8_fresh) <|
  .cons b0_9_sub (hf := List.forall_iff_forall_mem.mp b0_9_fresh) <|
  .cons b0_10_sub (hf := List.forall_iff_forall_mem.mp b0_10_fresh) <|
  .cons b0_11_sub (hf := List.forall_iff_forall_mem.mp b0_11_fresh) <|
  .nil
/-- Own operations of body 1. -/
abbrev b1_0 : Line F :=
  [nullary main_while1b_c_30 (constantI S_ 32 64#32),
    binary main_while1b_c_30 main_v42_8 main_while1b_v69 (subi : Ct F S_ .i32 → Ct F S_ .i32 → Ct F S_ .i32),
    nullary main_while1b_c_31 (constantI S_ 32 1#32),
    binary main_while1b_v69 main_while1b_c_31 main_while1b_v70 (subi : Ct F S_ .i32 → Ct F S_ .i32 → Ct F S_ .i32)]
theorem b1_0_sub : Own (F := F) b1_0 :=
  ⟨nullary_bufs_sub .., binary_bufs_sub .., nullary_bufs_sub .., binary_bufs_sub ..⟩
theorem b1_0_fresh : NoFresh (F := F) b1_0 :=
  forall_fresh_of_map rfl
/-- A call in body 1. -/
abbrev b1_1 : Line F := idxRow (.of main_v42_0) (.of main_while1b_v70) main_while1b_call10
theorem b1_1_sub : Own (F := F) b1_1 := idxRow_sub ..
theorem b1_1_fresh : NoFresh (F := F) b1_1 := idxRow_fresh ..
/-- A call in body 1. -/
abbrev b1_2 : Line F := idxState (.of main_v42_1) (.of main_while1b_v70) main_while1b_call11
theorem b1_2_sub : Own (F := F) b1_2 := idxState_sub ..
theorem b1_2_fresh : NoFresh (F := F) b1_2 := idxState_fresh ..
/-- A call in body 1. -/
abbrev b1_3 : Line F := idxRow (.of main_v42_2) (.of main_while1b_v70) main_while1b_call12
theorem b1_3_sub : Own (F := F) b1_3 := idxRow_sub ..
theorem b1_3_fresh : NoFresh (F := F) b1_3 := idxRow_fresh ..
/-- A call in body 1. -/
abbrev b1_4 : Line F := idxRow (.of main_v42_3) (.of main_while1b_v70) main_while1b_call13
theorem b1_4_sub : Own (F := F) b1_4 := idxRow_sub ..
theorem b1_4_fresh : NoFresh (F := F) b1_4 := idxRow_fresh ..
/-- A call in body 1. -/
abbrev b1_5 : Line F := idxRow (.of main_v42_4) (.of main_while1b_v70) main_while1b_call14
theorem b1_5_sub : Own (F := F) b1_5 := idxRow_sub ..
theorem b1_5_fresh : NoFresh (F := F) b1_5 := idxRow_fresh ..
/-- A call in body 1. -/
abbrev b1_6 : Line F := idxAttn (.of main_v42_5) (.of main_while1b_v70) main_while1b_call15
theorem b1_6_sub : Own (F := F) b1_6 := idxAttn_sub ..
theorem b1_6_fresh : NoFresh (F := F) b1_6 := idxAttn_fresh ..
/-- A call in body 1. -/
abbrev b1_7 : Line F := idxMean (.of main_v42_6) (.of main_while1b_v70) main_while1b_call16
theorem b1_7_sub : Own (F := F) b1_7 := idxMean_sub ..
theorem b1_7_fresh : NoFresh (F := F) b1_7 := idxMean_fresh ..
/-- A call in body 1. -/
abbrev b1_8 : Line F := idxRow (.of main_v42_7) (.of main_while1b_v70) main_while1b_call17
theorem b1_8_sub : Own (F := F) b1_8 := idxRow_sub ..
theorem b1_8_fresh : NoFresh (F := F) b1_8 := idxRow_fresh ..
/-- Own operations of body 1. -/
abbrev b1_9 : Line F :=
  [binary main_v42_9 main_while1b_v78 main_while1b_v79 ((fun l r => Host.dotGeneral dot_S4x128x128_S4x64x128_S4x128x64_1_2_2_1_0_0 none l r) : Ct F S4x128x128 .f32 → Ct F S4x64x128 .f32 → Ct F S4x128x64 .f32),
    unary main_while1b_v79 main_while1b_v80 ((transpose S4x64x128 [0, 2, 1] · transposes_S4x128x64_S4x64x128_0_2_1) : Ct F S4x128x64 .f32 → Ct F S4x64x128 .f32),
    binary main_v42_9 main_while1b_v75 main_while1b_v81 ((fun l r => Host.dotGeneral dot_S4x128x128_S4x64x128_S4x128x64_2_2_1_1_0_0 none l r) : Ct F S4x128x128 .f32 → Ct F S4x64x128 .f32 → Ct F S4x128x64 .f32),
    unary main_while1b_v81 main_while1b_v82 ((transpose S4x64x128 [0, 2, 1] · transposes_S4x128x64_S4x64x128_0_2_1) : Ct F S4x128x64 .f32 → Ct F S4x64x128 .f32),
    binary main_while1b_v72 main_v42_9 main_while1b_v83 (mulf : Ct F S4x128x128 .f32 → Ct F S4x128x128 .f32 → Ct F S4x128x128 .f32),
    nullary main_while1b_cst_32 (constant S_ .f32 0x00000000#32),
    binary main_while1b_v83 main_while1b_cst_32 main_while1b_v84 ((fun x v => Host.reduceAdd x v reducesTo_S4x128x128_S4x128_d1 h_S_) : Ct F S4x128x128 .f32 → Ct F S_ .f32 → Ct F S4x128 .f32),
    reshape main_while1b_v84 main_while1b_v85 (rfl : (.f32 : EltTy) = .f32) shapeCasts_S4x128_S4x1x128,
    unary main_while1b_v77 main_while1b_v86 (broadcastInDim S4x128x128 ![0, 1, 2] bcast_S4x1x128_S4x128x128_0_1_2 : Ct F S4x1x128 .f32 → Ct F S4x128x128 .f32),
    binary main_v42_9 main_while1b_v86 main_while1b_v87 (mulf : Ct F S4x128x128 .f32 → Ct F S4x128x128 .f32 → Ct F S4x128x128 .f32),
    nullary main_while1b_cst_33 (constant S_ .f32 0x42800000#32),
    unary main_while1b_cst_33 main_while1b_v88 (broadcastInDim S4x1x128 ![] bcast_S_S4x1x128 : Ct F S_ .f32 → Ct F S4x1x128 .f32),
    binary main_while1b_v85 main_while1b_v88 main_while1b_v89 (Host.divf : Ct F S4x1x128 .f32 → Ct F S4x1x128 .f32 → Ct F S4x1x128 .f32),
    nullary main_while1b_cst_34 (constant S_ .f32 0x00000000#32),
    binary main_while1b_v89 main_while1b_cst_34 main_while1b_v90 ((fun x v => Host.reduceAdd x v reducesTo_S4x1x128_S4x128_d1 h_S_) : Ct F S4x1x128 .f32 → Ct F S_ .f32 → Ct F S4x128 .f32),
    unary main_while1b_v90 main_while1b_v91 (broadcastInDim S4x64x128 ![0, 2] bcast_S4x128_S4x64x128_0_2 : Ct F S4x128 .f32 → Ct F S4x64x128 .f32),
    binary main_while1b_v71 main_while1b_v76 main_while1b_v92 ((fun l r => Host.dotGeneral dot_S4x64x128_S4x64x64_S4x128x64_1_1_2_2_0_0 none l r) : Ct F S4x64x128 .f32 → Ct F S4x64x64 .f32 → Ct F S4x128x64 .f32),
    unary main_while1b_v92 main_while1b_v93 ((transpose S4x64x128 [0, 2, 1] · transposes_S4x128x64_S4x64x128_0_2_1) : Ct F S4x128x64 .f32 → Ct F S4x64x128 .f32),
    binary main_while1b_v80 main_while1b_v93 main_while1b_v94 (addf : Ct F S4x64x128 .f32 → Ct F S4x64x128 .f32 → Ct F S4x64x128 .f32),
    binary main_while1b_v71 main_while1b_v75 main_while1b_v95 ((fun l r => Host.dotGeneral dot_S4x64x128_S4x64x128_S4x64x64_2_2_1_1_0_0 none l r) : Ct F S4x64x128 .f32 → Ct F S4x64x128 .f32 → Ct F S4x64x64 .f32),
    binary main_while1b_v71 main_while1b_v74 main_while1b_v96 ((fun l r => Host.dotGeneral dot_S4x64x128_S4x64x128_S4x128x128_1_1_2_2_0_0 none l r) : Ct F S4x64x128 .f32 → Ct F S4x64x128 .f32 → Ct F S4x128x128 .f32),
    unary main_while1b_v96 main_while1b_v97 ((transpose S4x128x128 [0, 2, 1] · transposes_S4x128x128_S4x128x128_0_2_1) : Ct F S4x128x128 .f32 → Ct F S4x128x128 .f32),
    binary main_while1b_v87 main_while1b_v97 main_while1b_v98 (addf : Ct F S4x128x128 .f32 → Ct F S4x128x128 .f32 → Ct F S4x128x128 .f32),
    binary main_while1b_v71 main_while1b_v72 main_while1b_v99 ((fun l r => Host.dotGeneral dot_S4x64x128_S4x128x128_S4x64x128_2_2_1_1_0_0 none l r) : Ct F S4x64x128 .f32 → Ct F S4x128x128 .f32 → Ct F S4x64x128 .f32),
    unary main_while1b_v94 main_while1b_v100 (Host.negf : Ct F S4x64x128 .f32 → Ct F S4x64x128 .f32),
    binary main_while1b_v100 main_while1b_v73 main_while1b_v101 ((fun l r => Host.dotGeneral dot_S4x64x128_S4x64x128_S4x128x128_1_1_2_2_0_0 none l r) : Ct F S4x64x128 .f32 → Ct F S4x64x128 .f32 → Ct F S4x128x128 .f32),
    unary main_while1b_v101 main_while1b_v102 ((transpose S4x128x128 [0, 2, 1] · transposes_S4x128x128_S4x128x128_0_2_1) : Ct F S4x128x128 .f32 → Ct F S4x128x128 .f32),
    binary main_while1b_v98 main_while1b_v102 main_while1b_v103 (addf : Ct F S4x128x128 .f32 → Ct F S4x128x128 .f32 → Ct F S4x128x128 .f32),
    binary main_while1b_v100 main_while1b_v72 main_while1b_v104 ((fun l r => Host.dotGeneral dot_S4x64x128_S4x128x128_S4x64x128_2_2_1_1_0_0 none l r) : Ct F S4x64x128 .f32 → Ct F S4x128x128 .f32 → Ct F S4x64x128 .f32)]
theorem b1_9_sub : Own (F := F) b1_9 :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., unary_bufs_sub .., binary_bufs_sub .., nullary_bufs_sub .., binary_bufs_sub .., unary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
theorem b1_9_fresh : NoFresh (F := F) b1_9 :=
  forall_fresh_of_map rfl
/-- A call in body 1. -/
abbrev b1_10 : Line F := updRow (.of main_v42_10) (.of main_while1b_v99) (.of main_while1b_v70) main_while1b_call18
theorem b1_10_sub : Own (F := F) b1_10 := updRow_sub ..
theorem b1_10_fresh : NoFresh (F := F) b1_10 := updRow_fresh ..
/-- A call in body 1. -/
abbrev b1_11 : Line F := updRow (.of main_v42_11) (.of main_while1b_v82) (.of main_while1b_v70) main_while1b_call19
theorem b1_11_sub : Own (F := F) b1_11 := updRow_sub ..
theorem b1_11_fresh : NoFresh (F := F) b1_11 := updRow_fresh ..
/-- A call in body 1. -/
abbrev b1_12 : Line F := updRow (.of main_v42_12) (.of main_while1b_v94) (.of main_while1b_v70) main_while1b_call20
theorem b1_12_sub : Own (F := F) b1_12 := updRow_sub ..
theorem b1_12_fresh : NoFresh (F := F) b1_12 := updRow_fresh ..
/-- A call in body 1. -/
abbrev b1_13 : Line F := updRow (.of main_v42_13) (.of main_while1b_v104) (.of main_while1b_v70) main_while1b_call21
theorem b1_13_sub : Own (F := F) b1_13 := updRow_sub ..
theorem b1_13_fresh : NoFresh (F := F) b1_13 := updRow_fresh ..
/-- A call in body 1. -/
abbrev b1_14 : Line F := updRow (.of main_v42_14) (.of main_while1b_v91) (.of main_while1b_v70) main_while1b_call22
theorem b1_14_sub : Own (F := F) b1_14 := updRow_sub ..
theorem b1_14_fresh : NoFresh (F := F) b1_14 := updRow_fresh ..
/-- A call in body 1. -/
abbrev b1_15 : Line F := updAttn (.of main_v42_15) (.of main_while1b_v95) (.of main_while1b_v70) main_while1b_call23
theorem b1_15_sub : Own (F := F) b1_15 := updAttn_sub ..
theorem b1_15_fresh : NoFresh (F := F) b1_15 := updAttn_fresh ..
/-- Own operations of body 1. -/
abbrev b1_16 : Line F :=
  [nullary main_while1b_c_35 (constantI S_ 32 1#32),
    binary main_v42_8 main_while1b_c_35 main_while1b_v111 (addi : Ct F S_ .i32 → Ct F S_ .i32 → Ct F S_ .i32),
    unary main_while1b_v111 main_v42_8 id,
    unary main_while1b_v103 main_v42_9 id,
    unary main_while1b_v105 main_v42_10 id]
theorem b1_16_sub : Own (F := F) b1_16 :=
  ⟨nullary_bufs_sub .., binary_bufs_sub .., unary_bufs_sub .., unary_bufs_sub .., unary_bufs_sub ..⟩
theorem b1_16_fresh : NoFresh (F := F) b1_16 :=
  forall_fresh_of_map rfl
/-- Own operations of body 1. -/
abbrev b1_17 : Line F :=
  [unary main_while1b_v106 main_v42_11 id,
    unary main_while1b_v107 main_v42_12 id,
    unary main_while1b_v108 main_v42_13 id,
    unary main_while1b_v109 main_v42_14 id,
    unary main_while1b_v110 main_v42_15 id]
theorem b1_17_sub : Own (F := F) b1_17 :=
  ⟨unary_bufs_sub .., unary_bufs_sub .., unary_bufs_sub .., unary_bufs_sub .., unary_bufs_sub ..⟩
theorem b1_17_fresh : NoFresh (F := F) b1_17 :=
  forall_fresh_of_map rfl

/-- Body 1, line by line. -/
abbrev body1I : List (Line F) := [b1_0, b1_1, b1_2, b1_3, b1_4, b1_5, b1_6, b1_7, b1_8, b1_9, b1_10, b1_11, b1_12, b1_13, b1_14, b1_15, b1_16, b1_17]
theorem hbody1I : Plain (body1I (F := F)) :=
  .cons b1_0_sub (hf := List.forall_iff_forall_mem.mp b1_0_fresh) <|
  .cons b1_1_sub (hf := List.forall_iff_forall_mem.mp b1_1_fresh) <|
  .cons b1_2_sub (hf := List.forall_iff_forall_mem.mp b1_2_fresh) <|
  .cons b1_3_sub (hf := List.forall_iff_forall_mem.mp b1_3_fresh) <|
  .cons b1_4_sub (hf := List.forall_iff_forall_mem.mp b1_4_fresh) <|
  .cons b1_5_sub (hf := List.forall_iff_forall_mem.mp b1_5_fresh) <|
  .cons b1_6_sub (hf := List.forall_iff_forall_mem.mp b1_6_fresh) <|
  .cons b1_7_sub (hf := List.forall_iff_forall_mem.mp b1_7_fresh) <|
  .cons b1_8_sub (hf := List.forall_iff_forall_mem.mp b1_8_fresh) <|
  .cons b1_9_sub (hf := List.forall_iff_forall_mem.mp b1_9_fresh) <|
  .cons b1_10_sub (hf := List.forall_iff_forall_mem.mp b1_10_fresh) <|
  .cons b1_11_sub (hf := List.forall_iff_forall_mem.mp b1_11_fresh) <|
  .cons b1_12_sub (hf := List.forall_iff_forall_mem.mp b1_12_fresh) <|
  .cons b1_13_sub (hf := List.forall_iff_forall_mem.mp b1_13_fresh) <|
  .cons b1_14_sub (hf := List.forall_iff_forall_mem.mp b1_14_fresh) <|
  .cons b1_15_sub (hf := List.forall_iff_forall_mem.mp b1_15_fresh) <|
  .cons b1_16_sub (hf := List.forall_iff_forall_mem.mp b1_16_fresh) <|
  .cons b1_17_sub (hf := List.forall_iff_forall_mem.mp b1_17_fresh) <|
  .nil
/-- The lines before, between and after the loops. -/
abbrev preI : List (Line F) := [preOps]
abbrev midI : List (Line F) := [midOpsA, midOpsB]
abbrev postI : List (Line F) := [postOps]
theorem hpreI : Plain (preI (F := F)) := .cons preOps_sub (hf := List.forall_iff_forall_mem.mp preOps_fresh) .nil
theorem hmidI : Plain (midI (F := F)) := .cons midOpsA_sub (hf := List.forall_iff_forall_mem.mp midOpsA_fresh) <|
  .cons midOpsB_sub (hf := List.forall_iff_forall_mem.mp midOpsB_fresh) .nil
theorem hpostI : Plain (postI (F := F)) := .cons postOps_sub (hf := List.forall_iff_forall_mem.mp postOps_fresh) .nil

/-! ## The printed program is the chain of these lines -/

theorem main_part0_chain (c : Dev nD) : main_part0 (F := F) c = (Pipeline.chainK [seq preOps, HostLoop.enter 0] (seq midOpsA) : Pr F) := by
  rewrite [chainK_seq_cons, Pipeline.chainK_cons]
  chain_rfl
theorem main_part1_chain (c : Dev nD) : main_part1 (F := F) c = (Pipeline.chain [seq midOpsB, HostLoop.enter 1, seq postOps] : Pr F) := by
  rewrite [chain_seq_cons, Pipeline.chain_cons, chain_seq_cons]
  chain_rfl
theorem main_chain (c : Dev nD) : main (F := F) c
    = (Pipeline.chain [seq preOps, HostLoop.enter 0, seq midOpsA, seq midOpsB, HostLoop.enter 1, seq postOps] : Pr F) := by
  show (main_part0 (F := F) c >>= fun _ => main_part1 (F := F) c) = _
  rewrite [main_part1_chain, main_part0_chain, Pipeline.chainK_bind_chain]
  chain_rfl
theorem body0_chain : main_while0_body (F := F) = (Pipeline.chain [seq b0_0, seq b0_1, seq b0_2, seq b0_3, seq b0_4, seq b0_5, seq b0_6, seq b0_7, seq b0_8, seq b0_9, seq b0_10, seq b0_11] : Pr F) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl
theorem body1_part0_chain : main_while1_body_part0 (F := F) = (Pipeline.chainK [seq b1_0, seq b1_1, seq b1_2, seq b1_3, seq b1_4, seq b1_5, seq b1_6, seq b1_7, seq b1_8, seq b1_9, seq b1_10, seq b1_11, seq b1_12, seq b1_13, seq b1_14, seq b1_15] (seq b1_16) : Pr F) := by
  rewrite [chainK_seq_cons, Pipeline.chainK_cons, Pipeline.chainK_cons, Pipeline.chainK_cons, Pipeline.chainK_cons, Pipeline.chainK_cons, Pipeline.chainK_cons, Pipeline.chainK_cons, Pipeline.chainK_cons, chainK_seq_cons, Pipeline.chainK_cons, Pipeline.chainK_cons, Pipeline.chainK_cons, Pipeline.chainK_cons, Pipeline.chainK_cons, Pipeline.chainK_cons]
  chain_rfl
theorem body1_part1_chain : main_while1_body_part1 (F := F) = (Pipeline.chain [seq b1_17] : Pr F) := by
  rewrite [chain_seq_cons]
  chain_rfl
theorem body1_chain : main_while1_body (F := F) = (Pipeline.chain [seq b1_0, seq b1_1, seq b1_2, seq b1_3, seq b1_4, seq b1_5, seq b1_6, seq b1_7, seq b1_8, seq b1_9, seq b1_10, seq b1_11, seq b1_12, seq b1_13, seq b1_14, seq b1_15, seq b1_16, seq b1_17] : Pr F) := by
  show (main_while1_body_part0 (F := F) >>= fun _ => main_while1_body_part1 (F := F)) = _
  rewrite [body1_part1_chain, body1_part0_chain, Pipeline.chainK_bind_chain]
  chain_rfl

/-! ## What each line writes; what it does not write it keeps -/

variable (V : Valuation τ sig (Elt F))

abbrev preOps_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_cst, main_v24, main_cst_0, main_v25, main_cst_1, main_v26, main_cst_2, main_v27, main_cst_3, main_v28, main_c, main_v29_0, main_v29_1, main_v29_2, main_v29_3, main_v29_4, main_v29_5, main_v29_6, main_v29_7, main_v29_8, main_v29_9, main_v29_10, main_v29_11]
theorem preOps_writes : WritesIn (F := F) preOps preOps_W :=
  forall_writes_sub_of_map rfl
theorem preOps_keep {r : Ref sig .tc} (h : r ∉ preOps_W := by decide +kernel) : after preOps V (Proc.devRef .tc r) = V (Proc.devRef .tc r) :=
  after_of_writes_sub preOps V preOps_writes h
abbrev midOpsA_W : List (Ref sig .tc) := [main_v30, main_v31, main_cst_4, main_v32, main_v33, main_v34, main_cst_5, main_v35, main_cst_6, main_v36, main_cst_7, main_v37]
theorem midOpsA_writes : WritesIn (F := F) midOpsA midOpsA_W :=
  forall_writes_sub_of_map rfl
theorem midOpsA_keep {r : Ref sig .tc} (h : r ∉ midOpsA_W := by decide +kernel) : after midOpsA V (Proc.devRef .tc r) = V (Proc.devRef .tc r) :=
  after_of_writes_sub midOpsA V midOpsA_writes h
abbrev midOpsB_W : List (Ref sig .tc) := [main_cst_8, main_v38, main_cst_9, main_v39, main_cst_10, main_v40, main_cst_11, main_v41, main_c_12, main_v42_0, main_v42_1, main_v42_2, main_v42_3, main_v42_4, main_v42_5, main_v42_6, main_v42_7, main_v42_8, main_v42_9, main_v42_10, main_v42_11, main_v42_12, main_v42_13, main_v42_14, main_v42_15]
theorem midOpsB_writes : WritesIn (F := F) midOpsB midOpsB_W :=
  forall_writes_sub_of_map rfl
theorem midOpsB_keep {r : Ref sig .tc} (h : r ∉ midOpsB_W := by decide +kernel) : after midOpsB V (Proc.devRef .tc r) = V (Proc.devRef .tc r) :=
  after_of_writes_sub midOpsB V midOpsB_writes h
abbrev postOps_W : List (Ref sig .tc) := [main_v43, main_v44, main_v45, main_v46, main_v47, main_v48, main_v49, main_v50, main_v51, main_v52, main_v53, main_v54, main_v55, main_v56, main_v57, main_v58, main_v59, main_v60, main_v61, main_v62, main_cst_13, main_v63, main_v64, main_cst_14, main_v65, main_v66, main_v67, main_v68]
theorem postOps_writes : WritesIn (F := F) postOps postOps_W :=
  forall_writes_sub_of_map rfl
theorem postOps_keep {r : Ref sig .tc} (h : r ∉ postOps_W := by decide +kernel) : after postOps V (Proc.devRef .tc r) = V (Proc.devRef .tc r) :=
  after_of_writes_sub postOps V postOps_writes h
abbrev b0_0_W : List (Ref sig .tc) := [main_while0b_call0_c, main_while0b_call0_c_0, main_while0b_call0_c_1, main_while0b_call0_v0, main_while0b_v69]
theorem b0_0_writes : WritesIn (F := F) b0_0 b0_0_W :=
  forall_writes_sub_of_map rfl
theorem b0_0_keep {r : Ref sig .tc} (h : r ∉ b0_0_W := by decide +kernel) : after b0_0 V (Proc.devRef .tc r) = V (Proc.devRef .tc r) :=
  after_of_writes_sub b0_0 V b0_0_writes h
abbrev b0_1_W : List (Ref sig .tc) := [main_while0b_call1_c, main_while0b_call1_c_0, main_while0b_call1_c_1, main_while0b_call1_v0, main_while0b_v70]
theorem b0_1_writes : WritesIn (F := F) b0_1 b0_1_W :=
  forall_writes_sub_of_map rfl
theorem b0_1_keep {r : Ref sig .tc} (h : r ∉ b0_1_W := by decide +kernel) : after b0_1 V (Proc.devRef .tc r) = V (Proc.devRef .tc r) :=
  after_of_writes_sub b0_1 V b0_1_writes h
abbrev b0_2_W : List (Ref sig .tc) := [main_while0b_call2_c, main_while0b_call2_c_0, main_while0b_call2_c_1, main_while0b_call2_v0, main_while0b_v71]
theorem b0_2_writes : WritesIn (F := F) b0_2 b0_2_W :=
  forall_writes_sub_of_map rfl
theorem b0_2_keep {r : Ref sig .tc} (h : r ∉ b0_2_W := by decide +kernel) : after b0_2 V (Proc.devRef .tc r) = V (Proc.devRef .tc r) :=
  after_of_writes_sub b0_2 V b0_2_writes h
abbrev b0_3_W : List (Ref sig .tc) := [main_while0b_call3_c, main_while0b_call3_c_0, main_while0b_call3_c_1, main_while0b_call3_v0, main_while0b_v72]
theorem b0_3_writes : WritesIn (F := F) b0_3 b0_3_W :=
  forall_writes_sub_of_map rfl
theorem b0_3_keep {r : Ref sig .tc} (h : r ∉ b0_3_W := by decide +kernel) : after b0_3 V (Proc.devRef .tc r) = V (Proc.devRef .tc r) :=
  after_of_writes_sub b0_3 V b0_3_writes h
abbrev b0_4_W : List (Ref sig .tc) := [main_while0b_call4_c, main_while0b_call4_c_0, main_while0b_call4_c_1, main_while0b_call4_v0, main_while0b_v73]
theorem b0_4_writes : WritesIn (F := F) b0_4 b0_4_W :=
  forall_writes_sub_of_map rfl
theorem b0_4_keep {r : Ref sig .tc} (h : r ∉ b0_4_W := by decide +kernel) : after b0_4 V (Proc.devRef .tc r) = V (Proc.devRef .tc r) :=
  after_of_writes_sub b0_4 V b0_4_writes h
abbrev b0_5_W : List (Ref sig .tc) := [main_while0b_call5_c, main_while0b_call5_c_0, main_while0b_call5_c_1, main_while0b_call5_v0, main_while0b_v74]
theorem b0_5_writes : WritesIn (F := F) b0_5 b0_5_W :=
  forall_writes_sub_of_map rfl
theorem b0_5_keep {r : Ref sig .tc} (h : r ∉ b0_5_W := by decide +kernel) : after b0_5 V (Proc.devRef .tc r) = V (Proc.devRef .tc r) :=
  after_of_writes_sub b0_5 V b0_5_writes h
abbrev b0_6_W : List (Ref sig .tc) := [main_while0b_v75, main_while0b_v76, main_while0b_v77, main_while0b_v78, main_while0b_v79, main_while0b_cst_26, main_while0b_v80, main_while0b_v81, main_while0b_cst_27, main_while0b_v82, main_while0b_v83, main_while0b_v84, main_while0b_v85, main_while0b_v86, main_while0b_v87]
theorem b0_6_writes : WritesIn (F := F) b0_6 b0_6_W :=
  forall_writes_sub_of_map rfl
theorem b0_6_keep {r : Ref sig .tc} (h : r ∉ b0_6_W := by decide +kernel) : after b0_6 V (Proc.devRef .tc r) = V (Proc.devRef .tc r) :=
  after_of_writes_sub b0_6 V b0_6_writes h
abbrev b0_7_W : List (Ref sig .tc) := [main_while0b_call6_v0, main_while0b_call6_c, main_while0b_call6_c_0, main_while0b_call6_c_1, main_while0b_v88]
theorem b0_7_writes : WritesIn (F := F) b0_7 b0_7_W :=
  forall_writes_sub_of_map rfl
theorem b0_7_keep {r : Ref sig .tc} (h : r ∉ b0_7_W := by decide +kernel) : after b0_7 V (Proc.devRef .tc r) = V (Proc.devRef .tc r) :=
  after_of_writes_sub b0_7 V b0_7_writes h
abbrev b0_8_W : List (Ref sig .tc) := [main_while0b_call7_v0, main_while0b_call7_c, main_while0b_call7_c_0, main_while0b_call7_c_1, main_while0b_v89]
theorem b0_8_writes : WritesIn (F := F) b0_8 b0_8_W :=
  forall_writes_sub_of_map rfl
theorem b0_8_keep {r : Ref sig .tc} (h : r ∉ b0_8_W := by decide +kernel) : after b0_8 V (Proc.devRef .tc r) = V (Proc.devRef .tc r) :=
  after_of_writes_sub b0_8 V b0_8_writes h
abbrev b0_9_W : List (Ref sig .tc) := [main_while0b_call8_v0, main_while0b_call8_c, main_while0b_call8_c_0, main_while0b_call8_c_1, main_while0b_v90]
theorem b0_9_writes : WritesIn (F := F) b0_9 b0_9_W :=
  forall_writes_sub_of_map rfl
theorem b0_9_keep {r : Ref sig .tc} (h : r ∉ b0_9_W := by decide +kernel) : after b0_9 V (Proc.devRef .tc r) = V (Proc.devRef .tc r) :=
  after_of_writes_sub b0_9 V b0_9_writes h
abbrev b0_10_W : List (Ref sig .tc) := [main_while0b_call9_v0, main_while0b_call9_c, main_while0b_call9_c_0, main_while0b_call9_c_1, main_while0b_v91]
theorem b0_10_writes : WritesIn (F := F) b0_10 b0_10_W :=
  forall_writes_sub_of_map rfl
theorem b0_10_keep {r : Ref sig .tc} (h : r ∉ b0_10_W := by decide +kernel) : after b0_10 V (Proc.devRef .tc r) = V (Proc.devRef .tc r) :=
  after_of_writes_sub b0_10 V b0_10_writes h
abbrev b0_11_W : List (Ref sig .tc) := [main_while0b_c_28, main_while0b_v92, main_v29_6, main_v29_7, main_v29_8, main_v29_9, main_v29_10, main_v29_11]
theorem b0_11_writes : WritesIn (F := F) b0_11 b0_11_W :=
  forall_writes_sub_of_map rfl
theorem b0_11_keep {r : Ref sig .tc} (h : r ∉ b0_11_W := by decide +kernel) : after b0_11 V (Proc.devRef .tc r) = V (Proc.devRef .tc r) :=
  after_of_writes_sub b0_11 V b0_11_writes h
abbrev b1_0_W : List (Ref sig .tc) := [main_while1b_c_30, main_while1b_v69, main_while1b_c_31, main_while1b_v70]
theorem b1_0_writes : WritesIn (F := F) b1_0 b1_0_W :=
  forall_writes_sub_of_map rfl
theorem b1_0_keep {r : Ref sig .tc} (h : r ∉ b1_0_W := by decide +kernel) : after b1_0 V (Proc.devRef .tc r) = V (Proc.devRef .tc r) :=
  after_of_writes_sub b1_0 V b1_0_writes h
abbrev b1_1_W : List (Ref sig .tc) := [main_while1b_call10_c, main_while1b_call10_c_0, main_while1b_call10_c_1, main_while1b_call10_v0, main_while1b_v71]
theorem b1_1_writes : WritesIn (F := F) b1_1 b1_1_W :=
  forall_writes_sub_of_map rfl
theorem b1_1_keep {r : Ref sig .tc} (h : r ∉ b1_1_W := by decide +kernel) : after b1_1 V (Proc.devRef .tc r) = V (Proc.devRef .tc r) :=
  after_of_writes_sub b1_1 V b1_1_writes h
abbrev b1_2_W : List (Ref sig .tc) := [main_while1b_call11_c, main_while1b_call11_c_0, main_while1b_call11_c_1, main_while1b_call11_v0, main_while1b_v72]
theorem b1_2_writes : WritesIn (F := F) b1_2 b1_2_W :=
  forall_writes_sub_of_map rfl
theorem b1_2_keep {r : Ref sig .tc} (h : r ∉ b1_2_W := by decide +kernel) : after b1_2 V (Proc.devRef .tc r) = V (Proc.devRef .tc r) :=
  after_of_writes_sub b1_2 V b1_2_writes h
abbrev b1_3_W : List (Ref sig .tc) := [main_while1b_call12_c, main_while1b_call12_c_0, main_while1b_call12_c_1, main_while1b_call12_v0, main_while1b_v73]
theorem b1_3_writes : WritesIn (F := F) b1_3 b1_3_W :=
  forall_writes_sub_of_map rfl
theorem b1_3_keep {r : Ref sig .tc} (h : r ∉ b1_3_W := by decide +kernel) : after b1_3 V (Proc.devRef .tc r) = V (Proc.devRef .tc r) :=
  after_of_writes_sub b1_3 V b1_3_writes h
abbrev b1_4_W : List (Ref sig .tc) := [main_while1b_call13_c, main_while1b_call13_c_0, main_while1b_call13_c_1, main_while1b_call13_v0, main_while1b_v74]
theorem b1_4_writes : WritesIn (F := F) b1_4 b1_4_W :=
  forall_writes_sub_of_map rfl
theorem b1_4_keep {r : Ref sig .tc} (h : r ∉ b1_4_W := by decide +kernel) : after b1_4 V (Proc.devRef .tc r) = V (Proc.devRef .tc r) :=
  after_of_writes_sub b1_4 V b1_4_writes h
abbrev b1_5_W : List (Ref sig .tc) := [main_while1b_call14_c, main_while1b_call14_c_0, main_while1b_call14_c_1, main_while1b_call14_v0, main_while1b_v75]
theorem b1_5_writes : WritesIn (F := F) b1_5 b1_5_W :=
  forall_writes_sub_of_map rfl
theorem b1_5_keep {r : Ref sig .tc} (h : r ∉ b1_5_W := by decide +kernel) : after b1_5 V (Proc.devRef .tc r) = V (Proc.devRef .tc r) :=
  after_of_writes_sub b1_5 V b1_5_writes h
abbrev b1_6_W : List (Ref sig .tc) := [main_while1b_call15_c, main_while1b_call15_c_0, main_while1b_call15_c_1, main_while1b_call15_v0, main_while1b_v76]
theorem b1_6_writes : WritesIn (F := F) b1_6 b1_6_W :=
  forall_writes_sub_of_map rfl
theorem b1_6_keep {r : Ref sig .tc} (h : r ∉ b1_6_W := by decide +kernel) : after b1_6 V (Proc.devRef .tc r) = V (Proc.devRef .tc r) :=
  after_of_writes_sub b1_6 V b1_6_writes h
abbrev b1_7_W : List (Ref sig .tc) := [main_while1b_call16_c, main_while1b_call16_c_0, main_while1b_call16_c_1, main_while1b_call16_v0, main_while1b_v77]
theorem b1_7_writes : WritesIn (F := F) b1_7 b1_7_W :=
  forall_writes_sub_of_map rfl
theorem b1_7_keep {r : Ref sig .tc} (h : r ∉ b1_7_W := by decide +kernel) : after b1_7 V (Proc.devRef .tc r) = V (Proc.devRef .tc r) :=
  after_of_writes_sub b1_7 V b1_7_writes h
abbrev b1_8_W : List (Ref sig .tc) := [main_while1b_call17_c, main_while1b_call17_c_0, main_while1b_call17_c_1, main_while1b_call17_v0, main_while1b_v78]
theorem b1_8_writes : WritesIn (F := F) b1_8 b1_8_W :=
  forall_writes_sub_of_map rfl
theorem b1_8_keep {r : Ref sig .tc} (h : r ∉ b1_8_W := by decide +kernel) : after b1_8 V (Proc.devRef .tc r) = V (Proc.devRef .tc r) :=
  after_of_writes_sub b1_8 V b1_8_writes h
abbrev b1_9_W : List (Ref sig .tc) := [main_while1b_v79, main_while1b_v80, main_while1b_v81, main_while1b_v82, main_while1b_v83, main_while1b_cst_32, main_while1b_v84, main_while1b_v85, main_while1b_v86, main_while1b_v87, main_while1b_cst_33, main_while1b_v88, main_while1b_v89, main_while1b_cst_34, main_while1b_v90, main_while1b_v91, main_while1b_v92, main_while1b_v93, main_while1b_v94, main_while1b_v95, main_while1b_v96, main_while1b_v97, main_while1b_v98, main_while1b_v99, main_while1b_v100, main_while1b_v101, main_while1b_v102, main_while1b_v103, main_while1b_v104]
theorem b1_9_writes : WritesIn (F := F) b1_9 b1_9_W :=
  forall_writes_sub_of_map rfl
theorem b1_9_keep {r : Ref sig .tc} (h : r ∉ b1_9_W := by decide +kernel) : after b1_9 V (Proc.devRef .tc r) = V (Proc.devRef .tc r) :=
  after_of_writes_sub b1_9 V b1_9_writes h
abbrev b1_10_W : List (Ref sig .tc) := [main_while1b_call18_v0, main_while1b_call18_c, main_while1b_call18_c_0, main_while1b_call18_c_1, main_while1b_v105]
theorem b1_10_writes : WritesIn (F := F) b1_10 b1_10_W :=
  forall_writes_sub_of_map rfl
theorem b1_10_keep {r : Ref sig .tc} (h : r ∉ b1_10_W := by decide +kernel) : after b1_10 V (Proc.devRef .tc r) = V (Proc.devRef .tc r) :=
  after_of_writes_sub b1_10 V b1_10_writes h
abbrev b1_11_W : List (Ref sig .tc) := [main_while1b_call19_v0, main_while1b_call19_c, main_while1b_call19_c_0, main_while1b_call19_c_1, main_while1b_v106]
theorem b1_11_writes : WritesIn (F := F) b1_11 b1_11_W :=
  forall_writes_sub_of_map rfl
theorem b1_11_keep {r : Ref sig .tc} (h : r ∉ b1_11_W := by decide +kernel) : after b1_11 V (Proc.devRef .tc r) = V (Proc.devRef .tc r) :=
  after_of_writes_sub b1_11 V b1_11_writes h
abbrev b1_12_W : List (Ref sig .tc) := [main_while1b_call20_v0, main_while1b_call20_c, main_while1b_call20_c_0, main_while1b_call20_c_1, main_while1b_v107]
theorem b1_12_writes : WritesIn (F := F) b1_12 b1_12_W :=
  forall_writes_sub_of_map rfl
theorem b1_12_keep {r : Ref sig .tc} (h : r ∉ b1_12_W := by decide +kernel) : after b1_12 V (Proc.devRef .tc r) = V (Proc.devRef .tc r) :=
  after_of_writes_sub b1_12 V b1_12_writes h
abbrev b1_13_W : List (Ref sig .tc) := [main_while1b_call21_v0, main_while1b_call21_c, main_while1b_call21_c_0, main_while1b_call21_c_1, main_while1b_v108]
theorem b1_13_writes : WritesIn (F := F) b1_13 b1_13_W :=
  forall_writes_sub_of_map rfl
theorem b1_13_keep {r : Ref sig .tc} (h : r ∉ b1_13_W := by decide +kernel) : after b1_13 V (Proc.devRef .tc r) = V (Proc.devRef .tc r) :=
  after_of_writes_sub b1_13 V b1_13_writes h
abbrev b1_14_W : List (Ref sig .tc) := [main_while1b_call22_v0, main_while1b_call22_c, main_while1b_call22_c_0, main_while1b_call22_c_1, main_while1b_v109]
theorem b1_14_writes : WritesIn (F := F) b1_14 b1_14_W :=
  forall_writes_sub_of_map rfl
theorem b1_14_keep {r : Ref sig .tc} (h : r ∉ b1_14_W := by decide +kernel) : after b1_14 V (Proc.devRef .tc r) = V (Proc.devRef .tc r) :=
  after_of_writes_sub b1_14 V b1_14_writes h
abbrev b1_15_W : List (Ref sig .tc) := [main_while1b_call23_v0, main_while1b_call23_c, main_while1b_call23_c_0, main_while1b_call23_c_1, main_while1b_v110]
theorem b1_15_writes : WritesIn (F := F) b1_15 b1_15_W :=
  forall_writes_sub_of_map rfl
theorem b1_15_keep {r : Ref sig .tc} (h : r ∉ b1_15_W := by decide +kernel) : after b1_15 V (Proc.devRef .tc r) = V (Proc.devRef .tc r) :=
  after_of_writes_sub b1_15 V b1_15_writes h
abbrev b1_16_W : List (Ref sig .tc) := [main_while1b_c_35, main_while1b_v111, main_v42_8, main_v42_9, main_v42_10]
theorem b1_16_writes : WritesIn (F := F) b1_16 b1_16_W :=
  forall_writes_sub_of_map rfl
theorem b1_16_keep {r : Ref sig .tc} (h : r ∉ b1_16_W := by decide +kernel) : after b1_16 V (Proc.devRef .tc r) = V (Proc.devRef .tc r) :=
  after_of_writes_sub b1_16 V b1_16_writes h
abbrev b1_17_W : List (Ref sig .tc) := [main_v42_11, main_v42_12, main_v42_13, main_v42_14, main_v42_15]
theorem b1_17_writes : WritesIn (F := F) b1_17 b1_17_W :=
  forall_writes_sub_of_map rfl
theorem b1_17_keep {r : Ref sig .tc} (h : r ∉ b1_17_W := by decide +kernel) : after b1_17 V (Proc.devRef .tc r) = V (Proc.devRef .tc r) :=
  after_of_writes_sub b1_17 V b1_17_writes h

end Cert.ReferenceIdeal.Ops

end
-- ==== Proof.RefRun.lean ====
module

public import proofs.«01_k».proof.Proof.RefOps

/-!
# The run of the reference

The two loops count to 64; the whole program runs to the contents its lines and loops leave, and ends with every
semaphore counter at zero.
-/

@[expose] public section

set_option maxRecDepth 16384

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

local notation "𝕄" => MT nD τ sig Unit (Elt F) ℕ (Option PUnit) ℕ

/-- The condition of each loop: the bound, and the counter compared with it. -/
abbrev cond0 : List (HloOp τ sig (Elt F)) :=
  [ StableHlo.nullary main_while0c_c_26 (constantI S_ 32 64#32),
    StableHlo.binary main_v29_6 main_while0c_c_26 main_while0c_v69 (cmpi .slt) ]
abbrev cond1 : List (HloOp τ sig (Elt F)) :=
  [ StableHlo.nullary main_while1c_c_30 (constantI S_ 32 64#32),
    StableHlo.binary main_v42_8 main_while1c_c_30 main_while1c_v69 (cmpi .slt) ]
abbrev cond0_W : List (Ref sig .tc) := [main_while0c_c_26, main_while0c_v69]
abbrev cond1_W : List (Ref sig .tc) := [main_while1c_c_30, main_while1c_v69]
theorem cond0_keep (V : Valuation τ sig (Elt F)) {r : Ref sig .tc} (h : r ∉ cond0_W) :
    after cond0 V (Proc.devRef .tc r) = V (Proc.devRef .tc r) :=
  after_of_writes_sub cond0 V (W := cond0_W) (StableHlo.forall_writes_sub_of_map rfl) h
theorem cond1_keep (V : Valuation τ sig (Elt F)) {r : Ref sig .tc} (h : r ∉ cond1_W) :
    after cond1 V (Proc.devRef .tc r) = V (Proc.devRef .tc r) :=
  after_of_writes_sub cond1 V (W := cond1_W) (StableHlo.forall_writes_sub_of_map rfl) h

/-! ## What the bodies keep and how they count -/

/-- Everything body 0 writes. -/
abbrev body0_W : List (Ref sig .tc) :=
  b0_0_W ++ b0_1_W ++ b0_2_W ++ b0_3_W ++ b0_4_W ++ b0_5_W ++ b0_6_W ++ b0_7_W ++ b0_8_W ++ b0_9_W ++ b0_10_W ++ b0_11_W
/-- Everything body 1 writes. -/
abbrev body1_W : List (Ref sig .tc) :=
  b1_0_W ++ b1_1_W ++ b1_2_W ++ b1_3_W ++ b1_4_W ++ b1_5_W ++ b1_6_W ++ b1_7_W ++ b1_8_W ++ b1_9_W ++ b1_10_W ++ b1_11_W
    ++ b1_12_W ++ b1_13_W ++ b1_14_W ++ b1_15_W ++ b1_16_W ++ b1_17_W
/-- What no line of body 0 writes body 0 keeps. -/
theorem body0_keep (V : Valuation τ sig (Elt F)) {r : Ref sig .tc} (h : r ∉ body0_W) :
    afterL body0I V (Proc.devRef .tc r) = V (Proc.devRef .tc r) := by
  simp only [body0_W, List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  simp only [afterL_cons, afterL_nil]
  rw [b0_11_keep _ h11, b0_10_keep _ h10, b0_9_keep _ h9, b0_8_keep _ h8, b0_7_keep _ h7, b0_6_keep _ h6, b0_5_keep _ h5,
    b0_4_keep _ h4, b0_3_keep _ h3, b0_2_keep _ h2, b0_1_keep _ h1, b0_0_keep _ h0]
/-- What no line of body 1 writes body 1 keeps. -/
theorem body1_keep (V : Valuation τ sig (Elt F)) {r : Ref sig .tc} (h : r ∉ body1_W) :
    afterL body1I V (Proc.devRef .tc r) = V (Proc.devRef .tc r) := by
  simp only [body1_W, List.mem_append, not_or] at h
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h
  simp only [afterL_cons, afterL_nil]
  rw [b1_17_keep _ h17, b1_16_keep _ h16, b1_15_keep _ h15, b1_14_keep _ h14, b1_13_keep _ h13, b1_12_keep _ h12,
    b1_11_keep _ h11, b1_10_keep _ h10, b1_9_keep _ h9, b1_8_keep _ h8, b1_7_keep _ h7, b1_6_keep _ h6, b1_5_keep _ h5,
    b1_4_keep _ h4, b1_3_keep _ h3, b1_2_keep _ h2, b1_1_keep _ h1, b1_0_keep _ h0]

set_option maxRecDepth 100000 in
/-- Body 0 moves its counter one on. -/
theorem ctr0_step (V : Valuation τ sig (Elt F)) :
    afterL body0I V (Proc.devRef .tc main_v29_6) = addi (V (Proc.devRef .tc main_v29_6)) (constantI S_ 32 1#32) := by
  simp only [afterL_cons, afterL_nil]
  have h : ∀ X : Valuation τ sig (Elt F), after b0_11 X (Proc.devRef .tc main_v29_6)
      = addi (X (Proc.devRef .tc main_v29_6)) (constantI S_ 32 1#32) := fun X => by after_results; rfl
  rw [h, b0_10_keep _, b0_9_keep _, b0_8_keep _,
    b0_7_keep _, b0_6_keep _, b0_5_keep _, b0_4_keep _,
    b0_3_keep _, b0_2_keep _, b0_1_keep _, b0_0_keep _]
set_option maxRecDepth 100000 in
/-- Body 1 moves its counter one on. -/
theorem ctr1_step (V : Valuation τ sig (Elt F)) :
    afterL body1I V (Proc.devRef .tc main_v42_8) = addi (V (Proc.devRef .tc main_v42_8)) (constantI S_ 32 1#32) := by
  simp only [afterL_cons, afterL_nil]
  have h : ∀ X : Valuation τ sig (Elt F), after b1_16 X (Proc.devRef .tc main_v42_8)
      = addi (X (Proc.devRef .tc main_v42_8)) (constantI S_ 32 1#32) := fun X => by after_results; rfl
  rw [b1_17_keep _, h,
    b1_15_keep _, b1_14_keep _, b1_13_keep _, b1_12_keep _, b1_11_keep _, b1_10_keep _, b1_9_keep _, b1_8_keep _, b1_7_keep _, b1_6_keep _, b1_5_keep _, b1_4_keep _, b1_3_keep _, b1_2_keep _, b1_1_keep _, b1_0_keep _]

/-- Before the `k`-th run of condition 0 its counter is `k`. -/
theorem ctr0_at (W₀ : Dev nD → Valuation τ sig (Elt F)) (h0 : ∀ c, W₀ c (Proc.devRef .tc main_v29_6) = fun _ => (0#32 : BitVec 32)) (c : Dev nD) :
    ∀ k, atTrip cond0 body0I W₀ k c (Proc.devRef .tc main_v29_6) = fun _ => Scf.iv 0#32 1#32 k
  | 0 => by rw [show atTrip cond0 body0I W₀ 0 c = W₀ c from rfl, h0, Scf.iv_zero]
  | k + 1 => by
    rw [show atTrip cond0 body0I W₀ (k + 1) c = afterL body0I (after cond0 (atTrip cond0 body0I W₀ k c)) from rfl, ctr0_step,
      cond0_keep _ (by decide +kernel), ctr0_at W₀ h0 c k, Scf.iv_succ]
    rfl

/-- Before the `k`-th run of condition 1 its counter is `k`. -/
theorem ctr1_at (W₀ : Dev nD → Valuation τ sig (Elt F)) (h0 : ∀ c, W₀ c (Proc.devRef .tc main_v42_8) = fun _ => (0#32 : BitVec 32)) (c : Dev nD) :
    ∀ k, atTrip cond1 body1I W₀ k c (Proc.devRef .tc main_v42_8) = fun _ => Scf.iv 0#32 1#32 k
  | 0 => by rw [show atTrip cond1 body1I W₀ 0 c = W₀ c from rfl, h0, Scf.iv_zero]
  | k + 1 => by
    rw [show atTrip cond1 body1I W₀ (k + 1) c = afterL body1I (after cond1 (atTrip cond1 body1I W₀ k c)) from rfl, ctr1_step,
      cond1_keep _ (by decide +kernel), ctr1_at W₀ h0 c k, Scf.iv_succ]
    rfl

-- `iapply` of a rule stated for any thread at the TensorCore thread needs unification to unfold definitions in types
set_option backward.isDefEq.respectTransparency.types false in
/-- Condition 0 holds exactly while the trip number is below 64. -/
theorem cond0_spec (W₀ : Dev nD → Valuation τ sig (Elt F))
    (h0 : ∀ c, W₀ c (Proc.devRef .tc main_v29_6) = fun _ => (0#32 : BitVec 32)) :
    CondSpec (pcfgs (F := F)) defs₀ loops (main_while0_cond (F := F)) cond0 body0I W₀ 64 := by
  intro k hk c bd
  have hctr := ctr0_at W₀ h0 c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0I W₀ k c) main_v29_6 HostLoop.idx0)
        (HloOp.result _ (atTrip cond0 body0I W₀ k c) main_while0c_c_26 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

-- `iapply` of a rule stated for any thread at the TensorCore thread needs unification to unfold definitions in types
set_option backward.isDefEq.respectTransparency.types false in
/-- Condition 1 holds exactly while the trip number is below 64. -/
theorem cond1_spec (W₀ : Dev nD → Valuation τ sig (Elt F))
    (h0 : ∀ c, W₀ c (Proc.devRef .tc main_v42_8) = fun _ => (0#32 : BitVec 32)) :
    CondSpec (pcfgs (F := F)) defs₀ loops (main_while1_cond (F := F)) cond1 body1I W₀ 64 := by
  intro k hk c bd
  have hctr := ctr1_at W₀ h0 c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1I W₀ k c) main_v42_8 HostLoop.idx0)
        (HloOp.result _ (atTrip cond1 body1I W₀ k c) main_while1c_c_30 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

variable (m : (ℓ : Loc nD τ sig) → Buf (Elt F) ℓ) (ρ : Dev nD → PrngReg)

/-! ## The contents at the loops -/

/-- At the first loop's entry, at its end, at the second loop's entry, at its end, and at the program's end. -/
abbrev E0 (c : Dev nD) : Valuation τ sig (Elt F) := entryContents preI m c
abbrev X0 (c : Dev nD) : Valuation τ sig (Elt F) := after cond0 (atTrip cond0 body0I (E0 m) 64 c)
abbrev E1 (c : Dev nD) : Valuation τ sig (Elt F) := afterL midI (X0 m c)
abbrev X1 (c : Dev nD) : Valuation τ sig (Elt F) := after cond1 (atTrip cond1 body1I (E1 m) 64 c)
abbrev Fin1 (c : Dev nD) : Valuation τ sig (Elt F) := afterL postI (X1 m c)

theorem E0_ctr (c : Dev nD) : E0 m c (Proc.devRef .tc main_v29_6) = fun _ => (0#32 : BitVec 32) := by
  simp only [E0, entryContents, afterL_cons, afterL_nil]
  after_reads_simp
  rfl
theorem E1_ctr (c : Dev nD) : E1 m c (Proc.devRef .tc main_v42_8) = fun _ => (0#32 : BitVec 32) := by
  simp only [E1, afterL_cons, afterL_nil]
  after_reads_simp
  rfl

/-! ## The program as segments -/

abbrev adm : (p : Fin 0) → ((pcfgs (F := F)) p).Adm := fun p => p.elim0
abbrev tk : Fin 0 → Ticket (Ix := Unit) (Name := ℕ) (U := Option PUnit) (Lvl := ℕ) (nD := nD) (τ := τ) (pcfgs (F := F)) adm := fun j => j.elim0
abbrev noL : GSem nD τ sig → Finset Unit := fun _ => ∅
abbrev nolv : GSem nD τ sig → Unit → ℕ := fun _ _ => 0
/-- What rides along beside the buffers. -/
abbrev Rw (c : Dev nD) : sProp 𝕄 := iprop(∃ W, owes (c : Thread nD τ) (0 : CellTallies nD τ sig Unit) W)

theorem loopCond {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Rw cond condOps bodyI W₀ n := by
  intro k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rw c)
        ⊢ iprop(⌜v = 1#1 ↔ k < n⌝ ∗ boundary (c : Thread nD τ) ∗ held (c : Thread nD τ) (ucRefs τ sig) (after condOps (atTrip condOps bodyI W₀ k c)) ∗ Rw c) := by
    intro v
    iintro ⟨⟨%hv, Hbd, Hh⟩, HR⟩
    isplitr
    · ipureintro; exact hv
    · isplitl [Hbd]
      · iexact Hbd
      · isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]
  · isplitl [Hbd] <;> iassumption
  · iexact HR

/-- The first loop and the second loop as segments. -/
def loop0 : CSeg (pcfgs (F := F)) adm defs₀ Variants.none noL nolv loops tk :=
  loopSeg _ _ _ _ _ _ _ _ 0 main_while0_cond main_while0_body rfl cond0 body0I hbody0I (by rw [body0_chain]; rfl) 64 (E0 m) Rw
    (loopCond (cond0_spec (E0 m) (E0_ctr m)))
def loop1 : CSeg (pcfgs (F := F)) adm defs₀ Variants.none noL nolv loops tk :=
  loopSeg _ _ _ _ _ _ _ _ 1 main_while1_cond main_while1_body rfl cond1 body1I hbody1I (by rw [body1_chain]; rfl) 64 (E1 m) Rw
    (loopCond (cond1_spec (E1 m) (E1_ctr m)))
/-- The whole program: the lines and the two loops, in order. -/
def segs : List (CSeg (pcfgs (F := F)) adm defs₀ Variants.none noL nolv loops tk) :=
  segsOf _ _ _ _ _ _ _ _ Rw preI hpreI (launchContents m)
    ++ loop0 m :: (segsOf _ _ _ _ _ _ _ _ Rw midI hmidI (X0 m) ++ loop1 m :: segsOf _ _ _ _ _ _ _ _ Rw postI hpostI (X1 m))

theorem segs_prog : (segs m).map CSeg.prog
    = [seq preOps, HostLoop.enter 0, seq midOpsA, seq midOpsB, HostLoop.enter 1, (seq postOps : Ops.Pr F)] := by
  unfold segs
  rw [List.map_append, List.map_cons, List.map_append, List.map_cons, segsOf_prog, segsOf_prog, segsOf_prog]
  rfl

theorem segs_chains :
    CSeg.Chains (fun c => iprop(held (c : Thread nD τ) (ucRefs τ sig) (launchContents m c) ∗ Rw c)) (segs m)
      (fun c => iprop(iprop(held (c : Thread nD τ) (ucRefs τ sig) (Fin1 m c)) ∗ ∃ W, owes (c : Thread nD τ) (0 : CellTallies nD τ sig Unit) W)) := by
  unfold segs
  exact CSeg.Chains.append (segsOf_chains _ _ _ _ _ _ _ _ Rw preI hpreI _)
    ⟨fun _ => .rfl, CSeg.Chains.append (segsOf_chains _ _ _ _ _ _ _ _ Rw midI hmidI _)
      ⟨fun _ => .rfl, segsOf_chains _ _ _ _ _ _ _ _ Rw postI hpostI _⟩⟩

theorem no_unscoped : ∀ sm : SemLoc sig, sm.isScoped .tc = true := by decide
/-- THE RUN: from any memory with zero counters the reference ends, with every buffer that holds a value of the program at
    `Fin1` and every semaphore counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
        r.2.mem ((c.tc : Thread nD τ).loc b) = Fin1 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none noL nolv loops tk m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Fin1 m c)))
    (hch := segs_chains m)
    (hinit := by
      refine Pipeline.initEach noL nolv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Fin1 m c b)
    (hfin := fun c s' => by
      unfold held
      iintro ⟨Hh, HSI⟩
      ihave Hr := (pointsTo_read_all (ucRefs τ sig) (fun b => ((c : Dev nD), b)) (fun b => Fin1 m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => hs g (.inr (no_unscoped g.2))⟩)

/-- A buffer no line writes ends as it began. -/
theorem keeps (c : Dev nD) {r : Ref sig .tc} (h : r ∉ preOps_W ++ (cond0_W ++ (body0_W ++ (midOpsA_W ++ (midOpsB_W ++ (cond1_W ++ (body1_W ++ postOps_W))))))) :
    Fin1 m c (Proc.devRef .tc r) = m ((c.tc : Thread nD τ).loc r) := by
  simp only [List.mem_append, not_or] at h
  obtain ⟨h0, h1, h2, h3, h4, h5, h6, h7⟩ := h
  have hat0 : ∀ k, atTrip cond0 body0I (E0 m) k c (Proc.devRef .tc r) = m ((c.tc : Thread nD τ).loc r) := by
    intro k
    induction k with
    | zero => exact (preOps_keep _ h0).trans rfl
    | succ k ih =>
      rw [show atTrip cond0 body0I (E0 m) (k + 1) c = afterL body0I (after cond0 (atTrip cond0 body0I (E0 m) k c)) from rfl,
        body0_keep _ (by simp only [List.mem_append, not_or]; exact h2), cond0_keep _ h1, ih]
  have hat1 : ∀ k, atTrip cond1 body1I (E1 m) k c (Proc.devRef .tc r) = m ((c.tc : Thread nD τ).loc r) := by
    intro k
    induction k with
    | zero =>
      show after midOpsB (after midOpsA (X0 m c)) _ = _
      rw [midOpsB_keep _ h4, midOpsA_keep _ h3]
      exact (cond0_keep _ h1).trans (hat0 64)
    | succ k ih =>
      rw [show atTrip cond1 body1I (E1 m) (k + 1) c = afterL body1I (after cond1 (atTrip cond1 body1I (E1 m) k c)) from rfl,
        body1_keep _ (by simp only [List.mem_append, not_or]; exact h6), cond1_keep _ h5, ih]
  show after postOps (X1 m c) _ = _
  rw [postOps_keep _ h7]
  exact (cond1_keep _ h5).trans (hat1 64)

/-- No line writes an argument. -/
theorem keeps_args (c : Dev nD) : ∀ r ∈ [main_arg0, main_arg1, main_arg2, main_arg3, main_arg4, main_arg5, main_arg6],
    Fin1 m c (Proc.devRef .tc r) = m ((c.tc : Thread nD τ).loc r) := fun r hr => keeps m c (by
  revert r
  decide +kernel)

end Cert.ReferenceIdeal.Run

end
-- ==== Proof.RefLine.lean ====
module

public import proofs.«01_k».proof.Proof.RefRun
public import proofs.«01_k».proof.Proof.Math
public import Idealize.ShloMosaic.Lib.StableHlo.ReadAt
public import Idealize.ShloMosaic.Lib.DynamicIndex
public import Idealize.ShloMosaic.Lib.Pipeline.Value

/-!
# What the lines of the loop bodies compute, over the extended reals
-/

@[expose] public section

set_option maxRecDepth 16384

noncomputable section

namespace Cert.ReferenceIdeal.Val

open Cert.ReferenceIdeal Cert.ReferenceIdeal.Gen Cert.ReferenceIdeal.Ops Scan
open Idealize.ShloMosaic Idealize.ShloMosaic.TcCoe Idealize.ShloMosaic.Tactic
open Idealize.SL Idealize.SL.RA Idealize.SL.BI
open Idealize.ShloMosaic.StableHlo

/-- A head of an array with four heads. -/
def r3 {a b : ℕ} (x : FVec Ideal ⟨3, ![4, a, b]⟩ .f32) (h : Fin 4) : Fin a → Fin b → EReal := fun i j => x (ix3 h i j)
/-- A chunk and head of an array of all chunks. -/
def r4 {a b : ℕ} (x : FVec Ideal ⟨4, ![64, 4, a, b]⟩ .f32) (n : Fin 64) (h : Fin 4) : Fin a → Fin b → EReal := fun i j => x (ix4 n h i j)

theorem iv_int (k : Fin 64) : (Scf.iv 0#32 1#32 k.val).toInt = (k.val : Int) :=
  (by decide +kernel : ∀ k : Fin 64, (Scf.iv 0#32 1#32 k.val).toInt = (k.val : Int)) k

theorem sliceRow (x : FVec Ideal S64x4x64x128 .f32) (k : Fin 64) (f : Fin S64x4x64x128.rank → Int) (h0 : f 0 = k.val) (h1 : f 1 = 0) (h2 : f 2 = 0) (h3 : f 3 = 0)
    (h : Fin 4) : r3 (shapeCast S4x64x128 (Host.dynamicSlice S1x4x64x128 x f sliceFits_S64x4x64x128_S1x4x64x128) shapeCasts_S1x4x64x128_S4x64x128) h = r4 x k h := by
  have hk := k.isLt
  have e : S64x4x64x128.Slices ![k.val, 0, 0, 0] S1x4x64x128 := ⟨rfl, fun i => by fin_cases i <;> simp [Shape.size, S64x4x64x128, S1x4x64x128] <;> omega⟩
  rw [Host.dynamicSlice_eq_extractStridedSlice S1x4x64x128 x f ![k.val, 0, 0, 0] sliceFits_S64x4x64x128_S1x4x64x128 e
    (fun i => by fin_cases i <;> simp [h0, h1, h2, h3])]
  funext i j
  unfold r3 r4
  pointwise

theorem putRow (x : FVec Ideal S64x4x64x128 .f32) (u : FVec Ideal S4x64x128 .f32) (k n : Fin 64) (f : Fin S64x4x64x128.rank → Int) (h0 : f 0 = k.val) (h1 : f 1 = 0)
    (h2 : f 2 = 0) (h3 : f 3 = 0) (h : Fin 4) :
    r4 (Host.dynamicUpdateSlice x (broadcastInDim S1x4x64x128 ![1, 2, 3] bcast_S4x64x128_S1x4x64x128_1_2_3 u) f updateFits_S64x4x64x128_S1x4x64x128) n h
      = if n = k then r3 u h else r4 x n h := by
  have hk := k.isLt
  have e : S64x4x64x128.Slices ![k.val, 0, 0, 0] S1x4x64x128 := ⟨rfl, fun i => by fin_cases i <;> simp [Shape.size, S64x4x64x128, S1x4x64x128] <;> omega⟩
  rw [Host.dynamicUpdateSlice_eq_updateSlice x _ f updateFits_S64x4x64x128_S1x4x64x128 ![k.val, 0, 0, 0]
    (fun i => by fin_cases i <;> simp [h0, h1, h2, h3, Shape.size, S64x4x64x128, S1x4x64x128] <;> omega) e]
  funext i j
  unfold r3 r4
  by_cases hn : n = k
  · subst hn
    pointwise
    simp
  · have hv : n.val ≠ k.val := fun q => hn (Fin.ext q)
    pointwise
    rw [if_neg hn, dif_neg (by omega)]

theorem sliceAttn (x : FVec Ideal S64x4x64x64 .f32) (k : Fin 64) (f : Fin S64x4x64x64.rank → Int) (h0 : f 0 = k.val) (h1 : f 1 = 0) (h2 : f 2 = 0) (h3 : f 3 = 0)
    (h : Fin 4) : r3 (shapeCast S4x64x64 (Host.dynamicSlice S1x4x64x64 x f sliceFits_S64x4x64x64_S1x4x64x64) shapeCasts_S1x4x64x64_S4x64x64) h = r4 x k h := by
  have hk := k.isLt
  have e : S64x4x64x64.Slices ![k.val, 0, 0, 0] S1x4x64x64 := ⟨rfl, fun i => by fin_cases i <;> simp [Shape.size, S64x4x64x64, S1x4x64x64] <;> omega⟩
  rw [Host.dynamicSlice_eq_extractStridedSlice S1x4x64x64 x f ![k.val, 0, 0, 0] sliceFits_S64x4x64x64_S1x4x64x64 e
    (fun i => by fin_cases i <;> simp [h0, h1, h2, h3])]
  funext i j
  unfold r3 r4
  pointwise

theorem putAttn (x : FVec Ideal S64x4x64x64 .f32) (u : FVec Ideal S4x64x64 .f32) (k n : Fin 64) (f : Fin S64x4x64x64.rank → Int) (h0 : f 0 = k.val) (h1 : f 1 = 0)
    (h2 : f 2 = 0) (h3 : f 3 = 0) (h : Fin 4) :
    r4 (Host.dynamicUpdateSlice x (broadcastInDim S1x4x64x64 ![1, 2, 3] bcast_S4x64x64_S1x4x64x64_1_2_3 u) f updateFits_S64x4x64x64_S1x4x64x64) n h
      = if n = k then r3 u h else r4 x n h := by
  have hk := k.isLt
  have e : S64x4x64x64.Slices ![k.val, 0, 0, 0] S1x4x64x64 := ⟨rfl, fun i => by fin_cases i <;> simp [Shape.size, S64x4x64x64, S1x4x64x64] <;> omega⟩
  rw [Host.dynamicUpdateSlice_eq_updateSlice x _ f updateFits_S64x4x64x64_S1x4x64x64 ![k.val, 0, 0, 0]
    (fun i => by fin_cases i <;> simp [h0, h1, h2, h3, Shape.size, S64x4x64x64, S1x4x64x64] <;> omega) e]
  funext i j
  unfold r3 r4
  by_cases hn : n = k
  · subst hn
    pointwise
    simp
  · have hv : n.val ≠ k.val := fun q => hn (Fin.ext q)
    pointwise
    rw [if_neg hn, dif_neg (by omega)]

theorem sliceState (x : FVec Ideal S64x4x128x128 .f32) (k : Fin 64) (f : Fin S64x4x128x128.rank → Int) (h0 : f 0 = k.val) (h1 : f 1 = 0) (h2 : f 2 = 0) (h3 : f 3 = 0)
    (h : Fin 4) : r3 (shapeCast S4x128x128 (Host.dynamicSlice S1x4x128x128 x f sliceFits_S64x4x128x128_S1x4x128x128) shapeCasts_S1x4x128x128_S4x128x128) h = r4 x k h := by
  have hk := k.isLt
  have e : S64x4x128x128.Slices ![k.val, 0, 0, 0] S1x4x128x128 := ⟨rfl, fun i => by fin_cases i <;> simp [Shape.size, S64x4x128x128, S1x4x128x128] <;> omega⟩
  rw [Host.dynamicSlice_eq_extractStridedSlice S1x4x128x128 x f ![k.val, 0, 0, 0] sliceFits_S64x4x128x128_S1x4x128x128 e
    (fun i => by fin_cases i <;> simp [h0, h1, h2, h3])]
  funext i j
  unfold r3 r4
  pointwise

theorem putState (x : FVec Ideal S64x4x128x128 .f32) (u : FVec Ideal S4x128x128 .f32) (k n : Fin 64) (f : Fin S64x4x128x128.rank → Int) (h0 : f 0 = k.val) (h1 : f 1 = 0)
    (h2 : f 2 = 0) (h3 : f 3 = 0) (h : Fin 4) :
    r4 (Host.dynamicUpdateSlice x (broadcastInDim S1x4x128x128 ![1, 2, 3] bcast_S4x128x128_S1x4x128x128_1_2_3 u) f updateFits_S64x4x128x128_S1x4x128x128) n h
      = if n = k then r3 u h else r4 x n h := by
  have hk := k.isLt
  have e : S64x4x128x128.Slices ![k.val, 0, 0, 0] S1x4x128x128 := ⟨rfl, fun i => by fin_cases i <;> simp [Shape.size, S64x4x128x128, S1x4x128x128] <;> omega⟩
  rw [Host.dynamicUpdateSlice_eq_updateSlice x _ f updateFits_S64x4x128x128_S1x4x128x128 ![k.val, 0, 0, 0]
    (fun i => by fin_cases i <;> simp [h0, h1, h2, h3, Shape.size, S64x4x128x128, S1x4x128x128] <;> omega) e]
  funext i j
  unfold r3 r4
  by_cases hn : n = k
  · subst hn
    pointwise
    simp
  · have hv : n.val ≠ k.val := fun q => hn (Fin.ext q)
    pointwise
    rw [if_neg hn, dif_neg (by omega)]

theorem sliceMean (x : FVec Ideal S64x4x1x128 .f32) (k : Fin 64) (f : Fin S64x4x1x128.rank → Int) (h0 : f 0 = k.val) (h1 : f 1 = 0) (h2 : f 2 = 0) (h3 : f 3 = 0)
    (h : Fin 4) : r3 (shapeCast S4x1x128 (Host.dynamicSlice S1x4x1x128 x f sliceFits_S64x4x1x128_S1x4x1x128) shapeCasts_S1x4x1x128_S4x1x128) h = r4 x k h := by
  have hk := k.isLt
  have e : S64x4x1x128.Slices ![k.val, 0, 0, 0] S1x4x1x128 := ⟨rfl, fun i => by fin_cases i <;> simp [Shape.size, S64x4x1x128, S1x4x1x128] <;> omega⟩
  rw [Host.dynamicSlice_eq_extractStridedSlice S1x4x1x128 x f ![k.val, 0, 0, 0] sliceFits_S64x4x1x128_S1x4x1x128 e
    (fun i => by fin_cases i <;> simp [h0, h1, h2, h3])]
  funext i j
  obtain rfl : i = 0 := Subsingleton.elim _ _
  unfold r3 r4
  pointwise

theorem putMean (x : FVec Ideal S64x4x1x128 .f32) (u : FVec Ideal S4x1x128 .f32) (k n : Fin 64) (f : Fin S64x4x1x128.rank → Int) (h0 : f 0 = k.val) (h1 : f 1 = 0)
    (h2 : f 2 = 0) (h3 : f 3 = 0) (h : Fin 4) :
    r4 (Host.dynamicUpdateSlice x (broadcastInDim S1x4x1x128 ![1, 2, 3] bcast_S4x1x128_S1x4x1x128_1_2_3 u) f updateFits_S64x4x1x128_S1x4x1x128) n h
      = if n = k then r3 u h else r4 x n h := by
  have hk := k.isLt
  have e : S64x4x1x128.Slices ![k.val, 0, 0, 0] S1x4x1x128 := ⟨rfl, fun i => by fin_cases i <;> simp [Shape.size, S64x4x1x128, S1x4x1x128] <;> omega⟩
  rw [Host.dynamicUpdateSlice_eq_updateSlice x _ f updateFits_S64x4x1x128_S1x4x1x128 ![k.val, 0, 0, 0]
    (fun i => by fin_cases i <;> simp [h0, h1, h2, h3, Shape.size, S64x4x1x128, S1x4x1x128] <;> omega) e]
  funext i j
  obtain rfl : i = 0 := Subsingleton.elim _ _
  unfold r3 r4
  by_cases hn : n = k
  · subst hn
    pointwise
    simp
  · have hv : n.val ≠ k.val := fun q => hn (Fin.ext q)
    pointwise
    rw [if_neg hn, dif_neg (by omega)]

set_option maxRecDepth 100000 in
theorem b0_0_val (V : Valuation τ sig (Elt Ideal)) (k : Fin 64) (hc : V (Proc.devRef .tc main_v29_6) = fun _ => Scf.iv 0#32 1#32 k.val) (h : Fin 4) :
    r3 (after b0_0 V (Proc.devRef .tc main_while0b_v69)) h = r4 (V (Proc.devRef .tc main_v29_0)) k h := by
  after_results
  refine sliceRow (V (Proc.devRef .tc main_v29_0)) k _ ?_ ?_ ?_ ?_ h
  · exact (congrArg BitVec.toInt (congrFun hc _)).trans (iv_int k)
  · first | rfl | (after_results; rfl)
  · rfl
  · rfl

set_option maxRecDepth 100000 in
theorem b0_1_val (V : Valuation τ sig (Elt Ideal)) (k : Fin 64) (hc : V (Proc.devRef .tc main_v29_6) = fun _ => Scf.iv 0#32 1#32 k.val) (h : Fin 4) :
    r3 (after b0_1 V (Proc.devRef .tc main_while0b_v70)) h = r4 (V (Proc.devRef .tc main_v29_1)) k h := by
  after_results
  refine sliceRow (V (Proc.devRef .tc main_v29_1)) k _ ?_ ?_ ?_ ?_ h
  · exact (congrArg BitVec.toInt (congrFun hc _)).trans (iv_int k)
  · first | rfl | (after_results; rfl)
  · rfl
  · rfl

set_option maxRecDepth 100000 in
theorem b0_2_val (V : Valuation τ sig (Elt Ideal)) (k : Fin 64) (hc : V (Proc.devRef .tc main_v29_6) = fun _ => Scf.iv 0#32 1#32 k.val) (h : Fin 4) :
    r3 (after b0_2 V (Proc.devRef .tc main_while0b_v71)) h = r4 (V (Proc.devRef .tc main_v29_2)) k h := by
  after_results
  refine sliceRow (V (Proc.devRef .tc main_v29_2)) k _ ?_ ?_ ?_ ?_ h
  · exact (congrArg BitVec.toInt (congrFun hc _)).trans (iv_int k)
  · first | rfl | (after_results; rfl)
  · rfl
  · rfl

set_option maxRecDepth 100000 in
theorem b0_3_val (V : Valuation τ sig (Elt Ideal)) (k : Fin 64) (hc : V (Proc.devRef .tc main_v29_6) = fun _ => Scf.iv 0#32 1#32 k.val) (h : Fin 4) :
    r3 (after b0_3 V (Proc.devRef .tc main_while0b_v72)) h = r4 (V (Proc.devRef .tc main_v29_3)) k h := by
  after_results
  refine sliceRow (V (Proc.devRef .tc main_v29_3)) k _ ?_ ?_ ?_ ?_ h
  · exact (congrArg BitVec.toInt (congrFun hc _)).trans (iv_int k)
  · first | rfl | (after_results; rfl)
  · rfl
  · rfl

set_option maxRecDepth 100000 in
theorem b0_4_val (V : Valuation τ sig (Elt Ideal)) (k : Fin 64) (hc : V (Proc.devRef .tc main_v29_6) = fun _ => Scf.iv 0#32 1#32 k.val) (h : Fin 4) :
    r3 (after b0_4 V (Proc.devRef .tc main_while0b_v73)) h = r4 (V (Proc.devRef .tc main_v29_4)) k h := by
  after_results
  refine sliceRow (V (Proc.devRef .tc main_v29_4)) k _ ?_ ?_ ?_ ?_ h
  · exact (congrArg BitVec.toInt (congrFun hc _)).trans (iv_int k)
  · first | rfl | (after_results; rfl)
  · rfl
  · rfl

set_option maxRecDepth 100000 in
theorem b0_5_val (V : Valuation τ sig (Elt Ideal)) (k : Fin 64) (hc : V (Proc.devRef .tc main_v29_6) = fun _ => Scf.iv 0#32 1#32 k.val) (h : Fin 4) :
    r3 (after b0_5 V (Proc.devRef .tc main_while0b_v74)) h = r4 (V (Proc.devRef .tc main_v29_5)) k h := by
  after_results
  refine sliceAttn (V (Proc.devRef .tc main_v29_5)) k _ ?_ ?_ ?_ ?_ h
  · exact (congrArg BitVec.toInt (congrFun hc _)).trans (iv_int k)
  · first | rfl | (after_results; rfl)
  · rfl
  · rfl

set_option maxRecDepth 100000 in
theorem b0_7_val (V : Valuation τ sig (Elt Ideal)) (k n : Fin 64) (hc : V (Proc.devRef .tc main_v29_6) = fun _ => Scf.iv 0#32 1#32 k.val) (h : Fin 4) :
    r4 (after b0_7 V (Proc.devRef .tc main_while0b_v88)) n h = if n = k then r3 (V (Proc.devRef .tc main_while0b_v79)) h else r4 (V (Proc.devRef .tc main_v29_8)) n h := by
  after_results
  refine putRow (V (Proc.devRef .tc main_v29_8)) (V (Proc.devRef .tc main_while0b_v79)) k n _ ?_ ?_ ?_ ?_ h
  · exact (congrArg BitVec.toInt (congrFun hc _)).trans (iv_int k)
  · first | rfl | (after_results; rfl)
  · rfl
  · rfl

set_option maxRecDepth 100000 in
theorem b0_8_val (V : Valuation τ sig (Elt Ideal)) (k n : Fin 64) (hc : V (Proc.devRef .tc main_v29_6) = fun _ => Scf.iv 0#32 1#32 k.val) (h : Fin 4) :
    r4 (after b0_8 V (Proc.devRef .tc main_while0b_v89)) n h = if n = k then r3 (V (Proc.devRef .tc main_v29_7)) h else r4 (V (Proc.devRef .tc main_v29_9)) n h := by
  after_results
  refine putState (V (Proc.devRef .tc main_v29_9)) (V (Proc.devRef .tc main_v29_7)) k n _ ?_ ?_ ?_ ?_ h
  · exact (congrArg BitVec.toInt (congrFun hc _)).trans (iv_int k)
  · first | rfl | (after_results; rfl)
  · rfl
  · rfl

set_option maxRecDepth 100000 in
theorem b0_9_val (V : Valuation τ sig (Elt Ideal)) (k n : Fin 64) (hc : V (Proc.devRef .tc main_v29_6) = fun _ => Scf.iv 0#32 1#32 k.val) (h : Fin 4) :
    r4 (after b0_9 V (Proc.devRef .tc main_while0b_v90)) n h = if n = k then r3 (V (Proc.devRef .tc main_while0b_v76)) h else r4 (V (Proc.devRef .tc main_v29_10)) n h := by
  after_results
  refine putRow (V (Proc.devRef .tc main_v29_10)) (V (Proc.devRef .tc main_while0b_v76)) k n _ ?_ ?_ ?_ ?_ h
  · exact (congrArg BitVec.toInt (congrFun hc _)).trans (iv_int k)
  · first | rfl | (after_results; rfl)
  · rfl
  · rfl

set_option maxRecDepth 100000 in
theorem b0_10_val (V : Valuation τ sig (Elt Ideal)) (k n : Fin 64) (hc : V (Proc.devRef .tc main_v29_6) = fun _ => Scf.iv 0#32 1#32 k.val) (h : Fin 4) :
    r4 (after b0_10 V (Proc.devRef .tc main_while0b_v91)) n h = if n = k then r3 (V (Proc.devRef .tc main_while0b_v83)) h else r4 (V (Proc.devRef .tc main_v29_11)) n h := by
  after_results
  refine putMean (V (Proc.devRef .tc main_v29_11)) (V (Proc.devRef .tc main_while0b_v83)) k n _ ?_ ?_ ?_ ?_ h
  · exact (congrArg BitVec.toInt (congrFun hc _)).trans (iv_int k)
  · first | rfl | (after_results; rfl)
  · rfl
  · rfl

set_option maxRecDepth 100000 in
theorem b1_1_val (V : Valuation τ sig (Elt Ideal)) (k : Fin 64) (hc : V (Proc.devRef .tc main_while1b_v70) = fun _ => Scf.iv 0#32 1#32 k.val) (h : Fin 4) :
    r3 (after b1_1 V (Proc.devRef .tc main_while1b_v71)) h = r4 (V (Proc.devRef .tc main_v42_0)) k h := by
  after_results
  refine sliceRow (V (Proc.devRef .tc main_v42_0)) k _ ?_ ?_ ?_ ?_ h
  · exact (congrArg BitVec.toInt (congrFun hc _)).trans (iv_int k)
  · first | rfl | (after_results; rfl)
  · rfl
  · rfl

set_option maxRecDepth 100000 in
theorem b1_2_val (V : Valuation τ sig (Elt Ideal)) (k : Fin 64) (hc : V (Proc.devRef .tc main_while1b_v70) = fun _ => Scf.iv 0#32 1#32 k.val) (h : Fin 4) :
    r3 (after b1_2 V (Proc.devRef .tc main_while1b_v72)) h = r4 (V (Proc.devRef .tc main_v42_1)) k h := by
  after_results
  refine sliceState (V (Proc.devRef .tc main_v42_1)) k _ ?_ ?_ ?_ ?_ h
  · exact (congrArg BitVec.toInt (congrFun hc _)).trans (iv_int k)
  · first | rfl | (after_results; rfl)
  · rfl
  · rfl

set_option maxRecDepth 100000 in
theorem b1_3_val (V : Valuation τ sig (Elt Ideal)) (k : Fin 64) (hc : V (Proc.devRef .tc main_while1b_v70) = fun _ => Scf.iv 0#32 1#32 k.val) (h : Fin 4) :
    r3 (after b1_3 V (Proc.devRef .tc main_while1b_v73)) h = r4 (V (Proc.devRef .tc main_v42_2)) k h := by
  after_results
  refine sliceRow (V (Proc.devRef .tc main_v42_2)) k _ ?_ ?_ ?_ ?_ h
  · exact (congrArg BitVec.toInt (congrFun hc _)).trans (iv_int k)
  · first | rfl | (after_results; rfl)
  · rfl
  · rfl

set_option maxRecDepth 100000 in
theorem b1_4_val (V : Valuation τ sig (Elt Ideal)) (k : Fin 64) (hc : V (Proc.devRef .tc main_while1b_v70) = fun _ => Scf.iv 0#32 1#32 k.val) (h : Fin 4) :
    r3 (after b1_4 V (Proc.devRef .tc main_while1b_v74)) h = r4 (V (Proc.devRef .tc main_v42_3)) k h := by
  after_results
  refine sliceRow (V (Proc.devRef .tc main_v42_3)) k _ ?_ ?_ ?_ ?_ h
  · exact (congrArg BitVec.toInt (congrFun hc _)).trans (iv_int k)
  · first | rfl | (after_results; rfl)
  · rfl
  · rfl

set_option maxRecDepth 100000 in
theorem b1_5_val (V : Valuation τ sig (Elt Ideal)) (k : Fin 64) (hc : V (Proc.devRef .tc main_while1b_v70) = fun _ => Scf.iv 0#32 1#32 k.val) (h : Fin 4) :
    r3 (after b1_5 V (Proc.devRef .tc main_while1b_v75)) h = r4 (V (Proc.devRef .tc main_v42_4)) k h := by
  after_results
  refine sliceRow (V (Proc.devRef .tc main_v42_4)) k _ ?_ ?_ ?_ ?_ h
  · exact (congrArg BitVec.toInt (congrFun hc _)).trans (iv_int k)
  · first | rfl | (after_results; rfl)
  · rfl
  · rfl

set_option maxRecDepth 100000 in
theorem b1_6_val (V : Valuation τ sig (Elt Ideal)) (k : Fin 64) (hc : V (Proc.devRef .tc main_while1b_v70) = fun _ => Scf.iv 0#32 1#32 k.val) (h : Fin 4) :
    r3 (after b1_6 V (Proc.devRef .tc main_while1b_v76)) h = r4 (V (Proc.devRef .tc main_v42_5)) k h := by
  after_results
  refine sliceAttn (V (Proc.devRef .tc main_v42_5)) k _ ?_ ?_ ?_ ?_ h
  · exact (congrArg BitVec.toInt (congrFun hc _)).trans (iv_int k)
  · first | rfl | (after_results; rfl)
  · rfl
  · rfl

set_option maxRecDepth 100000 in
theorem b1_7_val (V : Valuation τ sig (Elt Ideal)) (k : Fin 64) (hc : V (Proc.devRef .tc main_while1b_v70) = fun _ => Scf.iv 0#32 1#32 k.val) (h : Fin 4) :
    r3 (after b1_7 V (Proc.devRef .tc main_while1b_v77)) h = r4 (V (Proc.devRef .tc main_v42_6)) k h := by
  after_results
  refine sliceMean (V (Proc.devRef .tc main_v42_6)) k _ ?_ ?_ ?_ ?_ h
  · exact (congrArg BitVec.toInt (congrFun hc _)).trans (iv_int k)
  · first | rfl | (after_results; rfl)
  · rfl
  · rfl

set_option maxRecDepth 100000 in
theorem b1_8_val (V : Valuation τ sig (Elt Ideal)) (k : Fin 64) (hc : V (Proc.devRef .tc main_while1b_v70) = fun _ => Scf.iv 0#32 1#32 k.val) (h : Fin 4) :
    r3 (after b1_8 V (Proc.devRef .tc main_while1b_v78)) h = r4 (V (Proc.devRef .tc main_v42_7)) k h := by
  after_results
  refine sliceRow (V (Proc.devRef .tc main_v42_7)) k _ ?_ ?_ ?_ ?_ h
  · exact (congrArg BitVec.toInt (congrFun hc _)).trans (iv_int k)
  · first | rfl | (after_results; rfl)
  · rfl
  · rfl

set_option maxRecDepth 100000 in
theorem b1_10_val (V : Valuation τ sig (Elt Ideal)) (k n : Fin 64) (hc : V (Proc.devRef .tc main_while1b_v70) = fun _ => Scf.iv 0#32 1#32 k.val) (h : Fin 4) :
    r4 (after b1_10 V (Proc.devRef .tc main_while1b_v105)) n h = if n = k then r3 (V (Proc.devRef .tc main_while1b_v99)) h else r4 (V (Proc.devRef .tc main_v42_10)) n h := by
  after_results
  refine putRow (V (Proc.devRef .tc main_v42_10)) (V (Proc.devRef .tc main_while1b_v99)) k n _ ?_ ?_ ?_ ?_ h
  · exact (congrArg BitVec.toInt (congrFun hc _)).trans (iv_int k)
  · first | rfl | (after_results; rfl)
  · rfl
  · rfl

set_option maxRecDepth 100000 in
theorem b1_11_val (V : Valuation τ sig (Elt Ideal)) (k n : Fin 64) (hc : V (Proc.devRef .tc main_while1b_v70) = fun _ => Scf.iv 0#32 1#32 k.val) (h : Fin 4) :
    r4 (after b1_11 V (Proc.devRef .tc main_while1b_v106)) n h = if n = k then r3 (V (Proc.devRef .tc main_while1b_v82)) h else r4 (V (Proc.devRef .tc main_v42_11)) n h := by
  after_results
  refine putRow (V (Proc.devRef .tc main_v42_11)) (V (Proc.devRef .tc main_while1b_v82)) k n _ ?_ ?_ ?_ ?_ h
  · exact (congrArg BitVec.toInt (congrFun hc _)).trans (iv_int k)
  · first | rfl | (after_results; rfl)
  · rfl
  · rfl

set_option maxRecDepth 100000 in
theorem b1_12_val (V : Valuation τ sig (Elt Ideal)) (k n : Fin 64) (hc : V (Proc.devRef .tc main_while1b_v70) = fun _ => Scf.iv 0#32 1#32 k.val) (h : Fin 4) :
    r4 (after b1_12 V (Proc.devRef .tc main_while1b_v107)) n h = if n = k then r3 (V (Proc.devRef .tc main_while1b_v94)) h else r4 (V (Proc.devRef .tc main_v42_12)) n h := by
  after_results
  refine putRow (V (Proc.devRef .tc main_v42_12)) (V (Proc.devRef .tc main_while1b_v94)) k n _ ?_ ?_ ?_ ?_ h
  · exact (congrArg BitVec.toInt (congrFun hc _)).trans (iv_int k)
  · first | rfl | (after_results; rfl)
  · rfl
  · rfl

set_option maxRecDepth 100000 in
theorem b1_13_val (V : Valuation τ sig (Elt Ideal)) (k n : Fin 64) (hc : V (Proc.devRef .tc main_while1b_v70) = fun _ => Scf.iv 0#32 1#32 k.val) (h : Fin 4) :
    r4 (after b1_13 V (Proc.devRef .tc main_while1b_v108)) n h = if n = k then r3 (V (Proc.devRef .tc main_while1b_v104)) h else r4 (V (Proc.devRef .tc main_v42_13)) n h := by
  after_results
  refine putRow (V (Proc.devRef .tc main_v42_13)) (V (Proc.devRef .tc main_while1b_v104)) k n _ ?_ ?_ ?_ ?_ h
  · exact (congrArg BitVec.toInt (congrFun hc _)).trans (iv_int k)
  · first | rfl | (after_results; rfl)
  · rfl
  · rfl

set_option maxRecDepth 100000 in
theorem b1_14_val (V : Valuation τ sig (Elt Ideal)) (k n : Fin 64) (hc : V (Proc.devRef .tc main_while1b_v70) = fun _ => Scf.iv 0#32 1#32 k.val) (h : Fin 4) :
    r4 (after b1_14 V (Proc.devRef .tc main_while1b_v109)) n h = if n = k then r3 (V (Proc.devRef .tc main_while1b_v91)) h else r4 (V (Proc.devRef .tc main_v42_14)) n h := by
  after_results
  refine putRow (V (Proc.devRef .tc main_v42_14)) (V (Proc.devRef .tc main_while1b_v91)) k n _ ?_ ?_ ?_ ?_ h
  · exact (congrArg BitVec.toInt (congrFun hc _)).trans (iv_int k)
  · first | rfl | (after_results; rfl)
  · rfl
  · rfl

set_option maxRecDepth 100000 in
theorem b1_15_val (V : Valuation τ sig (Elt Ideal)) (k n : Fin 64) (hc : V (Proc.devRef .tc main_while1b_v70) = fun _ => Scf.iv 0#32 1#32 k.val) (h : Fin 4) :
    r4 (after b1_15 V (Proc.devRef .tc main_while1b_v110)) n h = if n = k then r3 (V (Proc.devRef .tc main_while1b_v95)) h else r4 (V (Proc.devRef .tc main_v42_15)) n h := by
  after_results
  refine putAttn (V (Proc.devRef .tc main_v42_15)) (V (Proc.devRef .tc main_while1b_v95)) k n _ ?_ ?_ ?_ ?_ h
  · exact (congrArg BitVec.toInt (congrFun hc _)).trans (iv_int k)
  · first | rfl | (after_results; rfl)
  · rfl
  · rfl

end Cert.ReferenceIdeal.Val
-- ==== Proof.RefOwn.lean ====
module

public import proofs.«01_k».proof.Proof.RefLine
public import Idealize.ShloMosaic.Lib.StableHlo.ReadAt
public import Idealize.ShloMosaic.Lib.DynamicIndex
public import Idealize.ShloMosaic.Lib.Pipeline.Value

/-!
# What the arithmetic of the loop bodies computes, over the extended reals
-/

@[expose] public section

set_option maxRecDepth 16384

noncomputable section

namespace Cert.ReferenceIdeal.Val

open Cert.ReferenceIdeal Cert.ReferenceIdeal.Gen Cert.ReferenceIdeal.Ops Scan
open Idealize.ShloMosaic Idealize.ShloMosaic.TcCoe Idealize.ShloMosaic.Tactic
open Idealize.SL Idealize.SL.RA Idealize.SL.BI
open Idealize.ShloMosaic.StableHlo

/-- Dividing by 64 is multiplying by its inverse. -/
theorem div64 (a : EReal) : Ideal.div a (Ideal.ofBits .f32 0x42800000#32) = a * kap := by
  have h1 : Ideal.ofBits .f32 0x42800000#32 = ((64 : ℝ) : EReal) := by
    simp [Ideal.ofBits, Ideal.ieee, -EReal.coe_mul]
    norm_num
  have h2 : kap = (((1 : ℝ) / 64 : ℝ) : EReal) := by
    simp [kap, Ideal.ofBits, Ideal.ieee, -EReal.coe_mul]
    norm_num
  rw [h1, h2, Ideal.div_coe (by norm_num)]

theorem b0_v76 (V : Valuation τ sig (Elt Ideal)) (h : Fin 4) :
    r3 (after b0_6 V (Proc.devRef .tc main_while0b_v76)) h
      = vnew (r3 (V (Proc.devRef .tc main_v29_7)) h) (r3 (V (Proc.devRef .tc main_while0b_v71)) h) (r3 (V (Proc.devRef .tc main_while0b_v72)) h) := by
  funext i j
  show after b0_6 V (Proc.devRef .tc main_while0b_v76) (ix3 h i j) = _
  after_reads_at
  rfl

theorem b0_v83 (V : Valuation τ sig (Elt Ideal)) (h : Fin 4) :
    r3 (after b0_6 V (Proc.devRef .tc main_while0b_v83)) h
      = fun _ j => mean (r3 (V (Proc.devRef .tc main_while0b_v73)) h) j := by
  funext i j
  show after b0_6 V (Proc.devRef .tc main_while0b_v83) (ix3 h i j) = _
  after_reads_at
  rw [div64]
  rfl

theorem b0_v87 (V : Valuation τ sig (Elt Ideal)) (h : Fin 4) :
    r3 (after b0_6 V (Proc.devRef .tc main_while0b_v87)) h
      = snext (r3 (V (Proc.devRef .tc main_v29_7)) h) (r3 (V (Proc.devRef .tc main_while0b_v71)) h) (r3 (V (Proc.devRef .tc main_while0b_v72)) h) (r3 (V (Proc.devRef .tc main_while0b_v70)) h) (r3 (V (Proc.devRef .tc main_while0b_v73)) h) := by
  funext i j
  show after b0_6 V (Proc.devRef .tc main_while0b_v87) (ix3 h i j) = _
  after_reads_at
  rw [div64]
  rfl

theorem b1_v82 (V : Valuation τ sig (Elt Ideal)) (h : Fin 4) :
    r3 (after b1_9 V (Proc.devRef .tc main_while1b_v82)) h
      = fun c k => ∑ v, (r3 (V (Proc.devRef .tc main_while1b_v75)) h) c v * (r3 (V (Proc.devRef .tc main_v42_9)) h) k v := by
  funext i j
  show after b1_9 V (Proc.devRef .tc main_while1b_v82) (ix3 h i j) = _
  after_reads_at
  exact Finset.sum_congr rfl fun _ _ => mul_comm _ _

theorem b1_v91 (V : Valuation τ sig (Elt Ideal)) (h : Fin 4) :
    r3 (after b1_9 V (Proc.devRef .tc main_while1b_v91)) h
      = fun _ v => dd (r3 (V (Proc.devRef .tc main_while1b_v72)) h) (r3 (V (Proc.devRef .tc main_v42_9)) h) v := by
  funext i j
  show after b1_9 V (Proc.devRef .tc main_while1b_v91) (ix3 h i j) = _
  after_reads_at
  simp only [Fin.sum_univ_one, div64]
  rfl

theorem b1_v94 (V : Valuation τ sig (Elt Ideal)) (h : Fin 4) :
    r3 (after b1_9 V (Proc.devRef .tc main_while1b_v94)) h
      = dv (r3 (V (Proc.devRef .tc main_v42_9)) h) (r3 (V (Proc.devRef .tc main_while1b_v78)) h) (r3 (V (Proc.devRef .tc main_while1b_v76)) h) (r3 (V (Proc.devRef .tc main_while1b_v71)) h) := by
  funext i j
  show after b1_9 V (Proc.devRef .tc main_while1b_v94) (ix3 h i j) = _
  after_reads_at
  exact congrArg₂ (· + ·) (Finset.sum_congr rfl fun _ _ => mul_comm _ _) (Finset.sum_congr rfl fun _ _ => mul_comm _ _)

theorem b1_v95 (V : Valuation τ sig (Elt Ideal)) (h : Fin 4) :
    r3 (after b1_9 V (Proc.devRef .tc main_while1b_v95)) h
      = fun c j => ∑ v, (r3 (V (Proc.devRef .tc main_while1b_v71)) h) c v * (r3 (V (Proc.devRef .tc main_while1b_v75)) h) j v := by
  funext i j
  show after b1_9 V (Proc.devRef .tc main_while1b_v95) (ix3 h i j) = _
  after_reads_at
  rfl

theorem b1_v99 (V : Valuation τ sig (Elt Ideal)) (h : Fin 4) :
    r3 (after b1_9 V (Proc.devRef .tc main_while1b_v99)) h
      = dq (r3 (V (Proc.devRef .tc main_while1b_v72)) h) (r3 (V (Proc.devRef .tc main_while1b_v71)) h) := by
  funext i j
  show after b1_9 V (Proc.devRef .tc main_while1b_v99) (ix3 h i j) = _
  after_reads_at
  rfl

theorem b1_v103 (V : Valuation τ sig (Elt Ideal)) (h : Fin 4) :
    r3 (after b1_9 V (Proc.devRef .tc main_while1b_v103)) h
      = fun k v => (r3 (V (Proc.devRef .tc main_v42_9)) h) k v * (r3 (V (Proc.devRef .tc main_while1b_v77)) h) 0 v + (∑ c, (r3 (V (Proc.devRef .tc main_while1b_v74)) h) c k * (r3 (V (Proc.devRef .tc main_while1b_v71)) h) c v) + ∑ c, (r3 (V (Proc.devRef .tc main_while1b_v73)) h) c k * -(dv (r3 (V (Proc.devRef .tc main_v42_9)) h) (r3 (V (Proc.devRef .tc main_while1b_v78)) h) (r3 (V (Proc.devRef .tc main_while1b_v76)) h) (r3 (V (Proc.devRef .tc main_while1b_v71)) h) c v) := by
  funext i j
  show after b1_9 V (Proc.devRef .tc main_while1b_v103) (ix3 h i j) = _
  after_reads_at
  refine congrArg₂ (· + ·) (congrArg₂ (· + ·) rfl (Finset.sum_congr rfl fun _ _ => mul_comm _ _)) (Finset.sum_congr rfl fun c _ => ?_)
  rw [mul_comm]
  exact congrArg₂ (· * ·) rfl (congrArg Neg.neg (congrArg₂ (· + ·) (Finset.sum_congr rfl fun _ _ => mul_comm _ _) (Finset.sum_congr rfl fun _ _ => mul_comm _ _)))

theorem b1_v104 (V : Valuation τ sig (Elt Ideal)) (h : Fin 4) :
    r3 (after b1_9 V (Proc.devRef .tc main_while1b_v104)) h
      = dw (r3 (V (Proc.devRef .tc main_while1b_v72)) h) (r3 (V (Proc.devRef .tc main_v42_9)) h) (r3 (V (Proc.devRef .tc main_while1b_v78)) h) (r3 (V (Proc.devRef .tc main_while1b_v76)) h) (r3 (V (Proc.devRef .tc main_while1b_v71)) h) := by
  funext i j
  show after b1_9 V (Proc.devRef .tc main_while1b_v104) (ix3 h i j) = _
  after_reads_at
  refine Finset.sum_congr rfl fun v _ => ?_
  exact congrArg₂ (· * ·) (congrArg Neg.neg (congrArg₂ (· + ·) (Finset.sum_congr rfl fun _ _ => mul_comm _ _) (Finset.sum_congr rfl fun _ _ => mul_comm _ _))) rfl

end Cert.ReferenceIdeal.Val
-- ==== Proof.RefBody0.lean ====
module

public import proofs.«01_k».proof.Proof.RefOwn
public import Idealize.ShloMosaic.Lib.StableHlo.ReadAt
public import Idealize.ShloMosaic.Lib.DynamicIndex
public import Idealize.ShloMosaic.Lib.Pipeline.Value

/-!
# What one trip of each loop computes, over the extended reals
-/

@[expose] public section

set_option maxRecDepth 16384

noncomputable section

namespace Cert.ReferenceIdeal.Val

open Cert.ReferenceIdeal Cert.ReferenceIdeal.Gen Cert.ReferenceIdeal.Ops Scan
open Idealize.ShloMosaic Idealize.ShloMosaic.TcCoe Idealize.ShloMosaic.Tactic
open Idealize.SL Idealize.SL.RA Idealize.SL.BI
open Idealize.ShloMosaic.StableHlo

variable (V : Valuation τ sig (Elt Ideal))

/-! ## The contents after each line of the body -/

abbrev P0_0 : Valuation τ sig (Elt Ideal) := V
abbrev P0_1 : Valuation τ sig (Elt Ideal) := after b0_0 (P0_0 V)
abbrev P0_2 : Valuation τ sig (Elt Ideal) := after b0_1 (P0_1 V)
abbrev P0_3 : Valuation τ sig (Elt Ideal) := after b0_2 (P0_2 V)
abbrev P0_4 : Valuation τ sig (Elt Ideal) := after b0_3 (P0_3 V)
abbrev P0_5 : Valuation τ sig (Elt Ideal) := after b0_4 (P0_4 V)
abbrev P0_6 : Valuation τ sig (Elt Ideal) := after b0_5 (P0_5 V)
abbrev P0_7 : Valuation τ sig (Elt Ideal) := after b0_6 (P0_6 V)
abbrev P0_8 : Valuation τ sig (Elt Ideal) := after b0_7 (P0_7 V)
abbrev P0_9 : Valuation τ sig (Elt Ideal) := after b0_8 (P0_8 V)
abbrev P0_10 : Valuation τ sig (Elt Ideal) := after b0_9 (P0_9 V)
abbrev P0_11 : Valuation τ sig (Elt Ideal) := after b0_10 (P0_10 V)
abbrev P0_12 : Valuation τ sig (Elt Ideal) := after b0_11 (P0_11 V)

theorem body0_eq : afterL body0I V = P0_12 V := rfl

theorem rd_while0b_v69 (k : Fin 64) (hc : V (Proc.devRef .tc main_v29_6) = fun _ => Scf.iv 0#32 1#32 k.val) (h : Fin 4) :
    r3 (P0_6 V (Proc.devRef .tc main_while0b_v69)) h = r4 (V (Proc.devRef .tc main_v29_0)) k h := by
  have q := hc
  have e : P0_6 V (Proc.devRef .tc main_while0b_v69) = P0_1 V (Proc.devRef .tc main_while0b_v69) := (b0_5_keep _).trans ((b0_4_keep _).trans ((b0_3_keep _).trans ((b0_2_keep _).trans (b0_1_keep _))))
  rw [e]
  refine (b0_0_val _ k q h).trans ?_
  rfl

theorem rd_while0b_v70 (k : Fin 64) (hc : V (Proc.devRef .tc main_v29_6) = fun _ => Scf.iv 0#32 1#32 k.val) (h : Fin 4) :
    r3 (P0_6 V (Proc.devRef .tc main_while0b_v70)) h = r4 (V (Proc.devRef .tc main_v29_1)) k h := by
  have q : P0_1 V (Proc.devRef .tc main_v29_6) = fun _ => Scf.iv 0#32 1#32 k.val := (b0_0_keep _).trans hc
  have e : P0_6 V (Proc.devRef .tc main_while0b_v70) = P0_2 V (Proc.devRef .tc main_while0b_v70) := (b0_5_keep _).trans ((b0_4_keep _).trans ((b0_3_keep _).trans (b0_2_keep _)))
  rw [e]
  refine (b0_1_val _ k q h).trans ?_
  have f : P0_1 V (Proc.devRef .tc main_v29_1) = P0_0 V (Proc.devRef .tc main_v29_1) := b0_0_keep _
  rw [f]

theorem rd_while0b_v71 (k : Fin 64) (hc : V (Proc.devRef .tc main_v29_6) = fun _ => Scf.iv 0#32 1#32 k.val) (h : Fin 4) :
    r3 (P0_6 V (Proc.devRef .tc main_while0b_v71)) h = r4 (V (Proc.devRef .tc main_v29_2)) k h := by
  have q : P0_2 V (Proc.devRef .tc main_v29_6) = fun _ => Scf.iv 0#32 1#32 k.val := ((b0_1_keep _).trans (b0_0_keep _)).trans hc
  have e : P0_6 V (Proc.devRef .tc main_while0b_v71) = P0_3 V (Proc.devRef .tc main_while0b_v71) := (b0_5_keep _).trans ((b0_4_keep _).trans (b0_3_keep _))
  rw [e]
  refine (b0_2_val _ k q h).trans ?_
  have f : P0_2 V (Proc.devRef .tc main_v29_2) = P0_0 V (Proc.devRef .tc main_v29_2) := (b0_1_keep _).trans (b0_0_keep _)
  rw [f]

theorem rd_while0b_v72 (k : Fin 64) (hc : V (Proc.devRef .tc main_v29_6) = fun _ => Scf.iv 0#32 1#32 k.val) (h : Fin 4) :
    r3 (P0_6 V (Proc.devRef .tc main_while0b_v72)) h = r4 (V (Proc.devRef .tc main_v29_3)) k h := by
  have q : P0_3 V (Proc.devRef .tc main_v29_6) = fun _ => Scf.iv 0#32 1#32 k.val := ((b0_2_keep _).trans ((b0_1_keep _).trans (b0_0_keep _))).trans hc
  have e : P0_6 V (Proc.devRef .tc main_while0b_v72) = P0_4 V (Proc.devRef .tc main_while0b_v72) := (b0_5_keep _).trans (b0_4_keep _)
  rw [e]
  refine (b0_3_val _ k q h).trans ?_
  have f : P0_3 V (Proc.devRef .tc main_v29_3) = P0_0 V (Proc.devRef .tc main_v29_3) := (b0_2_keep _).trans ((b0_1_keep _).trans (b0_0_keep _))
  rw [f]

theorem rd_while0b_v73 (k : Fin 64) (hc : V (Proc.devRef .tc main_v29_6) = fun _ => Scf.iv 0#32 1#32 k.val) (h : Fin 4) :
    r3 (P0_6 V (Proc.devRef .tc main_while0b_v73)) h = r4 (V (Proc.devRef .tc main_v29_4)) k h := by
  have q : P0_4 V (Proc.devRef .tc main_v29_6) = fun _ => Scf.iv 0#32 1#32 k.val := ((b0_3_keep _).trans ((b0_2_keep _).trans ((b0_1_keep _).trans (b0_0_keep _)))).trans hc
  have e : P0_6 V (Proc.devRef .tc main_while0b_v73) = P0_5 V (Proc.devRef .tc main_while0b_v73) := b0_5_keep _
  rw [e]
  refine (b0_4_val _ k q h).trans ?_
  have f : P0_4 V (Proc.devRef .tc main_v29_4) = P0_0 V (Proc.devRef .tc main_v29_4) := (b0_3_keep _).trans ((b0_2_keep _).trans ((b0_1_keep _).trans (b0_0_keep _)))
  rw [f]

theorem rd_while0b_v74 (k : Fin 64) (hc : V (Proc.devRef .tc main_v29_6) = fun _ => Scf.iv 0#32 1#32 k.val) (h : Fin 4) :
    r3 (P0_6 V (Proc.devRef .tc main_while0b_v74)) h = r4 (V (Proc.devRef .tc main_v29_5)) k h := by
  have q : P0_5 V (Proc.devRef .tc main_v29_6) = fun _ => Scf.iv 0#32 1#32 k.val := ((b0_4_keep _).trans ((b0_3_keep _).trans ((b0_2_keep _).trans ((b0_1_keep _).trans (b0_0_keep _))))).trans hc
  refine (b0_5_val _ k q h).trans ?_
  have f : P0_5 V (Proc.devRef .tc main_v29_5) = P0_0 V (Proc.devRef .tc main_v29_5) := (b0_4_keep _).trans ((b0_3_keep _).trans ((b0_2_keep _).trans ((b0_1_keep _).trans (b0_0_keep _))))
  rw [f]

set_option maxRecDepth 100000 in
theorem cp_v29_7 (X : Valuation τ sig (Elt Ideal)) : after b0_11 X (Proc.devRef .tc main_v29_7) = X (Proc.devRef .tc main_while0b_v87) := by
  after_results
  try rfl

set_option maxRecDepth 100000 in
theorem cp_v29_8 (X : Valuation τ sig (Elt Ideal)) : after b0_11 X (Proc.devRef .tc main_v29_8) = X (Proc.devRef .tc main_while0b_v88) := by
  after_results
  try rfl

set_option maxRecDepth 100000 in
theorem cp_v29_9 (X : Valuation τ sig (Elt Ideal)) : after b0_11 X (Proc.devRef .tc main_v29_9) = X (Proc.devRef .tc main_while0b_v89) := by
  after_results
  try rfl

set_option maxRecDepth 100000 in
theorem cp_v29_10 (X : Valuation τ sig (Elt Ideal)) : after b0_11 X (Proc.devRef .tc main_v29_10) = X (Proc.devRef .tc main_while0b_v90) := by
  after_results
  try rfl

set_option maxRecDepth 100000 in
theorem cp_v29_11 (X : Valuation τ sig (Elt Ideal)) : after b0_11 X (Proc.devRef .tc main_v29_11) = X (Proc.devRef .tc main_while0b_v91) := by
  after_results
  try rfl

theorem end_v29_7 (k : Fin 64) (hc : V (Proc.devRef .tc main_v29_6) = fun _ => Scf.iv 0#32 1#32 k.val) (h : Fin 4) :
    r3 (P0_12 V (Proc.devRef .tc main_v29_7)) h
      = snext (r3 (V (Proc.devRef .tc main_v29_7)) h) (r4 (V (Proc.devRef .tc main_v29_2)) k h) (r4 (V (Proc.devRef .tc main_v29_3)) k h) (r4 (V (Proc.devRef .tc main_v29_1)) k h) (r4 (V (Proc.devRef .tc main_v29_4)) k h) := by
  refine (congrArg (fun x : FVec Ideal S4x128x128 .f32 => r3 x h) (cp_v29_7 (P0_11 V))).trans ?_
  have f : P0_11 V (Proc.devRef .tc main_while0b_v87) = P0_7 V (Proc.devRef .tc main_while0b_v87) := (b0_10_keep _).trans ((b0_9_keep _).trans ((b0_8_keep _).trans (b0_7_keep _)))
  show r3 (P0_11 V (Proc.devRef .tc main_while0b_v87)) h = _
  rw [f]
  refine (b0_v87 _ h).trans ?_
  have g0 : P0_6 V (Proc.devRef .tc main_v29_7) = P0_0 V (Proc.devRef .tc main_v29_7) := (b0_5_keep _).trans ((b0_4_keep _).trans ((b0_3_keep _).trans ((b0_2_keep _).trans ((b0_1_keep _).trans (b0_0_keep _)))))
  rw [g0]
  rw [rd_while0b_v71 V k hc h, rd_while0b_v72 V k hc h, rd_while0b_v70 V k hc h, rd_while0b_v73 V k hc h]

theorem end_v29_9 (k : Fin 64) (hc : V (Proc.devRef .tc main_v29_6) = fun _ => Scf.iv 0#32 1#32 k.val) (n : Fin 64) (h : Fin 4) :
    r4 (P0_12 V (Proc.devRef .tc main_v29_9)) n h
      = if n = k then (r3 (V (Proc.devRef .tc main_v29_7)) h) else r4 (V (Proc.devRef .tc main_v29_9)) n h := by
  refine (congrArg (fun x : FVec Ideal S64x4x128x128 .f32 => r4 x n h) (cp_v29_9 (P0_11 V))).trans ?_
  show r4 (P0_11 V (Proc.devRef .tc main_while0b_v89)) n h = _
  have f : P0_11 V (Proc.devRef .tc main_while0b_v89) = P0_9 V (Proc.devRef .tc main_while0b_v89) := (b0_10_keep _).trans (b0_9_keep _)
  rw [f]
  have q : P0_8 V (Proc.devRef .tc main_v29_6) = fun _ => Scf.iv 0#32 1#32 k.val := ((b0_7_keep _).trans ((b0_6_keep _).trans ((b0_5_keep _).trans ((b0_4_keep _).trans ((b0_3_keep _).trans ((b0_2_keep _).trans ((b0_1_keep _).trans (b0_0_keep _)))))))).trans hc
  refine (b0_8_val _ k n q h).trans ?_
  have a : P0_8 V (Proc.devRef .tc main_v29_9) = P0_0 V (Proc.devRef .tc main_v29_9) := (b0_7_keep _).trans ((b0_6_keep _).trans ((b0_5_keep _).trans ((b0_4_keep _).trans ((b0_3_keep _).trans ((b0_2_keep _).trans ((b0_1_keep _).trans (b0_0_keep _)))))))
  rw [a]
  have b : P0_8 V (Proc.devRef .tc main_v29_7) = P0_0 V (Proc.devRef .tc main_v29_7) := (b0_7_keep _).trans ((b0_6_keep _).trans ((b0_5_keep _).trans ((b0_4_keep _).trans ((b0_3_keep _).trans ((b0_2_keep _).trans ((b0_1_keep _).trans (b0_0_keep _)))))))
  rw [b]

theorem end_v29_10 (k : Fin 64) (hc : V (Proc.devRef .tc main_v29_6) = fun _ => Scf.iv 0#32 1#32 k.val) (n : Fin 64) (h : Fin 4) :
    r4 (P0_12 V (Proc.devRef .tc main_v29_10)) n h
      = if n = k then vnew (r3 (V (Proc.devRef .tc main_v29_7)) h) (r4 (V (Proc.devRef .tc main_v29_2)) k h) (r4 (V (Proc.devRef .tc main_v29_3)) k h) else r4 (V (Proc.devRef .tc main_v29_10)) n h := by
  refine (congrArg (fun x : FVec Ideal S64x4x64x128 .f32 => r4 x n h) (cp_v29_10 (P0_11 V))).trans ?_
  show r4 (P0_11 V (Proc.devRef .tc main_while0b_v90)) n h = _
  have f : P0_11 V (Proc.devRef .tc main_while0b_v90) = P0_10 V (Proc.devRef .tc main_while0b_v90) := b0_10_keep _
  rw [f]
  have q : P0_9 V (Proc.devRef .tc main_v29_6) = fun _ => Scf.iv 0#32 1#32 k.val := ((b0_8_keep _).trans ((b0_7_keep _).trans ((b0_6_keep _).trans ((b0_5_keep _).trans ((b0_4_keep _).trans ((b0_3_keep _).trans ((b0_2_keep _).trans ((b0_1_keep _).trans (b0_0_keep _))))))))).trans hc
  refine (b0_9_val _ k n q h).trans ?_
  have a : P0_9 V (Proc.devRef .tc main_v29_10) = P0_0 V (Proc.devRef .tc main_v29_10) := (b0_8_keep _).trans ((b0_7_keep _).trans ((b0_6_keep _).trans ((b0_5_keep _).trans ((b0_4_keep _).trans ((b0_3_keep _).trans ((b0_2_keep _).trans ((b0_1_keep _).trans (b0_0_keep _))))))))
  rw [a]
  have b : P0_9 V (Proc.devRef .tc main_while0b_v76) = P0_7 V (Proc.devRef .tc main_while0b_v76) := (b0_8_keep _).trans (b0_7_keep _)
  rw [b]
  refine congrArg (fun z => if n = k then z else _) ?_
  refine (b0_v76 _ h).trans ?_
  have g0 : P0_6 V (Proc.devRef .tc main_v29_7) = P0_0 V (Proc.devRef .tc main_v29_7) := (b0_5_keep _).trans ((b0_4_keep _).trans ((b0_3_keep _).trans ((b0_2_keep _).trans ((b0_1_keep _).trans (b0_0_keep _)))))
  rw [g0]
  rw [rd_while0b_v71 V k hc h, rd_while0b_v72 V k hc h]

theorem end_v29_11 (k : Fin 64) (hc : V (Proc.devRef .tc main_v29_6) = fun _ => Scf.iv 0#32 1#32 k.val) (n : Fin 64) (h : Fin 4) :
    r4 (P0_12 V (Proc.devRef .tc main_v29_11)) n h
      = if n = k then fun _ j => mean (r4 (V (Proc.devRef .tc main_v29_4)) k h) j else r4 (V (Proc.devRef .tc main_v29_11)) n h := by
  refine (congrArg (fun x : FVec Ideal S64x4x1x128 .f32 => r4 x n h) (cp_v29_11 (P0_11 V))).trans ?_
  show r4 (P0_11 V (Proc.devRef .tc main_while0b_v91)) n h = _
  have q : P0_10 V (Proc.devRef .tc main_v29_6) = fun _ => Scf.iv 0#32 1#32 k.val := ((b0_9_keep _).trans ((b0_8_keep _).trans ((b0_7_keep _).trans ((b0_6_keep _).trans ((b0_5_keep _).trans ((b0_4_keep _).trans ((b0_3_keep _).trans ((b0_2_keep _).trans ((b0_1_keep _).trans (b0_0_keep _)))))))))).trans hc
  refine (b0_10_val _ k n q h).trans ?_
  have a : P0_10 V (Proc.devRef .tc main_v29_11) = P0_0 V (Proc.devRef .tc main_v29_11) := (b0_9_keep _).trans ((b0_8_keep _).trans ((b0_7_keep _).trans ((b0_6_keep _).trans ((b0_5_keep _).trans ((b0_4_keep _).trans ((b0_3_keep _).trans ((b0_2_keep _).trans ((b0_1_keep _).trans (b0_0_keep _)))))))))
  rw [a]
  have b : P0_10 V (Proc.devRef .tc main_while0b_v83) = P0_7 V (Proc.devRef .tc main_while0b_v83) := (b0_9_keep _).trans ((b0_8_keep _).trans (b0_7_keep _))
  rw [b]
  refine congrArg (fun z => if n = k then z else _) ?_
  refine (b0_v83 _ h).trans ?_
  rw [rd_while0b_v73 V k hc h]

end Cert.ReferenceIdeal.Val
-- ==== Proof.RefBody1.lean ====
module

public import proofs.«01_k».proof.Proof.RefOwn
public import Idealize.ShloMosaic.Lib.StableHlo.ReadAt
public import Idealize.ShloMosaic.Lib.DynamicIndex
public import Idealize.ShloMosaic.Lib.Pipeline.Value

/-!
# What one trip of each loop computes, over the extended reals
-/

@[expose] public section

set_option maxRecDepth 16384

noncomputable section

namespace Cert.ReferenceIdeal.Val

open Cert.ReferenceIdeal Cert.ReferenceIdeal.Gen Cert.ReferenceIdeal.Ops Scan
open Idealize.ShloMosaic Idealize.ShloMosaic.TcCoe Idealize.ShloMosaic.Tactic
open Idealize.SL Idealize.SL.RA Idealize.SL.BI
open Idealize.ShloMosaic.StableHlo

variable (V : Valuation τ sig (Elt Ideal))

/-! ## The contents after each line of the body -/

abbrev P1_0 : Valuation τ sig (Elt Ideal) := V
abbrev P1_1 : Valuation τ sig (Elt Ideal) := after b1_0 (P1_0 V)
abbrev P1_2 : Valuation τ sig (Elt Ideal) := after b1_1 (P1_1 V)
abbrev P1_3 : Valuation τ sig (Elt Ideal) := after b1_2 (P1_2 V)
abbrev P1_4 : Valuation τ sig (Elt Ideal) := after b1_3 (P1_3 V)
abbrev P1_5 : Valuation τ sig (Elt Ideal) := after b1_4 (P1_4 V)
abbrev P1_6 : Valuation τ sig (Elt Ideal) := after b1_5 (P1_5 V)
abbrev P1_7 : Valuation τ sig (Elt Ideal) := after b1_6 (P1_6 V)
abbrev P1_8 : Valuation τ sig (Elt Ideal) := after b1_7 (P1_7 V)
abbrev P1_9 : Valuation τ sig (Elt Ideal) := after b1_8 (P1_8 V)
abbrev P1_10 : Valuation τ sig (Elt Ideal) := after b1_9 (P1_9 V)
abbrev P1_11 : Valuation τ sig (Elt Ideal) := after b1_10 (P1_10 V)
abbrev P1_12 : Valuation τ sig (Elt Ideal) := after b1_11 (P1_11 V)
abbrev P1_13 : Valuation τ sig (Elt Ideal) := after b1_12 (P1_12 V)
abbrev P1_14 : Valuation τ sig (Elt Ideal) := after b1_13 (P1_13 V)
abbrev P1_15 : Valuation τ sig (Elt Ideal) := after b1_14 (P1_14 V)
abbrev P1_16 : Valuation τ sig (Elt Ideal) := after b1_15 (P1_15 V)
abbrev P1_17 : Valuation τ sig (Elt Ideal) := after b1_16 (P1_16 V)
abbrev P1_18 : Valuation τ sig (Elt Ideal) := after b1_17 (P1_17 V)

theorem body1_eq : afterL body1I V = P1_18 V := rfl

theorem iv_rev (k : Fin 64) : (64#32 - Scf.iv 0#32 1#32 k.val) - 1#32 = Scf.iv 0#32 1#32 (63 - k.val) :=
  (by decide +kernel : ∀ k : Fin 64, (64#32 - Scf.iv 0#32 1#32 k.val) - 1#32 = Scf.iv 0#32 1#32 (63 - k.val)) k

/-- The chunk of a trip of the second loop. -/
abbrev rev (k : Fin 64) : Fin 64 := ⟨63 - k.val, by omega⟩

set_option maxRecDepth 100000 in
theorem b1_v70 (k : Fin 64) (hc : V (Proc.devRef .tc main_v42_8) = fun _ => Scf.iv 0#32 1#32 k.val) :
    P1_1 V (Proc.devRef .tc main_while1b_v70) = fun _ => Scf.iv 0#32 1#32 (rev k).val := by
  show after b1_0 V (Proc.devRef .tc main_while1b_v70) = _
  after_results
  rw [hc]
  funext i
  exact iv_rev k

theorem rd_while1b_v71 (k : Fin 64) (hc : V (Proc.devRef .tc main_v42_8) = fun _ => Scf.iv 0#32 1#32 k.val) (h : Fin 4) :
    r3 (P1_9 V (Proc.devRef .tc main_while1b_v71)) h = r4 (V (Proc.devRef .tc main_v42_0)) (rev k) h := by
  have q : P1_1 V (Proc.devRef .tc main_while1b_v70) = fun _ => Scf.iv 0#32 1#32 (rev k).val := b1_v70 V k hc
  have e : P1_9 V (Proc.devRef .tc main_while1b_v71) = P1_2 V (Proc.devRef .tc main_while1b_v71) := (b1_8_keep _).trans ((b1_7_keep _).trans ((b1_6_keep _).trans ((b1_5_keep _).trans ((b1_4_keep _).trans ((b1_3_keep _).trans (b1_2_keep _))))))
  rw [e]
  refine (b1_1_val _ (rev k) q h).trans ?_
  have f : P1_1 V (Proc.devRef .tc main_v42_0) = P1_0 V (Proc.devRef .tc main_v42_0) := b1_0_keep _
  rw [f]

theorem rd_while1b_v72 (k : Fin 64) (hc : V (Proc.devRef .tc main_v42_8) = fun _ => Scf.iv 0#32 1#32 k.val) (h : Fin 4) :
    r3 (P1_9 V (Proc.devRef .tc main_while1b_v72)) h = r4 (V (Proc.devRef .tc main_v42_1)) (rev k) h := by
  have q : P1_2 V (Proc.devRef .tc main_while1b_v70) = fun _ => Scf.iv 0#32 1#32 (rev k).val := (b1_1_keep _).trans (b1_v70 V k hc)
  have e : P1_9 V (Proc.devRef .tc main_while1b_v72) = P1_3 V (Proc.devRef .tc main_while1b_v72) := (b1_8_keep _).trans ((b1_7_keep _).trans ((b1_6_keep _).trans ((b1_5_keep _).trans ((b1_4_keep _).trans (b1_3_keep _)))))
  rw [e]
  refine (b1_2_val _ (rev k) q h).trans ?_
  have f : P1_2 V (Proc.devRef .tc main_v42_1) = P1_0 V (Proc.devRef .tc main_v42_1) := (b1_1_keep _).trans (b1_0_keep _)
  rw [f]

theorem rd_while1b_v73 (k : Fin 64) (hc : V (Proc.devRef .tc main_v42_8) = fun _ => Scf.iv 0#32 1#32 k.val) (h : Fin 4) :
    r3 (P1_9 V (Proc.devRef .tc main_while1b_v73)) h = r4 (V (Proc.devRef .tc main_v42_2)) (rev k) h := by
  have q : P1_3 V (Proc.devRef .tc main_while1b_v70) = fun _ => Scf.iv 0#32 1#32 (rev k).val := ((b1_2_keep _).trans (b1_1_keep _)).trans (b1_v70 V k hc)
  have e : P1_9 V (Proc.devRef .tc main_while1b_v73) = P1_4 V (Proc.devRef .tc main_while1b_v73) := (b1_8_keep _).trans ((b1_7_keep _).trans ((b1_6_keep _).trans ((b1_5_keep _).trans (b1_4_keep _))))
  rw [e]
  refine (b1_3_val _ (rev k) q h).trans ?_
  have f : P1_3 V (Proc.devRef .tc main_v42_2) = P1_0 V (Proc.devRef .tc main_v42_2) := (b1_2_keep _).trans ((b1_1_keep _).trans (b1_0_keep _))
  rw [f]

theorem rd_while1b_v74 (k : Fin 64) (hc : V (Proc.devRef .tc main_v42_8) = fun _ => Scf.iv 0#32 1#32 k.val) (h : Fin 4) :
    r3 (P1_9 V (Proc.devRef .tc main_while1b_v74)) h = r4 (V (Proc.devRef .tc main_v42_3)) (rev k) h := by
  have q : P1_4 V (Proc.devRef .tc main_while1b_v70) = fun _ => Scf.iv 0#32 1#32 (rev k).val := ((b1_3_keep _).trans ((b1_2_keep _).trans (b1_1_keep _))).trans (b1_v70 V k hc)
  have e : P1_9 V (Proc.devRef .tc main_while1b_v74) = P1_5 V (Proc.devRef .tc main_while1b_v74) := (b1_8_keep _).trans ((b1_7_keep _).trans ((b1_6_keep _).trans (b1_5_keep _)))
  rw [e]
  refine (b1_4_val _ (rev k) q h).trans ?_
  have f : P1_4 V (Proc.devRef .tc main_v42_3) = P1_0 V (Proc.devRef .tc main_v42_3) := (b1_3_keep _).trans ((b1_2_keep _).trans ((b1_1_keep _).trans (b1_0_keep _)))
  rw [f]

theorem rd_while1b_v75 (k : Fin 64) (hc : V (Proc.devRef .tc main_v42_8) = fun _ => Scf.iv 0#32 1#32 k.val) (h : Fin 4) :
    r3 (P1_9 V (Proc.devRef .tc main_while1b_v75)) h = r4 (V (Proc.devRef .tc main_v42_4)) (rev k) h := by
  have q : P1_5 V (Proc.devRef .tc main_while1b_v70) = fun _ => Scf.iv 0#32 1#32 (rev k).val := ((b1_4_keep _).trans ((b1_3_keep _).trans ((b1_2_keep _).trans (b1_1_keep _)))).trans (b1_v70 V k hc)
  have e : P1_9 V (Proc.devRef .tc main_while1b_v75) = P1_6 V (Proc.devRef .tc main_while1b_v75) := (b1_8_keep _).trans ((b1_7_keep _).trans (b1_6_keep _))
  rw [e]
  refine (b1_5_val _ (rev k) q h).trans ?_
  have f : P1_5 V (Proc.devRef .tc main_v42_4) = P1_0 V (Proc.devRef .tc main_v42_4) := (b1_4_keep _).trans ((b1_3_keep _).trans ((b1_2_keep _).trans ((b1_1_keep _).trans (b1_0_keep _))))
  rw [f]

theorem rd_while1b_v76 (k : Fin 64) (hc : V (Proc.devRef .tc main_v42_8) = fun _ => Scf.iv 0#32 1#32 k.val) (h : Fin 4) :
    r3 (P1_9 V (Proc.devRef .tc main_while1b_v76)) h = r4 (V (Proc.devRef .tc main_v42_5)) (rev k) h := by
  have q : P1_6 V (Proc.devRef .tc main_while1b_v70) = fun _ => Scf.iv 0#32 1#32 (rev k).val := ((b1_5_keep _).trans ((b1_4_keep _).trans ((b1_3_keep _).trans ((b1_2_keep _).trans (b1_1_keep _))))).trans (b1_v70 V k hc)
  have e : P1_9 V (Proc.devRef .tc main_while1b_v76) = P1_7 V (Proc.devRef .tc main_while1b_v76) := (b1_8_keep _).trans (b1_7_keep _)
  rw [e]
  refine (b1_6_val _ (rev k) q h).trans ?_
  have f : P1_6 V (Proc.devRef .tc main_v42_5) = P1_0 V (Proc.devRef .tc main_v42_5) := (b1_5_keep _).trans ((b1_4_keep _).trans ((b1_3_keep _).trans ((b1_2_keep _).trans ((b1_1_keep _).trans (b1_0_keep _)))))
  rw [f]

theorem rd_while1b_v77 (k : Fin 64) (hc : V (Proc.devRef .tc main_v42_8) = fun _ => Scf.iv 0#32 1#32 k.val) (h : Fin 4) :
    r3 (P1_9 V (Proc.devRef .tc main_while1b_v77)) h = r4 (V (Proc.devRef .tc main_v42_6)) (rev k) h := by
  have q : P1_7 V (Proc.devRef .tc main_while1b_v70) = fun _ => Scf.iv 0#32 1#32 (rev k).val := ((b1_6_keep _).trans ((b1_5_keep _).trans ((b1_4_keep _).trans ((b1_3_keep _).trans ((b1_2_keep _).trans (b1_1_keep _)))))).trans (b1_v70 V k hc)
  have e : P1_9 V (Proc.devRef .tc main_while1b_v77) = P1_8 V (Proc.devRef .tc main_while1b_v77) := b1_8_keep _
  rw [e]
  refine (b1_7_val _ (rev k) q h).trans ?_
  have f : P1_7 V (Proc.devRef .tc main_v42_6) = P1_0 V (Proc.devRef .tc main_v42_6) := (b1_6_keep _).trans ((b1_5_keep _).trans ((b1_4_keep _).trans ((b1_3_keep _).trans ((b1_2_keep _).trans ((b1_1_keep _).trans (b1_0_keep _))))))
  rw [f]

theorem rd_while1b_v78 (k : Fin 64) (hc : V (Proc.devRef .tc main_v42_8) = fun _ => Scf.iv 0#32 1#32 k.val) (h : Fin 4) :
    r3 (P1_9 V (Proc.devRef .tc main_while1b_v78)) h = r4 (V (Proc.devRef .tc main_v42_7)) (rev k) h := by
  have q : P1_8 V (Proc.devRef .tc main_while1b_v70) = fun _ => Scf.iv 0#32 1#32 (rev k).val := ((b1_7_keep _).trans ((b1_6_keep _).trans ((b1_5_keep _).trans ((b1_4_keep _).trans ((b1_3_keep _).trans ((b1_2_keep _).trans (b1_1_keep _))))))).trans (b1_v70 V k hc)
  refine (b1_8_val _ (rev k) q h).trans ?_
  have f : P1_8 V (Proc.devRef .tc main_v42_7) = P1_0 V (Proc.devRef .tc main_v42_7) := (b1_7_keep _).trans ((b1_6_keep _).trans ((b1_5_keep _).trans ((b1_4_keep _).trans ((b1_3_keep _).trans ((b1_2_keep _).trans ((b1_1_keep _).trans (b1_0_keep _)))))))
  rw [f]

set_option maxRecDepth 100000 in
theorem cp_v42_9 (X : Valuation τ sig (Elt Ideal)) : after b1_16 X (Proc.devRef .tc main_v42_9) = X (Proc.devRef .tc main_while1b_v103) := by
  after_results
  try rfl

set_option maxRecDepth 100000 in
theorem cp_v42_10 (X : Valuation τ sig (Elt Ideal)) : after b1_16 X (Proc.devRef .tc main_v42_10) = X (Proc.devRef .tc main_while1b_v105) := by
  after_results
  try rfl

set_option maxRecDepth 100000 in
theorem cp_v42_11 (X : Valuation τ sig (Elt Ideal)) : after b1_17 X (Proc.devRef .tc main_v42_11) = X (Proc.devRef .tc main_while1b_v106) := by
  after_results
  try rfl

set_option maxRecDepth 100000 in
theorem cp_v42_12 (X : Valuation τ sig (Elt Ideal)) : after b1_17 X (Proc.devRef .tc main_v42_12) = X (Proc.devRef .tc main_while1b_v107) := by
  after_results
  try rfl

set_option maxRecDepth 100000 in
theorem cp_v42_13 (X : Valuation τ sig (Elt Ideal)) : after b1_17 X (Proc.devRef .tc main_v42_13) = X (Proc.devRef .tc main_while1b_v108) := by
  after_results
  try rfl

set_option maxRecDepth 100000 in
theorem cp_v42_14 (X : Valuation τ sig (Elt Ideal)) : after b1_17 X (Proc.devRef .tc main_v42_14) = X (Proc.devRef .tc main_while1b_v109) := by
  after_results
  try rfl

set_option maxRecDepth 100000 in
theorem cp_v42_15 (X : Valuation τ sig (Elt Ideal)) : after b1_17 X (Proc.devRef .tc main_v42_15) = X (Proc.devRef .tc main_while1b_v110) := by
  after_results
  try rfl

theorem end_v42_9 (k : Fin 64) (hc : V (Proc.devRef .tc main_v42_8) = fun _ => Scf.iv 0#32 1#32 k.val) (h : Fin 4) :
    r3 (P1_18 V (Proc.devRef .tc main_v42_9)) h
      = fun i v => (r3 (V (Proc.devRef .tc main_v42_9)) h) i v * (r4 (V (Proc.devRef .tc main_v42_6)) (rev k) h) 0 v + (∑ c, (r4 (V (Proc.devRef .tc main_v42_3)) (rev k) h) c i * (r4 (V (Proc.devRef .tc main_v42_0)) (rev k) h) c v) + ∑ c, (r4 (V (Proc.devRef .tc main_v42_2)) (rev k) h) c i * -(dv (r3 (V (Proc.devRef .tc main_v42_9)) h) (r4 (V (Proc.devRef .tc main_v42_7)) (rev k) h) (r4 (V (Proc.devRef .tc main_v42_5)) (rev k) h) (r4 (V (Proc.devRef .tc main_v42_0)) (rev k) h) c v) := by
  have e : P1_18 V (Proc.devRef .tc main_v42_9) = P1_17 V (Proc.devRef .tc main_v42_9) := b1_17_keep _
  rw [e]
  refine (congrArg (fun x : FVec Ideal S4x128x128 .f32 => r3 x h) (cp_v42_9 (P1_16 V))).trans ?_
  have f : P1_16 V (Proc.devRef .tc main_while1b_v103) = P1_10 V (Proc.devRef .tc main_while1b_v103) := (b1_15_keep _).trans ((b1_14_keep _).trans ((b1_13_keep _).trans ((b1_12_keep _).trans ((b1_11_keep _).trans (b1_10_keep _)))))
  show r3 (P1_16 V (Proc.devRef .tc main_while1b_v103)) h = _
  rw [f]
  refine (b1_v103 _ h).trans ?_
  have g0 : P1_9 V (Proc.devRef .tc main_v42_9) = P1_0 V (Proc.devRef .tc main_v42_9) := (b1_8_keep _).trans ((b1_7_keep _).trans ((b1_6_keep _).trans ((b1_5_keep _).trans ((b1_4_keep _).trans ((b1_3_keep _).trans ((b1_2_keep _).trans ((b1_1_keep _).trans (b1_0_keep _))))))))
  rw [g0]
  rw [rd_while1b_v77 V k hc h, rd_while1b_v74 V k hc h, rd_while1b_v71 V k hc h, rd_while1b_v73 V k hc h, rd_while1b_v78 V k hc h, rd_while1b_v76 V k hc h]

theorem end_v42_10 (k : Fin 64) (hc : V (Proc.devRef .tc main_v42_8) = fun _ => Scf.iv 0#32 1#32 k.val) (n : Fin 64) (h : Fin 4) :
    r4 (P1_18 V (Proc.devRef .tc main_v42_10)) n h
      = if n = (rev k) then (dq (r4 (V (Proc.devRef .tc main_v42_1)) (rev k) h) (r4 (V (Proc.devRef .tc main_v42_0)) (rev k) h)) else r4 (V (Proc.devRef .tc main_v42_10)) n h := by
  have e : P1_18 V (Proc.devRef .tc main_v42_10) = P1_17 V (Proc.devRef .tc main_v42_10) := b1_17_keep _
  rw [e]
  refine (congrArg (fun x : FVec Ideal S64x4x64x128 .f32 => r4 x n h) (cp_v42_10 (P1_16 V))).trans ?_
  show r4 (P1_16 V (Proc.devRef .tc main_while1b_v105)) n h = _
  have f : P1_16 V (Proc.devRef .tc main_while1b_v105) = P1_11 V (Proc.devRef .tc main_while1b_v105) := (b1_15_keep _).trans ((b1_14_keep _).trans ((b1_13_keep _).trans ((b1_12_keep _).trans (b1_11_keep _))))
  rw [f]
  have q : P1_10 V (Proc.devRef .tc main_while1b_v70) = fun _ => Scf.iv 0#32 1#32 (rev k).val := ((b1_9_keep _).trans ((b1_8_keep _).trans ((b1_7_keep _).trans ((b1_6_keep _).trans ((b1_5_keep _).trans ((b1_4_keep _).trans ((b1_3_keep _).trans ((b1_2_keep _).trans (b1_1_keep _))))))))).trans (b1_v70 V k hc)
  refine (b1_10_val _ (rev k) n q h).trans ?_
  have a : P1_10 V (Proc.devRef .tc main_v42_10) = P1_0 V (Proc.devRef .tc main_v42_10) := (b1_9_keep _).trans ((b1_8_keep _).trans ((b1_7_keep _).trans ((b1_6_keep _).trans ((b1_5_keep _).trans ((b1_4_keep _).trans ((b1_3_keep _).trans ((b1_2_keep _).trans ((b1_1_keep _).trans (b1_0_keep _)))))))))
  rw [a]
  refine congrArg (fun z => if n = (rev k) then z else _) ?_
  refine (b1_v99 _ h).trans ?_
  rw [rd_while1b_v72 V k hc h, rd_while1b_v71 V k hc h]

theorem end_v42_11 (k : Fin 64) (hc : V (Proc.devRef .tc main_v42_8) = fun _ => Scf.iv 0#32 1#32 k.val) (n : Fin 64) (h : Fin 4) :
    r4 (P1_18 V (Proc.devRef .tc main_v42_11)) n h
      = if n = (rev k) then (fun c i => ∑ v, (r4 (V (Proc.devRef .tc main_v42_4)) (rev k) h) c v * (r3 (V (Proc.devRef .tc main_v42_9)) h) i v) else r4 (V (Proc.devRef .tc main_v42_11)) n h := by
  refine (congrArg (fun x : FVec Ideal S64x4x64x128 .f32 => r4 x n h) (cp_v42_11 (P1_17 V))).trans ?_
  show r4 (P1_17 V (Proc.devRef .tc main_while1b_v106)) n h = _
  have f : P1_17 V (Proc.devRef .tc main_while1b_v106) = P1_12 V (Proc.devRef .tc main_while1b_v106) := (b1_16_keep _).trans ((b1_15_keep _).trans ((b1_14_keep _).trans ((b1_13_keep _).trans (b1_12_keep _))))
  rw [f]
  have q : P1_11 V (Proc.devRef .tc main_while1b_v70) = fun _ => Scf.iv 0#32 1#32 (rev k).val := ((b1_10_keep _).trans ((b1_9_keep _).trans ((b1_8_keep _).trans ((b1_7_keep _).trans ((b1_6_keep _).trans ((b1_5_keep _).trans ((b1_4_keep _).trans ((b1_3_keep _).trans ((b1_2_keep _).trans (b1_1_keep _)))))))))).trans (b1_v70 V k hc)
  refine (b1_11_val _ (rev k) n q h).trans ?_
  have a : P1_11 V (Proc.devRef .tc main_v42_11) = P1_0 V (Proc.devRef .tc main_v42_11) := (b1_10_keep _).trans ((b1_9_keep _).trans ((b1_8_keep _).trans ((b1_7_keep _).trans ((b1_6_keep _).trans ((b1_5_keep _).trans ((b1_4_keep _).trans ((b1_3_keep _).trans ((b1_2_keep _).trans ((b1_1_keep _).trans (b1_0_keep _))))))))))
  rw [a]
  have b : P1_11 V (Proc.devRef .tc main_while1b_v82) = P1_10 V (Proc.devRef .tc main_while1b_v82) := b1_10_keep _
  rw [b]
  refine congrArg (fun z => if n = (rev k) then z else _) ?_
  refine (b1_v82 _ h).trans ?_
  have g0 : P1_9 V (Proc.devRef .tc main_v42_9) = P1_0 V (Proc.devRef .tc main_v42_9) := (b1_8_keep _).trans ((b1_7_keep _).trans ((b1_6_keep _).trans ((b1_5_keep _).trans ((b1_4_keep _).trans ((b1_3_keep _).trans ((b1_2_keep _).trans ((b1_1_keep _).trans (b1_0_keep _))))))))
  rw [g0]
  rw [rd_while1b_v75 V k hc h]

theorem end_v42_12 (k : Fin 64) (hc : V (Proc.devRef .tc main_v42_8) = fun _ => Scf.iv 0#32 1#32 k.val) (n : Fin 64) (h : Fin 4) :
    r4 (P1_18 V (Proc.devRef .tc main_v42_12)) n h
      = if n = (rev k) then (dv (r3 (V (Proc.devRef .tc main_v42_9)) h) (r4 (V (Proc.devRef .tc main_v42_7)) (rev k) h) (r4 (V (Proc.devRef .tc main_v42_5)) (rev k) h) (r4 (V (Proc.devRef .tc main_v42_0)) (rev k) h)) else r4 (V (Proc.devRef .tc main_v42_12)) n h := by
  refine (congrArg (fun x : FVec Ideal S64x4x64x128 .f32 => r4 x n h) (cp_v42_12 (P1_17 V))).trans ?_
  show r4 (P1_17 V (Proc.devRef .tc main_while1b_v107)) n h = _
  have f : P1_17 V (Proc.devRef .tc main_while1b_v107) = P1_13 V (Proc.devRef .tc main_while1b_v107) := (b1_16_keep _).trans ((b1_15_keep _).trans ((b1_14_keep _).trans (b1_13_keep _)))
  rw [f]
  have q : P1_12 V (Proc.devRef .tc main_while1b_v70) = fun _ => Scf.iv 0#32 1#32 (rev k).val := ((b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans (b1_1_keep _))))))))))).trans (b1_v70 V k hc)
  refine (b1_12_val _ (rev k) n q h).trans ?_
  have a : P1_12 V (Proc.devRef .tc main_v42_12) = P1_0 V (Proc.devRef .tc main_v42_12) := (b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans ((b1_1_keep _).trans (b1_0_keep _)))))))))))
  rw [a]
  have b : P1_12 V (Proc.devRef .tc main_while1b_v94) = P1_10 V (Proc.devRef .tc main_while1b_v94) := (b1_11_keep _).trans (b1_10_keep _)
  rw [b]
  refine congrArg (fun z => if n = (rev k) then z else _) ?_
  refine (b1_v94 _ h).trans ?_
  have g0 : P1_9 V (Proc.devRef .tc main_v42_9) = P1_0 V (Proc.devRef .tc main_v42_9) := (b1_8_keep _).trans ((b1_7_keep _).trans ((b1_6_keep _).trans ((b1_5_keep _).trans ((b1_4_keep _).trans ((b1_3_keep _).trans ((b1_2_keep _).trans ((b1_1_keep _).trans (b1_0_keep _))))))))
  rw [g0]
  rw [rd_while1b_v78 V k hc h, rd_while1b_v76 V k hc h, rd_while1b_v71 V k hc h]

theorem end_v42_13 (k : Fin 64) (hc : V (Proc.devRef .tc main_v42_8) = fun _ => Scf.iv 0#32 1#32 k.val) (n : Fin 64) (h : Fin 4) :
    r4 (P1_18 V (Proc.devRef .tc main_v42_13)) n h
      = if n = (rev k) then (dw (r4 (V (Proc.devRef .tc main_v42_1)) (rev k) h) (r3 (V (Proc.devRef .tc main_v42_9)) h) (r4 (V (Proc.devRef .tc main_v42_7)) (rev k) h) (r4 (V (Proc.devRef .tc main_v42_5)) (rev k) h) (r4 (V (Proc.devRef .tc main_v42_0)) (rev k) h)) else r4 (V (Proc.devRef .tc main_v42_13)) n h := by
  refine (congrArg (fun x : FVec Ideal S64x4x64x128 .f32 => r4 x n h) (cp_v42_13 (P1_17 V))).trans ?_
  show r4 (P1_17 V (Proc.devRef .tc main_while1b_v108)) n h = _
  have f : P1_17 V (Proc.devRef .tc main_while1b_v108) = P1_14 V (Proc.devRef .tc main_while1b_v108) := (b1_16_keep _).trans ((b1_15_keep _).trans (b1_14_keep _))
  rw [f]
  have q : P1_13 V (Proc.devRef .tc main_while1b_v70) = fun _ => Scf.iv 0#32 1#32 (rev k).val := ((b1_12_keep _).trans ((b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans (b1_1_keep _)))))))))))).trans (b1_v70 V k hc)
  refine (b1_13_val _ (rev k) n q h).trans ?_
  have a : P1_13 V (Proc.devRef .tc main_v42_13) = P1_0 V (Proc.devRef .tc main_v42_13) := (b1_12_keep _).trans ((b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans ((b1_1_keep _).trans (b1_0_keep _))))))))))))
  rw [a]
  have b : P1_13 V (Proc.devRef .tc main_while1b_v104) = P1_10 V (Proc.devRef .tc main_while1b_v104) := (b1_12_keep _).trans ((b1_11_keep _).trans (b1_10_keep _))
  rw [b]
  refine congrArg (fun z => if n = (rev k) then z else _) ?_
  refine (b1_v104 _ h).trans ?_
  have g0 : P1_9 V (Proc.devRef .tc main_v42_9) = P1_0 V (Proc.devRef .tc main_v42_9) := (b1_8_keep _).trans ((b1_7_keep _).trans ((b1_6_keep _).trans ((b1_5_keep _).trans ((b1_4_keep _).trans ((b1_3_keep _).trans ((b1_2_keep _).trans ((b1_1_keep _).trans (b1_0_keep _))))))))
  rw [g0]
  rw [rd_while1b_v72 V k hc h, rd_while1b_v78 V k hc h, rd_while1b_v76 V k hc h, rd_while1b_v71 V k hc h]

theorem end_v42_14 (k : Fin 64) (hc : V (Proc.devRef .tc main_v42_8) = fun _ => Scf.iv 0#32 1#32 k.val) (n : Fin 64) (h : Fin 4) :
    r4 (P1_18 V (Proc.devRef .tc main_v42_14)) n h
      = if n = (rev k) then (fun _ v => dd (r4 (V (Proc.devRef .tc main_v42_1)) (rev k) h) (r3 (V (Proc.devRef .tc main_v42_9)) h) v) else r4 (V (Proc.devRef .tc main_v42_14)) n h := by
  refine (congrArg (fun x : FVec Ideal S64x4x64x128 .f32 => r4 x n h) (cp_v42_14 (P1_17 V))).trans ?_
  show r4 (P1_17 V (Proc.devRef .tc main_while1b_v109)) n h = _
  have f : P1_17 V (Proc.devRef .tc main_while1b_v109) = P1_15 V (Proc.devRef .tc main_while1b_v109) := (b1_16_keep _).trans (b1_15_keep _)
  rw [f]
  have q : P1_14 V (Proc.devRef .tc main_while1b_v70) = fun _ => Scf.iv 0#32 1#32 (rev k).val := ((b1_13_keep _).trans ((b1_12_keep _).trans ((b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans (b1_1_keep _))))))))))))).trans (b1_v70 V k hc)
  refine (b1_14_val _ (rev k) n q h).trans ?_
  have a : P1_14 V (Proc.devRef .tc main_v42_14) = P1_0 V (Proc.devRef .tc main_v42_14) := (b1_13_keep _).trans ((b1_12_keep _).trans ((b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans ((b1_1_keep _).trans (b1_0_keep _)))))))))))))
  rw [a]
  have b : P1_14 V (Proc.devRef .tc main_while1b_v91) = P1_10 V (Proc.devRef .tc main_while1b_v91) := (b1_13_keep _).trans ((b1_12_keep _).trans ((b1_11_keep _).trans (b1_10_keep _)))
  rw [b]
  refine congrArg (fun z => if n = (rev k) then z else _) ?_
  refine (b1_v91 _ h).trans ?_
  have g0 : P1_9 V (Proc.devRef .tc main_v42_9) = P1_0 V (Proc.devRef .tc main_v42_9) := (b1_8_keep _).trans ((b1_7_keep _).trans ((b1_6_keep _).trans ((b1_5_keep _).trans ((b1_4_keep _).trans ((b1_3_keep _).trans ((b1_2_keep _).trans ((b1_1_keep _).trans (b1_0_keep _))))))))
  rw [g0]
  rw [rd_while1b_v72 V k hc h]

theorem end_v42_15 (k : Fin 64) (hc : V (Proc.devRef .tc main_v42_8) = fun _ => Scf.iv 0#32 1#32 k.val) (n : Fin 64) (h : Fin 4) :
    r4 (P1_18 V (Proc.devRef .tc main_v42_15)) n h
      = if n = (rev k) then (fun c j => ∑ v, (r4 (V (Proc.devRef .tc main_v42_0)) (rev k) h) c v * (r4 (V (Proc.devRef .tc main_v42_4)) (rev k) h) j v) else r4 (V (Proc.devRef .tc main_v42_15)) n h := by
  refine (congrArg (fun x : FVec Ideal S64x4x64x64 .f32 => r4 x n h) (cp_v42_15 (P1_17 V))).trans ?_
  show r4 (P1_17 V (Proc.devRef .tc main_while1b_v110)) n h = _
  have f : P1_17 V (Proc.devRef .tc main_while1b_v110) = P1_16 V (Proc.devRef .tc main_while1b_v110) := b1_16_keep _
  rw [f]
  have q : P1_15 V (Proc.devRef .tc main_while1b_v70) = fun _ => Scf.iv 0#32 1#32 (rev k).val := ((b1_14_keep _).trans ((b1_13_keep _).trans ((b1_12_keep _).trans ((b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans (b1_1_keep _)))))))))))))).trans (b1_v70 V k hc)
  refine (b1_15_val _ (rev k) n q h).trans ?_
  have a : P1_15 V (Proc.devRef .tc main_v42_15) = P1_0 V (Proc.devRef .tc main_v42_15) := (b1_14_keep _).trans ((b1_13_keep _).trans ((b1_12_keep _).trans ((b1_11_keep _).trans ((b1_10_keep _).trans ((b1_9_keep _).trans ((b1_8_keep _).trans ((b1_7_keep _).trans ((b1_6_keep _).trans ((b1_5_keep _).trans ((b1_4_keep _).trans ((b1_3_keep _).trans ((b1_2_keep _).trans ((b1_1_keep _).trans (b1_0_keep _))))))))))))))
  rw [a]
  have b : P1_15 V (Proc.devRef .tc main_while1b_v95) = P1_10 V (Proc.devRef .tc main_while1b_v95) := (b1_14_keep _).trans ((b1_13_keep _).trans ((b1_12_keep _).trans ((b1_11_keep _).trans (b1_10_keep _))))
  rw [b]
  refine congrArg (fun z => if n = (rev k) then z else _) ?_
  refine (b1_v95 _ h).trans ?_
  rw [rd_while1b_v71 V k hc h, rd_while1b_v75 V k hc h]

end Cert.ReferenceIdeal.Val
-- ==== Proof.RefLoop.lean ====
module

public import proofs.«01_k».proof.Proof.RefBody0
public import proofs.«01_k».proof.Proof.RefBody1
public import Idealize.ShloMosaic.Lib.StableHlo.ReadAt
public import Idealize.ShloMosaic.Lib.DynamicIndex
public import Idealize.ShloMosaic.Lib.Pipeline.Value

/-!
# What the two loops leave, over the extended reals
-/

@[expose] public section

set_option maxRecDepth 16384

noncomputable section

namespace Cert.ReferenceIdeal.Val

open Cert.ReferenceIdeal Cert.ReferenceIdeal.Gen Cert.ReferenceIdeal.Ops Scan
open Idealize.ShloMosaic Idealize.ShloMosaic.TcCoe Idealize.ShloMosaic.Tactic
open Idealize.SL Idealize.SL.RA Idealize.SL.BI
open Idealize.ShloMosaic.StableHlo

open Cert.ReferenceIdeal.Run

/-- What loop 0 is entered with. -/
structure In0 (W₀ : Dev nD → Valuation τ sig (Elt Ideal)) (c : Dev nD) (u w kd d : Arr) : Prop where
  ctr : ∀ c, W₀ c (Proc.devRef .tc main_v29_6) = fun _ => (0#32 : BitVec 32)
  st : ∀ h, r3 (W₀ c (Proc.devRef .tc main_v29_7)) h = fun _ _ => (0 : EReal)
  fu : ∀ (n : Fin 64) (h : Fin 4), r4 (W₀ c (Proc.devRef .tc main_v29_2)) n h = chk u n.val h
  fw : ∀ (n : Fin 64) (h : Fin 4), r4 (W₀ c (Proc.devRef .tc main_v29_3)) n h = chk w n.val h
  fk : ∀ (n : Fin 64) (h : Fin 4), r4 (W₀ c (Proc.devRef .tc main_v29_1)) n h = chk kd n.val h
  fd : ∀ (n : Fin 64) (h : Fin 4), r4 (W₀ c (Proc.devRef .tc main_v29_4)) n h = chk d n.val h

section Loop0
variable (W₀ : Dev nD → Valuation τ sig (Elt Ideal)) (c : Dev nD) (u w kd d : Arr)

theorem keep0 {r : Ref sig .tc} (hb : r ∉ body0_W) (hd : r ∉ cond0_W) :
    ∀ k, atTrip cond0 body0I W₀ k c (Proc.devRef .tc r) = W₀ c (Proc.devRef .tc r)
  | 0 => rfl
  | k + 1 => (body0_keep _ hb).trans ((cond0_keep _ hd).trans (keep0 hb hd k))

theorem inv0 (hin : In0 W₀ c u w kd d) : ∀ k, k ≤ 64 →
    (∀ h, r3 (atTrip cond0 body0I W₀ k c (Proc.devRef .tc main_v29_7)) h = St u w kd d h k)
    ∧ (∀ (n : Fin 64) (h : Fin 4), n.val < k → r4 (atTrip cond0 body0I W₀ k c (Proc.devRef .tc main_v29_9)) n h = St u w kd d h n.val)
    ∧ (∀ (n : Fin 64) (h : Fin 4), n.val < k → r4 (atTrip cond0 body0I W₀ k c (Proc.devRef .tc main_v29_10)) n h = vnew (St u w kd d h n.val) (chk u n.val h) (chk w n.val h))
    ∧ (∀ (n : Fin 64) (h : Fin 4), n.val < k → r4 (atTrip cond0 body0I W₀ k c (Proc.devRef .tc main_v29_11)) n h = fun _ j => mean (chk d n.val h) j)
  | 0, _ => ⟨hin.st, fun n _ q => absurd q (by omega), fun n _ q => absurd q (by omega), fun n _ q => absurd q (by omega)⟩
  | k + 1, hk => by
    obtain ⟨i0, i1, i2, i3⟩ := inv0 hin k (by omega)
    have hc : after cond0 (atTrip cond0 body0I W₀ k c) (Proc.devRef .tc main_v29_6) = fun _ => Scf.iv 0#32 1#32 k :=
      (cond0_keep _ (by decide +kernel)).trans (ctr0_at W₀ hin.ctr c k)
    have v0 : after cond0 (atTrip cond0 body0I W₀ k c) (Proc.devRef .tc main_v29_7) = atTrip cond0 body0I W₀ k c (Proc.devRef .tc main_v29_7) := cond0_keep _ (by decide +kernel)
    have v1 : after cond0 (atTrip cond0 body0I W₀ k c) (Proc.devRef .tc main_v29_9) = atTrip cond0 body0I W₀ k c (Proc.devRef .tc main_v29_9) := cond0_keep _ (by decide +kernel)
    have v2 : after cond0 (atTrip cond0 body0I W₀ k c) (Proc.devRef .tc main_v29_10) = atTrip cond0 body0I W₀ k c (Proc.devRef .tc main_v29_10) := cond0_keep _ (by decide +kernel)
    have v3 : after cond0 (atTrip cond0 body0I W₀ k c) (Proc.devRef .tc main_v29_11) = atTrip cond0 body0I W₀ k c (Proc.devRef .tc main_v29_11) := cond0_keep _ (by decide +kernel)
    have bu : after cond0 (atTrip cond0 body0I W₀ k c) (Proc.devRef .tc main_v29_2) = W₀ c (Proc.devRef .tc main_v29_2) := (cond0_keep _ (by decide +kernel)).trans (keep0 W₀ c (by decide +kernel) (by decide +kernel) k)
    have bw : after cond0 (atTrip cond0 body0I W₀ k c) (Proc.devRef .tc main_v29_3) = W₀ c (Proc.devRef .tc main_v29_3) := (cond0_keep _ (by decide +kernel)).trans (keep0 W₀ c (by decide +kernel) (by decide +kernel) k)
    have bk : after cond0 (atTrip cond0 body0I W₀ k c) (Proc.devRef .tc main_v29_1) = W₀ c (Proc.devRef .tc main_v29_1) := (cond0_keep _ (by decide +kernel)).trans (keep0 W₀ c (by decide +kernel) (by decide +kernel) k)
    have bd : after cond0 (atTrip cond0 body0I W₀ k c) (Proc.devRef .tc main_v29_4) = W₀ c (Proc.devRef .tc main_v29_4) := (cond0_keep _ (by decide +kernel)).trans (keep0 W₀ c (by decide +kernel) (by decide +kernel) k)
    refine ⟨fun h => ?_, fun n h hq => ?_, fun n h hq => ?_, fun n h hq => ?_⟩
    · refine (end_v29_7 _ ⟨k, hk⟩ hc h).trans ?_
      rw [v0, i0, bu, hin.fu, bw, hin.fw, bk, hin.fk, bd, hin.fd]
      rfl
    · refine (end_v29_9 _ ⟨k, hk⟩ hc n h).trans ?_
      by_cases e : n = ⟨k, hk⟩
      · subst e
        rw [if_pos rfl, v0, i0]
      · have e' : n.val ≠ k := fun z => e (Fin.ext z)
        rw [if_neg e, v1]
        exact i1 n h (by omega)
    · refine (end_v29_10 _ ⟨k, hk⟩ hc n h).trans ?_
      by_cases e : n = ⟨k, hk⟩
      · subst e
        rw [if_pos rfl, v0, i0, bu, hin.fu, bw, hin.fw]
      · have e' : n.val ≠ k := fun z => e (Fin.ext z)
        rw [if_neg e, v2]
        exact i2 n h (by omega)
    · refine (end_v29_11 _ ⟨k, hk⟩ hc n h).trans ?_
      by_cases e : n = ⟨k, hk⟩
      · subst e
        rw [if_pos rfl, bd, hin.fd]
      · have e' : n.val ≠ k := fun z => e (Fin.ext z)
        rw [if_neg e, v3]
        exact i3 n h (by omega)

end Loop0

/-- What loop 1 is entered with. -/
structure In1 (W₀ : Dev nD → Valuation τ sig (Elt Ideal)) (c : Dev nD) (u w q kd a d g : Arr) : Prop where
  ctr : ∀ c, W₀ c (Proc.devRef .tc main_v42_8) = fun _ => (0#32 : BitVec 32)
  st : ∀ h, r3 (W₀ c (Proc.devRef .tc main_v42_9)) h = fun _ _ => (0 : EReal)
  fg : ∀ (n : Fin 64) (h : Fin 4), r4 (W₀ c (Proc.devRef .tc main_v42_0)) n h = chk g n.val h
  fs : ∀ (n : Fin 64) (h : Fin 4), r4 (W₀ c (Proc.devRef .tc main_v42_1)) n h = St u w kd d h n.val
  fw : ∀ (n : Fin 64) (h : Fin 4), r4 (W₀ c (Proc.devRef .tc main_v42_2)) n h = chk w n.val h
  fq : ∀ (n : Fin 64) (h : Fin 4), r4 (W₀ c (Proc.devRef .tc main_v42_3)) n h = chk q n.val h
  fv : ∀ (n : Fin 64) (h : Fin 4), r4 (W₀ c (Proc.devRef .tc main_v42_4)) n h = vnew (St u w kd d h n.val) (chk u n.val h) (chk w n.val h)
  fa : ∀ (n : Fin 64) (h : Fin 4), r4 (W₀ c (Proc.devRef .tc main_v42_5)) n h = half n.val (chk a n.val h)
  fm : ∀ (n : Fin 64) (h : Fin 4), r4 (W₀ c (Proc.devRef .tc main_v42_6)) n h = fun _ j => mean (chk d n.val h) j
  fk : ∀ (n : Fin 64) (h : Fin 4), r4 (W₀ c (Proc.devRef .tc main_v42_7)) n h = chk kd n.val h

section Loop1
variable (W₀ : Dev nD → Valuation τ sig (Elt Ideal)) (c : Dev nD) (u w q kd a d g : Arr)

theorem keep1 {r : Ref sig .tc} (hb : r ∉ body1_W) (hd : r ∉ cond1_W) :
    ∀ k, atTrip cond1 body1I W₀ k c (Proc.devRef .tc r) = W₀ c (Proc.devRef .tc r)
  | 0 => rfl
  | k + 1 => (body1_keep _ hb).trans ((cond1_keep _ hd).trans (keep1 hb hd k))

theorem inv1 (hin : In1 W₀ c u w q kd a d g) : ∀ k, k ≤ 64 →
    (∀ h, r3 (atTrip cond1 body1I W₀ k c (Proc.devRef .tc main_v42_9)) h = Ds w q kd a d g h k)
    ∧ (∀ (n : Fin 64) (h : Fin 4), 63 < n.val + k → r4 (atTrip cond1 body1I W₀ k c (Proc.devRef .tc main_v42_10)) n h = gQ u w kd d g n.val h)
    ∧ (∀ (n : Fin 64) (h : Fin 4), 63 < n.val + k → r4 (atTrip cond1 body1I W₀ k c (Proc.devRef .tc main_v42_11)) n h = gK u w q kd a d g n.val h)
    ∧ (∀ (n : Fin 64) (h : Fin 4), 63 < n.val + k → r4 (atTrip cond1 body1I W₀ k c (Proc.devRef .tc main_v42_12)) n h = gU w q kd a d g n.val h)
    ∧ (∀ (n : Fin 64) (h : Fin 4), 63 < n.val + k → r4 (atTrip cond1 body1I W₀ k c (Proc.devRef .tc main_v42_13)) n h = gW u w q kd a d g n.val h)
    ∧ (∀ (n : Fin 64) (h : Fin 4), 63 < n.val + k → r4 (atTrip cond1 body1I W₀ k c (Proc.devRef .tc main_v42_14)) n h = gD u w q kd a d g n.val h)
    ∧ (∀ (n : Fin 64) (h : Fin 4), 63 < n.val + k → r4 (atTrip cond1 body1I W₀ k c (Proc.devRef .tc main_v42_15)) n h = gA u w kd d g n.val h)
  | 0, _ => ⟨hin.st, fun n _ q => absurd q (by omega), fun n _ q => absurd q (by omega), fun n _ q => absurd q (by omega), fun n _ q => absurd q (by omega), fun n _ q => absurd q (by omega), fun n _ q => absurd q (by omega)⟩
  | k + 1, hk => by
    obtain ⟨i0, i1, i2, i3, i4, i5, i6⟩ := inv1 hin k (by omega)
    have hc : after cond1 (atTrip cond1 body1I W₀ k c) (Proc.devRef .tc main_v42_8) = fun _ => Scf.iv 0#32 1#32 k :=
      (cond1_keep _ (by decide +kernel)).trans (ctr1_at W₀ hin.ctr c k)
    have v0 : after cond1 (atTrip cond1 body1I W₀ k c) (Proc.devRef .tc main_v42_9) = atTrip cond1 body1I W₀ k c (Proc.devRef .tc main_v42_9) := cond1_keep _ (by decide +kernel)
    have v1 : after cond1 (atTrip cond1 body1I W₀ k c) (Proc.devRef .tc main_v42_10) = atTrip cond1 body1I W₀ k c (Proc.devRef .tc main_v42_10) := cond1_keep _ (by decide +kernel)
    have v2 : after cond1 (atTrip cond1 body1I W₀ k c) (Proc.devRef .tc main_v42_11) = atTrip cond1 body1I W₀ k c (Proc.devRef .tc main_v42_11) := cond1_keep _ (by decide +kernel)
    have v3 : after cond1 (atTrip cond1 body1I W₀ k c) (Proc.devRef .tc main_v42_12) = atTrip cond1 body1I W₀ k c (Proc.devRef .tc main_v42_12) := cond1_keep _ (by decide +kernel)
    have v4 : after cond1 (atTrip cond1 body1I W₀ k c) (Proc.devRef .tc main_v42_13) = atTrip cond1 body1I W₀ k c (Proc.devRef .tc main_v42_13) := cond1_keep _ (by decide +kernel)
    have v5 : after cond1 (atTrip cond1 body1I W₀ k c) (Proc.devRef .tc main_v42_14) = atTrip cond1 body1I W₀ k c (Proc.devRef .tc main_v42_14) := cond1_keep _ (by decide +kernel)
    have v6 : after cond1 (atTrip cond1 body1I W₀ k c) (Proc.devRef .tc main_v42_15) = atTrip cond1 body1I W₀ k c (Proc.devRef .tc main_v42_15) := cond1_keep _ (by decide +kernel)
    have bg : after cond1 (atTrip cond1 body1I W₀ k c) (Proc.devRef .tc main_v42_0) = W₀ c (Proc.devRef .tc main_v42_0) := (cond1_keep _ (by decide +kernel)).trans (keep1 W₀ c (by decide +kernel) (by decide +kernel) k)
    have bs : after cond1 (atTrip cond1 body1I W₀ k c) (Proc.devRef .tc main_v42_1) = W₀ c (Proc.devRef .tc main_v42_1) := (cond1_keep _ (by decide +kernel)).trans (keep1 W₀ c (by decide +kernel) (by decide +kernel) k)
    have bw : after cond1 (atTrip cond1 body1I W₀ k c) (Proc.devRef .tc main_v42_2) = W₀ c (Proc.devRef .tc main_v42_2) := (cond1_keep _ (by decide +kernel)).trans (keep1 W₀ c (by decide +kernel) (by decide +kernel) k)
    have bq : after cond1 (atTrip cond1 body1I W₀ k c) (Proc.devRef .tc main_v42_3) = W₀ c (Proc.devRef .tc main_v42_3) := (cond1_keep _ (by decide +kernel)).trans (keep1 W₀ c (by decide +kernel) (by decide +kernel) k)
    have bv : after cond1 (atTrip cond1 body1I W₀ k c) (Proc.devRef .tc main_v42_4) = W₀ c (Proc.devRef .tc main_v42_4) := (cond1_keep _ (by decide +kernel)).trans (keep1 W₀ c (by decide +kernel) (by decide +kernel) k)
    have ba : after cond1 (atTrip cond1 body1I W₀ k c) (Proc.devRef .tc main_v42_5) = W₀ c (Proc.devRef .tc main_v42_5) := (cond1_keep _ (by decide +kernel)).trans (keep1 W₀ c (by decide +kernel) (by decide +kernel) k)
    have bm : after cond1 (atTrip cond1 body1I W₀ k c) (Proc.devRef .tc main_v42_6) = W₀ c (Proc.devRef .tc main_v42_6) := (cond1_keep _ (by decide +kernel)).trans (keep1 W₀ c (by decide +kernel) (by decide +kernel) k)
    have bk : after cond1 (atTrip cond1 body1I W₀ k c) (Proc.devRef .tc main_v42_7) = W₀ c (Proc.devRef .tc main_v42_7) := (cond1_keep _ (by decide +kernel)).trans (keep1 W₀ c (by decide +kernel) (by decide +kernel) k)
    refine ⟨fun h => ?_, fun n h hq => ?_, fun n h hq => ?_, fun n h hq => ?_, fun n h hq => ?_, fun n h hq => ?_, fun n h hq => ?_⟩
    · refine (end_v42_9 _ ⟨k, hk⟩ hc h).trans ?_
      rw [v0, i0, bm, hin.fm, bq, hin.fq, bg, hin.fg, bw, hin.fw, bk, hin.fk, ba, hin.fa]
      rfl
    · refine (end_v42_10 _ ⟨k, hk⟩ hc n h).trans ?_
      by_cases e : n = rev ⟨k, hk⟩
      · subst e
        rw [if_pos rfl, bs, hin.fs, bg, hin.fg]
        have e2 : 63 - (rev ⟨k, hk⟩).val = k := by show 63 - (63 - k) = k; omega
        simp only [gU, gW, gQ, gK, gD, gA, e2]
        try rfl
        try (funext i v; simp only [gD, e2])
      · have e' : n.val ≠ 63 - k := fun z => e (Fin.ext z)
        rw [if_neg e, v1]
        exact i1 n h (by omega)
    · refine (end_v42_11 _ ⟨k, hk⟩ hc n h).trans ?_
      by_cases e : n = rev ⟨k, hk⟩
      · subst e
        rw [if_pos rfl, v0, i0, bv, hin.fv]
        have e2 : 63 - (rev ⟨k, hk⟩).val = k := by show 63 - (63 - k) = k; omega
        simp only [gU, gW, gQ, gK, gD, gA, e2]
        try rfl
        try (funext i v; simp only [gD, e2])
      · have e' : n.val ≠ 63 - k := fun z => e (Fin.ext z)
        rw [if_neg e, v2]
        exact i2 n h (by omega)
    · refine (end_v42_12 _ ⟨k, hk⟩ hc n h).trans ?_
      by_cases e : n = rev ⟨k, hk⟩
      · subst e
        rw [if_pos rfl, v0, i0, bk, hin.fk, ba, hin.fa, bg, hin.fg]
        have e2 : 63 - (rev ⟨k, hk⟩).val = k := by show 63 - (63 - k) = k; omega
        simp only [gU, gW, gQ, gK, gD, gA, e2]
        try rfl
        try (funext i v; simp only [gD, e2])
      · have e' : n.val ≠ 63 - k := fun z => e (Fin.ext z)
        rw [if_neg e, v3]
        exact i3 n h (by omega)
    · refine (end_v42_13 _ ⟨k, hk⟩ hc n h).trans ?_
      by_cases e : n = rev ⟨k, hk⟩
      · subst e
        rw [if_pos rfl, v0, i0, bs, hin.fs, bk, hin.fk, ba, hin.fa, bg, hin.fg]
        have e2 : 63 - (rev ⟨k, hk⟩).val = k := by show 63 - (63 - k) = k; omega
        simp only [gU, gW, gQ, gK, gD, gA, e2]
        try rfl
        try (funext i v; simp only [gD, e2])
      · have e' : n.val ≠ 63 - k := fun z => e (Fin.ext z)
        rw [if_neg e, v4]
        exact i4 n h (by omega)
    · refine (end_v42_14 _ ⟨k, hk⟩ hc n h).trans ?_
      by_cases e : n = rev ⟨k, hk⟩
      · subst e
        rw [if_pos rfl, v0, i0, bs, hin.fs]
        have e2 : 63 - (rev ⟨k, hk⟩).val = k := by show 63 - (63 - k) = k; omega
        simp only [gU, gW, gQ, gK, gD, gA, e2]
        try rfl
        try (funext i v; simp only [gD, e2])
      · have e' : n.val ≠ 63 - k := fun z => e (Fin.ext z)
        rw [if_neg e, v5]
        exact i5 n h (by omega)
    · refine (end_v42_15 _ ⟨k, hk⟩ hc n h).trans ?_
      by_cases e : n = rev ⟨k, hk⟩
      · subst e
        rw [if_pos rfl, bg, hin.fg, bv, hin.fv]
        have e2 : 63 - (rev ⟨k, hk⟩).val = k := by show 63 - (63 - k) = k; omega
        simp only [gU, gW, gQ, gK, gD, gA, e2]
        try rfl
        try (funext i v; simp only [gD, e2])
      · have e' : n.val ≠ 63 - k := fun z => e (Fin.ext z)
        rw [if_neg e, v6]
        exact i6 n h (by omega)

end Loop1

end Cert.ReferenceIdeal.Val
-- ==== Proof.RefHost.lean ====
module

public import proofs.«01_k».proof.Proof.RefLoop
public import Idealize.ShloMosaic.Lib.StableHlo.ReadAt
public import Idealize.ShloMosaic.Lib.DynamicIndex
public import Idealize.ShloMosaic.Lib.Pipeline.Value

/-!
# What the lines outside the loops compute, over the extended reals
-/

@[expose] public section

set_option maxRecDepth 16384

noncomputable section

namespace Cert.ReferenceIdeal.Val

open Cert.ReferenceIdeal Cert.ReferenceIdeal.Gen Cert.ReferenceIdeal.Ops Scan
open Idealize.ShloMosaic Idealize.ShloMosaic.TcCoe Idealize.ShloMosaic.Tactic
open Idealize.SL Idealize.SL.RA Idealize.SL.BI
open Idealize.ShloMosaic.StableHlo

open Cert.ReferenceIdeal.Run

theorem chk_row (x : Arr) (n h : ℕ) (i : Fin 64) (j : Fin 128) (hn : n < 64) (hh : h < 4) (a : n * 64 + i.val < 4096) (b : h * 128 + j.val < 512) :
    x (ix2 ⟨n * 64 + i.val, a⟩ ⟨h * 128 + j.val, b⟩) = chk x n ⟨h, hh⟩ i j := by
  unfold chk
  have e0 : n * 64 + i.val = (64 * n + i.val) % 4096 := by omega
  have e1 : h * 128 + j.val = 128 * h + j.val := by omega
  simp only [e0, e1]

theorem row_chk (x : FVec Ideal S64x4x64x128 .f32) (n : Fin 64) (h : Fin 4) (i : Fin 64) (j : Fin 128) (a : (64 * n.val + i.val) / 64 < 64)
    (b : (128 * h.val + j.val) / 128 < 4) (c : (64 * n.val + i.val) % 64 < 64) (d : (128 * h.val + j.val) % 128 < 128) :
    x (ix4 ⟨(64 * n.val + i.val) / 64, a⟩ ⟨(128 * h.val + j.val) / 128, b⟩ ⟨(64 * n.val + i.val) % 64, c⟩ ⟨(128 * h.val + j.val) % 128, d⟩)
      = r4 x n h i j := by
  have hi := i.isLt
  have hj := j.isLt
  unfold r4
  congr 2 <;> exact Fin.ext (by simp only []; omega)

theorem pre0 (V : Valuation τ sig (Elt Ideal)) (n : Fin 64) (h : Fin 4) : r4 (after preOps V (Proc.devRef .tc main_v29_0)) n h = chk (V (Proc.devRef .tc main_arg2)) n.val h := by
  funext i j
  show after preOps V (Proc.devRef .tc main_v29_0) (ix4 n h i j) = _
  after_reads_at
  simp only [id_eq]
  pointwise
  exact chk_row _ n.val h.val i j n.isLt h.isLt _ _

theorem pre1 (V : Valuation τ sig (Elt Ideal)) (n : Fin 64) (h : Fin 4) : r4 (after preOps V (Proc.devRef .tc main_v29_1)) n h = chk (V (Proc.devRef .tc main_arg3)) n.val h := by
  funext i j
  show after preOps V (Proc.devRef .tc main_v29_1) (ix4 n h i j) = _
  after_reads_at
  simp only [id_eq]
  pointwise
  exact chk_row _ n.val h.val i j n.isLt h.isLt _ _

theorem pre2 (V : Valuation τ sig (Elt Ideal)) (n : Fin 64) (h : Fin 4) : r4 (after preOps V (Proc.devRef .tc main_v29_2)) n h = chk (V (Proc.devRef .tc main_arg0)) n.val h := by
  funext i j
  show after preOps V (Proc.devRef .tc main_v29_2) (ix4 n h i j) = _
  after_reads_at
  simp only [id_eq]
  pointwise
  exact chk_row _ n.val h.val i j n.isLt h.isLt _ _

theorem pre3 (V : Valuation τ sig (Elt Ideal)) (n : Fin 64) (h : Fin 4) : r4 (after preOps V (Proc.devRef .tc main_v29_3)) n h = chk (V (Proc.devRef .tc main_arg1)) n.val h := by
  funext i j
  show after preOps V (Proc.devRef .tc main_v29_3) (ix4 n h i j) = _
  after_reads_at
  simp only [id_eq]
  pointwise
  exact chk_row _ n.val h.val i j n.isLt h.isLt _ _

theorem pre4 (V : Valuation τ sig (Elt Ideal)) (n : Fin 64) (h : Fin 4) : r4 (after preOps V (Proc.devRef .tc main_v29_4)) n h = chk (V (Proc.devRef .tc main_arg5)) n.val h := by
  funext i j
  show after preOps V (Proc.devRef .tc main_v29_4) (ix4 n h i j) = _
  after_reads_at
  simp only [id_eq]
  pointwise
  exact chk_row _ n.val h.val i j n.isLt h.isLt _ _

theorem pre_v13 (V : Valuation τ sig (Elt Ideal)) (n : Fin 64) (h : Fin 4) : r4 (after preOps V (Proc.devRef .tc main_v13)) n h = chk (V (Proc.devRef .tc main_arg2)) n.val h := by
  funext i j
  show after preOps V (Proc.devRef .tc main_v13) (ix4 n h i j) = _
  after_reads_at
  try simp only [id_eq]
  try pointwise
  exact chk_row _ n.val h.val i j n.isLt h.isLt _ _

theorem pre_v16 (V : Valuation τ sig (Elt Ideal)) (n : Fin 64) (h : Fin 4) : r4 (after preOps V (Proc.devRef .tc main_v16)) n h = chk (V (Proc.devRef .tc main_arg3)) n.val h := by
  funext i j
  show after preOps V (Proc.devRef .tc main_v16) (ix4 n h i j) = _
  after_reads_at
  try simp only [id_eq]
  try pointwise
  exact chk_row _ n.val h.val i j n.isLt h.isLt _ _

theorem pre_v21 (V : Valuation τ sig (Elt Ideal)) (n : Fin 64) (h : Fin 4) : r4 (after preOps V (Proc.devRef .tc main_v21)) n h = chk (V (Proc.devRef .tc main_arg1)) n.val h := by
  funext i j
  show after preOps V (Proc.devRef .tc main_v21) (ix4 n h i j) = _
  after_reads_at
  try simp only [id_eq]
  try pointwise
  exact chk_row _ n.val h.val i j n.isLt h.isLt _ _

theorem up6 (V : Valuation τ sig (Elt Ideal)) (p : Fin 32) (q : Fin 1) (c : Fin 64) (h : Fin 4) (j : Fin 64) :
    upto preOps V 8 (Proc.devRef .tc main_v6) (ix5 p q c h j)
      = V (Proc.devRef .tc main_arg4) (ix2 ⟨128 * p.val + c.val, by omega⟩ ⟨128 * h.val + j.val, by omega⟩) := by
  show after (preOps.take 8) V (Proc.devRef .tc main_v6) (ix5 p q c h j) = _
  simp only [List.take]
  after_reads_at
  have e0 : p.val * 128 + c.val = 128 * p.val + c.val := by omega
  have e1 : h.val * 128 + j.val = 128 * h.val + j.val := by omega
  exact congrArg₂ (fun (a : Fin 4096) (b : Fin 512) => V (Proc.devRef .tc main_arg4) (ix2 a b)) (Fin.ext e0) (Fin.ext e1)

set_option maxHeartbeats 2000000 in
theorem up7 (V : Valuation τ sig (Elt Ideal)) (p : Fin 32) (q : Fin 1) (c : Fin 64) (h : Fin 4) (j : Fin 64) :
    upto preOps V 8 (Proc.devRef .tc main_v7) (ix5 p q c h j)
      = V (Proc.devRef .tc main_arg4) (ix2 ⟨128 * p.val + 64 + c.val, by omega⟩ ⟨128 * h.val + 64 + j.val, by omega⟩) := by
  show after (preOps.take 8) V (Proc.devRef .tc main_v7) (ix5 p q c h j) = _
  simp only [List.take]
  after_reads_at
  have e0 : p.val * 128 + 64 + c.val = 128 * p.val + 64 + c.val := by omega
  have e1 : h.val * 128 + 64 + j.val = 128 * h.val + 64 + j.val := by omega
  exact congrArg₂ (fun (a : Fin 4096) (b : Fin 512) => V (Proc.devRef .tc main_arg4) (ix2 a b)) (Fin.ext e0) (Fin.ext e1)

theorem pre_v29_5 (V : Valuation τ sig (Elt Ideal)) (n : Fin 64) (h : Fin 4) : r4 (after preOps V (Proc.devRef .tc main_v29_5)) n h = half n.val (chk (V (Proc.devRef .tc main_arg4)) n.val h) := by
  funext i j
  show after preOps V (Proc.devRef .tc main_v29_5) (ix4 n h i j) = _
  after_reads_at
  try simp only [id_eq]
  try pointwise
  unfold half chk
  by_cases e : n.val % 2 < 1
  · rw [dif_pos e]
    refine (up6 V _ _ _ _ _).trans ?_
    have e0 : 128 * (n.val / 2) + i.val = (64 * n.val + i.val) % 4096 := by omega
    have e1 : 128 * h.val + j.val = 128 * h.val + (64 * (n.val % 2) + j.val) := by omega
    exact congrArg₂ (fun (a : Fin 4096) (b : Fin 512) => V (Proc.devRef .tc main_arg4) (ix2 a b)) (Fin.ext e0) (Fin.ext e1)
  · rw [dif_neg e]
    refine (up7 V _ _ _ _ _).trans ?_
    have e0 : 128 * (n.val / 2) + 64 + i.val = (64 * n.val + i.val) % 4096 := by omega
    have e1 : 128 * h.val + 64 + j.val = 128 * h.val + (64 * (n.val % 2) + j.val) := by omega
    exact congrArg₂ (fun (a : Fin 4096) (b : Fin 512) => V (Proc.devRef .tc main_arg4) (ix2 a b)) (Fin.ext e0) (Fin.ext e1)

theorem pre_v10 (V : Valuation τ sig (Elt Ideal)) (n : Fin 64) (h : Fin 4) : r4 (after preOps V (Proc.devRef .tc main_v10)) n h = half n.val (chk (V (Proc.devRef .tc main_arg4)) n.val h) := by
  funext i j
  show after preOps V (Proc.devRef .tc main_v10) (ix4 n h i j) = _
  after_reads_at
  try simp only [id_eq]
  try pointwise
  unfold half chk
  by_cases e : n.val % 2 < 1
  · rw [dif_pos e]
    refine (up6 V _ _ _ _ _).trans ?_
    have e0 : 128 * (n.val / 2) + i.val = (64 * n.val + i.val) % 4096 := by omega
    have e1 : 128 * h.val + j.val = 128 * h.val + (64 * (n.val % 2) + j.val) := by omega
    exact congrArg₂ (fun (a : Fin 4096) (b : Fin 512) => V (Proc.devRef .tc main_arg4) (ix2 a b)) (Fin.ext e0) (Fin.ext e1)
  · rw [dif_neg e]
    refine (up7 V _ _ _ _ _).trans ?_
    have e0 : 128 * (n.val / 2) + 64 + i.val = (64 * n.val + i.val) % 4096 := by omega
    have e1 : 128 * h.val + 64 + j.val = 128 * h.val + (64 * (n.val % 2) + j.val) := by omega
    exact congrArg₂ (fun (a : Fin 4096) (b : Fin 512) => V (Proc.devRef .tc main_arg4) (ix2 a b)) (Fin.ext e0) (Fin.ext e1)

theorem pre7 (V : Valuation τ sig (Elt Ideal)) (h : Fin 4) : r3 (after preOps V (Proc.devRef .tc main_v29_7)) h = fun _ _ => (0 : EReal) := by
  funext i j
  show after preOps V (Proc.devRef .tc main_v29_7) (ix3 h i j) = _
  after_reads_at
  try simp only [id_eq]
  try pointwise

theorem mid9 (V : Valuation τ sig (Elt Ideal)) (h : Fin 4) : r3 (after midOpsB (after midOpsA V) (Proc.devRef .tc main_v42_9)) h = fun _ _ => (0 : EReal) := by
  have e : after midOpsB (after midOpsA V) (Proc.devRef .tc main_v42_9) = after midOpsA V (Proc.devRef .tc main_v35) := by
    after_results
    try rfl
  rw [e]
  funext i j
  show after midOpsA V (Proc.devRef .tc main_v35) (ix3 h i j) = _
  after_reads_at
  try simp only [id_eq]
  try pointwise

theorem mid0 (V : Valuation τ sig (Elt Ideal)) (n : Fin 64) (h : Fin 4) : r4 (after midOpsB (after midOpsA V) (Proc.devRef .tc main_v42_0)) n h = chk (V (Proc.devRef .tc main_arg6)) n.val h := by
  have e : after midOpsB (after midOpsA V) (Proc.devRef .tc main_v42_0) = after midOpsA V (Proc.devRef .tc main_v34) := by
    after_results
    try rfl
  rw [e]
  funext i j
  show after midOpsA V (Proc.devRef .tc main_v34) (ix4 n h i j) = _
  after_reads_at
  try simp only [id_eq]
  try pointwise
  exact chk_row _ n.val h.val i j n.isLt h.isLt _ _

theorem mid1 (V : Valuation τ sig (Elt Ideal)) : after midOpsB (after midOpsA V) (Proc.devRef .tc main_v42_1) = V (Proc.devRef .tc main_v29_9) := by
  have e : ∀ X : Valuation τ sig (Elt Ideal), after midOpsB X (Proc.devRef .tc main_v42_1) = X (Proc.devRef .tc main_v29_9) := fun X => by
    after_results
    try rfl
  rw [e, midOpsA_keep _]

theorem mid2 (V : Valuation τ sig (Elt Ideal)) : after midOpsB (after midOpsA V) (Proc.devRef .tc main_v42_2) = V (Proc.devRef .tc main_v21) := by
  have e : ∀ X : Valuation τ sig (Elt Ideal), after midOpsB X (Proc.devRef .tc main_v42_2) = X (Proc.devRef .tc main_v21) := fun X => by
    after_results
    try rfl
  rw [e, midOpsA_keep _]

theorem mid3 (V : Valuation τ sig (Elt Ideal)) : after midOpsB (after midOpsA V) (Proc.devRef .tc main_v42_3) = V (Proc.devRef .tc main_v13) := by
  have e : ∀ X : Valuation τ sig (Elt Ideal), after midOpsB X (Proc.devRef .tc main_v42_3) = X (Proc.devRef .tc main_v13) := fun X => by
    after_results
    try rfl
  rw [e, midOpsA_keep _]

theorem mid4 (V : Valuation τ sig (Elt Ideal)) : after midOpsB (after midOpsA V) (Proc.devRef .tc main_v42_4) = V (Proc.devRef .tc main_v29_10) := by
  have e : ∀ X : Valuation τ sig (Elt Ideal), after midOpsB X (Proc.devRef .tc main_v42_4) = X (Proc.devRef .tc main_v29_10) := fun X => by
    after_results
    try rfl
  rw [e, midOpsA_keep _]

theorem mid5 (V : Valuation τ sig (Elt Ideal)) : after midOpsB (after midOpsA V) (Proc.devRef .tc main_v42_5) = V (Proc.devRef .tc main_v10) := by
  have e : ∀ X : Valuation τ sig (Elt Ideal), after midOpsB X (Proc.devRef .tc main_v42_5) = X (Proc.devRef .tc main_v10) := fun X => by
    after_results
    try rfl
  rw [e, midOpsA_keep _]

theorem mid6 (V : Valuation τ sig (Elt Ideal)) : after midOpsB (after midOpsA V) (Proc.devRef .tc main_v42_6) = V (Proc.devRef .tc main_v29_11) := by
  have e : ∀ X : Valuation τ sig (Elt Ideal), after midOpsB X (Proc.devRef .tc main_v42_6) = X (Proc.devRef .tc main_v29_11) := fun X => by
    after_results
    try rfl
  rw [e, midOpsA_keep _]

theorem mid7 (V : Valuation τ sig (Elt Ideal)) : after midOpsB (after midOpsA V) (Proc.devRef .tc main_v42_7) = V (Proc.devRef .tc main_v16) := by
  have e : ∀ X : Valuation τ sig (Elt Ideal), after midOpsB X (Proc.devRef .tc main_v42_7) = X (Proc.devRef .tc main_v16) := fun X => by
    after_results
    try rfl
  rw [e, midOpsA_keep _]

theorem post49 (V : Valuation τ sig (Elt Ideal)) (n : Fin 64) (h : Fin 4) (i : Fin 64) (j : Fin 128) :
    after postOps V (Proc.devRef .tc main_v49) (ix2 ⟨64 * n.val + i.val, by omega⟩ ⟨128 * h.val + j.val, by omega⟩) = r4 (V (Proc.devRef .tc main_v42_12)) n h i j := by
  after_reads_at
  first | done | rfl | exact row_chk _ n h i j _ _ _ _

theorem post47 (V : Valuation τ sig (Elt Ideal)) (n : Fin 64) (h : Fin 4) (i : Fin 64) (j : Fin 128) :
    after postOps V (Proc.devRef .tc main_v47) (ix2 ⟨64 * n.val + i.val, by omega⟩ ⟨128 * h.val + j.val, by omega⟩) = r4 (V (Proc.devRef .tc main_v42_13)) n h i j := by
  after_reads_at
  first | done | rfl | exact row_chk _ n h i j _ _ _ _

theorem post55 (V : Valuation τ sig (Elt Ideal)) (n : Fin 64) (h : Fin 4) (i : Fin 64) (j : Fin 128) :
    after postOps V (Proc.devRef .tc main_v55) (ix2 ⟨64 * n.val + i.val, by omega⟩ ⟨128 * h.val + j.val, by omega⟩) = r4 (V (Proc.devRef .tc main_v42_10)) n h i j := by
  after_reads_at
  first | done | rfl | exact row_chk _ n h i j _ _ _ _

theorem post52 (V : Valuation τ sig (Elt Ideal)) (n : Fin 64) (h : Fin 4) (i : Fin 64) (j : Fin 128) :
    after postOps V (Proc.devRef .tc main_v52) (ix2 ⟨64 * n.val + i.val, by omega⟩ ⟨128 * h.val + j.val, by omega⟩) = r4 (V (Proc.devRef .tc main_v42_11)) n h i j := by
  after_reads_at
  first | done | rfl | exact row_chk _ n h i j _ _ _ _

theorem post44 (V : Valuation τ sig (Elt Ideal)) (n : Fin 64) (h : Fin 4) (i : Fin 64) (j : Fin 128) :
    after postOps V (Proc.devRef .tc main_v44) (ix2 ⟨64 * n.val + i.val, by omega⟩ ⟨128 * h.val + j.val, by omega⟩) = r4 (V (Proc.devRef .tc main_v42_14)) n h i j := by
  after_reads_at
  first | done | rfl | exact row_chk _ n h i j _ _ _ _

theorem two_pads (x : FVec Ideal S64x4x64x64 .f32) (n : Fin 64) (h : Fin 4) (i : Fin 64) (j : Fin 128)
    (p1 : n.val / 2 < 32 ∧ (1 ≤ n.val % 2 ∧ n.val % 2 - 1 < 1) ∧ i.val < 64 ∧ h.val < 4 ∧ (1 ≤ j.val / 64 ∧ j.val / 64 - 1 < 1) ∧ j.val % 64 < 64 → EReal)
    (p0 : n.val / 2 < 32 ∧ n.val % 2 < 1 ∧ i.val < 64 ∧ h.val < 4 ∧ j.val / 64 < 1 ∧ j.val % 64 < 64 → EReal)
    (q1 : ∀ z, p1 z = x (ix4 n h i ⟨j.val % 64, Nat.mod_lt _ (by decide)⟩)) (q0 : ∀ z, p0 z = x (ix4 n h i ⟨j.val % 64, Nat.mod_lt _ (by decide)⟩)) :
    (if z : _ then p1 z else 0) + (if z : _ then p0 z else 0) = wide n.val (r4 x n h) i j := by
  have hn := n.isLt
  have hi := i.isLt
  have hj := j.isLt
  have hh := h.isLt
  unfold wide r4
  by_cases hw : j.val / 64 = n.val % 2
  · rcases (show n.val % 2 = 0 ∨ n.val % 2 = 1 by omega) with h0 | h0
    · have z1 : ¬(n.val / 2 < 32 ∧ (1 ≤ n.val % 2 ∧ n.val % 2 - 1 < 1) ∧ i.val < 64 ∧ h.val < 4 ∧ (1 ≤ j.val / 64 ∧ j.val / 64 - 1 < 1) ∧ j.val % 64 < 64) := by omega
      have z0 : n.val / 2 < 32 ∧ n.val % 2 < 1 ∧ i.val < 64 ∧ h.val < 4 ∧ j.val / 64 < 1 ∧ j.val % 64 < 64 := by omega
      rw [dif_neg z1, dif_pos z0, if_pos hw, q0, zero_add]
    · have z1 : n.val / 2 < 32 ∧ (1 ≤ n.val % 2 ∧ n.val % 2 - 1 < 1) ∧ i.val < 64 ∧ h.val < 4 ∧ (1 ≤ j.val / 64 ∧ j.val / 64 - 1 < 1) ∧ j.val % 64 < 64 := by omega
      have z0 : ¬(n.val / 2 < 32 ∧ n.val % 2 < 1 ∧ i.val < 64 ∧ h.val < 4 ∧ j.val / 64 < 1 ∧ j.val % 64 < 64) := by omega
      rw [dif_pos z1, dif_neg z0, if_pos hw, q1, add_zero]
  · have z1 : ¬(n.val / 2 < 32 ∧ (1 ≤ n.val % 2 ∧ n.val % 2 - 1 < 1) ∧ i.val < 64 ∧ h.val < 4 ∧ (1 ≤ j.val / 64 ∧ j.val / 64 - 1 < 1) ∧ j.val % 64 < 64) := by omega
    have z0 : ¬(n.val / 2 < 32 ∧ n.val % 2 < 1 ∧ i.val < 64 ∧ h.val < 4 ∧ j.val / 64 < 1 ∧ j.val % 64 < 64) := by omega
    rw [dif_neg z1, dif_neg z0, if_neg hw, zero_add]

theorem post68 (V : Valuation τ sig (Elt Ideal)) (n : Fin 64) (h : Fin 4) (i : Fin 64) (j : Fin 128) :
    after postOps V (Proc.devRef .tc main_v68) (ix2 ⟨64 * n.val + i.val, by omega⟩ ⟨128 * h.val + j.val, by omega⟩) = wide n.val (r4 (V (Proc.devRef .tc main_v42_15)) n h) i j := by
  after_reads_at
  have hn := n.isLt
  have hi := i.isLt
  have hj := j.isLt
  have hh := h.isLt
  have e1 : (64 * n.val + i.val) / 128 = n.val / 2 := by omega
  have e2 : (64 * n.val + i.val) / 64 = n.val := by omega
  have e3 : (64 * n.val + i.val) % 64 = i.val := by omega
  have e4 : (128 * h.val + j.val) / 128 = h.val := by omega
  have e5 : (128 * h.val + j.val) / 64 % 2 = j.val / 64 := by omega
  have e6 : (128 * h.val + j.val) % 64 = j.val % 64 := by omega
  simp only [e1, e2, e3, e4, e5, e6]
  refine two_pads (V (Proc.devRef .tc main_v42_15)) n h i j _ _ (fun z => ?_) (fun z => ?_)
  · have e : n.val / 2 * 2 + 1 = n.val := by omega
    exact congrArg (fun k : Fin 64 => V (Proc.devRef .tc main_v42_15) (ix4 k h i ⟨j.val % 64, Nat.mod_lt _ (by decide)⟩)) (Fin.ext e)
  · have e : n.val / 2 * 2 = n.val := by omega
    exact congrArg (fun k : Fin 64 => V (Proc.devRef .tc main_v42_15) (ix4 k h i ⟨j.val % 64, Nat.mod_lt _ (by decide)⟩)) (Fin.ext e)
end Cert.ReferenceIdeal.Val
-- ==== Proof.RefFinal.lean ====
module

public import proofs.«01_k».proof.Proof.RefHost
public import Idealize.ShloMosaic.Lib.StableHlo.ReadAt
public import Idealize.ShloMosaic.Lib.DynamicIndex
public import Idealize.ShloMosaic.Lib.Pipeline.Value

/-!
# The results of the reference, over the extended reals
-/

@[expose] public section

set_option maxRecDepth 16384

noncomputable section

namespace Cert.ReferenceIdeal.Val

open Cert.ReferenceIdeal Cert.ReferenceIdeal.Gen Cert.ReferenceIdeal.Ops Scan
open Idealize.ShloMosaic Idealize.ShloMosaic.TcCoe Idealize.ShloMosaic.Tactic
open Idealize.SL Idealize.SL.RA Idealize.SL.BI
open Idealize.ShloMosaic.StableHlo

open Cert.ReferenceIdeal.Run

variable (m : (ℓ : Loc nD τ sig) → Buf (Elt Ideal) ℓ) (c : Dev nD)

/-- The argument arrays. -/
abbrev Au : Arr := m ((c.tc : Thread nD τ).loc main_arg0)
abbrev Aw : Arr := m ((c.tc : Thread nD τ).loc main_arg1)
abbrev Aq : Arr := m ((c.tc : Thread nD τ).loc main_arg2)
abbrev Ak : Arr := m ((c.tc : Thread nD τ).loc main_arg3)
abbrev Aa : Arr := m ((c.tc : Thread nD τ).loc main_arg4)
abbrev Ad : Arr := m ((c.tc : Thread nD τ).loc main_arg5)
abbrev Ag : Arr := m ((c.tc : Thread nD τ).loc main_arg6)

theorem in0 : In0 (E0 m) c (Au m c) (Aw m c) (Ak m c) (Ad m c) where
  ctr := E0_ctr m
  st := fun h => pre7 (launchContents m c) h
  fu := fun n h => pre2 (launchContents m c) n h
  fw := fun n h => pre3 (launchContents m c) n h
  fk := fun n h => pre1 (launchContents m c) n h
  fd := fun n h => pre4 (launchContents m c) n h

theorem X0_keep {r : Ref sig .tc} (hb : r ∉ body0_W) (hd : r ∉ cond0_W) : X0 m c (Proc.devRef .tc r) = E0 m c (Proc.devRef .tc r) :=
  (cond0_keep _ hd).trans (keep0 (E0 m) c hb hd 64)

theorem in1 : In1 (E1 m) c (Au m c) (Aw m c) (Aq m c) (Ak m c) (Aa m c) (Ad m c) (Ag m c) where
  ctr := E1_ctr m
  st := fun h => mid9 (X0 m c) h
  fg := fun n h => by
    refine (mid0 (X0 m c) n h).trans ?_
    have e : X0 m c (Proc.devRef .tc main_arg6) = m ((c.tc : Thread nD τ).loc main_arg6) :=
      (X0_keep m c (by decide +kernel) (by decide +kernel)).trans (preOps_keep _)
    rw [e]
  fs := fun n h => by
    have e : E1 m c (Proc.devRef .tc main_v42_1) = X0 m c (Proc.devRef .tc main_v29_9) := mid1 (X0 m c)
    have f : X0 m c (Proc.devRef .tc main_v29_9) = atTrip cond0 body0I (E0 m) 64 c (Proc.devRef .tc main_v29_9) := cond0_keep _ (by decide +kernel)
    rw [e, f]
    exact (inv0 (E0 m) c _ _ _ _ (in0 m c) 64 (le_refl _)).2.1 n h n.isLt
  fv := fun n h => by
    have e : E1 m c (Proc.devRef .tc main_v42_4) = X0 m c (Proc.devRef .tc main_v29_10) := mid4 (X0 m c)
    have f : X0 m c (Proc.devRef .tc main_v29_10) = atTrip cond0 body0I (E0 m) 64 c (Proc.devRef .tc main_v29_10) := cond0_keep _ (by decide +kernel)
    rw [e, f]
    exact (inv0 (E0 m) c _ _ _ _ (in0 m c) 64 (le_refl _)).2.2.1 n h n.isLt
  fm := fun n h => by
    have e : E1 m c (Proc.devRef .tc main_v42_6) = X0 m c (Proc.devRef .tc main_v29_11) := mid6 (X0 m c)
    have f : X0 m c (Proc.devRef .tc main_v29_11) = atTrip cond0 body0I (E0 m) 64 c (Proc.devRef .tc main_v29_11) := cond0_keep _ (by decide +kernel)
    rw [e, f]
    exact (inv0 (E0 m) c _ _ _ _ (in0 m c) 64 (le_refl _)).2.2.2 n h n.isLt
  fw := fun n h => by
    have e : E1 m c (Proc.devRef .tc main_v42_2) = X0 m c (Proc.devRef .tc main_v21) := mid2 (X0 m c)
    have f : X0 m c (Proc.devRef .tc main_v21) = E0 m c (Proc.devRef .tc main_v21) := X0_keep m c (by decide +kernel) (by decide +kernel)
    rw [e, f]
    exact pre_v21 (launchContents m c) n h
  fq := fun n h => by
    have e : E1 m c (Proc.devRef .tc main_v42_3) = X0 m c (Proc.devRef .tc main_v13) := mid3 (X0 m c)
    have f : X0 m c (Proc.devRef .tc main_v13) = E0 m c (Proc.devRef .tc main_v13) := X0_keep m c (by decide +kernel) (by decide +kernel)
    rw [e, f]
    exact pre_v13 (launchContents m c) n h
  fa := fun n h => by
    have e : E1 m c (Proc.devRef .tc main_v42_5) = X0 m c (Proc.devRef .tc main_v10) := mid5 (X0 m c)
    have f : X0 m c (Proc.devRef .tc main_v10) = E0 m c (Proc.devRef .tc main_v10) := X0_keep m c (by decide +kernel) (by decide +kernel)
    rw [e, f]
    exact pre_v10 (launchContents m c) n h
  fk := fun n h => by
    have e : E1 m c (Proc.devRef .tc main_v42_7) = X0 m c (Proc.devRef .tc main_v16) := mid7 (X0 m c)
    have f : X0 m c (Proc.devRef .tc main_v16) = E0 m c (Proc.devRef .tc main_v16) := X0_keep m c (by decide +kernel) (by decide +kernel)
    rw [e, f]
    exact pre_v16 (launchContents m c) n h

theorem res49 : Fin1 m c (Proc.devRef .tc main_v49) = glue fun n h => gU (Aw m c) (Aq m c) (Ak m c) (Aa m c) (Ad m c) (Ag m c) n h := by
  funext y
  obtain ⟨n, h, i, j, rfl⟩ := idx_split y
  refine (post49 (X1 m c) n h i j).trans ?_
  have f : X1 m c (Proc.devRef .tc main_v42_12) = atTrip cond1 body1I (E1 m) 64 c (Proc.devRef .tc main_v42_12) := cond1_keep _ (by decide +kernel)
  rw [f, (inv1 (E1 m) c _ _ _ _ _ _ _ (in1 m c) 64 (le_refl _)).2.2.2.1 n h (by omega)]
  exact (glue_apply (fun n h => gU (Aw m c) (Aq m c) (Ak m c) (Aa m c) (Ad m c) (Ag m c) n h) n.val h i j _ _).symm

theorem res47 : Fin1 m c (Proc.devRef .tc main_v47) = glue fun n h => gW (Au m c) (Aw m c) (Aq m c) (Ak m c) (Aa m c) (Ad m c) (Ag m c) n h := by
  funext y
  obtain ⟨n, h, i, j, rfl⟩ := idx_split y
  refine (post47 (X1 m c) n h i j).trans ?_
  have f : X1 m c (Proc.devRef .tc main_v42_13) = atTrip cond1 body1I (E1 m) 64 c (Proc.devRef .tc main_v42_13) := cond1_keep _ (by decide +kernel)
  rw [f, (inv1 (E1 m) c _ _ _ _ _ _ _ (in1 m c) 64 (le_refl _)).2.2.2.2.1 n h (by omega)]
  exact (glue_apply (fun n h => gW (Au m c) (Aw m c) (Aq m c) (Ak m c) (Aa m c) (Ad m c) (Ag m c) n h) n.val h i j _ _).symm

theorem res55 : Fin1 m c (Proc.devRef .tc main_v55) = glue fun n h => gQ (Au m c) (Aw m c) (Ak m c) (Ad m c) (Ag m c) n h := by
  funext y
  obtain ⟨n, h, i, j, rfl⟩ := idx_split y
  refine (post55 (X1 m c) n h i j).trans ?_
  have f : X1 m c (Proc.devRef .tc main_v42_10) = atTrip cond1 body1I (E1 m) 64 c (Proc.devRef .tc main_v42_10) := cond1_keep _ (by decide +kernel)
  rw [f, (inv1 (E1 m) c _ _ _ _ _ _ _ (in1 m c) 64 (le_refl _)).2.1 n h (by omega)]
  exact (glue_apply (fun n h => gQ (Au m c) (Aw m c) (Ak m c) (Ad m c) (Ag m c) n h) n.val h i j _ _).symm

theorem res52 : Fin1 m c (Proc.devRef .tc main_v52) = glue fun n h => gK (Au m c) (Aw m c) (Aq m c) (Ak m c) (Aa m c) (Ad m c) (Ag m c) n h := by
  funext y
  obtain ⟨n, h, i, j, rfl⟩ := idx_split y
  refine (post52 (X1 m c) n h i j).trans ?_
  have f : X1 m c (Proc.devRef .tc main_v42_11) = atTrip cond1 body1I (E1 m) 64 c (Proc.devRef .tc main_v42_11) := cond1_keep _ (by decide +kernel)
  rw [f, (inv1 (E1 m) c _ _ _ _ _ _ _ (in1 m c) 64 (le_refl _)).2.2.1 n h (by omega)]
  exact (glue_apply (fun n h => gK (Au m c) (Aw m c) (Aq m c) (Ak m c) (Aa m c) (Ad m c) (Ag m c) n h) n.val h i j _ _).symm

theorem res44 : Fin1 m c (Proc.devRef .tc main_v44) = glue fun n h => gD (Au m c) (Aw m c) (Aq m c) (Ak m c) (Aa m c) (Ad m c) (Ag m c) n h := by
  funext y
  obtain ⟨n, h, i, j, rfl⟩ := idx_split y
  refine (post44 (X1 m c) n h i j).trans ?_
  have f : X1 m c (Proc.devRef .tc main_v42_14) = atTrip cond1 body1I (E1 m) 64 c (Proc.devRef .tc main_v42_14) := cond1_keep _ (by decide +kernel)
  rw [f, (inv1 (E1 m) c _ _ _ _ _ _ _ (in1 m c) 64 (le_refl _)).2.2.2.2.2.1 n h (by omega)]
  exact (glue_apply (fun n h => gD (Au m c) (Aw m c) (Aq m c) (Ak m c) (Aa m c) (Ad m c) (Ag m c) n h) n.val h i j _ _).symm

theorem res68 : Fin1 m c (Proc.devRef .tc main_v68) = glue fun n h => wide n (gA (Au m c) (Aw m c) (Ak m c) (Ad m c) (Ag m c) n h) := by
  funext y
  obtain ⟨n, h, i, j, rfl⟩ := idx_split y
  refine (post68 (X1 m c) n h i j).trans ?_
  have f : X1 m c (Proc.devRef .tc main_v42_15) = atTrip cond1 body1I (E1 m) 64 c (Proc.devRef .tc main_v42_15) := cond1_keep _ (by decide +kernel)
  rw [f, (inv1 (E1 m) c _ _ _ _ _ _ _ (in1 m c) 64 (le_refl _)).2.2.2.2.2.2 n h (by omega)]
  exact (glue_apply (fun n h => wide n (gA (Au m c) (Aw m c) (Ak m c) (Ad m c) (Ag m c) n h)) n.val h i j _ _).symm

end Cert.ReferenceIdeal.Val
-- ==== Proof.Ffn0.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the norm
-/

@[expose] public section

set_option maxRecDepth 16384

noncomputable section

namespace Cert.Kernel2Ideal.Ffn.K0

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of a window at a point, and that it is whole. -/
abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x1024 .bf16 := win0_2.stage (cfg0.slots t 2)
abbrev hs_2 (t : Fin cfg0.N) : (ms_2 t).IsWhole := hstage0_2 ((cfg0.slots t 2).cast nbuf0_2)

set_option maxHeartbeats 1000000 in
/-- The body, run on whole buffers: the inputs stay, each output ends at its value. -/
theorem run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) Set.univ (cc0_ffn1_norm i arg1 harg1 arg2 harg2 arg3 harg3) K := by
  simp only [cc0_ffn1_norm_eq_skeleton]; unfold cc0_ffn1_norm_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay1 (iblk V c 0 t) (iblk V c 1 t) := by dsimp only [dat]
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- What the body finds at a point, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it leaves. -/
def bodyPost (c : Dev nD) (t : Fin cfg0.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Kernel2Ideal.Ffn.K0

end
-- ==== Proof.Ffn1.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the gate
-/

@[expose] public section

set_option maxRecDepth 16384

noncomputable section

namespace Cert.Kernel2Ideal.Ffn.K1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of a window at a point, and that it is whole. -/
abbrev ms_0 (t : Fin cfg1.N) : Memref sig .tc .vmem S1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1408x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x1408 .bf16 := win1_2.stage (cfg1.slots t 2)
abbrev hs_2 (t : Fin cfg1.N) : (ms_2 t).IsWhole := hstage1_2 ((cfg1.slots t 2).cast nbuf1_2)

set_option maxHeartbeats 1000000 in
/-- The body, run on whole buffers: the inputs stay, each output ends at its value. -/
theorem run (c : Dev nD) (i : grid1.Coords) (arg2 : Memref sig .tc .vmem S1024x1024 .bf16) (harg2 : arg2.IsWhole) (arg3 : Memref sig .tc .vmem S1408x1024 .bf16) (harg3 : arg3.IsWhole) (arg4 : Memref sig .tc .vmem S1024x1408 .bf16) (harg4 : arg4.IsWhole)
    (x0 : Vec F S1024x1024 .bf16) (x1 : Vec F S1408x1024 .bf16) (K : PUnit → sProp 𝕄) :
    iprop(owns (c : Thread nD τ) arg2 fullShare x0 ∗ owns (c : Thread nD τ) arg3 fullShare x1 ∗ (∃ d, owns (c : Thread nD τ) arg4 fullShare d) ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) Set.univ (cc1_ffn1_gate i arg2 harg2 arg3 harg3 arg4 harg4) K := by
  simp only [cc1_ffn1_gate_eq_skeleton]; unfold cc1_ffn1_gate_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- What the body finds at a point, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it leaves. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg1.N) :
    defs₀ (F := F) .tc cfg1.body (cfg1.bodyArgs t (cfg1.slots t)) = bodyAt1 t := by
  unfold defs₀; rw [Defs.onTc_tc]

/-- The body at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Kernel2Ideal.Ffn.K1

end
-- ==== Proof.Ffn2.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the up product and the activation
-/

@[expose] public section

set_option maxRecDepth 16384

noncomputable section

namespace Cert.Kernel2Ideal.Ffn.K2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer of a window at a point, and that it is whole. -/
abbrev ms_0 (t : Fin cfg2.N) : Memref sig .tc .vmem S1024x1024 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1408x1024 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x1408 .bf16 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1024x1408 .bf16 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S1024x1408 .bf16 := win2_4.stage (cfg2.slots t 4)
abbrev hs_4 (t : Fin cfg2.N) : (ms_4 t).IsWhole := hstage2_4 ((cfg2.slots t 4).cast nbuf2_4)

set_option maxHeartbeats 1000000 in
/-- The body, run on whole buffers: the inputs stay, each output ends at its value. -/
theorem run (c : Dev nD) (i : grid2.Coords) (arg2 : Memref sig .tc .vmem S1024x1024 .bf16) (harg2 : arg2.IsWhole) (arg3 : Memref sig .tc .vmem S1408x1024 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole)
    (x0 : Vec F S1024x1024 .bf16) (x1 : Vec F S1408x1024 .bf16) (x2 : Vec F S1024x1408 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (iprop(owns (c : Thread nD τ) arg2 fullShare x0 ∗ owns (c : Thread nD τ) arg3 fullShare x1 ∗ owns (c : Thread nD τ) arg4 fullShare x2 ∗ owns (c : Thread nD τ) arg5 fullShare (k2_pay2 x0 x1) ∗ owns (c : Thread nD τ) arg6 fullShare (k2_pay3 x0 x1 x2)) -∗ K ⟨⟩))
      ⊢ wp frame (wpE (defs₀ (F := F)) Variants.none c none) Set.univ (cc2_ffn1_up_act i arg2 harg2 arg3 harg3 arg4 harg4 arg5 harg5 arg6 harg6) K := by
  simp only [cc2_ffn1_up_act_eq_skeleton]; unfold cc2_ffn1_up_act_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; refine (View.read_writes_full _ _ _ _ _).trans ?_; congr 1 <;> exact (View.readAt_full _ _ _).trans (Memref.IsWhole.read_unread _ _)
  iexists _; isplitr
  swap; · iexact H4
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay2 (iblk V c 0 t) (iblk V c 1 t)
    | ⟨4, _⟩ => k2_pay3 (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay2 (iblk V c 0 t) (iblk V c 1 t) := by dsimp only [dat]
theorem after_4 (c : Dev nD) (t : Fin cfg2.N) : (dat V c).after 4 t = k2_pay3 (iblk V c 0 t) (iblk V c 1 t) (iblk V c 2 t) := by dsimp only [dat]
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
/-- What the body finds at a point, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it leaves. -/
def bodyPost (c : Dev nD) (t : Fin cfg2.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run c (grid2.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg2.N) :
    defs₀ (F := F) .tc cfg2.body (cfg2.bodyArgs t (cfg2.slots t)) = bodyAt2 t := by
  unfold defs₀; rw [Defs.onTc_tc]

/-- The body at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.Kernel2Ideal.Ffn.K2

end
-- ==== Proof.Ffn3.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the gradient of the down weight
-/

@[expose] public section

set_option maxRecDepth 16384

noncomputable section

namespace Cert.Kernel2Ideal.Ffn.K3

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The buffer of a window at a point, and that it is whole. -/
abbrev ms_0 (t : Fin cfg3.N) : Memref sig .tc .vmem S4096x256 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S4096x1024 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S256x1024 .bf16 := win3_2.stage (cfg3.slots t 2)
abbrev hs_2 (t : Fin cfg3.N) : (ms_2 t).IsWhole := hstage3_2 ((cfg3.slots t 2).cast nbuf3_2)

set_option maxHeartbeats 1000000 in
/-- The body, run on whole buffers: the inputs stay, each output ends at its value. -/
theorem run (c : Dev nD) (i : grid3.Coords) (arg2 : Memref sig .tc .vmem S4096x256 .bf16) (harg2 : arg2.IsWhole) (arg3 : Memref sig .tc .vmem S4096x1024 .bf16) (harg3 : arg3.IsWhole) (arg4 : Memref sig .tc .vmem S256x1024 .bf16) (harg4 : arg4.IsWhole)
    (x0 : Vec F S4096x256 .bf16) (x1 : Vec F S4096x1024 .bf16) (K : PUnit → sProp 𝕄) :
    iprop(owns (c : Thread nD τ) arg2 fullShare x0 ∗ owns (c : Thread nD τ) arg3 fullShare x1 ∗ (∃ d, owns (c : Thread nD τ) arg4 fullShare d) ∗ (iprop(owns (c : Thread nD τ) arg2 fullShare x0 ∗ owns (c : Thread nD τ) arg3 fullShare x1 ∗ owns (c : Thread nD τ) arg4 fullShare (k3_pay1 x0 x1)) -∗ K ⟨⟩))
      ⊢ wp frame (wpE (defs₀ (F := F)) Variants.none c none) Set.univ (cc3_ffn1b_dwd i arg2 harg2 arg3 harg3 arg4 harg4) K := by
  simp only [cc3_ffn1b_dwd_eq_skeleton]; unfold cc3_ffn1b_dwd_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => k3_pay1 (iblk V c 0 t) (iblk V c 1 t)
  Φ _ := Pipeline.ΦA spec3 c
  q _ := fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = k3_pay1 (iblk V c 0 t) (iblk V c 1 t) := by dsimp only [dat]
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- What the body finds at a point, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it leaves. -/
def bodyPost (c : Dev nD) (t : Fin cfg3.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid3.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg3.N) :
    defs₀ (F := F) .tc cfg3.body (cfg3.bodyArgs t (cfg3.slots t)) = bodyAt3 t := by
  unfold defs₀; rw [Defs.onTc_tc]

/-- The body at every point. -/
theorem body_obligation (c : Dev nD) : BodyObligation (dat V c) (defs₀ (F := F)) Variants.none () Set.univ := fun t => by
  rw [bigSep_W3, bigSep_W3, defs₀_row]
  exact triple_restated (sound_body V c t) rfl .rfl fun _ => .rfl

end Cert.Kernel2Ideal.Ffn.K3

end
-- ==== Proof.Ffn4.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the gradients of the gate and the up product
-/

@[expose] public section

set_option maxRecDepth 16384

noncomputable section

namespace Cert.Kernel2Ideal.Ffn.K4

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The buffer of a window at a point, and that it is whole. -/
abbrev ms_0 (t : Fin cfg4.N) : Memref sig .tc .vmem S1024x1024 .bf16 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S1408x1024 .bf16 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S1024x1408 .bf16 := win4_2.stage (cfg4.slots t 2)
abbrev hs_2 (t : Fin cfg4.N) : (ms_2 t).IsWhole := hstage4_2 ((cfg4.slots t 2).cast nbuf4_2)
abbrev ms_3 (t : Fin cfg4.N) : Memref sig .tc .vmem S1024x1408 .bf16 := win4_3.stage (cfg4.slots t 3)
abbrev hs_3 (t : Fin cfg4.N) : (ms_3 t).IsWhole := hstage4_3 ((cfg4.slots t 3).cast nbuf4_3)
abbrev ms_4 (t : Fin cfg4.N) : Memref sig .tc .vmem S1024x1408 .bf16 := win4_4.stage (cfg4.slots t 4)
abbrev hs_4 (t : Fin cfg4.N) : (ms_4 t).IsWhole := hstage4_4 ((cfg4.slots t 4).cast nbuf4_4)
abbrev ms_5 (t : Fin cfg4.N) : Memref sig .tc .vmem S1024x1408 .bf16 := win4_5.stage (cfg4.slots t 5)
abbrev hs_5 (t : Fin cfg4.N) : (ms_5 t).IsWhole := hstage4_5 ((cfg4.slots t 5).cast nbuf4_5)

set_option maxHeartbeats 1000000 in
/-- The body, run on whole buffers: the inputs stay, each output ends at its value. -/
theorem run (c : Dev nD) (i : grid4.Coords) (arg2 : Memref sig .tc .vmem S1024x1024 .bf16) (harg2 : arg2.IsWhole) (arg3 : Memref sig .tc .vmem S1408x1024 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S1024x1408 .bf16) (harg7 : arg7.IsWhole)
    (x0 : Vec F S1024x1024 .bf16) (x1 : Vec F S1408x1024 .bf16) (x2 : Vec F S1024x1408 .bf16) (x3 : Vec F S1024x1408 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k4_pay4 x0 x1 x2 x3) ∗ owns (c : Thread nD τ) arg7 fullShare (k4_pay5 x0 x1 x2)) -∗ K ⟨⟩))
      ⊢ wp frame (wpE (defs₀ (F := F)) Variants.none c none) Set.univ (cc4_ffn1b_dact i arg2 harg2 arg3 harg3 arg4 harg4 arg5 harg5 arg6 harg6 arg7 harg7) K := by
  simp only [cc4_ffn1b_dact_eq_skeleton]; unfold cc4_ffn1b_dact_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (View.read_writes_full _ _ _ _ _).trans ?_; congr 1 <;> exact (View.readAt_full _ _ _).trans (Memref.IsWhole.read_unread _ _)
  iexists _; isplitr
  swap; · iexact H5
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => k4_pay4 (iblk V c 0 t) (iblk V c 1 t) (iblk V c 2 t) (iblk V c 3 t)
    | ⟨5, _⟩ => k4_pay5 (iblk V c 0 t) (iblk V c 1 t) (iblk V c 2 t)
  Φ _ := Pipeline.ΦA spec4 c
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = k4_pay4 (iblk V c 0 t) (iblk V c 1 t) (iblk V c 2 t) (iblk V c 3 t) := by dsimp only [dat]
theorem after_5 (c : Dev nD) (t : Fin cfg4.N) : (dat V c).after 5 t = k4_pay5 (iblk V c 0 t) (iblk V c 1 t) (iblk V c 2 t) := by dsimp only [dat]
theorem before_0 (c : Dev nD) (t : Fin cfg4.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg4.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg4.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg4.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
/-- What the body finds at a point, -/
def bodyPre (c : Dev nD) (t : Fin cfg4.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it leaves. -/
def bodyPost (c : Dev nD) (t : Fin cfg4.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t)
    ∗ owns (c : Thread nD τ) (ms_5 t) fullShare ((dat V c).after 5 t))

theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (run c (grid4.coords t) _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg4.N) :
    defs₀ (F := F) .tc cfg4.body (cfg4.bodyArgs t (cfg4.slots t)) = bodyAt4 t := by
  unfold defs₀; rw [Defs.onTc_tc]

/-- The body at every point. -/
theorem body_obligation (c : Dev nD) : BodyObligation (dat V c) (defs₀ (F := F)) Variants.none () Set.univ := fun t => by
  rw [bigSep_W4, bigSep_W4, defs₀_row]
  exact triple_restated (sound_body V c t) rfl .rfl fun _ => .rfl

end Cert.Kernel2Ideal.Ffn.K4

end
-- ==== Proof.Ffn5.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the gradient of the gate weight
-/

@[expose] public section

set_option maxRecDepth 16384

noncomputable section

namespace Cert.Kernel2Ideal.Ffn.K5

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The buffer of a window at a point, and that it is whole. -/
abbrev ms_0 (t : Fin cfg5.N) : Memref sig .tc .vmem S4096x256 .bf16 := win5_0.stage (cfg5.slots t 0)
abbrev hs_0 (t : Fin cfg5.N) : (ms_0 t).IsWhole := hstage5_0 ((cfg5.slots t 0).cast nbuf5_0)
abbrev ms_1 (t : Fin cfg5.N) : Memref sig .tc .vmem S4096x1024 .bf16 := win5_1.stage (cfg5.slots t 1)
abbrev hs_1 (t : Fin cfg5.N) : (ms_1 t).IsWhole := hstage5_1 ((cfg5.slots t 1).cast nbuf5_1)
abbrev ms_2 (t : Fin cfg5.N) : Memref sig .tc .vmem S256x1024 .bf16 := win5_2.stage (cfg5.slots t 2)
abbrev hs_2 (t : Fin cfg5.N) : (ms_2 t).IsWhole := hstage5_2 ((cfg5.slots t 2).cast nbuf5_2)

set_option maxHeartbeats 1000000 in
/-- The body, run on whole buffers: the inputs stay, each output ends at its value. -/
theorem run (c : Dev nD) (i : grid5.Coords) (arg2 : Memref sig .tc .vmem S4096x256 .bf16) (harg2 : arg2.IsWhole) (arg3 : Memref sig .tc .vmem S4096x1024 .bf16) (harg3 : arg3.IsWhole) (arg4 : Memref sig .tc .vmem S256x1024 .bf16) (harg4 : arg4.IsWhole)
    (x0 : Vec F S4096x256 .bf16) (x1 : Vec F S4096x1024 .bf16) (K : PUnit → sProp 𝕄) :
    iprop(owns (c : Thread nD τ) arg2 fullShare x0 ∗ owns (c : Thread nD τ) arg3 fullShare x1 ∗ (∃ d, owns (c : Thread nD τ) arg4 fullShare d) ∗ (iprop(owns (c : Thread nD τ) arg2 fullShare x0 ∗ owns (c : Thread nD τ) arg3 fullShare x1 ∗ owns (c : Thread nD τ) arg4 fullShare (k5_pay1 x0 x1)) -∗ K ⟨⟩))
      ⊢ wp frame (wpE (defs₀ (F := F)) Variants.none c none) Set.univ (cc5_ffn1b_dwg i arg2 harg2 arg3 harg3 arg4 harg4) K := by
  simp only [cc5_ffn1b_dwg_eq_skeleton]; unfold cc5_ffn1b_dwg_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => k5_pay1 (iblk V c 0 t) (iblk V c 1 t)
  Φ _ := Pipeline.ΦA spec5 c
  q _ := fullShare
  owed _ := 0

theorem A_eq (c : Dev nD) (w : Fin cfg5.W) : (dat V c).A w = V c (Pipeline.arrRef spec5 w) := by dsimp only [dat]
theorem after_0 (c : Dev nD) (t : Fin cfg5.N) : (dat V c).after 0 t = iblk V c 0 t := by dsimp only [dat]
theorem after_1 (c : Dev nD) (t : Fin cfg5.N) : (dat V c).after 1 t = iblk V c 1 t := by dsimp only [dat]
theorem after_2 (c : Dev nD) (t : Fin cfg5.N) : (dat V c).after 2 t = k5_pay1 (iblk V c 0 t) (iblk V c 1 t) := by dsimp only [dat]
theorem before_0 (c : Dev nD) (t : Fin cfg5.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg5.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- What the body finds at a point, -/
def bodyPre (c : Dev nD) (t : Fin cfg5.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it leaves. -/
def bodyPost (c : Dev nD) (t : Fin cfg5.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t))

theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid5.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg5.N) :
    defs₀ (F := F) .tc cfg5.body (cfg5.bodyArgs t (cfg5.slots t)) = bodyAt5 t := by
  unfold defs₀; rw [Defs.onTc_tc]

/-- The body at every point. -/
theorem body_obligation (c : Dev nD) : BodyObligation (dat V c) (defs₀ (F := F)) Variants.none () Set.univ := fun t => by
  rw [bigSep_W5, bigSep_W5, defs₀_row]
  exact triple_restated (sound_body V c t) rfl .rfl fun _ => .rfl

end Cert.Kernel2Ideal.Ffn.K5

end
-- ==== Proof.Ffn6.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the gradient of the up weight
-/

@[expose] public section

set_option maxRecDepth 16384

noncomputable section

namespace Cert.Kernel2Ideal.Ffn.K6

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The buffer of a window at a point, and that it is whole. -/
abbrev ms_0 (t : Fin cfg6.N) : Memref sig .tc .vmem S4096x256 .bf16 := win6_0.stage (cfg6.slots t 0)
abbrev hs_0 (t : Fin cfg6.N) : (ms_0 t).IsWhole := hstage6_0 ((cfg6.slots t 0).cast nbuf6_0)
abbrev ms_1 (t : Fin cfg6.N) : Memref sig .tc .vmem S4096x1024 .bf16 := win6_1.stage (cfg6.slots t 1)
abbrev hs_1 (t : Fin cfg6.N) : (ms_1 t).IsWhole := hstage6_1 ((cfg6.slots t 1).cast nbuf6_1)
abbrev ms_2 (t : Fin cfg6.N) : Memref sig .tc .vmem S256x1024 .bf16 := win6_2.stage (cfg6.slots t 2)
abbrev hs_2 (t : Fin cfg6.N) : (ms_2 t).IsWhole := hstage6_2 ((cfg6.slots t 2).cast nbuf6_2)

set_option maxHeartbeats 1000000 in
/-- The body, run on whole buffers: the inputs stay, each output ends at its value. -/
theorem run (c : Dev nD) (i : grid6.Coords) (arg2 : Memref sig .tc .vmem S4096x256 .bf16) (harg2 : arg2.IsWhole) (arg3 : Memref sig .tc .vmem S4096x1024 .bf16) (harg3 : arg3.IsWhole) (arg4 : Memref sig .tc .vmem S256x1024 .bf16) (harg4 : arg4.IsWhole)
    (x0 : Vec F S4096x256 .bf16) (x1 : Vec F S4096x1024 .bf16) (K : PUnit → sProp 𝕄) :
    iprop(owns (c : Thread nD τ) arg2 fullShare x0 ∗ owns (c : Thread nD τ) arg3 fullShare x1 ∗ (∃ d, owns (c : Thread nD τ) arg4 fullShare d) ∗ (iprop(owns (c : Thread nD τ) arg2 fullShare x0 ∗ owns (c : Thread nD τ) arg3 fullShare x1 ∗ owns (c : Thread nD τ) arg4 fullShare (k6_pay1 x0 x1)) -∗ K ⟨⟩))
      ⊢ wp frame (wpE (defs₀ (F := F)) Variants.none c none) Set.univ (cc6_ffn1b_dwu i arg2 harg2 arg3 harg3 arg4 harg4) K := by
  simp only [cc6_ffn1b_dwu_eq_skeleton]; unfold cc6_ffn1b_dwu_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => k6_pay1 (iblk V c 0 t) (iblk V c 1 t)
  Φ _ := Pipeline.ΦA spec6 c
  q _ := fullShare
  owed _ := 0

theorem A_eq (c : Dev nD) (w : Fin cfg6.W) : (dat V c).A w = V c (Pipeline.arrRef spec6 w) := by dsimp only [dat]
theorem after_0 (c : Dev nD) (t : Fin cfg6.N) : (dat V c).after 0 t = iblk V c 0 t := by dsimp only [dat]
theorem after_1 (c : Dev nD) (t : Fin cfg6.N) : (dat V c).after 1 t = iblk V c 1 t := by dsimp only [dat]
theorem after_2 (c : Dev nD) (t : Fin cfg6.N) : (dat V c).after 2 t = k6_pay1 (iblk V c 0 t) (iblk V c 1 t) := by dsimp only [dat]
theorem before_0 (c : Dev nD) (t : Fin cfg6.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg6.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- What the body finds at a point, -/
def bodyPre (c : Dev nD) (t : Fin cfg6.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it leaves. -/
def bodyPost (c : Dev nD) (t : Fin cfg6.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t))

theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid6.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg6.N) :
    defs₀ (F := F) .tc cfg6.body (cfg6.bodyArgs t (cfg6.slots t)) = bodyAt6 t := by
  unfold defs₀; rw [Defs.onTc_tc]

/-- The body at every point. -/
theorem body_obligation (c : Dev nD) : BodyObligation (dat V c) (defs₀ (F := F)) Variants.none () Set.univ := fun t => by
  rw [bigSep_W6, bigSep_W6, defs₀_row]
  exact triple_restated (sound_body V c t) rfl .rfl fun _ => .rfl

end Cert.Kernel2Ideal.Ffn.K6

end
-- ==== Proof.Ffn7.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Pipeline.ValueKit
public import Idealize.ShloMosaic.Lib.Pipeline.TableIdle
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the gradients of the input and the gain
-/

@[expose] public section

set_option maxRecDepth 16384

noncomputable section

namespace Cert.Kernel2Ideal.Ffn.K7

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The buffer of a window at a point, and that it is whole. -/
abbrev ms_0 (t : Fin cfg7.N) : Memref sig .tc .vmem S512x2816 .bf16 := win7_0.stage (cfg7.slots t 0)
abbrev hs_0 (t : Fin cfg7.N) : (ms_0 t).IsWhole := hstage7_0 ((cfg7.slots t 0).cast nbuf7_0)
abbrev ms_1 (t : Fin cfg7.N) : Memref sig .tc .vmem S512x2816 .bf16 := win7_1.stage (cfg7.slots t 1)
abbrev hs_1 (t : Fin cfg7.N) : (ms_1 t).IsWhole := hstage7_1 ((cfg7.slots t 1).cast nbuf7_1)
abbrev ms_2 (t : Fin cfg7.N) : Memref sig .tc .vmem S2816x1024 .bf16 := win7_2.stage (cfg7.slots t 2)
abbrev hs_2 (t : Fin cfg7.N) : (ms_2 t).IsWhole := hstage7_2 ((cfg7.slots t 2).cast nbuf7_2)
abbrev ms_3 (t : Fin cfg7.N) : Memref sig .tc .vmem S2816x1024 .bf16 := win7_3.stage (cfg7.slots t 3)
abbrev hs_3 (t : Fin cfg7.N) : (ms_3 t).IsWhole := hstage7_3 ((cfg7.slots t 3).cast nbuf7_3)
abbrev ms_4 (t : Fin cfg7.N) : Memref sig .tc .vmem S512x1024 .f32 := win7_4.stage (cfg7.slots t 4)
abbrev hs_4 (t : Fin cfg7.N) : (ms_4 t).IsWhole := hstage7_4 ((cfg7.slots t 4).cast nbuf7_4)
abbrev ms_5 (t : Fin cfg7.N) : Memref sig .tc .vmem S1x1024 .f32 := win7_5.stage (cfg7.slots t 5)
abbrev hs_5 (t : Fin cfg7.N) : (ms_5 t).IsWhole := hstage7_5 ((cfg7.slots t 5).cast nbuf7_5)
abbrev ms_6 (t : Fin cfg7.N) : Memref sig .tc .vmem S512x1024 .f32 := win7_6.stage (cfg7.slots t 6)
abbrev hs_6 (t : Fin cfg7.N) : (ms_6 t).IsWhole := hstage7_6 ((cfg7.slots t 6).cast nbuf7_6)
abbrev ms_7 (t : Fin cfg7.N) : Memref sig .tc .vmem S512x1024 .f32 := win7_7.stage (cfg7.slots t 7)
abbrev hs_7 (t : Fin cfg7.N) : (ms_7 t).IsWhole := hstage7_7 ((cfg7.slots t 7).cast nbuf7_7)
abbrev ms_8 (t : Fin cfg7.N) : Memref sig .tc .vmem S512x1024 .bf16 := win7_8.stage (cfg7.slots t 8)
abbrev hs_8 (t : Fin cfg7.N) : (ms_8 t).IsWhole := hstage7_8 ((cfg7.slots t 8).cast nbuf7_8)
abbrev ms_9 (t : Fin cfg7.N) : Memref sig .tc .vmem S1x1024 .f32 := win7_9.stage (cfg7.slots t 9)
abbrev hs_9 (t : Fin cfg7.N) : (ms_9 t).IsWhole := hstage7_9 ((cfg7.slots t 9).cast nbuf7_9)

set_option maxHeartbeats 1000000 in
/-- The body at the first point, run on whole buffers. -/
theorem runA (c : Dev nD) (i : grid7.Coords) (arg1 : Memref sig .tc .vmem S512x2816 .bf16) (harg1 : arg1.IsWhole) (arg2 : Memref sig .tc .vmem S512x2816 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole)
    (x0 : Vec F S512x2816 .bf16) (x1 : Vec F S512x2816 .bf16) (x2 : Vec F S2816x1024 .bf16) (x3 : Vec F S2816x1024 .bf16) (x4 : Vec F S512x1024 .f32) (x5 : Vec F S1x1024 .f32) (x6 : Vec F S512x1024 .f32) (hc0 : k7_cond1 i = 1#1) (hc1 : ¬k7_cond2 i = 1#1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k7_pay1 (k7_pay4 x4) (k7_pay5 x4) (k7_pay8 x0 x2 x1 x3 x5) (k7_pay9 x0 x2 x1 x3 x4 x5) x6) ∗ owns (c : Thread nD τ) arg9 fullShare (k7_pay2 (k7_pay4 x4) (k7_pay5 x4) (k7_pay8 x0 x2 x1 x3 x5) (k7_pay9 x0 x2 x1 x3 x4 x5) x6) ∗ owns (c : Thread nD τ) arg10 fullShare (k7_pay6 x0 x2 x1 x3 x4)) -∗ K ⟨⟩))
      ⊢ wp frame (wpE (defs₀ (F := F)) Variants.none c none) Set.univ (cc7_ffn1b_dh_dnorm i arg1 harg1 arg2 harg2 arg3 harg3 arg4 harg4 arg5 harg5 arg6 harg6 arg7 harg7 arg8 harg8 arg9 harg9 arg10 harg10) K := by
  simp only [cc7_ffn1b_dh_dnorm_eq_skeleton]; unfold cc7_ffn1b_dh_dnorm_skel
  simp only [k7_part1_eq_skeleton]; unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro; refine (View.read_writes_full _ _ _ _ _).trans ?_; congr 1 <;> first | exact (View.readAt_full _ _ _).trans (Memref.IsWhole.read_unread _ _) | ((first | unfold runA.sl.r | unfold runA.sl.r_1 | unfold runA.sl.r_2 | unfold runA.sl.r_3); congr 1 <;> exact (View.readAt_full _ _ _).trans (Memref.IsWhole.read_unread _ _))
  isplitl [H8]
  · iexists _; isplitr
    swap; · iexact H8
    ipureintro; refine (View.read_writes_full _ _ _ _ _).trans ?_; congr 1 <;> first | exact (View.readAt_full _ _ _).trans (Memref.IsWhole.read_unread _ _) | ((first | unfold runA.sl.r | unfold runA.sl.r_1 | unfold runA.sl.r_2 | unfold runA.sl.r_3); congr 1 <;> exact (View.readAt_full _ _ _).trans (Memref.IsWhole.read_unread _ _))
  iexists _; isplitr
  swap; · iexact H9
  ipureintro; refine (View.read_writes_full _ _ _ _ _).trans ?_; congr 1 <;> first | exact (View.readAt_full _ _ _).trans (Memref.IsWhole.read_unread _ _) | ((first | unfold runA.sl.r | unfold runA.sl.r_1 | unfold runA.sl.r_2 | unfold runA.sl.r_3); congr 1 <;> exact (View.readAt_full _ _ _).trans (Memref.IsWhole.read_unread _ _))

set_option maxHeartbeats 1000000 in
/-- The body at a later point, run on whole buffers: the last output is read before it is stored. -/
theorem runB (c : Dev nD) (i : grid7.Coords) (arg1 : Memref sig .tc .vmem S512x2816 .bf16) (harg1 : arg1.IsWhole) (arg2 : Memref sig .tc .vmem S512x2816 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole)
    (x0 : Vec F S512x2816 .bf16) (x1 : Vec F S512x2816 .bf16) (x2 : Vec F S2816x1024 .bf16) (x3 : Vec F S2816x1024 .bf16) (x4 : Vec F S512x1024 .f32) (x5 : Vec F S1x1024 .f32) (x6 : Vec F S512x1024 .f32) (x9 : Vec F S1x1024 .f32) (hc0 : ¬k7_cond1 i = 1#1) (hc1 : k7_cond2 i = 1#1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k7_pay1 (k7_pay4 x4) (k7_pay5 x4) (k7_pay8 x0 x2 x1 x3 x5) (k7_pay9 x0 x2 x1 x3 x4 x5) x6) ∗ owns (c : Thread nD τ) arg9 fullShare (k7_pay2 (k7_pay4 x4) (k7_pay5 x4) (k7_pay8 x0 x2 x1 x3 x5) (k7_pay9 x0 x2 x1 x3 x4 x5) x6) ∗ owns (c : Thread nD τ) arg10 fullShare (k7_pay7 x0 x2 x1 x3 x4 x9)) -∗ K ⟨⟩))
      ⊢ wp frame (wpE (defs₀ (F := F)) Variants.none c none) Set.univ (cc7_ffn1b_dh_dnorm i arg1 harg1 arg2 harg2 arg3 harg3 arg4 harg4 arg5 harg5 arg6 harg6 arg7 harg7 arg8 harg8 arg9 harg9 arg10 harg10) K := by
  simp only [cc7_ffn1b_dh_dnorm_eq_skeleton]; unfold cc7_ffn1b_dh_dnorm_skel
  simp only [k7_part1_eq_skeleton]; unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro; refine (View.read_writes_full _ _ _ _ _).trans ?_; congr 1 <;> first | exact (View.readAt_full _ _ _).trans (Memref.IsWhole.read_unread _ _) | ((first | unfold runB.sl.r | unfold runB.sl.r_1 | unfold runB.sl.r_2 | unfold runB.sl.r_3); congr 1 <;> exact (View.readAt_full _ _ _).trans (Memref.IsWhole.read_unread _ _))
  isplitl [H8]
  · iexists _; isplitr
    swap; · iexact H8
    ipureintro; refine (View.read_writes_full _ _ _ _ _).trans ?_; congr 1 <;> first | exact (View.readAt_full _ _ _).trans (Memref.IsWhole.read_unread _ _) | ((first | unfold runB.sl.r | unfold runB.sl.r_1 | unfold runB.sl.r_2 | unfold runB.sl.r_3); congr 1 <;> exact (View.readAt_full _ _ _).trans (Memref.IsWhole.read_unread _ _))
  iexists _; isplitr
  swap; · iexact H9
  ipureintro; refine (View.read_writes_full _ _ _ _ _).trans ?_; congr 1 <;> first | exact (View.readAt_full _ _ _).trans (Memref.IsWhole.read_unread _ _) | ((first | unfold runB.sl.r | unfold runB.sl.r_1 | unfold runB.sl.r_2 | unfold runB.sl.r_3); congr 1 <;> exact (View.readAt_full _ _ _).trans (Memref.IsWhole.read_unread _ _))

/-- The running sum over the points of the gradient of the gain. -/
def acc (c : Dev nD) : (n : ℕ) → n < cfg7.N → Vec F S1x1024 .f32
  | 0, h => k7_pay6 (iblk V c 0 ⟨0, h⟩) (iblk V c 2 ⟨0, h⟩) (iblk V c 1 ⟨0, h⟩) (iblk V c 3 ⟨0, h⟩) (iblk V c 4 ⟨0, h⟩)
  | n + 1, h => k7_pay7 (iblk V c 0 ⟨n + 1, h⟩) (iblk V c 2 ⟨n + 1, h⟩) (iblk V c 1 ⟨n + 1, h⟩) (iblk V c 3 ⟨n + 1, h⟩) (iblk V c 4 ⟨n + 1, h⟩)
      (acc c n (Nat.lt_of_succ_lt h))

theorem acc_A (c : Dev nD) (t : Fin cfg7.N) (h0 : t.val = 0) :
    acc V c t.val t.isLt = k7_pay6 (iblk V c 0 t) (iblk V c 2 t) (iblk V c 1 t) (iblk V c 3 t) (iblk V c 4 t) := by
  obtain ⟨n, hn⟩ := t
  obtain rfl : n = 0 := h0
  rfl

theorem acc_B (c : Dev nD) (t : Fin cfg7.N) (h0 : ¬t.val = 0) :
    acc V c t.val t.isLt = k7_pay7 (iblk V c 0 t) (iblk V c 2 t) (iblk V c 1 t) (iblk V c 3 t) (iblk V c 4 t)
      (acc V c (t.val - 1) (Nat.lt_of_le_of_lt (Nat.sub_le _ _) t.isLt)) := by
  obtain ⟨n, hn⟩ := t
  cases n with
  | zero => exact absurd rfl h0
  | succ n => rfl

theorem first : ∀ t : Fin cfg7.N, k7_cond1 (grid7.coords t) = 1#1 ↔ t.val = 0 :=
  (by decide +kernel : ∀ t : Fin grid7.N, k7_cond1 (grid7.coords t) = 1#1 ↔ t.val = 0)
theorem later : ∀ t : Fin cfg7.N, k7_cond2 (grid7.coords t) = 1#1 ↔ ¬t.val = 0 :=
  (by decide +kernel : ∀ t : Fin grid7.N, k7_cond2 (grid7.coords t) = 1#1 ↔ ¬t.val = 0)
theorem live_9 : ∀ t : Fin cfg7.N, cfg7.idle 9 (grid7.coords t) = false := by decide +kernel
theorem fresh_step : ∀ t : Fin cfg7.N,
    (fun n => decide (n = 0 ∨ n = 8)) (t.val + 1) = ((cfg7.win 9).flush t || (cfg7.idle 9 (cfg7.grid.coords t) && (fun n => decide (n = 0 ∨ n = 8)) t.val)) := by
  decide +kernel
theorem fresh_9 (t : Fin cfg7.N) : cfg7.fresh 9 t.val = decide (t.val = 0 ∨ t.val = 8) :=
  Pipeline.Cfg.fresh_tab cfg7 9 (fun n => decide (n = 0 ∨ n = 8)) rfl fresh_step t.val (Nat.le_of_lt t.isLt)

/-- The data of the call: inputs keep their blocks, outputs end at their values. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => k7_pay1 (k7_pay4 (iblk V c 4 t)) (k7_pay5 (iblk V c 4 t)) (k7_pay8 (iblk V c 0 t) (iblk V c 2 t) (iblk V c 1 t) (iblk V c 3 t) (iblk V c 5 t)) (k7_pay9 (iblk V c 0 t) (iblk V c 2 t) (iblk V c 1 t) (iblk V c 3 t) (iblk V c 4 t) (iblk V c 5 t)) (iblk V c 6 t)
    | ⟨8, _⟩ => k7_pay2 (k7_pay4 (iblk V c 4 t)) (k7_pay5 (iblk V c 4 t)) (k7_pay8 (iblk V c 0 t) (iblk V c 2 t) (iblk V c 1 t) (iblk V c 3 t) (iblk V c 5 t)) (k7_pay9 (iblk V c 0 t) (iblk V c 2 t) (iblk V c 1 t) (iblk V c 3 t) (iblk V c 4 t) (iblk V c 5 t)) (iblk V c 6 t)
    | ⟨9, _⟩ => acc V c t.val t.isLt
  Φ _ := Pipeline.ΦA spec7 c
  q _ := fullShare
  owed _ := 0

theorem A_eq (c : Dev nD) (w : Fin cfg7.W) : (dat V c).A w = V c (Pipeline.arrRef spec7 w) := by dsimp only [dat]
theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t = iblk V c 2 t := by dsimp only [dat]
theorem after_3 (c : Dev nD) (t : Fin cfg7.N) : (dat V c).after 3 t = iblk V c 3 t := by dsimp only [dat]
theorem after_4 (c : Dev nD) (t : Fin cfg7.N) : (dat V c).after 4 t = iblk V c 4 t := by dsimp only [dat]
theorem after_5 (c : Dev nD) (t : Fin cfg7.N) : (dat V c).after 5 t = iblk V c 5 t := by dsimp only [dat]
theorem after_6 (c : Dev nD) (t : Fin cfg7.N) : (dat V c).after 6 t = iblk V c 6 t := by dsimp only [dat]
theorem after_7 (c : Dev nD) (t : Fin cfg7.N) : (dat V c).after 7 t = k7_pay1 (k7_pay4 (iblk V c 4 t)) (k7_pay5 (iblk V c 4 t)) (k7_pay8 (iblk V c 0 t) (iblk V c 2 t) (iblk V c 1 t) (iblk V c 3 t) (iblk V c 5 t)) (k7_pay9 (iblk V c 0 t) (iblk V c 2 t) (iblk V c 1 t) (iblk V c 3 t) (iblk V c 4 t) (iblk V c 5 t)) (iblk V c 6 t) := by dsimp only [dat]
theorem after_8 (c : Dev nD) (t : Fin cfg7.N) : (dat V c).after 8 t = k7_pay2 (k7_pay4 (iblk V c 4 t)) (k7_pay5 (iblk V c 4 t)) (k7_pay8 (iblk V c 0 t) (iblk V c 2 t) (iblk V c 1 t) (iblk V c 3 t) (iblk V c 5 t)) (k7_pay9 (iblk V c 0 t) (iblk V c 2 t) (iblk V c 1 t) (iblk V c 3 t) (iblk V c 4 t) (iblk V c 5 t)) (iblk V c 6 t) := by dsimp only [dat]
theorem after_9 (c : Dev nD) (t : Fin cfg7.N) : (dat V c).after 9 t = acc V c t.val t.isLt := by dsimp only [dat]
theorem before_0 (c : Dev nD) (t : Fin cfg7.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg7.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg7.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg7.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg7.N) (d) : (dat V c).before 4 t d = iblk V c 4 t :=
  ((dat V c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg7.N) (d) : (dat V c).before 5 t d = iblk V c 5 t :=
  ((dat V c).before_in_eq_fetched 5 rfl (fun _ => rfl) (fun _ _ _ => rfl) (fun t => by rw [after_5]; unfold Dat.blockOf iblk; rw [A_eq]) t d).trans
    (by unfold Dat.fetched Dat.blockOf iblk; rw [A_eq]; rfl)
theorem before_6 (c : Dev nD) (t : Fin cfg7.N) (d) : (dat V c).before 6 t d = iblk V c 6 t :=
  ((dat V c).before_in_eq_fetched 6 rfl (fun _ => rfl) (fun _ _ _ => rfl) (fun t => by rw [after_6]; unfold Dat.blockOf iblk; rw [A_eq]) t d).trans
    (by unfold Dat.fetched Dat.blockOf iblk; rw [A_eq]; rfl)
theorem before_9 (c : Dev nD) (t : Fin cfg7.N) (h0 : ¬t.val = 0) (d) :
    (dat V c).before 9 t d = acc V c (t.val - 1) (Nat.lt_of_le_of_lt (Nat.sub_le _ _) t.isLt) := by
  have hN : t.val < 8 := lt_of_lt_of_eq t.isLt (show cfg7.N = 8 from N_7)
  rw [Dat.before_out_traj _ 9 rfl (fun _ _ => rfl) (fun t _ hi _ => absurd (live_9 t) (by rw [hi]; decide)) t.val t rfl d,
    if_neg (by rw [fresh_9, decide_eq_true_eq]; omega)]
  dsimp only [dat]

/-- What the body finds at a point, -/
def bodyPre (c : Dev nD) (t : Fin cfg7.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d)))

/-- and what it leaves. -/
def bodyPost (c : Dev nD) (t : Fin cfg7.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t)
    ∗ owns (c : Thread nD τ) (ms_5 t) fullShare ((dat V c).after 5 t)
    ∗ owns (c : Thread nD τ) (ms_6 t) fullShare ((dat V c).after 6 t)
    ∗ owns (c : Thread nD τ) (ms_7 t) fullShare ((dat V c).after 7 t)
    ∗ owns (c : Thread nD τ) (ms_8 t) fullShare ((dat V c).after 8 t)
    ∗ (dat V c).leavesExact 9 t)

set_option maxHeartbeats 1600000 in
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  rw [show (dat V c).leavesExact 9 t = owns (c : Thread nD τ) (ms_9 t) fullShare ((dat V c).after 9 t) from by
    unfold Dat.leavesExact; rw [live_9 t], after_9]
  by_cases h0 : t.val = 0
  · rw [acc_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid7.coords t) _ _ _ _ _ _ _ _ _ _ _ _ _ _ _ _ _ _ _ _ (iblk V c 0 t) (iblk V c 1 t) (iblk V c 2 t) (iblk V c 3 t) (iblk V c 4 t) (iblk V c 5 t) (iblk V c 6 t) ((first t).mpr h0) (fun h => (later t).mp h h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [acc_B V c t h0]
    simp only [before_9 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid7.coords t) _ _ _ _ _ _ _ _ _ _ _ _ _ _ _ _ _ _ _ _ (iblk V c 0 t) (iblk V c 1 t) (iblk V c 2 t) (iblk V c 3 t) (iblk V c 4 t) (iblk V c 5 t) (iblk V c 6 t) _ (fun h => h0 ((first t).mp h)) ((later t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg7.N) :
    defs₀ (F := F) .tc cfg7.body (cfg7.bodyArgs t (cfg7.slots t)) = bodyAt7 t := by
  unfold defs₀; rw [Defs.onTc_tc]

/-- The body at every point. -/
theorem body_obligation (c : Dev nD) : BodyObligation (dat V c) (defs₀ (F := F)) Variants.none () Set.univ := fun t => by
  rw [bigSep_W7, bigSep_W7, defs₀_row]
  exact triple_restated (sound_body V c t) rfl .rfl fun _ => .rfl

end Cert.Kernel2Ideal.Ffn.K7

end
-- ==== Proof.FfnRun.lean ====
module

public import proofs.«01_k».proof.Proof.Gen.Kernel2Ideal.Regions
public import Idealize.ShloMosaic.Lib.Pipeline.RegionArrays
public import proofs.«01_k».proof.Proof.Ffn0
public import proofs.«01_k».proof.Proof.Ffn1
public import proofs.«01_k».proof.Proof.Ffn2
public import proofs.«01_k».proof.Proof.Ffn3
public import proofs.«01_k».proof.Proof.Ffn4
public import proofs.«01_k».proof.Proof.Ffn5
public import proofs.«01_k».proof.Proof.Ffn6
public import proofs.«01_k».proof.Proof.Ffn7

/-!
# The run of the feed-forward layer's calls

The contents of the buffers between the host's lines and the eight calls, and the run of the whole program from the
first contents to the last.  It holds over any float type.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of the buffers, read at the program's references. -/
abbrev at' (W : Dev nD → Valuation τ sig (Elt F)) : (c : Dev nD) → (b : Ref sig .tc) → Buf (Elt F) ((c : Thread nD τ).loc b) :=
  fun c b => W c b

/-- A call writes its result arrays and leaves the rest. -/
abbrev step (p : Fin 8) (W : Dev nD → Valuation τ sig (Elt F))
    (d : (c : Dev nD) → Dat τ (Elt F) Unit ℕ (UR sig nD τ) ℕ (cfgs p) c) (c : Dev nD) : Valuation τ sig (Elt F) :=
  Pipeline.withArrays (cfgs p).spec c (W c) fun w => (d c).arrAt w (cfgs p).N

section
variable {p : Fin 8} (kit : Pipeline.LaunchFacts (nD := nD) (τ := τ) cfgs p) (W : Dev nD → Valuation τ sig (Elt F))
    (d : (c : Dev nD) → Dat τ (Elt F) Unit ℕ (UR sig nD τ) ℕ (cfgs p) c)
include kit
theorem step_arr (c : Dev nD) (w : Fin (cfgs p).W) :
    step p W d c (Proc.devRef .tc (Pipeline.arrRef (cfgs p).spec w)) = (d c).arrAt w (cfgs p).N :=
  Pipeline.withArrays_arr (cfgs p).spec kit.win.arr_inj c _ _ w
omit kit in
theorem step_of_ne (c : Dev nD) (b : Ref sig .tc) (hb : b ∉ Finset.univ.image (Pipeline.arrRef (cfgs p).spec)) :
    step p W d c (Proc.devRef .tc b) = W c (Proc.devRef .tc b) :=
  Pipeline.withArrays_of_ne (cfgs p).spec c _ _ b fun w e => hb (Finset.mem_image.mpr ⟨w, Finset.mem_univ _, e⟩)
/-- What is no result array of the call is unchanged by it. -/
theorem step_of (hA : ∀ c w, (d c).A w = W c (Pipeline.arrRef (cfgs p).spec w)) (c : Dev nD) (r : Ref sig .tc)
    (h : ∀ w : Fin (cfgs p).W, Pipeline.arrRef (cfgs p).spec w = r → ((cfgs p).win w).isOut = false) :
    step p W d c (Proc.devRef .tc r) = W c (Proc.devRef .tc r) := by
  by_cases hw : r ∈ Finset.univ.image (Pipeline.arrRef (cfgs p).spec)
  · obtain ⟨w, -, rfl⟩ := Finset.mem_image.mp hw
    exact (step_arr kit W d c w).trans (((d c).arrAt_in w (h w rfl) _).trans (hA c w))
  · exact step_of_ne W d c r hw
end

variable (m : (ℓ : Loc nD τ sig) → Buf (Elt F) ℓ) (ρ : Dev nD → PrngReg)

/-- The buffers at launch. -/
def W0 (c : Dev nD) : Valuation τ sig (Elt F) := fun b => m (c, b)
/-- After the host's lines 0. -/
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h

/-- After the call of the norm. -/
def W2 (c : Dev nD) : Valuation τ sig (Elt F) := step 0 (W1 m) (K0.dat (at' (W1 m))) c
theorem W2_arr (c : Dev nD) (w : Fin cfg0.W) :
    W2 m c (Proc.devRef .tc (Pipeline.arrRef spec0 w)) = (K0.dat (at' (W1 m)) c).arrAt w cfg0.N :=
  step_arr launch0 _ _ c w
theorem W2_of (c : Dev nD) (r : Ref sig .tc) (h : ∀ w : Fin cfg0.W, Pipeline.arrRef spec0 w = r → (cfg0.win w).isOut = false) :
    W2 m c r = W1 m c r := step_of launch0 _ _ (K0.A_eq _) c r h

/-- After the call of the gate product. -/
def W3 (c : Dev nD) : Valuation τ sig (Elt F) := step 1 (W2 m) (K1.dat (at' (W2 m))) c
theorem W3_arr (c : Dev nD) (w : Fin cfg1.W) :
    W3 m c (Proc.devRef .tc (Pipeline.arrRef spec1 w)) = (K1.dat (at' (W2 m)) c).arrAt w cfg1.N :=
  step_arr launch1 _ _ c w
theorem W3_of (c : Dev nD) (r : Ref sig .tc) (h : ∀ w : Fin cfg1.W, Pipeline.arrRef spec1 w = r → (cfg1.win w).isOut = false) :
    W3 m c r = W2 m c r := step_of launch1 _ _ (K1.A_eq _) c r h

/-- After the call of the up product and the activation. -/
def W4 (c : Dev nD) : Valuation τ sig (Elt F) := step 2 (W3 m) (K2.dat (at' (W3 m))) c
theorem W4_arr (c : Dev nD) (w : Fin cfg2.W) :
    W4 m c (Proc.devRef .tc (Pipeline.arrRef spec2 w)) = (K2.dat (at' (W3 m)) c).arrAt w cfg2.N :=
  step_arr launch2 _ _ c w
theorem W4_of (c : Dev nD) (r : Ref sig .tc) (h : ∀ w : Fin cfg2.W, Pipeline.arrRef spec2 w = r → (cfg2.win w).isOut = false) :
    W4 m c r = W3 m c r := step_of launch2 _ _ (K2.A_eq _) c r h

/-- After the host's lines 4. -/
def W5 (c : Dev nD) : Valuation τ sig (Elt F) := StableHlo.after hostOps3 (W4 m c)
theorem W5_of (c : Dev nD) (r : Ref sig .tc) (h : r ∉ hostOps3_W) : W5 m c r = W4 m c r :=
  StableHlo.after_of_writes_sub hostOps3 _ hostOps3_writes h

/-- After the call of the gradient of the down projection. -/
def W6 (c : Dev nD) : Valuation τ sig (Elt F) := step 3 (W5 m) (K3.dat (at' (W5 m))) c
theorem W6_arr (c : Dev nD) (w : Fin cfg3.W) :
    W6 m c (Proc.devRef .tc (Pipeline.arrRef spec3 w)) = (K3.dat (at' (W5 m)) c).arrAt w cfg3.N :=
  step_arr launch3 _ _ c w
theorem W6_of (c : Dev nD) (r : Ref sig .tc) (h : ∀ w : Fin cfg3.W, Pipeline.arrRef spec3 w = r → (cfg3.win w).isOut = false) :
    W6 m c r = W5 m c r := step_of launch3 _ _ (K3.A_eq _) c r h

/-- After the host's lines 6. -/
def W7 (c : Dev nD) : Valuation τ sig (Elt F) := StableHlo.after hostOps4 (W6 m c)
theorem W7_of (c : Dev nD) (r : Ref sig .tc) (h : r ∉ hostOps4_W) : W7 m c r = W6 m c r :=
  StableHlo.after_of_writes_sub hostOps4 _ hostOps4_writes h

/-- After the call of the gradients of the gate and the up product. -/
def W8 (c : Dev nD) : Valuation τ sig (Elt F) := step 4 (W7 m) (K4.dat (at' (W7 m))) c
theorem W8_arr (c : Dev nD) (w : Fin cfg4.W) :
    W8 m c (Proc.devRef .tc (Pipeline.arrRef spec4 w)) = (K4.dat (at' (W7 m)) c).arrAt w cfg4.N :=
  step_arr launch4 _ _ c w
theorem W8_of (c : Dev nD) (r : Ref sig .tc) (h : ∀ w : Fin cfg4.W, Pipeline.arrRef spec4 w = r → (cfg4.win w).isOut = false) :
    W8 m c r = W7 m c r := step_of launch4 _ _ (K4.A_eq _) c r h

/-- After the call of the gradient of the gate weights. -/
def W9 (c : Dev nD) : Valuation τ sig (Elt F) := step 5 (W8 m) (K5.dat (at' (W8 m))) c
theorem W9_arr (c : Dev nD) (w : Fin cfg5.W) :
    W9 m c (Proc.devRef .tc (Pipeline.arrRef spec5 w)) = (K5.dat (at' (W8 m)) c).arrAt w cfg5.N :=
  step_arr launch5 _ _ c w
theorem W9_of (c : Dev nD) (r : Ref sig .tc) (h : ∀ w : Fin cfg5.W, Pipeline.arrRef spec5 w = r → (cfg5.win w).isOut = false) :
    W9 m c r = W8 m c r := step_of launch5 _ _ (K5.A_eq _) c r h

/-- After the host's lines 9. -/
def W10 (c : Dev nD) : Valuation τ sig (Elt F) := StableHlo.after hostOps6 (W9 m c)
theorem W10_of (c : Dev nD) (r : Ref sig .tc) (h : r ∉ hostOps6_W) : W10 m c r = W9 m c r :=
  StableHlo.after_of_writes_sub hostOps6 _ hostOps6_writes h

/-- After the call of the gradient of the up weights. -/
def W11 (c : Dev nD) : Valuation τ sig (Elt F) := step 6 (W10 m) (K6.dat (at' (W10 m))) c
theorem W11_arr (c : Dev nD) (w : Fin cfg6.W) :
    W11 m c (Proc.devRef .tc (Pipeline.arrRef spec6 w)) = (K6.dat (at' (W10 m)) c).arrAt w cfg6.N :=
  step_arr launch6 _ _ c w
theorem W11_of (c : Dev nD) (r : Ref sig .tc) (h : ∀ w : Fin cfg6.W, Pipeline.arrRef spec6 w = r → (cfg6.win w).isOut = false) :
    W11 m c r = W10 m c r := step_of launch6 _ _ (K6.A_eq _) c r h

/-- After the host's lines 11. -/
def W12 (c : Dev nD) : Valuation τ sig (Elt F) := StableHlo.after hostOps7 (W11 m c)
theorem W12_of (c : Dev nD) (r : Ref sig .tc) (h : r ∉ hostOps7_W) : W12 m c r = W11 m c r :=
  StableHlo.after_of_writes_sub hostOps7 _ hostOps7_writes h

/-- After the call of the gradients of the input and the gain. -/
def W13 (c : Dev nD) : Valuation τ sig (Elt F) := step 7 (W12 m) (K7.dat (at' (W12 m))) c
theorem W13_arr (c : Dev nD) (w : Fin cfg7.W) :
    W13 m c (Proc.devRef .tc (Pipeline.arrRef spec7 w)) = (K7.dat (at' (W12 m)) c).arrAt w cfg7.N :=
  step_arr launch7 _ _ c w
theorem W13_of (c : Dev nD) (r : Ref sig .tc) (h : ∀ w : Fin cfg7.W, Pipeline.arrRef spec7 w = r → (cfg7.win w).isOut = false) :
    W13 m c r = W12 m c r := step_of launch7 _ _ (K7.A_eq _) c r h

/-- After the host's lines 13. -/
def W14 (c : Dev nD) : Valuation τ sig (Elt F) := StableHlo.after hostOps8 (W13 m c)
theorem W14_of (c : Dev nD) (r : Ref sig .tc) (h : r ∉ hostOps8_W) : W14 m c r = W13 m c r :=
  StableHlo.after_of_writes_sub hostOps8 _ hostOps8_writes h

theorem W14_arg0 (c : Dev nD) : W14 m c main_arg0 = m ((c : Thread nD τ).loc main_arg0) :=
  (W14_of m c _ (by decide)).trans <| (W13_of m c _ (by decide +kernel)).trans <| (W12_of m c _ (by decide)).trans <| (W11_of m c _ (by decide +kernel)).trans <| (W10_of m c _ (by decide)).trans <| (W9_of m c _ (by decide +kernel)).trans <| (W8_of m c _ (by decide +kernel)).trans <| (W7_of m c _ (by decide)).trans <| (W6_of m c _ (by decide +kernel)).trans <| (W5_of m c _ (by decide)).trans <| (W4_of m c _ (by decide +kernel)).trans <| (W3_of m c _ (by decide +kernel)).trans <| (W2_of m c _ (by decide +kernel)).trans <| (W1_of m c _ (by decide))
theorem W14_arg1 (c : Dev nD) : W14 m c main_arg1 = m ((c : Thread nD τ).loc main_arg1) :=
  (W14_of m c _ (by decide)).trans <| (W13_of m c _ (by decide +kernel)).trans <| (W12_of m c _ (by decide)).trans <| (W11_of m c _ (by decide +kernel)).trans <| (W10_of m c _ (by decide)).trans <| (W9_of m c _ (by decide +kernel)).trans <| (W8_of m c _ (by decide +kernel)).trans <| (W7_of m c _ (by decide)).trans <| (W6_of m c _ (by decide +kernel)).trans <| (W5_of m c _ (by decide)).trans <| (W4_of m c _ (by decide +kernel)).trans <| (W3_of m c _ (by decide +kernel)).trans <| (W2_of m c _ (by decide +kernel)).trans <| (W1_of m c _ (by decide))
theorem W14_arg2 (c : Dev nD) : W14 m c main_arg2 = m ((c : Thread nD τ).loc main_arg2) :=
  (W14_of m c _ (by decide)).trans <| (W13_of m c _ (by decide +kernel)).trans <| (W12_of m c _ (by decide)).trans <| (W11_of m c _ (by decide +kernel)).trans <| (W10_of m c _ (by decide)).trans <| (W9_of m c _ (by decide +kernel)).trans <| (W8_of m c _ (by decide +kernel)).trans <| (W7_of m c _ (by decide)).trans <| (W6_of m c _ (by decide +kernel)).trans <| (W5_of m c _ (by decide)).trans <| (W4_of m c _ (by decide +kernel)).trans <| (W3_of m c _ (by decide +kernel)).trans <| (W2_of m c _ (by decide +kernel)).trans <| (W1_of m c _ (by decide))
theorem W14_arg3 (c : Dev nD) : W14 m c main_arg3 = m ((c : Thread nD τ).loc main_arg3) :=
  (W14_of m c _ (by decide)).trans <| (W13_of m c _ (by decide +kernel)).trans <| (W12_of m c _ (by decide)).trans <| (W11_of m c _ (by decide +kernel)).trans <| (W10_of m c _ (by decide)).trans <| (W9_of m c _ (by decide +kernel)).trans <| (W8_of m c _ (by decide +kernel)).trans <| (W7_of m c _ (by decide)).trans <| (W6_of m c _ (by decide +kernel)).trans <| (W5_of m c _ (by decide)).trans <| (W4_of m c _ (by decide +kernel)).trans <| (W3_of m c _ (by decide +kernel)).trans <| (W2_of m c _ (by decide +kernel)).trans <| (W1_of m c _ (by decide))
theorem W14_arg4 (c : Dev nD) : W14 m c main_arg4 = m ((c : Thread nD τ).loc main_arg4) :=
  (W14_of m c _ (by decide)).trans <| (W13_of m c _ (by decide +kernel)).trans <| (W12_of m c _ (by decide)).trans <| (W11_of m c _ (by decide +kernel)).trans <| (W10_of m c _ (by decide)).trans <| (W9_of m c _ (by decide +kernel)).trans <| (W8_of m c _ (by decide +kernel)).trans <| (W7_of m c _ (by decide)).trans <| (W6_of m c _ (by decide +kernel)).trans <| (W5_of m c _ (by decide)).trans <| (W4_of m c _ (by decide +kernel)).trans <| (W3_of m c _ (by decide +kernel)).trans <| (W2_of m c _ (by decide +kernel)).trans <| (W1_of m c _ (by decide))
theorem W14_arg5 (c : Dev nD) : W14 m c main_arg5 = m ((c : Thread nD τ).loc main_arg5) :=
  (W14_of m c _ (by decide)).trans <| (W13_of m c _ (by decide +kernel)).trans <| (W12_of m c _ (by decide)).trans <| (W11_of m c _ (by decide +kernel)).trans <| (W10_of m c _ (by decide)).trans <| (W9_of m c _ (by decide +kernel)).trans <| (W8_of m c _ (by decide +kernel)).trans <| (W7_of m c _ (by decide)).trans <| (W6_of m c _ (by decide +kernel)).trans <| (W5_of m c _ (by decide)).trans <| (W4_of m c _ (by decide +kernel)).trans <| (W3_of m c _ (by decide +kernel)).trans <| (W2_of m c _ (by decide +kernel)).trans <| (W1_of m c _ (by decide))

/-- The calls' data, each at the contents it is entered with. -/
def pdats : (p : Fin 8) → (c : Dev nD) → Dat τ (Elt F) Unit ℕ (UR sig nD τ) ℕ (Pipeline.pin (pcfgs (F := F)) adm p) c
  | ⟨0, _⟩ => K0.dat (at' (W1 m))
  | ⟨1, _⟩ => K1.dat (at' (W2 m))
  | ⟨2, _⟩ => K2.dat (at' (W3 m))
  | ⟨3, _⟩ => K3.dat (at' (W5 m))
  | ⟨4, _⟩ => K4.dat (at' (W7 m))
  | ⟨5, _⟩ => K5.dat (at' (W8 m))
  | ⟨6, _⟩ => K6.dat (at' (W10 m))
  | ⟨7, _⟩ => K7.dat (at' (W12 m))
abbrev 𝒱₀ : Variants := Variants.none
abbrev L : GSem nD τ sig → Finset Unit := fun _ => ∅
abbrev lv : GSem nD τ sig → Unit → ℕ := fun _ _ => 0
/-- What rides along: the generator register and nothing owed. -/
abbrev R (c : Dev nD) : sProp 𝕄 := iprop((∃ r, prngReg c r) ∗ ∃ W, owes (c : Thread nD τ) (0 : CellTallies nD τ sig Unit) W)
/-- All unscoped buffers at given contents, beside what rides along. -/
abbrev St (W : Dev nD → Valuation τ sig (Elt F)) (c : Dev nD) : sProp 𝕄 :=
  iprop(StableHlo.held (c : Thread nD τ) (Pipeline.ucRefs τ sig) (W c) ∗ R c)

/-- The host's lines from given contents. -/
def host (ops : List (HloOp τ sig (Elt F))) (hs : ops.Forall fun op => op.bufs ⊆ StableHlo.tcRefs τ sig)
    (hf : ops.Forall fun op => op.fresh = ∅) (W : Dev nD → Valuation τ sig (Elt F)) :
    Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) ops
    (fun op h => Pipeline.sub_ucRefs op ((List.forall_iff_forall_mem.mp hs) op h))
    (fun op h => (List.forall_iff_forall_mem.mp hf) op h) W R

set_option backward.isDefEq.respectTransparency.types false in
/-- A call between the contents before and after it. -/
def reg (p : Fin 8) (kit : Pipeline.LaunchFacts (nD := nD) (τ := τ) cfgs p) (W W' : Dev nD → Valuation τ sig (Elt F))
    (hA : ∀ c w, (pdats m p c).A w = W c (Pipeline.arrRef (cfgs p).spec w))
    (hF : ∀ c (w : Fin (cfgs p).W), W' c (Proc.devRef .tc (Pipeline.arrRef (cfgs p).spec w)) = (pdats m p c).arrAt w (cfgs p).N)
    (hrest : ∀ c (b : Ref sig .tc), b ∉ Finset.univ.image (Pipeline.arrRef (cfgs p).spec) → W' c b = W c b)
    (hΦ : ∀ c t, (pdats m p c).Φ t = Pipeline.ΦA (cfgs p).spec c) (hq : ∀ c w, (pdats m p c).q w = fullShare)
    (howed : ∀ c t, (pdats m p c).owed t = 0) (hrec : ∀ c, (pdats m p c).recorded 0 = Set.univ) (hK : (pcfgs (F := F) p).pre.K = 0)
    (hbody : ∀ c, Pipeline.BodyObligationLoose (pdats m p c) (defs₀ (F := F)) Variants.none () Set.univ) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre := St W
  post := St W'
  X c := iprop(∃ r, prngReg c r)
  Y c := iprop(∃ r, prngReg c r)
  Z c := Pipeline.unscopedRest (Ix := Unit) (Name := ℕ) (U := UR sig nD τ) (Lvl := ℕ) (cfgs p).spec c (at' W c)
  hentry c := by
    rw [Pipeline.ownSems0_none, Pipeline.prefHeld_of_none _ hK]
    have hsplit := Pipeline.arrays_of_unscopedBufs (p := p) (pcfgs (F := F)) adm (pdats m) kit.win kit.arr_whole c
      ((pdats m p c).share_full fun w => hq c w) (at' W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := by
    rw [hΦ c 0]
    iintro ⟨Hp, -, Hr⟩
    unfold Pipeline.ΦA
    isplitl [Hr]; · iexact Hr
    iexact Hp
  hout c := by
    rw [Pipeline.ownSems0_none, hΦ c _]
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full fun w => hq c w)
      (at' W c) (at' W' c) ((pdats m p c).arrAt · (cfgs p).N) (fun w => (hF c w).symm) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def r0 : Pipeline.RegionSeg (pcfgs (F := F)) adm (pdats m) () defs₀ 𝒱₀ L lv 0 :=
  reg m 0 launch0 (W1 m) (W2 m) (K0.A_eq (at' (W1 m))) (W2_arr m)
    (fun c b h => step_of_ne (p := 0) (W1 m) (K0.dat (at' (W1 m))) c b h) (fun _ _ => rfl) (fun _ _ => rfl) (fun _ _ => rfl) (fun _ => rfl) rfl
    fun c => (K0.body_obligation (at' (W1 m)) c).loose
def r1 : Pipeline.RegionSeg (pcfgs (F := F)) adm (pdats m) () defs₀ 𝒱₀ L lv 1 :=
  reg m 1 launch1 (W2 m) (W3 m) (K1.A_eq (at' (W2 m))) (W3_arr m)
    (fun c b h => step_of_ne (p := 1) (W2 m) (K1.dat (at' (W2 m))) c b h) (fun _ _ => rfl) (fun _ _ => rfl) (fun _ _ => rfl) (fun _ => rfl) rfl
    fun c => (K1.body_obligation (at' (W2 m)) c).loose
def r2 : Pipeline.RegionSeg (pcfgs (F := F)) adm (pdats m) () defs₀ 𝒱₀ L lv 2 :=
  reg m 2 launch2 (W3 m) (W4 m) (K2.A_eq (at' (W3 m))) (W4_arr m)
    (fun c b h => step_of_ne (p := 2) (W3 m) (K2.dat (at' (W3 m))) c b h) (fun _ _ => rfl) (fun _ _ => rfl) (fun _ _ => rfl) (fun _ => rfl) rfl
    fun c => (K2.body_obligation (at' (W3 m)) c).loose
def r3 : Pipeline.RegionSeg (pcfgs (F := F)) adm (pdats m) () defs₀ 𝒱₀ L lv 3 :=
  reg m 3 launch3 (W5 m) (W6 m) (K3.A_eq (at' (W5 m))) (W6_arr m)
    (fun c b h => step_of_ne (p := 3) (W5 m) (K3.dat (at' (W5 m))) c b h) (fun _ _ => rfl) (fun _ _ => rfl) (fun _ _ => rfl) (fun _ => rfl) rfl
    fun c => (K3.body_obligation (at' (W5 m)) c).loose
def r4 : Pipeline.RegionSeg (pcfgs (F := F)) adm (pdats m) () defs₀ 𝒱₀ L lv 4 :=
  reg m 4 launch4 (W7 m) (W8 m) (K4.A_eq (at' (W7 m))) (W8_arr m)
    (fun c b h => step_of_ne (p := 4) (W7 m) (K4.dat (at' (W7 m))) c b h) (fun _ _ => rfl) (fun _ _ => rfl) (fun _ _ => rfl) (fun _ => rfl) rfl
    fun c => (K4.body_obligation (at' (W7 m)) c).loose
def r5 : Pipeline.RegionSeg (pcfgs (F := F)) adm (pdats m) () defs₀ 𝒱₀ L lv 5 :=
  reg m 5 launch5 (W8 m) (W9 m) (K5.A_eq (at' (W8 m))) (W9_arr m)
    (fun c b h => step_of_ne (p := 5) (W8 m) (K5.dat (at' (W8 m))) c b h) (fun _ _ => rfl) (fun _ _ => rfl) (fun _ _ => rfl) (fun _ => rfl) rfl
    fun c => (K5.body_obligation (at' (W8 m)) c).loose
def r6 : Pipeline.RegionSeg (pcfgs (F := F)) adm (pdats m) () defs₀ 𝒱₀ L lv 6 :=
  reg m 6 launch6 (W10 m) (W11 m) (K6.A_eq (at' (W10 m))) (W11_arr m)
    (fun c b h => step_of_ne (p := 6) (W10 m) (K6.dat (at' (W10 m))) c b h) (fun _ _ => rfl) (fun _ _ => rfl) (fun _ _ => rfl) (fun _ => rfl) rfl
    fun c => (K6.body_obligation (at' (W10 m)) c).loose
def r7 : Pipeline.RegionSeg (pcfgs (F := F)) adm (pdats m) () defs₀ 𝒱₀ L lv 7 :=
  reg m 7 launch7 (W12 m) (W13 m) (K7.A_eq (at' (W12 m))) (W13_arr m)
    (fun c b h => step_of_ne (p := 7) (W12 m) (K7.dat (at' (W12 m))) c b h) (fun _ _ => rfl) (fun _ _ => rfl) (fun _ _ => rfl) (fun _ => rfl) rfl
    fun c => (K7.body_obligation (at' (W12 m)) c).loose

/-- The program is the host's lines and the eight calls. -/
abbrev items : List (Pipeline.Seg (pcfgs (F := F)) adm (pdats m) () defs₀ 𝒱₀ L lv) :=
  [ .host (host hostOps0 hostOps0_sub hostOps0_fresh (W0 m)),
    .region (r0 m),
    .region (r1 m),
    .region (r2 m),
    .host (host hostOps3 hostOps3_sub hostOps3_fresh (W4 m)),
    .region (r3 m),
    .host (host hostOps4 hostOps4_sub hostOps4_fresh (W6 m)),
    .region (r4 m),
    .region (r5 m),
    .host (host hostOps6 hostOps6_sub hostOps6_fresh (W9 m)),
    .region (r6 m),
    .host (host hostOps7 hostOps7_sub hostOps7_fresh (W11 m)),
    .region (r7 m),
    .host (host hostOps8 hostOps8_sub hostOps8_fresh (W13 m)) ]
theorem main_run (c : Dev nD) : main (F := F) c = Pipeline.Seg.run (items m) := (main_chain c).trans (by chain_rfl)

/-- An unscoped buffer is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What holds at the end. -/
abbrev Tₙ (c : Dev nD) : sProp 𝕄 := StableHlo.held (c : Thread nD τ) (Pipeline.ucRefs τ sig) (W14 m c)

set_option backward.isDefEq.respectTransparency.types false in
/-- The run: it ends, every buffer at the last contents and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W14 m c b)
      ∧ r.2.sem = fun _ => 0) :=
  Pipeline.θ_run_regions_kit_sems (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => show St (W14 m) c ⊢ iprop(Tₙ m c ∗ ∃ W, owes (c : Thread nD τ) (0 : CellTallies nD τ sig Unit) W) from by
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      unfold Tₙ StableHlo.held
      iintro ⟨Hh, HSI⟩
      imodintro
      iapply (pointsTo_read_all (Pipeline.ucRefs τ sig) (fun b => (((c : Thread nD τ)).1, b)) (W14 m c) s')
      isplitl [Hh] <;> iassumption)
    (hQ := fun s h hz => ⟨h, funext fun g => hz g (.inr (regions_no_unscoped g.2))⟩)

end Cert.Kernel2Ideal.Ffn

end
-- ==== Proof.FfnSame.lean ====
module

public import proofs.«01_k».proof.Defs
public import proofs.«01_k».proof.Proof.Gen.Kernel2
public import proofs.«01_k».proof.Proof.FfnRun
public import Idealize.ShloMosaic.Adequacy
public import Idealize.ShloMosaic.Init
public import Idealize.ShloMosaic.Lib.Tactic

/-!
# The frames of the layer's kernel

Nothing was rewritten between the kernel as printed and the kernel over the extended reals: the two are one text in
two namespaces, so the frame of the one is the frame of the other.
-/

@[expose] public section

set_option maxRecDepth 16384
set_option maxHeartbeats 4000000

namespace Cert.Proof.Ffn

open Idealize.ShloMosaic Idealize.ShloMosaic.TcCoe Idealize.SL.Sem

open Cert.Kernel2Ideal Pipeline in
/-- After a run the arguments are as they were. -/
theorem kept {F : FTy → Type} [FloatOps F] {m μ : (ℓ : Loc nD τ sig) → Buf (Elt F) ℓ} (c : Dev nD)
    (h : ∀ b ∈ ucRefs τ sig, μ ((c : Thread nD τ).1, b) = Ffn.W14 m c b) :
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5) :=
  ⟨(h _ (Ffn.mem_uc main_arg0 (by decide))).trans (Ffn.W14_arg0 m c),
    (h _ (Ffn.mem_uc main_arg1 (by decide))).trans (Ffn.W14_arg1 m c),
    (h _ (Ffn.mem_uc main_arg2 (by decide))).trans (Ffn.W14_arg2 m c),
    (h _ (Ffn.mem_uc main_arg3 (by decide))).trans (Ffn.W14_arg3 m c),
    (h _ (Ffn.mem_uc main_arg4 (by decide))).trans (Ffn.W14_arg4 m c),
    (h _ (Ffn.mem_uc main_arg5 (by decide))).trans (Ffn.W14_arg5 m c)⟩

/-- The frame of the ideal namespace's program, at bit patterns. -/
def quiet : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

theorem same : Cert.quiescent_Kernel2 = quiet := by sl_kernel_rfl

theorem quiet_holds : quiet := fun m ρ _ =>
  (θ_run Cert.Kernel2Ideal.defs _ _).mono (fun _ h => ⟨fun c => kept c (h.1 c), h.2⟩) (Cert.Kernel2Ideal.Ffn.run_main (F := Bits) m ρ)

/-- The frame of the kernel as printed. -/
theorem frame_kernel : Cert.quiescent_Kernel2 := same.mpr quiet_holds
/-- The frame of the kernel over the extended reals. -/
theorem frame_ideal : Cert.quiescent_Kernel2Ideal := fun m ρ _ =>
  (θ_run Cert.Kernel2Ideal.defs _ _).mono (fun _ h => ⟨fun c => kept c (h.1 c), h.2⟩) (Cert.Kernel2Ideal.Ffn.run_main (F := Ideal) m ρ)

end Cert.Proof.Ffn
-- ==== Proof.FfnMath.lean ====
module

public import Idealize.ShloMosaic.Lib.Pointwise

/-!
# The feed-forward layer and its gradients, as plain functions

Rows `T`, columns of the layer's input `D`, columns between the products `H`.
-/

@[expose] public section

noncomputable section

namespace Layer

open Idealize.ShloMosaic

/-- A matrix. -/
abbrev M (a b : ℕ) := Fin a → Fin b → EReal
/-- A matrix as an array, and an array as a matrix. -/
abbrev Arr (a b : ℕ) := (⟨2, ![a, b]⟩ : Shape).Idx → EReal
def mat {a b : ℕ} (x : Arr a b) : M a b := fun i j => x (ix2 i j)
def arr {a b : ℕ} (f : M a b) : Arr a b := fun i => f (i 0) (i 1)

theorem arr_mat {a b : ℕ} (x : Arr a b) : arr (mat x) = x := funext fun i => congrArg x (eq_ix2 i).symm
theorem mat_arr {a b : ℕ} (f : M a b) : mat (arr f) = f := rfl

/-- The three products: with the second factor's rows, of the columns, and the plain one. -/
def nt {a k b : ℕ} (x : M a k) (y : M b k) : M a b := fun i j => ∑ l, x i l * y j l
def tn {k a b : ℕ} (x : M k a) (y : M k b) : M a b := fun i j => ∑ l, x l i * y l j
def nn {a k b : ℕ} (x : M a k) (y : M k b) : M a b := fun i j => ∑ l, x i l * y l j
def tr {a b : ℕ} (x : M a b) : M b a := fun i j => x j i

/-- The constants of the norm: the number of columns and the term that keeps the root away from zero; one; a half. -/
def nD : EReal := Ideal.ofBits .f32 0x44800000#32
def eps : EReal := Ideal.ofBits .f32 0x358637BD#32
def one : EReal := Ideal.ofBits .f32 0x3F800000#32
def half : EReal := Ideal.ofBits .f32 0x3F000000#32

/-- The reciprocal root of a row's mean square. -/
def rr {a b : ℕ} (x : M a b) (i : Fin a) : EReal := Ideal.rsqrt (Ideal.div (∑ l, x i l * x i l) nD + eps)

/-- The norm without and with its gain. -/
def xh {a b : ℕ} (x : M a b) : M a b := fun i j => x i j * rr x i
def nrm {a b : ℕ} (x : M a b) (g : M 1 b) : M a b := fun i j => x i j * rr x i * g 0 j

/-- The activation. -/
def act {a b : ℕ} (g u : M a b) : M a b := fun i j => g i j * Ideal.logistic (g i j) * u i j
/-- The gradients of the up and the gate product from the activation's. -/
def dup {a b : ℕ} (d g : M a b) : M a b := fun i j => d i j * (g i j * Ideal.logistic (g i j))
def dgate {a b : ℕ} (d g u : M a b) : M a b := fun i j =>
  d i j * u i j * (Ideal.logistic (g i j) * (one + g i j * (one - Ideal.logistic (g i j))))

/-- The gradient of the norm's result, of the gain, and of the input. -/
def dh {a k b : ℕ} (dg du : M a k) (wg wu : M k b) : M a b := fun i j => nn dg wg i j + nn du wu i j
def dgain {a b : ℕ} (d x : M a b) : M 1 b := fun _ j => ∑ i, d i j * xh x i j
def dx {a b : ℕ} (d x : M a b) (g : M 1 b) (ct : M a b) : M a b := fun i j =>
  rr x i * (d i j * g 0 j - xh x i j * Ideal.div (∑ l, d i l * g 0 l * xh x i l) nD) + ct i j

/-! The same two gradients as differentiating step by step gives them. -/

def nhalf : EReal := Ideal.ofBits .f32 0xBF000000#32
def dgate' {a b : ℕ} (d g u : M a b) : M a b := fun i j =>
  d i j * u i j * Ideal.logistic (g i j)
    + g i j * (d i j * u i j) * (Ideal.logistic (g i j) * (one - Ideal.logistic (g i j)))
/-- The gradient through the mean square, per row. -/
def cc {a b : ℕ} (d x : M a b) (g : M 1 b) (i : Fin a) : EReal :=
  Ideal.div ((∑ l, x i l * (d i l * g 0 l))
    * (nhalf * Ideal.div (rr x i) (Ideal.div (∑ l, x i l * x i l) nD + eps))) nD
def dx' {a b : ℕ} (d x : M a b) (g : M 1 b) (ct : M a b) : M a b := fun i j =>
  ct i j + d i j * g 0 j * rr x i + x i j * cc d x g i + cc d x g i * x i j

/-! ## The layer's backward pass, from its arguments -/

section
variable {a b k : ℕ} (x ct : M a b) (g : M 1 b) (wg wu : M b k) (wd : M k b)

def ga : M a k := nt (nrm x g) (tr wg)
def half' : M a b := fun i j => half * ct i j
def da : M a k := nt (half' ct) wd
def kDup : M a k := dup (da ct wd) (ga x g wg)
def kDgate : M a k := dgate (da ct wd) (ga x g wg) (ga x g wu)
def kDh : M a b := dh (kDgate x ct g wg wu wd) (kDup x ct g wg wd) (tr wg) (tr wu)

end

end Layer
-- ==== Proof.FfnVal.lean ====
module

public import proofs.«01_k».proof.Proof.Ffn0
public import proofs.«01_k».proof.Proof.Ffn1
public import proofs.«01_k».proof.Proof.Ffn2
public import proofs.«01_k».proof.Proof.Ffn3
public import proofs.«01_k».proof.Proof.Ffn4
public import proofs.«01_k».proof.Proof.Ffn5
public import proofs.«01_k».proof.Proof.Ffn6
public import proofs.«01_k».proof.Proof.FfnMath

/-!
# What the calls leave, as the layer's plain functions
-/

@[expose] public section

set_option maxRecDepth 16384

noncomputable section

namespace Cert.Kernel2Ideal.Ffn

open Cert.Kernel2Ideal Cert.Kernel2Ideal.Gen Layer
open Idealize.ShloMosaic Idealize.ShloMosaic.TcCoe Idealize.ShloMosaic.Tactic
open Idealize.SL Idealize.SL.RA Idealize.SL.BI

namespace K0
variable (V : (c : Dev nD) → (b : Ref sig .tc) → Buf (Elt Ideal) ((c : Thread nD τ).loc b))

theorem idx : ∀ t : Fin cfg0.N, win0_0.index t = ![t.val, 0] ∧ win0_1.index t = ![0, 0] ∧ win0_2.index t = ![t.val, 0] :=
  (by decide +kernel : ∀ t : Fin grid0.N, _)
theorem blk0 (c : Dev nD) (t : Fin cfg0.N) (ht : t.val < 8) : mat (iblk V c 0 t : Arr 512 1024)
    = fun i j => mat (V c main_arg0 : Arr 4096 1024) ⟨512 * (t.val) + i.val, by omega⟩ j := by
  funext i j
  unfold mat
  blk_simp [iblk]
  refine congrArg (V c main_arg0) ?_
  blk_ext [idx t]
theorem blk1 (c : Dev nD) (t : Fin cfg0.N) (ht : t.val < 8) : mat (iblk V c 1 t : Arr 1 1024)
    = fun i j => mat (V c main_arg1 : Arr 1 1024) i j := by
  funext i j
  unfold mat
  blk_simp [iblk]
  refine congrArg (V c main_arg1) ?_
  blk_ext [idx t]
theorem pay_h (x0 : Vec Ideal S512x1024 .f32) (x1 : Vec Ideal S1x1024 .f32) :
    mat (k0_pay1 x0 x1 : Arr 512 1024) = nrm (mat (x0 : Arr 512 1024)) (mat (x1 : Arr 1 1024)) := by
  funext i j
  pointwise [mat, k0_pay1, nrm, rr, Layer.nD, eps]
theorem h_val (c : Dev nD) : (dat V c).arrAt 2 cfg0.N = arr (nrm (mat (V c main_arg0 : Arr 4096 1024)) (mat (V c main_arg1 : Arr 1 1024))) := by
  refine (dat V c).arrAt_eq_of_covers 2 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg0.win 2).blk t).view.emb (ix2 i j) = ix2 ⟨512 * (t.val) + i.val, by omega⟩ j := by
    blk_ext [idx t]
  rw [e]
  blk_simp
  rw [after_2]
  refine (congrFun (congrFun (pay_h _ _) i) j).trans ?_
  rw [blk0 V c t ht, blk1 V c t ht]
  rfl
end K0

namespace K1
variable (V : (c : Dev nD) → (b : Ref sig .tc) → Buf (Elt Ideal) ((c : Thread nD τ).loc b))

theorem idx : ∀ t : Fin cfg1.N, win1_0.index t = ![t.val / 2, 0] ∧ win1_1.index t = ![t.val % 2, 0] ∧ win1_2.index t = ![t.val / 2, t.val % 2] :=
  (by decide +kernel : ∀ t : Fin grid1.N, _)
theorem blk0 (c : Dev nD) (t : Fin cfg1.N) (ht : t.val < 8) : mat (iblk V c 0 t : Arr 1024 1024)
    = fun i j => mat (V c main_v5 : Arr 4096 1024) ⟨1024 * (t.val / 2) + i.val, by omega⟩ j := by
  funext i j
  unfold mat
  blk_simp [iblk]
  refine congrArg (V c main_v5) ?_
  blk_ext [idx t]
theorem blk1 (c : Dev nD) (t : Fin cfg1.N) (ht : t.val < 8) : mat (iblk V c 1 t : Arr 1408 1024)
    = fun i j => mat (V c main_v1 : Arr 2816 1024) ⟨1408 * (t.val % 2) + i.val, by omega⟩ j := by
  funext i j
  unfold mat
  blk_simp [iblk]
  refine congrArg (V c main_v1) ?_
  blk_ext [idx t]
theorem pay_gate (x0 : Vec Ideal S1024x1024 .bf16) (x1 : Vec Ideal S1408x1024 .bf16) :
    mat (k1_pay1 x0 x1 : Arr 1024 1408) = nt (mat (x0 : Arr 1024 1024)) (mat (x1 : Arr 1408 1024)) := by
  funext i j
  pointwise [mat, k1_pay1, nt]
theorem gate_val (c : Dev nD) : (dat V c).arrAt 2 cfg1.N = arr (nt (mat (V c main_v5 : Arr 4096 1024)) (mat (V c main_v1 : Arr 2816 1024))) := by
  refine (dat V c).arrAt_eq_of_covers 2 _ (by decide +kernel) fun t hf y => ?_
  have ht : t.val < 8 := t.isLt
  obtain ⟨i, j, rfl⟩ : ∃ (a : Fin 1024) (b : Fin 1408), y = ix2 a b := ⟨y 0, y 1, eq_ix2 y⟩
  have e : ((cfg1.win 2).blk t).view.emb (ix2 i j) = ix2 ⟨1024 * (t.val / 2) + i.val, by omega⟩ ⟨1408 * (t.val % 2) + j.val, by omega⟩ := by
    blk_ext [idx t]
  rw [e]
  blk_simp
  rw [after_2]
  refine (congrFun (congrFun (pay_gate _ _) i) j).trans ?_
  rw [blk0 V c t ht, blk1 V c t ht]
  rfl
end K1

namespace K2
variable (V : (c : Dev nD) → (b : Ref sig .tc) → Buf (Elt Ideal) ((c : Thread nD τ).loc b))

theorem idx : ∀ t : Fin cfg2.N, win2_0.index t = ![t.val / 2, 0] ∧ win2_1.index t = ![t.val % 2, 0] ∧ win2_2.index t = ![t.val / 2, t.val % 2] ∧ win2_3.index t = ![t.val / 2, t.val % 2] ∧ win2_4.index t = ![t.val / 2, t.val % 2] :=
  (by decide +kernel : ∀ t : Fin grid2.N, _)
theorem blk0 (c : Dev nD) (t : Fin cfg2.N) (ht : t.val < 8) : mat (iblk V c 0 t : Arr 1024 1024)
    = fun i j => mat (V c main_v5 : Arr 4096 1024) ⟨1024 * (t.val / 2) + i.val, by omega⟩ j := by
  funext i j
  unfold mat
  blk_simp [iblk]
  refine congrArg (V c main_v5) ?_
  blk_ext [idx t]
theorem blk1 (c : Dev nD) (t : Fin cfg2.N) (ht : t.val < 8) : mat (iblk V c 1 t : Arr 1408 1024)
    = fun i j => mat (V c main_v3 : Arr 2816 1024) ⟨1408 * (t.val % 2) + i.val, by omega⟩ j := by
  funext i j
  unfold mat
  blk_simp [iblk]
  refine congrArg (V c main_v3) ?_
  blk_ext [idx t]
theorem blk2 (c : Dev nD) (t : Fin cfg2.N) (ht : t.val < 8) : mat (iblk V c 2 t : Arr 1024 1408)
    = fun i j => mat (V c main_v6 : Arr 4096 2816) ⟨1024 * (t.val / 2) + i.val, by omega⟩ ⟨1408 * (t.val % 2) + j.val, by omega⟩ := by
  funext i j
  unfold mat
  blk_simp [iblk]
  refine congrArg (V c main_v6) ?_
  blk_ext [idx t]
theorem pay_up (x0 : Vec Ideal S1024x1024 .bf16) (x1 : Vec Ideal S1408x1024 .bf16) :
    mat (k2_pay2 x0 x1 : Arr 1024 1408) = nt (mat (x0 : Arr 1024 1024)) (mat (x1 : Arr 1408 1024)) := by
  funext i j
  pointwise [mat, k2_pay2, k2_pay1, nt]
theorem up_val (c : Dev nD) : (dat V c).arrAt 3 cfg2.N = arr (nt (mat (V c main_v5 : Arr 4096 1024)) (mat (V c main_v3 : Arr 2816 1024))) := by
  refine (dat V c).arrAt_eq_of_covers 3 _ (by decide +kernel) fun t hf y => ?_
  have ht : t.val < 8 := t.isLt
  obtain ⟨i, j, rfl⟩ : ∃ (a : Fin 1024) (b : Fin 1408), y = ix2 a b := ⟨y 0, y 1, eq_ix2 y⟩
  have e : ((cfg2.win 3).blk t).view.emb (ix2 i j) = ix2 ⟨1024 * (t.val / 2) + i.val, by omega⟩ ⟨1408 * (t.val % 2) + j.val, by omega⟩ := by
    blk_ext [idx t]
  rw [e]
  blk_simp
  rw [after_3]
  refine (congrFun (congrFun (pay_up _ _) i) j).trans ?_
  rw [blk0 V c t ht, blk1 V c t ht]
  rfl
theorem pay_act (x0 : Vec Ideal S1024x1024 .bf16) (x1 : Vec Ideal S1408x1024 .bf16) (x2 : Vec Ideal S1024x1408 .bf16) :
    mat (k2_pay3 x0 x1 x2 : Arr 1024 1408) = act (mat (x2 : Arr 1024 1408)) (nt (mat (x0 : Arr 1024 1024)) (mat (x1 : Arr 1408 1024))) := by
  funext i j
  pointwise [mat, k2_pay3, k2_pay1, act, nt]
theorem act_val (c : Dev nD) : (dat V c).arrAt 4 cfg2.N = arr (act (mat (V c main_v6 : Arr 4096 2816)) (nt (mat (V c main_v5 : Arr 4096 1024)) (mat (V c main_v3 : Arr 2816 1024)))) := by
  refine (dat V c).arrAt_eq_of_covers 4 _ (by decide +kernel) fun t hf y => ?_
  have ht : t.val < 8 := t.isLt
  obtain ⟨i, j, rfl⟩ : ∃ (a : Fin 1024) (b : Fin 1408), y = ix2 a b := ⟨y 0, y 1, eq_ix2 y⟩
  have e : ((cfg2.win 4).blk t).view.emb (ix2 i j) = ix2 ⟨1024 * (t.val / 2) + i.val, by omega⟩ ⟨1408 * (t.val % 2) + j.val, by omega⟩ := by
    blk_ext [idx t]
  rw [e]
  blk_simp
  rw [after_4]
  refine (congrFun (congrFun (pay_act _ _ _) i) j).trans ?_
  rw [blk0 V c t ht, blk1 V c t ht, blk2 V c t ht]
  rfl
end K2

namespace K3
variable (V : (c : Dev nD) → (b : Ref sig .tc) → Buf (Elt Ideal) ((c : Thread nD τ).loc b))

theorem idx : ∀ t : Fin cfg3.N, win3_0.index t = ![0, t.val] ∧ win3_1.index t = ![0, 0] ∧ win3_2.index t = ![t.val, 0] :=
  (by decide +kernel : ∀ t : Fin grid3.N, _)
theorem blk0 (c : Dev nD) (t : Fin cfg3.N) (ht : t.val < 11) : mat (iblk V c 0 t : Arr 4096 256)
    = fun i j => mat (V c main_v7_1 : Arr 4096 2816) i ⟨256 * (t.val) + j.val, by omega⟩ := by
  funext i j
  unfold mat
  blk_simp [iblk]
  refine congrArg (V c main_v7_1) ?_
  blk_ext [idx t]
theorem blk1 (c : Dev nD) (t : Fin cfg3.N) (ht : t.val < 11) : mat (iblk V c 1 t : Arr 4096 1024)
    = fun i j => mat (V c main_v10 : Arr 4096 1024) i j := by
  funext i j
  unfold mat
  blk_simp [iblk]
  refine congrArg (V c main_v10) ?_
  blk_ext [idx t]
theorem pay_dwd (x0 : Vec Ideal S4096x256 .bf16) (x1 : Vec Ideal S4096x1024 .bf16) :
    mat (k3_pay1 x0 x1 : Arr 256 1024) = tn (mat (x0 : Arr 4096 256)) (mat (x1 : Arr 4096 1024)) := by
  funext i j
  pointwise [mat, k3_pay1, tn]
theorem dwd_val (c : Dev nD) : (dat V c).arrAt 2 cfg3.N = arr (tn (mat (V c main_v7_1 : Arr 4096 2816)) (mat (V c main_v10 : Arr 4096 1024))) := by
  refine (dat V c).arrAt_eq_of_covers 2 _ (by decide +kernel) fun t hf y => ?_
  have ht : t.val < 11 := t.isLt
  obtain ⟨i, j, rfl⟩ : ∃ (a : Fin 256) (b : Fin 1024), y = ix2 a b := ⟨y 0, y 1, eq_ix2 y⟩
  have e : ((cfg3.win 2).blk t).view.emb (ix2 i j) = ix2 ⟨256 * (t.val) + i.val, by omega⟩ j := by
    blk_ext [idx t]
  rw [e]
  blk_simp
  rw [after_2]
  refine (congrFun (congrFun (pay_dwd _ _) i) j).trans ?_
  rw [blk0 V c t ht, blk1 V c t ht]
  rfl
end K3

namespace K4
variable (V : (c : Dev nD) → (b : Ref sig .tc) → Buf (Elt Ideal) ((c : Thread nD τ).loc b))

theorem idx : ∀ t : Fin cfg4.N, win4_0.index t = ![t.val / 2, 0] ∧ win4_1.index t = ![t.val % 2, 0] ∧ win4_2.index t = ![t.val / 2, t.val % 2] ∧ win4_3.index t = ![t.val / 2, t.val % 2] ∧ win4_4.index t = ![t.val / 2, t.val % 2] ∧ win4_5.index t = ![t.val / 2, t.val % 2] :=
  (by decide +kernel : ∀ t : Fin grid4.N, _)
theorem blk0 (c : Dev nD) (t : Fin cfg4.N) (ht : t.val < 8) : mat (iblk V c 0 t : Arr 1024 1024)
    = fun i j => mat (V c main_v10 : Arr 4096 1024) ⟨1024 * (t.val / 2) + i.val, by omega⟩ j := by
  funext i j
  unfold mat
  blk_simp [iblk]
  refine congrArg (V c main_v10) ?_
  blk_ext [idx t]
theorem blk1 (c : Dev nD) (t : Fin cfg4.N) (ht : t.val < 8) : mat (iblk V c 1 t : Arr 1408 1024)
    = fun i j => mat (V c main_v4 : Arr 2816 1024) ⟨1408 * (t.val % 2) + i.val, by omega⟩ j := by
  funext i j
  unfold mat
  blk_simp [iblk]
  refine congrArg (V c main_v4) ?_
  blk_ext [idx t]
theorem blk2 (c : Dev nD) (t : Fin cfg4.N) (ht : t.val < 8) : mat (iblk V c 2 t : Arr 1024 1408)
    = fun i j => mat (V c main_v6 : Arr 4096 2816) ⟨1024 * (t.val / 2) + i.val, by omega⟩ ⟨1408 * (t.val % 2) + j.val, by omega⟩ := by
  funext i j
  unfold mat
  blk_simp [iblk]
  refine congrArg (V c main_v6) ?_
  blk_ext [idx t]
theorem blk3 (c : Dev nD) (t : Fin cfg4.N) (ht : t.val < 8) : mat (iblk V c 3 t : Arr 1024 1408)
    = fun i j => mat (V c main_v7_0 : Arr 4096 2816) ⟨1024 * (t.val / 2) + i.val, by omega⟩ ⟨1408 * (t.val % 2) + j.val, by omega⟩ := by
  funext i j
  unfold mat
  blk_simp [iblk]
  refine congrArg (V c main_v7_0) ?_
  blk_ext [idx t]
theorem pay_dgate (x0 : Vec Ideal S1024x1024 .bf16) (x1 : Vec Ideal S1408x1024 .bf16) (x2 : Vec Ideal S1024x1408 .bf16) (x3 : Vec Ideal S1024x1408 .bf16) :
    mat (k4_pay4 x0 x1 x2 x3 : Arr 1024 1408) = dgate (nt (mat (x0 : Arr 1024 1024)) (mat (x1 : Arr 1408 1024))) (mat (x2 : Arr 1024 1408)) (mat (x3 : Arr 1024 1408)) := by
  funext i j
  pointwise [mat, k4_pay4, k4_pay3, k4_pay2, k4_pay1, dgate, nt, one]
theorem dgate_val (c : Dev nD) : (dat V c).arrAt 4 cfg4.N = arr (dgate (nt (mat (V c main_v10 : Arr 4096 1024)) (mat (V c main_v4 : Arr 2816 1024))) (mat (V c main_v6 : Arr 4096 2816)) (mat (V c main_v7_0 : Arr 4096 2816))) := by
  refine (dat V c).arrAt_eq_of_covers 4 _ (by decide +kernel) fun t hf y => ?_
  have ht : t.val < 8 := t.isLt
  obtain ⟨i, j, rfl⟩ : ∃ (a : Fin 1024) (b : Fin 1408), y = ix2 a b := ⟨y 0, y 1, eq_ix2 y⟩
  have e : ((cfg4.win 4).blk t).view.emb (ix2 i j) = ix2 ⟨1024 * (t.val / 2) + i.val, by omega⟩ ⟨1408 * (t.val % 2) + j.val, by omega⟩ := by
    blk_ext [idx t]
  rw [e]
  blk_simp
  rw [after_4]
  refine (congrFun (congrFun (pay_dgate _ _ _ _) i) j).trans ?_
  rw [blk0 V c t ht, blk1 V c t ht, blk2 V c t ht, blk3 V c t ht]
  rfl
theorem pay_dup (x0 : Vec Ideal S1024x1024 .bf16) (x1 : Vec Ideal S1408x1024 .bf16) (x2 : Vec Ideal S1024x1408 .bf16) :
    mat (k4_pay5 x0 x1 x2 : Arr 1024 1408) = dup (nt (mat (x0 : Arr 1024 1024)) (mat (x1 : Arr 1408 1024))) (mat (x2 : Arr 1024 1408)) := by
  funext i j
  pointwise [mat, k4_pay5, k4_pay3, k4_pay2, k4_pay1, dup, nt]
theorem dup_val (c : Dev nD) : (dat V c).arrAt 5 cfg4.N = arr (dup (nt (mat (V c main_v10 : Arr 4096 1024)) (mat (V c main_v4 : Arr 2816 1024))) (mat (V c main_v6 : Arr 4096 2816))) := by
  refine (dat V c).arrAt_eq_of_covers 5 _ (by decide +kernel) fun t hf y => ?_
  have ht : t.val < 8 := t.isLt
  obtain ⟨i, j, rfl⟩ : ∃ (a : Fin 1024) (b : Fin 1408), y = ix2 a b := ⟨y 0, y 1, eq_ix2 y⟩
  have e : ((cfg4.win 5).blk t).view.emb (ix2 i j) = ix2 ⟨1024 * (t.val / 2) + i.val, by omega⟩ ⟨1408 * (t.val % 2) + j.val, by omega⟩ := by
    blk_ext [idx t]
  rw [e]
  blk_simp
  rw [after_5]
  refine (congrFun (congrFun (pay_dup _ _ _) i) j).trans ?_
  rw [blk0 V c t ht, blk1 V c t ht, blk2 V c t ht]
  rfl
end K4

namespace K5
variable (V : (c : Dev nD) → (b : Ref sig .tc) → Buf (Elt Ideal) ((c : Thread nD τ).loc b))

theorem idx : ∀ t : Fin cfg5.N, win5_0.index t = ![0, t.val] ∧ win5_1.index t = ![0, 0] ∧ win5_2.index t = ![t.val, 0] :=
  (by decide +kernel : ∀ t : Fin grid5.N, _)
theorem blk0 (c : Dev nD) (t : Fin cfg5.N) (ht : t.val < 11) : mat (iblk V c 0 t : Arr 4096 256)
    = fun i j => mat (V c main_v13_0 : Arr 4096 2816) i ⟨256 * (t.val) + j.val, by omega⟩ := by
  funext i j
  unfold mat
  blk_simp [iblk]
  refine congrArg (V c main_v13_0) ?_
  blk_ext [idx t]
theorem blk1 (c : Dev nD) (t : Fin cfg5.N) (ht : t.val < 11) : mat (iblk V c 1 t : Arr 4096 1024)
    = fun i j => mat (V c main_v5 : Arr 4096 1024) i j := by
  funext i j
  unfold mat
  blk_simp [iblk]
  refine congrArg (V c main_v5) ?_
  blk_ext [idx t]
theorem pay_dwg (x0 : Vec Ideal S4096x256 .bf16) (x1 : Vec Ideal S4096x1024 .bf16) :
    mat (k5_pay1 x0 x1 : Arr 256 1024) = tn (mat (x0 : Arr 4096 256)) (mat (x1 : Arr 4096 1024)) := by
  funext i j
  pointwise [mat, k5_pay1, tn]
theorem dwg_val (c : Dev nD) : (dat V c).arrAt 2 cfg5.N = arr (tn (mat (V c main_v13_0 : Arr 4096 2816)) (mat (V c main_v5 : Arr 4096 1024))) := by
  refine (dat V c).arrAt_eq_of_covers 2 _ (by decide +kernel) fun t hf y => ?_
  have ht : t.val < 11 := t.isLt
  obtain ⟨i, j, rfl⟩ : ∃ (a : Fin 256) (b : Fin 1024), y = ix2 a b := ⟨y 0, y 1, eq_ix2 y⟩
  have e : ((cfg5.win 2).blk t).view.emb (ix2 i j) = ix2 ⟨256 * (t.val) + i.val, by omega⟩ j := by
    blk_ext [idx t]
  rw [e]
  blk_simp
  rw [after_2]
  refine (congrFun (congrFun (pay_dwg _ _) i) j).trans ?_
  rw [blk0 V c t ht, blk1 V c t ht]
  rfl
end K5

namespace K6
variable (V : (c : Dev nD) → (b : Ref sig .tc) → Buf (Elt Ideal) ((c : Thread nD τ).loc b))

theorem idx : ∀ t : Fin cfg6.N, win6_0.index t = ![0, t.val] ∧ win6_1.index t = ![0, 0] ∧ win6_2.index t = ![t.val, 0] :=
  (by decide +kernel : ∀ t : Fin grid6.N, _)
theorem blk0 (c : Dev nD) (t : Fin cfg6.N) (ht : t.val < 11) : mat (iblk V c 0 t : Arr 4096 256)
    = fun i j => mat (V c main_v13_1 : Arr 4096 2816) i ⟨256 * (t.val) + j.val, by omega⟩ := by
  funext i j
  unfold mat
  blk_simp [iblk]
  refine congrArg (V c main_v13_1) ?_
  blk_ext [idx t]
theorem blk1 (c : Dev nD) (t : Fin cfg6.N) (ht : t.val < 11) : mat (iblk V c 1 t : Arr 4096 1024)
    = fun i j => mat (V c main_v5 : Arr 4096 1024) i j := by
  funext i j
  unfold mat
  blk_simp [iblk]
  refine congrArg (V c main_v5) ?_
  blk_ext [idx t]
theorem pay_dwu (x0 : Vec Ideal S4096x256 .bf16) (x1 : Vec Ideal S4096x1024 .bf16) :
    mat (k6_pay1 x0 x1 : Arr 256 1024) = tn (mat (x0 : Arr 4096 256)) (mat (x1 : Arr 4096 1024)) := by
  funext i j
  pointwise [mat, k6_pay1, tn]
theorem dwu_val (c : Dev nD) : (dat V c).arrAt 2 cfg6.N = arr (tn (mat (V c main_v13_1 : Arr 4096 2816)) (mat (V c main_v5 : Arr 4096 1024))) := by
  refine (dat V c).arrAt_eq_of_covers 2 _ (by decide +kernel) fun t hf y => ?_
  have ht : t.val < 11 := t.isLt
  obtain ⟨i, j, rfl⟩ : ∃ (a : Fin 256) (b : Fin 1024), y = ix2 a b := ⟨y 0, y 1, eq_ix2 y⟩
  have e : ((cfg6.win 2).blk t).view.emb (ix2 i j) = ix2 ⟨256 * (t.val) + i.val, by omega⟩ j := by
    blk_ext [idx t]
  rw [e]
  blk_simp
  rw [after_2]
  refine (congrFun (congrFun (pay_dwu _ _) i) j).trans ?_
  rw [blk0 V c t ht, blk1 V c t ht]
  rfl
end K6

end Cert.Kernel2Ideal.Ffn
-- ==== Proof.FfnVal7.lean ====
module

public import proofs.«01_k».proof.Proof.Ffn7
public import proofs.«01_k».proof.Proof.FfnMath

/-!
# What the calls leave, as the layer's plain functions
-/

@[expose] public section

set_option maxRecDepth 16384

noncomputable section

namespace Cert.Kernel2Ideal.Ffn

open Cert.Kernel2Ideal Cert.Kernel2Ideal.Gen Layer
open Idealize.ShloMosaic Idealize.ShloMosaic.TcCoe Idealize.ShloMosaic.Tactic
open Idealize.SL Idealize.SL.RA Idealize.SL.BI

namespace K7
variable (V : (c : Dev nD) → (b : Ref sig .tc) → Buf (Elt Ideal) ((c : Thread nD τ).loc b))

theorem idx : ∀ t : Fin cfg7.N, win7_0.index t = ![t.val, 0] ∧ win7_1.index t = ![t.val, 0] ∧ win7_2.index t = ![0, 0] ∧ win7_3.index t = ![0, 0] ∧ win7_4.index t = ![t.val, 0] ∧ win7_5.index t = ![0, 0] ∧ win7_6.index t = ![t.val, 0] ∧ win7_7.index t = ![t.val, 0] :=
  (by decide +kernel : ∀ t : Fin grid7.N, _)
theorem blk0 (c : Dev nD) (t : Fin cfg7.N) (ht : t.val < 8) : mat (iblk V c 0 t : Arr 512 2816)
    = fun i j => mat (V c main_v13_0 : Arr 4096 2816) ⟨512 * (t.val) + i.val, by omega⟩ j := by
  funext i j
  unfold mat
  blk_simp [iblk]
  refine congrArg (V c main_v13_0) ?_
  blk_ext [idx t]
theorem blk1 (c : Dev nD) (t : Fin cfg7.N) (ht : t.val < 8) : mat (iblk V c 1 t : Arr 512 2816)
    = fun i j => mat (V c main_v13_1 : Arr 4096 2816) ⟨512 * (t.val) + i.val, by omega⟩ j := by
  funext i j
  unfold mat
  blk_simp [iblk]
  refine congrArg (V c main_v13_1) ?_
  blk_ext [idx t]
theorem blk2 (c : Dev nD) (t : Fin cfg7.N) (ht : t.val < 8) : mat (iblk V c 2 t : Arr 2816 1024)
    = fun i j => mat (V c main_v1 : Arr 2816 1024) i j := by
  funext i j
  unfold mat
  blk_simp [iblk]
  refine congrArg (V c main_v1) ?_
  blk_ext [idx t]
theorem blk3 (c : Dev nD) (t : Fin cfg7.N) (ht : t.val < 8) : mat (iblk V c 3 t : Arr 2816 1024)
    = fun i j => mat (V c main_v3 : Arr 2816 1024) i j := by
  funext i j
  unfold mat
  blk_simp [iblk]
  refine congrArg (V c main_v3) ?_
  blk_ext [idx t]
theorem blk4 (c : Dev nD) (t : Fin cfg7.N) (ht : t.val < 8) : mat (iblk V c 4 t : Arr 512 1024)
    = fun i j => mat (V c main_arg0 : Arr 4096 1024) ⟨512 * (t.val) + i.val, by omega⟩ j := by
  funext i j
  unfold mat
  blk_simp [iblk]
  refine congrArg (V c main_arg0) ?_
  blk_ext [idx t]
theorem blk5 (c : Dev nD) (t : Fin cfg7.N) (ht : t.val < 8) : mat (iblk V c 5 t : Arr 1 1024)
    = fun i j => mat (V c main_arg1 : Arr 1 1024) i j := by
  funext i j
  unfold mat
  blk_simp [iblk]
  refine congrArg (V c main_arg1) ?_
  blk_ext [idx t]
theorem blk6 (c : Dev nD) (t : Fin cfg7.N) (ht : t.val < 8) : mat (iblk V c 6 t : Arr 512 1024)
    = fun i j => mat (V c main_arg5 : Arr 4096 1024) ⟨512 * (t.val) + i.val, by omega⟩ j := by
  funext i j
  unfold mat
  blk_simp [iblk]
  refine congrArg (V c main_arg5) ?_
  blk_ext [idx t]
theorem pay_dx (x0 : Vec Ideal S512x2816 .bf16) (x1 : Vec Ideal S512x2816 .bf16) (x2 : Vec Ideal S2816x1024 .bf16) (x3 : Vec Ideal S2816x1024 .bf16) (x4 : Vec Ideal S512x1024 .f32) (x5 : Vec Ideal S1x1024 .f32) (x6 : Vec Ideal S512x1024 .f32) :
    mat (k7_pay1 (k7_pay4 x4) (k7_pay5 x4) (k7_pay8 x0 x2 x1 x3 x5) (k7_pay9 x0 x2 x1 x3 x4 x5) x6 : Arr 512 1024) = dx (dh (mat (x0 : Arr 512 2816)) (mat (x1 : Arr 512 2816)) (mat (x2 : Arr 2816 1024)) (mat (x3 : Arr 2816 1024))) (mat (x4 : Arr 512 1024)) (mat (x5 : Arr 1 1024)) (mat (x6 : Arr 512 1024)) := by
  funext i j
  pointwise [mat, k7_pay1, k7_pay4, k7_pay5, k7_pay8, k7_pay9, k7_pay3, dx, dh, nn, xh, rr, Layer.nD, eps]
theorem dx_val (c : Dev nD) : (dat V c).arrAt 7 cfg7.N = arr (dx (dh (mat (V c main_v13_0 : Arr 4096 2816)) (mat (V c main_v13_1 : Arr 4096 2816)) (mat (V c main_v1 : Arr 2816 1024)) (mat (V c main_v3 : Arr 2816 1024))) (mat (V c main_arg0 : Arr 4096 1024)) (mat (V c main_arg1 : Arr 1 1024)) (mat (V c main_arg5 : Arr 4096 1024))) := by
  refine (dat V c).arrAt_eq_of_covers 7 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg7.win 7).blk t).view.emb (ix2 i j) = ix2 ⟨512 * (t.val) + i.val, by omega⟩ j := by
    blk_ext [idx t]
  rw [e]
  blk_simp
  rw [after_7]
  refine (congrFun (congrFun (pay_dx _ _ _ _ _ _ _) i) j).trans ?_
  rw [blk0 V c t ht, blk1 V c t ht, blk2 V c t ht, blk3 V c t ht, blk4 V c t ht, blk5 V c t ht, blk6 V c t ht]
  rfl
/-- The term of row `k` in the gain's gradient, zero past the last row. -/
def G (D : M 4096 1024) (X : M 4096 1024) (j : Fin 1024) (k : ℕ) : EReal :=
  if h : k < 4096 then D ⟨k, h⟩ j * xh X ⟨k, h⟩ j else 0

theorem pay6 (x0 x1 : Vec Ideal S512x2816 .bf16) (x2 x3 : Vec Ideal S2816x1024 .bf16) (x4 : Vec Ideal S512x1024 .f32) (j : Fin 1024) :
    k7_pay6 x0 x2 x1 x3 x4 (ix2 0 j) = ∑ i, dh (mat (x0 : Arr 512 2816)) (mat (x1 : Arr 512 2816)) (mat (x2 : Arr 2816 1024))
      (mat (x3 : Arr 2816 1024)) i j * xh (mat (x4 : Arr 512 1024)) i j := by
  pointwise [mat, k7_pay6, k7_pay5, k7_pay4, k7_pay3, dh, nn, xh, rr, Layer.nD, eps]
theorem pay7 (x0 x1 : Vec Ideal S512x2816 .bf16) (x2 x3 : Vec Ideal S2816x1024 .bf16) (x4 : Vec Ideal S512x1024 .f32)
    (a : Vec Ideal S1x1024 .f32) (j : Fin 1024) :
    k7_pay7 x0 x2 x1 x3 x4 a (ix2 0 j) = a (ix2 0 j) + k7_pay6 x0 x2 x1 x3 x4 (ix2 0 j) := by
  pointwise [k7_pay7]
theorem tile (c : Dev nD) (t : Fin cfg7.N) (ht : t.val < 8) (j : Fin 1024) :
    k7_pay6 (iblk V c 0 t) (iblk V c 2 t) (iblk V c 1 t) (iblk V c 3 t) (iblk V c 4 t) (ix2 0 j)
      = ∑ i : Fin 512, G (dh (mat (V c main_v13_0 : Arr 4096 2816)) (mat (V c main_v13_1 : Arr 4096 2816))
          (mat (V c main_v1 : Arr 2816 1024)) (mat (V c main_v3 : Arr 2816 1024))) (mat (V c main_arg0 : Arr 4096 1024)) j
            (t.val * 512 + i.val) := by
  refine (pay6 _ _ _ _ _ j).trans ?_
  rw [blk0 V c t ht, blk1 V c t ht, blk2 V c t ht, blk3 V c t ht, blk4 V c t ht]
  refine Finset.sum_congr rfl fun i _ => ?_
  have e : t.val * 512 + i.val = 512 * t.val + i.val := by omega
  rw [e, G, dif_pos (show 512 * t.val + i.val < 4096 by omega)]
  rfl
theorem acc_val (c : Dev nD) (j : Fin 1024) : ∀ (n : ℕ) (h : n < cfg7.N), acc V c n h (ix2 0 j)
      = ∑ s ∈ Finset.range (n + 1), ∑ i : Fin 512, G (dh (mat (V c main_v13_0 : Arr 4096 2816)) (mat (V c main_v13_1 : Arr 4096 2816))
          (mat (V c main_v1 : Arr 2816 1024)) (mat (V c main_v3 : Arr 2816 1024))) (mat (V c main_arg0 : Arr 4096 1024)) j
            (s * 512 + i.val)
  | 0, h => by
    rw [Finset.sum_range_one]
    exact (congrFun (acc_A V c ⟨0, h⟩ rfl) _).trans (tile V c ⟨0, h⟩ (Nat.succ_pos 7) j)
  | n + 1, h => by
    rw [Finset.sum_range_succ, ← acc_val c j n (Nat.lt_of_succ_lt h)]
    refine (congrFun (acc_B V c ⟨n + 1, h⟩ (Nat.succ_ne_zero n)) _).trans ((pay7 _ _ _ _ _ _ j).trans ?_)
    exact congrArg (fun z : EReal => acc V c n (Nat.lt_of_succ_lt h) (ix2 0 j) + z) (tile V c ⟨n + 1, h⟩ h j)
theorem sumG (D X : M 4096 1024) (j : Fin 1024) : ∑ l : Fin (8 * 512), G D X j l.val = dgain D X 0 j :=
  Finset.sum_congr rfl fun k _ => dif_pos k.isLt
theorem idx9 : ∀ t : Fin cfg7.N, win7_9.index t = ![0, 0] := (by decide +kernel : ∀ t : Fin grid7.N, _)
theorem dgain_val (c : Dev nD) : (dat V c).arrAt 9 cfg7.N = arr (dgain (dh (mat (V c main_v13_0 : Arr 4096 2816))
    (mat (V c main_v13_1 : Arr 4096 2816)) (mat (V c main_v1 : Arr 2816 1024)) (mat (V c main_v3 : Arr 2816 1024)))
      (mat (V c main_arg0 : Arr 4096 1024))) := by
  refine (dat V c).arrAt_eq_of_after_last 9 ⟨7, by decide⟩ (by decide +kernel) _ fun y => ?_
  obtain ⟨i, j, rfl⟩ : ∃ (a : Fin 1) (b : Fin 1024), y = ix2 a b := ⟨y 0, y 1, eq_ix2 y⟩
  obtain rfl : i = 0 := Subsingleton.elim _ _
  rw [after_9]
  refine (acc_val V c j 7 (by decide)).trans ?_
  refine (Fin.sum_univ_eq_sum_range (fun s => ∑ i : Fin 512, G (dh (mat (V c main_v13_0 : Arr 4096 2816))
    (mat (V c main_v13_1 : Arr 4096 2816)) (mat (V c main_v1 : Arr 2816 1024)) (mat (V c main_v3 : Arr 2816 1024)))
      (mat (V c main_arg0 : Arr 4096 1024)) j (s * 512 + i.val)) 8).symm.trans ?_
  exact (Fin.sum_univ_univ_mul_add 8 512 (G _ _ j)).trans (sumG _ _ j)
end K7

end Cert.Kernel2Ideal.Ffn
-- ==== Proof.FfnChain.lean ====
module

public import proofs.«01_k».proof.Proof.FfnRun
public import proofs.«01_k».proof.Proof.FfnVal
public import proofs.«01_k».proof.Proof.FfnVal7
public import Idealize.ShloMosaic.Lib.StableHlo.ReadAt

/-!
# The layer's arrays along the run, from its arguments
-/

@[expose] public section

set_option maxRecDepth 16384

noncomputable section

namespace Cert.Kernel2Ideal.Ffn

open Cert.Kernel2Ideal Cert.Kernel2Ideal.Gen Layer
open Idealize.ShloMosaic Idealize.ShloMosaic.TcCoe Idealize.ShloMosaic.Tactic

variable (m : (ℓ : Loc nD τ sig) → Buf (Elt Ideal) ℓ) (c : Dev nD)

/-- The arguments as plain functions. -/
def kX : M 4096 1024 := mat (m ((c : Thread nD τ).loc main_arg0) : Arr 4096 1024)
def kG : M 1 1024 := mat (m ((c : Thread nD τ).loc main_arg1) : Arr 1 1024)
def kWg : M 1024 2816 := mat (m ((c : Thread nD τ).loc main_arg2) : Arr 1024 2816)
def kWu : M 1024 2816 := mat (m ((c : Thread nD τ).loc main_arg3) : Arr 1024 2816)
def kWd : M 2816 1024 := mat (m ((c : Thread nD τ).loc main_arg4) : Arr 2816 1024)
def kC : M 4096 1024 := mat (m ((c : Thread nD τ).loc main_arg5) : Arr 4096 1024)

theorem c4_arg5 : mat (W4 m c main_arg5 : Arr 4096 1024) = kC m c :=
  (congrArg (fun z : Arr 4096 1024 => mat z) ((((W4_of m c main_arg5 (by decide +kernel)).trans (W3_of m c main_arg5 (by decide +kernel))).trans (W2_of m c main_arg5 (by decide +kernel))).trans (W1_of m c main_arg5 (by decide)))).trans (rfl)

theorem c5_v10 : mat (W5 m c main_v10 : Arr 4096 1024) = half' (kC m c) := by
  funext i j
  have h : (W5 m c main_v10 : Arr 4096 1024) (ix2 i j) = half * mat (W4 m c main_arg5 : Arr 4096 1024) i j := by
    show StableHlo.after hostOps3 (W4 m c) (Proc.devRef .tc main_v10) (ix2 i j) = _
    after_reads_at
    try rfl
  refine Eq.trans h ?_
  rw [c4_arg5 m c]
  rfl

theorem c7_v10 : mat (W7 m c main_v10 : Arr 4096 1024) = half' (kC m c) :=
  (congrArg (fun z : Arr 4096 1024 => mat z) ((W7_of m c main_v10 (by decide)).trans (W6_of m c main_v10 (by decide +kernel)))).trans (c5_v10 m c)

theorem c1_v4 : mat (W1 m c main_v4 : Arr 2816 1024) = kWd m c := by
  funext i j
  show StableHlo.after hostOps0 (W0 m c) (Proc.devRef .tc main_v4) (ix2 i j) = _
  after_reads_at
  rfl

theorem c7_v4 : mat (W7 m c main_v4 : Arr 2816 1024) = kWd m c :=
  (congrArg (fun z : Arr 2816 1024 => mat z) ((((((W7_of m c main_v4 (by decide)).trans (W6_of m c main_v4 (by decide +kernel))).trans (W5_of m c main_v4 (by decide))).trans (W4_of m c main_v4 (by decide +kernel))).trans (W3_of m c main_v4 (by decide +kernel))).trans (W2_of m c main_v4 (by decide +kernel)))).trans (c1_v4 m c)

theorem c1_arg0 : mat (W1 m c main_arg0 : Arr 4096 1024) = kX m c :=
  (congrArg (fun z : Arr 4096 1024 => mat z) (W1_of m c main_arg0 (by decide))).trans (rfl)

theorem c1_arg1 : mat (W1 m c main_arg1 : Arr 1 1024) = kG m c :=
  (congrArg (fun z : Arr 1 1024 => mat z) (W1_of m c main_arg1 (by decide))).trans (rfl)

theorem c2_v5 : mat (W2 m c main_v5 : Arr 4096 1024) = nrm (kX m c) (kG m c) := by
  refine (congrArg (fun z : Arr 4096 1024 => mat z) ((W2_arr m c 2).trans (K0.h_val (at' (W1 m)) c))).trans ((mat_arr _).trans ?_)
  simp only [at']
  rw [c1_arg0 m c, c1_arg1 m c]
  try rfl

theorem c1_v1 : mat (W1 m c main_v1 : Arr 2816 1024) = tr (kWg m c) := by
  funext i j
  show StableHlo.after hostOps0 (W0 m c) (Proc.devRef .tc main_v1) (ix2 i j) = _
  after_reads_at
  rfl

theorem c2_v1 : mat (W2 m c main_v1 : Arr 2816 1024) = tr (kWg m c) :=
  (congrArg (fun z : Arr 2816 1024 => mat z) (W2_of m c main_v1 (by decide +kernel))).trans (c1_v1 m c)

theorem c3_v6 : mat (W3 m c main_v6 : Arr 4096 2816) = ga (kX m c) (kG m c) (kWg m c) := by
  refine (congrArg (fun z : Arr 4096 2816 => mat z) ((W3_arr m c 2).trans (K1.gate_val (at' (W2 m)) c))).trans ((mat_arr _).trans ?_)
  simp only [at']
  rw [c2_v5 m c, c2_v1 m c]
  try rfl

theorem c7_v6 : mat (W7 m c main_v6 : Arr 4096 2816) = ga (kX m c) (kG m c) (kWg m c) :=
  (congrArg (fun z : Arr 4096 2816 => mat z) ((((W7_of m c main_v6 (by decide)).trans (W6_of m c main_v6 (by decide +kernel))).trans (W5_of m c main_v6 (by decide))).trans (W4_of m c main_v6 (by decide +kernel)))).trans (c3_v6 m c)

theorem c3_v5 : mat (W3 m c main_v5 : Arr 4096 1024) = nrm (kX m c) (kG m c) :=
  (congrArg (fun z : Arr 4096 1024 => mat z) (W3_of m c main_v5 (by decide +kernel))).trans (c2_v5 m c)

theorem c1_v3 : mat (W1 m c main_v3 : Arr 2816 1024) = tr (kWu m c) := by
  funext i j
  show StableHlo.after hostOps0 (W0 m c) (Proc.devRef .tc main_v3) (ix2 i j) = _
  after_reads_at
  rfl

theorem c3_v3 : mat (W3 m c main_v3 : Arr 2816 1024) = tr (kWu m c) :=
  (congrArg (fun z : Arr 2816 1024 => mat z) ((W3_of m c main_v3 (by decide +kernel)).trans (W2_of m c main_v3 (by decide +kernel)))).trans (c1_v3 m c)

theorem c4_v7_0 : mat (W4 m c main_v7_0 : Arr 4096 2816) = ga (kX m c) (kG m c) (kWu m c) := by
  refine (congrArg (fun z : Arr 4096 2816 => mat z) ((W4_arr m c 3).trans (K2.up_val (at' (W3 m)) c))).trans ((mat_arr _).trans ?_)
  simp only [at']
  rw [c3_v5 m c, c3_v3 m c]
  try rfl

theorem c7_v7_0 : mat (W7 m c main_v7_0 : Arr 4096 2816) = ga (kX m c) (kG m c) (kWu m c) :=
  (congrArg (fun z : Arr 4096 2816 => mat z) (((W7_of m c main_v7_0 (by decide)).trans (W6_of m c main_v7_0 (by decide +kernel))).trans (W5_of m c main_v7_0 (by decide)))).trans (c4_v7_0 m c)

theorem c8_v13_0 : mat (W8 m c main_v13_0 : Arr 4096 2816) = kDgate (kX m c) (kC m c) (kG m c) (kWg m c) (kWu m c) (kWd m c) := by
  refine (congrArg (fun z : Arr 4096 2816 => mat z) ((W8_arr m c 4).trans (K4.dgate_val (at' (W7 m)) c))).trans ((mat_arr _).trans ?_)
  simp only [at']
  rw [c7_v10 m c, c7_v4 m c, c7_v6 m c, c7_v7_0 m c]
  try rfl

theorem c12_v13_0 : mat (W12 m c main_v13_0 : Arr 4096 2816) = kDgate (kX m c) (kC m c) (kG m c) (kWg m c) (kWu m c) (kWd m c) :=
  (congrArg (fun z : Arr 4096 2816 => mat z) ((((W12_of m c main_v13_0 (by decide)).trans (W11_of m c main_v13_0 (by decide +kernel))).trans (W10_of m c main_v13_0 (by decide))).trans (W9_of m c main_v13_0 (by decide +kernel)))).trans (c8_v13_0 m c)

theorem c8_v13_1 : mat (W8 m c main_v13_1 : Arr 4096 2816) = kDup (kX m c) (kC m c) (kG m c) (kWg m c) (kWd m c) := by
  refine (congrArg (fun z : Arr 4096 2816 => mat z) ((W8_arr m c 5).trans (K4.dup_val (at' (W7 m)) c))).trans ((mat_arr _).trans ?_)
  simp only [at']
  rw [c7_v10 m c, c7_v4 m c, c7_v6 m c]
  try rfl

theorem c12_v13_1 : mat (W12 m c main_v13_1 : Arr 4096 2816) = kDup (kX m c) (kC m c) (kG m c) (kWg m c) (kWd m c) :=
  (congrArg (fun z : Arr 4096 2816 => mat z) ((((W12_of m c main_v13_1 (by decide)).trans (W11_of m c main_v13_1 (by decide +kernel))).trans (W10_of m c main_v13_1 (by decide))).trans (W9_of m c main_v13_1 (by decide +kernel)))).trans (c8_v13_1 m c)

theorem c12_v1 : mat (W12 m c main_v1 : Arr 2816 1024) = tr (kWg m c) :=
  (congrArg (fun z : Arr 2816 1024 => mat z) (((((((((((W12_of m c main_v1 (by decide)).trans (W11_of m c main_v1 (by decide +kernel))).trans (W10_of m c main_v1 (by decide))).trans (W9_of m c main_v1 (by decide +kernel))).trans (W8_of m c main_v1 (by decide +kernel))).trans (W7_of m c main_v1 (by decide))).trans (W6_of m c main_v1 (by decide +kernel))).trans (W5_of m c main_v1 (by decide))).trans (W4_of m c main_v1 (by decide +kernel))).trans (W3_of m c main_v1 (by decide +kernel))).trans (W2_of m c main_v1 (by decide +kernel)))).trans (c1_v1 m c)

theorem c12_v3 : mat (W12 m c main_v3 : Arr 2816 1024) = tr (kWu m c) :=
  (congrArg (fun z : Arr 2816 1024 => mat z) (((((((((((W12_of m c main_v3 (by decide)).trans (W11_of m c main_v3 (by decide +kernel))).trans (W10_of m c main_v3 (by decide))).trans (W9_of m c main_v3 (by decide +kernel))).trans (W8_of m c main_v3 (by decide +kernel))).trans (W7_of m c main_v3 (by decide))).trans (W6_of m c main_v3 (by decide +kernel))).trans (W5_of m c main_v3 (by decide))).trans (W4_of m c main_v3 (by decide +kernel))).trans (W3_of m c main_v3 (by decide +kernel))).trans (W2_of m c main_v3 (by decide +kernel)))).trans (c1_v3 m c)

theorem c12_arg0 : mat (W12 m c main_arg0 : Arr 4096 1024) = kX m c :=
  (congrArg (fun z : Arr 4096 1024 => mat z) ((((((((((((W12_of m c main_arg0 (by decide)).trans (W11_of m c main_arg0 (by decide +kernel))).trans (W10_of m c main_arg0 (by decide))).trans (W9_of m c main_arg0 (by decide +kernel))).trans (W8_of m c main_arg0 (by decide +kernel))).trans (W7_of m c main_arg0 (by decide))).trans (W6_of m c main_arg0 (by decide +kernel))).trans (W5_of m c main_arg0 (by decide))).trans (W4_of m c main_arg0 (by decide +kernel))).trans (W3_of m c main_arg0 (by decide +kernel))).trans (W2_of m c main_arg0 (by decide +kernel))).trans (W1_of m c main_arg0 (by decide)))).trans (rfl)

theorem c12_arg1 : mat (W12 m c main_arg1 : Arr 1 1024) = kG m c :=
  (congrArg (fun z : Arr 1 1024 => mat z) ((((((((((((W12_of m c main_arg1 (by decide)).trans (W11_of m c main_arg1 (by decide +kernel))).trans (W10_of m c main_arg1 (by decide))).trans (W9_of m c main_arg1 (by decide +kernel))).trans (W8_of m c main_arg1 (by decide +kernel))).trans (W7_of m c main_arg1 (by decide))).trans (W6_of m c main_arg1 (by decide +kernel))).trans (W5_of m c main_arg1 (by decide))).trans (W4_of m c main_arg1 (by decide +kernel))).trans (W3_of m c main_arg1 (by decide +kernel))).trans (W2_of m c main_arg1 (by decide +kernel))).trans (W1_of m c main_arg1 (by decide)))).trans (rfl)

theorem c12_arg5 : mat (W12 m c main_arg5 : Arr 4096 1024) = kC m c :=
  (congrArg (fun z : Arr 4096 1024 => mat z) ((((((((((((W12_of m c main_arg5 (by decide)).trans (W11_of m c main_arg5 (by decide +kernel))).trans (W10_of m c main_arg5 (by decide))).trans (W9_of m c main_arg5 (by decide +kernel))).trans (W8_of m c main_arg5 (by decide +kernel))).trans (W7_of m c main_arg5 (by decide))).trans (W6_of m c main_arg5 (by decide +kernel))).trans (W5_of m c main_arg5 (by decide))).trans (W4_of m c main_arg5 (by decide +kernel))).trans (W3_of m c main_arg5 (by decide +kernel))).trans (W2_of m c main_arg5 (by decide +kernel))).trans (W1_of m c main_arg5 (by decide)))).trans (rfl)

theorem c13_v18_0 : mat (W13 m c main_v18_0 : Arr 4096 1024) = dx (kDh (kX m c) (kC m c) (kG m c) (kWg m c) (kWu m c) (kWd m c)) (kX m c) (kG m c) (kC m c) := by
  refine (congrArg (fun z : Arr 4096 1024 => mat z) ((W13_arr m c 7).trans (K7.dx_val (at' (W12 m)) c))).trans ((mat_arr _).trans ?_)
  simp only [at']
  rw [c12_v13_0 m c, c12_v13_1 m c, c12_v1 m c, c12_v3 m c, c12_arg0 m c, c12_arg1 m c, c12_arg5 m c]
  try rfl

theorem c14_v18_0 : mat (W14 m c main_v18_0 : Arr 4096 1024) = dx (kDh (kX m c) (kC m c) (kG m c) (kWg m c) (kWu m c) (kWd m c)) (kX m c) (kG m c) (kC m c) :=
  (congrArg (fun z : Arr 4096 1024 => mat z) (W14_of m c main_v18_0 (by decide))).trans (c13_v18_0 m c)

theorem c13_v18_2 : mat (W13 m c main_v18_2 : Arr 1 1024) = dgain (kDh (kX m c) (kC m c) (kG m c) (kWg m c) (kWu m c) (kWd m c)) (kX m c) := by
  refine (congrArg (fun z : Arr 1 1024 => mat z) ((W13_arr m c 9).trans (K7.dgain_val (at' (W12 m)) c))).trans ((mat_arr _).trans ?_)
  simp only [at']
  rw [c12_v13_0 m c, c12_v13_1 m c, c12_v1 m c, c12_v3 m c, c12_arg0 m c]
  try rfl

theorem c14_v18_2 : mat (W14 m c main_v18_2 : Arr 1 1024) = dgain (kDh (kX m c) (kC m c) (kG m c) (kWg m c) (kWu m c) (kWd m c)) (kX m c) :=
  (congrArg (fun z : Arr 1 1024 => mat z) (W14_of m c main_v18_2 (by decide))).trans (c13_v18_2 m c)

theorem c8_v5 : mat (W8 m c main_v5 : Arr 4096 1024) = nrm (kX m c) (kG m c) :=
  (congrArg (fun z : Arr 4096 1024 => mat z) ((((((W8_of m c main_v5 (by decide +kernel)).trans (W7_of m c main_v5 (by decide))).trans (W6_of m c main_v5 (by decide +kernel))).trans (W5_of m c main_v5 (by decide))).trans (W4_of m c main_v5 (by decide +kernel))).trans (W3_of m c main_v5 (by decide +kernel)))).trans (c2_v5 m c)

theorem c9_v14 : mat (W9 m c main_v14 : Arr 2816 1024) = tn (kDgate (kX m c) (kC m c) (kG m c) (kWg m c) (kWu m c) (kWd m c)) (nrm (kX m c) (kG m c)) := by
  refine (congrArg (fun z : Arr 2816 1024 => mat z) ((W9_arr m c 2).trans (K5.dwg_val (at' (W8 m)) c))).trans ((mat_arr _).trans ?_)
  simp only [at']
  rw [c8_v13_0 m c, c8_v5 m c]
  try rfl

theorem c10_v15 : mat (W10 m c main_v15 : Arr 2816 1024) = tn (kDgate (kX m c) (kC m c) (kG m c) (kWg m c) (kWu m c) (kWd m c)) (nrm (kX m c) (kG m c)) := by
  funext i j
  have h : (W10 m c main_v15 : Arr 2816 1024) (ix2 i j) = mat (W9 m c main_v14 : Arr 2816 1024) i j := by
    show StableHlo.after hostOps6 (W9 m c) (Proc.devRef .tc main_v15) (ix2 i j) = _
    after_reads_at
    try rfl
  refine Eq.trans h ?_
  rw [c9_v14 m c]

theorem c13_v15 : mat (W13 m c main_v15 : Arr 2816 1024) = tn (kDgate (kX m c) (kC m c) (kG m c) (kWg m c) (kWu m c) (kWd m c)) (nrm (kX m c) (kG m c)) :=
  (congrArg (fun z : Arr 2816 1024 => mat z) (((W13_of m c main_v15 (by decide +kernel)).trans (W12_of m c main_v15 (by decide))).trans (W11_of m c main_v15 (by decide +kernel)))).trans (c10_v15 m c)

theorem c14_v19 : mat (W14 m c main_v19 : Arr 1024 2816) = tr (tn (kDgate (kX m c) (kC m c) (kG m c) (kWg m c) (kWu m c) (kWd m c)) (nrm (kX m c) (kG m c))) := by
  funext i j
  have h : (W14 m c main_v19 : Arr 1024 2816) (ix2 i j) = mat (W13 m c main_v15 : Arr 2816 1024) j i := by
    show StableHlo.after hostOps8 (W13 m c) (Proc.devRef .tc main_v19) (ix2 i j) = _
    after_reads_at
    try rfl
  refine Eq.trans h ?_
  rw [c13_v15 m c]
  rfl

theorem c10_v13_1 : mat (W10 m c main_v13_1 : Arr 4096 2816) = kDup (kX m c) (kC m c) (kG m c) (kWg m c) (kWd m c) :=
  (congrArg (fun z : Arr 4096 2816 => mat z) ((W10_of m c main_v13_1 (by decide)).trans (W9_of m c main_v13_1 (by decide +kernel)))).trans (c8_v13_1 m c)

theorem c10_v5 : mat (W10 m c main_v5 : Arr 4096 1024) = nrm (kX m c) (kG m c) :=
  (congrArg (fun z : Arr 4096 1024 => mat z) ((((((((W10_of m c main_v5 (by decide)).trans (W9_of m c main_v5 (by decide +kernel))).trans (W8_of m c main_v5 (by decide +kernel))).trans (W7_of m c main_v5 (by decide))).trans (W6_of m c main_v5 (by decide +kernel))).trans (W5_of m c main_v5 (by decide))).trans (W4_of m c main_v5 (by decide +kernel))).trans (W3_of m c main_v5 (by decide +kernel)))).trans (c2_v5 m c)

theorem c11_v16 : mat (W11 m c main_v16 : Arr 2816 1024) = tn (kDup (kX m c) (kC m c) (kG m c) (kWg m c) (kWd m c)) (nrm (kX m c) (kG m c)) := by
  refine (congrArg (fun z : Arr 2816 1024 => mat z) ((W11_arr m c 2).trans (K6.dwu_val (at' (W10 m)) c))).trans ((mat_arr _).trans ?_)
  simp only [at']
  rw [c10_v13_1 m c, c10_v5 m c]
  try rfl

theorem c12_v17 : mat (W12 m c main_v17 : Arr 2816 1024) = tn (kDup (kX m c) (kC m c) (kG m c) (kWg m c) (kWd m c)) (nrm (kX m c) (kG m c)) := by
  funext i j
  have h : (W12 m c main_v17 : Arr 2816 1024) (ix2 i j) = mat (W11 m c main_v16 : Arr 2816 1024) i j := by
    show StableHlo.after hostOps7 (W11 m c) (Proc.devRef .tc main_v17) (ix2 i j) = _
    after_reads_at
    try rfl
  refine Eq.trans h ?_
  rw [c11_v16 m c]

theorem c13_v17 : mat (W13 m c main_v17 : Arr 2816 1024) = tn (kDup (kX m c) (kC m c) (kG m c) (kWg m c) (kWd m c)) (nrm (kX m c) (kG m c)) :=
  (congrArg (fun z : Arr 2816 1024 => mat z) (W13_of m c main_v17 (by decide +kernel))).trans (c12_v17 m c)

theorem c14_v20 : mat (W14 m c main_v20 : Arr 1024 2816) = tr (tn (kDup (kX m c) (kC m c) (kG m c) (kWg m c) (kWd m c)) (nrm (kX m c) (kG m c))) := by
  funext i j
  have h : (W14 m c main_v20 : Arr 1024 2816) (ix2 i j) = mat (W13 m c main_v17 : Arr 2816 1024) j i := by
    show StableHlo.after hostOps8 (W13 m c) (Proc.devRef .tc main_v20) (ix2 i j) = _
    after_reads_at
    try rfl
  refine Eq.trans h ?_
  rw [c13_v17 m c]
  rfl

theorem c4_v7_1 : mat (W4 m c main_v7_1 : Arr 4096 2816) = act (ga (kX m c) (kG m c) (kWg m c)) (ga (kX m c) (kG m c) (kWu m c)) := by
  refine (congrArg (fun z : Arr 4096 2816 => mat z) ((W4_arr m c 4).trans (K2.act_val (at' (W3 m)) c))).trans ((mat_arr _).trans ?_)
  simp only [at']
  rw [c3_v5 m c, c3_v3 m c, c3_v6 m c]
  try rfl

theorem c5_v7_1 : mat (W5 m c main_v7_1 : Arr 4096 2816) = act (ga (kX m c) (kG m c) (kWg m c)) (ga (kX m c) (kG m c) (kWu m c)) :=
  (congrArg (fun z : Arr 4096 2816 => mat z) (W5_of m c main_v7_1 (by decide))).trans (c4_v7_1 m c)

theorem c6_v11 : mat (W6 m c main_v11 : Arr 2816 1024) = tn (act (ga (kX m c) (kG m c) (kWg m c)) (ga (kX m c) (kG m c) (kWu m c))) (half' (kC m c)) := by
  refine (congrArg (fun z : Arr 2816 1024 => mat z) ((W6_arr m c 2).trans (K3.dwd_val (at' (W5 m)) c))).trans ((mat_arr _).trans ?_)
  simp only [at']
  rw [c5_v7_1 m c, c5_v10 m c]
  try rfl

theorem c7_v12 : mat (W7 m c main_v12 : Arr 2816 1024) = tn (act (ga (kX m c) (kG m c) (kWg m c)) (ga (kX m c) (kG m c) (kWu m c))) (half' (kC m c)) := by
  funext i j
  have h : (W7 m c main_v12 : Arr 2816 1024) (ix2 i j) = mat (W6 m c main_v11 : Arr 2816 1024) i j := by
    show StableHlo.after hostOps4 (W6 m c) (Proc.devRef .tc main_v12) (ix2 i j) = _
    after_reads_at
    try rfl
  refine Eq.trans h ?_
  rw [c6_v11 m c]

theorem c14_v12 : mat (W14 m c main_v12 : Arr 2816 1024) = tn (act (ga (kX m c) (kG m c) (kWg m c)) (ga (kX m c) (kG m c) (kWu m c))) (half' (kC m c)) :=
  (congrArg (fun z : Arr 2816 1024 => mat z) (((((((W14_of m c main_v12 (by decide)).trans (W13_of m c main_v12 (by decide +kernel))).trans (W12_of m c main_v12 (by decide))).trans (W11_of m c main_v12 (by decide +kernel))).trans (W10_of m c main_v12 (by decide))).trans (W9_of m c main_v12 (by decide +kernel))).trans (W8_of m c main_v12 (by decide +kernel)))).trans (c7_v12 m c)

end Cert.Kernel2Ideal.Ffn
-- ==== Proof.FfnRef.lean ====
module

public import proofs.«01_k».proof.Proof.Gen.Reference2Ideal.Run
public import Idealize.ShloMosaic.Lib.Tactic
public import Idealize.ShloMosaic.Lib.IdealHost
public import proofs.«01_k».proof.Proof.FfnMath

/-!
# What the reference's operations are, as the layer's plain functions

The reference is a straight list of host operations.  The definitions below name the arrays on its
way, each as a function of the arrays before it; the theorems read each at an index.
-/

@[expose] public section

set_option maxRecDepth 16384

noncomputable section

namespace Cert.Reference2Ideal.Ffn

open Cert.Reference2Ideal Cert.Reference2Ideal.Gen Layer
open Idealize.ShloMosaic Idealize.ShloMosaic.TcCoe Idealize.ShloMosaic.Tactic

abbrev X := FVec Ideal S4096x1024 .f32
abbrev Y := FVec Ideal S4096x2816 .f32
abbrev C := FVec Ideal S4096x1 .f32

variable (x h D dh' ct : FVec Ideal S4096x1024 .f32) (g : FVec Ideal S1x1024 .f32) (w w' : FVec Ideal S1024x2816 .f32)
  (wd : FVec Ideal S2816x1024 .f32) (a u da p q : FVec Ideal S4096x2816 .f32)

/-- the mean square of a row, with the small constant added -/
def v6 : C := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def v7 : C := Host.rsqrt (v6 x)
def v10 : C := mulf (broadcastInDim S4096x1 ![] bcast_S_S4096x1 (constant S_ .f32 0xBF000000#32)) (Host.divf (v7 x) (v6 x))
def v12 : X := mulf x (broadcastInDim S4096x1024 ![0, 1] bcast_S4096x1_S4096x1024_0_1 (v7 x))
def v14 : X := mulf (v12 x) (broadcastInDim S4096x1024 ![0, 1] bcast_S1x1024_S4096x1024_0_1 g)
def gt : Y := Host.dotGeneral (F := Ideal) dot_S4096x1024_S1024x2816_S4096x2816_1_0_0_1_n_n none h w
def one' : Y := broadcastInDim S4096x2816 ![] bcast_S_S4096x2816 (constant S_ .f32 0x3F800000#32)
def sg : Y := Host.divf one' (addf one' (Host.exp (Host.negf a)))
def v18 : Y := mulf (mulf a (sg a)) u
def v25 : X := mulf (broadcastInDim S4096x1024 ![] bcast_S_S4096x1024 (constant S_ .f32 0x3F000000#32)) (shapeCast _ ct shapeCasts_S4096x1024_S4096x1024)
def v27 : FVec Ideal S2816x1024 .f32 := transpose S2816x1024 [1, 0] (Host.dotGeneral (F := Ideal) dot_S4096x1024_S4096x2816_S1024x2816_0_0_1_1_n_n none D p) transposes_S1024x2816_S2816x1024_1_0
def v28 : Y := Host.dotGeneral (F := Ideal) dot_S4096x1024_S2816x1024_S4096x2816_1_1_0_0_n_n none D wd
def v29 : Y := mulf (mulf a (sg a)) da
def v34 : Y := addf (mulf (mulf da u) (sg a)) (mulf (mulf a (mulf da u)) (mulf (sg a) (subf one' (sg a))))
def v32 : FVec Ideal S1024x2816 .f32 := transpose S1024x2816 [1, 0] (Host.dotGeneral (F := Ideal) dot_S4096x2816_S4096x1024_S2816x1024_0_0_1_1_n_n none p h) transposes_S2816x1024_S1024x2816_1_0
def v38 : X := addf (Host.dotGeneral (F := Ideal) dot_S4096x2816_S1024x2816_S4096x1024_1_1_0_0_n_n none p w) (Host.dotGeneral (F := Ideal) dot_S4096x2816_S1024x2816_S4096x1024_1_1_0_0_n_n none q w')
def v41 : FVec Ideal S1x1024 .f32 := shapeCast _ (Host.reduceAdd (mulf (v12 x) dh') (constant S_ .f32 0x00000000#32) reducesTo_S4096x1024_S1024_d0 h_S_) shapeCasts_S1024_S1x1024
def v43 : X := mulf dh' (broadcastInDim S4096x1024 ![0, 1] bcast_S1x1024_S4096x1024_0_1 g)
def v52 (d : X) : C := Host.divf (mulf (shapeCast _ (Host.reduceAdd (mulf x d) (constant S_ .f32 0x00000000#32) reducesTo_S4096x1024_S4096_d1 h_S_) shapeCasts_S4096_S4096x1) (v10 x)) (broadcastInDim S4096x1 ![] bcast_S_S4096x1 (constant S_ .f32 0x44800000#32))
def v54 (d : X) : X := broadcastInDim S4096x1024 ![0] bcast_S4096_S4096x1024_0 (Host.reduceAdd (v52 x d) (constant S_ .f32 0x00000000#32) reducesTo_S4096x1_S4096_d1 h_S_)
def v58 (d : X) : X := addf (addf (addf ct (mulf d (broadcastInDim S4096x1024 ![0, 1] bcast_S4096x1_S4096x1024_0_1 (v7 x)))) (mulf x (v54 x d))) (mulf (v54 x d) x)

/-! ## The results, as these arrays -/

def rG : Y := gt (v14 x g) w
def rDa : Y := v28 (v25 ct) wd
def rDup : Y := v29 (rG x g w) (rDa ct wd)
def rDgate : Y := v34 (rG x g w) (rG x g w') (rDa ct wd)
def rDh : X := v38 w' w (rDup x ct g w wd) (rDgate x ct g w w' wd)

variable (m : (ℓ : Loc nD τ sig) → Buf (Elt Ideal) ℓ) (c : Dev nD)

theorem out0 : Value.res_main_v58 m c = v58 (m ((c.tc : Thread nD τ).loc main_arg0)) (m ((c.tc : Thread nD τ).loc main_arg5))
    (v43 (rDh (m ((c.tc : Thread nD τ).loc main_arg0)) (m ((c.tc : Thread nD τ).loc main_arg5)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg1))) := rfl
theorem out1 : Value.res_main_v41 m c = v41 (m ((c.tc : Thread nD τ).loc main_arg0))
    (rDh (m ((c.tc : Thread nD τ).loc main_arg0)) (m ((c.tc : Thread nD τ).loc main_arg5)) (m ((c.tc : Thread nD τ).loc main_arg1))
      (m ((c.tc : Thread nD τ).loc main_arg2)) (m ((c.tc : Thread nD τ).loc main_arg3)) (m ((c.tc : Thread nD τ).loc main_arg4))) := rfl
theorem out2 : Value.res_main_v36 m c = v32 (v14 (m ((c.tc : Thread nD τ).loc main_arg0)) (m ((c.tc : Thread nD τ).loc main_arg1)))
    (rDgate (m ((c.tc : Thread nD τ).loc main_arg0)) (m ((c.tc : Thread nD τ).loc main_arg5)) (m ((c.tc : Thread nD τ).loc main_arg1))
      (m ((c.tc : Thread nD τ).loc main_arg2)) (m ((c.tc : Thread nD τ).loc main_arg3)) (m ((c.tc : Thread nD τ).loc main_arg4))) := rfl

/-! ## Each array at an index -/

theorem ofBits_one : Ideal.ofBits .f32 0x3F800000#32 = 1 := by simp

theorem v14_mat : mat (v14 x g : Arr 4096 1024) = nrm (mat (x : Arr 4096 1024)) (mat (g : Arr 1 1024)) := by
  funext i j
  pointwise [mat, v14, v12, v7, v6, nrm, rr, Layer.nD, eps]
theorem gt_mat : mat (gt h w : Arr 4096 2816) = nn (mat (h : Arr 4096 1024)) (mat (w : Arr 1024 2816)) := by
  funext i j
  pointwise [mat, gt, nn]
theorem sg_at (i : Fin 4096) (j : Fin 2816) : sg a (ix2 i j) = Ideal.logistic (a (ix2 i j)) := by
  pointwise [sg, one', Ideal.logistic]
theorem v18_mat : mat (v18 a u : Arr 4096 2816) = act (mat (a : Arr 4096 2816)) (mat (u : Arr 4096 2816)) := by
  funext i j
  pointwise [mat, v18, act, sg_at]
theorem v25_mat : mat (v25 ct : Arr 4096 1024) = fun i j => half * mat (ct : Arr 4096 1024) i j := by
  funext i j
  pointwise [mat, v25, half]
theorem v27_mat : mat (v27 D p : Arr 2816 1024) = tr (tn (mat (D : Arr 4096 1024)) (mat (p : Arr 4096 2816))) := by
  funext i j
  pointwise [mat, v27, tr, tn]
theorem v28_mat : mat (v28 D wd : Arr 4096 2816) = nt (mat (D : Arr 4096 1024)) (mat (wd : Arr 2816 1024)) := by
  funext i j
  pointwise [mat, v28, nt]
theorem v29_mat : mat (v29 a da : Arr 4096 2816) = fun i j => mat (a : Arr 4096 2816) i j * Ideal.logistic (mat (a : Arr 4096 2816) i j) * mat (da : Arr 4096 2816) i j := by
  funext i j
  pointwise [mat, v29, sg_at]
theorem v34_mat : mat (v34 a u da : Arr 4096 2816) = dgate' (mat (da : Arr 4096 2816)) (mat (a : Arr 4096 2816)) (mat (u : Arr 4096 2816)) := by
  funext i j
  pointwise [mat, v34, sg_at, one', dgate', one]
theorem v32_mat : mat (v32 h p : Arr 1024 2816) = tr (tn (mat (p : Arr 4096 2816)) (mat (h : Arr 4096 1024))) := by
  funext i j
  pointwise [mat, v32, tr, tn]
theorem v38_mat : mat (v38 w w' p q : Arr 4096 1024) = fun i j => nt (mat (p : Arr 4096 2816)) (mat (w : Arr 1024 2816)) i j
    + nt (mat (q : Arr 4096 2816)) (mat (w' : Arr 1024 2816)) i j := by
  funext i j
  pointwise [mat, v38, nt]
theorem v41_mat : mat (v41 x dh' : Arr 1 1024) = fun _ j => ∑ i, xh (mat (x : Arr 4096 1024)) i j * mat (dh' : Arr 4096 1024) i j := by
  funext i j
  pointwise [mat, v41, v12, v7, v6, xh, rr, Layer.nD, eps]
theorem v58_mat : mat (v58 x ct (v43 dh' g) : Arr 4096 1024) = dx' (mat (dh' : Arr 4096 1024)) (mat (x : Arr 4096 1024)) (mat (g : Arr 1 1024)) (mat (ct : Arr 4096 1024)) := by
  funext i j
  pointwise [mat, v58, v54, v52, v43, v10, v7, v6, dx', cc, rr, Layer.nD, eps, nhalf]
  simp only [Fin.sum_univ_one]

end Cert.Reference2Ideal.Ffn
-- ==== Proof.FfnReal.lean ====
module

public import proofs.«01_k».proof.Proof.FfnMath
public import Idealize.ShloMosaic.Lib.IdealHost

/-!
# The gradients agree on real numbers

Two steps of the backward pass need their values to be real: the gate's gradient, where a product is
distributed over a sum, and the gradient of the norm's input, where a root is cancelled.
-/

@[expose] public section

namespace Layer

open Idealize.ShloMosaic

/-- All entries are real numbers. -/
def Re {a b : ℕ} (x : M a b) : Prop := ∃ r : Fin a → Fin b → ℝ, x = fun i j => ((r i j : ℝ) : EReal)

theorem re_of {a b : ℕ} {x : M a b} (h : ∀ i j, ∃ r : ℝ, x i j = (r : EReal)) : Re x := by
  choose r hr using h
  exact ⟨r, funext fun i => funext fun j => hr i j⟩

theorem coe_sum {n : ℕ} (f : Fin n → ℝ) : ∑ l, ((f l : ℝ) : EReal) = ((∑ l, f l : ℝ) : EReal) :=
  (map_sum (⟨⟨fun r : ℝ => (r : EReal), EReal.coe_zero⟩, EReal.coe_add⟩ : ℝ →+ EReal) f Finset.univ).symm

theorem nD_eq : nD = ((1024 : ℝ) : EReal) := by
  simp [nD, Ideal.ofBits, Ideal.ieee, ← EReal.coe_mul]; norm_num
theorem one_eq : one = ((1 : ℝ) : EReal) := by
  simp [one]
theorem half_eq : half = ((1 / 2 : ℝ) : EReal) := by
  simp [half, Ideal.ofBits, Ideal.ieee, ← EReal.coe_mul]; norm_num
theorem nhalf_eq : nhalf = ((-(1 / 2) : ℝ) : EReal) := by
  simp [nhalf, Ideal.ofBits, Ideal.ieee, ← EReal.coe_mul]; norm_num
theorem eps_eq : ∃ e : ℝ, 0 < e ∧ eps = (e : EReal) := by
  refine ⟨8796093 / 8796093022208, by norm_num, ?_⟩
  simp [eps, Ideal.ofBits, Ideal.ieee, ← EReal.coe_mul]; norm_num

theorem div_coe (x y : ℝ) (h : y ≠ 0) : Ideal.div (x : EReal) (y : EReal) = ((x / y : ℝ) : EReal) := by
  rw [Ideal.div, if_neg (by exact_mod_cast h), div_eq_mul_inv, EReal.coe_mul, EReal.coe_inv]
theorem logistic_coe (x : ℝ) : Ideal.logistic (x : EReal) = ((1 / (1 + Real.exp (-x)) : ℝ) : EReal) := by
  have h : (1 : ℝ) + Real.exp (-x) ≠ 0 := by positivity
  rw [← div_coe _ _ h]
  rfl
theorem rsqrt_coe (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

/-- A row's mean square with the small constant, and its reciprocal root. -/
theorem row {a b : ℕ} (x : Fin a → Fin b → ℝ) (i : Fin a) : ∃ q r : ℝ, 0 < q ∧ r * r * q = 1
    ∧ Ideal.div (∑ l, ((x i l : ℝ) : EReal) * (x i l : EReal)) nD + eps = (q : EReal)
    ∧ rr (fun i j => ((x i j : ℝ) : EReal)) i = (r : EReal) := by
  obtain ⟨e, he, h⟩ := eps_eq
  have hq : Ideal.div (∑ l, ((x i l : ℝ) : EReal) * (x i l : EReal)) nD + eps
      = (((∑ l, x i l * x i l) / 1024 + e : ℝ) : EReal) := by
    simp only [← EReal.coe_mul]
    rw [coe_sum, nD_eq, div_coe _ _ (by norm_num), h, ← EReal.coe_add]
  have hp : 0 < (∑ l, x i l * x i l) / 1024 + e :=
    add_pos_of_nonneg_of_pos (div_nonneg (Finset.sum_nonneg fun l _ => mul_self_nonneg _) (by norm_num)) he
  refine ⟨_, (Real.sqrt ((∑ l, x i l * x i l) / 1024 + e))⁻¹, hp, ?_, hq, ?_⟩
  · rw [← mul_inv, Real.mul_self_sqrt hp.le, inv_mul_cancel₀ hp.ne']
  · rw [rr, hq, rsqrt_coe _ hp]

section
variable {a b k : ℕ}

theorem re_nrm {x : M a b} {g : M 1 b} (hx : Re x) (hg : Re g) : Re (nrm x g) := by
  obtain ⟨x, rfl⟩ := hx; obtain ⟨g, rfl⟩ := hg
  refine re_of fun i j => ?_
  obtain ⟨q, r, _, _, _, h⟩ := row x i
  exact ⟨x i j * r * g 0 j, by rw [nrm, h, EReal.coe_mul, EReal.coe_mul]⟩
theorem re_nn {x : M a k} {y : M k b} (hx : Re x) (hy : Re y) : Re (nn x y) := by
  obtain ⟨x, rfl⟩ := hx; obtain ⟨y, rfl⟩ := hy
  exact re_of fun i j => ⟨_, (Finset.sum_congr rfl fun l _ => (EReal.coe_mul _ _).symm).trans (coe_sum _)⟩
theorem re_tr {x : M a b} (hx : Re x) : Re (tr x) := by
  obtain ⟨x, rfl⟩ := hx
  exact ⟨fun i j => x j i, rfl⟩
theorem re_nt {x : M a k} {y : M b k} (hx : Re x) (hy : Re y) : Re (nt x y) := re_nn hx (re_tr hy)
theorem re_half {x : M a b} (hx : Re x) : Re (fun i j => half * x i j) := by
  obtain ⟨x, rfl⟩ := hx
  exact re_of fun i j => ⟨1 / 2 * x i j, by rw [half_eq, EReal.coe_mul]⟩
theorem re_dup {d g : M a b} (hd : Re d) (hg : Re g) : Re (dup d g) := by
  obtain ⟨d, rfl⟩ := hd; obtain ⟨g, rfl⟩ := hg
  exact re_of fun i j => ⟨d i j * (g i j * (1 / (1 + Real.exp (-g i j)))), by
    rw [dup, logistic_coe, EReal.coe_mul, EReal.coe_mul]⟩
theorem re_dh {dg du : M a k} {wg wu : M k b} (h₁ : Re dg) (h₂ : Re du) (h₃ : Re wg) (h₄ : Re wu) : Re (dh dg du wg wu) := by
  obtain ⟨p, hp⟩ := re_nn h₁ h₃
  obtain ⟨q, hq⟩ := re_nn h₂ h₄
  exact re_of fun i j => ⟨p i j + q i j, by rw [dh, hp, hq, EReal.coe_add]⟩
theorem re_dgate {d g u : M a b} (hd : Re d) (hg : Re g) (hu : Re u) : Re (dgate d g u) := by
  obtain ⟨d, rfl⟩ := hd; obtain ⟨g, rfl⟩ := hg; obtain ⟨u, rfl⟩ := hu
  refine re_of fun i j => ?_
  rw [dgate, logistic_coe, one_eq]
  simp only [← EReal.coe_mul, ← EReal.coe_add, ← EReal.coe_sub]
  exact ⟨_, rfl⟩

/-- The gate's gradient, the product of the slope written out or not. -/
theorem dgate_eq {d g u : M a b} (hd : Re d) (hg : Re g) (hu : Re u) : dgate d g u = dgate' d g u := by
  obtain ⟨d, rfl⟩ := hd; obtain ⟨g, rfl⟩ := hg; obtain ⟨u, rfl⟩ := hu
  funext i j
  rw [dgate, dgate', logistic_coe, one_eq]
  simp only [← EReal.coe_mul, ← EReal.coe_add, ← EReal.coe_sub]
  exact congrArg _ (by ring)

/-- The gradient of the norm's input: with the root's cube, or with the root over its square. -/
theorem dx_eq {d x ct : M a b} {g : M 1 b} (hd : Re d) (hx : Re x) (hg : Re g) (hc : Re ct) :
    dx d x g ct = dx' d x g ct := by
  obtain ⟨d, rfl⟩ := hd; obtain ⟨x, rfl⟩ := hx; obtain ⟨g, rfl⟩ := hg; obtain ⟨ct, rfl⟩ := hc
  funext i j
  obtain ⟨q, r, hq, hr, e₁, e₂⟩ := row x i
  rw [dx, dx', cc, e₁, xh, e₂, nD_eq, nhalf_eq, div_coe _ _ hq.ne']
  simp only [xh, e₂, ← EReal.coe_mul]
  rw [coe_sum, coe_sum, div_coe _ _ (by norm_num)]
  simp only [← EReal.coe_mul]
  rw [div_coe _ _ (by norm_num)]
  simp only [← EReal.coe_mul, ← EReal.coe_add, ← EReal.coe_sub]
  refine congrArg _ ?_
  have s : ∑ l, d i l * g 0 l * (x i l * r) = r * ∑ l, x i l * (d i l * g 0 l) := by
    rw [Finset.mul_sum]
    exact Finset.sum_congr rfl fun l _ => by ring
  have hd : r / q = r * r * r := by
    rw [div_eq_iff hq.ne']
    linear_combination -r * hr
  rw [s, hd]
  ring

end

end Layer
-- ==== Proof.FfnRefOut.lean ====
module

public import proofs.«01_k».proof.Proof.FfnRef
public import proofs.«01_k».proof.Proof.FfnReal

/-!
# The reference's results, as the layer's plain functions of its arguments
-/

@[expose] public section

set_option maxRecDepth 16384

noncomputable section

namespace Cert.Reference2Ideal.Ffn

open Cert.Reference2Ideal Cert.Reference2Ideal.Gen Layer
open Idealize.ShloMosaic Idealize.ShloMosaic.TcCoe

variable (x ct : FVec Ideal S4096x1024 .f32) (g : FVec Ideal S1x1024 .f32) (wg wu : FVec Ideal S1024x2816 .f32)
  (wd : FVec Ideal S2816x1024 .f32) {x' ct' : M 4096 1024} {g' : M 1 1024} {wg' wu' : M 1024 2816} {wd' : M 2816 1024}

theorem rG_mat (hx : mat (x : Arr 4096 1024) = x') (hg : mat (g : Arr 1 1024) = g') (hw : mat (wg : Arr 1024 2816) = wg') :
    mat (rG x g wg : Arr 4096 2816) = ga x' g' wg' := by
  subst hx hg hw
  refine (gt_mat _ _).trans ?_
  rw [v14_mat]
  rfl
theorem rDa_mat (hc : mat (ct : Arr 4096 1024) = ct') (hd : mat (wd : Arr 2816 1024) = wd') :
    mat (rDa ct wd : Arr 4096 2816) = da ct' wd' := by
  subst hc hd
  refine (v28_mat _ _).trans ?_
  rw [v25_mat]
  rfl

section
variable (hx : mat (x : Arr 4096 1024) = x') (hc : mat (ct : Arr 4096 1024) = ct') (hg : mat (g : Arr 1 1024) = g')
  (hwg : mat (wg : Arr 1024 2816) = wg') (hwu : mat (wu : Arr 1024 2816) = wu') (hwd : mat (wd : Arr 2816 1024) = wd')
include hx hc hg hwg hwd

theorem rDup_mat : mat (rDup x ct g wg wd : Arr 4096 2816) = kDup x' ct' g' wg' wd' := by
  refine (v29_mat _ _).trans ?_
  rw [rG_mat x g wg hx hg hwg, rDa_mat ct wd hc hwd]
  exact funext fun i => funext fun j => mul_comm _ _

theorem up_out : mat (v32 (v14 x g) (rDup x ct g wg wd) : Arr 1024 2816) = tr (tn (kDup x' ct' g' wg' wd') (nrm x' g')) := by
  refine (v32_mat _ _).trans ?_
  rw [rDup_mat x ct g wg wd hx hc hg hwg hwd, v14_mat, hx, hg]

include hwu

theorem down_out : mat (v27 (v25 ct) (v18 (rG x g wg) (rG x g wu)) : Arr 2816 1024)
    = tn (act (ga x' g' wg') (ga x' g' wu')) (half' ct') := by
  refine (v27_mat _ _).trans ?_
  rw [v18_mat, v25_mat, rG_mat x g wg hx hg hwg, rG_mat x g wu hx hg hwu, hc]
  funext i j
  show ∑ l, half * ct' l j * act (ga x' g' wg') (ga x' g' wu') l i = ∑ l, act (ga x' g' wg') (ga x' g' wu') l i * (half * ct' l j)
  exact Finset.sum_congr rfl fun l _ => mul_comm _ _

variable (rx : Re x') (rc : Re ct') (rg : Re g') (rwg : Re wg') (rwu : Re wu') (rwd : Re wd')
include rx rc rg rwg rwu rwd

theorem rDgate_mat : mat (rDgate x ct g wg wu wd : Arr 4096 2816) = kDgate x' ct' g' wg' wu' wd' := by
  refine (v34_mat _ _ _).trans ?_
  rw [rG_mat x g wg hx hg hwg, rG_mat x g wu hx hg hwu, rDa_mat ct wd hc hwd]
  exact (dgate_eq (re_nt (re_half rc) rwd) (re_nt (re_nrm rx rg) (re_tr rwg)) (re_nt (re_nrm rx rg) (re_tr rwu))).symm

theorem gate_out : mat (v32 (v14 x g) (rDgate x ct g wg wu wd) : Arr 1024 2816)
    = tr (tn (kDgate x' ct' g' wg' wu' wd') (nrm x' g')) := by
  refine (v32_mat _ _).trans ?_
  rw [rDgate_mat x ct g wg wu wd hx hc hg hwg hwu hwd rx rc rg rwg rwu rwd, v14_mat, hx, hg]

theorem rDh_mat : mat (rDh x ct g wg wu wd : Arr 4096 1024) = kDh x' ct' g' wg' wu' wd' := by
  refine (v38_mat _ _ _ _).trans ?_
  rw [rDgate_mat x ct g wg wu wd hx hc hg hwg hwu hwd rx rc rg rwg rwu rwd, rDup_mat x ct g wg wd hx hc hg hwg hwd, hwg, hwu]
  exact funext fun i => funext fun j => add_comm _ _

theorem gain_out : mat (v41 x (rDh x ct g wg wu wd) : Arr 1 1024) = dgain (kDh x' ct' g' wg' wu' wd') x' := by
  refine (v41_mat _ _).trans ?_
  rw [rDh_mat x ct g wg wu wd hx hc hg hwg hwu hwd rx rc rg rwg rwu rwd, hx]
  exact funext fun i => funext fun j => Finset.sum_congr rfl fun l _ => mul_comm _ _

theorem re_kDh : Re (kDh x' ct' g' wg' wu' wd') :=
  re_dh (re_dgate (re_nt (re_half rc) rwd) (re_nt (re_nrm rx rg) (re_tr rwg)) (re_nt (re_nrm rx rg) (re_tr rwu)))
    (re_dup (re_nt (re_half rc) rwd) (re_nt (re_nrm rx rg) (re_tr rwg))) (re_tr rwg) (re_tr rwu)

theorem x_out : mat (v58 x ct (v43 (rDh x ct g wg wu wd) g) : Arr 4096 1024) = dx (kDh x' ct' g' wg' wu' wd') x' g' ct' := by
  refine (v58_mat _ _ _ _).trans ?_
  rw [rDh_mat x ct g wg wu wd hx hc hg hwg hwu hwd rx rc rg rwg rwu rwd, hx, hg, hc]
  exact (dx_eq (re_kDh x ct g wg wu wd hx hc hg hwg hwu hwd rx rc rg rwg rwu rwd) rx rg rc).symm

end

end Cert.Reference2Ideal.Ffn
-- ==== Proof.FfnPre.lean ====
module

public import proofs.«01_k».proof.Proof.Gen.Pre_finite
public import proofs.«01_k».proof.Proof.FfnReal
public import Idealize.ShloMosaic.Lib.ReduceAll
public import Idealize.ShloMosaic.Lib.Pipeline.ValueKit

/-!
# What the precondition says: all entries of the arguments are real numbers
-/

@[expose] public section

set_option maxRecDepth 16384

namespace Cert.Pre_finite.Read

open Cert.Pre_finite Cert.Pre_finite.Gen Layer
open Idealize.ShloMosaic

theorem top_eq : Ideal.ofBits .f32 0x7F800000#32 = ⊤ := by
  simp [Ideal.ofBits, Ideal.ieee]
theorem real_of (x : EReal) (h : Ideal.cmp .olt (max x (-x)) (Ideal.ofBits .f32 0x7F800000#32) = 1#1) : ∃ r : ℝ, x = (r : EReal) := by
  rw [top_eq] at h
  induction x with
  | bot => simp [Ideal.cmp] at h
  | top => simp [Ideal.cmp] at h
  | coe r => exact ⟨r, rfl⟩

/-- One bit of the precondition, read back. -/
theorem bit {s : Shape} {axes : List (Fin s.rank)} (x : FVec Ideal s .f32) (hb : S_.BroadcastsInDim s (![] : Fin 0 → Fin s.rank))
    (hr : s.ReducesTo axes S_) (h : Host.reduce IntOp.andi (cmpf .olt (Host.absf x) (broadcastInDim s ![] hb (constant S_ .f32 0x7F800000#32)))
      (constantI S_ 1 1#1) hr h_S_ (fun a => a.elim0) = 1#1) (i : s.Idx) : ∃ r : ℝ, x i = (r : EReal) :=
  have : Subsingleton S_.Idx := ⟨fun a b => funext fun k => k.elim0⟩
  real_of _ (Host.reduce_andi_all _ _ _ _ _ h i)

variable (a0 a5 : FVec Ideal S4096x1024 .f32) (a1 : FVec Ideal S1x1024 .f32) (a2 a3 : FVec Ideal S1024x2816 .f32)
  (a4 : FVec Ideal S2816x1024 .f32)

/-- The bit of one array. -/
noncomputable def all1 {s : Shape} {axes : List (Fin s.rank)} (x : FVec Ideal s .f32) (hb : S_.BroadcastsInDim s (![] : Fin 0 → Fin s.rank))
    (hr : s.ReducesTo axes S_) : IVec S_ 1 :=
  Host.reduce IntOp.andi (cmpf .olt (Host.absf x) (broadcastInDim s ![] hb (constant S_ .f32 0x7F800000#32))) (constantI S_ 1 1#1) hr h_S_

/-- The precondition is the six bits side by side. -/
theorem fn_eq : fn (F := Ideal) a0 a1 a2 a3 a4 a5 = concatenate S6 0 [⟨S1, broadcastInDim S1 ![] bcast_S_S1 (all1 a0 bcast_S_S4096x1024 reducesTo_S4096x1024_S_d0_1)⟩, ⟨S1, broadcastInDim S1 ![] bcast_S_S1 (all1 a1 bcast_S_S1x1024 reducesTo_S1x1024_S_d0_1)⟩, ⟨S1, broadcastInDim S1 ![] bcast_S_S1 (all1 a2 bcast_S_S1024x2816 reducesTo_S1024x2816_S_d0_1)⟩, ⟨S1, broadcastInDim S1 ![] bcast_S_S1 (all1 a3 bcast_S_S1024x2816 reducesTo_S1024x2816_S_d0_1)⟩, ⟨S1, broadcastInDim S1 ![] bcast_S_S1 (all1 a4 bcast_S_S2816x1024 reducesTo_S2816x1024_S_d0_1)⟩, ⟨S1, broadcastInDim S1 ![] bcast_S_S1 (all1 a5 bcast_S_S4096x1024 reducesTo_S4096x1024_S_d0_1)⟩] concatenates_S1_S1_S1_S1_S1_S1_S6_d0 := rfl

theorem six (v0 v1 v2 v3 v4 v5 : IVec S_ 1)
    (h : concatenate S6 0 [⟨S1, broadcastInDim S1 ![] bcast_S_S1 v0⟩, ⟨S1, broadcastInDim S1 ![] bcast_S_S1 v1⟩, ⟨S1, broadcastInDim S1 ![] bcast_S_S1 v2⟩, ⟨S1, broadcastInDim S1 ![] bcast_S_S1 v3⟩, ⟨S1, broadcastInDim S1 ![] bcast_S_S1 v4⟩, ⟨S1, broadcastInDim S1 ![] bcast_S_S1 v5⟩] concatenates_S1_S1_S1_S1_S1_S1_S6_d0 = fun _ => 1#1) :
    v0 (fun a => a.elim0) = 1#1 ∧ v1 (fun a => a.elim0) = 1#1 ∧ v2 (fun a => a.elim0) = 1#1 ∧ v3 (fun a => a.elim0) = 1#1 ∧ v4 (fun a => a.elim0) = 1#1 ∧ v5 (fun a => a.elim0) = 1#1 :=
  ⟨(congrArg v0 (funext fun a => a.elim0)).trans (congrFun h (ix1 0)),
    (congrArg v1 (funext fun a => a.elim0)).trans (congrFun h (ix1 1)),
    (congrArg v2 (funext fun a => a.elim0)).trans (congrFun h (ix1 2)),
    (congrArg v3 (funext fun a => a.elim0)).trans (congrFun h (ix1 3)),
    (congrArg v4 (funext fun a => a.elim0)).trans (congrFun h (ix1 4)),
    (congrArg v5 (funext fun a => a.elim0)).trans (congrFun h (ix1 5))⟩
theorem bits (h : fn (F := Ideal) a0 a1 a2 a3 a4 a5 = fun _ => 1#1) :
    all1 a0 bcast_S_S4096x1024 reducesTo_S4096x1024_S_d0_1 (fun a => a.elim0) = 1#1 ∧ all1 a1 bcast_S_S1x1024 reducesTo_S1x1024_S_d0_1 (fun a => a.elim0) = 1#1 ∧ all1 a2 bcast_S_S1024x2816 reducesTo_S1024x2816_S_d0_1 (fun a => a.elim0) = 1#1 ∧ all1 a3 bcast_S_S1024x2816 reducesTo_S1024x2816_S_d0_1 (fun a => a.elim0) = 1#1 ∧ all1 a4 bcast_S_S2816x1024 reducesTo_S2816x1024_S_d0_1 (fun a => a.elim0) = 1#1 ∧ all1 a5 bcast_S_S4096x1024 reducesTo_S4096x1024_S_d0_1 (fun a => a.elim0) = 1#1 := by
  rw [fn_eq] at h
  exact six _ _ _ _ _ _ h

theorem arg0 (h : fn (F := Ideal) a0 a1 a2 a3 a4 a5 = fun _ => 1#1) : Re (mat (a0 : Arr 4096 1024)) :=
  re_of fun i j => bit a0 bcast_S_S4096x1024 reducesTo_S4096x1024_S_d0_1 (bits a0 a5 a1 a2 a3 a4 h).1 (ix2 i j)
theorem arg1 (h : fn (F := Ideal) a0 a1 a2 a3 a4 a5 = fun _ => 1#1) : Re (mat (a1 : Arr 1 1024)) :=
  re_of fun i j => bit a1 bcast_S_S1x1024 reducesTo_S1x1024_S_d0_1 (bits a0 a5 a1 a2 a3 a4 h).2.1 (ix2 i j)
theorem arg2 (h : fn (F := Ideal) a0 a1 a2 a3 a4 a5 = fun _ => 1#1) : Re (mat (a2 : Arr 1024 2816)) :=
  re_of fun i j => bit a2 bcast_S_S1024x2816 reducesTo_S1024x2816_S_d0_1 (bits a0 a5 a1 a2 a3 a4 h).2.2.1 (ix2 i j)
theorem arg3 (h : fn (F := Ideal) a0 a1 a2 a3 a4 a5 = fun _ => 1#1) : Re (mat (a3 : Arr 1024 2816)) :=
  re_of fun i j => bit a3 bcast_S_S1024x2816 reducesTo_S1024x2816_S_d0_1 (bits a0 a5 a1 a2 a3 a4 h).2.2.2.1 (ix2 i j)
theorem arg4 (h : fn (F := Ideal) a0 a1 a2 a3 a4 a5 = fun _ => 1#1) : Re (mat (a4 : Arr 2816 1024)) :=
  re_of fun i j => bit a4 bcast_S_S2816x1024 reducesTo_S2816x1024_S_d0_1 (bits a0 a5 a1 a2 a3 a4 h).2.2.2.2.1 (ix2 i j)
theorem arg5 (h : fn (F := Ideal) a0 a1 a2 a3 a4 a5 = fun _ => 1#1) : Re (mat (a5 : Arr 4096 1024)) :=
  re_of fun i j => bit a5 bcast_S_S4096x1024 reducesTo_S4096x1024_S_d0_1 (bits a0 a5 a1 a2 a3 a4 h).2.2.2.2.2 (ix2 i j)

end Cert.Pre_finite.Read
-- ==== Proof.FfnFinal.lean ====
module

public import proofs.«01_k».proof.Proof.FfnSame
public import proofs.«01_k».proof.Proof.FfnChain
public import proofs.«01_k».proof.Proof.FfnRefOut
public import proofs.«01_k».proof.Proof.FfnPre

/-!
# The layer's kernel and its reference leave the same five results
-/

@[expose] public section

set_option maxRecDepth 16384
set_option maxHeartbeats 4000000

namespace Cert.Proof.Ffn

open Idealize.ShloMosaic Idealize.ShloMosaic.TcCoe Idealize.SL.Sem Layer

/-- The frame of the reference. -/
theorem frame_reference : Cert.quiescent_Reference2Ideal := fun m ρ _ =>
  (θ_run Reference2Ideal.defs _ _).mono (fun r h => ⟨fun c => (h c).2.2.2.2.2, sem_eq_zero_of_no_sems (by decide) r.2⟩)
    (Reference2Ideal.Value.run (F := Ideal) m ρ)

section
theorem eq_of_mat {a b : ℕ} {x y : Arr a b} (h : mat x = mat y) : x = y := (arr_mat x).symm.trans ((congrArg arr h).trans (arr_mat y))

variable (m : (ℓ : Loc Kernel2Ideal.nD Kernel2Ideal.τ Kernel2Ideal.sig) → Buf (Elt Ideal) ℓ) (m' : (ℓ : Loc Reference2Ideal.nD Reference2Ideal.τ Reference2Ideal.sig) → Buf (Elt Ideal) ℓ)
  (c : Dev Kernel2Ideal.nD)

/-- The two memories agree on the arguments. -/
def Agree : Prop :=
  m' ((c.tc : Thread Reference2Ideal.nD Reference2Ideal.τ).loc Reference2Ideal.main_arg0) = m ((c.tc : Thread Kernel2Ideal.nD Kernel2Ideal.τ).loc Kernel2Ideal.main_arg0)
  ∧ m' ((c.tc : Thread Reference2Ideal.nD Reference2Ideal.τ).loc Reference2Ideal.main_arg1) = m ((c.tc : Thread Kernel2Ideal.nD Kernel2Ideal.τ).loc Kernel2Ideal.main_arg1)
  ∧ m' ((c.tc : Thread Reference2Ideal.nD Reference2Ideal.τ).loc Reference2Ideal.main_arg2) = m ((c.tc : Thread Kernel2Ideal.nD Kernel2Ideal.τ).loc Kernel2Ideal.main_arg2)
  ∧ m' ((c.tc : Thread Reference2Ideal.nD Reference2Ideal.τ).loc Reference2Ideal.main_arg3) = m ((c.tc : Thread Kernel2Ideal.nD Kernel2Ideal.τ).loc Kernel2Ideal.main_arg3)
  ∧ m' ((c.tc : Thread Reference2Ideal.nD Reference2Ideal.τ).loc Reference2Ideal.main_arg4) = m ((c.tc : Thread Kernel2Ideal.nD Kernel2Ideal.τ).loc Kernel2Ideal.main_arg4)
  ∧ m' ((c.tc : Thread Reference2Ideal.nD Reference2Ideal.τ).loc Reference2Ideal.main_arg5) = m ((c.tc : Thread Kernel2Ideal.nD Kernel2Ideal.τ).loc Kernel2Ideal.main_arg5)

variable {m m' c} (e : Agree m m' c)
include e
theorem e0 : mat (m' ((c.tc : Thread Reference2Ideal.nD Reference2Ideal.τ).loc Reference2Ideal.main_arg0) : Arr 4096 1024) = Kernel2Ideal.Ffn.kX m c := congrArg (fun a : Arr 4096 1024 => mat a) e.1
theorem e1 : mat (m' ((c.tc : Thread Reference2Ideal.nD Reference2Ideal.τ).loc Reference2Ideal.main_arg1) : Arr 1 1024) = Kernel2Ideal.Ffn.kG m c := congrArg (fun a : Arr 1 1024 => mat a) e.2.1
theorem e2 : mat (m' ((c.tc : Thread Reference2Ideal.nD Reference2Ideal.τ).loc Reference2Ideal.main_arg2) : Arr 1024 2816) = Kernel2Ideal.Ffn.kWg m c := congrArg (fun a : Arr 1024 2816 => mat a) e.2.2.1
theorem e3 : mat (m' ((c.tc : Thread Reference2Ideal.nD Reference2Ideal.τ).loc Reference2Ideal.main_arg3) : Arr 1024 2816) = Kernel2Ideal.Ffn.kWu m c := congrArg (fun a : Arr 1024 2816 => mat a) e.2.2.2.1
theorem e4 : mat (m' ((c.tc : Thread Reference2Ideal.nD Reference2Ideal.τ).loc Reference2Ideal.main_arg4) : Arr 2816 1024) = Kernel2Ideal.Ffn.kWd m c := congrArg (fun a : Arr 2816 1024 => mat a) e.2.2.2.2.1
theorem e5 : mat (m' ((c.tc : Thread Reference2Ideal.nD Reference2Ideal.τ).loc Reference2Ideal.main_arg5) : Arr 4096 1024) = Kernel2Ideal.Ffn.kC m c := congrArg (fun a : Arr 4096 1024 => mat a) e.2.2.2.2.2
omit e
variable (h : Cert.Pre_Kernel2Ideal_finite m)
include h
theorem r0 : Re (Kernel2Ideal.Ffn.kX m c) := Pre_finite.Read.arg0 _ _ _ _ _ _ (h c)
theorem r1 : Re (Kernel2Ideal.Ffn.kG m c) := Pre_finite.Read.arg1 _ _ _ _ _ _ (h c)
theorem r2 : Re (Kernel2Ideal.Ffn.kWg m c) := Pre_finite.Read.arg2 _ _ _ _ _ _ (h c)
theorem r3 : Re (Kernel2Ideal.Ffn.kWu m c) := Pre_finite.Read.arg3 _ _ _ _ _ _ (h c)
theorem r4 : Re (Kernel2Ideal.Ffn.kWd m c) := Pre_finite.Read.arg4 _ _ _ _ _ _ (h c)
theorem r5 : Re (Kernel2Ideal.Ffn.kC m c) := Pre_finite.Read.arg5 _ _ _ _ _ _ (h c)
include e

theorem x_same : (Reference2Ideal.Ffn.v58 (m' ((c.tc : Thread Reference2Ideal.nD Reference2Ideal.τ).loc Reference2Ideal.main_arg0)) (m' ((c.tc : Thread Reference2Ideal.nD Reference2Ideal.τ).loc Reference2Ideal.main_arg5)) (Reference2Ideal.Ffn.v43 (Reference2Ideal.Ffn.rDh (m' ((c.tc : Thread Reference2Ideal.nD Reference2Ideal.τ).loc Reference2Ideal.main_arg0)) (m' ((c.tc : Thread Reference2Ideal.nD Reference2Ideal.τ).loc Reference2Ideal.main_arg5)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4))) (m' ((c.tc : Thread Reference2Ideal.nD Reference2Ideal.τ).loc Reference2Ideal.main_arg1))) : Arr 4096 1024) = (Kernel2Ideal.Ffn.W14 m c Kernel2Ideal.main_v18_0 : Arr 4096 1024) :=
  eq_of_mat ((Reference2Ideal.Ffn.x_out _ _ _ _ _ _ (e0 e) (e5 e) (e1 e) (e2 e) (e3 e) (e4 e) (r0 h) (r5 h) (r1 h) (r2 h) (r3 h) (r4 h)).trans (Kernel2Ideal.Ffn.c14_v18_0 m c).symm)
theorem gain_same : (Reference2Ideal.Ffn.v41 (m' ((c.tc : Thread Reference2Ideal.nD Reference2Ideal.τ).loc Reference2Ideal.main_arg0)) (Reference2Ideal.Ffn.rDh (m' ((c.tc : Thread Reference2Ideal.nD Reference2Ideal.τ).loc Reference2Ideal.main_arg0)) (m' ((c.tc : Thread Reference2Ideal.nD Reference2Ideal.τ).loc Reference2Ideal.main_arg5)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4))) : Arr 1 1024) = (Kernel2Ideal.Ffn.W14 m c Kernel2Ideal.main_v18_2 : Arr 1 1024) :=
  eq_of_mat ((Reference2Ideal.Ffn.gain_out _ _ _ _ _ _ (e0 e) (e5 e) (e1 e) (e2 e) (e3 e) (e4 e) (r0 h) (r5 h) (r1 h) (r2 h) (r3 h) (r4 h)).trans (Kernel2Ideal.Ffn.c14_v18_2 m c).symm)
theorem gate_same : (Reference2Ideal.Ffn.v32 (Reference2Ideal.Ffn.v14 (m' ((c.tc : Thread Reference2Ideal.nD Reference2Ideal.τ).loc Reference2Ideal.main_arg0)) (m' ((c.tc : Thread Reference2Ideal.nD Reference2Ideal.τ).loc Reference2Ideal.main_arg1))) (Reference2Ideal.Ffn.rDgate (m' ((c.tc : Thread Reference2Ideal.nD Reference2Ideal.τ).loc Reference2Ideal.main_arg0)) (m' ((c.tc : Thread Reference2Ideal.nD Reference2Ideal.τ).loc Reference2Ideal.main_arg5)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4))) : Arr 1024 2816) = (Kernel2Ideal.Ffn.W14 m c Kernel2Ideal.main_v19 : Arr 1024 2816) :=
  eq_of_mat ((Reference2Ideal.Ffn.gate_out _ _ _ _ _ _ (e0 e) (e5 e) (e1 e) (e2 e) (e3 e) (e4 e) (r0 h) (r5 h) (r1 h) (r2 h) (r3 h) (r4 h)).trans (Kernel2Ideal.Ffn.c14_v19 m c).symm)
omit h
theorem up_same : (Reference2Ideal.Ffn.v32 (Reference2Ideal.Ffn.v14 (m' ((c.tc : Thread Reference2Ideal.nD Reference2Ideal.τ).loc Reference2Ideal.main_arg0)) (m' ((c.tc : Thread Reference2Ideal.nD Reference2Ideal.τ).loc Reference2Ideal.main_arg1))) (Reference2Ideal.Ffn.rDup (m' ((c.tc : Thread Reference2Ideal.nD Reference2Ideal.τ).loc Reference2Ideal.main_arg0)) (m' ((c.tc : Thread Reference2Ideal.nD Reference2Ideal.τ).loc Reference2Ideal.main_arg5)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg4))) : Arr 1024 2816) = (Kernel2Ideal.Ffn.W14 m c Kernel2Ideal.main_v20 : Arr 1024 2816) :=
  eq_of_mat ((Reference2Ideal.Ffn.up_out _ _ _ _ _ (e0 e) (e5 e) (e1 e) (e2 e) (e4 e)).trans (Kernel2Ideal.Ffn.c14_v20 m c).symm)
theorem down_same : (Reference2Ideal.Ffn.v27 (Reference2Ideal.Ffn.v25 (m' ((c.tc : Thread Reference2Ideal.nD Reference2Ideal.τ).loc Reference2Ideal.main_arg5))) (Reference2Ideal.Ffn.v18 (Reference2Ideal.Ffn.rG (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2))) (Reference2Ideal.Ffn.rG (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg3)))) : Arr 2816 1024) = (Kernel2Ideal.Ffn.W14 m c Kernel2Ideal.main_v12 : Arr 2816 1024) :=
  eq_of_mat ((Reference2Ideal.Ffn.down_out _ _ _ _ _ _ (e0 e) (e5 e) (e1 e) (e2 e) (e3 e) (e4 e)).trans (Kernel2Ideal.Ffn.c14_v12 m c).symm)

end

/-- Both run, and end with the same five results. -/
theorem same_results : Cert.algebraic_Kernel2Ideal_Reference2Ideal_pre_finite := fun m ρ m' ρ' h e =>
  ⟨fun c => Kernel2Ideal.Ffn.W14 m c Kernel2Ideal.main_v18_0, fun c => Kernel2Ideal.Ffn.W14 m c Kernel2Ideal.main_v18_2, fun c => Kernel2Ideal.Ffn.W14 m c Kernel2Ideal.main_v19, fun c => Kernel2Ideal.Ffn.W14 m c Kernel2Ideal.main_v20, fun c => Kernel2Ideal.Ffn.W14 m c Kernel2Ideal.main_v12,
    (θ_run Kernel2Ideal.defs _ _).mono (fun _ k c => ⟨k.1 c _ (Kernel2Ideal.Ffn.mem_uc Kernel2Ideal.main_v18_0 (by decide)), k.1 c _ (Kernel2Ideal.Ffn.mem_uc Kernel2Ideal.main_v18_2 (by decide)), k.1 c _ (Kernel2Ideal.Ffn.mem_uc Kernel2Ideal.main_v19 (by decide)), k.1 c _ (Kernel2Ideal.Ffn.mem_uc Kernel2Ideal.main_v20 (by decide)), k.1 c _ (Kernel2Ideal.Ffn.mem_uc Kernel2Ideal.main_v12 (by decide)), kept c (k.1 c)⟩)
      (Kernel2Ideal.Ffn.run_main (F := Ideal) m ρ),
    (θ_run Reference2Ideal.defs _ _).mono (fun _ k c =>
      ⟨(k c).1.trans ((Reference2Ideal.Ffn.out0 m' c).trans (x_same (e c) h)), (k c).2.1.trans ((Reference2Ideal.Ffn.out1 m' c).trans (gain_same (e c) h)),
        (k c).2.2.1.trans ((Reference2Ideal.Ffn.out2 m' c).trans (gate_same (e c) h)), (k c).2.2.2.1.trans (up_same (e c)),
        (k c).2.2.2.2.1.trans (down_same (e c)), (k c).2.2.2.2.2⟩)
      (Reference2Ideal.Value.run (F := Ideal) m' ρ')⟩

end Cert.Proof.Ffn
-- ==== Proof.Head0.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the norm
-/

@[expose] public section

set_option maxRecDepth 16384

noncomputable section

namespace Cert.Kernel3Ideal.Head.K0

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of a window at a point, and that it is whole. -/
abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x1024 .bf16 := win0_2.stage (cfg0.slots t 2)
abbrev hs_2 (t : Fin cfg0.N) : (ms_2 t).IsWhole := hstage0_2 ((cfg0.slots t 2).cast nbuf0_2)

set_option maxHeartbeats 1000000 in
/-- The body, run on whole buffers: the inputs stay, each output ends at its value. -/
theorem run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) Set.univ (cc0_ffn2_norm i arg1 harg1 arg2 harg2 arg3 harg3) K := by
  simp only [cc0_ffn2_norm_eq_skeleton]; unfold cc0_ffn2_norm_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay1 (iblk V c 0 t) (iblk V c 1 t) := by dsimp only [dat]
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- What the body finds at a point, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it leaves. -/
def bodyPost (c : Dev nD) (t : Fin cfg0.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Kernel3Ideal.Head.K0

end
-- ==== Proof.Head1.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the gate product, the up product and the activation
-/

@[expose] public section

set_option maxRecDepth 16384

noncomputable section

namespace Cert.Kernel3Ideal.Head.K1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of a window at a point, and that it is whole. -/
abbrev ms_0 (t : Fin cfg1.N) : Memref sig .tc .vmem S1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1408x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1408x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x1408 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x1408 .bf16 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1024x1408 .bf16 := win1_5.stage (cfg1.slots t 5)
abbrev hs_5 (t : Fin cfg1.N) : (ms_5 t).IsWhole := hstage1_5 ((cfg1.slots t 5).cast nbuf1_5)

set_option maxHeartbeats 1000000 in
/-- The body, run on whole buffers: the inputs stay, each output ends at its value. -/
theorem run (c : Dev nD) (i : grid1.Coords) (arg2 : Memref sig .tc .vmem S1024x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S1024x1408 .bf16) (harg7 : arg7.IsWhole)
    (x0 : Vec F S1024x1024 .bf16) (x1 : Vec F S1408x1024 .bf16) (x2 : Vec F S1408x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (iprop(owns (c : Thread nD τ) arg2 fullShare x0 ∗ owns (c : Thread nD τ) arg3 fullShare x1 ∗ owns (c : Thread nD τ) arg4 fullShare x2 ∗ owns (c : Thread nD τ) arg5 fullShare (k1_pay4 x0 x1) ∗ owns (c : Thread nD τ) arg6 fullShare (k1_pay5 x0 x2) ∗ owns (c : Thread nD τ) arg7 fullShare (k1_pay6 x0 x1 x2)) -∗ K ⟨⟩))
      ⊢ wp frame (wpE (defs₀ (F := F)) Variants.none c none) Set.univ (cc1_ffn2_gate_up_act i arg2 harg2 arg3 harg3 arg4 harg4 arg5 harg5 arg6 harg6 arg7 harg7) K := by
  simp only [cc1_ffn2_gate_up_act_eq_skeleton]; unfold cc1_ffn2_gate_up_act_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; refine (View.read_writes_full _ _ _ _ _).trans ?_; congr 1 <;> exact (View.readAt_full _ _ _).trans (Memref.IsWhole.read_unread _ _)
  isplitl [H4]
  · iexists _; isplitr
    swap; · iexact H4
    ipureintro; refine (View.read_writes_full _ _ _ _ _).trans ?_; congr 1 <;> exact (View.readAt_full _ _ _).trans (Memref.IsWhole.read_unread _ _)
  iexists _; isplitr
  swap; · iexact H5
  ipureintro; refine (View.read_writes_full _ _ _ _ _).trans ?_; congr 1 <;> exact (View.readAt_full _ _ _).trans (Memref.IsWhole.read_unread _ _)

/-- The data of the call: inputs keep their blocks, outputs end at their values. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay4 (iblk V c 0 t) (iblk V c 1 t)
    | ⟨4, _⟩ => k1_pay5 (iblk V c 0 t) (iblk V c 2 t)
    | ⟨5, _⟩ => k1_pay6 (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay4 (iblk V c 0 t) (iblk V c 1 t) := by dsimp only [dat]
theorem after_4 (c : Dev nD) (t : Fin cfg1.N) : (dat V c).after 4 t = k1_pay5 (iblk V c 0 t) (iblk V c 2 t) := by dsimp only [dat]
theorem after_5 (c : Dev nD) (t : Fin cfg1.N) : (dat V c).after 5 t = k1_pay6 (iblk V c 0 t) (iblk V c 1 t) (iblk V c 2 t) := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
/-- What the body finds at a point, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it leaves. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t)
    ∗ owns (c : Thread nD τ) (ms_5 t) fullShare ((dat V c).after 5 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (run c (grid1.coords t) _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg1.N) :
    defs₀ (F := F) .tc cfg1.body (cfg1.bodyArgs t (cfg1.slots t)) = bodyAt1 t := by
  unfold defs₀; rw [Defs.onTc_tc]

/-- The body at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Kernel3Ideal.Head.K1

end
-- ==== Proof.Head2.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.ValueKit
public import Idealize.ShloMosaic.Lib.Pipeline.TableIdle
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

/-!
# The call of the down product, the loss and its gradients
-/

@[expose] public section

set_option maxRecDepth 16384

noncomputable section

namespace Cert.Kernel3Ideal.Head.K2

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off the array the call finds. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer of a window at a point, and that it is whole. -/
abbrev ms_0 (t : Fin cfg2.N) : Memref sig .tc .vmem S512x1024 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S512x2816 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S2816x1024 .bf16 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x1024 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S512x1024 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S512x1024 .f32 := win2_5.stage (cfg2.slots t 5)
abbrev hs_5 (t : Fin cfg2.N) : (ms_5 t).IsWhole := hstage2_5 ((cfg2.slots t 5).cast nbuf2_5)
abbrev ms_6 (t : Fin cfg2.N) : Memref sig .tc .vmem S512x1024 .bf16 := win2_6.stage (cfg2.slots t 6)
abbrev hs_6 (t : Fin cfg2.N) : (ms_6 t).IsWhole := hstage2_6 ((cfg2.slots t 6).cast nbuf2_6)
abbrev ms_7 (t : Fin cfg2.N) : Memref sig .tc .vmem S1x1024 .f32 := win2_7.stage (cfg2.slots t 7)
abbrev hs_7 (t : Fin cfg2.N) : (ms_7 t).IsWhole := hstage2_7 ((cfg2.slots t 7).cast nbuf2_7)
abbrev ms_8 (t : Fin cfg2.N) : Memref sig .tc .vmem S8x128 .f32 := win2_8.stage (cfg2.slots t 8)
abbrev hs_8 (t : Fin cfg2.N) : (ms_8 t).IsWhole := hstage2_8 ((cfg2.slots t 8).cast nbuf2_8)

set_option maxHeartbeats 1000000 in
/-- The body at the first point, run on whole buffers. -/
theorem runA (c : Dev nD) (i : grid2.Coords) (arg1 : Memref sig .tc .vmem S512x1024 .f32) (harg1 : arg1.IsWhole) (arg2 : Memref sig .tc .vmem S512x2816 .bf16) (harg2 : arg2.IsWhole) (arg3 : Memref sig .tc .vmem S2816x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S8x128 .f32) (harg9 : arg9.IsWhole)
    (x0 : Vec F S512x1024 .f32) (x1 : Vec F S512x2816 .bf16) (x2 : Vec F S2816x1024 .bf16) (x3 : Vec F S1x1024 .f32) (x4 : Vec F S512x1024 .f32) (hc0 : k2_cond1 i = 1#1) (hc1 : ¬k2_cond2 i = 1#1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 (k2_pay7 x0 x1 x2) (k2_pay8 x0 x1 x2) (k2_pay11 x0 x1 x2 x3 x4) x3) ∗ owns (c : Thread nD τ) arg7 fullShare (k2_pay5 (k2_pay7 x0 x1 x2) (k2_pay8 x0 x1 x2) (k2_pay11 x0 x1 x2 x3 x4) x3) ∗ owns (c : Thread nD τ) arg8 fullShare (k2_pay12 x0 x1 x2 x3 x4) ∗ owns (c : Thread nD τ) arg9 fullShare (k2_pay1 (k2_pay10 x0 x1 x2 x3 x4))) -∗ K ⟨⟩))
      ⊢ wp frame (wpE (defs₀ (F := F)) Variants.none c none) Set.univ (cc2_ffn2_down_loss i arg1 harg1 arg2 harg2 arg3 harg3 arg4 harg4 arg5 harg5 arg6 harg6 arg7 harg7 arg8 harg8 arg9 harg9) K := by
  simp only [cc2_ffn2_down_loss_eq_skeleton]; unfold cc2_ffn2_down_loss_skel
  simp only [k2_part1_eq_skeleton]; unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; refine (View.read_writes_full _ _ _ _ _).trans ?_; congr 1 <;> first | exact (View.readAt_full _ _ _).trans (Memref.IsWhole.read_unread _ _) | ((first | unfold runA.sl.r | unfold runA.sl.r_1 | unfold runA.sl.r_2 | unfold runA.sl.r_3 | unfold runA.sl.r_4); congr 1 <;> exact (View.readAt_full _ _ _).trans (Memref.IsWhole.read_unread _ _))
  isplitl [H6]
  · iexists _; isplitr
    swap; · iexact H6
    ipureintro; refine (View.read_writes_full _ _ _ _ _).trans ?_; congr 1 <;> first | exact (View.readAt_full _ _ _).trans (Memref.IsWhole.read_unread _ _) | ((first | unfold runA.sl.r | unfold runA.sl.r_1 | unfold runA.sl.r_2 | unfold runA.sl.r_3 | unfold runA.sl.r_4); congr 1 <;> exact (View.readAt_full _ _ _).trans (Memref.IsWhole.read_unread _ _))
  isplitl [H7]
  · iexists _; isplitr
    swap; · iexact H7
    ipureintro; refine (View.read_writes_full _ _ _ _ _).trans ?_; (first | unfold runA.sl.r_4 | unfold runA.sl.r_3 | unfold runA.sl.r_2 | unfold runA.sl.r_1 | unfold runA.sl.r); congr 1 <;> exact (View.readAt_full _ _ _).trans (Memref.IsWhole.read_unread _ _)
  iexists _; isplitr
  swap; · iexact H8
  ipureintro; refine (View.read_writes_full _ _ _ _ _).trans ?_; congr 1 <;> first | exact (View.readAt_full _ _ _).trans (Memref.IsWhole.read_unread _ _) | ((first | unfold runA.sl.r | unfold runA.sl.r_1 | unfold runA.sl.r_2 | unfold runA.sl.r_3 | unfold runA.sl.r_4); congr 1 <;> exact (View.readAt_full _ _ _).trans (Memref.IsWhole.read_unread _ _))

set_option maxHeartbeats 1000000 in
/-- The body at a later point, run on whole buffers: the two sums are read before they are stored. -/
theorem runB (c : Dev nD) (i : grid2.Coords) (arg1 : Memref sig .tc .vmem S512x1024 .f32) (harg1 : arg1.IsWhole) (arg2 : Memref sig .tc .vmem S512x2816 .bf16) (harg2 : arg2.IsWhole) (arg3 : Memref sig .tc .vmem S2816x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S8x128 .f32) (harg9 : arg9.IsWhole)
    (x0 : Vec F S512x1024 .f32) (x1 : Vec F S512x2816 .bf16) (x2 : Vec F S2816x1024 .bf16) (x3 : Vec F S1x1024 .f32) (x4 : Vec F S512x1024 .f32) (x7 : Vec F S1x1024 .f32) (x8 : Vec F S8x128 .f32) (hc0 : ¬k2_cond1 i = 1#1) (hc1 : k2_cond2 i = 1#1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare x7 ∗ owns (c : Thread nD τ) arg9 fullShare x8 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 (k2_pay7 x0 x1 x2) (k2_pay8 x0 x1 x2) (k2_pay11 x0 x1 x2 x3 x4) x3) ∗ owns (c : Thread nD τ) arg7 fullShare (k2_pay5 (k2_pay7 x0 x1 x2) (k2_pay8 x0 x1 x2) (k2_pay11 x0 x1 x2 x3 x4) x3) ∗ owns (c : Thread nD τ) arg8 fullShare (k2_pay2 (k2_pay12 x0 x1 x2 x3 x4) x7) ∗ owns (c : Thread nD τ) arg9 fullShare (k2_pay3 (k2_pay10 x0 x1 x2 x3 x4) x8)) -∗ K ⟨⟩))
      ⊢ wp frame (wpE (defs₀ (F := F)) Variants.none c none) Set.univ (cc2_ffn2_down_loss i arg1 harg1 arg2 harg2 arg3 harg3 arg4 harg4 arg5 harg5 arg6 harg6 arg7 harg7 arg8 harg8 arg9 harg9) K := by
  simp only [cc2_ffn2_down_loss_eq_skeleton]; unfold cc2_ffn2_down_loss_skel
  simp only [k2_part1_eq_skeleton]; unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; refine (View.read_writes_full _ _ _ _ _).trans ?_; congr 1 <;> first | exact (View.readAt_full _ _ _).trans (Memref.IsWhole.read_unread _ _) | ((first | unfold runB.sl.r | unfold runB.sl.r_1 | unfold runB.sl.r_2 | unfold runB.sl.r_3 | unfold runB.sl.r_4); congr 1 <;> exact (View.readAt_full _ _ _).trans (Memref.IsWhole.read_unread _ _))
  isplitl [H6]
  · iexists _; isplitr
    swap; · iexact H6
    ipureintro; refine (View.read_writes_full _ _ _ _ _).trans ?_; congr 1 <;> first | exact (View.readAt_full _ _ _).trans (Memref.IsWhole.read_unread _ _) | ((first | unfold runB.sl.r | unfold runB.sl.r_1 | unfold runB.sl.r_2 | unfold runB.sl.r_3 | unfold runB.sl.r_4); congr 1 <;> exact (View.readAt_full _ _ _).trans (Memref.IsWhole.read_unread _ _))
  isplitl [H7]
  · iexists _; isplitr
    swap; · iexact H7
    ipureintro; refine (View.read_writes_full _ _ _ _ _).trans ?_; congr 1 <;> first | exact (View.readAt_full _ _ _).trans (Memref.IsWhole.read_unread _ _) | ((first | unfold runB.sl.r | unfold runB.sl.r_1 | unfold runB.sl.r_2 | unfold runB.sl.r_3 | unfold runB.sl.r_4); congr 1 <;> exact (View.readAt_full _ _ _).trans (Memref.IsWhole.read_unread _ _))
  iexists _; isplitr
  swap; · iexact H8
  ipureintro; refine (View.read_writes_full _ _ _ _ _).trans ?_; congr 1 <;> first | exact (View.readAt_full _ _ _).trans (Memref.IsWhole.read_unread _ _) | ((first | unfold runB.sl.r | unfold runB.sl.r_1 | unfold runB.sl.r_2 | unfold runB.sl.r_3 | unfold runB.sl.r_4); congr 1 <;> exact (View.readAt_full _ _ _).trans (Memref.IsWhole.read_unread _ _))

/-- What a point adds to the gradient of the gain, and to the loss. -/
def gainAt (c : Dev nD) (t : Fin cfg2.N) : Vec F S1x1024 .f32 := k2_pay12 (iblk V c 0 t) (iblk V c 1 t) (iblk V c 2 t) (iblk V c 3 t) (iblk V c 4 t)
def lossAt (c : Dev nD) (t : Fin cfg2.N) : Vec F S1x1 .f32 := k2_pay10 (iblk V c 0 t) (iblk V c 1 t) (iblk V c 2 t) (iblk V c 3 t) (iblk V c 4 t)

/-- The running sums over the points. -/
def acc (c : Dev nD) : (n : ℕ) → n < cfg2.N → Vec F S1x1024 .f32 × Vec F S8x128 .f32
  | 0, h => (gainAt V c ⟨0, h⟩, k2_pay1 (lossAt V c ⟨0, h⟩))
  | n + 1, h => (k2_pay2 (gainAt V c ⟨n + 1, h⟩) (acc c n (Nat.lt_of_succ_lt h)).1, k2_pay3 (lossAt V c ⟨n + 1, h⟩) (acc c n (Nat.lt_of_succ_lt h)).2)

theorem acc_A (c : Dev nD) (t : Fin cfg2.N) (h0 : t.val = 0) :
    acc V c t.val t.isLt = (gainAt V c t, k2_pay1 (lossAt V c t)) := by
  obtain ⟨n, hn⟩ := t
  obtain rfl : n = 0 := h0
  rfl

/-- The sums as the point before left them. -/
abbrev prev (c : Dev nD) (t : Fin cfg2.N) : Vec F S1x1024 .f32 × Vec F S8x128 .f32 := acc V c (t.val - 1) (Nat.lt_of_le_of_lt (Nat.sub_le _ _) t.isLt)

theorem acc_B (c : Dev nD) (t : Fin cfg2.N) (h0 : ¬t.val = 0) :
    acc V c t.val t.isLt = (k2_pay2 (gainAt V c t) (prev V c t).1, k2_pay3 (lossAt V c t) (prev V c t).2) := by
  obtain ⟨n, hn⟩ := t
  cases n with
  | zero => exact absurd rfl h0
  | succ n => rfl

theorem first : ∀ t : Fin cfg2.N, k2_cond1 (grid2.coords t) = 1#1 ↔ t.val = 0 :=
  (by decide +kernel : ∀ t : Fin grid2.N, k2_cond1 (grid2.coords t) = 1#1 ↔ t.val = 0)
theorem later : ∀ t : Fin cfg2.N, k2_cond2 (grid2.coords t) = 1#1 ↔ ¬t.val = 0 :=
  (by decide +kernel : ∀ t : Fin grid2.N, k2_cond2 (grid2.coords t) = 1#1 ↔ ¬t.val = 0)
theorem live : ∀ t : Fin cfg2.N, cfg2.idle 7 (grid2.coords t) = false ∧ cfg2.idle 8 (grid2.coords t) = false := by decide +kernel
theorem fresh_7 (t : Fin cfg2.N) : cfg2.fresh 7 t.val = decide (t.val = 0 ∨ t.val = 8) :=
  Pipeline.Cfg.fresh_tab cfg2 7 (fun n => decide (n = 0 ∨ n = 8)) rfl (by decide +kernel) t.val (Nat.le_of_lt t.isLt)
theorem fresh_8 (t : Fin cfg2.N) : cfg2.fresh 8 t.val = decide (t.val = 0 ∨ t.val = 8) :=
  Pipeline.Cfg.fresh_tab cfg2 8 (fun n => decide (n = 0 ∨ n = 8)) rfl (by decide +kernel) t.val (Nat.le_of_lt t.isLt)

/-- The data of the call: inputs keep their blocks, outputs end at their values. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k2_pay4 (k2_pay7 (iblk V c 0 t) (iblk V c 1 t) (iblk V c 2 t)) (k2_pay8 (iblk V c 0 t) (iblk V c 1 t) (iblk V c 2 t)) (k2_pay11 (iblk V c 0 t) (iblk V c 1 t) (iblk V c 2 t) (iblk V c 3 t) (iblk V c 4 t)) (iblk V c 3 t)
    | ⟨6, _⟩ => k2_pay5 (k2_pay7 (iblk V c 0 t) (iblk V c 1 t) (iblk V c 2 t)) (k2_pay8 (iblk V c 0 t) (iblk V c 1 t) (iblk V c 2 t)) (k2_pay11 (iblk V c 0 t) (iblk V c 1 t) (iblk V c 2 t) (iblk V c 3 t) (iblk V c 4 t)) (iblk V c 3 t)
    | ⟨7, _⟩ => (acc V c t.val t.isLt).1
    | ⟨8, _⟩ => (acc V c t.val t.isLt).2
  Φ _ := Pipeline.ΦA spec2 c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = k2_pay4 (k2_pay7 (iblk V c 0 t) (iblk V c 1 t) (iblk V c 2 t)) (k2_pay8 (iblk V c 0 t) (iblk V c 1 t) (iblk V c 2 t)) (k2_pay11 (iblk V c 0 t) (iblk V c 1 t) (iblk V c 2 t) (iblk V c 3 t) (iblk V c 4 t)) (iblk V c 3 t) := by dsimp only [dat]
theorem after_6 (c : Dev nD) (t : Fin cfg2.N) : (dat V c).after 6 t = k2_pay5 (k2_pay7 (iblk V c 0 t) (iblk V c 1 t) (iblk V c 2 t)) (k2_pay8 (iblk V c 0 t) (iblk V c 1 t) (iblk V c 2 t)) (k2_pay11 (iblk V c 0 t) (iblk V c 1 t) (iblk V c 2 t) (iblk V c 3 t) (iblk V c 4 t)) (iblk V c 3 t) := by dsimp only [dat]
theorem after_7 (c : Dev nD) (t : Fin cfg2.N) : (dat V c).after 7 t = (acc V c t.val t.isLt).1 := by dsimp only [dat]
theorem after_8 (c : Dev nD) (t : Fin cfg2.N) : (dat V c).after 8 t = (acc V c t.val t.isLt).2 := by dsimp only [dat]
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_7 (c : Dev nD) (t : Fin cfg2.N) (h0 : ¬t.val = 0) (d) : (dat V c).before 7 t d = (prev V c t).1 := by
  have hN : t.val < 8 := lt_of_lt_of_eq t.isLt (show cfg2.N = 8 from N_2)
  rw [Dat.before_out_traj _ 7 rfl (fun _ _ => rfl) (fun t _ hi _ => absurd (live t).1 (by rw [hi]; decide)) t.val t rfl d,
    if_neg (by rw [fresh_7, decide_eq_true_eq]; omega)]
  dsimp only [dat]
theorem leaves_7 (c : Dev nD) (t : Fin cfg2.N) :
    (dat V c).leavesExact 7 t = owns (c : Thread nD τ) (ms_7 t) fullShare (acc V c t.val t.isLt).1 := by
  unfold Dat.leavesExact; rw [(live t).1, after_7]
theorem before_8 (c : Dev nD) (t : Fin cfg2.N) (h0 : ¬t.val = 0) (d) : (dat V c).before 8 t d = (prev V c t).2 := by
  have hN : t.val < 8 := lt_of_lt_of_eq t.isLt (show cfg2.N = 8 from N_2)
  rw [Dat.before_out_traj _ 8 rfl (fun _ _ => rfl) (fun t _ hi _ => absurd (live t).2 (by rw [hi]; decide)) t.val t rfl d,
    if_neg (by rw [fresh_8, decide_eq_true_eq]; omega)]
  dsimp only [dat]
theorem leaves_8 (c : Dev nD) (t : Fin cfg2.N) :
    (dat V c).leavesExact 8 t = owns (c : Thread nD τ) (ms_8 t) fullShare (acc V c t.val t.isLt).2 := by
  unfold Dat.leavesExact; rw [(live t).2, after_8]

/-- What the body finds at a point, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d)))

/-- and what it leaves. -/
def bodyPost (c : Dev nD) (t : Fin cfg2.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t)
    ∗ owns (c : Thread nD τ) (ms_5 t) fullShare ((dat V c).after 5 t)
    ∗ owns (c : Thread nD τ) (ms_6 t) fullShare ((dat V c).after 6 t)
    ∗ (dat V c).leavesExact 7 t
    ∗ (dat V c).leavesExact 8 t)

set_option maxHeartbeats 1600000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  rw [leaves_7, leaves_8]
  by_cases h0 : t.val = 0
  · rw [acc_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid2.coords t) _ _ _ _ _ _ _ _ _ _ _ _ _ _ _ _ _ _ (iblk V c 0 t) (iblk V c 1 t) (iblk V c 2 t) (iblk V c 3 t) (iblk V c 4 t) ((first t).mpr h0) (fun h => (later t).mp h h0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc_B V c t h0]
    simp only [before_7 V c t h0, before_8 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid2.coords t) _ _ _ _ _ _ _ _ _ _ _ _ _ _ _ _ _ _ (iblk V c 0 t) (iblk V c 1 t) (iblk V c 2 t) (iblk V c 3 t) (iblk V c 4 t) _ _ (fun h => h0 ((first t).mp h)) ((later t).mpr h0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg2.N) :
    defs₀ (F := F) .tc cfg2.body (cfg2.bodyArgs t (cfg2.slots t)) = bodyAt2 t := by
  unfold defs₀; rw [Defs.onTc_tc]

/-- The body at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.Kernel3Ideal.Head.K2

end
-- ==== Proof.HeadRun.lean ====
module

public import proofs.«01_k».proof.Proof.Gen.Kernel3Ideal.Regions
public import Idealize.ShloMosaic.Lib.Pipeline.RegionArrays
public import proofs.«01_k».proof.Proof.Head0
public import proofs.«01_k».proof.Proof.Head1
public import proofs.«01_k».proof.Proof.Head2

/-!
# The run of the last layer's calls and the loss head

The contents of the buffers between the host's lines and the three calls, and the run of the whole program from the
first contents to the last.  It holds over any float type.
-/

@[expose] public section

set_option maxRecDepth 16384

noncomputable section

namespace Cert.Kernel3Ideal.Head

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of the buffers, read at the program's references. -/
abbrev at' (W : Dev nD → Valuation τ sig (Elt F)) : (c : Dev nD) → (b : Ref sig .tc) → Buf (Elt F) ((c : Thread nD τ).loc b) :=
  fun c b => W c b

/-- A call writes its result arrays and leaves the rest. -/
abbrev step (p : Fin 3) (W : Dev nD → Valuation τ sig (Elt F))
    (d : (c : Dev nD) → Dat τ (Elt F) Unit ℕ (UR sig nD τ) ℕ (cfgs p) c) (c : Dev nD) : Valuation τ sig (Elt F) :=
  Pipeline.withArrays (cfgs p).spec c (W c) fun w => (d c).arrAt w (cfgs p).N

section
variable {p : Fin 3} (kit : Pipeline.LaunchFacts (nD := nD) (τ := τ) cfgs p) (W : Dev nD → Valuation τ sig (Elt F))
    (d : (c : Dev nD) → Dat τ (Elt F) Unit ℕ (UR sig nD τ) ℕ (cfgs p) c)
include kit
theorem step_arr (c : Dev nD) (w : Fin (cfgs p).W) :
    step p W d c (Proc.devRef .tc (Pipeline.arrRef (cfgs p).spec w)) = (d c).arrAt w (cfgs p).N :=
  Pipeline.withArrays_arr (cfgs p).spec kit.win.arr_inj c _ _ w
omit kit in
theorem step_of_ne (c : Dev nD) (b : Ref sig .tc) (hb : b ∉ Finset.univ.image (Pipeline.arrRef (cfgs p).spec)) :
    step p W d c (Proc.devRef .tc b) = W c (Proc.devRef .tc b) :=
  Pipeline.withArrays_of_ne (cfgs p).spec c _ _ b fun w e => hb (Finset.mem_image.mpr ⟨w, Finset.mem_univ _, e⟩)
/-- What is no result array of the call is unchanged by it. -/
theorem step_of (hA : ∀ c w, (d c).A w = W c (Pipeline.arrRef (cfgs p).spec w)) (c : Dev nD) (r : Ref sig .tc)
    (h : ∀ w : Fin (cfgs p).W, Pipeline.arrRef (cfgs p).spec w = r → ((cfgs p).win w).isOut = false) :
    step p W d c (Proc.devRef .tc r) = W c (Proc.devRef .tc r) := by
  by_cases hw : r ∈ Finset.univ.image (Pipeline.arrRef (cfgs p).spec)
  · obtain ⟨w, -, rfl⟩ := Finset.mem_image.mp hw
    exact (step_arr kit W d c w).trans (((d c).arrAt_in w (h w rfl) _).trans (hA c w))
  · exact step_of_ne W d c r hw
end

variable (m : (ℓ : Loc nD τ sig) → Buf (Elt F) ℓ) (ρ : Dev nD → PrngReg)

/-- The buffers at launch. -/
def W0 (c : Dev nD) : Valuation τ sig (Elt F) := fun b => m (c, b)
/-- After the call of the norm. -/
def W1 (c : Dev nD) : Valuation τ sig (Elt F) := step 0 (W0 m) (K0.dat (at' (W0 m))) c
theorem W1_arr (c : Dev nD) (w : Fin cfg0.W) :
    W1 m c (Proc.devRef .tc (Pipeline.arrRef spec0 w)) = (K0.dat (at' (W0 m)) c).arrAt w cfg0.N :=
  step_arr launch0 _ _ c w
theorem W1_of (c : Dev nD) (r : Ref sig .tc) (h : ∀ w : Fin cfg0.W, Pipeline.arrRef spec0 w = r → (cfg0.win w).isOut = false) :
    W1 m c r = W0 m c r := step_of launch0 _ _ (K0.A_eq _) c r h

/-- After the host's lines 1. -/
def W2 (c : Dev nD) : Valuation τ sig (Elt F) := StableHlo.after hostOps1 (W1 m c)
theorem W2_of (c : Dev nD) (r : Ref sig .tc) (h : r ∉ hostOps1_W) : W2 m c r = W1 m c r :=
  StableHlo.after_of_writes_sub hostOps1 _ hostOps1_writes h

/-- After the call of the gate and the up product and the activation. -/
def W3 (c : Dev nD) : Valuation τ sig (Elt F) := step 1 (W2 m) (K1.dat (at' (W2 m))) c
theorem W3_arr (c : Dev nD) (w : Fin cfg1.W) :
    W3 m c (Proc.devRef .tc (Pipeline.arrRef spec1 w)) = (K1.dat (at' (W2 m)) c).arrAt w cfg1.N :=
  step_arr launch1 _ _ c w
theorem W3_of (c : Dev nD) (r : Ref sig .tc) (h : ∀ w : Fin cfg1.W, Pipeline.arrRef spec1 w = r → (cfg1.win w).isOut = false) :
    W3 m c r = W2 m c r := step_of launch1 _ _ (K1.A_eq _) c r h

/-- After the host's lines 3. -/
def W4 (c : Dev nD) : Valuation τ sig (Elt F) := StableHlo.after hostOps2 (W3 m c)
theorem W4_of (c : Dev nD) (r : Ref sig .tc) (h : r ∉ hostOps2_W) : W4 m c r = W3 m c r :=
  StableHlo.after_of_writes_sub hostOps2 _ hostOps2_writes h

/-- After the call of the down projection, the loss and its gradient. -/
def W5 (c : Dev nD) : Valuation τ sig (Elt F) := step 2 (W4 m) (K2.dat (at' (W4 m))) c
theorem W5_arr (c : Dev nD) (w : Fin cfg2.W) :
    W5 m c (Proc.devRef .tc (Pipeline.arrRef spec2 w)) = (K2.dat (at' (W4 m)) c).arrAt w cfg2.N :=
  step_arr launch2 _ _ c w
theorem W5_of (c : Dev nD) (r : Ref sig .tc) (h : ∀ w : Fin cfg2.W, Pipeline.arrRef spec2 w = r → (cfg2.win w).isOut = false) :
    W5 m c r = W4 m c r := step_of launch2 _ _ (K2.A_eq _) c r h

/-- After the host's lines 5. -/
def W6 (c : Dev nD) : Valuation τ sig (Elt F) := StableHlo.after hostOps3 (W5 m c)
theorem W6_of (c : Dev nD) (r : Ref sig .tc) (h : r ∉ hostOps3_W) : W6 m c r = W5 m c r :=
  StableHlo.after_of_writes_sub hostOps3 _ hostOps3_writes h

theorem W6_arg0 (c : Dev nD) : W6 m c main_arg0 = m ((c : Thread nD τ).loc main_arg0) :=
  (W6_of m c _ (by decide)).trans <| (W5_of m c _ (by decide +kernel)).trans <| (W4_of m c _ (by decide)).trans <| (W3_of m c _ (by decide +kernel)).trans <| (W2_of m c _ (by decide)).trans <| (W1_of m c _ (by decide +kernel))
theorem W6_arg1 (c : Dev nD) : W6 m c main_arg1 = m ((c : Thread nD τ).loc main_arg1) :=
  (W6_of m c _ (by decide)).trans <| (W5_of m c _ (by decide +kernel)).trans <| (W4_of m c _ (by decide)).trans <| (W3_of m c _ (by decide +kernel)).trans <| (W2_of m c _ (by decide)).trans <| (W1_of m c _ (by decide +kernel))
theorem W6_arg2 (c : Dev nD) : W6 m c main_arg2 = m ((c : Thread nD τ).loc main_arg2) :=
  (W6_of m c _ (by decide)).trans <| (W5_of m c _ (by decide +kernel)).trans <| (W4_of m c _ (by decide)).trans <| (W3_of m c _ (by decide +kernel)).trans <| (W2_of m c _ (by decide)).trans <| (W1_of m c _ (by decide +kernel))
theorem W6_arg3 (c : Dev nD) : W6 m c main_arg3 = m ((c : Thread nD τ).loc main_arg3) :=
  (W6_of m c _ (by decide)).trans <| (W5_of m c _ (by decide +kernel)).trans <| (W4_of m c _ (by decide)).trans <| (W3_of m c _ (by decide +kernel)).trans <| (W2_of m c _ (by decide)).trans <| (W1_of m c _ (by decide +kernel))
theorem W6_arg4 (c : Dev nD) : W6 m c main_arg4 = m ((c : Thread nD τ).loc main_arg4) :=
  (W6_of m c _ (by decide)).trans <| (W5_of m c _ (by decide +kernel)).trans <| (W4_of m c _ (by decide)).trans <| (W3_of m c _ (by decide +kernel)).trans <| (W2_of m c _ (by decide)).trans <| (W1_of m c _ (by decide +kernel))
theorem W6_arg5 (c : Dev nD) : W6 m c main_arg5 = m ((c : Thread nD τ).loc main_arg5) :=
  (W6_of m c _ (by decide)).trans <| (W5_of m c _ (by decide +kernel)).trans <| (W4_of m c _ (by decide)).trans <| (W3_of m c _ (by decide +kernel)).trans <| (W2_of m c _ (by decide)).trans <| (W1_of m c _ (by decide +kernel))
theorem W6_arg6 (c : Dev nD) : W6 m c main_arg6 = m ((c : Thread nD τ).loc main_arg6) :=
  (W6_of m c _ (by decide)).trans <| (W5_of m c _ (by decide +kernel)).trans <| (W4_of m c _ (by decide)).trans <| (W3_of m c _ (by decide +kernel)).trans <| (W2_of m c _ (by decide)).trans <| (W1_of m c _ (by decide +kernel))

/-- The calls' data, each at the contents it is entered with. -/
def pdats : (p : Fin 3) → (c : Dev nD) → Dat τ (Elt F) Unit ℕ (UR sig nD τ) ℕ (Pipeline.pin (pcfgs (F := F)) adm p) c
  | ⟨0, _⟩ => K0.dat (at' (W0 m))
  | ⟨1, _⟩ => K1.dat (at' (W2 m))
  | ⟨2, _⟩ => K2.dat (at' (W4 m))
abbrev 𝒱₀ : Variants := Variants.none
abbrev L : GSem nD τ sig → Finset Unit := fun _ => ∅
abbrev lv : GSem nD τ sig → Unit → ℕ := fun _ _ => 0
/-- What rides along: the generator register and nothing owed. -/
abbrev R (c : Dev nD) : sProp 𝕄 := iprop((∃ r, prngReg c r) ∗ ∃ W, owes (c : Thread nD τ) (0 : CellTallies nD τ sig Unit) W)
/-- All unscoped buffers at given contents, beside what rides along. -/
abbrev St (W : Dev nD → Valuation τ sig (Elt F)) (c : Dev nD) : sProp 𝕄 :=
  iprop(StableHlo.held (c : Thread nD τ) (Pipeline.ucRefs τ sig) (W c) ∗ R c)

/-- The host's lines from given contents. -/
def host (ops : List (HloOp τ sig (Elt F))) (hs : ops.Forall fun op => op.bufs ⊆ StableHlo.tcRefs τ sig)
    (hf : ops.Forall fun op => op.fresh = ∅) (W : Dev nD → Valuation τ sig (Elt F)) :
    Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) ops
    (fun op h => Pipeline.sub_ucRefs op ((List.forall_iff_forall_mem.mp hs) op h))
    (fun op h => (List.forall_iff_forall_mem.mp hf) op h) W R

set_option backward.isDefEq.respectTransparency.types false in
/-- A call between the contents before and after it. -/
def reg (p : Fin 3) (kit : Pipeline.LaunchFacts (nD := nD) (τ := τ) cfgs p) (W W' : Dev nD → Valuation τ sig (Elt F))
    (hA : ∀ c w, (pdats m p c).A w = W c (Pipeline.arrRef (cfgs p).spec w))
    (hF : ∀ c (w : Fin (cfgs p).W), W' c (Proc.devRef .tc (Pipeline.arrRef (cfgs p).spec w)) = (pdats m p c).arrAt w (cfgs p).N)
    (hrest : ∀ c (b : Ref sig .tc), b ∉ Finset.univ.image (Pipeline.arrRef (cfgs p).spec) → W' c b = W c b)
    (hΦ : ∀ c t, (pdats m p c).Φ t = Pipeline.ΦA (cfgs p).spec c) (hq : ∀ c w, (pdats m p c).q w = fullShare)
    (howed : ∀ c t, (pdats m p c).owed t = 0) (hrec : ∀ c, (pdats m p c).recorded 0 = Set.univ) (hK : (pcfgs (F := F) p).pre.K = 0)
    (hbody : ∀ c, Pipeline.BodyObligationLoose (pdats m p c) (defs₀ (F := F)) Variants.none () Set.univ) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre := St W
  post := St W'
  X c := iprop(∃ r, prngReg c r)
  Y c := iprop(∃ r, prngReg c r)
  Z c := Pipeline.unscopedRest (Ix := Unit) (Name := ℕ) (U := UR sig nD τ) (Lvl := ℕ) (cfgs p).spec c (at' W c)
  hentry c := by
    rw [Pipeline.ownSems0_none, Pipeline.prefHeld_of_none _ hK]
    have hsplit := Pipeline.arrays_of_unscopedBufs (p := p) (pcfgs (F := F)) adm (pdats m) kit.win kit.arr_whole c
      ((pdats m p c).share_full fun w => hq c w) (at' W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := by
    rw [hΦ c 0]
    iintro ⟨Hp, -, Hr⟩
    unfold Pipeline.ΦA
    isplitl [Hr]; · iexact Hr
    iexact Hp
  hout c := by
    rw [Pipeline.ownSems0_none, hΦ c _]
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full fun w => hq c w)
      (at' W c) (at' W' c) ((pdats m p c).arrAt · (cfgs p).N) (fun w => (hF c w).symm) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def r0 : Pipeline.RegionSeg (pcfgs (F := F)) adm (pdats m) () defs₀ 𝒱₀ L lv 0 :=
  reg m 0 launch0 (W0 m) (W1 m) (K0.A_eq (at' (W0 m))) (W1_arr m)
    (fun c b h => step_of_ne (p := 0) (W0 m) (K0.dat (at' (W0 m))) c b h) (fun _ _ => rfl) (fun _ _ => rfl) (fun _ _ => rfl) (fun _ => rfl) rfl
    fun c => (K0.body_obligation (at' (W0 m)) c).loose
def r1 : Pipeline.RegionSeg (pcfgs (F := F)) adm (pdats m) () defs₀ 𝒱₀ L lv 1 :=
  reg m 1 launch1 (W2 m) (W3 m) (K1.A_eq (at' (W2 m))) (W3_arr m)
    (fun c b h => step_of_ne (p := 1) (W2 m) (K1.dat (at' (W2 m))) c b h) (fun _ _ => rfl) (fun _ _ => rfl) (fun _ _ => rfl) (fun _ => rfl) rfl
    fun c => (K1.body_obligation (at' (W2 m)) c).loose
def r2 : Pipeline.RegionSeg (pcfgs (F := F)) adm (pdats m) () defs₀ 𝒱₀ L lv 2 :=
  reg m 2 launch2 (W4 m) (W5 m) (K2.A_eq (at' (W4 m))) (W5_arr m)
    (fun c b h => step_of_ne (p := 2) (W4 m) (K2.dat (at' (W4 m))) c b h) (fun _ _ => rfl) (fun _ _ => rfl) (fun _ _ => rfl) (fun _ => rfl) rfl
    fun c => (K2.body_obligation (at' (W4 m)) c).loose

/-- The program is the host's lines and the three calls. -/
abbrev items : List (Pipeline.Seg (pcfgs (F := F)) adm (pdats m) () defs₀ 𝒱₀ L lv) :=
  [ .region (r0 m),
    .host (host hostOps1 hostOps1_sub hostOps1_fresh (W1 m)),
    .region (r1 m),
    .host (host hostOps2 hostOps2_sub hostOps2_fresh (W3 m)),
    .region (r2 m),
    .host (host hostOps3 hostOps3_sub hostOps3_fresh (W5 m)) ]
theorem main_run (c : Dev nD) : main (F := F) c = Pipeline.Seg.run (items m) := (main_chain c).trans (by chain_rfl)

/-- An unscoped buffer is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What holds at the end. -/
abbrev Tₙ (c : Dev nD) : sProp 𝕄 := StableHlo.held (c : Thread nD τ) (Pipeline.ucRefs τ sig) (W6 m c)

set_option backward.isDefEq.respectTransparency.types false in
/-- The run: it ends, every buffer at the last contents and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W6 m c b)
      ∧ r.2.sem = fun _ => 0) :=
  Pipeline.θ_run_regions_kit_sems (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m)) (Tₙ := Tₙ m)
    (hch := ⟨fun _ => .rfl, fun _ => .rfl, fun _ => .rfl, fun _ => .rfl, fun _ => .rfl, fun _ => .rfl,
      fun c => show St (W6 m) c ⊢ iprop(Tₙ m c ∗ ∃ W, owes (c : Thread nD τ) (0 : CellTallies nD τ sig Unit) W) from by
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      unfold Tₙ StableHlo.held
      iintro ⟨Hh, HSI⟩
      imodintro
      iapply (pointsTo_read_all (Pipeline.ucRefs τ sig) (fun b => (((c : Thread nD τ)).1, b)) (W6 m c) s')
      isplitl [Hh] <;> iassumption)
    (hQ := fun s h hz => ⟨h, funext fun g => hz g (.inr (regions_no_unscoped g.2))⟩)

end Cert.Kernel3Ideal.Head

end
-- ==== Proof.HeadSame.lean ====
module

public import proofs.«01_k».proof.Defs
public import proofs.«01_k».proof.Proof.Gen.Kernel3
public import proofs.«01_k».proof.Proof.HeadRun
public import Idealize.ShloMosaic.Adequacy
public import Idealize.ShloMosaic.Init
public import Idealize.ShloMosaic.Lib.Tactic

/-!
# The frames of the last layer's and the loss head's kernel

Nothing was rewritten between the kernel as printed and the kernel over the extended reals: the two are one text in
two namespaces, so the frame of the one is the frame of the other.
-/

@[expose] public section

set_option maxRecDepth 16384
set_option maxHeartbeats 4000000

namespace Cert.Proof.Head

open Idealize.ShloMosaic Idealize.ShloMosaic.TcCoe Idealize.SL.Sem

open Cert.Kernel3Ideal Pipeline in
/-- After a run the arguments are as they were. -/
theorem kept {F : FTy → Type} [FloatOps F] {m μ : (ℓ : Loc nD τ sig) → Buf (Elt F) ℓ} (c : Dev nD)
    (h : ∀ b ∈ ucRefs τ sig, μ ((c : Thread nD τ).1, b) = Head.W6 m c b) :
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6) :=
  ⟨(h _ (Head.mem_uc main_arg0 (by decide))).trans (Head.W6_arg0 m c),
    (h _ (Head.mem_uc main_arg1 (by decide))).trans (Head.W6_arg1 m c),
    (h _ (Head.mem_uc main_arg2 (by decide))).trans (Head.W6_arg2 m c),
    (h _ (Head.mem_uc main_arg3 (by decide))).trans (Head.W6_arg3 m c),
    (h _ (Head.mem_uc main_arg4 (by decide))).trans (Head.W6_arg4 m c),
    (h _ (Head.mem_uc main_arg5 (by decide))).trans (Head.W6_arg5 m c),
    (h _ (Head.mem_uc main_arg6 (by decide))).trans (Head.W6_arg6 m c)⟩

/-- The frame of the ideal namespace's program, at bit patterns. -/
def quiet : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

theorem same : Cert.quiescent_Kernel3 = quiet := by sl_kernel_rfl

theorem quiet_holds : quiet := fun m ρ _ =>
  (θ_run Cert.Kernel3Ideal.defs _ _).mono (fun _ h => ⟨fun c => kept c (h.1 c), h.2⟩) (Cert.Kernel3Ideal.Head.run_main (F := Bits) m ρ)

/-- The frame of the kernel as printed. -/
theorem frame_kernel : Cert.quiescent_Kernel3 := same.mpr quiet_holds
/-- The frame of the kernel over the extended reals. -/
theorem frame_ideal : Cert.quiescent_Kernel3Ideal := fun m ρ _ =>
  (θ_run Cert.Kernel3Ideal.defs _ _).mono (fun _ h => ⟨fun c => kept c (h.1 c), h.2⟩) (Cert.Kernel3Ideal.Head.run_main (F := Ideal) m ρ)

end Cert.Proof.Head
-- ==== Proof.HeadMath.lean ====
module

public import proofs.«01_k».proof.Proof.FfnReal

/-!
# The loss head and its gradient, as plain functions

`y` is the last layer's output, `g` the gain of the norm before the loss, `t` the target.
-/

@[expose] public section

noncomputable section

namespace Layer

open Idealize.ShloMosaic

def two : EReal := Ideal.ofBits .f32 0x40000000#32
/-- One over the number of columns. -/
def inv : EReal := Ideal.ofBits .f32 0x3A800000#32

section
variable {a b k : ℕ}

/-- The layer's output: its input beside a half of the last product. -/
def lay (x : M a b) (p : M a k) (w : M k b) : M a b := fun i j => x i j + half * nn p w i j
def diff (y : M a b) (g : M 1 b) (t : M a b) : M a b := fun i j => nrm y g i j - t i j
/-- A row's mean squared difference, and the loss. -/
def rowLoss (y : M a b) (g : M 1 b) (t : M a b) (i : Fin a) : EReal := Ideal.div (∑ j, diff y g t i j * diff y g t i j) nD
def loss (y : M a b) (g : M 1 b) (t : M a b) : EReal := half * ∑ i, rowLoss y g t i
/-- The gradient of the norm's result: as the kernel has it, and as differentiating step by step gives it. -/
def dy (y : M a b) (g : M 1 b) (t : M a b) : M a b := fun i j => diff y g t i j * inv
def dy' (y : M a b) (g : M 1 b) (t : M a b) : M a b := fun i j => Ideal.div (half * one) nD * (two * diff y g t i j)
/-- The gradient of the norm's input, in the same two ways. -/
def dn (d x : M a b) (g : M 1 b) : M a b := fun i j =>
  rr x i * (d i j * g 0 j - xh x i j * Ideal.div (∑ l, d i l * g 0 l * xh x i l) nD)
def dn' (d x : M a b) (g : M 1 b) : M a b := fun i j => d i j * g 0 j * rr x i + x i j * cc d x g i + cc d x g i * x i j
/-- The layer's output from its arguments. -/
def out (x : M a b) (g : M 1 b) (wg wu : M b k) (wd : M k b) : M a b := lay x (act (ga x g wg) (ga x g wu)) wd

theorem two_eq : two = ((2 : ℝ) : EReal) := by
  simp [two, Ideal.ofBits, Ideal.ieee, ← EReal.coe_mul]; norm_num
theorem inv_eq : inv = ((1 / 1024 : ℝ) : EReal) := by
  simp [inv, Ideal.ofBits, Ideal.ieee, ← EReal.coe_mul]; norm_num

theorem re_act {p q : M a k} (hp : Re p) (hq : Re q) : Re (act p q) := by
  obtain ⟨p, rfl⟩ := hp; obtain ⟨q, rfl⟩ := hq
  exact re_of fun i j => ⟨p i j * (1 / (1 + Real.exp (-p i j))) * q i j, by
    rw [act, logistic_coe, EReal.coe_mul, EReal.coe_mul]⟩
theorem re_lay {x : M a b} {p : M a k} {w : M k b} (hx : Re x) (hp : Re p) (hw : Re w) : Re (lay x p w) := by
  obtain ⟨x, rfl⟩ := hx
  obtain ⟨z, hz⟩ := re_half (re_nn hp hw)
  exact re_of fun i j => ⟨x i j + z i j, by rw [EReal.coe_add]; exact congrArg _ (congrFun (congrFun hz i) j)⟩
theorem re_out {x : M a b} {g : M 1 b} {wg wu : M b k} {wd : M k b} (hx : Re x) (hg : Re g) (h₁ : Re wg) (h₂ : Re wu) (h₃ : Re wd) :
    Re (out x g wg wu wd) :=
  re_lay hx (re_act (re_nt (re_nrm hx hg) (re_tr h₁)) (re_nt (re_nrm hx hg) (re_tr h₂))) h₃
theorem re_diff {y t : M a b} {g : M 1 b} (hy : Re y) (hg : Re g) (ht : Re t) : Re (diff y g t) := by
  obtain ⟨n, hn⟩ := re_nrm hy hg
  obtain ⟨t, rfl⟩ := ht
  exact re_of fun i j => ⟨n i j - t i j, by rw [diff, hn, EReal.coe_sub]⟩

variable {y t : M a b} {g : M 1 b} (hy : Re y) (hg : Re g) (ht : Re t)
include hy hg ht

theorem re_dy : Re (dy y g t) := by
  obtain ⟨d, hd⟩ := re_diff hy hg ht
  exact re_of fun i j => ⟨d i j * (1 / 1024), by rw [dy, hd, inv_eq, EReal.coe_mul]⟩
theorem dy_eq : dy' y g t = dy y g t := by
  obtain ⟨d, hd⟩ := re_diff hy hg ht
  funext i j
  rw [dy, dy', hd, inv_eq, half_eq, one_eq, two_eq, nD_eq, ← EReal.coe_mul, div_coe _ _ (by norm_num)]
  simp only [← EReal.coe_mul]
  exact congrArg _ (by ring)
theorem re_rowLoss (i : Fin a) : ∃ r : ℝ, rowLoss y g t i = (r : EReal) := by
  obtain ⟨d, hd⟩ := re_diff hy hg ht
  refine ⟨(∑ j, d i j * d i j) / 1024, ?_⟩
  rw [rowLoss, hd, nD_eq]
  simp only [← EReal.coe_mul]
  rw [coe_sum, div_coe _ _ (by norm_num)]
omit hy hg ht

theorem dn_eq {d x : M a b} {g : M 1 b} (hd : Re d) (hx : Re x) (hg : Re g) : dn' d x g = dn d x g := by
  have h := dx_eq hd hx hg (ct := fun _ _ => 0) ⟨fun _ _ => 0, rfl⟩
  funext i j
  have h' := congrFun (congrFun h i) j
  rw [dx, dx', add_zero, zero_add] at h'
  exact h'.symm

/-- A half of a sum of real numbers is the sum of their halves. -/
theorem half_sum {n : ℕ} (f : Fin n → EReal) (h : ∀ i, ∃ r : ℝ, f i = (r : EReal)) : ∑ i, half * f i = half * ∑ i, f i := by
  choose r hr using h
  obtain rfl : f = fun i => (r i : EReal) := funext hr
  rw [half_eq, coe_sum, ← EReal.coe_mul, Finset.mul_sum, ← coe_sum]
  exact Finset.sum_congr rfl fun _ _ => (EReal.coe_mul _ _).symm

end

end Layer
-- ==== Proof.HeadVal.lean ====
module

public import proofs.«01_k».proof.Proof.Head0
public import proofs.«01_k».proof.Proof.Head1
public import proofs.«01_k».proof.Proof.Head2
public import proofs.«01_k».proof.Proof.HeadMath
public import proofs.«01_k».proof.Proof.FfnVal7

/-!
# What the last layer's calls and the loss head leave, as plain functions
-/

@[expose] public section

set_option maxRecDepth 16384

noncomputable section

namespace Cert.Kernel3Ideal.Head

open Cert.Kernel3Ideal Cert.Kernel3Ideal.Gen Layer
open Idealize.ShloMosaic Idealize.ShloMosaic.TcCoe Idealize.ShloMosaic.Tactic
open Idealize.SL Idealize.SL.RA Idealize.SL.BI

namespace K0
variable (V : (c : Dev nD) → (b : Ref sig .tc) → Buf (Elt Ideal) ((c : Thread nD τ).loc b))

theorem idx : ∀ t : Fin cfg0.N, win0_0.index t = ![t.val, 0] ∧ win0_1.index t = ![0, 0] ∧ win0_2.index t = ![t.val, 0] :=
  (by decide +kernel : ∀ t : Fin grid0.N, _)
theorem blk0 (c : Dev nD) (t : Fin cfg0.N) (ht : t.val < 8) : mat (iblk V c 0 t : Arr 512 1024)
    = fun i j => mat (V c main_arg0 : Arr 4096 1024) ⟨512 * (t.val) + i.val, by omega⟩ j := by
  funext i j
  unfold mat
  blk_simp [iblk]
  refine congrArg (V c main_arg0) ?_
  blk_ext [idx t]
theorem blk1 (c : Dev nD) (t : Fin cfg0.N) (ht : t.val < 8) : mat (iblk V c 1 t : Arr 1 1024)
    = fun i j => mat (V c main_arg1 : Arr 1 1024) i j := by
  funext i j
  unfold mat
  blk_simp [iblk]
  refine congrArg (V c main_arg1) ?_
  blk_ext [idx t]
theorem pay_h (x0 : Vec Ideal S512x1024 .f32) (x1 : Vec Ideal S1x1024 .f32) :
    mat (k0_pay1 x0 x1 : Arr 512 1024) = nrm (mat (x0 : Arr 512 1024)) (mat (x1 : Arr 1 1024)) := by
  funext i j
  pointwise [mat, k0_pay1, nrm, rr, Layer.nD, eps]
theorem h_val (c : Dev nD) : (dat V c).arrAt 2 cfg0.N = arr (nrm (mat (V c main_arg0 : Arr 4096 1024)) (mat (V c main_arg1 : Arr 1 1024))) := by
  refine (dat V c).arrAt_eq_of_covers 2 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg0.win 2).blk t).view.emb (ix2 i j) = ix2 ⟨512 * (t.val) + i.val, by omega⟩ j := by
    blk_ext [idx t]
  rw [e]
  blk_simp
  rw [after_2]
  refine (congrFun (congrFun (pay_h _ _) i) j).trans ?_
  rw [blk0 V c t ht, blk1 V c t ht]
  rfl
end K0

namespace K1
variable (V : (c : Dev nD) → (b : Ref sig .tc) → Buf (Elt Ideal) ((c : Thread nD τ).loc b))

theorem idx : ∀ t : Fin cfg1.N, win1_0.index t = ![t.val / 2, 0] ∧ win1_1.index t = ![t.val % 2, 0] ∧ win1_2.index t = ![t.val % 2, 0] ∧ win1_5.index t = ![t.val / 2, t.val % 2] :=
  (by decide +kernel : ∀ t : Fin grid1.N, _)
theorem blk0 (c : Dev nD) (t : Fin cfg1.N) (ht : t.val < 8) : mat (iblk V c 0 t : Arr 1024 1024)
    = fun i j => mat (V c main_v0 : Arr 4096 1024) ⟨1024 * (t.val / 2) + i.val, by omega⟩ j := by
  funext i j
  unfold mat
  blk_simp [iblk]
  refine congrArg (V c main_v0) ?_
  blk_ext [idx t]
theorem blk1 (c : Dev nD) (t : Fin cfg1.N) (ht : t.val < 8) : mat (iblk V c 1 t : Arr 1408 1024)
    = fun i j => mat (V c main_v2 : Arr 2816 1024) ⟨1408 * (t.val % 2) + i.val, by omega⟩ j := by
  funext i j
  unfold mat
  blk_simp [iblk]
  refine congrArg (V c main_v2) ?_
  blk_ext [idx t]
theorem blk2 (c : Dev nD) (t : Fin cfg1.N) (ht : t.val < 8) : mat (iblk V c 2 t : Arr 1408 1024)
    = fun i j => mat (V c main_v4 : Arr 2816 1024) ⟨1408 * (t.val % 2) + i.val, by omega⟩ j := by
  funext i j
  unfold mat
  blk_simp [iblk]
  refine congrArg (V c main_v4) ?_
  blk_ext [idx t]
theorem pay_act (x0 : Vec Ideal S1024x1024 .bf16) (x1 x2 : Vec Ideal S1408x1024 .bf16) :
    mat (k1_pay6 x0 x1 x2 : Arr 1024 1408) = act (nt (mat (x0 : Arr 1024 1024)) (mat (x1 : Arr 1408 1024))) (nt (mat (x0 : Arr 1024 1024)) (mat (x2 : Arr 1408 1024))) := by
  funext i j
  pointwise [mat, k1_pay6, k1_pay3, k1_pay2, k1_pay1, act, nt]
theorem act_val (c : Dev nD) : (dat V c).arrAt 5 cfg1.N = arr (act (nt (mat (V c main_v0 : Arr 4096 1024)) (mat (V c main_v2 : Arr 2816 1024)))
    (nt (mat (V c main_v0 : Arr 4096 1024)) (mat (V c main_v4 : Arr 2816 1024)))) := by
  refine (dat V c).arrAt_eq_of_covers 5 _ (by decide +kernel) fun t hf y => ?_
  have ht : t.val < 8 := t.isLt
  obtain ⟨i, j, rfl⟩ : ∃ (a : Fin 1024) (b : Fin 1408), y = ix2 a b := ⟨y 0, y 1, eq_ix2 y⟩
  have e : ((cfg1.win 5).blk t).view.emb (ix2 i j) = ix2 ⟨1024 * (t.val / 2) + i.val, by omega⟩ ⟨1408 * (t.val % 2) + j.val, by omega⟩ := by
    blk_ext [idx t]
  rw [e]
  blk_simp
  rw [after_5]
  refine (congrFun (congrFun (pay_act _ _ _) i) j).trans ?_
  rw [blk0 V c t ht, blk1 V c t ht, blk2 V c t ht]
  rfl
end K1

namespace K2
variable (V : (c : Dev nD) → (b : Ref sig .tc) → Buf (Elt Ideal) ((c : Thread nD τ).loc b))

theorem idx : ∀ t : Fin cfg2.N, win2_0.index t = ![t.val, 0] ∧ win2_1.index t = ![t.val, 0] ∧ win2_2.index t = ![0, 0] ∧ win2_3.index t = ![0, 0] ∧ win2_4.index t = ![t.val, 0] ∧ win2_5.index t = ![t.val, 0] :=
  (by decide +kernel : ∀ t : Fin grid2.N, _)
theorem blk0 (c : Dev nD) (t : Fin cfg2.N) (ht : t.val < 8) : mat (iblk V c 0 t : Arr 512 1024)
    = fun i j => mat (V c main_arg0 : Arr 4096 1024) ⟨512 * t.val + i.val, by omega⟩ j := by
  funext i j
  unfold mat
  blk_simp [iblk]
  refine congrArg (V c main_arg0) ?_
  blk_ext [idx t]
theorem blk1 (c : Dev nD) (t : Fin cfg2.N) (ht : t.val < 8) : mat (iblk V c 1 t : Arr 512 2816)
    = fun i j => mat (V c main_v5_2 : Arr 4096 2816) ⟨512 * t.val + i.val, by omega⟩ j := by
  funext i j
  unfold mat
  blk_simp [iblk]
  refine congrArg (V c main_v5_2) ?_
  blk_ext [idx t]
theorem blk2 (c : Dev nD) (t : Fin cfg2.N) (ht : t.val < 8) : mat (iblk V c 2 t : Arr 2816 1024)
    = fun i j => mat (V c main_v6 : Arr 2816 1024) i j := by
  funext i j
  unfold mat
  blk_simp [iblk]
  refine congrArg (V c main_v6) ?_
  blk_ext [idx t]
theorem blk3 (c : Dev nD) (t : Fin cfg2.N) (ht : t.val < 8) : mat (iblk V c 3 t : Arr 1 1024)
    = fun i j => mat (V c main_arg5 : Arr 1 1024) i j := by
  funext i j
  unfold mat
  blk_simp [iblk]
  refine congrArg (V c main_arg5) ?_
  blk_ext [idx t]
theorem blk4 (c : Dev nD) (t : Fin cfg2.N) (ht : t.val < 8) : mat (iblk V c 4 t : Arr 512 1024)
    = fun i j => mat (V c main_arg6 : Arr 4096 1024) ⟨512 * t.val + i.val, by omega⟩ j := by
  funext i j
  unfold mat
  blk_simp [iblk]
  refine congrArg (V c main_arg6) ?_
  blk_ext [idx t]

section
variable (x0 : Vec Ideal S512x1024 .f32) (x1 : Vec Ideal S512x2816 .bf16) (x2 : Vec Ideal S2816x1024 .bf16) (x3 : Vec Ideal S1x1024 .f32) (x4 : Vec Ideal S512x1024 .f32)
/-- The layer's output on a block of rows. -/
abbrev yB : M 512 1024 := lay (mat (x0 : Arr 512 1024)) (mat (x1 : Arr 512 2816)) (mat (x2 : Arr 2816 1024))
theorem y_at (i : Fin 512) (j : Fin 1024) : k2_pay6 x0 x1 x2 (ix2 i j) = yB x0 x1 x2 i j := by
  pointwise [mat, k2_pay6, lay, nn, half]
theorem r_at (i : Fin 512) : k2_pay7 x0 x1 x2 (ix2 i 0) = rr (yB x0 x1 x2) i := by
  pointwise [k2_pay7, y_at, rr, Layer.nD, eps]
theorem xh_at (i : Fin 512) (j : Fin 1024) : k2_pay8 x0 x1 x2 (ix2 i j) = xh (yB x0 x1 x2) i j := by
  pointwise [k2_pay8, y_at, r_at, xh]
theorem diff_at (i : Fin 512) (j : Fin 1024) : k2_pay9 x0 x1 x2 x3 x4 (ix2 i j)
    = diff (yB x0 x1 x2) (mat (x3 : Arr 1 1024)) (mat (x4 : Arr 512 1024)) i j := by
  pointwise [mat, k2_pay9, xh_at, diff, nrm, xh]
theorem dy_at (i : Fin 512) (j : Fin 1024) : k2_pay11 x0 x1 x2 x3 x4 (ix2 i j)
    = dy (yB x0 x1 x2) (mat (x3 : Arr 1 1024)) (mat (x4 : Arr 512 1024)) i j := by
  pointwise [k2_pay11, diff_at, dy, Layer.inv]
theorem loss_at : k2_pay10 x0 x1 x2 x3 x4 (ix2 0 0)
    = half * ∑ i, rowLoss (yB x0 x1 x2) (mat (x3 : Arr 1 1024)) (mat (x4 : Arr 512 1024)) i := by
  pointwise [k2_pay10, diff_at, rowLoss, half, Layer.nD]
theorem gain_at (j : Fin 1024) : k2_pay12 x0 x1 x2 x3 x4 (ix2 0 j)
    = ∑ i, dy (yB x0 x1 x2) (mat (x3 : Arr 1 1024)) (mat (x4 : Arr 512 1024)) i j * xh (yB x0 x1 x2) i j := by
  pointwise [k2_pay12, dy_at, xh_at]
theorem pay_dn : mat (k2_pay4 (k2_pay7 x0 x1 x2) (k2_pay8 x0 x1 x2) (k2_pay11 x0 x1 x2 x3 x4) x3 : Arr 512 1024)
    = dn (dy (yB x0 x1 x2) (mat (x3 : Arr 1 1024)) (mat (x4 : Arr 512 1024))) (yB x0 x1 x2) (mat (x3 : Arr 1 1024)) := by
  funext i j
  pointwise [mat, k2_pay4, r_at, xh_at, dy_at, dn, Layer.nD]
end

/-- The layer's output, the gain and the target, from the arrays the call is entered with. -/
abbrev Y (c : Dev nD) : M 4096 1024 := lay (mat (V c main_arg0 : Arr 4096 1024)) (mat (V c main_v5_2 : Arr 4096 2816)) (mat (V c main_v6 : Arr 2816 1024))
abbrev g (c : Dev nD) : M 1 1024 := mat (V c main_arg5 : Arr 1 1024)
abbrev tg (c : Dev nD) : M 4096 1024 := mat (V c main_arg6 : Arr 4096 1024)

theorem dn_val (c : Dev nD) : (dat V c).arrAt 5 cfg2.N = arr (dn (dy (Y V c) (g V c) (tg V c)) (Y V c) (g V c)) := by
  refine (dat V c).arrAt_eq_of_covers 5 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg2.win 5).blk t).view.emb (ix2 i j) = ix2 ⟨512 * t.val + i.val, by omega⟩ j := by
    blk_ext [idx t]
  rw [e]
  blk_simp
  rw [after_5]
  refine (congrFun (congrFun (pay_dn _ _ _ _ _) i) j).trans ?_
  rw [yB, blk0 V c t ht, blk1 V c t ht, blk2 V c t ht, blk3 V c t ht, blk4 V c t ht]
  rfl

open Cert.Kernel2Ideal.Ffn.K7 (G sumG)

/-- The loss of row `k`, zero past the last row. -/
def R (c : Dev nD) (k : ℕ) : EReal := if h : k < 4096 then rowLoss (Y V c) (g V c) (tg V c) ⟨k, h⟩ else 0

theorem gain_tile (c : Dev nD) (t : Fin cfg2.N) (ht : t.val < 8) (j : Fin 1024) : gainAt V c t (ix2 0 j)
    = ∑ i : Fin 512, G (dy (Y V c) (g V c) (tg V c)) (Y V c) j (t.val * 512 + i.val) := by
  refine (gain_at _ _ _ _ _ j).trans ?_
  rw [yB, blk0 V c t ht, blk1 V c t ht, blk2 V c t ht, blk3 V c t ht, blk4 V c t ht]
  refine Finset.sum_congr rfl fun i _ => ?_
  have e : t.val * 512 + i.val = 512 * t.val + i.val := by omega
  rw [e, G, dif_pos (show 512 * t.val + i.val < 4096 by omega)]
  rfl
theorem loss_tile (c : Dev nD) (t : Fin cfg2.N) (ht : t.val < 8) : lossAt V c t (ix2 0 0) = half * ∑ i : Fin 512, R V c (t.val * 512 + i.val) := by
  refine (loss_at _ _ _ _ _).trans (congrArg (half * ·) ?_)
  rw [yB, blk0 V c t ht, blk1 V c t ht, blk2 V c t ht, blk3 V c t ht, blk4 V c t ht]
  refine Finset.sum_congr rfl fun i _ => ?_
  have e : t.val * 512 + i.val = 512 * t.val + i.val := by omega
  rw [e, R, dif_pos (show 512 * t.val + i.val < 4096 by omega)]
  rfl

theorem pay2 (d a : FVec Ideal S1x1024 .f32) (j : Fin 1024) : k2_pay2 d a (ix2 0 j) = a (ix2 0 j) + d (ix2 0 j) := by
  pointwise [k2_pay2]
theorem pay1 (d : FVec Ideal S1x1 .f32) (i : Fin 8) (j : Fin 128) : k2_pay1 d (ix2 i j) = d (ix2 0 0) := by
  pointwise [k2_pay1]
theorem pay3 (d : FVec Ideal S1x1 .f32) (a : FVec Ideal S8x128 .f32) (i : Fin 8) (j : Fin 128) : k2_pay3 d a (ix2 i j) = a (ix2 i j) + d (ix2 0 0) := by
  pointwise [k2_pay3]

/-- The running sums at a point are the sums over the points so far. -/
theorem acc_val (c : Dev nD) (j : Fin 1024) (p : Fin 8) (q : Fin 128) : ∀ (n : ℕ) (h : n < cfg2.N),
    (acc V c n h).1 (ix2 0 j) = ∑ s ∈ Finset.range (n + 1), ∑ i : Fin 512, G (dy (Y V c) (g V c) (tg V c)) (Y V c) j (s * 512 + i.val)
    ∧ (acc V c n h).2 (ix2 p q) = ∑ s ∈ Finset.range (n + 1), half * ∑ i : Fin 512, R V c (s * 512 + i.val)
  | 0, h => by
    rw [Finset.sum_range_one, Finset.sum_range_one, acc_A V c ⟨0, h⟩ rfl]
    exact ⟨gain_tile V c ⟨0, h⟩ (Nat.succ_pos 7) j, (pay1 _ p q).trans (loss_tile V c ⟨0, h⟩ (Nat.succ_pos 7))⟩
  | n + 1, h => by
    have ih := acc_val c j p q n (Nat.lt_of_succ_lt h)
    rw [Finset.sum_range_succ _ (n + 1), Finset.sum_range_succ _ (n + 1), ← ih.1, ← ih.2, acc_B V c ⟨n + 1, h⟩ (Nat.succ_ne_zero n)]
    exact ⟨(pay2 _ _ j).trans (congrArg (fun z : EReal => (acc V c n (Nat.lt_of_succ_lt h)).1 (ix2 0 j) + z) (gain_tile V c ⟨n + 1, h⟩ h j)),
      (pay3 _ _ p q).trans (congrArg (fun z : EReal => (acc V c n (Nat.lt_of_succ_lt h)).2 (ix2 p q) + z) (loss_tile V c ⟨n + 1, h⟩ h))⟩

theorem gain_val (c : Dev nD) : (dat V c).arrAt 7 cfg2.N = arr (dgain (dy (Y V c) (g V c) (tg V c)) (Y V c)) := by
  refine (dat V c).arrAt_eq_of_after_last 7 ⟨7, by decide⟩ (by decide +kernel) _ fun y => ?_
  obtain ⟨i, j, rfl⟩ : ∃ (a : Fin 1) (b : Fin 1024), y = ix2 a b := ⟨y 0, y 1, eq_ix2 y⟩
  obtain rfl : i = 0 := Subsingleton.elim _ _
  rw [after_7]
  refine (acc_val V c j 0 0 7 (by decide)).1.trans ?_
  refine (Fin.sum_univ_eq_sum_range (fun s => ∑ i : Fin 512, G (dy (Y V c) (g V c) (tg V c)) (Y V c) j (s * 512 + i.val)) 8).symm.trans ?_
  exact (Fin.sum_univ_univ_mul_add 8 512 (G _ _ j)).trans (sumG _ _ j)

/-- The sum of the losses of the blocks is the loss, as long as all is real. -/
theorem sumR (c : Dev nD) (hy : Re (Y V c)) (hg : Re (g V c)) (ht : Re (tg V c)) :
    ∑ s ∈ Finset.range 8, half * ∑ i : Fin 512, R V c (s * 512 + i.val) = loss (Y V c) (g V c) (tg V c) := by
  have hR : ∀ k, ∃ r : ℝ, R V c k = (r : EReal) := fun k => by
    rw [R]
    split
    · exact re_rowLoss hy hg ht _
    · exact ⟨0, rfl⟩
  choose r hr using hR
  refine (Fin.sum_univ_eq_sum_range (fun s => half * ∑ i : Fin 512, R V c (s * 512 + i.val)) 8).symm.trans ?_
  rw [half_sum (fun s : Fin 8 => ∑ i : Fin 512, R V c (s.val * 512 + i.val))
    fun s => ⟨_, (Finset.sum_congr rfl fun i _ => hr _).trans (coe_sum fun i : Fin 512 => r (s.val * 512 + i.val))⟩]
  exact congrArg (half * ·) ((Fin.sum_univ_univ_mul_add 8 512 (R V c)).trans (Finset.sum_congr rfl fun k _ => dif_pos k.isLt))

theorem loss_val (c : Dev nD) (hy : Re (Y V c)) (hg : Re (g V c)) (ht : Re (tg V c)) :
    (dat V c).arrAt 8 cfg2.N = arr (fun (_ : Fin 8) (_ : Fin 128) => loss (Y V c) (g V c) (tg V c)) := by
  refine (dat V c).arrAt_eq_of_after_last 8 ⟨7, by decide⟩ (by decide +kernel) _ fun y => ?_
  obtain ⟨i, j, rfl⟩ : ∃ (a : Fin 8) (b : Fin 128), y = ix2 a b := ⟨y 0, y 1, eq_ix2 y⟩
  rw [after_8]
  exact (acc_val V c 0 i j 7 (by decide)).2.trans (sumR V c hy hg ht)
end K2

end Cert.Kernel3Ideal.Head
-- ==== Proof.HeadChain.lean ====
module

public import proofs.«01_k».proof.Proof.HeadRun
public import proofs.«01_k».proof.Proof.HeadVal
public import Idealize.ShloMosaic.Lib.StableHlo.ReadAt

/-!
# The last layer's and the loss head's arrays along the run, from the arguments
-/

@[expose] public section

set_option maxRecDepth 16384

noncomputable section

namespace Cert.Kernel3Ideal.Head

open Cert.Kernel3Ideal Cert.Kernel3Ideal.Gen Layer
open Idealize.ShloMosaic Idealize.ShloMosaic.TcCoe Idealize.ShloMosaic.Tactic

variable (m : (ℓ : Loc nD τ sig) → Buf (Elt Ideal) ℓ) (c : Dev nD)

/-- The arguments as plain functions. -/
def kX : M 4096 1024 := mat (m ((c : Thread nD τ).loc main_arg0) : Arr 4096 1024)
def kG : M 1 1024 := mat (m ((c : Thread nD τ).loc main_arg1) : Arr 1 1024)
def kWg : M 1024 2816 := mat (m ((c : Thread nD τ).loc main_arg2) : Arr 1024 2816)
def kWu : M 1024 2816 := mat (m ((c : Thread nD τ).loc main_arg3) : Arr 1024 2816)
def kWd : M 2816 1024 := mat (m ((c : Thread nD τ).loc main_arg4) : Arr 2816 1024)
def kGf : M 1 1024 := mat (m ((c : Thread nD τ).loc main_arg5) : Arr 1 1024)
def kT : M 4096 1024 := mat (m ((c : Thread nD τ).loc main_arg6) : Arr 4096 1024)
/-- The layer's output. -/
def kY : M 4096 1024 := out (kX m c) (kG m c) (kWg m c) (kWu m c) (kWd m c)

theorem c1_v0 : mat (W1 m c main_v0 : Arr 4096 1024) = nrm (kX m c) (kG m c) :=
  (congrArg (fun z : Arr 4096 1024 => mat z) ((W1_arr m c 2).trans (K0.h_val (at' (W0 m)) c))).trans (mat_arr _)
theorem c2_v0 : mat (W2 m c main_v0 : Arr 4096 1024) = nrm (kX m c) (kG m c) :=
  (congrArg (fun z : Arr 4096 1024 => mat z) (W2_of m c main_v0 (by decide))).trans (c1_v0 m c)
theorem c2_v2 : mat (W2 m c main_v2 : Arr 2816 1024) = tr (kWg m c) := by
  funext i j
  have h : (W2 m c main_v2 : Arr 2816 1024) (ix2 i j) = (W1 m c main_arg2 : Arr 1024 2816) (ix2 j i) := by
    show StableHlo.after hostOps1 (W1 m c) (Proc.devRef .tc main_v2) (ix2 i j) = _
    after_reads_at
    try rfl
  exact h.trans (congrFun (W1_of m c main_arg2 (by decide +kernel)) _)
theorem c2_v4 : mat (W2 m c main_v4 : Arr 2816 1024) = tr (kWu m c) := by
  funext i j
  have h : (W2 m c main_v4 : Arr 2816 1024) (ix2 i j) = (W1 m c main_arg3 : Arr 1024 2816) (ix2 j i) := by
    show StableHlo.after hostOps1 (W1 m c) (Proc.devRef .tc main_v4) (ix2 i j) = _
    after_reads_at
    try rfl
  exact h.trans (congrFun (W1_of m c main_arg3 (by decide +kernel)) _)
theorem c3_v5_2 : mat (W3 m c main_v5_2 : Arr 4096 2816) = act (ga (kX m c) (kG m c) (kWg m c)) (ga (kX m c) (kG m c) (kWu m c)) := by
  refine (congrArg (fun z : Arr 4096 2816 => mat z) ((W3_arr m c 5).trans (K1.act_val (at' (W2 m)) c))).trans ((mat_arr _).trans ?_)
  simp only [at']
  rw [c2_v0 m c, c2_v2 m c, c2_v4 m c]
  rfl
theorem c4_v5_2 : mat (W4 m c main_v5_2 : Arr 4096 2816) = act (ga (kX m c) (kG m c) (kWg m c)) (ga (kX m c) (kG m c) (kWu m c)) :=
  (congrArg (fun z : Arr 4096 2816 => mat z) (W4_of m c main_v5_2 (by decide))).trans (c3_v5_2 m c)

/-- Up to the last call an argument is as it was. -/
theorem kept (r : Ref sig .tc) (h₁ : ∀ w : Fin cfg0.W, Pipeline.arrRef spec0 w = r → (cfg0.win w).isOut = false) (h₂ : r ∉ hostOps1_W)
    (h₃ : ∀ w : Fin cfg1.W, Pipeline.arrRef spec1 w = r → (cfg1.win w).isOut = false) : W3 m c r = m ((c : Thread nD τ).loc r) :=
  (W3_of m c r h₃).trans ((W2_of m c r h₂).trans (W1_of m c r h₁))
theorem kept4 (r : Ref sig .tc) (h₁ : ∀ w : Fin cfg0.W, Pipeline.arrRef spec0 w = r → (cfg0.win w).isOut = false) (h₂ : r ∉ hostOps1_W)
    (h₃ : ∀ w : Fin cfg1.W, Pipeline.arrRef spec1 w = r → (cfg1.win w).isOut = false) (h₄ : r ∉ hostOps2_W) : W4 m c r = m ((c : Thread nD τ).loc r) :=
  (W4_of m c r h₄).trans (kept m c r h₁ h₂ h₃)

theorem c4_v6 : mat (W4 m c main_v6 : Arr 2816 1024) = kWd m c := by
  funext i j
  have h : (W4 m c main_v6 : Arr 2816 1024) (ix2 i j) = (W3 m c main_arg4 : Arr 2816 1024) (ix2 i j) := by
    show StableHlo.after hostOps2 (W3 m c) (Proc.devRef .tc main_v6) (ix2 i j) = _
    after_reads_at
    try rfl
  exact h.trans (congrFun (kept m c main_arg4 (by decide +kernel) (by decide) (by decide +kernel)) _)
theorem c4_arg0 : mat (W4 m c main_arg0 : Arr 4096 1024) = kX m c :=
  congrArg (fun z : Arr 4096 1024 => mat z) (kept4 m c main_arg0 (by decide +kernel) (by decide) (by decide +kernel) (by decide))
theorem gf : K2.g (at' (W4 m)) c = kGf m c :=
  congrArg (fun z : Arr 1 1024 => mat z) (kept4 m c main_arg5 (by decide +kernel) (by decide) (by decide +kernel) (by decide))
theorem tgt : K2.tg (at' (W4 m)) c = kT m c :=
  congrArg (fun z : Arr 4096 1024 => mat z) (kept4 m c main_arg6 (by decide +kernel) (by decide) (by decide +kernel) (by decide))
theorem y : K2.Y (at' (W4 m)) c = kY m c := by
  unfold K2.Y
  simp only [at']
  rw [c4_v5_2 m c, c4_v6 m c, c4_arg0 m c]
  rfl

theorem dx_end : mat (W6 m c main_v7_0 : Arr 4096 1024) = dn (dy (kY m c) (kGf m c) (kT m c)) (kY m c) (kGf m c) := by
  refine (congrArg (fun z : Arr 4096 1024 => mat z) ((W6_of m c main_v7_0 (by decide)).trans ((W5_arr m c 5).trans (K2.dn_val (at' (W4 m)) c)))).trans ((mat_arr _).trans ?_)
  rw [y m c, gf m c, tgt m c]
theorem gain_end : mat (W6 m c main_v7_2 : Arr 1 1024) = dgain (dy (kY m c) (kGf m c) (kT m c)) (kY m c) := by
  refine (congrArg (fun z : Arr 1 1024 => mat z) ((W6_of m c main_v7_2 (by decide)).trans ((W5_arr m c 7).trans (K2.gain_val (at' (W4 m)) c)))).trans ((mat_arr _).trans ?_)
  rw [y m c, gf m c, tgt m c]
theorem loss_end (hy : Re (kY m c)) (hg : Re (kGf m c)) (ht : Re (kT m c)) (i : S_.Idx) :
    (W6 m c main_v9 : S_.Idx → EReal) i = loss (kY m c) (kGf m c) (kT m c) := by
  have h : (W6 m c main_v9 : S_.Idx → EReal) i = (W5 m c main_v7_3 : Arr 8 128) (ix2 0 0) := by
    show StableHlo.after hostOps3 (W5 m c) (Proc.devRef .tc main_v9) i = _
    after_reads_at
    try rfl
  have e : (W5 m c main_v7_3 : Arr 8 128) = _ := (W5_arr m c 8).trans
    (K2.loss_val (at' (W4 m)) c (by rw [y m c]; exact hy) (by rw [gf m c]; exact hg) (by rw [tgt m c]; exact ht))
  rw [h, e, y m c, gf m c, tgt m c]
  rfl

end Cert.Kernel3Ideal.Head
-- ==== Proof.HeadRef.lean ====
module

public import proofs.«01_k».proof.Proof.Gen.Reference3Ideal.Run
public import proofs.«01_k».proof.Proof.FfnRef
public import proofs.«01_k».proof.Proof.FfnRefOut
public import proofs.«01_k».proof.Proof.HeadMath

/-!
# The loss head's reference, as plain functions of its arguments

The arrays of the layer are those of the other layer's reference; those of the loss are named here.
-/

@[expose] public section

set_option maxRecDepth 16384

noncomputable section

namespace Cert.Reference3Ideal.Head

open Cert.Reference3Ideal Cert.Reference3Ideal.Gen Layer
open Cert.Reference2Ideal.Ffn (X Y C v7 v12 v14 v18 v43 v52 v54 gt rG)
open Idealize.ShloMosaic Idealize.ShloMosaic.TcCoe Idealize.ShloMosaic.Tactic

variable (x y d t : FVec Ideal S4096x1024 .f32) (g : FVec Ideal S1x1024 .f32) (p : FVec Ideal S4096x2816 .f32)
  (wd : FVec Ideal S2816x1024 .f32) (wg wu : FVec Ideal S1024x2816 .f32)

def layA : X := addf x (mulf (broadcastInDim S4096x1024 ![] bcast_S_S4096x1024 (constant S_ .f32 0x3F000000#32))
  (Host.dotGeneral (F := Ideal) dot_S4096x2816_S2816x1024_S4096x1024_1_0_0_1_n_n none p wd))
def diffA : X := subf (v14 y g) t
def rowA : FVec Ideal S4096 .f32 := Host.divf (Host.reduceAdd (mulf (diffA y t g) (diffA y t g)) (constant S_ .f32 0x00000000#32) reducesTo_S4096x1024_S4096_d1 h_S_)
  (broadcastInDim S4096 ![] bcast_S_S4096 (constant S_ .f32 0x44800000#32))
def lossA : FVec Ideal S_ .f32 := mulf (constant S_ .f32 0x3F000000#32) (Host.reduceAdd (rowA y t g) (constant S_ .f32 0x00000000#32) reducesTo_S4096_S_d0 h_S_)
def dyA : X := mulf (broadcastInDim S4096x1024 ![0] bcast_S4096_S4096x1024_0 (Host.divf (broadcastInDim S4096 ![] bcast_S_S4096
    (mulf (constant S_ .f32 0x3F000000#32) (constant S_ .f32 0x3F800000#32))) (broadcastInDim S4096 ![] bcast_S_S4096 (constant S_ .f32 0x44800000#32))))
  (mulf (broadcastInDim S4096x1024 ![] bcast_S_S4096x1024 (constant S_ .f32 0x40000000#32)) (diffA y t g))
def dnA : X := addf (addf (mulf d (broadcastInDim S4096x1024 ![0, 1] bcast_S4096x1_S4096x1024_0_1 (v7 y))) (mulf y (v54 y d))) (mulf (v54 y d) y)

/-- The layer's output. -/
def outA (x : FVec Ideal S4096x1024 .f32) (g : FVec Ideal S1x1024 .f32) (wg wu : FVec Ideal S1024x2816 .f32) (wd : FVec Ideal S2816x1024 .f32) : X :=
  layA x (v18 (rG x g wg) (rG x g wu)) wd

variable (m : (ℓ : Loc nD τ sig) → Buf (Elt Ideal) ℓ) (c : Dev nD)

/-- The layer's output from the arguments in memory. -/
abbrev outM : X := outA (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

theorem out0 : Value.res_main_v43 m c = lossA (outM m c) (m ((c.tc : Thread nD τ).loc main_arg6)) (m ((c.tc : Thread nD τ).loc main_arg5)) := rfl
theorem out1 : Value.res_main_v68 m c = dnA (outM m c) (v43 (dyA (outM m c) (m ((c.tc : Thread nD τ).loc main_arg6)) (m ((c.tc : Thread nD τ).loc main_arg5)))
    (m ((c.tc : Thread nD τ).loc main_arg5))) := rfl
theorem out2 : Value.res_main_v52 m c = Reference2Ideal.Ffn.v41 (outM m c) (dyA (outM m c) (m ((c.tc : Thread nD τ).loc main_arg6)) (m ((c.tc : Thread nD τ).loc main_arg5))) := rfl

theorem layA_mat : mat (layA x p wd : Arr 4096 1024) = lay (mat (x : Arr 4096 1024)) (mat (p : Arr 4096 2816)) (mat (wd : Arr 2816 1024)) := by
  funext i j
  pointwise [mat, layA, lay, nn, half]
theorem diffA_at (i : Fin 4096) (j : Fin 1024) : diffA y t g (ix2 i j) = diff (mat (y : Arr 4096 1024)) (mat (g : Arr 1 1024)) (mat (t : Arr 4096 1024)) i j := by
  rw [diff, ← Reference2Ideal.Ffn.v14_mat y g]
  rfl
theorem rowA_at (i : Fin 4096) : rowA y t g (ix1 i) = rowLoss (mat (y : Arr 4096 1024)) (mat (g : Arr 1 1024)) (mat (t : Arr 4096 1024)) i := by
  pointwise [rowA, diffA_at, rowLoss, Layer.nD]
theorem lossA_at (i : S_.Idx) : lossA y t g i = loss (mat (y : Arr 4096 1024)) (mat (g : Arr 1 1024)) (mat (t : Arr 4096 1024)) := by
  pointwise [lossA, rowA_at, loss, half]
theorem dyA_mat : mat (dyA y t g : Arr 4096 1024) = dy' (mat (y : Arr 4096 1024)) (mat (g : Arr 1 1024)) (mat (t : Arr 4096 1024)) := by
  funext i j
  pointwise [mat, dyA, diffA_at, dy', half, one, two, Layer.nD]
theorem dnA_mat : mat (dnA y (v43 d g) : Arr 4096 1024) = dn' (mat (d : Arr 4096 1024)) (mat (y : Arr 4096 1024)) (mat (g : Arr 1 1024)) := by
  funext i j
  pointwise [mat, dnA, v54, v52, v43, Reference2Ideal.Ffn.v10, v7, Reference2Ideal.Ffn.v6, dn', cc, rr, Layer.nD, eps, nhalf]
  simp only [Fin.sum_univ_one]

theorem outA_mat : mat (outA x g wg wu wd : Arr 4096 1024) = out (mat (x : Arr 4096 1024)) (mat (g : Arr 1 1024)) (mat (wg : Arr 1024 2816))
    (mat (wu : Arr 1024 2816)) (mat (wd : Arr 2816 1024)) := by
  refine (layA_mat _ _ _).trans ?_
  rw [Reference2Ideal.Ffn.v18_mat, Reference2Ideal.Ffn.rG_mat x g wg rfl rfl rfl, Reference2Ideal.Ffn.rG_mat x g wu rfl rfl rfl]
  rfl

end Cert.Reference3Ideal.Head
-- ==== Proof.HeadPre.lean ====
module

public import proofs.«01_k».proof.Proof.Gen.Pre_finite3
public import proofs.«01_k».proof.Proof.FfnPre

/-!
# What the loss head's precondition says: all entries of the seven arguments are real numbers
-/

@[expose] public section

set_option maxRecDepth 16384

namespace Cert.Pre_finite3.Read

open Cert.Pre_finite3 Cert.Pre_finite3.Gen Layer
open Cert.Pre_finite.Read (bit all1)
open Idealize.ShloMosaic

/-- Seven bits side by side are all one only if each is. -/
theorem seven (v0 v1 v2 v3 v4 v5 v6 : IVec S_ 1)
    (h : concatenate S7 0 [⟨S1, broadcastInDim S1 ![] bcast_S_S1 v0⟩, ⟨S1, broadcastInDim S1 ![] bcast_S_S1 v1⟩, ⟨S1, broadcastInDim S1 ![] bcast_S_S1 v2⟩, ⟨S1, broadcastInDim S1 ![] bcast_S_S1 v3⟩, ⟨S1, broadcastInDim S1 ![] bcast_S_S1 v4⟩, ⟨S1, broadcastInDim S1 ![] bcast_S_S1 v5⟩, ⟨S1, broadcastInDim S1 ![] bcast_S_S1 v6⟩] concatenates_S1_S1_S1_S1_S1_S1_S1_S7_d0 = fun _ => 1#1) :
    v0 (fun a => a.elim0) = 1#1 ∧ v1 (fun a => a.elim0) = 1#1 ∧ v2 (fun a => a.elim0) = 1#1 ∧ v3 (fun a => a.elim0) = 1#1 ∧ v4 (fun a => a.elim0) = 1#1 ∧ v5 (fun a => a.elim0) = 1#1 ∧ v6 (fun a => a.elim0) = 1#1 :=
  have e (v : IVec S_ 1) (i) : v i = v (fun a => a.elim0) := congrArg v (funext fun a => a.elim0)
  ⟨(e v0 _).symm.trans (congrFun h (ix1 0)), (e v1 _).symm.trans (congrFun h (ix1 1)), (e v2 _).symm.trans (congrFun h (ix1 2)), (e v3 _).symm.trans (congrFun h (ix1 3)), (e v4 _).symm.trans (congrFun h (ix1 4)), (e v5 _).symm.trans (congrFun h (ix1 5)), (e v6 _).symm.trans (congrFun h (ix1 6))⟩

/-- The seven arguments are real. -/
theorem args (a0 : FVec Ideal S4096x1024 .f32) (a1 : FVec Ideal S1x1024 .f32) (a2 : FVec Ideal S1024x2816 .f32) (a3 : FVec Ideal S1024x2816 .f32) (a4 : FVec Ideal S2816x1024 .f32) (a5 : FVec Ideal S1x1024 .f32) (a6 : FVec Ideal S4096x1024 .f32)
    (h : fn (F := Ideal) a0 a1 a2 a3 a4 a5 a6 = fun _ => 1#1) :
    Re (mat (a0 : Arr 4096 1024)) ∧ Re (mat (a1 : Arr 1 1024)) ∧ Re (mat (a2 : Arr 1024 2816)) ∧ Re (mat (a3 : Arr 1024 2816)) ∧ Re (mat (a4 : Arr 2816 1024)) ∧ Re (mat (a5 : Arr 1 1024)) ∧ Re (mat (a6 : Arr 4096 1024)) := by
  obtain ⟨h0, h1, h2, h3, h4, h5, h6⟩ := seven (all1 a0 bcast_S_S4096x1024 reducesTo_S4096x1024_S_d0_1) (all1 a1 bcast_S_S1x1024 reducesTo_S1x1024_S_d0_1) (all1 a2 bcast_S_S1024x2816 reducesTo_S1024x2816_S_d0_1) (all1 a3 bcast_S_S1024x2816 reducesTo_S1024x2816_S_d0_1) (all1 a4 bcast_S_S2816x1024 reducesTo_S2816x1024_S_d0_1) (all1 a5 bcast_S_S1x1024 reducesTo_S1x1024_S_d0_1) (all1 a6 bcast_S_S4096x1024 reducesTo_S4096x1024_S_d0_1) h
  exact ⟨re_of fun i j => bit a0 _ _ h0 (ix2 i j), re_of fun i j => bit a1 _ _ h1 (ix2 i j), re_of fun i j => bit a2 _ _ h2 (ix2 i j), re_of fun i j => bit a3 _ _ h3 (ix2 i j), re_of fun i j => bit a4 _ _ h4 (ix2 i j), re_of fun i j => bit a5 _ _ h5 (ix2 i j), re_of fun i j => bit a6 _ _ h6 (ix2 i j)⟩

end Cert.Pre_finite3.Read
-- ==== Proof.HeadFinal.lean ====
module

public import proofs.«01_k».proof.Proof.HeadSame
public import proofs.«01_k».proof.Proof.HeadChain
public import proofs.«01_k».proof.Proof.HeadRef
public import proofs.«01_k».proof.Proof.HeadPre
public import proofs.«01_k».proof.Proof.FfnFinal

/-!
# The last layer's and the loss head's kernel and its reference leave the same three results
-/

@[expose] public section

set_option maxRecDepth 16384
set_option maxHeartbeats 4000000

namespace Cert.Proof.Head

open Idealize.ShloMosaic Idealize.ShloMosaic.TcCoe Idealize.SL.Sem Layer
open Cert.Kernel3Ideal.Head (kX kG kWg kWu kWd kGf kT kY)
open Ffn (eq_of_mat)

/-- The frame of the reference. -/
theorem frame_reference : Cert.quiescent_Reference3Ideal := fun m ρ _ =>
  (θ_run Reference3Ideal.defs _ _).mono (fun r h => ⟨fun c => (h c).2.2.2, sem_eq_zero_of_no_sems (by decide) r.2⟩)
    (Reference3Ideal.Value.run (F := Ideal) m ρ)

section
variable (m : (ℓ : Loc Kernel3Ideal.nD Kernel3Ideal.τ Kernel3Ideal.sig) → Buf (Elt Ideal) ℓ)
  (m' : (ℓ : Loc Reference3Ideal.nD Reference3Ideal.τ Reference3Ideal.sig) → Buf (Elt Ideal) ℓ) (c : Dev Kernel3Ideal.nD)

/-- The reference's gain and target. -/
abbrev G' : FVec Ideal Reference3Ideal.S1x1024 .f32 := m' ((c.tc : Thread Reference3Ideal.nD Reference3Ideal.τ).loc Reference3Ideal.main_arg5)
abbrev T' : FVec Ideal Reference3Ideal.S4096x1024 .f32 := m' ((c.tc : Thread Reference3Ideal.nD Reference3Ideal.τ).loc Reference3Ideal.main_arg6)

variable {m m' c}
theorem reals (h : Cert.Pre_Kernel3Ideal_finite3 m) : Re (kX m c) ∧ Re (kG m c) ∧ Re (kWg m c) ∧ Re (kWu m c) ∧ Re (kWd m c) ∧ Re (kGf m c) ∧ Re (kT m c) :=
  Pre_finite3.Read.args _ _ _ _ _ _ _ (h c)
theorem real_out (h : Cert.Pre_Kernel3Ideal_finite3 m) : Re (kY m c) :=
  have r := reals (c := c) h
  re_out r.1 r.2.1 r.2.2.1 r.2.2.2.1 r.2.2.2.2.1

variable (ey : mat (Reference3Ideal.Head.outM m' c : Arr 4096 1024) = kY m c) (eg : mat (G' m' c : Arr 1 1024) = kGf m c)
  (et : mat (T' m' c : Arr 4096 1024) = kT m c) (h : Cert.Pre_Kernel3Ideal_finite3 m)
include ey eg et h

theorem dy_same : mat (Reference3Ideal.Head.dyA (Reference3Ideal.Head.outM m' c) (T' m' c) (G' m' c) : Arr 4096 1024) = dy (kY m c) (kGf m c) (kT m c) := by
  refine (Reference3Ideal.Head.dyA_mat _ _ _).trans ?_
  rw [ey, eg, et]
  exact dy_eq (real_out h) (reals h).2.2.2.2.2.1 (reals h).2.2.2.2.2.2
theorem loss_same : (Reference3Ideal.Head.lossA (Reference3Ideal.Head.outM m' c) (T' m' c) (G' m' c) : Reference3Ideal.S_.Idx → EReal)
    = (Kernel3Ideal.Head.W6 m c Kernel3Ideal.main_v9 : Kernel3Ideal.S_.Idx → EReal) := by
  funext i
  refine (Reference3Ideal.Head.lossA_at _ _ _ i).trans (Eq.trans ?_
    (Kernel3Ideal.Head.loss_end m c (real_out h) (reals h).2.2.2.2.2.1 (reals h).2.2.2.2.2.2 i).symm)
  rw [ey, eg, et]
theorem dx_same : (Reference3Ideal.Head.dnA (Reference3Ideal.Head.outM m' c)
      (Reference2Ideal.Ffn.v43 (Reference3Ideal.Head.dyA (Reference3Ideal.Head.outM m' c) (T' m' c) (G' m' c)) (G' m' c)) : Arr 4096 1024)
    = (Kernel3Ideal.Head.W6 m c Kernel3Ideal.main_v7_0 : Arr 4096 1024) := by
  refine eq_of_mat ((Reference3Ideal.Head.dnA_mat _ _ _).trans (Eq.trans ?_ (Kernel3Ideal.Head.dx_end m c).symm))
  rw [dy_same ey eg et h, ey, eg]
  exact dn_eq (re_dy (real_out h) (reals h).2.2.2.2.2.1 (reals h).2.2.2.2.2.2) (real_out h) (reals h).2.2.2.2.2.1
theorem gain_same : (Reference2Ideal.Ffn.v41 (Reference3Ideal.Head.outM m' c) (Reference3Ideal.Head.dyA (Reference3Ideal.Head.outM m' c) (T' m' c) (G' m' c)) : Arr 1 1024)
    = (Kernel3Ideal.Head.W6 m c Kernel3Ideal.main_v7_2 : Arr 1 1024) := by
  refine eq_of_mat ((Reference2Ideal.Ffn.v41_mat _ _).trans (Eq.trans ?_ (Kernel3Ideal.Head.gain_end m c).symm))
  rw [dy_same ey eg et h, ey]
  exact funext fun i => funext fun j => Finset.sum_congr rfl fun l _ => mul_comm _ _

end

/-- Both run, and end with the same loss, gradient of the layer's output and gradient of the gain. -/
theorem same_results : Cert.algebraic_Kernel3Ideal_Reference3Ideal_pre_finite3 := fun m ρ m' ρ' h e =>
  have ey (c : Dev Kernel3Ideal.nD) : mat (Reference3Ideal.Head.outM m' c : Arr 4096 1024) = kY m c := by
    obtain ⟨e0, e1, e2, e3, e4, -, -⟩ := e c
    refine (Reference3Ideal.Head.outA_mat _ _ _ _ _).trans ?_
    rw [e0, e1, e2, e3, e4]
    rfl
  have eg (c : Dev Kernel3Ideal.nD) : mat (G' m' c : Arr 1 1024) = kGf m c := congrArg (fun a : Arr 1 1024 => mat a) (e c).2.2.2.2.2.1
  have et (c : Dev Kernel3Ideal.nD) : mat (T' m' c : Arr 4096 1024) = kT m c := congrArg (fun a : Arr 4096 1024 => mat a) (e c).2.2.2.2.2.2
  ⟨fun c => Kernel3Ideal.Head.W6 m c Kernel3Ideal.main_v9, fun c => Kernel3Ideal.Head.W6 m c Kernel3Ideal.main_v7_0, fun c => Kernel3Ideal.Head.W6 m c Kernel3Ideal.main_v7_2,
    (θ_run Kernel3Ideal.defs _ _).mono (fun _ k c => ⟨k.1 c _ (Kernel3Ideal.Head.mem_uc Kernel3Ideal.main_v9 (by decide)),
        k.1 c _ (Kernel3Ideal.Head.mem_uc Kernel3Ideal.main_v7_0 (by decide)), k.1 c _ (Kernel3Ideal.Head.mem_uc Kernel3Ideal.main_v7_2 (by decide)), kept c (k.1 c)⟩)
      (Kernel3Ideal.Head.run_main (F := Ideal) m ρ),
    (θ_run Reference3Ideal.defs _ _).mono (fun _ k c =>
      ⟨(k c).1.trans ((Reference3Ideal.Head.out0 m' c).trans (loss_same (ey c) (eg c) (et c) h)),
        (k c).2.1.trans ((Reference3Ideal.Head.out1 m' c).trans (dx_same (ey c) (eg c) (et c) h)),
        (k c).2.2.1.trans ((Reference3Ideal.Head.out2 m' c).trans (gain_same (ey c) (eg c) (et c) h)), (k c).2.2.2⟩)
      (Reference3Ideal.Value.run (F := Ideal) m' ρ')⟩

end Cert.Proof.Head
-- ==== Proof.MixMath.lean ====
module

public import proofs.«01_k».proof.Proof.FfnMath

/-!
# An element of a product of blocks is the element of the product at the block's place
-/

@[expose] public section

noncomputable section

namespace Layer

open Idealize.ShloMosaic

variable {k a b a' b' : ℕ} {i : Fin a} {j : Fin b} {i' : Fin a'} {j' : Fin b'}

theorem tn_at {x : M k a} {y : M k b} {x' : M k a'} {y' : M k b'} (hx : ∀ l, x l i = x' l i') (hy : ∀ l, y l j = y' l j') :
    tn x y i j = arr (tn x' y') (ix2 i' j') := Finset.sum_congr rfl fun l _ => by rw [hx, hy]; rfl
theorem nn_at {x : M a k} {y : M k b} {x' : M a' k} {y' : M k b'} (hx : ∀ l, x i l = x' i' l) (hy : ∀ l, y l j = y' l j') :
    nn x y i j = arr (nn x' y') (ix2 i' j') := Finset.sum_congr rfl fun l _ => by rw [hx, hy]; rfl
theorem nt_at {x : M a k} {y : M b k} {x' : M a' k} {y' : M b' k} (hx : ∀ l, x i l = x' i' l) (hy : ∀ l, y j l = y' j' l) :
    nt x y i j = arr (nt x' y') (ix2 i' j') := Finset.sum_congr rfl fun l _ => by rw [hx, hy]; rfl

end Layer
-- ==== Proof.MixVal4.lean ====
module

public import proofs.«01_k».proof.Proof.Gen.Kernel4Ideal.Frame
public import Idealize.ShloMosaic.Lib.Pipeline.ValueKit
public import proofs.«01_k».proof.Proof.MixMath

/-!
# The weight gradients of the second feed-forward layer: each call leaves the product of the columns
-/

@[expose] public section

set_option maxRecDepth 16384
set_option maxHeartbeats 4000000

noncomputable section

namespace Cert.Kernel4Ideal.Mix

open Cert.Kernel4Ideal Cert.Kernel4Ideal.Gen Layer
open Idealize.ShloMosaic Idealize.ShloMosaic.TcCoe Idealize.ShloMosaic.Tactic
open Idealize.SL Idealize.SL.RA Idealize.SL.BI

variable (V : (c : Dev nD) → (b : Ref sig .tc) → Buf (Elt Ideal) ((c : Thread nD τ).loc b))

theorem idx0 : ∀ t : Fin cfg0.N, win0_0.index t = ![0, t.val] ∧ win0_1.index t = ![0, 0] ∧ win0_2.index t = ![t.val, 0] :=
  (by decide +kernel : ∀ t : Fin grid0.N, _)
theorem out0 (x0 : Vec Ideal S4096x256 .bf16) (x1 : Vec Ideal S4096x1024 .bf16) :
    mat (out0_2 x0 x1 : Arr 256 1024) = tn (mat (x0 : Arr 4096 256)) (mat (x1 : Arr 4096 1024)) := by
  unfold out0_2 r0_0 r0_1 r0_2
  rw [View.canon_cons_unit_lit _ _ _ (by decide), View.ld_unit_lit _ _ (by decide), View.ld_unit_lit _ _ (by decide)]
  funext i j
  pointwise [mat, k0_pay1, tn]
theorem val0 (c : Dev nD) : (dat0 V c).arrAt 2 cfg0.N = arr (tn (mat (V c main_arg0 : Arr 4096 2816)) (mat (V c main_arg1 : Arr 4096 1024))) := by
  refine (dat0 V c).arrAt_eq_of_covers 2 _ (by decide +kernel) fun t hf y => ?_
  have ht : t.val < 11 := t.isLt
  obtain ⟨i, j, rfl⟩ : ∃ (a : Fin 256) (b : Fin 1024), y = ix2 a b := ⟨y 0, y 1, eq_ix2 y⟩
  have e : ((cfg0.win 2).blk t).view.emb (ix2 i j) = ix2 ⟨256 * t.val + i.val, by omega⟩ j := by blk_ext [idx0 t]
  rw [e]
  blk_simp
  rw [after0_2]
  refine (congrFun (congrFun (out0 _ _) i) j).trans (tn_at (fun l => ?_) fun l => ?_) <;> unfold mat <;> blk_simp [iblk0]
  · exact congrArg (V c main_arg0) (by blk_ext [idx0 t])
  · exact congrArg (V c main_arg1) (by blk_ext [idx0 t])

theorem idx1 : ∀ t : Fin cfg1.N, win1_0.index t = ![0, t.val] ∧ win1_1.index t = ![0, 0] ∧ win1_2.index t = ![t.val, 0] :=
  (by decide +kernel : ∀ t : Fin grid1.N, _)
theorem val1 (c : Dev nD) : (dat1 V c).arrAt 2 cfg1.N = arr (tn (mat (V c main_arg3 : Arr 4096 2816)) (mat (V c main_arg2 : Arr 4096 1024))) := by
  refine (dat1 V c).arrAt_eq_of_covers 2 _ (by decide +kernel) fun t hf y => ?_
  have ht : t.val < 11 := t.isLt
  obtain ⟨i, j, rfl⟩ : ∃ (a : Fin 256) (b : Fin 1024), y = ix2 a b := ⟨y 0, y 1, eq_ix2 y⟩
  have e : ((cfg1.win 2).blk t).view.emb (ix2 i j) = ix2 ⟨256 * t.val + i.val, by omega⟩ j := by blk_ext [idx1 t]
  rw [e]
  blk_simp
  rw [after1_2]
  refine (congrFun (congrFun (out0 _ _) i) j).trans (tn_at (fun l => ?_) fun l => ?_) <;> unfold mat <;> blk_simp [iblk1]
  · exact congrArg (V c main_arg3) (by blk_ext [idx1 t])
  · exact congrArg (V c main_arg2) (by blk_ext [idx1 t])

theorem idx2 : ∀ t : Fin cfg2.N, win2_0.index t = ![0, t.val] ∧ win2_1.index t = ![0, 0] ∧ win2_2.index t = ![t.val, 0] :=
  (by decide +kernel : ∀ t : Fin grid2.N, _)
theorem val2 (c : Dev nD) : (dat2 V c).arrAt 2 cfg2.N = arr (tn (mat (V c main_arg4 : Arr 4096 2816)) (mat (V c main_arg2 : Arr 4096 1024))) := by
  refine (dat2 V c).arrAt_eq_of_covers 2 _ (by decide +kernel) fun t hf y => ?_
  have ht : t.val < 11 := t.isLt
  obtain ⟨i, j, rfl⟩ : ∃ (a : Fin 256) (b : Fin 1024), y = ix2 a b := ⟨y 0, y 1, eq_ix2 y⟩
  have e : ((cfg2.win 2).blk t).view.emb (ix2 i j) = ix2 ⟨256 * t.val + i.val, by omega⟩ j := by blk_ext [idx2 t]
  rw [e]
  blk_simp
  rw [after2_2]
  refine (congrFun (congrFun (out0 _ _) i) j).trans (tn_at (fun l => ?_) fun l => ?_) <;> unfold mat <;> blk_simp [iblk2]
  · exact congrArg (V c main_arg4) (by blk_ext [idx2 t])
  · exact congrArg (V c main_arg2) (by blk_ext [idx2 t])

end Cert.Kernel4Ideal.Mix
-- ==== Proof.MixRun4.lean ====
module

public import proofs.«01_k».proof.Proof.MixVal4

/-!
# The run of the three weight gradients of the second feed-forward layer
-/

@[expose] public section

set_option maxRecDepth 16384

noncomputable section

namespace Cert.Kernel4Ideal.Mix

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion, which takes unfolding definitions in a type
set_option backward.isDefEq.respectTransparency.types false in
/-- Every execution ends, and each array ends at the contents after the last call. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c => h c)

end Cert.Kernel4Ideal.Mix
-- ==== Proof.MixVal9.lean ====
module

public import proofs.«01_k».proof.Proof.Gen.Kernel9Ideal.Frame
public import Idealize.ShloMosaic.Lib.Pipeline.ValueKit
public import proofs.«01_k».proof.Proof.MixMath

/-!
# The products of the mixer's entry and of its exit's gradient: what each call leaves
-/

@[expose] public section

set_option maxRecDepth 16384
set_option maxHeartbeats 4000000

noncomputable section

namespace Cert.Kernel9Ideal.Mix

open Cert.Kernel9Ideal Cert.Kernel9Ideal.Gen Layer
open Idealize.ShloMosaic Idealize.ShloMosaic.TcCoe Idealize.ShloMosaic.Tactic
open Idealize.SL Idealize.SL.RA Idealize.SL.BI

variable (V : (c : Dev nD) → (b : Ref sig .tc) → Buf (Elt Ideal) ((c : Thread nD τ).loc b))

theorem idx0 : ∀ t : Fin cfg0.N, win0_0.index t = ![t.val / 2, 0] ∧ win0_1.index t = ![0, t.val % 2] ∧ win0_2.index t = ![t.val / 2, t.val % 2] :=
  (by decide +kernel : ∀ t : Fin grid0.N, _)
theorem out0 (x0 : Vec Ideal S1024x1024 .bf16) (x1 : Vec Ideal S1024x768 .bf16) :
    mat (out0_2 x0 x1 : Arr 1024 768) = nn (mat (x0 : Arr 1024 1024)) (mat (x1 : Arr 1024 768)) := by
  unfold out0_2 r0_0 r0_1
  rw [View.canon_cons_unit_lit _ _ _ (by decide), View.ld_unit_lit _ _ (by decide), View.ld_unit_lit _ _ (by decide)]
  funext i j
  pointwise [mat, k0_pay1, nn]
theorem val0 (c : Dev nD) : (dat0 V c).arrAt 2 cfg0.N = arr (nn (mat (V c main_arg0 : Arr 4096 1024)) (mat (V c main_arg1 : Arr 1024 1536))) := by
  refine (dat0 V c).arrAt_eq_of_covers 2 _ (by decide +kernel) fun t hf y => ?_
  have ht : t.val < 8 := t.isLt
  obtain ⟨i, j, rfl⟩ : ∃ (a : Fin 1024) (b : Fin 768), y = ix2 a b := ⟨y 0, y 1, eq_ix2 y⟩
  have e : ((cfg0.win 2).blk t).view.emb (ix2 i j) = ix2 ⟨1024 * (t.val / 2) + i.val, by omega⟩ ⟨768 * (t.val % 2) + j.val, by omega⟩ := by blk_ext [idx0 t]
  rw [e]
  blk_simp
  rw [after0_2]
  refine (congrFun (congrFun (out0 _ _) i) j).trans (nn_at (fun l => ?_) fun l => ?_) <;> unfold mat <;> blk_simp [iblk0]
  · exact congrArg (V c main_arg0) (by blk_ext [idx0 t])
  · exact congrArg (V c main_arg1) (by blk_ext [idx0 t])

theorem idx1 : ∀ t : Fin cfg1.N, win1_0.index t = ![t.val / 3, 0] ∧ win1_1.index t = ![0, t.val % 3] ∧ win1_2.index t = ![t.val / 3, t.val % 3] :=
  (by decide +kernel : ∀ t : Fin grid1.N, _)
theorem val1 (c : Dev nD) : (dat1 V c).arrAt 2 cfg1.N = arr (nn (mat (V c main_arg0 : Arr 4096 1024)) (mat (V c main_arg2 : Arr 1024 2304))) := by
  refine (dat1 V c).arrAt_eq_of_covers 2 _ (by decide +kernel) fun t hf y => ?_
  have ht : t.val < 12 := t.isLt
  obtain ⟨i, j, rfl⟩ : ∃ (a : Fin 1024) (b : Fin 768), y = ix2 a b := ⟨y 0, y 1, eq_ix2 y⟩
  have e : ((cfg1.win 2).blk t).view.emb (ix2 i j) = ix2 ⟨1024 * (t.val / 3) + i.val, by omega⟩ ⟨768 * (t.val % 3) + j.val, by omega⟩ := by blk_ext [idx1 t]
  rw [e]
  blk_simp
  rw [after1_2]
  refine (congrFun (congrFun (out0 _ _) i) j).trans (nn_at (fun l => ?_) fun l => ?_) <;> unfold mat <;> blk_simp [iblk1]
  · exact congrArg (V c main_arg0) (by blk_ext [idx1 t])
  · exact congrArg (V c main_arg2) (by blk_ext [idx1 t])

theorem idx2 : ∀ t : Fin cfg2.N, win2_0.index t = ![t.val, 0] ∧ win2_1.index t = ![0, 0] ∧ win2_2.index t = ![t.val, 0] :=
  (by decide +kernel : ∀ t : Fin grid2.N, _)
theorem out2 (x0 : Vec Ideal S1024x1024 .bf16) (x1 : Vec Ideal S1024x1024 .bf16) :
    mat (out2_2 x0 x1 : Arr 1024 1024) = nt (mat (x0 : Arr 1024 1024)) (mat (x1 : Arr 1024 1024)) := by
  unfold out2_2 r2_0
  rw [View.canon_cons_unit_lit _ _ _ (by decide), View.ld_unit_lit _ _ (by decide), View.ld_unit_lit _ _ (by decide)]
  funext i j
  pointwise [mat, k2_pay1, nt]
theorem val2 (c : Dev nD) : (dat2 V c).arrAt 2 cfg2.N = arr (nt (mat (V c main_arg3 : Arr 4096 1024)) (mat (V c main_arg4 : Arr 1024 1024))) := by
  refine (dat2 V c).arrAt_eq_of_covers 2 _ (by decide +kernel) fun t hf y => ?_
  have ht : t.val < 4 := t.isLt
  obtain ⟨i, j, rfl⟩ : ∃ (a : Fin 1024) (b : Fin 1024), y = ix2 a b := ⟨y 0, y 1, eq_ix2 y⟩
  have e : ((cfg2.win 2).blk t).view.emb (ix2 i j) = ix2 ⟨1024 * t.val + i.val, by omega⟩ j := by blk_ext [idx2 t]
  rw [e]
  blk_simp
  rw [after2_2]
  refine (congrFun (congrFun (out2 _ _) i) j).trans (nt_at (fun l => ?_) fun l => ?_) <;> unfold mat <;> blk_simp [iblk2]
  · exact congrArg (V c main_arg3) (by blk_ext [idx2 t])
  · exact congrArg (V c main_arg4) (by blk_ext [idx2 t])

theorem idx3 : ∀ t : Fin cfg3.N, win3_0.index t = ![0, 0] ∧ win3_1.index t = ![0, 0] ∧ win3_2.index t = ![0, 0] :=
  (by decide +kernel : ∀ t : Fin grid3.N, _)
theorem out3 (x0 : Vec Ideal S4096x512 .bf16) (x1 : Vec Ideal S4096x1024 .bf16) :
    mat (out3_2 x0 x1 : Arr 512 1024) = tn (mat (x0 : Arr 4096 512)) (mat (x1 : Arr 4096 1024)) := by
  unfold out3_2 r3_0 r3_1 r3_2
  rw [View.canon_cons_unit_lit _ _ _ (by decide), View.ld_unit_lit _ _ (by decide), View.ld_unit_lit _ _ (by decide)]
  funext i j
  pointwise [mat, k3_pay1, tn]
theorem val3 (c : Dev nD) : (dat3 V c).arrAt 2 cfg3.N = arr (tn (mat (V c main_arg5 : Arr 4096 512)) (mat (V c main_arg3 : Arr 4096 1024))) := by
  refine (dat3 V c).arrAt_eq_of_covers 2 _ (by decide +kernel) fun t hf y => ?_
  have ht : t.val < 1 := t.isLt
  obtain ⟨i, j, rfl⟩ : ∃ (a : Fin 512) (b : Fin 1024), y = ix2 a b := ⟨y 0, y 1, eq_ix2 y⟩
  have e : ((cfg3.win 2).blk t).view.emb (ix2 i j) = ix2 i j := by blk_ext [idx3 t]
  rw [e]
  blk_simp
  rw [after3_2]
  refine (congrFun (congrFun (out3 _ _) i) j).trans (tn_at (fun l => ?_) fun l => ?_) <;> unfold mat <;> blk_simp [iblk3]
  · exact congrArg (V c main_arg5) (by blk_ext [idx3 t])
  · exact congrArg (V c main_arg3) (by blk_ext [idx3 t])

theorem idx4 : ∀ t : Fin cfg4.N, win4_0.index t = ![0, 0] ∧ win4_1.index t = ![0, 0] ∧ win4_2.index t = ![0, 0] :=
  (by decide +kernel : ∀ t : Fin grid4.N, _)
theorem val4 (c : Dev nD) : (dat4 V c).arrAt 2 cfg4.N = arr (tn (mat (V c main_arg6 : Arr 4096 512)) (mat (V c main_arg3 : Arr 4096 1024))) := by
  refine (dat4 V c).arrAt_eq_of_covers 2 _ (by decide +kernel) fun t hf y => ?_
  have ht : t.val < 1 := t.isLt
  obtain ⟨i, j, rfl⟩ : ∃ (a : Fin 512) (b : Fin 1024), y = ix2 a b := ⟨y 0, y 1, eq_ix2 y⟩
  have e : ((cfg4.win 2).blk t).view.emb (ix2 i j) = ix2 i j := by blk_ext [idx4 t]
  rw [e]
  blk_simp
  rw [after4_2]
  refine (congrFun (congrFun (out3 _ _) i) j).trans (tn_at (fun l => ?_) fun l => ?_) <;> unfold mat <;> blk_simp [iblk4]
  · exact congrArg (V c main_arg6) (by blk_ext [idx4 t])
  · exact congrArg (V c main_arg3) (by blk_ext [idx4 t])

end Cert.Kernel9Ideal.Mix
-- ==== Proof.MixRun9.lean ====
module

public import proofs.«01_k».proof.Proof.MixVal9

/-!
# The run of the five products of the mixer's entry and of its exit's gradient
-/

@[expose] public section

set_option maxRecDepth 16384

noncomputable section

namespace Cert.Kernel9Ideal.Mix

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion, which takes unfolding definitions in a type
set_option backward.isDefEq.respectTransparency.types false in
/-- Every execution ends, and each array ends at the contents after the last call. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c => h c)

end Cert.Kernel9Ideal.Mix
-- ==== Proof.MixFinal9.lean ====
module

public import proofs.«01_k».proof.Proof.Gen.Reference9Ideal.Run
public import proofs.«01_k».proof.Proof.MixRun9
public import proofs.«01_k».proof.Proof.FfnFinal

/-!
# The products of the mixer's entry and of its exit's gradient: the calls and their reference leave the same five results
-/

@[expose] public section

set_option maxRecDepth 16384
set_option maxHeartbeats 4000000

noncomputable section

namespace Cert.Kernel9Ideal.Mix

open Cert.Kernel9Ideal Cert.Kernel9Ideal.Gen Layer
open Idealize.ShloMosaic Idealize.ShloMosaic.TcCoe

variable (m : (ℓ : Loc nD τ sig) → Buf (Elt Ideal) ℓ) (ρ : Dev nD → PrngReg) (c : Dev nD)

/-- An argument in memory. -/
abbrev A (b : Ref sig .tc) : Buf (Elt Ideal) ((c : Thread nD τ).loc b) := m ((c : Thread nD τ).loc b)

theorem end0 : W5 m ρ c (Proc.devRef .tc main_v0) = arr (nn (mat (A m c main_arg0 : Arr 4096 1024)) (mat (A m c main_arg1 : Arr 1024 1536))) :=
  (W5_of_ne m ρ c main_v0 (by decide)).trans <| (W4_of_ne m ρ c main_v0 (by decide)).trans <|
  (W3_of_ne m ρ c main_v0 (by decide)).trans <| (W2_of_ne m ρ c main_v0 (by decide)).trans <| (W1_arr m ρ c 2).trans (val0 (V0 m ρ) c)
theorem end1 : W5 m ρ c (Proc.devRef .tc main_v1) = arr (nn (mat (A m c main_arg0 : Arr 4096 1024)) (mat (A m c main_arg2 : Arr 1024 2304))) :=
  (W5_of_ne m ρ c main_v1 (by decide)).trans <| (W4_of_ne m ρ c main_v1 (by decide)).trans <|
  (W3_of_ne m ρ c main_v1 (by decide)).trans <| (W2_arr m ρ c 2).trans <| (val1 (V1 m ρ) c).trans <| by
    rw [show V1 m ρ c main_arg0 = A m c main_arg0 from W1_args m ρ c main_arg0 (by decide), show V1 m ρ c main_arg2 = A m c main_arg2 from W1_args m ρ c main_arg2 (by decide)]
theorem end2 : W5 m ρ c (Proc.devRef .tc main_v2) = arr (nt (mat (A m c main_arg3 : Arr 4096 1024)) (mat (A m c main_arg4 : Arr 1024 1024))) :=
  (W5_of_ne m ρ c main_v2 (by decide)).trans <| (W4_of_ne m ρ c main_v2 (by decide)).trans <|
  (W3_arr m ρ c 2).trans <| (val2 (V2 m ρ) c).trans <| by
    rw [show V2 m ρ c main_arg3 = A m c main_arg3 from W2_args m ρ c main_arg3 (by decide), show V2 m ρ c main_arg4 = A m c main_arg4 from W2_args m ρ c main_arg4 (by decide)]
theorem end3 : W5 m ρ c (Proc.devRef .tc main_v3) = arr (tn (mat (A m c main_arg5 : Arr 4096 512)) (mat (A m c main_arg3 : Arr 4096 1024))) :=
  (W5_of_ne m ρ c main_v3 (by decide)).trans <| (W4_arr m ρ c 2).trans <| (val3 (V3 m ρ) c).trans <| by
    rw [show V3 m ρ c main_arg5 = A m c main_arg5 from W3_args m ρ c main_arg5 (by decide), show V3 m ρ c main_arg3 = A m c main_arg3 from W3_args m ρ c main_arg3 (by decide)]
theorem end4 : W5 m ρ c (Proc.devRef .tc main_v4) = arr (tn (mat (A m c main_arg6 : Arr 4096 512)) (mat (A m c main_arg3 : Arr 4096 1024))) :=
  (W5_arr m ρ c 2).trans <| (val4 (V4 m ρ) c).trans <| by
    rw [show V4 m ρ c main_arg6 = A m c main_arg6 from W4_args m ρ c main_arg6 (by decide), show V4 m ρ c main_arg3 = A m c main_arg3 from W4_args m ρ c main_arg3 (by decide)]

end Cert.Kernel9Ideal.Mix

namespace Cert.Reference9Ideal.Mix

open Cert.Reference9Ideal Cert.Reference9Ideal.Gen Layer
open Idealize.ShloMosaic Idealize.ShloMosaic.TcCoe Idealize.ShloMosaic.Tactic

/-- The entry's two products, the gradient of the exit's input, and the gradient of a weight of the exit. -/
def enterA (h : FVec Ideal S4096x1024 .bf16) (w : FVec Ideal S1024x1536 .bf16) : FVec Ideal S4096x1536 .f32 :=
  Host.dotGeneral (F := Ideal) dot_S4096x1024_S1024x1536_S4096x1536_1_0_0_1_n_n none (extf .f32 h bitsLt_bf16_f32) (extf .f32 w bitsLt_bf16_f32)
def enterD (h : FVec Ideal S4096x1024 .bf16) (w : FVec Ideal S1024x2304 .bf16) : FVec Ideal S4096x2304 .f32 :=
  Host.dotGeneral (F := Ideal) dot_S4096x1024_S1024x2304_S4096x2304_1_0_0_1_n_n none (extf .f32 h bitsLt_bf16_f32) (extf .f32 w bitsLt_bf16_f32)
def exitX (d : FVec Ideal S4096x1024 .bf16) (w : FVec Ideal S1024x1024 .bf16) : FVec Ideal S4096x1024 .f32 :=
  Host.dotGeneral (F := Ideal) dot_S4096x1024_S1024x1024_S4096x1024_1_1_0_0_n_n none (extf .f32 d bitsLt_bf16_f32) (extf .f32 w bitsLt_bf16_f32)
def exitW (p : FVec Ideal S4096x512 .bf16) (d : FVec Ideal S4096x1024 .bf16) : FVec Ideal S512x1024 .bf16 := truncf .bf16 (transpose S512x1024 [1, 0] (Host.dotGeneral (F := Ideal)
  dot_S4096x1024_S4096x512_S1024x512_0_0_1_1_n_n none (extf .f32 d bitsLt_bf16_f32) (extf .f32 p bitsLt_bf16_f32)) transposes_S1024x512_S512x1024_1_0) bitsLt_bf16_f32

theorem enterA_mat (h : FVec Ideal S4096x1024 .bf16) (w : FVec Ideal S1024x1536 .bf16) :
    mat (enterA h w : Arr 4096 1536) = nn (mat (h : Arr 4096 1024)) (mat (w : Arr 1024 1536)) := by
  funext i j
  pointwise [mat, enterA, nn]
theorem enterD_mat (h : FVec Ideal S4096x1024 .bf16) (w : FVec Ideal S1024x2304 .bf16) :
    mat (enterD h w : Arr 4096 2304) = nn (mat (h : Arr 4096 1024)) (mat (w : Arr 1024 2304)) := by
  funext i j
  pointwise [mat, enterD, nn]
theorem exitX_mat (d : FVec Ideal S4096x1024 .bf16) (w : FVec Ideal S1024x1024 .bf16) :
    mat (exitX d w : Arr 4096 1024) = nt (mat (d : Arr 4096 1024)) (mat (w : Arr 1024 1024)) := by
  funext i j
  pointwise [mat, exitX, nt]
theorem exitW_mat (p : FVec Ideal S4096x512 .bf16) (d : FVec Ideal S4096x1024 .bf16) :
    mat (exitW p d : Arr 512 1024) = tn (mat (p : Arr 4096 512)) (mat (d : Arr 4096 1024)) := by
  funext i j
  pointwise [mat, exitW, tn]
  exact Finset.sum_congr rfl fun l _ => mul_comm _ _

end Cert.Reference9Ideal.Mix

namespace Cert.Proof.Products

open Idealize.ShloMosaic Idealize.ShloMosaic.TcCoe Idealize.SL.Sem Layer
open Cert.Kernel9Ideal.Gen (W5 mem_uc)
open Cert.Reference9Ideal.Mix (enterA_mat enterD_mat exitX_mat exitW_mat)
open Ffn (eq_of_mat)

/-- The frame of the reference. -/
theorem frame_reference : Cert.quiescent_Reference9Ideal := fun m ρ _ =>
  (θ_run Reference9Ideal.defs _ _).mono (fun r h => ⟨fun c => (h c).2.2.2.2.2, sem_eq_zero_of_no_sems (by decide) r.2⟩)
    (Reference9Ideal.Value.run (F := Ideal) m ρ)

/-- An array that the reference and the calls compute from equal factors by the same product is the same. -/
theorem same {r s r₁ s₁ r₂ s₂ : ℕ} (op : M r₁ s₁ → M r₂ s₂ → M r s) {x y : Arr r s} {a a' : Arr r₁ s₁} {b b' : Arr r₂ s₂}
    (hx : mat x = op (mat a') (mat b')) (hy : y = arr (op (mat a) (mat b))) (ea : a' = a) (eb : b' = b) : x = y := by
  rw [hy, ← ea, ← eb]
  exact eq_of_mat hx

/-- Both run, and end with the same five products. -/
theorem same_results : Cert.algebraic_Kernel9Ideal_Reference9Ideal := fun m ρ m' ρ' _ e =>
  ⟨fun c => W5 m ρ c (Proc.devRef .tc Kernel9Ideal.main_v0), fun c => W5 m ρ c (Proc.devRef .tc Kernel9Ideal.main_v1), fun c => W5 m ρ c (Proc.devRef .tc Kernel9Ideal.main_v2),
    fun c => W5 m ρ c (Proc.devRef .tc Kernel9Ideal.main_v3), fun c => W5 m ρ c (Proc.devRef .tc Kernel9Ideal.main_v4),
    (θ_run Kernel9Ideal.defs _ _).mono (fun _ k c =>
      ⟨k c _ (mem_uc Kernel9Ideal.main_v0 (by decide)), k c _ (mem_uc Kernel9Ideal.main_v1 (by decide)), k c _ (mem_uc Kernel9Ideal.main_v2 (by decide)),
        k c _ (mem_uc Kernel9Ideal.main_v3 (by decide)), k c _ (mem_uc Kernel9Ideal.main_v4 (by decide)),
        (k c _ (mem_uc Kernel9Ideal.main_arg0 (by decide))).trans (Kernel9Ideal.Gen.W5_main_arg0 m ρ c), (k c _ (mem_uc Kernel9Ideal.main_arg1 (by decide))).trans (Kernel9Ideal.Gen.W5_main_arg1 m ρ c),
        (k c _ (mem_uc Kernel9Ideal.main_arg2 (by decide))).trans (Kernel9Ideal.Gen.W5_main_arg2 m ρ c), (k c _ (mem_uc Kernel9Ideal.main_arg3 (by decide))).trans (Kernel9Ideal.Gen.W5_main_arg3 m ρ c),
        (k c _ (mem_uc Kernel9Ideal.main_arg4 (by decide))).trans (Kernel9Ideal.Gen.W5_main_arg4 m ρ c), (k c _ (mem_uc Kernel9Ideal.main_arg5 (by decide))).trans (Kernel9Ideal.Gen.W5_main_arg5 m ρ c),
        (k c _ (mem_uc Kernel9Ideal.main_arg6 (by decide))).trans (Kernel9Ideal.Gen.W5_main_arg6 m ρ c)⟩)
      (Kernel9Ideal.Mix.run_main (F := Ideal) m ρ),
    (θ_run Reference9Ideal.defs _ _).mono (fun _ k c =>
      ⟨(k c).1.trans (same nn (enterA_mat _ _) (Kernel9Ideal.Mix.end0 m ρ c) (e c).1 (e c).2.1),
        (k c).2.1.trans (same nn (enterD_mat _ _) (Kernel9Ideal.Mix.end1 m ρ c) (e c).1 (e c).2.2.1),
        (k c).2.2.1.trans (same nt (exitX_mat _ _) (Kernel9Ideal.Mix.end2 m ρ c) (e c).2.2.2.1 (e c).2.2.2.2.1),
        (k c).2.2.2.1.trans (same tn (exitW_mat _ _) (Kernel9Ideal.Mix.end3 m ρ c) (e c).2.2.2.2.2.1 (e c).2.2.2.1),
        (k c).2.2.2.2.1.trans (same tn (exitW_mat _ _) (Kernel9Ideal.Mix.end4 m ρ c) (e c).2.2.2.2.2.2 (e c).2.2.2.1), (k c).2.2.2.2.2⟩)
      (Reference9Ideal.Value.run (F := Ideal) m' ρ')⟩

end Cert.Proof.Products
-- ==== Proof.MixFinal4.lean ====
module

public import proofs.«01_k».proof.Proof.Gen.Reference4Ideal.Run
public import proofs.«01_k».proof.Proof.MixRun4
public import proofs.«01_k».proof.Proof.MixFinal9

/-!
# The second feed-forward layer's weight gradients: the calls and their reference leave the same three results
-/

@[expose] public section

set_option maxRecDepth 16384
set_option maxHeartbeats 4000000

noncomputable section

namespace Cert.Kernel4Ideal.Mix

open Cert.Kernel4Ideal Cert.Kernel4Ideal.Gen Layer
open Idealize.ShloMosaic Idealize.ShloMosaic.TcCoe

variable (m : (ℓ : Loc nD τ sig) → Buf (Elt Ideal) ℓ) (ρ : Dev nD → PrngReg) (c : Dev nD)

/-- An argument in memory. -/
abbrev A (b : Ref sig .tc) : Buf (Elt Ideal) ((c : Thread nD τ).loc b) := m ((c : Thread nD τ).loc b)

theorem end0 : W3 m ρ c (Proc.devRef .tc main_v0) = arr (tn (mat (A m c main_arg0 : Arr 4096 2816)) (mat (A m c main_arg1 : Arr 4096 1024))) :=
  (W3_of_ne m ρ c main_v0 (by decide)).trans <| (W2_of_ne m ρ c main_v0 (by decide)).trans <| (W1_arr m ρ c 2).trans (val0 (V0 m ρ) c)
theorem end1 : W3 m ρ c (Proc.devRef .tc main_v1) = arr (tn (mat (A m c main_arg3 : Arr 4096 2816)) (mat (A m c main_arg2 : Arr 4096 1024))) :=
  (W3_of_ne m ρ c main_v1 (by decide)).trans <| (W2_arr m ρ c 2).trans <| (val1 (V1 m ρ) c).trans <| by
    rw [show V1 m ρ c main_arg3 = A m c main_arg3 from W1_args m ρ c main_arg3 (by decide), show V1 m ρ c main_arg2 = A m c main_arg2 from W1_args m ρ c main_arg2 (by decide)]
theorem end2 : W3 m ρ c (Proc.devRef .tc main_v2) = arr (tn (mat (A m c main_arg4 : Arr 4096 2816)) (mat (A m c main_arg2 : Arr 4096 1024))) :=
  (W3_arr m ρ c 2).trans <| (val2 (V2 m ρ) c).trans <| by
    rw [show V2 m ρ c main_arg4 = A m c main_arg4 from W2_args m ρ c main_arg4 (by decide), show V2 m ρ c main_arg2 = A m c main_arg2 from W2_args m ρ c main_arg2 (by decide)]

end Cert.Kernel4Ideal.Mix

namespace Cert.Reference4Ideal.Mix

open Cert.Reference4Ideal Cert.Reference4Ideal.Gen Layer
open Idealize.ShloMosaic Idealize.ShloMosaic.TcCoe Idealize.ShloMosaic.Tactic

/-- The gradient of the down weight, and that of the gate or up weight, transposed. -/
def downW (p : FVec Ideal S4096x2816 .bf16) (d : FVec Ideal S4096x1024 .bf16) : FVec Ideal S2816x1024 .bf16 := truncf .bf16 (transpose S2816x1024 [1, 0] (Host.dotGeneral (F := Ideal)
  dot_S4096x1024_S4096x2816_S1024x2816_0_0_1_1_n_n none (extf .f32 d bitsLt_bf16_f32) (extf .f32 p bitsLt_bf16_f32)) transposes_S1024x2816_S2816x1024_1_0) bitsLt_bf16_f32
def upW (d : FVec Ideal S4096x2816 .bf16) (h : FVec Ideal S4096x1024 .bf16) : FVec Ideal S2816x1024 .bf16 :=
  truncf .bf16 (transpose S2816x1024 [1, 0] (transpose S1024x2816 [1, 0] (Host.dotGeneral (F := Ideal)
    dot_S4096x2816_S4096x1024_S2816x1024_0_0_1_1_n_n none (extf .f32 d bitsLt_bf16_f32) (extf .f32 h bitsLt_bf16_f32)) transposes_S2816x1024_S1024x2816_1_0)
    transposes_S1024x2816_S2816x1024_1_0) bitsLt_bf16_f32

theorem downW_mat (p : FVec Ideal S4096x2816 .bf16) (d : FVec Ideal S4096x1024 .bf16) :
    mat (downW p d : Arr 2816 1024) = tn (mat (p : Arr 4096 2816)) (mat (d : Arr 4096 1024)) := by
  funext i j
  pointwise [mat, downW, tn]
  exact Finset.sum_congr rfl fun l _ => mul_comm _ _
theorem upW_mat (d : FVec Ideal S4096x2816 .bf16) (h : FVec Ideal S4096x1024 .bf16) :
    mat (upW d h : Arr 2816 1024) = tn (mat (d : Arr 4096 2816)) (mat (h : Arr 4096 1024)) := by
  funext i j
  pointwise [mat, upW, tn]

end Cert.Reference4Ideal.Mix

namespace Cert.Proof.Weights

open Idealize.ShloMosaic Idealize.ShloMosaic.TcCoe Idealize.SL.Sem Layer
open Cert.Kernel4Ideal.Gen (W3 mem_uc)
open Cert.Reference4Ideal.Mix (downW_mat upW_mat)
open Products (same)

/-- The frame of the reference. -/
theorem frame_reference : Cert.quiescent_Reference4Ideal := fun m ρ _ =>
  (θ_run Reference4Ideal.defs _ _).mono (fun r h => ⟨fun c => (h c).2.2.2, sem_eq_zero_of_no_sems (by decide) r.2⟩)
    (Reference4Ideal.Value.run (F := Ideal) m ρ)

/-- Both run, and end with the same three gradients. -/
theorem same_results : Cert.algebraic_Kernel4Ideal_Reference4Ideal := fun m ρ m' ρ' _ e =>
  ⟨fun c => W3 m ρ c (Proc.devRef .tc Kernel4Ideal.main_v0), fun c => W3 m ρ c (Proc.devRef .tc Kernel4Ideal.main_v1), fun c => W3 m ρ c (Proc.devRef .tc Kernel4Ideal.main_v2),
    (θ_run Kernel4Ideal.defs _ _).mono (fun _ k c =>
      ⟨k c _ (mem_uc Kernel4Ideal.main_v0 (by decide)), k c _ (mem_uc Kernel4Ideal.main_v1 (by decide)), k c _ (mem_uc Kernel4Ideal.main_v2 (by decide)),
        (k c _ (mem_uc Kernel4Ideal.main_arg0 (by decide))).trans (Kernel4Ideal.Gen.W3_main_arg0 m ρ c), (k c _ (mem_uc Kernel4Ideal.main_arg1 (by decide))).trans (Kernel4Ideal.Gen.W3_main_arg1 m ρ c),
        (k c _ (mem_uc Kernel4Ideal.main_arg2 (by decide))).trans (Kernel4Ideal.Gen.W3_main_arg2 m ρ c), (k c _ (mem_uc Kernel4Ideal.main_arg3 (by decide))).trans (Kernel4Ideal.Gen.W3_main_arg3 m ρ c),
        (k c _ (mem_uc Kernel4Ideal.main_arg4 (by decide))).trans (Kernel4Ideal.Gen.W3_main_arg4 m ρ c)⟩)
      (Kernel4Ideal.Mix.run_main (F := Ideal) m ρ),
    (θ_run Reference4Ideal.defs _ _).mono (fun _ k c =>
      ⟨(k c).1.trans (same tn (downW_mat _ _) (Kernel4Ideal.Mix.end0 m ρ c) (e c).1 (e c).2.1),
        (k c).2.1.trans (same tn (upW_mat _ _) (Kernel4Ideal.Mix.end1 m ρ c) (e c).2.2.2.1 (e c).2.2.1),
        (k c).2.2.1.trans (same tn (upW_mat _ _) (Kernel4Ideal.Mix.end2 m ρ c) (e c).2.2.2.2 (e c).2.2.1), (k c).2.2.2⟩)
      (Reference4Ideal.Value.run (F := Ideal) m' ρ')⟩

end Cert.Proof.Weights
-- ==== Proof.MixVal5.lean ====
module

public import proofs.«01_k».proof.Proof.Gen.Kernel5Ideal.Frame
public import Idealize.ShloMosaic.Lib.Pipeline.ValueKit
public import proofs.«01_k».proof.Proof.MixMath

/-!
# The weight gradients of the mixer's entry: each call leaves the product of the columns
-/

@[expose] public section

set_option maxRecDepth 16384
set_option maxHeartbeats 4000000

noncomputable section

namespace Cert.Kernel5Ideal.Mix

open Cert.Kernel5Ideal Cert.Kernel5Ideal.Gen Layer
open Idealize.ShloMosaic Idealize.ShloMosaic.TcCoe Idealize.ShloMosaic.Tactic
open Idealize.SL Idealize.SL.RA Idealize.SL.BI

variable (V : (c : Dev nD) → (b : Ref sig .tc) → Buf (Elt Ideal) ((c : Thread nD τ).loc b))

theorem idx0 : ∀ t : Fin cfg0.N, win0_0.index t = ![0, t.val] ∧ win0_1.index t = ![0, 0] ∧ win0_2.index t = ![t.val, 0] :=
  (by decide +kernel : ∀ t : Fin grid0.N, _)
theorem out0 (x0 : Vec Ideal S4096x512 .bf16) (x1 : Vec Ideal S4096x512 .bf16) :
    mat (out0_2 x0 x1 : Arr 512 512) = tn (mat (x0 : Arr 4096 512)) (mat (x1 : Arr 4096 512)) := by
  unfold out0_2 r0_0 r0_1
  rw [View.canon_cons_unit_lit _ _ _ (by decide), View.ld_unit_lit _ _ (by decide), View.ld_unit_lit _ _ (by decide)]
  funext i j
  pointwise [mat, k0_pay1, tn]
theorem val0 (c : Dev nD) : (dat0 V c).arrAt 2 cfg0.N = arr (tn (mat (V c main_arg0 : Arr 4096 1024)) (mat (V c main_arg1 : Arr 4096 512))) := by
  refine (dat0 V c).arrAt_eq_of_covers 2 _ (by decide +kernel) fun t hf y => ?_
  have ht : t.val < 2 := t.isLt
  obtain ⟨i, j, rfl⟩ : ∃ (a : Fin 512) (b : Fin 512), y = ix2 a b := ⟨y 0, y 1, eq_ix2 y⟩
  have e : ((cfg0.win 2).blk t).view.emb (ix2 i j) = ix2 ⟨512 * t.val + i.val, by omega⟩ j := by blk_ext [idx0 t]
  rw [e]
  blk_simp
  rw [after0_2]
  refine (congrFun (congrFun (out0 _ _) i) j).trans (tn_at (fun l => ?_) fun l => ?_) <;> unfold mat <;> blk_simp [iblk0]
  · exact congrArg (V c main_arg0) (by blk_ext [idx0 t])
  · exact congrArg (V c main_arg1) (by blk_ext [idx0 t])

theorem idx1 : ∀ t : Fin cfg1.N, win1_0.index t = ![0, t.val] ∧ win1_1.index t = ![0, 0] ∧ win1_2.index t = ![t.val, 0] :=
  (by decide +kernel : ∀ t : Fin grid1.N, _)
theorem val1 (c : Dev nD) : (dat1 V c).arrAt 2 cfg1.N = arr (tn (mat (V c main_arg0 : Arr 4096 1024)) (mat (V c main_arg2 : Arr 4096 512))) := by
  refine (dat1 V c).arrAt_eq_of_covers 2 _ (by decide +kernel) fun t hf y => ?_
  have ht : t.val < 2 := t.isLt
  obtain ⟨i, j, rfl⟩ : ∃ (a : Fin 512) (b : Fin 512), y = ix2 a b := ⟨y 0, y 1, eq_ix2 y⟩
  have e : ((cfg1.win 2).blk t).view.emb (ix2 i j) = ix2 ⟨512 * t.val + i.val, by omega⟩ j := by blk_ext [idx1 t]
  rw [e]
  blk_simp
  rw [after1_2]
  refine (congrFun (congrFun (out0 _ _) i) j).trans (tn_at (fun l => ?_) fun l => ?_) <;> unfold mat <;> blk_simp [iblk1]
  · exact congrArg (V c main_arg0) (by blk_ext [idx1 t])
  · exact congrArg (V c main_arg2) (by blk_ext [idx1 t])

theorem idx2 : ∀ t : Fin cfg2.N, win2_0.index t = ![0, t.val] ∧ win2_1.index t = ![0, 0] ∧ win2_2.index t = ![t.val, 0] :=
  (by decide +kernel : ∀ t : Fin grid2.N, _)
theorem val2 (c : Dev nD) : (dat2 V c).arrAt 2 cfg2.N = arr (tn (mat (V c main_arg0 : Arr 4096 1024)) (mat (V c main_arg3 : Arr 4096 512))) := by
  refine (dat2 V c).arrAt_eq_of_covers 2 _ (by decide +kernel) fun t hf y => ?_
  have ht : t.val < 2 := t.isLt
  obtain ⟨i, j, rfl⟩ : ∃ (a : Fin 512) (b : Fin 512), y = ix2 a b := ⟨y 0, y 1, eq_ix2 y⟩
  have e : ((cfg2.win 2).blk t).view.emb (ix2 i j) = ix2 ⟨512 * t.val + i.val, by omega⟩ j := by blk_ext [idx2 t]
  rw [e]
  blk_simp
  rw [after2_2]
  refine (congrFun (congrFun (out0 _ _) i) j).trans (tn_at (fun l => ?_) fun l => ?_) <;> unfold mat <;> blk_simp [iblk2]
  · exact congrArg (V c main_arg0) (by blk_ext [idx2 t])
  · exact congrArg (V c main_arg3) (by blk_ext [idx2 t])

theorem idx3 : ∀ t : Fin cfg3.N, win3_0.index t = ![0, t.val / 2] ∧ win3_1.index t = ![0, t.val % 2] ∧ win3_2.index t = ![t.val / 2, t.val % 2] :=
  (by decide +kernel : ∀ t : Fin grid3.N, _)
theorem out3 (x0 : Vec Ideal S4096x512 .bf16) (x1 : Vec Ideal S4096x768 .bf16) :
    mat (out3_2 x0 x1 : Arr 512 768) = tn (mat (x0 : Arr 4096 512)) (mat (x1 : Arr 4096 768)) := by
  unfold out3_2 r3_0 r3_1 r3_2
  rw [View.canon_cons_unit_lit _ _ _ (by decide), View.ld_unit_lit _ _ (by decide), View.ld_unit_lit _ _ (by decide)]
  funext i j
  pointwise [mat, k3_pay1, tn]
theorem val3 (c : Dev nD) : (dat3 V c).arrAt 2 cfg3.N = arr (tn (mat (V c main_arg0 : Arr 4096 1024)) (mat (V c main_arg4 : Arr 4096 1536))) := by
  refine (dat3 V c).arrAt_eq_of_covers 2 _ (by decide +kernel) fun t hf y => ?_
  have ht : t.val < 4 := t.isLt
  obtain ⟨i, j, rfl⟩ : ∃ (a : Fin 512) (b : Fin 768), y = ix2 a b := ⟨y 0, y 1, eq_ix2 y⟩
  have e : ((cfg3.win 2).blk t).view.emb (ix2 i j) = ix2 ⟨512 * (t.val / 2) + i.val, by omega⟩ ⟨768 * (t.val % 2) + j.val, by omega⟩ := by blk_ext [idx3 t]
  rw [e]
  blk_simp
  rw [after3_2]
  refine (congrFun (congrFun (out3 _ _) i) j).trans (tn_at (fun l => ?_) fun l => ?_) <;> unfold mat <;> blk_simp [iblk3]
  · exact congrArg (V c main_arg0) (by blk_ext [idx3 t])
  · exact congrArg (V c main_arg4) (by blk_ext [idx3 t])

theorem idx4 : ∀ t : Fin cfg4.N, win4_0.index t = ![0, t.val] ∧ win4_1.index t = ![0, 0] ∧ win4_2.index t = ![t.val, 0] :=
  (by decide +kernel : ∀ t : Fin grid4.N, _)
theorem val4 (c : Dev nD) : (dat4 V c).arrAt 2 cfg4.N = arr (tn (mat (V c main_arg0 : Arr 4096 1024)) (mat (V c main_arg5 : Arr 4096 512))) := by
  refine (dat4 V c).arrAt_eq_of_covers 2 _ (by decide +kernel) fun t hf y => ?_
  have ht : t.val < 2 := t.isLt
  obtain ⟨i, j, rfl⟩ : ∃ (a : Fin 512) (b : Fin 512), y = ix2 a b := ⟨y 0, y 1, eq_ix2 y⟩
  have e : ((cfg4.win 2).blk t).view.emb (ix2 i j) = ix2 ⟨512 * t.val + i.val, by omega⟩ j := by blk_ext [idx4 t]
  rw [e]
  blk_simp
  rw [after4_2]
  refine (congrFun (congrFun (out0 _ _) i) j).trans (tn_at (fun l => ?_) fun l => ?_) <;> unfold mat <;> blk_simp [iblk4]
  · exact congrArg (V c main_arg0) (by blk_ext [idx4 t])
  · exact congrArg (V c main_arg5) (by blk_ext [idx4 t])

theorem idx5 : ∀ t : Fin cfg5.N, win5_0.index t = ![0, t.val] ∧ win5_1.index t = ![0, 0] ∧ win5_2.index t = ![t.val, 0] :=
  (by decide +kernel : ∀ t : Fin grid5.N, _)
theorem out5 (x0 : Vec Ideal S4096x512 .bf16) (x1 : Vec Ideal S4096x128 .bf16) :
    mat (out5_2 x0 x1 : Arr 512 128) = tn (mat (x0 : Arr 4096 512)) (mat (x1 : Arr 4096 128)) := by
  unfold out5_2 r5_0 r5_1 r5_2
  rw [View.canon_cons_unit_lit _ _ _ (by decide), View.ld_unit_lit _ _ (by decide), View.ld_unit_lit _ _ (by decide)]
  funext i j
  pointwise [mat, k5_pay1, tn]
theorem val5 (c : Dev nD) : (dat5 V c).arrAt 2 cfg5.N = arr (tn (mat (V c main_arg0 : Arr 4096 1024)) (mat (V c main_arg6 : Arr 4096 128))) := by
  refine (dat5 V c).arrAt_eq_of_covers 2 _ (by decide +kernel) fun t hf y => ?_
  have ht : t.val < 2 := t.isLt
  obtain ⟨i, j, rfl⟩ : ∃ (a : Fin 512) (b : Fin 128), y = ix2 a b := ⟨y 0, y 1, eq_ix2 y⟩
  have e : ((cfg5.win 2).blk t).view.emb (ix2 i j) = ix2 ⟨512 * t.val + i.val, by omega⟩ j := by blk_ext [idx5 t]
  rw [e]
  blk_simp
  rw [after5_2]
  refine (congrFun (congrFun (out5 _ _) i) j).trans (tn_at (fun l => ?_) fun l => ?_) <;> unfold mat <;> blk_simp [iblk5]
  · exact congrArg (V c main_arg0) (by blk_ext [idx5 t])
  · exact congrArg (V c main_arg6) (by blk_ext [idx5 t])

end Cert.Kernel5Ideal.Mix
-- ==== Proof.MixRun5.lean ====
module

public import proofs.«01_k».proof.Proof.MixVal5

/-!
# The run of the six calls of the entry's weight gradients
-/

@[expose] public section

set_option maxRecDepth 16384

noncomputable section

namespace Cert.Kernel5Ideal.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion, which takes unfolding definitions in a type
set_option backward.isDefEq.respectTransparency.types false in
/-- Every execution ends, and each array ends at the contents after the last call. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c => h c)

end Cert.Kernel5Ideal.Mix
-- ==== Proof.MixFinal5.lean ====
module

public import proofs.«01_k».proof.Proof.Gen.Reference5Ideal.Run
public import proofs.«01_k».proof.Proof.MixRun5
public import proofs.«01_k».proof.Proof.FfnFinal

/-!
# The weight gradients of the mixer's entry: the calls and their reference leave the same six results
-/

@[expose] public section

set_option maxRecDepth 16384
set_option maxHeartbeats 4000000

noncomputable section

namespace Cert.Kernel5Ideal.Mix

open Cert.Kernel5Ideal Cert.Kernel5Ideal.Gen Layer
open Idealize.ShloMosaic Idealize.ShloMosaic.TcCoe

variable (m : (ℓ : Loc nD τ sig) → Buf (Elt Ideal) ℓ) (ρ : Dev nD → PrngReg) (c : Dev nD)

/-- An argument in memory. -/
abbrev A (b : Ref sig .tc) : Buf (Elt Ideal) ((c : Thread nD τ).loc b) := m ((c : Thread nD τ).loc b)

theorem end0 : W6 m ρ c (Proc.devRef .tc main_v0) = arr (tn (mat (A m c main_arg0 : Arr 4096 1024)) (mat (A m c main_arg1 : Arr 4096 512))) :=
  (W6_of_ne m ρ c main_v0 (by decide)).trans <| (W5_of_ne m ρ c main_v0 (by decide)).trans <| (W4_of_ne m ρ c main_v0 (by decide)).trans <|
  (W3_of_ne m ρ c main_v0 (by decide)).trans <| (W2_of_ne m ρ c main_v0 (by decide)).trans <| (W1_arr m ρ c 2).trans (val0 (V0 m ρ) c)
theorem end1 : W6 m ρ c (Proc.devRef .tc main_v1) = arr (tn (mat (A m c main_arg0 : Arr 4096 1024)) (mat (A m c main_arg2 : Arr 4096 512))) :=
  (W6_of_ne m ρ c main_v1 (by decide)).trans <| (W5_of_ne m ρ c main_v1 (by decide)).trans <| (W4_of_ne m ρ c main_v1 (by decide)).trans <|
  (W3_of_ne m ρ c main_v1 (by decide)).trans <| (W2_arr m ρ c 2).trans <| (val1 (V1 m ρ) c).trans <| by
    rw [show V1 m ρ c main_arg0 = A m c main_arg0 from W1_args m ρ c main_arg0 (by decide), show V1 m ρ c main_arg2 = A m c main_arg2 from W1_args m ρ c main_arg2 (by decide)]
theorem end2 : W6 m ρ c (Proc.devRef .tc main_v2) = arr (tn (mat (A m c main_arg0 : Arr 4096 1024)) (mat (A m c main_arg3 : Arr 4096 512))) :=
  (W6_of_ne m ρ c main_v2 (by decide)).trans <| (W5_of_ne m ρ c main_v2 (by decide)).trans <| (W4_of_ne m ρ c main_v2 (by decide)).trans <|
  (W3_arr m ρ c 2).trans <| (val2 (V2 m ρ) c).trans <| by
    rw [show V2 m ρ c main_arg0 = A m c main_arg0 from W2_args m ρ c main_arg0 (by decide), show V2 m ρ c main_arg3 = A m c main_arg3 from W2_args m ρ c main_arg3 (by decide)]
theorem end3 : W6 m ρ c (Proc.devRef .tc main_v3) = arr (tn (mat (A m c main_arg0 : Arr 4096 1024)) (mat (A m c main_arg4 : Arr 4096 1536))) :=
  (W6_of_ne m ρ c main_v3 (by decide)).trans <| (W5_of_ne m ρ c main_v3 (by decide)).trans <| (W4_arr m ρ c 2).trans <| (val3 (V3 m ρ) c).trans <| by
    rw [show V3 m ρ c main_arg0 = A m c main_arg0 from W3_args m ρ c main_arg0 (by decide), show V3 m ρ c main_arg4 = A m c main_arg4 from W3_args m ρ c main_arg4 (by decide)]
theorem end4 : W6 m ρ c (Proc.devRef .tc main_v4) = arr (tn (mat (A m c main_arg0 : Arr 4096 1024)) (mat (A m c main_arg5 : Arr 4096 512))) :=
  (W6_of_ne m ρ c main_v4 (by decide)).trans <| (W5_arr m ρ c 2).trans <| (val4 (V4 m ρ) c).trans <| by
    rw [show V4 m ρ c main_arg0 = A m c main_arg0 from W4_args m ρ c main_arg0 (by decide), show V4 m ρ c main_arg5 = A m c main_arg5 from W4_args m ρ c main_arg5 (by decide)]
theorem end5 : W6 m ρ c (Proc.devRef .tc main_v5) = arr (tn (mat (A m c main_arg0 : Arr 4096 1024)) (mat (A m c main_arg6 : Arr 4096 128))) :=
  (W6_arr m ρ c 2).trans <| (val5 (V5 m ρ) c).trans <| by
    rw [show V5 m ρ c main_arg0 = A m c main_arg0 from W5_args m ρ c main_arg0 (by decide), show V5 m ρ c main_arg6 = A m c main_arg6 from W5_args m ρ c main_arg6 (by decide)]

end Cert.Kernel5Ideal.Mix

namespace Cert.Reference5Ideal.Mix

open Cert.Reference5Ideal Cert.Reference5Ideal.Gen Layer
open Idealize.ShloMosaic Idealize.ShloMosaic.TcCoe Idealize.ShloMosaic.Tactic

variable (h : FVec Ideal S4096x1024 .bf16)

/-- The gradient of a weight, by its number of columns. -/
def g512 (ct : FVec Ideal S4096x512 .bf16) : FVec Ideal S1024x512 .bf16 := truncf .bf16 (transpose S1024x512 [1, 0] (Host.dotGeneral (F := Ideal)
  dot_S4096x512_S4096x1024_S512x1024_0_0_1_1_n_n none (extf .f32 ct bitsLt_bf16_f32) (extf .f32 h bitsLt_bf16_f32)) transposes_S512x1024_S1024x512_1_0) bitsLt_bf16_f32
def g1536 (ct : FVec Ideal S4096x1536 .bf16) : FVec Ideal S1024x1536 .bf16 := truncf .bf16 (transpose S1024x1536 [1, 0] (Host.dotGeneral (F := Ideal)
  dot_S4096x1536_S4096x1024_S1536x1024_0_0_1_1_n_n none (extf .f32 ct bitsLt_bf16_f32) (extf .f32 h bitsLt_bf16_f32)) transposes_S1536x1024_S1024x1536_1_0) bitsLt_bf16_f32
def g128 (ct : FVec Ideal S4096x128 .bf16) : FVec Ideal S1024x128 .bf16 := truncf .bf16 (transpose S1024x128 [1, 0] (Host.dotGeneral (F := Ideal)
  dot_S4096x128_S4096x1024_S128x1024_0_0_1_1_n_n none (extf .f32 ct bitsLt_bf16_f32) (extf .f32 h bitsLt_bf16_f32)) transposes_S128x1024_S1024x128_1_0) bitsLt_bf16_f32

theorem g512_mat (ct : FVec Ideal S4096x512 .bf16) : mat (g512 h ct : Arr 1024 512) = tn (mat (h : Arr 4096 1024)) (mat (ct : Arr 4096 512)) := by
  funext i j
  pointwise [mat, g512, tn]
  exact Finset.sum_congr rfl fun l _ => mul_comm _ _
theorem g1536_mat (ct : FVec Ideal S4096x1536 .bf16) : mat (g1536 h ct : Arr 1024 1536) = tn (mat (h : Arr 4096 1024)) (mat (ct : Arr 4096 1536)) := by
  funext i j
  pointwise [mat, g1536, tn]
  exact Finset.sum_congr rfl fun l _ => mul_comm _ _
theorem g128_mat (ct : FVec Ideal S4096x128 .bf16) : mat (g128 h ct : Arr 1024 128) = tn (mat (h : Arr 4096 1024)) (mat (ct : Arr 4096 128)) := by
  funext i j
  pointwise [mat, g128, tn]
  exact Finset.sum_congr rfl fun l _ => mul_comm _ _

end Cert.Reference5Ideal.Mix

namespace Cert.Proof.Entry

open Idealize.ShloMosaic Idealize.ShloMosaic.TcCoe Idealize.SL.Sem Layer
open Cert.Kernel5Ideal.Gen (W6 mem_uc)
open Cert.Reference5Ideal.Mix (g512 g1536 g128 g512_mat g1536_mat g128_mat)
open Ffn (eq_of_mat)

/-- The frame of the reference. -/
theorem frame_reference : Cert.quiescent_Reference5Ideal := fun m ρ _ =>
  (θ_run Reference5Ideal.defs _ _).mono (fun r h => ⟨fun c => (h c).2.2.2.2.2.2, sem_eq_zero_of_no_sems (by decide) r.2⟩)
    (Reference5Ideal.Value.run (F := Ideal) m ρ)

/-- An array that the reference and the calls compute from equal factors is the same. -/
theorem same {n : ℕ} {x y : Arr 1024 n} {a a' : Arr 4096 1024} {b b' : Arr 4096 n} (hx : mat x = tn (mat a') (mat b')) (hy : y = arr (tn (mat a) (mat b)))
    (ea : a' = a) (eb : b' = b) : x = y := by
  rw [hy, ← ea, ← eb]
  exact eq_of_mat hx

/-- Both run, and end with the same six gradients. -/
theorem same_results : Cert.algebraic_Kernel5Ideal_Reference5Ideal := fun m ρ m' ρ' _ e =>
  ⟨fun c => W6 m ρ c (Proc.devRef .tc Kernel5Ideal.main_v0), fun c => W6 m ρ c (Proc.devRef .tc Kernel5Ideal.main_v1), fun c => W6 m ρ c (Proc.devRef .tc Kernel5Ideal.main_v2),
    fun c => W6 m ρ c (Proc.devRef .tc Kernel5Ideal.main_v3), fun c => W6 m ρ c (Proc.devRef .tc Kernel5Ideal.main_v4), fun c => W6 m ρ c (Proc.devRef .tc Kernel5Ideal.main_v5),
    (θ_run Kernel5Ideal.defs _ _).mono (fun _ k c =>
      ⟨k c _ (mem_uc Kernel5Ideal.main_v0 (by decide)), k c _ (mem_uc Kernel5Ideal.main_v1 (by decide)), k c _ (mem_uc Kernel5Ideal.main_v2 (by decide)),
        k c _ (mem_uc Kernel5Ideal.main_v3 (by decide)), k c _ (mem_uc Kernel5Ideal.main_v4 (by decide)), k c _ (mem_uc Kernel5Ideal.main_v5 (by decide)),
        (k c _ (mem_uc Kernel5Ideal.main_arg0 (by decide))).trans (Kernel5Ideal.Gen.W6_main_arg0 m ρ c), (k c _ (mem_uc Kernel5Ideal.main_arg1 (by decide))).trans (Kernel5Ideal.Gen.W6_main_arg1 m ρ c),
        (k c _ (mem_uc Kernel5Ideal.main_arg2 (by decide))).trans (Kernel5Ideal.Gen.W6_main_arg2 m ρ c), (k c _ (mem_uc Kernel5Ideal.main_arg3 (by decide))).trans (Kernel5Ideal.Gen.W6_main_arg3 m ρ c),
        (k c _ (mem_uc Kernel5Ideal.main_arg4 (by decide))).trans (Kernel5Ideal.Gen.W6_main_arg4 m ρ c), (k c _ (mem_uc Kernel5Ideal.main_arg5 (by decide))).trans (Kernel5Ideal.Gen.W6_main_arg5 m ρ c),
        (k c _ (mem_uc Kernel5Ideal.main_arg6 (by decide))).trans (Kernel5Ideal.Gen.W6_main_arg6 m ρ c)⟩)
      (Kernel5Ideal.Mix.run_main (F := Ideal) m ρ),
    (θ_run Reference5Ideal.defs _ _).mono (fun _ k c =>
      ⟨(k c).1.trans (same (g512_mat _ _) (Kernel5Ideal.Mix.end0 m ρ c) (e c).1 (e c).2.1),
        (k c).2.1.trans (same (g512_mat _ _) (Kernel5Ideal.Mix.end1 m ρ c) (e c).1 (e c).2.2.1),
        (k c).2.2.1.trans (same (g512_mat _ _) (Kernel5Ideal.Mix.end2 m ρ c) (e c).1 (e c).2.2.2.1),
        (k c).2.2.2.1.trans (same (g1536_mat _ _) (Kernel5Ideal.Mix.end3 m ρ c) (e c).1 (e c).2.2.2.2.1),
        (k c).2.2.2.2.1.trans (same (g512_mat _ _) (Kernel5Ideal.Mix.end4 m ρ c) (e c).1 (e c).2.2.2.2.2.1),
        (k c).2.2.2.2.2.1.trans (same (g128_mat _ _) (Kernel5Ideal.Mix.end5 m ρ c) (e c).1 (e c).2.2.2.2.2.2), (k c).2.2.2.2.2.2⟩)
      (Reference5Ideal.Value.run (F := Ideal) m' ρ')⟩

end Cert.Proof.Entry
-- ==== Proof.NormVal7.lean ====
module

public import proofs.«01_k».proof.Proof.Gen.Kernel7Ideal.Frame
public import Idealize.ShloMosaic.Lib.Pipeline.ValueKit
public import proofs.«01_k».proof.Proof.FfnMath

/-!
# The first layer's down product with its residual and the norm that follows: what the call leaves
-/

@[expose] public section

set_option maxRecDepth 16384
set_option maxHeartbeats 4000000

noncomputable section

namespace Cert.Kernel7Ideal.Down

open Cert.Kernel7Ideal Cert.Kernel7Ideal.Gen Layer
open Idealize.ShloMosaic Idealize.ShloMosaic.TcCoe Idealize.ShloMosaic.Tactic
open Idealize.SL Idealize.SL.RA Idealize.SL.BI

/-- The layer's output. -/
def res {a k b : ℕ} (h : M a k) (w : M k b) (x : M a b) : M a b := fun i j => x i j + half * nn h w i j

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)
theorem blk0 (c : Dev nD) (t : Fin cfg0.N) (ht : t.val < 8) : mat (iblk m c 0 t : Arr 512 2816)
    = fun i j => mat (V m c main_arg0 : Arr 4096 2816) ⟨512 * t.val + i.val, by omega⟩ j := by
  funext i j
  unfold mat
  blk_simp [iblk]
  refine congrArg (V m c main_arg0) ?_
  blk_ext [idx t]
theorem blk1 (c : Dev nD) (t : Fin cfg0.N) : mat (iblk m c 1 t : Arr 2816 1024) = mat (V m c main_arg1 : Arr 2816 1024) := by
  funext i j
  unfold mat
  blk_simp [iblk]
  refine congrArg (V m c main_arg1) ?_
  blk_ext [idx t]
theorem blk2 (c : Dev nD) (t : Fin cfg0.N) (ht : t.val < 8) : mat (iblk m c 2 t : Arr 512 1024)
    = fun i j => mat (V m c main_arg2 : Arr 4096 1024) ⟨512 * t.val + i.val, by omega⟩ j := by
  funext i j
  unfold mat
  blk_simp [iblk]
  refine congrArg (V m c main_arg2) ?_
  blk_ext [idx t]
theorem blk3 (c : Dev nD) (t : Fin cfg0.N) : mat (iblk m c 3 t : Arr 1 1024) = mat (V m c main_arg3 : Arr 1 1024) := by
  funext i j
  unfold mat
  blk_simp [iblk]
  refine congrArg (V m c main_arg3) ?_
  blk_ext [idx t]

theorem pay_res (x0 : Vec Ideal S512x2816 .bf16) (x1 : Vec Ideal S2816x1024 .bf16) (x2 : Vec Ideal S512x1024 .f32) :
    mat (k0_pay1 x0 x1 x2 : Arr 512 1024) = res (mat (x0 : Arr 512 2816)) (mat (x1 : Arr 2816 1024)) (mat (x2 : Arr 512 1024)) := by
  funext i j
  pointwise [mat, k0_pay1, res, nn, half]
theorem pay_nrm (x0 : Vec Ideal S512x2816 .bf16) (x1 : Vec Ideal S2816x1024 .bf16) (x2 : Vec Ideal S512x1024 .f32) (x3 : Vec Ideal S1x1024 .f32) :
    mat (k0_pay2 x0 x1 x2 x3 : Arr 512 1024) = nrm (mat (k0_pay1 x0 x1 x2 : Arr 512 1024)) (mat (x3 : Arr 1 1024)) := by
  funext i j
  pointwise [mat, k0_pay2, nrm, rr, Layer.nD, eps]
theorem out_res (x0 : Vec Ideal S512x2816 .bf16) (x1 : Vec Ideal S2816x1024 .bf16) (x2 : Vec Ideal S512x1024 .f32) (x3 : Vec Ideal S1x1024 .f32) :
    mat (out0_4 x0 x1 x2 x3 : Arr 512 1024) = res (mat (x0 : Arr 512 2816)) (mat (x1 : Arr 2816 1024)) (mat (x2 : Arr 512 1024)) := by
  unfold out0_4 r0_0 r0_1 r0_2
  rw [View.canon_cons_unit_lit _ _ _ (by decide), View.ld_unit_lit _ _ (by decide), View.ld_unit_lit _ _ (by decide), View.ld_unit_lit _ _ (by decide)]
  exact pay_res _ _ _
theorem out_nrm (x0 : Vec Ideal S512x2816 .bf16) (x1 : Vec Ideal S2816x1024 .bf16) (x2 : Vec Ideal S512x1024 .f32) (x3 : Vec Ideal S1x1024 .f32) :
    mat (out0_5 x0 x1 x2 x3 : Arr 512 1024) = nrm (res (mat (x0 : Arr 512 2816)) (mat (x1 : Arr 2816 1024)) (mat (x2 : Arr 512 1024))) (mat (x3 : Arr 1 1024)) := by
  unfold out0_5 r0_0 r0_1 r0_2 r0_3
  rw [View.canon_cons_unit_lit _ _ _ (by decide), View.ld_unit_lit _ _ (by decide), View.ld_unit_lit _ _ (by decide), View.ld_unit_lit _ _ (by decide), View.ld_unit_lit _ _ (by decide)]
  rw [pay_nrm, pay_res]

theorem res_val (c : Dev nD) : (dats m 0 c).arrAt 4 cfg0.N
    = arr (res (mat (V m c main_arg0 : Arr 4096 2816)) (mat (V m c main_arg1 : Arr 2816 1024)) (mat (V m c main_arg2 : Arr 4096 1024))) := by
  refine (dats m 0 c).arrAt_eq_of_covers 4 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg0.win 4).blk t).view.emb (ix2 i j) = ix2 ⟨512 * t.val + i.val, by omega⟩ j := by blk_ext [idx t]
  refine Eq.trans ?_ (congrArg _ e).symm
  blk_simp
  rw [after0_4]
  refine (congrFun (congrFun (out_res _ _ _ _) i) j).trans ?_
  rw [blk0 m c t ht, blk1 m c t, blk2 m c t ht]
  rfl
theorem nrm_val (c : Dev nD) : (dats m 0 c).arrAt 5 cfg0.N
    = arr (nrm (res (mat (V m c main_arg0 : Arr 4096 2816)) (mat (V m c main_arg1 : Arr 2816 1024)) (mat (V m c main_arg2 : Arr 4096 1024))) (mat (V m c main_arg3 : Arr 1 1024))) := by
  refine (dats m 0 c).arrAt_eq_of_covers 5 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg0.win 5).blk t).view.emb (ix2 i j) = ix2 ⟨512 * t.val + i.val, by omega⟩ j := by blk_ext [idx t]
  refine Eq.trans ?_ (congrArg _ e).symm
  blk_simp
  rw [after0_5]
  refine (congrFun (congrFun (out_nrm _ _ _ _) i) j).trans ?_
  rw [blk0 m c t ht, blk1 m c t, blk2 m c t ht, blk3 m c t]
  rfl

end Cert.Kernel7Ideal.Down
-- ==== Proof.NormFinal7.lean ====
module

public import proofs.«01_k».proof.Proof.Gen.Reference7Ideal.Run
public import proofs.«01_k».proof.Proof.NormVal7
public import proofs.«01_k».proof.Proof.FfnFinal

/-!
# The first layer's down product with its norm: the call and its reference leave the same two results
-/

@[expose] public section

set_option maxRecDepth 16384
set_option maxHeartbeats 4000000

noncomputable section

namespace Cert.Reference7Ideal.Down

open Cert.Reference7Ideal Cert.Reference7Ideal.Gen Layer
open Idealize.ShloMosaic Idealize.ShloMosaic.TcCoe Idealize.ShloMosaic.Tactic

/-- The layer's output and its norm, as the reference computes them. -/
def resA (a : FVec Ideal S4096x2816 .bf16) (w : FVec Ideal S2816x1024 .bf16) (x : FVec Ideal S4096x1024 .f32) : FVec Ideal S4096x1024 .f32 :=
  addf x (mulf (broadcastInDim S4096x1024 ![] bcast_S_S4096x1024 (constant S_ .f32 0x3F000000#32))
    (Host.dotGeneral (F := Ideal) dot_S4096x2816_S2816x1024_S4096x1024_1_0_0_1_n_n none (extf .f32 a bitsLt_bf16_f32) (extf .f32 w bitsLt_bf16_f32)))
def nrmA (y : FVec Ideal S4096x1024 .f32) (g : FVec Ideal S1x1024 .f32) : FVec Ideal S4096x1024 .bf16 :=
  truncf .bf16 (mulf (mulf y (broadcastInDim S4096x1024 ![0, 1] bcast_S4096x1_S4096x1024_0_1 (Host.rsqrt (addf (Host.divf
    (broadcastInDim S4096x1 ![0] bcast_S4096_S4096x1_0 (Host.reduceAdd (mulf y y) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 g)) bitsLt_bf16_f32

theorem resA_mat (a : FVec Ideal S4096x2816 .bf16) (w : FVec Ideal S2816x1024 .bf16) (x : FVec Ideal S4096x1024 .f32) :
    mat (resA a w x : Arr 4096 1024) = Kernel7Ideal.Down.res (mat (a : Arr 4096 2816)) (mat (w : Arr 2816 1024)) (mat (x : Arr 4096 1024)) := by
  funext i j
  pointwise [mat, resA, Kernel7Ideal.Down.res, nn, half]
theorem nrmA_mat (y : FVec Ideal S4096x1024 .f32) (g : FVec Ideal S1x1024 .f32) :
    mat (nrmA y g : Arr 4096 1024) = nrm (mat (y : Arr 4096 1024)) (mat (g : Arr 1 1024)) := by
  funext i j
  pointwise [mat, nrmA, nrm, rr, Layer.nD, eps]

end Cert.Reference7Ideal.Down

namespace Cert.Proof.Down

open Idealize.ShloMosaic Idealize.ShloMosaic.TcCoe Idealize.SL.Sem Layer
open Cert.Kernel7Ideal.Gen (V dats)
open Ffn (eq_of_mat)

/-- The frame of the reference. -/
theorem frame_reference : Cert.quiescent_Reference7Ideal := fun m ρ _ =>
  (θ_run Reference7Ideal.defs _ _).mono (fun r h => ⟨fun c => (h c).2.2, sem_eq_zero_of_no_sems (by decide) r.2⟩)
    (Reference7Ideal.Value.run (F := Ideal) m ρ)

section
variable (m : (ℓ : Loc Kernel7Ideal.nD Kernel7Ideal.τ Kernel7Ideal.sig) → Buf (Elt Ideal) ℓ) (c : Dev Kernel7Ideal.nD)
  (a : FVec Ideal Reference7Ideal.S4096x2816 .bf16) (w : FVec Ideal Reference7Ideal.S2816x1024 .bf16)
  (x : FVec Ideal Reference7Ideal.S4096x1024 .f32) (g : FVec Ideal Reference7Ideal.S1x1024 .f32)
  (ha : mat (a : Arr 4096 2816) = mat (V m c Kernel7Ideal.main_arg0 : Arr 4096 2816)) (hw : mat (w : Arr 2816 1024) = mat (V m c Kernel7Ideal.main_arg1 : Arr 2816 1024))
  (hx : mat (x : Arr 4096 1024) = mat (V m c Kernel7Ideal.main_arg2 : Arr 4096 1024)) (hg : mat (g : Arr 1 1024) = mat (V m c Kernel7Ideal.main_arg3 : Arr 1 1024))
include ha hw hx

theorem res_same : (Reference7Ideal.Down.resA a w x : Arr 4096 1024) = (dats m 0 c).arrAt 4 Kernel7Ideal.cfg0.N := by
  refine Eq.trans (eq_of_mat ?_) (Kernel7Ideal.Down.res_val m c).symm
  rw [Reference7Ideal.Down.resA_mat, ha, hw, hx, mat_arr]
include hg in
theorem nrm_same : (Reference7Ideal.Down.nrmA (Reference7Ideal.Down.resA a w x) g : Arr 4096 1024) = (dats m 0 c).arrAt 5 Kernel7Ideal.cfg0.N := by
  refine Eq.trans (eq_of_mat ?_) (Kernel7Ideal.Down.nrm_val m c).symm
  rw [Reference7Ideal.Down.nrmA_mat, Reference7Ideal.Down.resA_mat, ha, hw, hx, hg, mat_arr]

end

/-- An argument is left as it was. -/
theorem kept {m : (ℓ : Loc Kernel7Ideal.nD Kernel7Ideal.τ Kernel7Ideal.sig) → Buf (Elt Ideal) ℓ} {s} (c : Dev Kernel7Ideal.nD)
    (h : Pipeline.FramePost Kernel7Ideal.cfgs (dats m) 0 (V m) s) (w : Fin Kernel7Ideal.cfg0.W) (hw : (Kernel7Ideal.cfg0.win w).isOut = false) :
    s.2.mem ((Kernel7Ideal.spec0 w).arr.view.loc (c.tc : Thread Kernel7Ideal.nD Kernel7Ideal.τ)) = V m c (Pipeline.arrRef Kernel7Ideal.spec0 w) :=
  ((h c).1 w).trans (((dats m 0 c).arrAt_in w hw _).trans (Kernel7Ideal.Gen.A_eq m c w))

/-- Both run, and end with the same output and the same norm. -/
theorem same_results : Cert.algebraic_Kernel7Ideal_Reference7Ideal := fun m ρ m' ρ' _ e =>
  ⟨fun c => (dats m 0 c).arrAt 4 Kernel7Ideal.cfg0.N, fun c => (dats m 0 c).arrAt 5 Kernel7Ideal.cfg0.N,
    (θ_run Kernel7Ideal.defs _ _).mono (fun _ k c => ⟨(k c).1 4, (k c).1 5, kept c k 0 rfl, kept c k 1 rfl, kept c k 2 rfl, kept c k 3 rfl⟩)
      (Kernel7Ideal.Gen.run_main (F := Ideal) m ρ),
    (θ_run Reference7Ideal.defs _ _).mono (fun _ k c =>
      have ea := congrArg (fun z : Arr 4096 2816 => mat z) (e c).1
      have ew := congrArg (fun z : Arr 2816 1024 => mat z) (e c).2.1
      have ex := congrArg (fun z : Arr 4096 1024 => mat z) (e c).2.2.1
      have eg := congrArg (fun z : Arr 1 1024 => mat z) (e c).2.2.2
      ⟨(k c).1.trans (res_same m c _ _ _ ea ew ex), (k c).2.1.trans (nrm_same m c _ _ _ _ ea ew ex eg), (k c).2.2⟩)
      (Reference7Ideal.Value.run (F := Ideal) m' ρ')⟩

end Cert.Proof.Down
-- ==== Proof.NormVal8.lean ====
module

public import proofs.«01_k».proof.Proof.Gen.Kernel8Ideal.Frame
public import Idealize.ShloMosaic.Lib.Pipeline.ValueKit
public import proofs.«01_k».proof.Proof.FfnMath

/-!
# The mixer's exit with its residual and the norm that follows: what the call leaves
-/

@[expose] public section

set_option maxRecDepth 16384
set_option maxHeartbeats 4000000

noncomputable section

namespace Cert.Kernel8Ideal.Exit

open Cert.Kernel8Ideal Cert.Kernel8Ideal.Gen Layer
open Idealize.ShloMosaic Idealize.ShloMosaic.TcCoe Idealize.ShloMosaic.Tactic
open Idealize.SL Idealize.SL.RA Idealize.SL.BI

/-- The mixer's output: the input and the two branches' products. -/
def res {a k b : ℕ} (p q : M a k) (v w : M k b) (x : M a b) : M a b := fun i j => x i j + (nn p v i j + nn q w i j)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] ∧ win0_7.index t = ![t.val, 0] :=
  (by decide +kernel : ∀ t : Fin grid0.N, _)
theorem blk0 (c : Dev nD) (t : Fin cfg0.N) (ht : t.val < 8) : mat (iblk m c 0 t : Arr 512 512)
    = fun i j => mat (V m c main_arg0 : Arr 4096 512) ⟨512 * t.val + i.val, by omega⟩ j := by
  funext i j
  unfold mat
  blk_simp [iblk]
  exact congrArg (V m c main_arg0) (by blk_ext [idx t])
theorem blk1 (c : Dev nD) (t : Fin cfg0.N) (ht : t.val < 8) : mat (iblk m c 1 t : Arr 512 512)
    = fun i j => mat (V m c main_arg1 : Arr 4096 512) ⟨512 * t.val + i.val, by omega⟩ j := by
  funext i j
  unfold mat
  blk_simp [iblk]
  exact congrArg (V m c main_arg1) (by blk_ext [idx t])
theorem blk2 (c : Dev nD) (t : Fin cfg0.N) : mat (iblk m c 2 t : Arr 512 1024) = mat (V m c main_arg2 : Arr 512 1024) := by
  funext i j
  unfold mat
  blk_simp [iblk]
  exact congrArg (V m c main_arg2) (by blk_ext [idx t])
theorem blk3 (c : Dev nD) (t : Fin cfg0.N) : mat (iblk m c 3 t : Arr 512 1024) = mat (V m c main_arg3 : Arr 512 1024) := by
  funext i j
  unfold mat
  blk_simp [iblk]
  exact congrArg (V m c main_arg3) (by blk_ext [idx t])
theorem blk4 (c : Dev nD) (t : Fin cfg0.N) (ht : t.val < 8) : mat (iblk m c 4 t : Arr 512 1024)
    = fun i j => mat (V m c main_arg4 : Arr 4096 1024) ⟨512 * t.val + i.val, by omega⟩ j := by
  funext i j
  unfold mat
  blk_simp [iblk]
  exact congrArg (V m c main_arg4) (by blk_ext [idx t])
theorem blk5 (c : Dev nD) (t : Fin cfg0.N) : mat (iblk m c 5 t : Arr 1 1024) = mat (V m c main_arg5 : Arr 1 1024) := by
  funext i j
  unfold mat
  blk_simp [iblk]
  exact congrArg (V m c main_arg5) (by blk_ext [idx t])

section
variable (x0 x1 : Vec Ideal S512x512 .bf16) (x2 x3 : Vec Ideal S512x1024 .bf16) (x4 : Vec Ideal S512x1024 .f32) (x5 : Vec Ideal S1x1024 .f32)

theorem pay_res : mat (k0_pay1 x0 x2 x1 x3 x4 : Arr 512 1024)
    = res (mat (x0 : Arr 512 512)) (mat (x1 : Arr 512 512)) (mat (x2 : Arr 512 1024)) (mat (x3 : Arr 512 1024)) (mat (x4 : Arr 512 1024)) := by
  funext i j
  pointwise [mat, k0_pay1, res, nn]
theorem pay_nrm : mat (k0_pay2 x0 x2 x1 x3 x4 x5 : Arr 512 1024) = nrm (mat (k0_pay1 x0 x2 x1 x3 x4 : Arr 512 1024)) (mat (x5 : Arr 1 1024)) := by
  funext i j
  pointwise [mat, k0_pay2, nrm, rr, Layer.nD, eps]
theorem out_res : mat (out0_6 x0 x1 x2 x3 x4 x5 : Arr 512 1024)
    = res (mat (x0 : Arr 512 512)) (mat (x1 : Arr 512 512)) (mat (x2 : Arr 512 1024)) (mat (x3 : Arr 512 1024)) (mat (x4 : Arr 512 1024)) := by
  unfold out0_6 r0_0 r0_1
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  exact pay_res _ _ _ _ _
theorem out_nrm : mat (out0_7 x0 x1 x2 x3 x4 x5 : Arr 512 1024)
    = nrm (res (mat (x0 : Arr 512 512)) (mat (x1 : Arr 512 512)) (mat (x2 : Arr 512 1024)) (mat (x3 : Arr 512 1024)) (mat (x4 : Arr 512 1024))) (mat (x5 : Arr 1 1024)) := by
  unfold out0_7 r0_0 r0_1 r0_2
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  rw [pay_nrm, pay_res]
end

/-- The mixer's output from the arguments in memory. -/
abbrev resM (c : Dev nD) : M 4096 1024 := res (mat (V m c main_arg0 : Arr 4096 512)) (mat (V m c main_arg1 : Arr 4096 512)) (mat (V m c main_arg2 : Arr 512 1024))
  (mat (V m c main_arg3 : Arr 512 1024)) (mat (V m c main_arg4 : Arr 4096 1024))

theorem res_val (c : Dev nD) : (dats m 0 c).arrAt 6 cfg0.N = arr (resM m c) := by
  refine (dats m 0 c).arrAt_eq_of_covers 6 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg0.win 6).blk t).view.emb (ix2 i j) = ix2 ⟨512 * t.val + i.val, by omega⟩ j := by blk_ext [idx t]
  refine Eq.trans ?_ (congrArg _ e).symm
  blk_simp
  rw [after0_6]
  refine (congrFun (congrFun (out_res _ _ _ _ _ _) i) j).trans ?_
  rw [blk0 m c t ht, blk1 m c t ht, blk2 m c t, blk3 m c t, blk4 m c t ht]
  rfl
theorem nrm_val (c : Dev nD) : (dats m 0 c).arrAt 7 cfg0.N = arr (nrm (resM m c) (mat (V m c main_arg5 : Arr 1 1024))) := by
  refine (dats m 0 c).arrAt_eq_of_covers 7 _ (by decide +kernel) fun t hf y => ?_
  have ht : t.val < 8 := t.isLt
  obtain ⟨i, j, rfl⟩ : ∃ (a : Fin 512) (b : Fin 1024), y = ix2 a b := ⟨y 0, y 1, eq_ix2 y⟩
  have e : ((cfg0.win 7).blk t).view.emb (ix2 i j) = ix2 ⟨512 * t.val + i.val, by omega⟩ j := by blk_ext [idx t]
  refine Eq.trans ?_ (congrArg _ e).symm
  blk_simp
  rw [after0_7]
  refine (congrFun (congrFun (out_nrm _ _ _ _ _ _) i) j).trans ?_
  rw [blk0 m c t ht, blk1 m c t ht, blk2 m c t, blk3 m c t, blk4 m c t ht, blk5 m c t]
  rfl

end Cert.Kernel8Ideal.Exit
-- ==== Proof.NormFinal8.lean ====
module

public import proofs.«01_k».proof.Proof.Gen.Reference8Ideal.Run
public import proofs.«01_k».proof.Proof.NormVal8
public import proofs.«01_k».proof.Proof.NormFinal7

/-!
# The mixer's exit with its norm: the call and its reference leave the same two results
-/

@[expose] public section

set_option maxRecDepth 16384
set_option maxHeartbeats 4000000

noncomputable section

namespace Cert.Reference8Ideal.Exit

open Cert.Reference8Ideal Cert.Reference8Ideal.Gen Layer
open Idealize.ShloMosaic Idealize.ShloMosaic.TcCoe Idealize.ShloMosaic.Tactic

/-- The mixer's output, as the reference computes it. -/
def resA (p q : FVec Ideal S4096x512 .bf16) (v w : FVec Ideal S512x1024 .bf16) (x : FVec Ideal S4096x1024 .f32) : FVec Ideal S4096x1024 .f32 :=
  addf x (addf (Host.dotGeneral (F := Ideal) dot_S4096x512_S512x1024_S4096x1024_1_0_0_1_n_n none (extf .f32 p bitsLt_bf16_f32) (extf .f32 v bitsLt_bf16_f32))
    (Host.dotGeneral (F := Ideal) dot_S4096x512_S512x1024_S4096x1024_1_0_0_1_n_n none (extf .f32 q bitsLt_bf16_f32) (extf .f32 w bitsLt_bf16_f32)))

theorem resA_mat (p q : FVec Ideal S4096x512 .bf16) (v w : FVec Ideal S512x1024 .bf16) (x : FVec Ideal S4096x1024 .f32) :
    mat (resA p q v w x : Arr 4096 1024)
      = Kernel8Ideal.Exit.res (mat (p : Arr 4096 512)) (mat (q : Arr 4096 512)) (mat (v : Arr 512 1024)) (mat (w : Arr 512 1024)) (mat (x : Arr 4096 1024)) := by
  funext i j
  pointwise [mat, resA, Kernel8Ideal.Exit.res, nn]

end Cert.Reference8Ideal.Exit

namespace Cert.Proof.Exit

open Idealize.ShloMosaic Idealize.ShloMosaic.TcCoe Idealize.SL.Sem Layer
open Cert.Kernel8Ideal.Gen (V dats)
open Ffn (eq_of_mat)

/-- The frame of the reference. -/
theorem frame_reference : Cert.quiescent_Reference8Ideal := fun m ρ _ =>
  (θ_run Reference8Ideal.defs _ _).mono (fun r h => ⟨fun c => (h c).2.2, sem_eq_zero_of_no_sems (by decide) r.2⟩)
    (Reference8Ideal.Value.run (F := Ideal) m ρ)

section
variable (m : (ℓ : Loc Kernel8Ideal.nD Kernel8Ideal.τ Kernel8Ideal.sig) → Buf (Elt Ideal) ℓ) (c : Dev Kernel8Ideal.nD)
  (p q : FVec Ideal Reference8Ideal.S4096x512 .bf16) (v w : FVec Ideal Reference8Ideal.S512x1024 .bf16)
  (x : FVec Ideal Reference8Ideal.S4096x1024 .f32) (g : FVec Ideal Reference8Ideal.S1x1024 .f32)
  (hp : mat (p : Arr 4096 512) = mat (V m c Kernel8Ideal.main_arg0 : Arr 4096 512)) (hq : mat (q : Arr 4096 512) = mat (V m c Kernel8Ideal.main_arg1 : Arr 4096 512))
  (hv : mat (v : Arr 512 1024) = mat (V m c Kernel8Ideal.main_arg2 : Arr 512 1024)) (hw : mat (w : Arr 512 1024) = mat (V m c Kernel8Ideal.main_arg3 : Arr 512 1024))
  (hx : mat (x : Arr 4096 1024) = mat (V m c Kernel8Ideal.main_arg4 : Arr 4096 1024)) (hg : mat (g : Arr 1 1024) = mat (V m c Kernel8Ideal.main_arg5 : Arr 1 1024))
include hp hq hv hw hx

theorem res_same : (Reference8Ideal.Exit.resA p q v w x : Arr 4096 1024) = (dats m 0 c).arrAt 6 Kernel8Ideal.cfg0.N := by
  refine Eq.trans (eq_of_mat ?_) (Kernel8Ideal.Exit.res_val m c).symm
  rw [Reference8Ideal.Exit.resA_mat, hp, hq, hv, hw, hx, mat_arr]
include hg in
theorem nrm_same : (Reference7Ideal.Down.nrmA (Reference8Ideal.Exit.resA p q v w x) g : Arr 4096 1024) = (dats m 0 c).arrAt 7 Kernel8Ideal.cfg0.N := by
  refine Eq.trans (eq_of_mat ?_) (Kernel8Ideal.Exit.nrm_val m c).symm
  refine (Reference7Ideal.Down.nrmA_mat _ _).trans ?_
  rw [hg, mat_arr]
  exact congrArg (nrm · _) ((Reference8Ideal.Exit.resA_mat _ _ _ _ _).trans (by rw [hp, hq, hv, hw, hx]))

end

/-- An argument is left as it was. -/
theorem kept {m : (ℓ : Loc Kernel8Ideal.nD Kernel8Ideal.τ Kernel8Ideal.sig) → Buf (Elt Ideal) ℓ} {s} (c : Dev Kernel8Ideal.nD)
    (h : Pipeline.FramePost Kernel8Ideal.cfgs (dats m) 0 (V m) s) (w : Fin Kernel8Ideal.cfg0.W) (hw : (Kernel8Ideal.cfg0.win w).isOut = false) :
    s.2.mem ((Kernel8Ideal.spec0 w).arr.view.loc (c.tc : Thread Kernel8Ideal.nD Kernel8Ideal.τ)) = V m c (Pipeline.arrRef Kernel8Ideal.spec0 w) :=
  ((h c).1 w).trans (((dats m 0 c).arrAt_in w hw _).trans (Kernel8Ideal.Gen.A_eq m c w))

/-- Both run, and end with the same output and the same norm. -/
theorem same_results : Cert.algebraic_Kernel8Ideal_Reference8Ideal := fun m ρ m' ρ' _ e =>
  ⟨fun c => (dats m 0 c).arrAt 6 Kernel8Ideal.cfg0.N, fun c => (dats m 0 c).arrAt 7 Kernel8Ideal.cfg0.N,
    (θ_run Kernel8Ideal.defs _ _).mono (fun _ k c => ⟨(k c).1 6, (k c).1 7, kept c k 0 rfl, kept c k 1 rfl, kept c k 2 rfl, kept c k 3 rfl, kept c k 4 rfl, kept c k 5 rfl⟩)
      (Kernel8Ideal.Gen.run_main (F := Ideal) m ρ),
    (θ_run Reference8Ideal.defs _ _).mono (fun _ k c =>
      have ep := congrArg (fun z : Arr 4096 512 => mat z) (e c).1
      have eq := congrArg (fun z : Arr 4096 512 => mat z) (e c).2.1
      have ev := congrArg (fun z : Arr 512 1024 => mat z) (e c).2.2.1
      have ew := congrArg (fun z : Arr 512 1024 => mat z) (e c).2.2.2.1
      have ex := congrArg (fun z : Arr 4096 1024 => mat z) (e c).2.2.2.2.1
      have eg := congrArg (fun z : Arr 1 1024 => mat z) (e c).2.2.2.2.2
      ⟨(k c).1.trans (res_same m c _ _ _ _ _ ep eq ev ew ex), (k c).2.1.trans (nrm_same m c _ _ _ _ _ _ ep eq ev ew ex eg), (k c).2.2⟩)
      (Reference8Ideal.Value.run (F := Ideal) m' ρ')⟩

end Cert.Proof.Exit
-- ==== Proof.lean ====
module

public import proofs.«01_k».proof.Defs
public import proofs.«01_k».proof.Proof.Gen.Kernel
public import proofs.«01_k».proof.Proof.Same
public import proofs.«01_k».proof.Proof.KerFinal
public import proofs.«01_k».proof.Proof.RefFinal
public import proofs.«01_k».proof.Proof.FfnFinal
public import proofs.«01_k».proof.Proof.HeadFinal
public import proofs.«01_k».proof.Proof.Gen.Kernel4.Frame
public import proofs.«01_k».proof.Proof.MixFinal4
public import proofs.«01_k».proof.Proof.Gen.Kernel5.Frame
public import proofs.«01_k».proof.Proof.MixFinal5
public import proofs.«01_k».proof.Proof.Gen.Kernel7.Frame
public import proofs.«01_k».proof.Proof.NormFinal7
public import proofs.«01_k».proof.Proof.Gen.Kernel8.Frame
public import proofs.«01_k».proof.Proof.NormFinal8
public import proofs.«01_k».proof.Proof.Gen.Kernel9.Frame
public import proofs.«01_k».proof.Proof.MixFinal9
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel over the machine's own numbers ends, with its arguments as they were and every semaphore at zero. -/
theorem frame_bits (m : (ℓ : Loc KernelIdeal.nD KernelIdeal.τ KernelIdeal.sig) → Buf (Elt Bits) ℓ) (ρ : Dev KernelIdeal.nD → PrngReg) :
    θ_run (KernelIdeal.defs (F := Bits)) (onTc (τ := KernelIdeal.τ) (KernelIdeal.main (F := Bits))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0) ∧
      r.2.mem ((c.tc : Thread KernelIdeal.nD KernelIdeal.τ).loc KernelIdeal.main_arg1) = m ((c.tc : Thread KernelIdeal.nD KernelIdeal.τ).loc KernelIdeal.main_arg1) ∧
      r.2.mem ((c.tc : Thread KernelIdeal.nD KernelIdeal.τ).loc KernelIdeal.main_arg2) = m ((c.tc : Thread KernelIdeal.nD KernelIdeal.τ).loc KernelIdeal.main_arg2) ∧
      r.2.mem ((c.tc : Thread KernelIdeal.nD KernelIdeal.τ).loc KernelIdeal.main_arg3) = m ((c.tc : Thread KernelIdeal.nD KernelIdeal.τ).loc KernelIdeal.main_arg3) ∧
      r.2.mem ((c.tc : Thread KernelIdeal.nD KernelIdeal.τ).loc KernelIdeal.main_arg4) = m ((c.tc : Thread KernelIdeal.nD KernelIdeal.τ).loc KernelIdeal.main_arg4) ∧
      r.2.mem ((c.tc : Thread KernelIdeal.nD KernelIdeal.τ).loc KernelIdeal.main_arg5) = m ((c.tc : Thread KernelIdeal.nD KernelIdeal.τ).loc KernelIdeal.main_arg5) ∧
      r.2.mem ((c.tc : Thread KernelIdeal.nD KernelIdeal.τ).loc KernelIdeal.main_arg6) = m ((c.tc : Thread KernelIdeal.nD KernelIdeal.τ).loc KernelIdeal.main_arg6)) ∧ r.2.sem = fun _ => 0) :=
  (θ_run KernelIdeal.defs _ _).mono (fun _ h => ⟨fun c =>
    ⟨(h.1 c _ (KernelIdeal.Run.mem_uc KernelIdeal.main_arg0 (by decide))).trans (KernelIdeal.Run.W2_main_arg0 m ρ c),
      (h.1 c _ (KernelIdeal.Run.mem_uc KernelIdeal.main_arg1 (by decide))).trans (KernelIdeal.Run.W2_main_arg1 m ρ c),
      (h.1 c _ (KernelIdeal.Run.mem_uc KernelIdeal.main_arg2 (by decide))).trans (KernelIdeal.Run.W2_main_arg2 m ρ c),
      (h.1 c _ (KernelIdeal.Run.mem_uc KernelIdeal.main_arg3 (by decide))).trans (KernelIdeal.Run.W2_main_arg3 m ρ c),
      (h.1 c _ (KernelIdeal.Run.mem_uc KernelIdeal.main_arg4 (by decide))).trans (KernelIdeal.Run.W2_main_arg4 m ρ c),
      (h.1 c _ (KernelIdeal.Run.mem_uc KernelIdeal.main_arg5 (by decide))).trans (KernelIdeal.Run.W2_main_arg5 m ρ c),
      (h.1 c _ (KernelIdeal.Run.mem_uc KernelIdeal.main_arg6 (by decide))).trans (KernelIdeal.Run.W2_main_arg6 m ρ c)⟩, h.2⟩)
    (KernelIdeal.Run.run_main (F := Bits) m ρ)

/-- So does the kernel as printed, which is the same program. -/
theorem frame_kernel : Cert.quiescent_Kernel := fun m ρ _ => same_run m ρ _ (frame_bits m ρ)

/-- The same over the extended reals. -/
theorem frame_ideal : Cert.quiescent_KernelIdeal := fun m ρ _ =>
  (θ_run KernelIdeal.defs _ _).mono (fun _ h => ⟨fun c =>
    ⟨(h.1 c _ (KernelIdeal.Run.mem_uc KernelIdeal.main_arg0 (by decide))).trans (KernelIdeal.Run.W2_main_arg0 m ρ c),
      (h.1 c _ (KernelIdeal.Run.mem_uc KernelIdeal.main_arg1 (by decide))).trans (KernelIdeal.Run.W2_main_arg1 m ρ c),
      (h.1 c _ (KernelIdeal.Run.mem_uc KernelIdeal.main_arg2 (by decide))).trans (KernelIdeal.Run.W2_main_arg2 m ρ c),
      (h.1 c _ (KernelIdeal.Run.mem_uc KernelIdeal.main_arg3 (by decide))).trans (KernelIdeal.Run.W2_main_arg3 m ρ c),
      (h.1 c _ (KernelIdeal.Run.mem_uc KernelIdeal.main_arg4 (by decide))).trans (KernelIdeal.Run.W2_main_arg4 m ρ c),
      (h.1 c _ (KernelIdeal.Run.mem_uc KernelIdeal.main_arg5 (by decide))).trans (KernelIdeal.Run.W2_main_arg5 m ρ c),
      (h.1 c _ (KernelIdeal.Run.mem_uc KernelIdeal.main_arg6 (by decide))).trans (KernelIdeal.Run.W2_main_arg6 m ρ c)⟩, h.2⟩)
    (KernelIdeal.Run.run_main (F := Ideal) m ρ)

/-- The reference ends, with its arguments as they were and every semaphore at zero. -/
theorem frame_reference : Cert.quiescent_ReferenceIdeal := fun m ρ _ =>
  (θ_run ReferenceIdeal.defs _ _).mono (fun _ h => ⟨fun c =>
    ⟨(h.1 c ReferenceIdeal.main_arg0 rfl).trans (ReferenceIdeal.Run.keeps_args m c ReferenceIdeal.main_arg0 (by decide)),
      (h.1 c ReferenceIdeal.main_arg1 rfl).trans (ReferenceIdeal.Run.keeps_args m c ReferenceIdeal.main_arg1 (by decide)),
      (h.1 c ReferenceIdeal.main_arg2 rfl).trans (ReferenceIdeal.Run.keeps_args m c ReferenceIdeal.main_arg2 (by decide)),
      (h.1 c ReferenceIdeal.main_arg3 rfl).trans (ReferenceIdeal.Run.keeps_args m c ReferenceIdeal.main_arg3 (by decide)),
      (h.1 c ReferenceIdeal.main_arg4 rfl).trans (ReferenceIdeal.Run.keeps_args m c ReferenceIdeal.main_arg4 (by decide)),
      (h.1 c ReferenceIdeal.main_arg5 rfl).trans (ReferenceIdeal.Run.keeps_args m c ReferenceIdeal.main_arg5 (by decide)),
      (h.1 c ReferenceIdeal.main_arg6 rfl).trans (ReferenceIdeal.Run.keeps_args m c ReferenceIdeal.main_arg6 (by decide))⟩, h.2⟩)
    (ReferenceIdeal.Run.run (F := Ideal) m ρ)

section
variable (m : (ℓ : Loc KernelIdeal.nD KernelIdeal.τ KernelIdeal.sig) → Buf (Elt Ideal) ℓ)
  (ρ : Dev KernelIdeal.nD → PrngReg)
  (m' : (ℓ : Loc ReferenceIdeal.nD ReferenceIdeal.τ ReferenceIdeal.sig) → Buf (Elt Ideal) ℓ)
  (c : Dev KernelIdeal.nD)

/-- Result 0 of the reference is result 0 of the kernel, from equal arguments. -/
theorem same0 (ew : ReferenceIdeal.Val.Aw m' c = KernelIdeal.Final.Aw m c) (eq : ReferenceIdeal.Val.Aq m' c = KernelIdeal.Final.Aq m c) (ek : ReferenceIdeal.Val.Ak m' c = KernelIdeal.Final.Ak m c) (ea : ReferenceIdeal.Val.Aa m' c = KernelIdeal.Final.Aa m c) (ed : ReferenceIdeal.Val.Ad m' c = KernelIdeal.Final.Ad m c) (eg : ReferenceIdeal.Val.Ag m' c = KernelIdeal.Final.Ag m c) :
    ReferenceIdeal.Run.Fin1 m' c (Proc.devRef .tc ReferenceIdeal.main_v49) = KernelIdeal.Run.W2 m ρ c (Proc.devRef .tc KernelIdeal.main_v1_0) := by
  refine (ReferenceIdeal.Val.res49 m' c).trans (Eq.trans ?_ (KernelIdeal.Final.res0 m ρ c).symm)
  rw [ew, eq, ek, ea, ed, eg]

/-- Result 1 of the reference is result 1 of the kernel, from equal arguments. -/
theorem same1 (eu : ReferenceIdeal.Val.Au m' c = KernelIdeal.Final.Au m c) (ew : ReferenceIdeal.Val.Aw m' c = KernelIdeal.Final.Aw m c) (eq : ReferenceIdeal.Val.Aq m' c = KernelIdeal.Final.Aq m c) (ek : ReferenceIdeal.Val.Ak m' c = KernelIdeal.Final.Ak m c) (ea : ReferenceIdeal.Val.Aa m' c = KernelIdeal.Final.Aa m c) (ed : ReferenceIdeal.Val.Ad m' c = KernelIdeal.Final.Ad m c) (eg : ReferenceIdeal.Val.Ag m' c = KernelIdeal.Final.Ag m c) :
    ReferenceIdeal.Run.Fin1 m' c (Proc.devRef .tc ReferenceIdeal.main_v47) = KernelIdeal.Run.W2 m ρ c (Proc.devRef .tc KernelIdeal.main_v1_1) := by
  refine (ReferenceIdeal.Val.res47 m' c).trans (Eq.trans ?_ (KernelIdeal.Final.res1 m ρ c).symm)
  rw [eu, ew, eq, ek, ea, ed, eg]

/-- Result 2 of the reference is result 2 of the kernel, from equal arguments. -/
theorem same2 (eu : ReferenceIdeal.Val.Au m' c = KernelIdeal.Final.Au m c) (ew : ReferenceIdeal.Val.Aw m' c = KernelIdeal.Final.Aw m c) (ek : ReferenceIdeal.Val.Ak m' c = KernelIdeal.Final.Ak m c) (ed : ReferenceIdeal.Val.Ad m' c = KernelIdeal.Final.Ad m c) (eg : ReferenceIdeal.Val.Ag m' c = KernelIdeal.Final.Ag m c) :
    ReferenceIdeal.Run.Fin1 m' c (Proc.devRef .tc ReferenceIdeal.main_v55) = KernelIdeal.Run.W2 m ρ c (Proc.devRef .tc KernelIdeal.main_v1_2) := by
  refine (ReferenceIdeal.Val.res55 m' c).trans (Eq.trans ?_ (KernelIdeal.Final.res2 m ρ c).symm)
  rw [eu, ew, ek, ed, eg]

/-- Result 3 of the reference is result 3 of the kernel, from equal arguments. -/
theorem same3 (eu : ReferenceIdeal.Val.Au m' c = KernelIdeal.Final.Au m c) (ew : ReferenceIdeal.Val.Aw m' c = KernelIdeal.Final.Aw m c) (eq : ReferenceIdeal.Val.Aq m' c = KernelIdeal.Final.Aq m c) (ek : ReferenceIdeal.Val.Ak m' c = KernelIdeal.Final.Ak m c) (ea : ReferenceIdeal.Val.Aa m' c = KernelIdeal.Final.Aa m c) (ed : ReferenceIdeal.Val.Ad m' c = KernelIdeal.Final.Ad m c) (eg : ReferenceIdeal.Val.Ag m' c = KernelIdeal.Final.Ag m c) :
    ReferenceIdeal.Run.Fin1 m' c (Proc.devRef .tc ReferenceIdeal.main_v52) = KernelIdeal.Run.W2 m ρ c (Proc.devRef .tc KernelIdeal.main_v1_3) := by
  refine (ReferenceIdeal.Val.res52 m' c).trans (Eq.trans ?_ (KernelIdeal.Final.res3 m ρ c).symm)
  rw [eu, ew, eq, ek, ea, ed, eg]

/-- Result 4 of the reference is result 4 of the kernel, from equal arguments. -/
theorem same4 (eu : ReferenceIdeal.Val.Au m' c = KernelIdeal.Final.Au m c) (ew : ReferenceIdeal.Val.Aw m' c = KernelIdeal.Final.Aw m c) (ek : ReferenceIdeal.Val.Ak m' c = KernelIdeal.Final.Ak m c) (ed : ReferenceIdeal.Val.Ad m' c = KernelIdeal.Final.Ad m c) (eg : ReferenceIdeal.Val.Ag m' c = KernelIdeal.Final.Ag m c) :
    ReferenceIdeal.Run.Fin1 m' c (Proc.devRef .tc ReferenceIdeal.main_v68) = KernelIdeal.Run.W2 m ρ c (Proc.devRef .tc KernelIdeal.main_v1_4) := by
  refine (ReferenceIdeal.Val.res68 m' c).trans (Eq.trans ?_ (KernelIdeal.Final.res4 m ρ c).symm)
  rw [eu, ew, ek, ed, eg]

/-- Result 5 of the reference is result 5 of the kernel, from equal arguments. -/
theorem same5 (eu : ReferenceIdeal.Val.Au m' c = KernelIdeal.Final.Au m c) (ew : ReferenceIdeal.Val.Aw m' c = KernelIdeal.Final.Aw m c) (eq : ReferenceIdeal.Val.Aq m' c = KernelIdeal.Final.Aq m c) (ek : ReferenceIdeal.Val.Ak m' c = KernelIdeal.Final.Ak m c) (ea : ReferenceIdeal.Val.Aa m' c = KernelIdeal.Final.Aa m c) (ed : ReferenceIdeal.Val.Ad m' c = KernelIdeal.Final.Ad m c) (eg : ReferenceIdeal.Val.Ag m' c = KernelIdeal.Final.Ag m c) :
    ReferenceIdeal.Run.Fin1 m' c (Proc.devRef .tc ReferenceIdeal.main_v44) = KernelIdeal.Run.W2 m ρ c (Proc.devRef .tc KernelIdeal.main_v1_5) := by
  refine (ReferenceIdeal.Val.res44 m' c).trans (Eq.trans ?_ (KernelIdeal.Final.res5 m ρ c).symm)
  rw [eu, ew, eq, ek, ea, ed, eg]

end

/-- The six results of the kernel are those of the reference, over the extended reals. -/
theorem same_results : Cert.algebraic_KernelIdeal_ReferenceIdeal := fun m ρ m' ρ' _ e =>
  ⟨fun c => KernelIdeal.Run.W2 m ρ c (Proc.devRef .tc KernelIdeal.main_v1_0), fun c => KernelIdeal.Run.W2 m ρ c (Proc.devRef .tc KernelIdeal.main_v1_1), fun c => KernelIdeal.Run.W2 m ρ c (Proc.devRef .tc KernelIdeal.main_v1_2), fun c => KernelIdeal.Run.W2 m ρ c (Proc.devRef .tc KernelIdeal.main_v1_3), fun c => KernelIdeal.Run.W2 m ρ c (Proc.devRef .tc KernelIdeal.main_v1_4), fun c => KernelIdeal.Run.W2 m ρ c (Proc.devRef .tc KernelIdeal.main_v1_5),
    (θ_run KernelIdeal.defs _ _).mono (fun _ h c =>
      ⟨h.1 c _ (KernelIdeal.Run.mem_uc KernelIdeal.main_v1_0 (by decide)),
      h.1 c _ (KernelIdeal.Run.mem_uc KernelIdeal.main_v1_1 (by decide)),
      h.1 c _ (KernelIdeal.Run.mem_uc KernelIdeal.main_v1_2 (by decide)),
      h.1 c _ (KernelIdeal.Run.mem_uc KernelIdeal.main_v1_3 (by decide)),
      h.1 c _ (KernelIdeal.Run.mem_uc KernelIdeal.main_v1_4 (by decide)),
      h.1 c _ (KernelIdeal.Run.mem_uc KernelIdeal.main_v1_5 (by decide)),
      (h.1 c _ (KernelIdeal.Run.mem_uc KernelIdeal.main_arg0 (by decide))).trans (KernelIdeal.Run.W2_main_arg0 m ρ c),
      (h.1 c _ (KernelIdeal.Run.mem_uc KernelIdeal.main_arg1 (by decide))).trans (KernelIdeal.Run.W2_main_arg1 m ρ c),
      (h.1 c _ (KernelIdeal.Run.mem_uc KernelIdeal.main_arg2 (by decide))).trans (KernelIdeal.Run.W2_main_arg2 m ρ c),
      (h.1 c _ (KernelIdeal.Run.mem_uc KernelIdeal.main_arg3 (by decide))).trans (KernelIdeal.Run.W2_main_arg3 m ρ c),
      (h.1 c _ (KernelIdeal.Run.mem_uc KernelIdeal.main_arg4 (by decide))).trans (KernelIdeal.Run.W2_main_arg4 m ρ c),
      (h.1 c _ (KernelIdeal.Run.mem_uc KernelIdeal.main_arg5 (by decide))).trans (KernelIdeal.Run.W2_main_arg5 m ρ c),
      (h.1 c _ (KernelIdeal.Run.mem_uc KernelIdeal.main_arg6 (by decide))).trans (KernelIdeal.Run.W2_main_arg6 m ρ c)⟩)
      (KernelIdeal.Run.run_main (F := Ideal) m ρ),
    (θ_run ReferenceIdeal.defs _ _).mono (fun _ h c =>
      ⟨(h.1 c ReferenceIdeal.main_v49 rfl).trans (same0 m ρ m' c (e c).2.1 (e c).2.2.1 (e c).2.2.2.1 (e c).2.2.2.2.1 (e c).2.2.2.2.2.1 (e c).2.2.2.2.2.2),
      (h.1 c ReferenceIdeal.main_v47 rfl).trans (same1 m ρ m' c (e c).1 (e c).2.1 (e c).2.2.1 (e c).2.2.2.1 (e c).2.2.2.2.1 (e c).2.2.2.2.2.1 (e c).2.2.2.2.2.2),
      (h.1 c ReferenceIdeal.main_v55 rfl).trans (same2 m ρ m' c (e c).1 (e c).2.1 (e c).2.2.2.1 (e c).2.2.2.2.2.1 (e c).2.2.2.2.2.2),
      (h.1 c ReferenceIdeal.main_v52 rfl).trans (same3 m ρ m' c (e c).1 (e c).2.1 (e c).2.2.1 (e c).2.2.2.1 (e c).2.2.2.2.1 (e c).2.2.2.2.2.1 (e c).2.2.2.2.2.2),
      (h.1 c ReferenceIdeal.main_v68 rfl).trans (same4 m ρ m' c (e c).1 (e c).2.1 (e c).2.2.2.1 (e c).2.2.2.2.2.1 (e c).2.2.2.2.2.2),
      (h.1 c ReferenceIdeal.main_v44 rfl).trans (same5 m ρ m' c (e c).1 (e c).2.1 (e c).2.2.1 (e c).2.2.2.1 (e c).2.2.2.2.1 (e c).2.2.2.2.2.1 (e c).2.2.2.2.2.2),
      (h.1 c ReferenceIdeal.main_arg0 rfl).trans (ReferenceIdeal.Run.keeps_args m' c ReferenceIdeal.main_arg0 (by decide)),
      (h.1 c ReferenceIdeal.main_arg1 rfl).trans (ReferenceIdeal.Run.keeps_args m' c ReferenceIdeal.main_arg1 (by decide)),
      (h.1 c ReferenceIdeal.main_arg2 rfl).trans (ReferenceIdeal.Run.keeps_args m' c ReferenceIdeal.main_arg2 (by decide)),
      (h.1 c ReferenceIdeal.main_arg3 rfl).trans (ReferenceIdeal.Run.keeps_args m' c ReferenceIdeal.main_arg3 (by decide)),
      (h.1 c ReferenceIdeal.main_arg4 rfl).trans (ReferenceIdeal.Run.keeps_args m' c ReferenceIdeal.main_arg4 (by decide)),
      (h.1 c ReferenceIdeal.main_arg5 rfl).trans (ReferenceIdeal.Run.keeps_args m' c ReferenceIdeal.main_arg5 (by decide)),
      (h.1 c ReferenceIdeal.main_arg6 rfl).trans (ReferenceIdeal.Run.keeps_args m' c ReferenceIdeal.main_arg6 (by decide))⟩)
      (ReferenceIdeal.Run.run (F := Ideal) m' ρ')⟩

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts, Kernel4.Gen.facts, Kernel4Ideal.Gen.facts, Reference4Ideal.Gen.facts,
    Kernel5.Gen.facts, Kernel5Ideal.Gen.facts, Reference5Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Pre_finite.Gen.facts, Pre_finite3.Gen.facts,
    frame_kernel, frame_ideal, frame_reference,
    Ffn.frame_kernel, Ffn.frame_ideal, fun m ρ _ => Ffn.frame_ideal m ρ trivial, Ffn.frame_reference,
    fun m ρ _ => Ffn.frame_reference m ρ trivial,
    Head.frame_kernel, Head.frame_ideal, fun m ρ _ => Head.frame_ideal m ρ trivial, Head.frame_reference,
    fun m ρ _ => Head.frame_reference m ρ trivial,
    fun m ρ _ => Kernel4.Gen.frame m ρ, fun m ρ _ => Kernel4Ideal.Gen.frame m ρ, Weights.frame_reference,
    fun m ρ _ => Kernel5.Gen.frame m ρ, fun m ρ _ => Kernel5Ideal.Gen.frame m ρ, Entry.frame_reference,
    fun m ρ _ => Kernel7.Gen.frame m ρ, fun m ρ _ => Kernel7Ideal.Gen.frame m ρ, Down.frame_reference,
    fun m ρ _ => Kernel8.Gen.frame m ρ, fun m ρ _ => Kernel8Ideal.Gen.frame m ρ, Exit.frame_reference,
    fun m ρ _ => Kernel9.Gen.frame m ρ, fun m ρ _ => Kernel9Ideal.Gen.frame m ρ, Products.frame_reference,
    trivial, same_results, trivial, Ffn.same_results, trivial, Head.same_results, trivial, Weights.same_results,
    trivial, Entry.same_results, trivial, Down.same_results, trivial, Exit.same_results, trivial, Products.same_results⟩

end Cert.Proof

end
